-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v37_0)) (v1 : (c : Dev Cert.Kernel3Ideal.nD) → Buf (Elt Ideal) ((c.tc : Thread Cert.Kernel3Ideal.nD Cert.Kernel3Ideal.τ).loc Cert.Kernel3Ideal.main_v37_1)) (v2 : (c : Dev Cert.Kernel3Ideal.nD) → Buf (Elt Ideal) ((c.tc : Thread Cert.Kernel3Ideal.nD Cert.Kernel3Ideal.τ).loc Cert.Kernel3Ideal.main_v37_2)) (v3 : (c : Dev Cert.Kernel3Ideal.nD) → Buf (Elt Ideal) ((c.tc : Thread Cert.Kernel3Ideal.nD Cert.Kernel3Ideal.τ).loc Cert.Kernel3Ideal.main_v37_3)) (v4 : (c : Dev Cert.Kernel3Ideal.nD) → Buf (Elt Ideal) ((c.tc : Thread Cert.Kernel3Ideal.nD Cert.Kernel3Ideal.τ).loc Cert.Kernel3Ideal.main_v37_4)) (v5 : (c : Dev Cert.Kernel3Ideal.nD) → Buf (Elt Ideal) ((c.tc : Thread Cert.Kernel3Ideal.nD Cert.Kernel3Ideal.τ).loc Cert.Kernel3Ideal.main_v37_5)) (v6 : (c : Dev Cert.Kernel3Ideal.nD) → Buf (Elt Ideal) ((c.tc : Thread Cert.Kernel3Ideal.nD Cert.Kernel3Ideal.τ).loc Cert.Kernel3Ideal.main_v37_6)) (v7 : (c : Dev Cert.Kernel3Ideal.nD) → Buf (Elt Ideal) ((c.tc : Thread Cert.Kernel3Ideal.nD Cert.Kernel3Ideal.τ).loc Cert.Kernel3Ideal.main_v37_7)) (v8 : (c : Dev Cert.Kernel3Ideal.nD) → Buf (Elt Ideal) ((c.tc : Thread Cert.Kernel3Ideal.nD Cert.Kernel3Ideal.τ).loc Cert.Kernel3Ideal.main_v37_8)) (v9 : (c : Dev Cert.Kernel3Ideal.nD) → Buf (Elt Ideal) ((c.tc : Thread Cert.Kernel3Ideal.nD Cert.Kernel3Ideal.τ).loc Cert.Kernel3Ideal.main_v37_9)) (v10 : (c : Dev Cert.Kernel3Ideal.nD) → Buf (Elt Ideal) ((c.tc : Thread Cert.Kernel3Ideal.nD Cert.Kernel3Ideal.τ).loc Cert.Kernel3Ideal.main_v37_10)) (v11 : (c : Dev Cert.Kernel3Ideal.nD) → Buf (Elt Ideal) ((c.tc : Thread Cert.Kernel3Ideal.nD Cert.Kernel3Ideal.τ).loc Cert.Kernel3Ideal.main_v37_11)) (v12 : (c : Dev Cert.Kernel3Ideal.nD) → Buf (Elt Ideal) ((c.tc : Thread Cert.Kernel3Ideal.nD Cert.Kernel3Ideal.τ).loc Cert.Kernel3Ideal.main_v37_12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v37_0) = v0 c
          ∧ r.2.mem ((c.tc : Thread Cert.Kernel3Ideal.nD Cert.Kernel3Ideal.τ).loc Cert.Kernel3Ideal.main_v37_1) = v1 c
          ∧ r.2.mem ((c.tc : Thread Cert.Kernel3Ideal.nD Cert.Kernel3Ideal.τ).loc Cert.Kernel3Ideal.main_v37_2) = v2 c
          ∧ r.2.mem ((c.tc : Thread Cert.Kernel3Ideal.nD Cert.Kernel3Ideal.τ).loc Cert.Kernel3Ideal.main_v37_3) = v3 c
          ∧ r.2.mem ((c.tc : Thread Cert.Kernel3Ideal.nD Cert.Kernel3Ideal.τ).loc Cert.Kernel3Ideal.main_v37_4) = v4 c
          ∧ r.2.mem ((c.tc : Thread Cert.Kernel3Ideal.nD Cert.Kernel3Ideal.τ).loc Cert.Kernel3Ideal.main_v37_5) = v5 c
          ∧ r.2.mem ((c.tc : Thread Cert.Kernel3Ideal.nD Cert.Kernel3Ideal.τ).loc Cert.Kernel3Ideal.main_v37_6) = v6 c
          ∧ r.2.mem ((c.tc : Thread Cert.Kernel3Ideal.nD Cert.Kernel3Ideal.τ).loc Cert.Kernel3Ideal.main_v37_7) = v7 c
          ∧ r.2.mem ((c.tc : Thread Cert.Kernel3Ideal.nD Cert.Kernel3Ideal.τ).loc Cert.Kernel3Ideal.main_v37_8) = v8 c
          ∧ r.2.mem ((c.tc : Thread Cert.Kernel3Ideal.nD Cert.Kernel3Ideal.τ).loc Cert.Kernel3Ideal.main_v37_9) = v9 c
          ∧ r.2.mem ((c.tc : Thread Cert.Kernel3Ideal.nD Cert.Kernel3Ideal.τ).loc Cert.Kernel3Ideal.main_v37_10) = v10 c
          ∧ r.2.mem ((c.tc : Thread Cert.Kernel3Ideal.nD Cert.Kernel3Ideal.τ).loc Cert.Kernel3Ideal.main_v37_11) = v11 c
          ∧ r.2.mem ((c.tc : Thread Cert.Kernel3Ideal.nD Cert.Kernel3Ideal.τ).loc Cert.Kernel3Ideal.main_v37_12) = v12 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v87) = v0 c
          ∧ r.2.mem ((c.tc : Thread Cert.Reference3Ideal.nD Cert.Reference3Ideal.τ).loc Cert.Reference3Ideal.main_v90) = v1 c
          ∧ r.2.mem ((c.tc : Thread Cert.Reference3Ideal.nD Cert.Reference3Ideal.τ).loc Cert.Reference3Ideal.main_v92) = v2 c
          ∧ r.2.mem ((c.tc : Thread Cert.Reference3Ideal.nD Cert.Reference3Ideal.τ).loc Cert.Reference3Ideal.main_v94) = v3 c
          ∧ r.2.mem ((c.tc : Thread Cert.Reference3Ideal.nD Cert.Reference3Ideal.τ).loc Cert.Reference3Ideal.main_v101) = v4 c
          ∧ r.2.mem ((c.tc : Thread Cert.Reference3Ideal.nD Cert.Reference3Ideal.τ).loc Cert.Reference3Ideal.main_v108) = v5 c
          ∧ r.2.mem ((c.tc : Thread Cert.Reference3Ideal.nD Cert.Reference3Ideal.τ).loc Cert.Reference3Ideal.main_v109) = v6 c
          ∧ r.2.mem ((c.tc : Thread Cert.Reference3Ideal.nD Cert.Reference3Ideal.τ).loc Cert.Reference3Ideal.main_v114) = v7 c
          ∧ r.2.mem ((c.tc : Thread Cert.Reference3Ideal.nD Cert.Reference3Ideal.τ).loc Cert.Reference3Ideal.main_v119) = v8 c
          ∧ r.2.mem ((c.tc : Thread Cert.Reference3Ideal.nD Cert.Reference3Ideal.τ).loc Cert.Reference3Ideal.main_v125) = v9 c
          ∧ r.2.mem ((c.tc : Thread Cert.Reference3Ideal.nD Cert.Reference3Ideal.τ).loc Cert.Reference3Ideal.main_v130) = v10 c
          ∧ r.2.mem ((c.tc : Thread Cert.Reference3Ideal.nD Cert.Reference3Ideal.τ).loc Cert.Reference3Ideal.main_v136) = v11 c
          ∧ r.2.mem ((c.tc : Thread Cert.Reference3Ideal.nD Cert.Reference3Ideal.τ).loc Cert.Reference3Ideal.main_v142) = v12 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite3 : Cert.Pre_finite3.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite3.lean ====
abbrev S8x4096x1024 : Shape := ⟨3, ![8, 4096, 1024]⟩
abbrev S1024 : Shape := ⟨1, ![1024]⟩
abbrev S1024x5572 : Shape := ⟨2, ![1024, 5572]⟩
abbrev S64 : Shape := ⟨1, ![64]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x5572 : S_.BroadcastsInDim S1024x5572 (![] : Fin 0 → Fin S1024x5572.rank)
  reducesTo_S1024x5572_S_d0_1 : S1024x5572.ReducesTo [0, 1] S_

variable [Facts]

def fn {F : FTy → Type} [FloatOps F] (main_arg0 : FVec F S8x4096x1024 .f32) (main_arg1 : FVec F S1024 .f32) (main_arg2 : FVec F S1024x5572 .f32) (main_arg3 : FVec F S64 .f32) (main_arg4 : FVec F S64 .f32) (main_arg5 : FVec F S64 .f32) (main_arg6 : FVec F S64 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x5572 .f32 := Host.absf main_arg2
  let main_cst_0 : FVec F S_ .f32 := constant S_ .f32 0x7F800000#32
  let main_v5 : FVec F S1024x5572 .f32 := broadcastInDim S1024x5572 ![] bcast_S_S1024x5572 main_cst_0
  let main_v6 : IVec S1024x5572 1 := cmpf .olt main_v4 main_v5
  let main_c_1 : IVec S_ 1 := constantI S_ 1 1#1
  let main_v7 : IVec S_ 1 := (fun x v => Host.reduce IntOp.andi x v reducesTo_S1024x5572_S_d0_1 h_S_) main_v6 main_c_1
  let main_v8 : IVec S_ 1 := andi main_v3 main_v7
  main_v8
-- ==== Kernel.lean ====
abbrev S32x16 : Shape := ⟨2, ![32, 16]⟩
abbrev S2 : Shape := ⟨1, ![2]⟩
abbrev S128x512x256 : Shape := ⟨3, ![128, 512, 256]⟩
abbrev S8x4096x512 : Shape := ⟨3, ![8, 4096, 512]⟩
abbrev S128x640x256 : Shape := ⟨3, ![128, 640, 256]⟩
abbrev S8x16x512 : Shape := ⟨3, ![8, 16, 512]⟩
abbrev S128x256x256 : Shape := ⟨3, ![128, 256, 256]⟩
abbrev S128x8x256 : Shape := ⟨3, ![128, 8, 256]⟩
abbrev S8x4096x384 : Shape := ⟨3, ![8, 4096, 384]⟩
abbrev S128x80x256 : Shape := ⟨3, ![128, 80, 256]⟩
abbrev S8x16x640x256 : Shape := ⟨4, ![8, 16, 640, 256]⟩
abbrev S8x16x80x256 : Shape := ⟨4, ![8, 16, 80, 256]⟩
abbrev S1x512x256 : Shape := ⟨3, ![1, 512, 256]⟩
abbrev S1x4096x512 : Shape := ⟨3, ![1, 4096, 512]⟩
abbrev S1x16x640x256 : Shape := ⟨4, ![1, 16, 640, 256]⟩
abbrev S1x16x512 : Shape := ⟨3, ![1, 16, 512]⟩
abbrev S1x256x512 : Shape := ⟨3, ![1, 256, 512]⟩
abbrev S1x256x256 : Shape := ⟨3, ![1, 256, 256]⟩
abbrev S1x8x256 : Shape := ⟨3, ![1, 8, 256]⟩
abbrev S1x4096x384 : Shape := ⟨3, ![1, 4096, 384]⟩
abbrev S1x16x80x256 : Shape := ⟨4, ![1, 16, 80, 256]⟩
abbrev S24x256x256 : Shape := ⟨3, ![24, 256, 256]⟩
abbrev S8x128x256 : Shape := ⟨3, ![8, 128, 256]⟩
abbrev S8x80x256 : Shape := ⟨3, ![8, 80, 256]⟩
abbrev S8x512x256 : Shape := ⟨3, ![8, 512, 256]⟩
abbrev S32x256x256 : Shape := ⟨3, ![32, 256, 256]⟩
abbrev S16x256x256 : Shape := ⟨3, ![16, 256, 256]⟩
abbrev S16x32x8x256 : Shape := ⟨4, ![16, 32, 8, 256]⟩
abbrev S16x8x256 : Shape := ⟨3, ![16, 8, 256]⟩
abbrev S1 : Shape := ⟨1, ![1]⟩
abbrev S256x256 : Shape := ⟨2, ![256, 256]⟩
abbrev S1x1 : Shape := ⟨2, ![1, 1]⟩
abbrev S128x256 : Shape := ⟨2, ![128, 256]⟩
abbrev S1x128x256 : Shape := ⟨3, ![1, 128, 256]⟩
abbrev S16x256 : Shape := ⟨2, ![16, 256]⟩
abbrev S1x16x128 : Shape := ⟨3, ![1, 16, 128]⟩
abbrev S16x128 : Shape := ⟨2, ![16, 128]⟩
abbrev S1x256 : Shape := ⟨2, ![1, 256]⟩
abbrev S256 : Shape := ⟨1, ![256]⟩
abbrev S8x256 : Shape := ⟨2, ![8, 256]⟩
abbrev S1x256x128 : Shape := ⟨3, ![1, 256, 128]⟩
abbrev S256x128 : Shape := ⟨2, ![256, 128]⟩
abbrev S1x1x8x256 : Shape := ⟨4, ![1, 1, 8, 256]⟩
abbrev S1x1x80x256 : Shape := ⟨4, ![1, 1, 80, 256]⟩
abbrev S80x256 : Shape := ⟨2, ![80, 256]⟩
abbrev S1x80x256 : Shape := ⟨3, ![1, 80, 256]⟩
abbrev S1x64x256 : Shape := ⟨3, ![1, 64, 256]⟩
abbrev S64x256 : Shape := ⟨2, ![64, 256]⟩
abbrev S1x1x256 : Shape := ⟨3, ![1, 1, 256]⟩

abbrev nBuf : Space → Nat
  | .hbm => 17
  | .vmem => 33
  | .smem => 2
  | _ => 0

abbrev bufTy : (tb : Table) → Fin (tcTables nBuf tb) → BufTy
  | .hbm, ⟨0, _⟩ => ⟨S32x16, .f32⟩
  | .hbm, ⟨1, _⟩ => ⟨S2, .i32⟩
  | .hbm, ⟨2, _⟩ => ⟨S128x512x256, .bf16⟩
  | .hbm, ⟨3, _⟩ => ⟨S8x4096x512, .bf16⟩
  | .hbm, ⟨4, _⟩ => ⟨S128x640x256, .bf16⟩
  | .hbm, ⟨5, _⟩ => ⟨S8x16x512, .f32⟩
  | .hbm, ⟨6, _⟩ => ⟨S8x4096x512, .f32⟩
  | .hbm, ⟨7, _⟩ => ⟨S128x512x256, .bf16⟩
  | .hbm, ⟨8, _⟩ => ⟨S128x256x256, .bf16⟩
  | .hbm, ⟨9, _⟩ => ⟨S128x8x256, .f32⟩
  | .hbm, ⟨10, _⟩ => ⟨S8x4096x384, .bf16⟩
  | .hbm, ⟨11, _⟩ => ⟨S128x80x256, .bf16⟩
  | .hbm, ⟨12, _⟩ => ⟨S8x4096x512, .f32⟩
  | .hbm, ⟨13, _⟩ => ⟨S8x16x640x256, .bf16⟩
  | .hbm, ⟨14, _⟩ => ⟨S8x16x80x256, .bf16⟩
  | .hbm, ⟨15, _⟩ => ⟨S8x4096x512, .bf16⟩
  | .hbm, ⟨16, _⟩ => ⟨S8x4096x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x4096x512, .bf16⟩
  | .local _ .vmem, ⟨3, _⟩ => ⟨S1x16x640x256, .bf16⟩
  | .local _ .vmem, ⟨4, _⟩ => ⟨S1x16x512, .f32⟩
  | .local _ .vmem, ⟨5, _⟩ => ⟨S1x256x512, .f32⟩
  | .local _ .vmem, ⟨6, _⟩ => ⟨S1x256x512, .f32⟩
  | .local _ .vmem, ⟨7, _⟩ => ⟨S1x512x256, .bf16⟩
  | .local _ .vmem, ⟨8, _⟩ => ⟨S1x512x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x8x256, .f32⟩
  | .local _ .vmem, ⟨12, _⟩ => ⟨S1x8x256, .f32⟩
  | .local _ .vmem, ⟨13, _⟩ => ⟨S1x4096x384, .bf16⟩
  | .local _ .vmem, ⟨14, _⟩ => ⟨S1x16x80x256, .bf16⟩
  | .local _ .vmem, ⟨15, _⟩ => ⟨S1x256x512, .f32⟩
  | .local _ .vmem, ⟨16, _⟩ => ⟨S1x256x512, .f32⟩
  | .local _ .vmem, ⟨17, _⟩ => ⟨S1x256x512, .bf16⟩
  | .local _ .vmem, ⟨18, _⟩ => ⟨S1x256x512, .bf16⟩
  | .local _ .vmem, ⟨19, _⟩ => ⟨S1x256x512, .bf16⟩
  | .local _ .vmem, ⟨20, _⟩ => ⟨S1x256x512, .bf16⟩
  | .local _ .vmem, ⟨21, _⟩ => ⟨S24x256x256, .f32⟩
  | .local _ .vmem, ⟨22, _⟩ => ⟨S24x256x256, .f32⟩
  | .local _ .vmem, ⟨23, _⟩ => ⟨S8x128x256, .bf16⟩
  | .local _ .vmem, ⟨24, _⟩ => ⟨S8x128x256, .bf16⟩
  | .local _ .vmem, ⟨25, _⟩ => ⟨S8x80x256, .f32⟩
  | .local _ .vmem, ⟨26, _⟩ => ⟨S8x80x256, .f32⟩
  | .local _ .vmem, ⟨27, _⟩ => ⟨S8x512x256, .f32⟩
  | .local _ .vmem, ⟨28, _⟩ => ⟨S32x256x256, .bf16⟩
  | .local _ .vmem, ⟨29, _⟩ => ⟨S16x256x256, .i32⟩
  | .local _ .vmem, ⟨30, _⟩ => ⟨S16x32x8x256, .i32⟩
  | .local _ .vmem, ⟨31, _⟩ => ⟨S16x8x256, .i32⟩
  | .local _ .vmem, ⟨32, _⟩ => ⟨S16x256x256, .f32⟩
  | .local _ .smem, ⟨0, _⟩ => ⟨S32x16, .f32⟩
  | .local _ .smem, ⟨1, _⟩ => ⟨S2, .i32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2_0 : Ref sig .tc := ⟨.hbm, 15, rfl⟩
abbrev main_v2_1 : Ref sig .tc := ⟨.hbm, 16, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_scratch9 : Ref sig .tc := ⟨.vmem, 30, rfl⟩
abbrev cc0_scratch10 : Ref sig .tc := ⟨.vmem, 31, rfl⟩
abbrev cc0_scratch11 : Ref sig .tc := ⟨.vmem, 32, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [BitOps F]

abbrev grid0 : Pipeline.Grid := ⟨2, ![8, 16], ![false, false]⟩

def k0_off1 (i : grid0.Coords) (c0_i32_406 : BitVec 32) : Fin 3 → Nat :=
  let arg1 : BitVec 32 := BitVec.ofNat 32 (i 1).val
  let c1_i32 : BitVec 32 := 1#32
  let v0 : BitVec 32 := Scalar.addi arg1 c1_i32
  let v864 : BitVec 32 := Scalar.addi v0 c0_i32_406
  let c15_i32 : BitVec 32 := 15#32
  let v865 : BitVec 32 := Scalar.minsi v864 c15_i32
  let v866 : Index := Scalar.indexCast v865
  let c0_407 : Index := 0#32
  let c0_408 : Index := 0#32
  ![v866.toNat, 0, 0]
@[reducible] def k0_t1_loop (i : grid0.Coords) : Scf.Loop 32 :=
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1053 : BitVec 32 := 1#32
  ⟨c0_i32_1051, v2255, c1_i32_1053⟩
def k0_mult1 (i : grid0.Coords) (k0_t1 : Fin (k0_t1_loop i).trips) : BitVec 32 :=
  let c4_i32_1064 : BitVec 32 := 4#32
  let c0_i32_1051 : BitVec 32 := 0#32
  let c1_i32_1053 : BitVec 32 := 1#32
  let arg29 : BitVec 32 := Scf.iv c0_i32_1051 c1_i32_1053 k0_t1
  let v2267 : BitVec 32 := Scalar.muli c4_i32_1064 arg29
  let c0_i32_1065 : BitVec 32 := 0#32
  let v2268 : BitVec 32 := Scalar.addi v2267 c0_i32_1065
  let c256_i32_1066 : BitVec 32 := 256#32
  let v2269 : BitVec 32 := Scalar.muli v2268 c256_i32_1066
  v2269
def k0_off2 (i : grid0.Coords) (k0_t1 : Fin (k0_t1_loop i).trips) (c0_i32_1065 : BitVec 32) : Fin 3 → Nat :=
  let c0_1067 : Index := 0#32
  let c4_i32_1064 : BitVec 32 := 4#32
  let c0_i32_1051 : BitVec 32 := 0#32
  let c1_i32_1053 : BitVec 32 := 1#32
  let arg29 : BitVec 32 := Scf.iv c0_i32_1051 c1_i32_1053 k0_t1
  let v2267 : BitVec 32 := Scalar.muli c4_i32_1064 arg29
  let v2268 : BitVec 32 := Scalar.addi v2267 c0_i32_1065
  let c256_i32_1066 : BitVec 32 := 256#32
  let v2269 : BitVec 32 := Scalar.muli v2268 c256_i32_1066
  let v2270 : BitVec 32 := v2269
  let v2271 : Index := Scalar.indexCast v2270
  let c0_1068 : Index := 0#32
  ![0, v2271.toNat, 0]
def k0_off3 (i : grid0.Coords) (k0_t1 : Fin (k0_t1_loop i).trips) (c0_i32_1075 : BitVec 32) (c0_i32_1065 : BitVec 32) : Fin 3 → Nat :=
  let c2_i32_1074 : BitVec 32 := 2#32
  let c0_i32_1073 : BitVec 32 := 0#32
  let arg1 : BitVec 32 := BitVec.ofNat 32 (i 1).val
  let c4_i32_1064 : BitVec 32 := 4#32
  let c0_i32_1051 : BitVec 32 := 0#32
  let c1_i32_1053 : BitVec 32 := 1#32
  let arg29 : BitVec 32 := Scf.iv c0_i32_1051 c1_i32_1053 k0_t1
  let v2267 : BitVec 32 := Scalar.muli c4_i32_1064 arg29
  let v2268 : BitVec 32 := Scalar.addi v2267 c0_i32_1065
  let v2277 : BitVec 32 := Scalar.subi arg1 v2268
  let v2278 : BitVec 32 := Scalar.maxsi c0_i32_1073 v2277
  let v2279 : BitVec 32 := Scalar.minsi c2_i32_1074 v2278
  let v2280 : BitVec 32 := Scalar.addi c0_i32_1075 v2279
  let v2281 : Index := Scalar.indexCast v2280
  let c0_1076 : Index := 0#32
  let c0_1077 : Index := 0#32
  ![v2281.toNat, 0, 0]
def k0_mult2 (i : grid0.Coords) (k0_t1 : Fin (k0_t1_loop i).trips) : BitVec 32 :=
  let c4_i32_1081 : BitVec 32 := 4#32
  let c0_i32_1051 : BitVec 32 := 0#32
  let c1_i32_1053 : BitVec 32 := 1#32
  let arg29 : BitVec 32 := Scf.iv c0_i32_1051 c1_i32_1053 k0_t1
  let v2290 : BitVec 32 := Scalar.muli c4_i32_1081 arg29
  let c1_i32_1082 : BitVec 32 := 1#32
  let v2291 : BitVec 32 := Scalar.addi v2290 c1_i32_1082
  let c256_i32_1083 : BitVec 32 := 256#32
  let v2292 : BitVec 32 := Scalar.muli v2291 c256_i32_1083
  v2292
def k0_mult3 (i : grid0.Coords) (k0_t1 : Fin (k0_t1_loop i).trips) : BitVec 32 :=
  let c4_i32_1098 : BitVec 32 := 4#32
  let c0_i32_1051 : BitVec 32 := 0#32
  let c1_i32_1053 : BitVec 32 := 1#32
  let arg29 : BitVec 32 := Scf.iv c0_i32_1051 c1_i32_1053 k0_t1
  let v2313 : BitVec 32 := Scalar.muli c4_i32_1098 arg29
  let c2_i32_1099 : BitVec 32 := 2#32
  let v2314 : BitVec 32 := Scalar.addi v2313 c2_i32_1099
  let c256_i32_1100 : BitVec 32 := 256#32
  let v2315 : BitVec 32 := Scalar.muli v2314 c256_i32_1100
  v2315
def k0_mult4 (i : grid0.Coords) (k0_t1 : Fin (k0_t1_loop i).trips) : BitVec 32 :=
  let c4_i32_1115 : BitVec 32 := 4#32
  let c0_i32_1051 : BitVec 32 := 0#32
  let c1_i32_1053 : BitVec 32 := 1#32
  let arg29 : BitVec 32 := Scf.iv c0_i32_1051 c1_i32_1053 k0_t1
  let v2336 : BitVec 32 := Scalar.muli c4_i32_1115 arg29
  let c3_i32_1116 : BitVec 32 := 3#32
  let v2337 : BitVec 32 := Scalar.addi v2336 c3_i32_1116
  let c256_i32_1117 : BitVec 32 := 256#32
  let v2338 : BitVec 32 := Scalar.muli v2337 c256_i32_1117
  v2338
def k0_mult5 (i : grid0.Coords) (k0_t1 : Fin (k0_t1_loop i).trips) : BitVec 32 :=
  let c4_i32_1132 : BitVec 32 := 4#32
  let c0_i32_1051 : BitVec 32 := 0#32
  let c1_i32_1053 : BitVec 32 := 1#32
  let arg29 : BitVec 32 := Scf.iv c0_i32_1051 c1_i32_1053 k0_t1
  let v2359 : BitVec 32 := Scalar.muli c4_i32_1132 arg29
  let c0_i32_1133 : BitVec 32 := 0#32
  let v2360 : BitVec 32 := Scalar.addi v2359 c0_i32_1133
  let c256_i32_1134 : BitVec 32 := 256#32
  let v2361 : BitVec 32 := Scalar.muli v2360 c256_i32_1134
  v2361
def k0_mult6 (i : grid0.Coords) (k0_t1 : Fin (k0_t1_loop i).trips) : BitVec 32 :=
  let c4_i32_1149 : BitVec 32 := 4#32
  let c0_i32_1051 : BitVec 32 := 0#32
  let c1_i32_1053 : BitVec 32 := 1#32
  let arg29 : BitVec 32 := Scf.iv c0_i32_1051 c1_i32_1053 k0_t1
  let v2382 : BitVec 32 := Scalar.muli c4_i32_1149 arg29
  let c1_i32_1150 : BitVec 32 := 1#32
  let v2383 : BitVec 32 := Scalar.addi v2382 c1_i32_1150
  let c256_i32_1151 : BitVec 32 := 256#32
  let v2384 : BitVec 32 := Scalar.muli v2383 c256_i32_1151
  v2384
def k0_mult7 (i : grid0.Coords) (k0_t1 : Fin (k0_t1_loop i).trips) : BitVec 32 :=
  let c4_i32_1166 : BitVec 32 := 4#32
  let c0_i32_1051 : BitVec 32 := 0#32
  let c1_i32_1053 : BitVec 32 := 1#32
  let arg29 : BitVec 32 := Scf.iv c0_i32_1051 c1_i32_1053 k0_t1
  let v2405 : BitVec 32 := Scalar.muli c4_i32_1166 arg29
  let c2_i32_1167 : BitVec 32 := 2#32
  let v2406 : BitVec 32 := Scalar.addi v2405 c2_i32_1167
  let c256_i32_1168 : BitVec 32 := 256#32
  let v2407 : BitVec 32 := Scalar.muli v2406 c256_i32_1168
  v2407
def k0_mult8 (i : grid0.Coords) (k0_t1 : Fin (k0_t1_loop i).trips) : BitVec 32 :=
  let c4_i32_1183 : BitVec 32 := 4#32
  let c0_i32_1051 : BitVec 32 := 0#32
  let c1_i32_1053 : BitVec 32 := 1#32
  let arg29 : BitVec 32 := Scf.iv c0_i32_1051 c1_i32_1053 k0_t1
  let v2428 : BitVec 32 := Scalar.muli c4_i32_1183 arg29
  let c3_i32_1184 : BitVec 32 := 3#32
  let v2429 : BitVec 32 := Scalar.addi v2428 c3_i32_1184
  let c256_i32_1185 : BitVec 32 := 256#32
  let v2430 : BitVec 32 := Scalar.muli v2429 c256_i32_1185
  v2430
def k0_mult9 (i : grid0.Coords) (k0_t1 : Fin (k0_t1_loop i).trips) : BitVec 32 :=
  let c4_i32_1200 : BitVec 32 := 4#32
  let c0_i32_1051 : BitVec 32 := 0#32
  let c1_i32_1053 : BitVec 32 := 1#32
  let arg29 : BitVec 32 := Scf.iv c0_i32_1051 c1_i32_1053 k0_t1
  let v2451 : BitVec 32 := Scalar.muli c4_i32_1200 arg29
  let c0_i32_1201 : BitVec 32 := 0#32
  let v2452 : BitVec 32 := Scalar.addi v2451 c0_i32_1201
  let c256_i32_1202 : BitVec 32 := 256#32
  let v2453 : BitVec 32 := Scalar.muli v2452 c256_i32_1202
  v2453
def k0_off4 (i : grid0.Coords) (k0_t1 : Fin (k0_t1_loop i).trips) (c0_i32_1201 : BitVec 32) : Fin 3 → Nat :=
  let c0_1203 : Index := 0#32
  let c4_i32_1200 : BitVec 32 := 4#32
  let c0_i32_1051 : BitVec 32 := 0#32
  let c1_i32_1053 : BitVec 32 := 1#32
  let arg29 : BitVec 32 := Scf.iv c0_i32_1051 c1_i32_1053 k0_t1
  let v2451 : BitVec 32 := Scalar.muli c4_i32_1200 arg29
  let v2452 : BitVec 32 := Scalar.addi v2451 c0_i32_1201
  let c256_i32_1202 : BitVec 32 := 256#32
  let v2453 : BitVec 32 := Scalar.muli v2452 c256_i32_1202
  let v2454 : BitVec 32 := v2453
  let v2455 : Index := Scalar.indexCast v2454
  let c128_1204 : Index := 128#32
  ![0, v2455.toNat, 128]
def k0_mult10 (i : grid0.Coords) (k0_t1 : Fin (k0_t1_loop i).trips) : BitVec 32 :=
  let c4_i32_1217 : BitVec 32 := 4#32
  let c0_i32_1051 : BitVec 32 := 0#32
  let c1_i32_1053 : BitVec 32 := 1#32
  let arg29 : BitVec 32 := Scf.iv c0_i32_1051 c1_i32_1053 k0_t1
  let v2474 : BitVec 32 := Scalar.muli c4_i32_1217 arg29
  let c1_i32_1218 : BitVec 32 := 1#32
  let v2475 : BitVec 32 := Scalar.addi v2474 c1_i32_1218
  let c256_i32_1219 : BitVec 32 := 256#32
  let v2476 : BitVec 32 := Scalar.muli v2475 c256_i32_1219
  v2476
def k0_mult11 (i : grid0.Coords) (k0_t1 : Fin (k0_t1_loop i).trips) : BitVec 32 :=
  let c4_i32_1234 : BitVec 32 := 4#32
  let c0_i32_1051 : BitVec 32 := 0#32
  let c1_i32_1053 : BitVec 32 := 1#32
  let arg29 : BitVec 32 := Scf.iv c0_i32_1051 c1_i32_1053 k0_t1
  let v2497 : BitVec 32 := Scalar.muli c4_i32_1234 arg29
  let c2_i32_1235 : BitVec 32 := 2#32
  let v2498 : BitVec 32 := Scalar.addi v2497 c2_i32_1235
  let c256_i32_1236 : BitVec 32 := 256#32
  let v2499 : BitVec 32 := Scalar.muli v2498 c256_i32_1236
  v2499
def k0_mult12 (i : grid0.Coords) (k0_t1 : Fin (k0_t1_loop i).trips) : BitVec 32 :=
  let c4_i32_1251 : BitVec 32 := 4#32
  let c0_i32_1051 : BitVec 32 := 0#32
  let c1_i32_1053 : BitVec 32 := 1#32
  let arg29 : BitVec 32 := Scf.iv c0_i32_1051 c1_i32_1053 k0_t1
  let v2520 : BitVec 32 := Scalar.muli c4_i32_1251 arg29
  let c3_i32_1252 : BitVec 32 := 3#32
  let v2521 : BitVec 32 := Scalar.addi v2520 c3_i32_1252
  let c256_i32_1253 : BitVec 32 := 256#32
  let v2522 : BitVec 32 := Scalar.muli v2521 c256_i32_1253
  v2522
def k0_mult13 (i : grid0.Coords) (k0_t1 : Fin (k0_t1_loop i).trips) : BitVec 32 :=
  let c4_i32_1268 : BitVec 32 := 4#32
  let c0_i32_1051 : BitVec 32 := 0#32
  let c1_i32_1053 : BitVec 32 := 1#32
  let arg29 : BitVec 32 := Scf.iv c0_i32_1051 c1_i32_1053 k0_t1
  let v2543 : BitVec 32 := Scalar.muli c4_i32_1268 arg29
  let c0_i32_1269 : BitVec 32 := 0#32
  let v2544 : BitVec 32 := Scalar.addi v2543 c0_i32_1269
  let c256_i32_1270 : BitVec 32 := 256#32
  let v2545 : BitVec 32 := Scalar.muli v2544 c256_i32_1270
  v2545
def k0_mult14 (i : grid0.Coords) (k0_t1 : Fin (k0_t1_loop i).trips) : BitVec 32 :=
  let c4_i32_1285 : BitVec 32 := 4#32
  let c0_i32_1051 : BitVec 32 := 0#32
  let c1_i32_1053 : BitVec 32 := 1#32
  let arg29 : BitVec 32 := Scf.iv c0_i32_1051 c1_i32_1053 k0_t1
  let v2566 : BitVec 32 := Scalar.muli c4_i32_1285 arg29
  let c1_i32_1286 : BitVec 32 := 1#32
  let v2567 : BitVec 32 := Scalar.addi v2566 c1_i32_1286
  let c256_i32_1287 : BitVec 32 := 256#32
  let v2568 : BitVec 32 := Scalar.muli v2567 c256_i32_1287
  v2568
def k0_mult15 (i : grid0.Coords) (k0_t1 : Fin (k0_t1_loop i).trips) : BitVec 32 :=
  let c4_i32_1302 : BitVec 32 := 4#32
  let c0_i32_1051 : BitVec 32 := 0#32
  let c1_i32_1053 : BitVec 32 := 1#32
  let arg29 : BitVec 32 := Scf.iv c0_i32_1051 c1_i32_1053 k0_t1
  let v2589 : BitVec 32 := Scalar.muli c4_i32_1302 arg29
  let c2_i32_1303 : BitVec 32 := 2#32
  let v2590 : BitVec 32 := Scalar.addi v2589 c2_i32_1303
  let c256_i32_1304 : BitVec 32 := 256#32
  let v2591 : BitVec 32 := Scalar.muli v2590 c256_i32_1304
  v2591
def k0_mult16 (i : grid0.Coords) (k0_t1 : Fin (k0_t1_loop i).trips) : BitVec 32 :=
  let c4_i32_1319 : BitVec 32 := 4#32
  let c0_i32_1051 : BitVec 32 := 0#32
  let c1_i32_1053 : BitVec 32 := 1#32
  let arg29 : BitVec 32 := Scf.iv c0_i32_1051 c1_i32_1053 k0_t1
  let v2612 : BitVec 32 := Scalar.muli c4_i32_1319 arg29
  let c3_i32_1320 : BitVec 32 := 3#32
  let v2613 : BitVec 32 := Scalar.addi v2612 c3_i32_1320
  let c256_i32_1321 : BitVec 32 := 256#32
  let v2614 : BitVec 32 := Scalar.muli v2613 c256_i32_1321
  v2614
def k0_mult17 (i : grid0.Coords) (k0_t1 : Fin (k0_t1_loop i).trips) : BitVec 32 :=
  let c4_i32_1336 : BitVec 32 := 4#32
  let c0_i32_1051 : BitVec 32 := 0#32
  let c1_i32_1053 : BitVec 32 := 1#32
  let arg29 : BitVec 32 := Scf.iv c0_i32_1051 c1_i32_1053 k0_t1
  let v2635 : BitVec 32 := Scalar.muli c4_i32_1336 arg29
  let c0_i32_1337 : BitVec 32 := 0#32
  let v2636 : BitVec 32 := Scalar.addi v2635 c0_i32_1337
  let c256_i32_1338 : BitVec 32 := 256#32
  let v2637 : BitVec 32 := Scalar.muli v2636 c256_i32_1338
  v2637
def k0_off5 (i : grid0.Coords) (k0_t1 : Fin (k0_t1_loop i).trips) (c0_i32_1337 : BitVec 32) : Fin 3 → Nat :=
  let c0_1339 : Index := 0#32
  let c4_i32_1336 : BitVec 32 := 4#32
  let c0_i32_1051 : BitVec 32 := 0#32
  let c1_i32_1053 : BitVec 32 := 1#32
  let arg29 : BitVec 32 := Scf.iv c0_i32_1051 c1_i32_1053 k0_t1
  let v2635 : BitVec 32 := Scalar.muli c4_i32_1336 arg29
  let v2636 : BitVec 32 := Scalar.addi v2635 c0_i32_1337
  let c256_i32_1338 : BitVec 32 := 256#32
  let v2637 : BitVec 32 := Scalar.muli v2636 c256_i32_1338
  let v2638 : BitVec 32 := v2637
  let v2639 : Index := Scalar.indexCast v2638
  let c256_1340 : Index := 256#32
  ![0, v2639.toNat, 256]
def k0_mult18 (i : grid0.Coords) (k0_t1 : Fin (k0_t1_loop i).trips) : BitVec 32 :=
  let c4_i32_1353 : BitVec 32 := 4#32
  let c0_i32_1051 : BitVec 32 := 0#32
  let c1_i32_1053 : BitVec 32 := 1#32
  let arg29 : BitVec 32 := Scf.iv c0_i32_1051 c1_i32_1053 k0_t1
  let v2658 : BitVec 32 := Scalar.muli c4_i32_1353 arg29
  let c1_i32_1354 : BitVec 32 := 1#32
  let v2659 : BitVec 32 := Scalar.addi v2658 c1_i32_1354
  let c256_i32_1355 : BitVec 32 := 256#32
  let v2660 : BitVec 32 := Scalar.muli v2659 c256_i32_1355
  v2660
def k0_mult19 (i : grid0.Coords) (k0_t1 : Fin (k0_t1_loop i).trips) : BitVec 32 :=
  let c4_i32_1370 : BitVec 32 := 4#32
  let c0_i32_1051 : BitVec 32 := 0#32
  let c1_i32_1053 : BitVec 32 := 1#32
  let arg29 : BitVec 32 := Scf.iv c0_i32_1051 c1_i32_1053 k0_t1
  let v2681 : BitVec 32 := Scalar.muli c4_i32_1370 arg29
  let c2_i32_1371 : BitVec 32 := 2#32
  let v2682 : BitVec 32 := Scalar.addi v2681 c2_i32_1371
  let c256_i32_1372 : BitVec 32 := 256#32
  let v2683 : BitVec 32 := Scalar.muli v2682 c256_i32_1372
  v2683
def k0_mult20 (i : grid0.Coords) (k0_t1 : Fin (k0_t1_loop i).trips) : BitVec 32 :=
  let c4_i32_1387 : BitVec 32 := 4#32
  let c0_i32_1051 : BitVec 32 := 0#32
  let c1_i32_1053 : BitVec 32 := 1#32
  let arg29 : BitVec 32 := Scf.iv c0_i32_1051 c1_i32_1053 k0_t1
  let v2704 : BitVec 32 := Scalar.muli c4_i32_1387 arg29
  let c3_i32_1388 : BitVec 32 := 3#32
  let v2705 : BitVec 32 := Scalar.addi v2704 c3_i32_1388
  let c256_i32_1389 : BitVec 32 := 256#32
  let v2706 : BitVec 32 := Scalar.muli v2705 c256_i32_1389
  v2706
def k0_mult21 (i : grid0.Coords) (k0_t1 : Fin (k0_t1_loop i).trips) : BitVec 32 :=
  let c4_i32_1404 : BitVec 32 := 4#32
  let c0_i32_1051 : BitVec 32 := 0#32
  let c1_i32_1053 : BitVec 32 := 1#32
  let arg29 : BitVec 32 := Scf.iv c0_i32_1051 c1_i32_1053 k0_t1
  let v2727 : BitVec 32 := Scalar.muli c4_i32_1404 arg29
  let c0_i32_1405 : BitVec 32 := 0#32
  let v2728 : BitVec 32 := Scalar.addi v2727 c0_i32_1405
  let c256_i32_1406 : BitVec 32 := 256#32
  let v2729 : BitVec 32 := Scalar.muli v2728 c256_i32_1406
  v2729
def k0_mult22 (i : grid0.Coords) (k0_t1 : Fin (k0_t1_loop i).trips) : BitVec 32 :=
  let c4_i32_1421 : BitVec 32 := 4#32
  let c0_i32_1051 : BitVec 32 := 0#32
  let c1_i32_1053 : BitVec 32 := 1#32
  let arg29 : BitVec 32 := Scf.iv c0_i32_1051 c1_i32_1053 k0_t1
  let v2750 : BitVec 32 := Scalar.muli c4_i32_1421 arg29
  let c1_i32_1422 : BitVec 32 := 1#32
  let v2751 : BitVec 32 := Scalar.addi v2750 c1_i32_1422
  let c256_i32_1423 : BitVec 32 := 256#32
  let v2752 : BitVec 32 := Scalar.muli v2751 c256_i32_1423
  v2752
def k0_mult23 (i : grid0.Coords) (k0_t1 : Fin (k0_t1_loop i).trips) : BitVec 32 :=
  let c4_i32_1438 : BitVec 32 := 4#32
  let c0_i32_1051 : BitVec 32 := 0#32
  let c1_i32_1053 : BitVec 32 := 1#32
  let arg29 : BitVec 32 := Scf.iv c0_i32_1051 c1_i32_1053 k0_t1
  let v2773 : BitVec 32 := Scalar.muli c4_i32_1438 arg29
  let c2_i32_1439 : BitVec 32 := 2#32
  let v2774 : BitVec 32 := Scalar.addi v2773 c2_i32_1439
  let c256_i32_1440 : BitVec 32 := 256#32
  let v2775 : BitVec 32 := Scalar.muli v2774 c256_i32_1440
  v2775
def k0_mult24 (i : grid0.Coords) (k0_t1 : Fin (k0_t1_loop i).trips) : BitVec 32 :=
  let c4_i32_1455 : BitVec 32 := 4#32
  let c0_i32_1051 : BitVec 32 := 0#32
  let c1_i32_1053 : BitVec 32 := 1#32
  let arg29 : BitVec 32 := Scf.iv c0_i32_1051 c1_i32_1053 k0_t1
  let v2796 : BitVec 32 := Scalar.muli c4_i32_1455 arg29
  let c3_i32_1456 : BitVec 32 := 3#32
  let v2797 : BitVec 32 := Scalar.addi v2796 c3_i32_1456
  let c256_i32_1457 : BitVec 32 := 256#32
  let v2798 : BitVec 32 := Scalar.muli v2797 c256_i32_1457
  v2798
def k0_mult25 (i : grid0.Coords) (k0_t1 : Fin (k0_t1_loop i).trips) : BitVec 32 :=
  let c4_i32_1472 : BitVec 32 := 4#32
  let c0_i32_1051 : BitVec 32 := 0#32
  let c1_i32_1053 : BitVec 32 := 1#32
  let arg29 : BitVec 32 := Scf.iv c0_i32_1051 c1_i32_1053 k0_t1
  let v2819 : BitVec 32 := Scalar.muli c4_i32_1472 arg29
  let c0_i32_1473 : BitVec 32 := 0#32
  let v2820 : BitVec 32 := Scalar.addi v2819 c0_i32_1473
  let c256_i32_1474 : BitVec 32 := 256#32
  let v2821 : BitVec 32 := Scalar.muli v2820 c256_i32_1474
  v2821
def k0_off6 (i : grid0.Coords) (k0_t1 : Fin (k0_t1_loop i).trips) (c0_i32_1473 : BitVec 32) : Fin 3 → Nat :=
  let c0_1475 : Index := 0#32
  let c4_i32_1472 : BitVec 32 := 4#32
  let c0_i32_1051 : BitVec 32 := 0#32
  let c1_i32_1053 : BitVec 32 := 1#32
  let arg29 : BitVec 32 := Scf.iv c0_i32_1051 c1_i32_1053 k0_t1
  let v2819 : BitVec 32 := Scalar.muli c4_i32_1472 arg29
  let v2820 : BitVec 32 := Scalar.addi v2819 c0_i32_1473
  let c256_i32_1474 : BitVec 32 := 256#32
  let v2821 : BitVec 32 := Scalar.muli v2820 c256_i32_1474
  let v2822 : BitVec 32 := v2821
  let v2823 : Index := Scalar.indexCast v2822
  let c384_1476 : Index := 384#32
  ![0, v2823.toNat, 384]
def k0_mult26 (i : grid0.Coords) (k0_t1 : Fin (k0_t1_loop i).trips) : BitVec 32 :=
  let c4_i32_1488 : BitVec 32 := 4#32
  let c0_i32_1051 : BitVec 32 := 0#32
  let c1_i32_1053 : BitVec 32 := 1#32
  let arg29 : BitVec 32 := Scf.iv c0_i32_1051 c1_i32_1053 k0_t1
  let v2842 : BitVec 32 := Scalar.muli c4_i32_1488 arg29
  let c1_i32_1489 : BitVec 32 := 1#32
  let v2843 : BitVec 32 := Scalar.addi v2842 c1_i32_1489
  let c256_i32_1490 : BitVec 32 := 256#32
  let v2844 : BitVec 32 := Scalar.muli v2843 c256_i32_1490
  v2844
def k0_mult27 (i : grid0.Coords) (k0_t1 : Fin (k0_t1_loop i).trips) : BitVec 32 :=
  let c4_i32_1505 : BitVec 32 := 4#32
  let c0_i32_1051 : BitVec 32 := 0#32
  let c1_i32_1053 : BitVec 32 := 1#32
  let arg29 : BitVec 32 := Scf.iv c0_i32_1051 c1_i32_1053 k0_t1
  let v2865 : BitVec 32 := Scalar.muli c4_i32_1505 arg29
  let c2_i32_1506 : BitVec 32 := 2#32
  let v2866 : BitVec 32 := Scalar.addi v2865 c2_i32_1506
  let c256_i32_1507 : BitVec 32 := 256#32
  let v2867 : BitVec 32 := Scalar.muli v2866 c256_i32_1507
  v2867
def k0_mult28 (i : grid0.Coords) (k0_t1 : Fin (k0_t1_loop i).trips) : BitVec 32 :=
  let c4_i32_1522 : BitVec 32 := 4#32
  let c0_i32_1051 : BitVec 32 := 0#32
  let c1_i32_1053 : BitVec 32 := 1#32
  let arg29 : BitVec 32 := Scf.iv c0_i32_1051 c1_i32_1053 k0_t1
  let v2888 : BitVec 32 := Scalar.muli c4_i32_1522 arg29
  let c3_i32_1523 : BitVec 32 := 3#32
  let v2889 : BitVec 32 := Scalar.addi v2888 c3_i32_1523
  let c256_i32_1524 : BitVec 32 := 256#32
  let v2890 : BitVec 32 := Scalar.muli v2889 c256_i32_1524
  v2890
def k0_mult29 (i : grid0.Coords) (k0_t1 : Fin (k0_t1_loop i).trips) : BitVec 32 :=
  let c4_i32_1539 : BitVec 32 := 4#32
  let c0_i32_1051 : BitVec 32 := 0#32
  let c1_i32_1053 : BitVec 32 := 1#32
  let arg29 : BitVec 32 := Scf.iv c0_i32_1051 c1_i32_1053 k0_t1
  let v2911 : BitVec 32 := Scalar.muli c4_i32_1539 arg29
  let c0_i32_1540 : BitVec 32 := 0#32
  let v2912 : BitVec 32 := Scalar.addi v2911 c0_i32_1540
  let c256_i32_1541 : BitVec 32 := 256#32
  let v2913 : BitVec 32 := Scalar.muli v2912 c256_i32_1541
  v2913
def k0_mult30 (i : grid0.Coords) (k0_t1 : Fin (k0_t1_loop i).trips) : BitVec 32 :=
  let c4_i32_1555 : BitVec 32 := 4#32
  let c0_i32_1051 : BitVec 32 := 0#32
  let c1_i32_1053 : BitVec 32 := 1#32
  let arg29 : BitVec 32 := Scf.iv c0_i32_1051 c1_i32_1053 k0_t1
  let v2934 : BitVec 32 := Scalar.muli c4_i32_1555 arg29
  let c1_i32_1556 : BitVec 32 := 1#32
  let v2935 : BitVec 32 := Scalar.addi v2934 c1_i32_1556
  let c256_i32_1557 : BitVec 32 := 256#32
  let v2936 : BitVec 32 := Scalar.muli v2935 c256_i32_1557
  v2936
def k0_mult31 (i : grid0.Coords) (k0_t1 : Fin (k0_t1_loop i).trips) : BitVec 32 :=
  let c4_i32_1572 : BitVec 32 := 4#32
  let c0_i32_1051 : BitVec 32 := 0#32
  let c1_i32_1053 : BitVec 32 := 1#32
  let arg29 : BitVec 32 := Scf.iv c0_i32_1051 c1_i32_1053 k0_t1
  let v2957 : BitVec 32 := Scalar.muli c4_i32_1572 arg29
  let c2_i32_1573 : BitVec 32 := 2#32
  let v2958 : BitVec 32 := Scalar.addi v2957 c2_i32_1573
  let c256_i32_1574 : BitVec 32 := 256#32
  let v2959 : BitVec 32 := Scalar.muli v2958 c256_i32_1574
  v2959
def k0_mult32 (i : grid0.Coords) (k0_t1 : Fin (k0_t1_loop i).trips) : BitVec 32 :=
  let c4_i32_1589 : BitVec 32 := 4#32
  let c0_i32_1051 : BitVec 32 := 0#32
  let c1_i32_1053 : BitVec 32 := 1#32
  let arg29 : BitVec 32 := Scf.iv c0_i32_1051 c1_i32_1053 k0_t1
  let v2980 : BitVec 32 := Scalar.muli c4_i32_1589 arg29
  let c3_i32_1590 : BitVec 32 := 3#32
  let v2981 : BitVec 32 := Scalar.addi v2980 c3_i32_1590
  let c256_i32_1591 : BitVec 32 := 256#32
  let v2982 : BitVec 32 := Scalar.muli v2981 c256_i32_1591
  v2982
def k0_mult33 (i : grid0.Coords) (k0_t1 : Fin (k0_t1_loop i).trips) : BitVec 32 :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let c256_i32_1608 : BitVec 32 := 256#32
  let v3005 : BitVec 32 := Scalar.muli v3004 c256_i32_1608
  v3005
def k0_off7 (i : grid0.Coords) (k0_t1 : Fin (k0_t1_loop i).trips) : Fin 3 → Nat :=
  let c0_1609 : Index := 0#32
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let c256_i32_1608 : BitVec 32 := 256#32
  let v3005 : BitVec 32 := Scalar.muli v3004 c256_i32_1608
  let v3006 : BitVec 32 := v3005
  let v3007 : Index := Scalar.indexCast v3006
  let c128_1610 : Index := 128#32
  ![0, v3007.toNat, 128]
def k0_off8 (i : grid0.Coords) (k0_t1 : Fin (k0_t1_loop i).trips) : Fin 3 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3041 : Index := Scalar.indexCast v3004
  let c0_1622 : Index := 0#32
  let c0_1623 : Index := 0#32
  ![v3041.toNat, 0, 0]
def k0_off9 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3799 : Index := Scalar.indexCast v3004
  let c0_1865 : Index := 0#32
  let c0_1866 : Index := 0#32
  let c0_1867 : Index := 0#32
  ![v3799.toNat, 0, 0, 0]
def k0_off10 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3803 : Index := Scalar.indexCast v3004
  let c1_1868 : Index := 1#32
  let c0_1869 : Index := 0#32
  let c0_1870 : Index := 0#32
  ![v3803.toNat, 1, 0, 0]
def k0_off11 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3807 : Index := Scalar.indexCast v3004
  let c2_1871 : Index := 2#32
  let c0_1872 : Index := 0#32
  let c0_1873 : Index := 0#32
  ![v3807.toNat, 2, 0, 0]
def k0_off12 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3811 : Index := Scalar.indexCast v3004
  let c3_1874 : Index := 3#32
  let c0_1875 : Index := 0#32
  let c0_1876 : Index := 0#32
  ![v3811.toNat, 3, 0, 0]
def k0_off13 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3815 : Index := Scalar.indexCast v3004
  let c4_1877 : Index := 4#32
  let c0_1878 : Index := 0#32
  let c0_1879 : Index := 0#32
  ![v3815.toNat, 4, 0, 0]
def k0_off14 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3819 : Index := Scalar.indexCast v3004
  let c5_1880 : Index := 5#32
  let c0_1881 : Index := 0#32
  let c0_1882 : Index := 0#32
  ![v3819.toNat, 5, 0, 0]
def k0_off15 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3823 : Index := Scalar.indexCast v3004
  let c6_1883 : Index := 6#32
  let c0_1884 : Index := 0#32
  let c0_1885 : Index := 0#32
  ![v3823.toNat, 6, 0, 0]
def k0_off16 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3827 : Index := Scalar.indexCast v3004
  let c7_1886 : Index := 7#32
  let c0_1887 : Index := 0#32
  let c0_1888 : Index := 0#32
  ![v3827.toNat, 7, 0, 0]
def k0_off17 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3831 : Index := Scalar.indexCast v3004
  let c8_1889 : Index := 8#32
  let c0_1890 : Index := 0#32
  let c0_1891 : Index := 0#32
  ![v3831.toNat, 8, 0, 0]
def k0_off18 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3835 : Index := Scalar.indexCast v3004
  let c9_1892 : Index := 9#32
  let c0_1893 : Index := 0#32
  let c0_1894 : Index := 0#32
  ![v3835.toNat, 9, 0, 0]
def k0_off19 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3839 : Index := Scalar.indexCast v3004
  let c10_1895 : Index := 10#32
  let c0_1896 : Index := 0#32
  let c0_1897 : Index := 0#32
  ![v3839.toNat, 10, 0, 0]
def k0_off20 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3843 : Index := Scalar.indexCast v3004
  let c11_1898 : Index := 11#32
  let c0_1899 : Index := 0#32
  let c0_1900 : Index := 0#32
  ![v3843.toNat, 11, 0, 0]
def k0_off21 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3847 : Index := Scalar.indexCast v3004
  let c12_1901 : Index := 12#32
  let c0_1902 : Index := 0#32
  let c0_1903 : Index := 0#32
  ![v3847.toNat, 12, 0, 0]
def k0_off22 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3851 : Index := Scalar.indexCast v3004
  let c13_1904 : Index := 13#32
  let c0_1905 : Index := 0#32
  let c0_1906 : Index := 0#32
  ![v3851.toNat, 13, 0, 0]
def k0_off23 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3855 : Index := Scalar.indexCast v3004
  let c14_1907 : Index := 14#32
  let c0_1908 : Index := 0#32
  let c0_1909 : Index := 0#32
  ![v3855.toNat, 14, 0, 0]
def k0_off24 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3859 : Index := Scalar.indexCast v3004
  let c15_1910 : Index := 15#32
  let c0_1911 : Index := 0#32
  let c0_1912 : Index := 0#32
  ![v3859.toNat, 15, 0, 0]
def k0_off25 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3863 : Index := Scalar.indexCast v3004
  let c16_1913 : Index := 16#32
  let c0_1914 : Index := 0#32
  let c0_1915 : Index := 0#32
  ![v3863.toNat, 16, 0, 0]
def k0_off26 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3867 : Index := Scalar.indexCast v3004
  let c17_1916 : Index := 17#32
  let c0_1917 : Index := 0#32
  let c0_1918 : Index := 0#32
  ![v3867.toNat, 17, 0, 0]
def k0_off27 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3871 : Index := Scalar.indexCast v3004
  let c18_1919 : Index := 18#32
  let c0_1920 : Index := 0#32
  let c0_1921 : Index := 0#32
  ![v3871.toNat, 18, 0, 0]
def k0_off28 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3875 : Index := Scalar.indexCast v3004
  let c19_1922 : Index := 19#32
  let c0_1923 : Index := 0#32
  let c0_1924 : Index := 0#32
  ![v3875.toNat, 19, 0, 0]
def k0_off29 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3879 : Index := Scalar.indexCast v3004
  let c20_1925 : Index := 20#32
  let c0_1926 : Index := 0#32
  let c0_1927 : Index := 0#32
  ![v3879.toNat, 20, 0, 0]
def k0_off30 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3883 : Index := Scalar.indexCast v3004
  let c21_1928 : Index := 21#32
  let c0_1929 : Index := 0#32
  let c0_1930 : Index := 0#32
  ![v3883.toNat, 21, 0, 0]
def k0_off31 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3887 : Index := Scalar.indexCast v3004
  let c22_1931 : Index := 22#32
  let c0_1932 : Index := 0#32
  let c0_1933 : Index := 0#32
  ![v3887.toNat, 22, 0, 0]
def k0_off32 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3891 : Index := Scalar.indexCast v3004
  let c23_1934 : Index := 23#32
  let c0_1935 : Index := 0#32
  let c0_1936 : Index := 0#32
  ![v3891.toNat, 23, 0, 0]
def k0_off33 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3895 : Index := Scalar.indexCast v3004
  let c24_1937 : Index := 24#32
  let c0_1938 : Index := 0#32
  let c0_1939 : Index := 0#32
  ![v3895.toNat, 24, 0, 0]
def k0_off34 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3899 : Index := Scalar.indexCast v3004
  let c25_1940 : Index := 25#32
  let c0_1941 : Index := 0#32
  let c0_1942 : Index := 0#32
  ![v3899.toNat, 25, 0, 0]
def k0_off35 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3903 : Index := Scalar.indexCast v3004
  let c26_1943 : Index := 26#32
  let c0_1944 : Index := 0#32
  let c0_1945 : Index := 0#32
  ![v3903.toNat, 26, 0, 0]
def k0_off36 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3907 : Index := Scalar.indexCast v3004
  let c27_1946 : Index := 27#32
  let c0_1947 : Index := 0#32
  let c0_1948 : Index := 0#32
  ![v3907.toNat, 27, 0, 0]
def k0_off37 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3911 : Index := Scalar.indexCast v3004
  let c28_1949 : Index := 28#32
  let c0_1950 : Index := 0#32
  let c0_1951 : Index := 0#32
  ![v3911.toNat, 28, 0, 0]
def k0_off38 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3915 : Index := Scalar.indexCast v3004
  let c29_1952 : Index := 29#32
  let c0_1953 : Index := 0#32
  let c0_1954 : Index := 0#32
  ![v3915.toNat, 29, 0, 0]
def k0_off39 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3919 : Index := Scalar.indexCast v3004
  let c30_1955 : Index := 30#32
  let c0_1956 : Index := 0#32
  let c0_1957 : Index := 0#32
  ![v3919.toNat, 30, 0, 0]
def k0_off40 (i : grid0.Coords) (k0_t1 : Fin (k0_t1_loop i).trips) : Fin 4 → Nat :=
  let c2_i32_1607 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3004 : BitVec 32 := Scalar.muli c2_i32_1607 v3003
  let v3923 : Index := Scalar.indexCast v3004
  let c31_1958 : Index := 31#32
  let c0_1959 : Index := 0#32
  let c0_1960 : Index := 0#32
  ![v3923.toNat, 31, 0, 0]
def k0_mult34 (i : grid0.Coords) (k0_t1 : Fin (k0_t1_loop i).trips) : BitVec 32 :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let c256_i32_1963 : BitVec 32 := 256#32
  let v3929 : BitVec 32 := Scalar.muli v3928 c256_i32_1963
  v3929
def k0_off41 (i : grid0.Coords) (k0_t1 : Fin (k0_t1_loop i).trips) : Fin 3 → Nat :=
  let c0_1964 : Index := 0#32
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let c256_i32_1963 : BitVec 32 := 256#32
  let v3929 : BitVec 32 := Scalar.muli v3928 c256_i32_1963
  let v3930 : BitVec 32 := v3929
  let v3931 : Index := Scalar.indexCast v3930
  let c128_1965 : Index := 128#32
  ![0, v3931.toNat, 128]
def k0_off42 (i : grid0.Coords) (k0_t1 : Fin (k0_t1_loop i).trips) : Fin 3 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v3965 : Index := Scalar.indexCast v3928
  let c0_1977 : Index := 0#32
  let c0_1978 : Index := 0#32
  ![v3965.toNat, 0, 0]
def k0_off43 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4723 : Index := Scalar.indexCast v3928
  let c0_2220 : Index := 0#32
  let c0_2221 : Index := 0#32
  let c0_2222 : Index := 0#32
  ![v4723.toNat, 0, 0, 0]
def k0_off44 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4727 : Index := Scalar.indexCast v3928
  let c1_2223 : Index := 1#32
  let c0_2224 : Index := 0#32
  let c0_2225 : Index := 0#32
  ![v4727.toNat, 1, 0, 0]
def k0_off45 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4731 : Index := Scalar.indexCast v3928
  let c2_2226 : Index := 2#32
  let c0_2227 : Index := 0#32
  let c0_2228 : Index := 0#32
  ![v4731.toNat, 2, 0, 0]
def k0_off46 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4735 : Index := Scalar.indexCast v3928
  let c3_2229 : Index := 3#32
  let c0_2230 : Index := 0#32
  let c0_2231 : Index := 0#32
  ![v4735.toNat, 3, 0, 0]
def k0_off47 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4739 : Index := Scalar.indexCast v3928
  let c4_2232 : Index := 4#32
  let c0_2233 : Index := 0#32
  let c0_2234 : Index := 0#32
  ![v4739.toNat, 4, 0, 0]
def k0_off48 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4743 : Index := Scalar.indexCast v3928
  let c5_2235 : Index := 5#32
  let c0_2236 : Index := 0#32
  let c0_2237 : Index := 0#32
  ![v4743.toNat, 5, 0, 0]
def k0_off49 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4747 : Index := Scalar.indexCast v3928
  let c6_2238 : Index := 6#32
  let c0_2239 : Index := 0#32
  let c0_2240 : Index := 0#32
  ![v4747.toNat, 6, 0, 0]
def k0_off50 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4751 : Index := Scalar.indexCast v3928
  let c7_2241 : Index := 7#32
  let c0_2242 : Index := 0#32
  let c0_2243 : Index := 0#32
  ![v4751.toNat, 7, 0, 0]
def k0_off51 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4755 : Index := Scalar.indexCast v3928
  let c8_2244 : Index := 8#32
  let c0_2245 : Index := 0#32
  let c0_2246 : Index := 0#32
  ![v4755.toNat, 8, 0, 0]
def k0_off52 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4759 : Index := Scalar.indexCast v3928
  let c9_2247 : Index := 9#32
  let c0_2248 : Index := 0#32
  let c0_2249 : Index := 0#32
  ![v4759.toNat, 9, 0, 0]
def k0_off53 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4763 : Index := Scalar.indexCast v3928
  let c10_2250 : Index := 10#32
  let c0_2251 : Index := 0#32
  let c0_2252 : Index := 0#32
  ![v4763.toNat, 10, 0, 0]
def k0_off54 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4767 : Index := Scalar.indexCast v3928
  let c11_2253 : Index := 11#32
  let c0_2254 : Index := 0#32
  let c0_2255 : Index := 0#32
  ![v4767.toNat, 11, 0, 0]
def k0_off55 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4771 : Index := Scalar.indexCast v3928
  let c12_2256 : Index := 12#32
  let c0_2257 : Index := 0#32
  let c0_2258 : Index := 0#32
  ![v4771.toNat, 12, 0, 0]
def k0_off56 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4775 : Index := Scalar.indexCast v3928
  let c13_2259 : Index := 13#32
  let c0_2260 : Index := 0#32
  let c0_2261 : Index := 0#32
  ![v4775.toNat, 13, 0, 0]
def k0_off57 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4779 : Index := Scalar.indexCast v3928
  let c14_2262 : Index := 14#32
  let c0_2263 : Index := 0#32
  let c0_2264 : Index := 0#32
  ![v4779.toNat, 14, 0, 0]
def k0_off58 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4783 : Index := Scalar.indexCast v3928
  let c15_2265 : Index := 15#32
  let c0_2266 : Index := 0#32
  let c0_2267 : Index := 0#32
  ![v4783.toNat, 15, 0, 0]
def k0_off59 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4787 : Index := Scalar.indexCast v3928
  let c16_2268 : Index := 16#32
  let c0_2269 : Index := 0#32
  let c0_2270 : Index := 0#32
  ![v4787.toNat, 16, 0, 0]
def k0_off60 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4791 : Index := Scalar.indexCast v3928
  let c17_2271 : Index := 17#32
  let c0_2272 : Index := 0#32
  let c0_2273 : Index := 0#32
  ![v4791.toNat, 17, 0, 0]
def k0_off61 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4795 : Index := Scalar.indexCast v3928
  let c18_2274 : Index := 18#32
  let c0_2275 : Index := 0#32
  let c0_2276 : Index := 0#32
  ![v4795.toNat, 18, 0, 0]
def k0_off62 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4799 : Index := Scalar.indexCast v3928
  let c19_2277 : Index := 19#32
  let c0_2278 : Index := 0#32
  let c0_2279 : Index := 0#32
  ![v4799.toNat, 19, 0, 0]
def k0_off63 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4803 : Index := Scalar.indexCast v3928
  let c20_2280 : Index := 20#32
  let c0_2281 : Index := 0#32
  let c0_2282 : Index := 0#32
  ![v4803.toNat, 20, 0, 0]
def k0_off64 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4807 : Index := Scalar.indexCast v3928
  let c21_2283 : Index := 21#32
  let c0_2284 : Index := 0#32
  let c0_2285 : Index := 0#32
  ![v4807.toNat, 21, 0, 0]
def k0_off65 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4811 : Index := Scalar.indexCast v3928
  let c22_2286 : Index := 22#32
  let c0_2287 : Index := 0#32
  let c0_2288 : Index := 0#32
  ![v4811.toNat, 22, 0, 0]
def k0_off66 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4815 : Index := Scalar.indexCast v3928
  let c23_2289 : Index := 23#32
  let c0_2290 : Index := 0#32
  let c0_2291 : Index := 0#32
  ![v4815.toNat, 23, 0, 0]
def k0_off67 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4819 : Index := Scalar.indexCast v3928
  let c24_2292 : Index := 24#32
  let c0_2293 : Index := 0#32
  let c0_2294 : Index := 0#32
  ![v4819.toNat, 24, 0, 0]
def k0_off68 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4823 : Index := Scalar.indexCast v3928
  let c25_2295 : Index := 25#32
  let c0_2296 : Index := 0#32
  let c0_2297 : Index := 0#32
  ![v4823.toNat, 25, 0, 0]
def k0_off69 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4827 : Index := Scalar.indexCast v3928
  let c26_2298 : Index := 26#32
  let c0_2299 : Index := 0#32
  let c0_2300 : Index := 0#32
  ![v4827.toNat, 26, 0, 0]
def k0_off70 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4831 : Index := Scalar.indexCast v3928
  let c27_2301 : Index := 27#32
  let c0_2302 : Index := 0#32
  let c0_2303 : Index := 0#32
  ![v4831.toNat, 27, 0, 0]
def k0_off71 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4835 : Index := Scalar.indexCast v3928
  let c28_2304 : Index := 28#32
  let c0_2305 : Index := 0#32
  let c0_2306 : Index := 0#32
  ![v4835.toNat, 28, 0, 0]
def k0_off72 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4839 : Index := Scalar.indexCast v3928
  let c29_2307 : Index := 29#32
  let c0_2308 : Index := 0#32
  let c0_2309 : Index := 0#32
  ![v4839.toNat, 29, 0, 0]
def k0_off73 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4843 : Index := Scalar.indexCast v3928
  let c30_2310 : Index := 30#32
  let c0_2311 : Index := 0#32
  let c0_2312 : Index := 0#32
  ![v4843.toNat, 30, 0, 0]
def k0_off74 (i : grid0.Coords) (k0_t1 : Fin (k0_t1_loop i).trips) : Fin 4 → Nat :=
  let c2_i32_1961 : BitVec 32 := 2#32
  let c2_i32_1606 : BitVec 32 := 2#32
  let c0_i32_1051 : BitVec 32 := 0#32
  let c1_i32_1053 : BitVec 32 := 1#32
  let arg29 : BitVec 32 := Scf.iv c0_i32_1051 c1_i32_1053 k0_t1
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4847 : Index := Scalar.indexCast v3928
  let c31_2313 : Index := 31#32
  let c0_2314 : Index := 0#32
  let c0_2315 : Index := 0#32
  ![v4847.toNat, 31, 0, 0]
def k0_mult35 (i : grid0.Coords) (k0_t1 : Fin (k0_t1_loop i).trips) : BitVec 32 :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let c256_i32_2319 : BitVec 32 := 256#32
  let v4854 : BitVec 32 := Scalar.muli v4853 c256_i32_2319
  v4854
def k0_off75 (i : grid0.Coords) (k0_t1 : Fin (k0_t1_loop i).trips) : Fin 3 → Nat :=
  let c0_2320 : Index := 0#32
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let c256_i32_2319 : BitVec 32 := 256#32
  let v4854 : BitVec 32 := Scalar.muli v4853 c256_i32_2319
  let v4855 : BitVec 32 := v4854
  let v4856 : Index := Scalar.indexCast v4855
  let c128_2321 : Index := 128#32
  ![0, v4856.toNat, 128]
def k0_off76 (i : grid0.Coords) (k0_t1 : Fin (k0_t1_loop i).trips) : Fin 3 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v4890 : Index := Scalar.indexCast v4853
  let c0_2333 : Index := 0#32
  let c0_2334 : Index := 0#32
  ![v4890.toNat, 0, 0]
def k0_off77 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5648 : Index := Scalar.indexCast v4853
  let c0_2576 : Index := 0#32
  let c0_2577 : Index := 0#32
  let c0_2578 : Index := 0#32
  ![v5648.toNat, 0, 0, 0]
def k0_off78 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5652 : Index := Scalar.indexCast v4853
  let c1_2579 : Index := 1#32
  let c0_2580 : Index := 0#32
  let c0_2581 : Index := 0#32
  ![v5652.toNat, 1, 0, 0]
def k0_off79 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5656 : Index := Scalar.indexCast v4853
  let c2_2582 : Index := 2#32
  let c0_2583 : Index := 0#32
  let c0_2584 : Index := 0#32
  ![v5656.toNat, 2, 0, 0]
def k0_off80 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5660 : Index := Scalar.indexCast v4853
  let c3_2585 : Index := 3#32
  let c0_2586 : Index := 0#32
  let c0_2587 : Index := 0#32
  ![v5660.toNat, 3, 0, 0]
def k0_off81 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5664 : Index := Scalar.indexCast v4853
  let c4_2588 : Index := 4#32
  let c0_2589 : Index := 0#32
  let c0_2590 : Index := 0#32
  ![v5664.toNat, 4, 0, 0]
def k0_off82 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5668 : Index := Scalar.indexCast v4853
  let c5_2591 : Index := 5#32
  let c0_2592 : Index := 0#32
  let c0_2593 : Index := 0#32
  ![v5668.toNat, 5, 0, 0]
def k0_off83 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5672 : Index := Scalar.indexCast v4853
  let c6_2594 : Index := 6#32
  let c0_2595 : Index := 0#32
  let c0_2596 : Index := 0#32
  ![v5672.toNat, 6, 0, 0]
def k0_off84 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5676 : Index := Scalar.indexCast v4853
  let c7_2597 : Index := 7#32
  let c0_2598 : Index := 0#32
  let c0_2599 : Index := 0#32
  ![v5676.toNat, 7, 0, 0]
def k0_off85 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5680 : Index := Scalar.indexCast v4853
  let c8_2600 : Index := 8#32
  let c0_2601 : Index := 0#32
  let c0_2602 : Index := 0#32
  ![v5680.toNat, 8, 0, 0]
def k0_off86 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5684 : Index := Scalar.indexCast v4853
  let c9_2603 : Index := 9#32
  let c0_2604 : Index := 0#32
  let c0_2605 : Index := 0#32
  ![v5684.toNat, 9, 0, 0]
def k0_off87 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5688 : Index := Scalar.indexCast v4853
  let c10_2606 : Index := 10#32
  let c0_2607 : Index := 0#32
  let c0_2608 : Index := 0#32
  ![v5688.toNat, 10, 0, 0]
def k0_off88 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5692 : Index := Scalar.indexCast v4853
  let c11_2609 : Index := 11#32
  let c0_2610 : Index := 0#32
  let c0_2611 : Index := 0#32
  ![v5692.toNat, 11, 0, 0]
def k0_off89 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5696 : Index := Scalar.indexCast v4853
  let c12_2612 : Index := 12#32
  let c0_2613 : Index := 0#32
  let c0_2614 : Index := 0#32
  ![v5696.toNat, 12, 0, 0]
def k0_off90 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5700 : Index := Scalar.indexCast v4853
  let c13_2615 : Index := 13#32
  let c0_2616 : Index := 0#32
  let c0_2617 : Index := 0#32
  ![v5700.toNat, 13, 0, 0]
def k0_off91 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5704 : Index := Scalar.indexCast v4853
  let c14_2618 : Index := 14#32
  let c0_2619 : Index := 0#32
  let c0_2620 : Index := 0#32
  ![v5704.toNat, 14, 0, 0]
def k0_off92 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5708 : Index := Scalar.indexCast v4853
  let c15_2621 : Index := 15#32
  let c0_2622 : Index := 0#32
  let c0_2623 : Index := 0#32
  ![v5708.toNat, 15, 0, 0]
def k0_off93 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5712 : Index := Scalar.indexCast v4853
  let c16_2624 : Index := 16#32
  let c0_2625 : Index := 0#32
  let c0_2626 : Index := 0#32
  ![v5712.toNat, 16, 0, 0]
def k0_off94 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5716 : Index := Scalar.indexCast v4853
  let c17_2627 : Index := 17#32
  let c0_2628 : Index := 0#32
  let c0_2629 : Index := 0#32
  ![v5716.toNat, 17, 0, 0]
def k0_off95 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5720 : Index := Scalar.indexCast v4853
  let c18_2630 : Index := 18#32
  let c0_2631 : Index := 0#32
  let c0_2632 : Index := 0#32
  ![v5720.toNat, 18, 0, 0]
def k0_off96 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5724 : Index := Scalar.indexCast v4853
  let c19_2633 : Index := 19#32
  let c0_2634 : Index := 0#32
  let c0_2635 : Index := 0#32
  ![v5724.toNat, 19, 0, 0]
def k0_off97 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5728 : Index := Scalar.indexCast v4853
  let c20_2636 : Index := 20#32
  let c0_2637 : Index := 0#32
  let c0_2638 : Index := 0#32
  ![v5728.toNat, 20, 0, 0]
def k0_off98 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5732 : Index := Scalar.indexCast v4853
  let c21_2639 : Index := 21#32
  let c0_2640 : Index := 0#32
  let c0_2641 : Index := 0#32
  ![v5732.toNat, 21, 0, 0]
def k0_off99 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5736 : Index := Scalar.indexCast v4853
  let c22_2642 : Index := 22#32
  let c0_2643 : Index := 0#32
  let c0_2644 : Index := 0#32
  ![v5736.toNat, 22, 0, 0]
def k0_off100 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5740 : Index := Scalar.indexCast v4853
  let c23_2645 : Index := 23#32
  let c0_2646 : Index := 0#32
  let c0_2647 : Index := 0#32
  ![v5740.toNat, 23, 0, 0]
def k0_off101 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5744 : Index := Scalar.indexCast v4853
  let c24_2648 : Index := 24#32
  let c0_2649 : Index := 0#32
  let c0_2650 : Index := 0#32
  ![v5744.toNat, 24, 0, 0]
def k0_off102 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5748 : Index := Scalar.indexCast v4853
  let c25_2651 : Index := 25#32
  let c0_2652 : Index := 0#32
  let c0_2653 : Index := 0#32
  ![v5748.toNat, 25, 0, 0]
def k0_off103 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5752 : Index := Scalar.indexCast v4853
  let c26_2654 : Index := 26#32
  let c0_2655 : Index := 0#32
  let c0_2656 : Index := 0#32
  ![v5752.toNat, 26, 0, 0]
def k0_off104 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5756 : Index := Scalar.indexCast v4853
  let c27_2657 : Index := 27#32
  let c0_2658 : Index := 0#32
  let c0_2659 : Index := 0#32
  ![v5756.toNat, 27, 0, 0]
def k0_off105 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5760 : Index := Scalar.indexCast v4853
  let c28_2660 : Index := 28#32
  let c0_2661 : Index := 0#32
  let c0_2662 : Index := 0#32
  ![v5760.toNat, 28, 0, 0]
def k0_off106 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5764 : Index := Scalar.indexCast v4853
  let c29_2663 : Index := 29#32
  let c0_2664 : Index := 0#32
  let c0_2665 : Index := 0#32
  ![v5764.toNat, 29, 0, 0]
def k0_off107 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5768 : Index := Scalar.indexCast v4853
  let c30_2666 : Index := 30#32
  let c0_2667 : Index := 0#32
  let c0_2668 : Index := 0#32
  ![v5768.toNat, 30, 0, 0]
def k0_off108 (i : grid0.Coords) (k0_t1 : Fin (k0_t1_loop i).trips) : Fin 4 → Nat :=
  let c2_i32_2318 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5772 : Index := Scalar.indexCast v4853
  let c31_2669 : Index := 31#32
  let c0_2670 : Index := 0#32
  let c0_2671 : Index := 0#32
  ![v5772.toNat, 31, 0, 0]
def k0_mult36 (i : grid0.Coords) (k0_t1 : Fin (k0_t1_loop i).trips) : BitVec 32 :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let c256_i32_2674 : BitVec 32 := 256#32
  let v5778 : BitVec 32 := Scalar.muli v5777 c256_i32_2674
  v5778
def k0_off109 (i : grid0.Coords) (k0_t1 : Fin (k0_t1_loop i).trips) : Fin 3 → Nat :=
  let c0_2675 : Index := 0#32
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let c256_i32_2674 : BitVec 32 := 256#32
  let v5778 : BitVec 32 := Scalar.muli v5777 c256_i32_2674
  let v5779 : BitVec 32 := v5778
  let v5780 : Index := Scalar.indexCast v5779
  let c128_2676 : Index := 128#32
  ![0, v5780.toNat, 128]
def k0_off110 (i : grid0.Coords) (k0_t1 : Fin (k0_t1_loop i).trips) : Fin 3 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v5814 : Index := Scalar.indexCast v5777
  let c0_2688 : Index := 0#32
  let c0_2689 : Index := 0#32
  ![v5814.toNat, 0, 0]
def k0_off111 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6572 : Index := Scalar.indexCast v5777
  let c0_2931 : Index := 0#32
  let c0_2932 : Index := 0#32
  let c0_2933 : Index := 0#32
  ![v6572.toNat, 0, 0, 0]
def k0_off112 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6576 : Index := Scalar.indexCast v5777
  let c1_2934 : Index := 1#32
  let c0_2935 : Index := 0#32
  let c0_2936 : Index := 0#32
  ![v6576.toNat, 1, 0, 0]
def k0_off113 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6580 : Index := Scalar.indexCast v5777
  let c2_2937 : Index := 2#32
  let c0_2938 : Index := 0#32
  let c0_2939 : Index := 0#32
  ![v6580.toNat, 2, 0, 0]
def k0_off114 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6584 : Index := Scalar.indexCast v5777
  let c3_2940 : Index := 3#32
  let c0_2941 : Index := 0#32
  let c0_2942 : Index := 0#32
  ![v6584.toNat, 3, 0, 0]
def k0_off115 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6588 : Index := Scalar.indexCast v5777
  let c4_2943 : Index := 4#32
  let c0_2944 : Index := 0#32
  let c0_2945 : Index := 0#32
  ![v6588.toNat, 4, 0, 0]
def k0_off116 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6592 : Index := Scalar.indexCast v5777
  let c5_2946 : Index := 5#32
  let c0_2947 : Index := 0#32
  let c0_2948 : Index := 0#32
  ![v6592.toNat, 5, 0, 0]
def k0_off117 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6596 : Index := Scalar.indexCast v5777
  let c6_2949 : Index := 6#32
  let c0_2950 : Index := 0#32
  let c0_2951 : Index := 0#32
  ![v6596.toNat, 6, 0, 0]
def k0_off118 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6600 : Index := Scalar.indexCast v5777
  let c7_2952 : Index := 7#32
  let c0_2953 : Index := 0#32
  let c0_2954 : Index := 0#32
  ![v6600.toNat, 7, 0, 0]
def k0_off119 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6604 : Index := Scalar.indexCast v5777
  let c8_2955 : Index := 8#32
  let c0_2956 : Index := 0#32
  let c0_2957 : Index := 0#32
  ![v6604.toNat, 8, 0, 0]
def k0_off120 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6608 : Index := Scalar.indexCast v5777
  let c9_2958 : Index := 9#32
  let c0_2959 : Index := 0#32
  let c0_2960 : Index := 0#32
  ![v6608.toNat, 9, 0, 0]
def k0_off121 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6612 : Index := Scalar.indexCast v5777
  let c10_2961 : Index := 10#32
  let c0_2962 : Index := 0#32
  let c0_2963 : Index := 0#32
  ![v6612.toNat, 10, 0, 0]
def k0_off122 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6616 : Index := Scalar.indexCast v5777
  let c11_2964 : Index := 11#32
  let c0_2965 : Index := 0#32
  let c0_2966 : Index := 0#32
  ![v6616.toNat, 11, 0, 0]
def k0_off123 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6620 : Index := Scalar.indexCast v5777
  let c12_2967 : Index := 12#32
  let c0_2968 : Index := 0#32
  let c0_2969 : Index := 0#32
  ![v6620.toNat, 12, 0, 0]
def k0_off124 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6624 : Index := Scalar.indexCast v5777
  let c13_2970 : Index := 13#32
  let c0_2971 : Index := 0#32
  let c0_2972 : Index := 0#32
  ![v6624.toNat, 13, 0, 0]
def k0_off125 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6628 : Index := Scalar.indexCast v5777
  let c14_2973 : Index := 14#32
  let c0_2974 : Index := 0#32
  let c0_2975 : Index := 0#32
  ![v6628.toNat, 14, 0, 0]
def k0_off126 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6632 : Index := Scalar.indexCast v5777
  let c15_2976 : Index := 15#32
  let c0_2977 : Index := 0#32
  let c0_2978 : Index := 0#32
  ![v6632.toNat, 15, 0, 0]
def k0_off127 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6636 : Index := Scalar.indexCast v5777
  let c16_2979 : Index := 16#32
  let c0_2980 : Index := 0#32
  let c0_2981 : Index := 0#32
  ![v6636.toNat, 16, 0, 0]
def k0_off128 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6640 : Index := Scalar.indexCast v5777
  let c17_2982 : Index := 17#32
  let c0_2983 : Index := 0#32
  let c0_2984 : Index := 0#32
  ![v6640.toNat, 17, 0, 0]
def k0_off129 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6644 : Index := Scalar.indexCast v5777
  let c18_2985 : Index := 18#32
  let c0_2986 : Index := 0#32
  let c0_2987 : Index := 0#32
  ![v6644.toNat, 18, 0, 0]
def k0_off130 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6648 : Index := Scalar.indexCast v5777
  let c19_2988 : Index := 19#32
  let c0_2989 : Index := 0#32
  let c0_2990 : Index := 0#32
  ![v6648.toNat, 19, 0, 0]
def k0_off131 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6652 : Index := Scalar.indexCast v5777
  let c20_2991 : Index := 20#32
  let c0_2992 : Index := 0#32
  let c0_2993 : Index := 0#32
  ![v6652.toNat, 20, 0, 0]
def k0_off132 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6656 : Index := Scalar.indexCast v5777
  let c21_2994 : Index := 21#32
  let c0_2995 : Index := 0#32
  let c0_2996 : Index := 0#32
  ![v6656.toNat, 21, 0, 0]
def k0_off133 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6660 : Index := Scalar.indexCast v5777
  let c22_2997 : Index := 22#32
  let c0_2998 : Index := 0#32
  let c0_2999 : Index := 0#32
  ![v6660.toNat, 22, 0, 0]
def k0_off134 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6664 : Index := Scalar.indexCast v5777
  let c23_3000 : Index := 23#32
  let c0_3001 : Index := 0#32
  let c0_3002 : Index := 0#32
  ![v6664.toNat, 23, 0, 0]
def k0_off135 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6668 : Index := Scalar.indexCast v5777
  let c24_3003 : Index := 24#32
  let c0_3004 : Index := 0#32
  let c0_3005 : Index := 0#32
  ![v6668.toNat, 24, 0, 0]
def k0_off136 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6672 : Index := Scalar.indexCast v5777
  let c25_3006 : Index := 25#32
  let c0_3007 : Index := 0#32
  let c0_3008 : Index := 0#32
  ![v6672.toNat, 25, 0, 0]
def k0_off137 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6676 : Index := Scalar.indexCast v5777
  let c26_3009 : Index := 26#32
  let c0_3010 : Index := 0#32
  let c0_3011 : Index := 0#32
  ![v6676.toNat, 26, 0, 0]
def k0_off138 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6680 : Index := Scalar.indexCast v5777
  let c27_3012 : Index := 27#32
  let c0_3013 : Index := 0#32
  let c0_3014 : Index := 0#32
  ![v6680.toNat, 27, 0, 0]
def k0_off139 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6684 : Index := Scalar.indexCast v5777
  let c28_3015 : Index := 28#32
  let c0_3016 : Index := 0#32
  let c0_3017 : Index := 0#32
  ![v6684.toNat, 28, 0, 0]
def k0_off140 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6688 : Index := Scalar.indexCast v5777
  let c29_3018 : Index := 29#32
  let c0_3019 : Index := 0#32
  let c0_3020 : Index := 0#32
  ![v6688.toNat, 29, 0, 0]
def k0_off141 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6692 : Index := Scalar.indexCast v5777
  let c30_3021 : Index := 30#32
  let c0_3022 : Index := 0#32
  let c0_3023 : Index := 0#32
  ![v6692.toNat, 30, 0, 0]
def k0_off142 (i : grid0.Coords) (k0_t1 : Fin (k0_t1_loop i).trips) : Fin 4 → Nat :=
  let c2_i32_2672 : BitVec 32 := 2#32
  let c2_i32_2316 : BitVec 32 := 2#32
  let c0_i32_1051 : BitVec 32 := 0#32
  let c1_i32_1053 : BitVec 32 := 1#32
  let arg29 : BitVec 32 := Scf.iv c0_i32_1051 c1_i32_1053 k0_t1
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6696 : Index := Scalar.indexCast v5777
  let c31_3024 : Index := 31#32
  let c0_3025 : Index := 0#32
  let c0_3026 : Index := 0#32
  ![v6696.toNat, 31, 0, 0]
def k0_off143 (i : grid0.Coords) (k0_t1 : Fin (k0_t1_loop i).trips) (c0_i32_3028 : BitVec 32) : Fin 4 → Nat :=
  let c0_3032 : Index := 0#32
  let c4_i32_3027 : BitVec 32 := 4#32
  let c0_i32_1051 : BitVec 32 := 0#32
  let c1_i32_1053 : BitVec 32 := 1#32
  let arg29 : BitVec 32 := Scf.iv c0_i32_1051 c1_i32_1053 k0_t1
  let v6700 : BitVec 32 := Scalar.muli c4_i32_3027 arg29
  let v6701 : BitVec 32 := Scalar.addi v6700 c0_i32_3028
  let v6704 : Index := Scalar.indexCast v6701
  let c0_3033 : Index := 0#32
  let c0_3034 : Index := 0#32
  ![0, v6704.toNat, 0, 0]
def k0_off144 (i : grid0.Coords) (k0_t1 : Fin (k0_t1_loop i).trips) (c0_i32_3082 : BitVec 32) : Fin 4 → Nat :=
  let c0_3086 : Index := 0#32
  let c4_i32_3081 : BitVec 32 := 4#32
  let c0_i32_1051 : BitVec 32 := 0#32
  let c1_i32_1053 : BitVec 32 := 1#32
  let arg29 : BitVec 32 := Scf.iv c0_i32_1051 c1_i32_1053 k0_t1
  let v6781 : BitVec 32 := Scalar.muli c4_i32_3081 arg29
  let v6782 : BitVec 32 := Scalar.addi v6781 c0_i32_3082
  let v6785 : Index := Scalar.indexCast v6782
  let c80 : Index := 80#32
  let c0_3087 : Index := 0#32
  ![0, v6785.toNat, 80, 0]
def k0_off145 (i : grid0.Coords) (k0_t1 : Fin (k0_t1_loop i).trips) (c0_i32_3135 : BitVec 32) : Fin 4 → Nat :=
  let c0_3139 : Index := 0#32
  let c4_i32_3134 : BitVec 32 := 4#32
  let c0_i32_1051 : BitVec 32 := 0#32
  let c1_i32_1053 : BitVec 32 := 1#32
  let arg29 : BitVec 32 := Scf.iv c0_i32_1051 c1_i32_1053 k0_t1
  let v6862 : BitVec 32 := Scalar.muli c4_i32_3134 arg29
  let v6863 : BitVec 32 := Scalar.addi v6862 c0_i32_3135
  let v6866 : Index := Scalar.indexCast v6863
  let c160 : Index := 160#32
  let c0_3140 : Index := 0#32
  ![0, v6866.toNat, 160, 0]
def k0_off146 (i : grid0.Coords) (k0_t1 : Fin (k0_t1_loop i).trips) (c0_i32_3188 : BitVec 32) : Fin 4 → Nat :=
  let c0_3192 : Index := 0#32
  let c4_i32_3187 : BitVec 32 := 4#32
  let c0_i32_1051 : BitVec 32 := 0#32
  let c1_i32_1053 : BitVec 32 := 1#32
  let arg29 : BitVec 32 := Scf.iv c0_i32_1051 c1_i32_1053 k0_t1
  let v6943 : BitVec 32 := Scalar.muli c4_i32_3187 arg29
  let v6944 : BitVec 32 := Scalar.addi v6943 c0_i32_3188
  let v6947 : Index := Scalar.indexCast v6944
  let c240 : Index := 240#32
  let c0_3193 : Index := 0#32
  ![0, v6947.toNat, 240, 0]
def k0_off147 (i : grid0.Coords) (k0_t1 : Fin (k0_t1_loop i).trips) (c0_i32_3241 : BitVec 32) : Fin 4 → Nat :=
  let c0_3245 : Index := 0#32
  let c4_i32_3240 : BitVec 32 := 4#32
  let c0_i32_1051 : BitVec 32 := 0#32
  let c1_i32_1053 : BitVec 32 := 1#32
  let arg29 : BitVec 32 := Scf.iv c0_i32_1051 c1_i32_1053 k0_t1
  let v7024 : BitVec 32 := Scalar.muli c4_i32_3240 arg29
  let v7025 : BitVec 32 := Scalar.addi v7024 c0_i32_3241
  let v7028 : Index := Scalar.indexCast v7025
  let c320 : Index := 320#32
  let c0_3246 : Index := 0#32
  ![0, v7028.toNat, 320, 0]
def k0_off148 (i : grid0.Coords) (k0_t1 : Fin (k0_t1_loop i).trips) (c0_i32_3294 : BitVec 32) : Fin 4 → Nat :=
  let c0_3298 : Index := 0#32
  let c4_i32_3293 : BitVec 32 := 4#32
  let c0_i32_1051 : BitVec 32 := 0#32
  let c1_i32_1053 : BitVec 32 := 1#32
  let arg29 : BitVec 32 := Scf.iv c0_i32_1051 c1_i32_1053 k0_t1
  let v7105 : BitVec 32 := Scalar.muli c4_i32_3293 arg29
  let v7106 : BitVec 32 := Scalar.addi v7105 c0_i32_3294
  let v7109 : Index := Scalar.indexCast v7106
  let c400 : Index := 400#32
  let c0_3299 : Index := 0#32
  ![0, v7109.toNat, 400, 0]
def k0_off149 (i : grid0.Coords) (k0_t1 : Fin (k0_t1_loop i).trips) (c0_i32_3347 : BitVec 32) : Fin 4 → Nat :=
  let c0_3351 : Index := 0#32
  let c4_i32_3346 : BitVec 32 := 4#32
  let c0_i32_1051 : BitVec 32 := 0#32
  let c1_i32_1053 : BitVec 32 := 1#32
  let arg29 : BitVec 32 := Scf.iv c0_i32_1051 c1_i32_1053 k0_t1
  let v7186 : BitVec 32 := Scalar.muli c4_i32_3346 arg29
  let v7187 : BitVec 32 := Scalar.addi v7186 c0_i32_3347
  let v7190 : Index := Scalar.indexCast v7187
  let c480 : Index := 480#32
  let c0_3352 : Index := 0#32
  ![0, v7190.toNat, 480, 0]
def k0_off150 (i : grid0.Coords) (k0_t1 : Fin (k0_t1_loop i).trips) (c0_i32_3400 : BitVec 32) : Fin 4 → Nat :=
  let c0_3404 : Index := 0#32
  let c4_i32_3399 : BitVec 32 := 4#32
  let c0_i32_1051 : BitVec 32 := 0#32
  let c1_i32_1053 : BitVec 32 := 1#32
  let arg29 : BitVec 32 := Scf.iv c0_i32_1051 c1_i32_1053 k0_t1
  let v7267 : BitVec 32 := Scalar.muli c4_i32_3399 arg29
  let v7268 : BitVec 32 := Scalar.addi v7267 c0_i32_3400
  let v7271 : Index := Scalar.indexCast v7268
  let c560 : Index := 560#32
  let c0_3405 : Index := 0#32
  ![0, v7271.toNat, 560, 0]
@[reducible] def k0_t2_loop (i : grid0.Coords) : Scf.Loop 32 :=
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let v2252 : BitVec 32 := Scalar.addi c0_i32_1051 v2251
  let c1_i32_1054 : BitVec 32 := 1#32
  ⟨v2255, v2252, c1_i32_1054⟩
def k0_mult37 (i : grid0.Coords) (k0_t2 : Fin (k0_t2_loop i).trips) : BitVec 32 :=
  let c4_i32_1064 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2267 : BitVec 32 := Scalar.muli c4_i32_1064 arg29
  let c0_i32_1065 : BitVec 32 := 0#32
  let v2268 : BitVec 32 := Scalar.addi v2267 c0_i32_1065
  let c256_i32_1066 : BitVec 32 := 256#32
  let v2269 : BitVec 32 := Scalar.muli v2268 c256_i32_1066
  v2269
def k0_off151 (i : grid0.Coords) (k0_t2 : Fin (k0_t2_loop i).trips) (c0_i32_1065 : BitVec 32) : Fin 3 → Nat :=
  let c0_1067 : Index := 0#32
  let c4_i32_1064 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2267 : BitVec 32 := Scalar.muli c4_i32_1064 arg29
  let v2268 : BitVec 32 := Scalar.addi v2267 c0_i32_1065
  let c256_i32_1066 : BitVec 32 := 256#32
  let v2269 : BitVec 32 := Scalar.muli v2268 c256_i32_1066
  let v2270 : BitVec 32 := v2269
  let v2271 : Index := Scalar.indexCast v2270
  let c0_1068 : Index := 0#32
  ![0, v2271.toNat, 0]
def k0_off152 (i : grid0.Coords) (k0_t2 : Fin (k0_t2_loop i).trips) (c0_i32_1075 : BitVec 32) (c0_i32_1065 : BitVec 32) : Fin 3 → Nat :=
  let c2_i32_1074 : BitVec 32 := 2#32
  let c0_i32_1073 : BitVec 32 := 0#32
  let arg1 : BitVec 32 := BitVec.ofNat 32 (i 1).val
  let c4_i32_1064 : BitVec 32 := 4#32
  let c0_i32_1051 : BitVec 32 := 0#32
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2267 : BitVec 32 := Scalar.muli c4_i32_1064 arg29
  let v2268 : BitVec 32 := Scalar.addi v2267 c0_i32_1065
  let v2277 : BitVec 32 := Scalar.subi arg1 v2268
  let v2278 : BitVec 32 := Scalar.maxsi c0_i32_1073 v2277
  let v2279 : BitVec 32 := Scalar.minsi c2_i32_1074 v2278
  let v2280 : BitVec 32 := Scalar.addi c0_i32_1075 v2279
  let v2281 : Index := Scalar.indexCast v2280
  let c0_1076 : Index := 0#32
  let c0_1077 : Index := 0#32
  ![v2281.toNat, 0, 0]
def k0_mult38 (i : grid0.Coords) (k0_t2 : Fin (k0_t2_loop i).trips) : BitVec 32 :=
  let c4_i32_1081 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2290 : BitVec 32 := Scalar.muli c4_i32_1081 arg29
  let c1_i32_1082 : BitVec 32 := 1#32
  let v2291 : BitVec 32 := Scalar.addi v2290 c1_i32_1082
  let c256_i32_1083 : BitVec 32 := 256#32
  let v2292 : BitVec 32 := Scalar.muli v2291 c256_i32_1083
  v2292
def k0_mult39 (i : grid0.Coords) (k0_t2 : Fin (k0_t2_loop i).trips) : BitVec 32 :=
  let c4_i32_1098 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2313 : BitVec 32 := Scalar.muli c4_i32_1098 arg29
  let c2_i32_1099 : BitVec 32 := 2#32
  let v2314 : BitVec 32 := Scalar.addi v2313 c2_i32_1099
  let c256_i32_1100 : BitVec 32 := 256#32
  let v2315 : BitVec 32 := Scalar.muli v2314 c256_i32_1100
  v2315
def k0_mult40 (i : grid0.Coords) (k0_t2 : Fin (k0_t2_loop i).trips) : BitVec 32 :=
  let c4_i32_1115 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2336 : BitVec 32 := Scalar.muli c4_i32_1115 arg29
  let c3_i32_1116 : BitVec 32 := 3#32
  let v2337 : BitVec 32 := Scalar.addi v2336 c3_i32_1116
  let c256_i32_1117 : BitVec 32 := 256#32
  let v2338 : BitVec 32 := Scalar.muli v2337 c256_i32_1117
  v2338
def k0_mult41 (i : grid0.Coords) (k0_t2 : Fin (k0_t2_loop i).trips) : BitVec 32 :=
  let c4_i32_1132 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2359 : BitVec 32 := Scalar.muli c4_i32_1132 arg29
  let c0_i32_1133 : BitVec 32 := 0#32
  let v2360 : BitVec 32 := Scalar.addi v2359 c0_i32_1133
  let c256_i32_1134 : BitVec 32 := 256#32
  let v2361 : BitVec 32 := Scalar.muli v2360 c256_i32_1134
  v2361
def k0_mult42 (i : grid0.Coords) (k0_t2 : Fin (k0_t2_loop i).trips) : BitVec 32 :=
  let c4_i32_1149 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2382 : BitVec 32 := Scalar.muli c4_i32_1149 arg29
  let c1_i32_1150 : BitVec 32 := 1#32
  let v2383 : BitVec 32 := Scalar.addi v2382 c1_i32_1150
  let c256_i32_1151 : BitVec 32 := 256#32
  let v2384 : BitVec 32 := Scalar.muli v2383 c256_i32_1151
  v2384
def k0_mult43 (i : grid0.Coords) (k0_t2 : Fin (k0_t2_loop i).trips) : BitVec 32 :=
  let c4_i32_1166 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2405 : BitVec 32 := Scalar.muli c4_i32_1166 arg29
  let c2_i32_1167 : BitVec 32 := 2#32
  let v2406 : BitVec 32 := Scalar.addi v2405 c2_i32_1167
  let c256_i32_1168 : BitVec 32 := 256#32
  let v2407 : BitVec 32 := Scalar.muli v2406 c256_i32_1168
  v2407
def k0_mult44 (i : grid0.Coords) (k0_t2 : Fin (k0_t2_loop i).trips) : BitVec 32 :=
  let c4_i32_1183 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2428 : BitVec 32 := Scalar.muli c4_i32_1183 arg29
  let c3_i32_1184 : BitVec 32 := 3#32
  let v2429 : BitVec 32 := Scalar.addi v2428 c3_i32_1184
  let c256_i32_1185 : BitVec 32 := 256#32
  let v2430 : BitVec 32 := Scalar.muli v2429 c256_i32_1185
  v2430
def k0_mult45 (i : grid0.Coords) (k0_t2 : Fin (k0_t2_loop i).trips) : BitVec 32 :=
  let c4_i32_1200 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2451 : BitVec 32 := Scalar.muli c4_i32_1200 arg29
  let c0_i32_1201 : BitVec 32 := 0#32
  let v2452 : BitVec 32 := Scalar.addi v2451 c0_i32_1201
  let c256_i32_1202 : BitVec 32 := 256#32
  let v2453 : BitVec 32 := Scalar.muli v2452 c256_i32_1202
  v2453
def k0_off153 (i : grid0.Coords) (k0_t2 : Fin (k0_t2_loop i).trips) (c0_i32_1201 : BitVec 32) : Fin 3 → Nat :=
  let c0_1203 : Index := 0#32
  let c4_i32_1200 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2451 : BitVec 32 := Scalar.muli c4_i32_1200 arg29
  let v2452 : BitVec 32 := Scalar.addi v2451 c0_i32_1201
  let c256_i32_1202 : BitVec 32 := 256#32
  let v2453 : BitVec 32 := Scalar.muli v2452 c256_i32_1202
  let v2454 : BitVec 32 := v2453
  let v2455 : Index := Scalar.indexCast v2454
  let c128_1204 : Index := 128#32
  ![0, v2455.toNat, 128]
def k0_mult46 (i : grid0.Coords) (k0_t2 : Fin (k0_t2_loop i).trips) : BitVec 32 :=
  let c4_i32_1217 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2474 : BitVec 32 := Scalar.muli c4_i32_1217 arg29
  let c1_i32_1218 : BitVec 32 := 1#32
  let v2475 : BitVec 32 := Scalar.addi v2474 c1_i32_1218
  let c256_i32_1219 : BitVec 32 := 256#32
  let v2476 : BitVec 32 := Scalar.muli v2475 c256_i32_1219
  v2476
def k0_mult47 (i : grid0.Coords) (k0_t2 : Fin (k0_t2_loop i).trips) : BitVec 32 :=
  let c4_i32_1234 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2497 : BitVec 32 := Scalar.muli c4_i32_1234 arg29
  let c2_i32_1235 : BitVec 32 := 2#32
  let v2498 : BitVec 32 := Scalar.addi v2497 c2_i32_1235
  let c256_i32_1236 : BitVec 32 := 256#32
  let v2499 : BitVec 32 := Scalar.muli v2498 c256_i32_1236
  v2499
def k0_mult48 (i : grid0.Coords) (k0_t2 : Fin (k0_t2_loop i).trips) : BitVec 32 :=
  let c4_i32_1251 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2520 : BitVec 32 := Scalar.muli c4_i32_1251 arg29
  let c3_i32_1252 : BitVec 32 := 3#32
  let v2521 : BitVec 32 := Scalar.addi v2520 c3_i32_1252
  let c256_i32_1253 : BitVec 32 := 256#32
  let v2522 : BitVec 32 := Scalar.muli v2521 c256_i32_1253
  v2522
def k0_mult49 (i : grid0.Coords) (k0_t2 : Fin (k0_t2_loop i).trips) : BitVec 32 :=
  let c4_i32_1268 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2543 : BitVec 32 := Scalar.muli c4_i32_1268 arg29
  let c0_i32_1269 : BitVec 32 := 0#32
  let v2544 : BitVec 32 := Scalar.addi v2543 c0_i32_1269
  let c256_i32_1270 : BitVec 32 := 256#32
  let v2545 : BitVec 32 := Scalar.muli v2544 c256_i32_1270
  v2545
def k0_mult50 (i : grid0.Coords) (k0_t2 : Fin (k0_t2_loop i).trips) : BitVec 32 :=
  let c4_i32_1285 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2566 : BitVec 32 := Scalar.muli c4_i32_1285 arg29
  let c1_i32_1286 : BitVec 32 := 1#32
  let v2567 : BitVec 32 := Scalar.addi v2566 c1_i32_1286
  let c256_i32_1287 : BitVec 32 := 256#32
  let v2568 : BitVec 32 := Scalar.muli v2567 c256_i32_1287
  v2568
def k0_mult51 (i : grid0.Coords) (k0_t2 : Fin (k0_t2_loop i).trips) : BitVec 32 :=
  let c4_i32_1302 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2589 : BitVec 32 := Scalar.muli c4_i32_1302 arg29
  let c2_i32_1303 : BitVec 32 := 2#32
  let v2590 : BitVec 32 := Scalar.addi v2589 c2_i32_1303
  let c256_i32_1304 : BitVec 32 := 256#32
  let v2591 : BitVec 32 := Scalar.muli v2590 c256_i32_1304
  v2591
def k0_mult52 (i : grid0.Coords) (k0_t2 : Fin (k0_t2_loop i).trips) : BitVec 32 :=
  let c4_i32_1319 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2612 : BitVec 32 := Scalar.muli c4_i32_1319 arg29
  let c3_i32_1320 : BitVec 32 := 3#32
  let v2613 : BitVec 32 := Scalar.addi v2612 c3_i32_1320
  let c256_i32_1321 : BitVec 32 := 256#32
  let v2614 : BitVec 32 := Scalar.muli v2613 c256_i32_1321
  v2614
def k0_mult53 (i : grid0.Coords) (k0_t2 : Fin (k0_t2_loop i).trips) : BitVec 32 :=
  let c4_i32_1336 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2635 : BitVec 32 := Scalar.muli c4_i32_1336 arg29
  let c0_i32_1337 : BitVec 32 := 0#32
  let v2636 : BitVec 32 := Scalar.addi v2635 c0_i32_1337
  let c256_i32_1338 : BitVec 32 := 256#32
  let v2637 : BitVec 32 := Scalar.muli v2636 c256_i32_1338
  v2637
def k0_off154 (i : grid0.Coords) (k0_t2 : Fin (k0_t2_loop i).trips) (c0_i32_1337 : BitVec 32) : Fin 3 → Nat :=
  let c0_1339 : Index := 0#32
  let c4_i32_1336 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2635 : BitVec 32 := Scalar.muli c4_i32_1336 arg29
  let v2636 : BitVec 32 := Scalar.addi v2635 c0_i32_1337
  let c256_i32_1338 : BitVec 32 := 256#32
  let v2637 : BitVec 32 := Scalar.muli v2636 c256_i32_1338
  let v2638 : BitVec 32 := v2637
  let v2639 : Index := Scalar.indexCast v2638
  let c256_1340 : Index := 256#32
  ![0, v2639.toNat, 256]
def k0_mult54 (i : grid0.Coords) (k0_t2 : Fin (k0_t2_loop i).trips) : BitVec 32 :=
  let c4_i32_1353 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2658 : BitVec 32 := Scalar.muli c4_i32_1353 arg29
  let c1_i32_1354 : BitVec 32 := 1#32
  let v2659 : BitVec 32 := Scalar.addi v2658 c1_i32_1354
  let c256_i32_1355 : BitVec 32 := 256#32
  let v2660 : BitVec 32 := Scalar.muli v2659 c256_i32_1355
  v2660
def k0_mult55 (i : grid0.Coords) (k0_t2 : Fin (k0_t2_loop i).trips) : BitVec 32 :=
  let c4_i32_1370 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2681 : BitVec 32 := Scalar.muli c4_i32_1370 arg29
  let c2_i32_1371 : BitVec 32 := 2#32
  let v2682 : BitVec 32 := Scalar.addi v2681 c2_i32_1371
  let c256_i32_1372 : BitVec 32 := 256#32
  let v2683 : BitVec 32 := Scalar.muli v2682 c256_i32_1372
  v2683
def k0_mult56 (i : grid0.Coords) (k0_t2 : Fin (k0_t2_loop i).trips) : BitVec 32 :=
  let c4_i32_1387 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2704 : BitVec 32 := Scalar.muli c4_i32_1387 arg29
  let c3_i32_1388 : BitVec 32 := 3#32
  let v2705 : BitVec 32 := Scalar.addi v2704 c3_i32_1388
  let c256_i32_1389 : BitVec 32 := 256#32
  let v2706 : BitVec 32 := Scalar.muli v2705 c256_i32_1389
  v2706
def k0_mult57 (i : grid0.Coords) (k0_t2 : Fin (k0_t2_loop i).trips) : BitVec 32 :=
  let c4_i32_1404 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2727 : BitVec 32 := Scalar.muli c4_i32_1404 arg29
  let c0_i32_1405 : BitVec 32 := 0#32
  let v2728 : BitVec 32 := Scalar.addi v2727 c0_i32_1405
  let c256_i32_1406 : BitVec 32 := 256#32
  let v2729 : BitVec 32 := Scalar.muli v2728 c256_i32_1406
  v2729
def k0_mult58 (i : grid0.Coords) (k0_t2 : Fin (k0_t2_loop i).trips) : BitVec 32 :=
  let c4_i32_1421 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2750 : BitVec 32 := Scalar.muli c4_i32_1421 arg29
  let c1_i32_1422 : BitVec 32 := 1#32
  let v2751 : BitVec 32 := Scalar.addi v2750 c1_i32_1422
  let c256_i32_1423 : BitVec 32 := 256#32
  let v2752 : BitVec 32 := Scalar.muli v2751 c256_i32_1423
  v2752
def k0_mult59 (i : grid0.Coords) (k0_t2 : Fin (k0_t2_loop i).trips) : BitVec 32 :=
  let c4_i32_1438 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2773 : BitVec 32 := Scalar.muli c4_i32_1438 arg29
  let c2_i32_1439 : BitVec 32 := 2#32
  let v2774 : BitVec 32 := Scalar.addi v2773 c2_i32_1439
  let c256_i32_1440 : BitVec 32 := 256#32
  let v2775 : BitVec 32 := Scalar.muli v2774 c256_i32_1440
  v2775
def k0_mult60 (i : grid0.Coords) (k0_t2 : Fin (k0_t2_loop i).trips) : BitVec 32 :=
  let c4_i32_1455 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2796 : BitVec 32 := Scalar.muli c4_i32_1455 arg29
  let c3_i32_1456 : BitVec 32 := 3#32
  let v2797 : BitVec 32 := Scalar.addi v2796 c3_i32_1456
  let c256_i32_1457 : BitVec 32 := 256#32
  let v2798 : BitVec 32 := Scalar.muli v2797 c256_i32_1457
  v2798
def k0_mult61 (i : grid0.Coords) (k0_t2 : Fin (k0_t2_loop i).trips) : BitVec 32 :=
  let c4_i32_1472 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2819 : BitVec 32 := Scalar.muli c4_i32_1472 arg29
  let c0_i32_1473 : BitVec 32 := 0#32
  let v2820 : BitVec 32 := Scalar.addi v2819 c0_i32_1473
  let c256_i32_1474 : BitVec 32 := 256#32
  let v2821 : BitVec 32 := Scalar.muli v2820 c256_i32_1474
  v2821
def k0_off155 (i : grid0.Coords) (k0_t2 : Fin (k0_t2_loop i).trips) (c0_i32_1473 : BitVec 32) : Fin 3 → Nat :=
  let c0_1475 : Index := 0#32
  let c4_i32_1472 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2819 : BitVec 32 := Scalar.muli c4_i32_1472 arg29
  let v2820 : BitVec 32 := Scalar.addi v2819 c0_i32_1473
  let c256_i32_1474 : BitVec 32 := 256#32
  let v2821 : BitVec 32 := Scalar.muli v2820 c256_i32_1474
  let v2822 : BitVec 32 := v2821
  let v2823 : Index := Scalar.indexCast v2822
  let c384_1476 : Index := 384#32
  ![0, v2823.toNat, 384]
def k0_mult62 (i : grid0.Coords) (k0_t2 : Fin (k0_t2_loop i).trips) : BitVec 32 :=
  let c4_i32_1488 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2842 : BitVec 32 := Scalar.muli c4_i32_1488 arg29
  let c1_i32_1489 : BitVec 32 := 1#32
  let v2843 : BitVec 32 := Scalar.addi v2842 c1_i32_1489
  let c256_i32_1490 : BitVec 32 := 256#32
  let v2844 : BitVec 32 := Scalar.muli v2843 c256_i32_1490
  v2844
def k0_mult63 (i : grid0.Coords) (k0_t2 : Fin (k0_t2_loop i).trips) : BitVec 32 :=
  let c4_i32_1505 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2865 : BitVec 32 := Scalar.muli c4_i32_1505 arg29
  let c2_i32_1506 : BitVec 32 := 2#32
  let v2866 : BitVec 32 := Scalar.addi v2865 c2_i32_1506
  let c256_i32_1507 : BitVec 32 := 256#32
  let v2867 : BitVec 32 := Scalar.muli v2866 c256_i32_1507
  v2867
def k0_mult64 (i : grid0.Coords) (k0_t2 : Fin (k0_t2_loop i).trips) : BitVec 32 :=
  let c4_i32_1522 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2888 : BitVec 32 := Scalar.muli c4_i32_1522 arg29
  let c3_i32_1523 : BitVec 32 := 3#32
  let v2889 : BitVec 32 := Scalar.addi v2888 c3_i32_1523
  let c256_i32_1524 : BitVec 32 := 256#32
  let v2890 : BitVec 32 := Scalar.muli v2889 c256_i32_1524
  v2890
def k0_mult65 (i : grid0.Coords) (k0_t2 : Fin (k0_t2_loop i).trips) : BitVec 32 :=
  let c4_i32_1539 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2911 : BitVec 32 := Scalar.muli c4_i32_1539 arg29
  let c0_i32_1540 : BitVec 32 := 0#32
  let v2912 : BitVec 32 := Scalar.addi v2911 c0_i32_1540
  let c256_i32_1541 : BitVec 32 := 256#32
  let v2913 : BitVec 32 := Scalar.muli v2912 c256_i32_1541
  v2913
def k0_mult66 (i : grid0.Coords) (k0_t2 : Fin (k0_t2_loop i).trips) : BitVec 32 :=
  let c4_i32_1555 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2934 : BitVec 32 := Scalar.muli c4_i32_1555 arg29
  let c1_i32_1556 : BitVec 32 := 1#32
  let v2935 : BitVec 32 := Scalar.addi v2934 c1_i32_1556
  let c256_i32_1557 : BitVec 32 := 256#32
  let v2936 : BitVec 32 := Scalar.muli v2935 c256_i32_1557
  v2936
def k0_mult67 (i : grid0.Coords) (k0_t2 : Fin (k0_t2_loop i).trips) : BitVec 32 :=
  let c4_i32_1572 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2957 : BitVec 32 := Scalar.muli c4_i32_1572 arg29
  let c2_i32_1573 : BitVec 32 := 2#32
  let v2958 : BitVec 32 := Scalar.addi v2957 c2_i32_1573
  let c256_i32_1574 : BitVec 32 := 256#32
  let v2959 : BitVec 32 := Scalar.muli v2958 c256_i32_1574
  v2959
def k0_mult68 (i : grid0.Coords) (k0_t2 : Fin (k0_t2_loop i).trips) : BitVec 32 :=
  let c4_i32_1589 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v2980 : BitVec 32 := Scalar.muli c4_i32_1589 arg29
  let c3_i32_1590 : BitVec 32 := 3#32
  let v2981 : BitVec 32 := Scalar.addi v2980 c3_i32_1590
  let c256_i32_1591 : BitVec 32 := 256#32
  let v2982 : BitVec 32 := Scalar.muli v2981 c256_i32_1591
  v2982
def k0_mult69 (i : grid0.Coords) (k0_t2 : Fin (k0_t2_loop i).trips) : BitVec 32 :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let c256_i32_1608 : BitVec 32 := 256#32
  let v3005 : BitVec 32 := Scalar.muli v3004 c256_i32_1608
  v3005
def k0_off156 (i : grid0.Coords) (k0_t2 : Fin (k0_t2_loop i).trips) : Fin 3 → Nat :=
  let c0_1609 : Index := 0#32
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let c256_i32_1608 : BitVec 32 := 256#32
  let v3005 : BitVec 32 := Scalar.muli v3004 c256_i32_1608
  let v3006 : BitVec 32 := v3005
  let v3007 : Index := Scalar.indexCast v3006
  let c128_1610 : Index := 128#32
  ![0, v3007.toNat, 128]
def k0_off157 (i : grid0.Coords) (k0_t2 : Fin (k0_t2_loop i).trips) : Fin 3 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3041 : Index := Scalar.indexCast v3004
  let c0_1622 : Index := 0#32
  let c0_1623 : Index := 0#32
  ![v3041.toNat, 0, 0]
def k0_off158 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3799 : Index := Scalar.indexCast v3004
  let c0_1865 : Index := 0#32
  let c0_1866 : Index := 0#32
  let c0_1867 : Index := 0#32
  ![v3799.toNat, 0, 0, 0]
def k0_off159 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3803 : Index := Scalar.indexCast v3004
  let c1_1868 : Index := 1#32
  let c0_1869 : Index := 0#32
  let c0_1870 : Index := 0#32
  ![v3803.toNat, 1, 0, 0]
def k0_off160 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3807 : Index := Scalar.indexCast v3004
  let c2_1871 : Index := 2#32
  let c0_1872 : Index := 0#32
  let c0_1873 : Index := 0#32
  ![v3807.toNat, 2, 0, 0]
def k0_off161 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3811 : Index := Scalar.indexCast v3004
  let c3_1874 : Index := 3#32
  let c0_1875 : Index := 0#32
  let c0_1876 : Index := 0#32
  ![v3811.toNat, 3, 0, 0]
def k0_off162 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3815 : Index := Scalar.indexCast v3004
  let c4_1877 : Index := 4#32
  let c0_1878 : Index := 0#32
  let c0_1879 : Index := 0#32
  ![v3815.toNat, 4, 0, 0]
def k0_off163 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3819 : Index := Scalar.indexCast v3004
  let c5_1880 : Index := 5#32
  let c0_1881 : Index := 0#32
  let c0_1882 : Index := 0#32
  ![v3819.toNat, 5, 0, 0]
def k0_off164 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3823 : Index := Scalar.indexCast v3004
  let c6_1883 : Index := 6#32
  let c0_1884 : Index := 0#32
  let c0_1885 : Index := 0#32
  ![v3823.toNat, 6, 0, 0]
def k0_off165 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3827 : Index := Scalar.indexCast v3004
  let c7_1886 : Index := 7#32
  let c0_1887 : Index := 0#32
  let c0_1888 : Index := 0#32
  ![v3827.toNat, 7, 0, 0]
def k0_off166 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3831 : Index := Scalar.indexCast v3004
  let c8_1889 : Index := 8#32
  let c0_1890 : Index := 0#32
  let c0_1891 : Index := 0#32
  ![v3831.toNat, 8, 0, 0]
def k0_off167 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3835 : Index := Scalar.indexCast v3004
  let c9_1892 : Index := 9#32
  let c0_1893 : Index := 0#32
  let c0_1894 : Index := 0#32
  ![v3835.toNat, 9, 0, 0]
def k0_off168 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3839 : Index := Scalar.indexCast v3004
  let c10_1895 : Index := 10#32
  let c0_1896 : Index := 0#32
  let c0_1897 : Index := 0#32
  ![v3839.toNat, 10, 0, 0]
def k0_off169 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3843 : Index := Scalar.indexCast v3004
  let c11_1898 : Index := 11#32
  let c0_1899 : Index := 0#32
  let c0_1900 : Index := 0#32
  ![v3843.toNat, 11, 0, 0]
def k0_off170 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3847 : Index := Scalar.indexCast v3004
  let c12_1901 : Index := 12#32
  let c0_1902 : Index := 0#32
  let c0_1903 : Index := 0#32
  ![v3847.toNat, 12, 0, 0]
def k0_off171 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3851 : Index := Scalar.indexCast v3004
  let c13_1904 : Index := 13#32
  let c0_1905 : Index := 0#32
  let c0_1906 : Index := 0#32
  ![v3851.toNat, 13, 0, 0]
def k0_off172 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3855 : Index := Scalar.indexCast v3004
  let c14_1907 : Index := 14#32
  let c0_1908 : Index := 0#32
  let c0_1909 : Index := 0#32
  ![v3855.toNat, 14, 0, 0]
def k0_off173 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3859 : Index := Scalar.indexCast v3004
  let c15_1910 : Index := 15#32
  let c0_1911 : Index := 0#32
  let c0_1912 : Index := 0#32
  ![v3859.toNat, 15, 0, 0]
def k0_off174 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3863 : Index := Scalar.indexCast v3004
  let c16_1913 : Index := 16#32
  let c0_1914 : Index := 0#32
  let c0_1915 : Index := 0#32
  ![v3863.toNat, 16, 0, 0]
def k0_off175 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3867 : Index := Scalar.indexCast v3004
  let c17_1916 : Index := 17#32
  let c0_1917 : Index := 0#32
  let c0_1918 : Index := 0#32
  ![v3867.toNat, 17, 0, 0]
def k0_off176 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3871 : Index := Scalar.indexCast v3004
  let c18_1919 : Index := 18#32
  let c0_1920 : Index := 0#32
  let c0_1921 : Index := 0#32
  ![v3871.toNat, 18, 0, 0]
def k0_off177 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3875 : Index := Scalar.indexCast v3004
  let c19_1922 : Index := 19#32
  let c0_1923 : Index := 0#32
  let c0_1924 : Index := 0#32
  ![v3875.toNat, 19, 0, 0]
def k0_off178 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3879 : Index := Scalar.indexCast v3004
  let c20_1925 : Index := 20#32
  let c0_1926 : Index := 0#32
  let c0_1927 : Index := 0#32
  ![v3879.toNat, 20, 0, 0]
def k0_off179 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3883 : Index := Scalar.indexCast v3004
  let c21_1928 : Index := 21#32
  let c0_1929 : Index := 0#32
  let c0_1930 : Index := 0#32
  ![v3883.toNat, 21, 0, 0]
def k0_off180 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3887 : Index := Scalar.indexCast v3004
  let c22_1931 : Index := 22#32
  let c0_1932 : Index := 0#32
  let c0_1933 : Index := 0#32
  ![v3887.toNat, 22, 0, 0]
def k0_off181 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3891 : Index := Scalar.indexCast v3004
  let c23_1934 : Index := 23#32
  let c0_1935 : Index := 0#32
  let c0_1936 : Index := 0#32
  ![v3891.toNat, 23, 0, 0]
def k0_off182 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3895 : Index := Scalar.indexCast v3004
  let c24_1937 : Index := 24#32
  let c0_1938 : Index := 0#32
  let c0_1939 : Index := 0#32
  ![v3895.toNat, 24, 0, 0]
def k0_off183 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3899 : Index := Scalar.indexCast v3004
  let c25_1940 : Index := 25#32
  let c0_1941 : Index := 0#32
  let c0_1942 : Index := 0#32
  ![v3899.toNat, 25, 0, 0]
def k0_off184 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3903 : Index := Scalar.indexCast v3004
  let c26_1943 : Index := 26#32
  let c0_1944 : Index := 0#32
  let c0_1945 : Index := 0#32
  ![v3903.toNat, 26, 0, 0]
def k0_off185 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3907 : Index := Scalar.indexCast v3004
  let c27_1946 : Index := 27#32
  let c0_1947 : Index := 0#32
  let c0_1948 : Index := 0#32
  ![v3907.toNat, 27, 0, 0]
def k0_off186 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3911 : Index := Scalar.indexCast v3004
  let c28_1949 : Index := 28#32
  let c0_1950 : Index := 0#32
  let c0_1951 : Index := 0#32
  ![v3911.toNat, 28, 0, 0]
def k0_off187 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3915 : Index := Scalar.indexCast v3004
  let c29_1952 : Index := 29#32
  let c0_1953 : Index := 0#32
  let c0_1954 : Index := 0#32
  ![v3915.toNat, 29, 0, 0]
def k0_off188 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3919 : Index := Scalar.indexCast v3004
  let c30_1955 : Index := 30#32
  let c0_1956 : Index := 0#32
  let c0_1957 : Index := 0#32
  ![v3919.toNat, 30, 0, 0]
def k0_off189 (i : grid0.Coords) (k0_t2 : Fin (k0_t2_loop i).trips) : Fin 4 → Nat :=
  let c2_i32_1607 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3004 : BitVec 32 := Scalar.muli c2_i32_1607 v3003
  let v3923 : Index := Scalar.indexCast v3004
  let c31_1958 : Index := 31#32
  let c0_1959 : Index := 0#32
  let c0_1960 : Index := 0#32
  ![v3923.toNat, 31, 0, 0]
def k0_mult70 (i : grid0.Coords) (k0_t2 : Fin (k0_t2_loop i).trips) : BitVec 32 :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let c256_i32_1963 : BitVec 32 := 256#32
  let v3929 : BitVec 32 := Scalar.muli v3928 c256_i32_1963
  v3929
def k0_off190 (i : grid0.Coords) (k0_t2 : Fin (k0_t2_loop i).trips) : Fin 3 → Nat :=
  let c0_1964 : Index := 0#32
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let c256_i32_1963 : BitVec 32 := 256#32
  let v3929 : BitVec 32 := Scalar.muli v3928 c256_i32_1963
  let v3930 : BitVec 32 := v3929
  let v3931 : Index := Scalar.indexCast v3930
  let c128_1965 : Index := 128#32
  ![0, v3931.toNat, 128]
def k0_off191 (i : grid0.Coords) (k0_t2 : Fin (k0_t2_loop i).trips) : Fin 3 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v3965 : Index := Scalar.indexCast v3928
  let c0_1977 : Index := 0#32
  let c0_1978 : Index := 0#32
  ![v3965.toNat, 0, 0]
def k0_off192 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4723 : Index := Scalar.indexCast v3928
  let c0_2220 : Index := 0#32
  let c0_2221 : Index := 0#32
  let c0_2222 : Index := 0#32
  ![v4723.toNat, 0, 0, 0]
def k0_off193 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4727 : Index := Scalar.indexCast v3928
  let c1_2223 : Index := 1#32
  let c0_2224 : Index := 0#32
  let c0_2225 : Index := 0#32
  ![v4727.toNat, 1, 0, 0]
def k0_off194 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4731 : Index := Scalar.indexCast v3928
  let c2_2226 : Index := 2#32
  let c0_2227 : Index := 0#32
  let c0_2228 : Index := 0#32
  ![v4731.toNat, 2, 0, 0]
def k0_off195 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4735 : Index := Scalar.indexCast v3928
  let c3_2229 : Index := 3#32
  let c0_2230 : Index := 0#32
  let c0_2231 : Index := 0#32
  ![v4735.toNat, 3, 0, 0]
def k0_off196 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4739 : Index := Scalar.indexCast v3928
  let c4_2232 : Index := 4#32
  let c0_2233 : Index := 0#32
  let c0_2234 : Index := 0#32
  ![v4739.toNat, 4, 0, 0]
def k0_off197 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4743 : Index := Scalar.indexCast v3928
  let c5_2235 : Index := 5#32
  let c0_2236 : Index := 0#32
  let c0_2237 : Index := 0#32
  ![v4743.toNat, 5, 0, 0]
def k0_off198 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4747 : Index := Scalar.indexCast v3928
  let c6_2238 : Index := 6#32
  let c0_2239 : Index := 0#32
  let c0_2240 : Index := 0#32
  ![v4747.toNat, 6, 0, 0]
def k0_off199 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4751 : Index := Scalar.indexCast v3928
  let c7_2241 : Index := 7#32
  let c0_2242 : Index := 0#32
  let c0_2243 : Index := 0#32
  ![v4751.toNat, 7, 0, 0]
def k0_off200 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4755 : Index := Scalar.indexCast v3928
  let c8_2244 : Index := 8#32
  let c0_2245 : Index := 0#32
  let c0_2246 : Index := 0#32
  ![v4755.toNat, 8, 0, 0]
def k0_off201 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4759 : Index := Scalar.indexCast v3928
  let c9_2247 : Index := 9#32
  let c0_2248 : Index := 0#32
  let c0_2249 : Index := 0#32
  ![v4759.toNat, 9, 0, 0]
def k0_off202 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4763 : Index := Scalar.indexCast v3928
  let c10_2250 : Index := 10#32
  let c0_2251 : Index := 0#32
  let c0_2252 : Index := 0#32
  ![v4763.toNat, 10, 0, 0]
def k0_off203 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4767 : Index := Scalar.indexCast v3928
  let c11_2253 : Index := 11#32
  let c0_2254 : Index := 0#32
  let c0_2255 : Index := 0#32
  ![v4767.toNat, 11, 0, 0]
def k0_off204 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4771 : Index := Scalar.indexCast v3928
  let c12_2256 : Index := 12#32
  let c0_2257 : Index := 0#32
  let c0_2258 : Index := 0#32
  ![v4771.toNat, 12, 0, 0]
def k0_off205 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4775 : Index := Scalar.indexCast v3928
  let c13_2259 : Index := 13#32
  let c0_2260 : Index := 0#32
  let c0_2261 : Index := 0#32
  ![v4775.toNat, 13, 0, 0]
def k0_off206 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4779 : Index := Scalar.indexCast v3928
  let c14_2262 : Index := 14#32
  let c0_2263 : Index := 0#32
  let c0_2264 : Index := 0#32
  ![v4779.toNat, 14, 0, 0]
def k0_off207 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4783 : Index := Scalar.indexCast v3928
  let c15_2265 : Index := 15#32
  let c0_2266 : Index := 0#32
  let c0_2267 : Index := 0#32
  ![v4783.toNat, 15, 0, 0]
def k0_off208 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4787 : Index := Scalar.indexCast v3928
  let c16_2268 : Index := 16#32
  let c0_2269 : Index := 0#32
  let c0_2270 : Index := 0#32
  ![v4787.toNat, 16, 0, 0]
def k0_off209 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4791 : Index := Scalar.indexCast v3928
  let c17_2271 : Index := 17#32
  let c0_2272 : Index := 0#32
  let c0_2273 : Index := 0#32
  ![v4791.toNat, 17, 0, 0]
def k0_off210 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4795 : Index := Scalar.indexCast v3928
  let c18_2274 : Index := 18#32
  let c0_2275 : Index := 0#32
  let c0_2276 : Index := 0#32
  ![v4795.toNat, 18, 0, 0]
def k0_off211 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4799 : Index := Scalar.indexCast v3928
  let c19_2277 : Index := 19#32
  let c0_2278 : Index := 0#32
  let c0_2279 : Index := 0#32
  ![v4799.toNat, 19, 0, 0]
def k0_off212 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4803 : Index := Scalar.indexCast v3928
  let c20_2280 : Index := 20#32
  let c0_2281 : Index := 0#32
  let c0_2282 : Index := 0#32
  ![v4803.toNat, 20, 0, 0]
def k0_off213 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4807 : Index := Scalar.indexCast v3928
  let c21_2283 : Index := 21#32
  let c0_2284 : Index := 0#32
  let c0_2285 : Index := 0#32
  ![v4807.toNat, 21, 0, 0]
def k0_off214 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4811 : Index := Scalar.indexCast v3928
  let c22_2286 : Index := 22#32
  let c0_2287 : Index := 0#32
  let c0_2288 : Index := 0#32
  ![v4811.toNat, 22, 0, 0]
def k0_off215 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4815 : Index := Scalar.indexCast v3928
  let c23_2289 : Index := 23#32
  let c0_2290 : Index := 0#32
  let c0_2291 : Index := 0#32
  ![v4815.toNat, 23, 0, 0]
def k0_off216 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4819 : Index := Scalar.indexCast v3928
  let c24_2292 : Index := 24#32
  let c0_2293 : Index := 0#32
  let c0_2294 : Index := 0#32
  ![v4819.toNat, 24, 0, 0]
def k0_off217 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4823 : Index := Scalar.indexCast v3928
  let c25_2295 : Index := 25#32
  let c0_2296 : Index := 0#32
  let c0_2297 : Index := 0#32
  ![v4823.toNat, 25, 0, 0]
def k0_off218 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4827 : Index := Scalar.indexCast v3928
  let c26_2298 : Index := 26#32
  let c0_2299 : Index := 0#32
  let c0_2300 : Index := 0#32
  ![v4827.toNat, 26, 0, 0]
def k0_off219 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4831 : Index := Scalar.indexCast v3928
  let c27_2301 : Index := 27#32
  let c0_2302 : Index := 0#32
  let c0_2303 : Index := 0#32
  ![v4831.toNat, 27, 0, 0]
def k0_off220 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4835 : Index := Scalar.indexCast v3928
  let c28_2304 : Index := 28#32
  let c0_2305 : Index := 0#32
  let c0_2306 : Index := 0#32
  ![v4835.toNat, 28, 0, 0]
def k0_off221 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4839 : Index := Scalar.indexCast v3928
  let c29_2307 : Index := 29#32
  let c0_2308 : Index := 0#32
  let c0_2309 : Index := 0#32
  ![v4839.toNat, 29, 0, 0]
def k0_off222 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4843 : Index := Scalar.indexCast v3928
  let c30_2310 : Index := 30#32
  let c0_2311 : Index := 0#32
  let c0_2312 : Index := 0#32
  ![v4843.toNat, 30, 0, 0]
def k0_off223 (i : grid0.Coords) (k0_t2 : Fin (k0_t2_loop i).trips) : Fin 4 → Nat :=
  let c2_i32_1961 : BitVec 32 := 2#32
  let c2_i32_1606 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v3003 : BitVec 32 := Scalar.muli c2_i32_1606 arg29
  let v3927 : BitVec 32 := Scalar.muli c2_i32_1961 v3003
  let c1_i32_1962 : BitVec 32 := 1#32
  let v3928 : BitVec 32 := Scalar.addi v3927 c1_i32_1962
  let v4847 : Index := Scalar.indexCast v3928
  let c31_2313 : Index := 31#32
  let c0_2314 : Index := 0#32
  let c0_2315 : Index := 0#32
  ![v4847.toNat, 31, 0, 0]
def k0_mult71 (i : grid0.Coords) (k0_t2 : Fin (k0_t2_loop i).trips) : BitVec 32 :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let c256_i32_2319 : BitVec 32 := 256#32
  let v4854 : BitVec 32 := Scalar.muli v4853 c256_i32_2319
  v4854
def k0_off224 (i : grid0.Coords) (k0_t2 : Fin (k0_t2_loop i).trips) : Fin 3 → Nat :=
  let c0_2320 : Index := 0#32
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let c256_i32_2319 : BitVec 32 := 256#32
  let v4854 : BitVec 32 := Scalar.muli v4853 c256_i32_2319
  let v4855 : BitVec 32 := v4854
  let v4856 : Index := Scalar.indexCast v4855
  let c128_2321 : Index := 128#32
  ![0, v4856.toNat, 128]
def k0_off225 (i : grid0.Coords) (k0_t2 : Fin (k0_t2_loop i).trips) : Fin 3 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v4890 : Index := Scalar.indexCast v4853
  let c0_2333 : Index := 0#32
  let c0_2334 : Index := 0#32
  ![v4890.toNat, 0, 0]
def k0_off226 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5648 : Index := Scalar.indexCast v4853
  let c0_2576 : Index := 0#32
  let c0_2577 : Index := 0#32
  let c0_2578 : Index := 0#32
  ![v5648.toNat, 0, 0, 0]
def k0_off227 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5652 : Index := Scalar.indexCast v4853
  let c1_2579 : Index := 1#32
  let c0_2580 : Index := 0#32
  let c0_2581 : Index := 0#32
  ![v5652.toNat, 1, 0, 0]
def k0_off228 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5656 : Index := Scalar.indexCast v4853
  let c2_2582 : Index := 2#32
  let c0_2583 : Index := 0#32
  let c0_2584 : Index := 0#32
  ![v5656.toNat, 2, 0, 0]
def k0_off229 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5660 : Index := Scalar.indexCast v4853
  let c3_2585 : Index := 3#32
  let c0_2586 : Index := 0#32
  let c0_2587 : Index := 0#32
  ![v5660.toNat, 3, 0, 0]
def k0_off230 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5664 : Index := Scalar.indexCast v4853
  let c4_2588 : Index := 4#32
  let c0_2589 : Index := 0#32
  let c0_2590 : Index := 0#32
  ![v5664.toNat, 4, 0, 0]
def k0_off231 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5668 : Index := Scalar.indexCast v4853
  let c5_2591 : Index := 5#32
  let c0_2592 : Index := 0#32
  let c0_2593 : Index := 0#32
  ![v5668.toNat, 5, 0, 0]
def k0_off232 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5672 : Index := Scalar.indexCast v4853
  let c6_2594 : Index := 6#32
  let c0_2595 : Index := 0#32
  let c0_2596 : Index := 0#32
  ![v5672.toNat, 6, 0, 0]
def k0_off233 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5676 : Index := Scalar.indexCast v4853
  let c7_2597 : Index := 7#32
  let c0_2598 : Index := 0#32
  let c0_2599 : Index := 0#32
  ![v5676.toNat, 7, 0, 0]
def k0_off234 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5680 : Index := Scalar.indexCast v4853
  let c8_2600 : Index := 8#32
  let c0_2601 : Index := 0#32
  let c0_2602 : Index := 0#32
  ![v5680.toNat, 8, 0, 0]
def k0_off235 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5684 : Index := Scalar.indexCast v4853
  let c9_2603 : Index := 9#32
  let c0_2604 : Index := 0#32
  let c0_2605 : Index := 0#32
  ![v5684.toNat, 9, 0, 0]
def k0_off236 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5688 : Index := Scalar.indexCast v4853
  let c10_2606 : Index := 10#32
  let c0_2607 : Index := 0#32
  let c0_2608 : Index := 0#32
  ![v5688.toNat, 10, 0, 0]
def k0_off237 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5692 : Index := Scalar.indexCast v4853
  let c11_2609 : Index := 11#32
  let c0_2610 : Index := 0#32
  let c0_2611 : Index := 0#32
  ![v5692.toNat, 11, 0, 0]
def k0_off238 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5696 : Index := Scalar.indexCast v4853
  let c12_2612 : Index := 12#32
  let c0_2613 : Index := 0#32
  let c0_2614 : Index := 0#32
  ![v5696.toNat, 12, 0, 0]
def k0_off239 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5700 : Index := Scalar.indexCast v4853
  let c13_2615 : Index := 13#32
  let c0_2616 : Index := 0#32
  let c0_2617 : Index := 0#32
  ![v5700.toNat, 13, 0, 0]
def k0_off240 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5704 : Index := Scalar.indexCast v4853
  let c14_2618 : Index := 14#32
  let c0_2619 : Index := 0#32
  let c0_2620 : Index := 0#32
  ![v5704.toNat, 14, 0, 0]
def k0_off241 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5708 : Index := Scalar.indexCast v4853
  let c15_2621 : Index := 15#32
  let c0_2622 : Index := 0#32
  let c0_2623 : Index := 0#32
  ![v5708.toNat, 15, 0, 0]
def k0_off242 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5712 : Index := Scalar.indexCast v4853
  let c16_2624 : Index := 16#32
  let c0_2625 : Index := 0#32
  let c0_2626 : Index := 0#32
  ![v5712.toNat, 16, 0, 0]
def k0_off243 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5716 : Index := Scalar.indexCast v4853
  let c17_2627 : Index := 17#32
  let c0_2628 : Index := 0#32
  let c0_2629 : Index := 0#32
  ![v5716.toNat, 17, 0, 0]
def k0_off244 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5720 : Index := Scalar.indexCast v4853
  let c18_2630 : Index := 18#32
  let c0_2631 : Index := 0#32
  let c0_2632 : Index := 0#32
  ![v5720.toNat, 18, 0, 0]
def k0_off245 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5724 : Index := Scalar.indexCast v4853
  let c19_2633 : Index := 19#32
  let c0_2634 : Index := 0#32
  let c0_2635 : Index := 0#32
  ![v5724.toNat, 19, 0, 0]
def k0_off246 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5728 : Index := Scalar.indexCast v4853
  let c20_2636 : Index := 20#32
  let c0_2637 : Index := 0#32
  let c0_2638 : Index := 0#32
  ![v5728.toNat, 20, 0, 0]
def k0_off247 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5732 : Index := Scalar.indexCast v4853
  let c21_2639 : Index := 21#32
  let c0_2640 : Index := 0#32
  let c0_2641 : Index := 0#32
  ![v5732.toNat, 21, 0, 0]
def k0_off248 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5736 : Index := Scalar.indexCast v4853
  let c22_2642 : Index := 22#32
  let c0_2643 : Index := 0#32
  let c0_2644 : Index := 0#32
  ![v5736.toNat, 22, 0, 0]
def k0_off249 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5740 : Index := Scalar.indexCast v4853
  let c23_2645 : Index := 23#32
  let c0_2646 : Index := 0#32
  let c0_2647 : Index := 0#32
  ![v5740.toNat, 23, 0, 0]
def k0_off250 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5744 : Index := Scalar.indexCast v4853
  let c24_2648 : Index := 24#32
  let c0_2649 : Index := 0#32
  let c0_2650 : Index := 0#32
  ![v5744.toNat, 24, 0, 0]
def k0_off251 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5748 : Index := Scalar.indexCast v4853
  let c25_2651 : Index := 25#32
  let c0_2652 : Index := 0#32
  let c0_2653 : Index := 0#32
  ![v5748.toNat, 25, 0, 0]
def k0_off252 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5752 : Index := Scalar.indexCast v4853
  let c26_2654 : Index := 26#32
  let c0_2655 : Index := 0#32
  let c0_2656 : Index := 0#32
  ![v5752.toNat, 26, 0, 0]
def k0_off253 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5756 : Index := Scalar.indexCast v4853
  let c27_2657 : Index := 27#32
  let c0_2658 : Index := 0#32
  let c0_2659 : Index := 0#32
  ![v5756.toNat, 27, 0, 0]
def k0_off254 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5760 : Index := Scalar.indexCast v4853
  let c28_2660 : Index := 28#32
  let c0_2661 : Index := 0#32
  let c0_2662 : Index := 0#32
  ![v5760.toNat, 28, 0, 0]
def k0_off255 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5764 : Index := Scalar.indexCast v4853
  let c29_2663 : Index := 29#32
  let c0_2664 : Index := 0#32
  let c0_2665 : Index := 0#32
  ![v5764.toNat, 29, 0, 0]
def k0_off256 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5768 : Index := Scalar.indexCast v4853
  let c30_2666 : Index := 30#32
  let c0_2667 : Index := 0#32
  let c0_2668 : Index := 0#32
  ![v5768.toNat, 30, 0, 0]
def k0_off257 (i : grid0.Coords) (k0_t2 : Fin (k0_t2_loop i).trips) : Fin 4 → Nat :=
  let c2_i32_2318 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v4853 : BitVec 32 := Scalar.muli c2_i32_2318 v4852
  let v5772 : Index := Scalar.indexCast v4853
  let c31_2669 : Index := 31#32
  let c0_2670 : Index := 0#32
  let c0_2671 : Index := 0#32
  ![v5772.toNat, 31, 0, 0]
def k0_mult72 (i : grid0.Coords) (k0_t2 : Fin (k0_t2_loop i).trips) : BitVec 32 :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let c256_i32_2674 : BitVec 32 := 256#32
  let v5778 : BitVec 32 := Scalar.muli v5777 c256_i32_2674
  v5778
def k0_off258 (i : grid0.Coords) (k0_t2 : Fin (k0_t2_loop i).trips) : Fin 3 → Nat :=
  let c0_2675 : Index := 0#32
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let c256_i32_2674 : BitVec 32 := 256#32
  let v5778 : BitVec 32 := Scalar.muli v5777 c256_i32_2674
  let v5779 : BitVec 32 := v5778
  let v5780 : Index := Scalar.indexCast v5779
  let c128_2676 : Index := 128#32
  ![0, v5780.toNat, 128]
def k0_off259 (i : grid0.Coords) (k0_t2 : Fin (k0_t2_loop i).trips) : Fin 3 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v5814 : Index := Scalar.indexCast v5777
  let c0_2688 : Index := 0#32
  let c0_2689 : Index := 0#32
  ![v5814.toNat, 0, 0]
def k0_off260 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6572 : Index := Scalar.indexCast v5777
  let c0_2931 : Index := 0#32
  let c0_2932 : Index := 0#32
  let c0_2933 : Index := 0#32
  ![v6572.toNat, 0, 0, 0]
def k0_off261 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6576 : Index := Scalar.indexCast v5777
  let c1_2934 : Index := 1#32
  let c0_2935 : Index := 0#32
  let c0_2936 : Index := 0#32
  ![v6576.toNat, 1, 0, 0]
def k0_off262 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6580 : Index := Scalar.indexCast v5777
  let c2_2937 : Index := 2#32
  let c0_2938 : Index := 0#32
  let c0_2939 : Index := 0#32
  ![v6580.toNat, 2, 0, 0]
def k0_off263 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6584 : Index := Scalar.indexCast v5777
  let c3_2940 : Index := 3#32
  let c0_2941 : Index := 0#32
  let c0_2942 : Index := 0#32
  ![v6584.toNat, 3, 0, 0]
def k0_off264 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6588 : Index := Scalar.indexCast v5777
  let c4_2943 : Index := 4#32
  let c0_2944 : Index := 0#32
  let c0_2945 : Index := 0#32
  ![v6588.toNat, 4, 0, 0]
def k0_off265 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6592 : Index := Scalar.indexCast v5777
  let c5_2946 : Index := 5#32
  let c0_2947 : Index := 0#32
  let c0_2948 : Index := 0#32
  ![v6592.toNat, 5, 0, 0]
def k0_off266 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6596 : Index := Scalar.indexCast v5777
  let c6_2949 : Index := 6#32
  let c0_2950 : Index := 0#32
  let c0_2951 : Index := 0#32
  ![v6596.toNat, 6, 0, 0]
def k0_off267 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6600 : Index := Scalar.indexCast v5777
  let c7_2952 : Index := 7#32
  let c0_2953 : Index := 0#32
  let c0_2954 : Index := 0#32
  ![v6600.toNat, 7, 0, 0]
def k0_off268 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6604 : Index := Scalar.indexCast v5777
  let c8_2955 : Index := 8#32
  let c0_2956 : Index := 0#32
  let c0_2957 : Index := 0#32
  ![v6604.toNat, 8, 0, 0]
def k0_off269 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6608 : Index := Scalar.indexCast v5777
  let c9_2958 : Index := 9#32
  let c0_2959 : Index := 0#32
  let c0_2960 : Index := 0#32
  ![v6608.toNat, 9, 0, 0]
def k0_off270 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6612 : Index := Scalar.indexCast v5777
  let c10_2961 : Index := 10#32
  let c0_2962 : Index := 0#32
  let c0_2963 : Index := 0#32
  ![v6612.toNat, 10, 0, 0]
def k0_off271 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6616 : Index := Scalar.indexCast v5777
  let c11_2964 : Index := 11#32
  let c0_2965 : Index := 0#32
  let c0_2966 : Index := 0#32
  ![v6616.toNat, 11, 0, 0]
def k0_off272 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6620 : Index := Scalar.indexCast v5777
  let c12_2967 : Index := 12#32
  let c0_2968 : Index := 0#32
  let c0_2969 : Index := 0#32
  ![v6620.toNat, 12, 0, 0]
def k0_off273 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6624 : Index := Scalar.indexCast v5777
  let c13_2970 : Index := 13#32
  let c0_2971 : Index := 0#32
  let c0_2972 : Index := 0#32
  ![v6624.toNat, 13, 0, 0]
def k0_off274 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6628 : Index := Scalar.indexCast v5777
  let c14_2973 : Index := 14#32
  let c0_2974 : Index := 0#32
  let c0_2975 : Index := 0#32
  ![v6628.toNat, 14, 0, 0]
def k0_off275 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6632 : Index := Scalar.indexCast v5777
  let c15_2976 : Index := 15#32
  let c0_2977 : Index := 0#32
  let c0_2978 : Index := 0#32
  ![v6632.toNat, 15, 0, 0]
def k0_off276 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6636 : Index := Scalar.indexCast v5777
  let c16_2979 : Index := 16#32
  let c0_2980 : Index := 0#32
  let c0_2981 : Index := 0#32
  ![v6636.toNat, 16, 0, 0]
def k0_off277 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6640 : Index := Scalar.indexCast v5777
  let c17_2982 : Index := 17#32
  let c0_2983 : Index := 0#32
  let c0_2984 : Index := 0#32
  ![v6640.toNat, 17, 0, 0]
def k0_off278 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6644 : Index := Scalar.indexCast v5777
  let c18_2985 : Index := 18#32
  let c0_2986 : Index := 0#32
  let c0_2987 : Index := 0#32
  ![v6644.toNat, 18, 0, 0]
def k0_off279 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6648 : Index := Scalar.indexCast v5777
  let c19_2988 : Index := 19#32
  let c0_2989 : Index := 0#32
  let c0_2990 : Index := 0#32
  ![v6648.toNat, 19, 0, 0]
def k0_off280 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6652 : Index := Scalar.indexCast v5777
  let c20_2991 : Index := 20#32
  let c0_2992 : Index := 0#32
  let c0_2993 : Index := 0#32
  ![v6652.toNat, 20, 0, 0]
def k0_off281 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6656 : Index := Scalar.indexCast v5777
  let c21_2994 : Index := 21#32
  let c0_2995 : Index := 0#32
  let c0_2996 : Index := 0#32
  ![v6656.toNat, 21, 0, 0]
def k0_off282 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6660 : Index := Scalar.indexCast v5777
  let c22_2997 : Index := 22#32
  let c0_2998 : Index := 0#32
  let c0_2999 : Index := 0#32
  ![v6660.toNat, 22, 0, 0]
def k0_off283 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6664 : Index := Scalar.indexCast v5777
  let c23_3000 : Index := 23#32
  let c0_3001 : Index := 0#32
  let c0_3002 : Index := 0#32
  ![v6664.toNat, 23, 0, 0]
def k0_off284 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6668 : Index := Scalar.indexCast v5777
  let c24_3003 : Index := 24#32
  let c0_3004 : Index := 0#32
  let c0_3005 : Index := 0#32
  ![v6668.toNat, 24, 0, 0]
def k0_off285 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6672 : Index := Scalar.indexCast v5777
  let c25_3006 : Index := 25#32
  let c0_3007 : Index := 0#32
  let c0_3008 : Index := 0#32
  ![v6672.toNat, 25, 0, 0]
def k0_off286 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6676 : Index := Scalar.indexCast v5777
  let c26_3009 : Index := 26#32
  let c0_3010 : Index := 0#32
  let c0_3011 : Index := 0#32
  ![v6676.toNat, 26, 0, 0]
def k0_off287 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6680 : Index := Scalar.indexCast v5777
  let c27_3012 : Index := 27#32
  let c0_3013 : Index := 0#32
  let c0_3014 : Index := 0#32
  ![v6680.toNat, 27, 0, 0]
def k0_off288 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6684 : Index := Scalar.indexCast v5777
  let c28_3015 : Index := 28#32
  let c0_3016 : Index := 0#32
  let c0_3017 : Index := 0#32
  ![v6684.toNat, 28, 0, 0]
def k0_off289 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6688 : Index := Scalar.indexCast v5777
  let c29_3018 : Index := 29#32
  let c0_3019 : Index := 0#32
  let c0_3020 : Index := 0#32
  ![v6688.toNat, 29, 0, 0]
def k0_off290 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6692 : Index := Scalar.indexCast v5777
  let c30_3021 : Index := 30#32
  let c0_3022 : Index := 0#32
  let c0_3023 : Index := 0#32
  ![v6692.toNat, 30, 0, 0]
def k0_off291 (i : grid0.Coords) (k0_t2 : Fin (k0_t2_loop i).trips) : Fin 4 → Nat :=
  let c2_i32_2672 : BitVec 32 := 2#32
  let c2_i32_2316 : BitVec 32 := 2#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v4851 : BitVec 32 := Scalar.muli c2_i32_2316 arg29
  let c1_i32_2317 : BitVec 32 := 1#32
  let v4852 : BitVec 32 := Scalar.addi v4851 c1_i32_2317
  let v5776 : BitVec 32 := Scalar.muli c2_i32_2672 v4852
  let c1_i32_2673 : BitVec 32 := 1#32
  let v5777 : BitVec 32 := Scalar.addi v5776 c1_i32_2673
  let v6696 : Index := Scalar.indexCast v5777
  let c31_3024 : Index := 31#32
  let c0_3025 : Index := 0#32
  let c0_3026 : Index := 0#32
  ![v6696.toNat, 31, 0, 0]
def k0_off292 (i : grid0.Coords) (k0_t2 : Fin (k0_t2_loop i).trips) (c0_i32_3028 : BitVec 32) : Fin 4 → Nat :=
  let c0_3032 : Index := 0#32
  let c4_i32_3027 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v6700 : BitVec 32 := Scalar.muli c4_i32_3027 arg29
  let v6701 : BitVec 32 := Scalar.addi v6700 c0_i32_3028
  let v6704 : Index := Scalar.indexCast v6701
  let c0_3033 : Index := 0#32
  let c0_3034 : Index := 0#32
  ![0, v6704.toNat, 0, 0]
def k0_off293 (i : grid0.Coords) (k0_t2 : Fin (k0_t2_loop i).trips) (c0_i32_3082 : BitVec 32) : Fin 4 → Nat :=
  let c0_3086 : Index := 0#32
  let c4_i32_3081 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v6781 : BitVec 32 := Scalar.muli c4_i32_3081 arg29
  let v6782 : BitVec 32 := Scalar.addi v6781 c0_i32_3082
  let v6785 : Index := Scalar.indexCast v6782
  let c80 : Index := 80#32
  let c0_3087 : Index := 0#32
  ![0, v6785.toNat, 80, 0]
def k0_off294 (i : grid0.Coords) (k0_t2 : Fin (k0_t2_loop i).trips) (c0_i32_3135 : BitVec 32) : Fin 4 → Nat :=
  let c0_3139 : Index := 0#32
  let c4_i32_3134 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v6862 : BitVec 32 := Scalar.muli c4_i32_3134 arg29
  let v6863 : BitVec 32 := Scalar.addi v6862 c0_i32_3135
  let v6866 : Index := Scalar.indexCast v6863
  let c160 : Index := 160#32
  let c0_3140 : Index := 0#32
  ![0, v6866.toNat, 160, 0]
def k0_off295 (i : grid0.Coords) (k0_t2 : Fin (k0_t2_loop i).trips) (c0_i32_3188 : BitVec 32) : Fin 4 → Nat :=
  let c0_3192 : Index := 0#32
  let c4_i32_3187 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v6943 : BitVec 32 := Scalar.muli c4_i32_3187 arg29
  let v6944 : BitVec 32 := Scalar.addi v6943 c0_i32_3188
  let v6947 : Index := Scalar.indexCast v6944
  let c240 : Index := 240#32
  let c0_3193 : Index := 0#32
  ![0, v6947.toNat, 240, 0]
def k0_off296 (i : grid0.Coords) (k0_t2 : Fin (k0_t2_loop i).trips) (c0_i32_3241 : BitVec 32) : Fin 4 → Nat :=
  let c0_3245 : Index := 0#32
  let c4_i32_3240 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v7024 : BitVec 32 := Scalar.muli c4_i32_3240 arg29
  let v7025 : BitVec 32 := Scalar.addi v7024 c0_i32_3241
  let v7028 : Index := Scalar.indexCast v7025
  let c320 : Index := 320#32
  let c0_3246 : Index := 0#32
  ![0, v7028.toNat, 320, 0]
def k0_off297 (i : grid0.Coords) (k0_t2 : Fin (k0_t2_loop i).trips) (c0_i32_3294 : BitVec 32) : Fin 4 → Nat :=
  let c0_3298 : Index := 0#32
  let c4_i32_3293 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v7105 : BitVec 32 := Scalar.muli c4_i32_3293 arg29
  let v7106 : BitVec 32 := Scalar.addi v7105 c0_i32_3294
  let v7109 : Index := Scalar.indexCast v7106
  let c400 : Index := 400#32
  let c0_3299 : Index := 0#32
  ![0, v7109.toNat, 400, 0]
def k0_off298 (i : grid0.Coords) (k0_t2 : Fin (k0_t2_loop i).trips) (c0_i32_3347 : BitVec 32) : Fin 4 → Nat :=
  let c0_3351 : Index := 0#32
  let c4_i32_3346 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v7186 : BitVec 32 := Scalar.muli c4_i32_3346 arg29
  let v7187 : BitVec 32 := Scalar.addi v7186 c0_i32_3347
  let v7190 : Index := Scalar.indexCast v7187
  let c480 : Index := 480#32
  let c0_3352 : Index := 0#32
  ![0, v7190.toNat, 480, 0]
def k0_off299 (i : grid0.Coords) (k0_t2 : Fin (k0_t2_loop i).trips) (c0_i32_3400 : BitVec 32) : Fin 4 → Nat :=
  let c0_3404 : Index := 0#32
  let c4_i32_3399 : BitVec 32 := 4#32
  let c0_i32_1051 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2251 : BitVec 32 := Scalar.subi v2250 c0_i32_1051
  let c1_i32_1052 : BitVec 32 := 1#32
  let v2253 : BitVec 32 := Scalar.divsi v2251 c1_i32_1052
  let v2254 : BitVec 32 := Scalar.muli v2253 c1_i32_1052
  let v2255 : BitVec 32 := Scalar.addi c0_i32_1051 v2254
  let c1_i32_1054 : BitVec 32 := 1#32
  let arg29 : BitVec 32 := Scf.iv v2255 c1_i32_1054 k0_t2
  let v7267 : BitVec 32 := Scalar.muli c4_i32_3399 arg29
  let v7268 : BitVec 32 := Scalar.addi v7267 c0_i32_3400
  let v7271 : Index := Scalar.indexCast v7268
  let c560 : Index := 560#32
  let c0_3405 : Index := 0#32
  ![0, v7271.toNat, 560, 0]
@[reducible] def k0_t3_loop (i : grid0.Coords) : Scf.Loop 32 :=
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1058 : BitVec 32 := 1#32
  ⟨v2256, v2261, c1_i32_1058⟩
def k0_mult73 (i : grid0.Coords) (k0_t3 : Fin (k0_t3_loop i).trips) : BitVec 32 :=
  let c2_i32_1064 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2267 : BitVec 32 := Scalar.muli c2_i32_1064 arg29
  let c0_i32_1065 : BitVec 32 := 0#32
  let v2268 : BitVec 32 := Scalar.addi v2267 c0_i32_1065
  let c256_i32_1066 : BitVec 32 := 256#32
  let v2269 : BitVec 32 := Scalar.muli v2268 c256_i32_1066
  v2269
def k0_off300 (i : grid0.Coords) (k0_t3 : Fin (k0_t3_loop i).trips) (c0_i32_1065 : BitVec 32) : Fin 3 → Nat :=
  let c0_1067 : Index := 0#32
  let c2_i32_1064 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2267 : BitVec 32 := Scalar.muli c2_i32_1064 arg29
  let v2268 : BitVec 32 := Scalar.addi v2267 c0_i32_1065
  let c256_i32_1066 : BitVec 32 := 256#32
  let v2269 : BitVec 32 := Scalar.muli v2268 c256_i32_1066
  let v2270 : BitVec 32 := v2269
  let v2271 : Index := Scalar.indexCast v2270
  let c0_1068 : Index := 0#32
  ![0, v2271.toNat, 0]
def k0_off301 (i : grid0.Coords) (k0_t3 : Fin (k0_t3_loop i).trips) (c0_i32_1075 : BitVec 32) (c0_i32_1065 : BitVec 32) : Fin 3 → Nat :=
  let c2_i32_1074 : BitVec 32 := 2#32
  let c0_i32_1073 : BitVec 32 := 0#32
  let arg1 : BitVec 32 := BitVec.ofNat 32 (i 1).val
  let c2_i32_1064 : BitVec 32 := 2#32
  let c2_i32_1055 : BitVec 32 := 2#32
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2267 : BitVec 32 := Scalar.muli c2_i32_1064 arg29
  let v2268 : BitVec 32 := Scalar.addi v2267 c0_i32_1065
  let v2277 : BitVec 32 := Scalar.subi arg1 v2268
  let v2278 : BitVec 32 := Scalar.maxsi c0_i32_1073 v2277
  let v2279 : BitVec 32 := Scalar.minsi c2_i32_1074 v2278
  let v2280 : BitVec 32 := Scalar.addi c0_i32_1075 v2279
  let v2281 : Index := Scalar.indexCast v2280
  let c0_1076 : Index := 0#32
  let c0_1077 : Index := 0#32
  ![v2281.toNat, 0, 0]
def k0_mult74 (i : grid0.Coords) (k0_t3 : Fin (k0_t3_loop i).trips) : BitVec 32 :=
  let c2_i32_1081 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2290 : BitVec 32 := Scalar.muli c2_i32_1081 arg29
  let c1_i32_1082 : BitVec 32 := 1#32
  let v2291 : BitVec 32 := Scalar.addi v2290 c1_i32_1082
  let c256_i32_1083 : BitVec 32 := 256#32
  let v2292 : BitVec 32 := Scalar.muli v2291 c256_i32_1083
  v2292
def k0_mult75 (i : grid0.Coords) (k0_t3 : Fin (k0_t3_loop i).trips) : BitVec 32 :=
  let c2_i32_1098 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2313 : BitVec 32 := Scalar.muli c2_i32_1098 arg29
  let c0_i32_1099 : BitVec 32 := 0#32
  let v2314 : BitVec 32 := Scalar.addi v2313 c0_i32_1099
  let c256_i32_1100 : BitVec 32 := 256#32
  let v2315 : BitVec 32 := Scalar.muli v2314 c256_i32_1100
  v2315
def k0_mult76 (i : grid0.Coords) (k0_t3 : Fin (k0_t3_loop i).trips) : BitVec 32 :=
  let c2_i32_1115 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2336 : BitVec 32 := Scalar.muli c2_i32_1115 arg29
  let c1_i32_1116 : BitVec 32 := 1#32
  let v2337 : BitVec 32 := Scalar.addi v2336 c1_i32_1116
  let c256_i32_1117 : BitVec 32 := 256#32
  let v2338 : BitVec 32 := Scalar.muli v2337 c256_i32_1117
  v2338
def k0_mult77 (i : grid0.Coords) (k0_t3 : Fin (k0_t3_loop i).trips) : BitVec 32 :=
  let c2_i32_1132 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2359 : BitVec 32 := Scalar.muli c2_i32_1132 arg29
  let c0_i32_1133 : BitVec 32 := 0#32
  let v2360 : BitVec 32 := Scalar.addi v2359 c0_i32_1133
  let c256_i32_1134 : BitVec 32 := 256#32
  let v2361 : BitVec 32 := Scalar.muli v2360 c256_i32_1134
  v2361
def k0_off302 (i : grid0.Coords) (k0_t3 : Fin (k0_t3_loop i).trips) (c0_i32_1133 : BitVec 32) : Fin 3 → Nat :=
  let c0_1135 : Index := 0#32
  let c2_i32_1132 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2359 : BitVec 32 := Scalar.muli c2_i32_1132 arg29
  let v2360 : BitVec 32 := Scalar.addi v2359 c0_i32_1133
  let c256_i32_1134 : BitVec 32 := 256#32
  let v2361 : BitVec 32 := Scalar.muli v2360 c256_i32_1134
  let v2362 : BitVec 32 := v2361
  let v2363 : Index := Scalar.indexCast v2362
  let c128_1136 : Index := 128#32
  ![0, v2363.toNat, 128]
def k0_mult78 (i : grid0.Coords) (k0_t3 : Fin (k0_t3_loop i).trips) : BitVec 32 :=
  let c2_i32_1149 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2382 : BitVec 32 := Scalar.muli c2_i32_1149 arg29
  let c1_i32_1150 : BitVec 32 := 1#32
  let v2383 : BitVec 32 := Scalar.addi v2382 c1_i32_1150
  let c256_i32_1151 : BitVec 32 := 256#32
  let v2384 : BitVec 32 := Scalar.muli v2383 c256_i32_1151
  v2384
def k0_mult79 (i : grid0.Coords) (k0_t3 : Fin (k0_t3_loop i).trips) : BitVec 32 :=
  let c2_i32_1166 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2405 : BitVec 32 := Scalar.muli c2_i32_1166 arg29
  let c0_i32_1167 : BitVec 32 := 0#32
  let v2406 : BitVec 32 := Scalar.addi v2405 c0_i32_1167
  let c256_i32_1168 : BitVec 32 := 256#32
  let v2407 : BitVec 32 := Scalar.muli v2406 c256_i32_1168
  v2407
def k0_mult80 (i : grid0.Coords) (k0_t3 : Fin (k0_t3_loop i).trips) : BitVec 32 :=
  let c2_i32_1183 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2428 : BitVec 32 := Scalar.muli c2_i32_1183 arg29
  let c1_i32_1184 : BitVec 32 := 1#32
  let v2429 : BitVec 32 := Scalar.addi v2428 c1_i32_1184
  let c256_i32_1185 : BitVec 32 := 256#32
  let v2430 : BitVec 32 := Scalar.muli v2429 c256_i32_1185
  v2430
def k0_mult81 (i : grid0.Coords) (k0_t3 : Fin (k0_t3_loop i).trips) : BitVec 32 :=
  let c2_i32_1200 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2451 : BitVec 32 := Scalar.muli c2_i32_1200 arg29
  let c0_i32_1201 : BitVec 32 := 0#32
  let v2452 : BitVec 32 := Scalar.addi v2451 c0_i32_1201
  let c256_i32_1202 : BitVec 32 := 256#32
  let v2453 : BitVec 32 := Scalar.muli v2452 c256_i32_1202
  v2453
def k0_off303 (i : grid0.Coords) (k0_t3 : Fin (k0_t3_loop i).trips) (c0_i32_1201 : BitVec 32) : Fin 3 → Nat :=
  let c0_1203 : Index := 0#32
  let c2_i32_1200 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2451 : BitVec 32 := Scalar.muli c2_i32_1200 arg29
  let v2452 : BitVec 32 := Scalar.addi v2451 c0_i32_1201
  let c256_i32_1202 : BitVec 32 := 256#32
  let v2453 : BitVec 32 := Scalar.muli v2452 c256_i32_1202
  let v2454 : BitVec 32 := v2453
  let v2455 : Index := Scalar.indexCast v2454
  let c256_1204 : Index := 256#32
  ![0, v2455.toNat, 256]
def k0_mult82 (i : grid0.Coords) (k0_t3 : Fin (k0_t3_loop i).trips) : BitVec 32 :=
  let c2_i32_1217 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2474 : BitVec 32 := Scalar.muli c2_i32_1217 arg29
  let c1_i32_1218 : BitVec 32 := 1#32
  let v2475 : BitVec 32 := Scalar.addi v2474 c1_i32_1218
  let c256_i32_1219 : BitVec 32 := 256#32
  let v2476 : BitVec 32 := Scalar.muli v2475 c256_i32_1219
  v2476
def k0_mult83 (i : grid0.Coords) (k0_t3 : Fin (k0_t3_loop i).trips) : BitVec 32 :=
  let c2_i32_1234 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2497 : BitVec 32 := Scalar.muli c2_i32_1234 arg29
  let c0_i32_1235 : BitVec 32 := 0#32
  let v2498 : BitVec 32 := Scalar.addi v2497 c0_i32_1235
  let c256_i32_1236 : BitVec 32 := 256#32
  let v2499 : BitVec 32 := Scalar.muli v2498 c256_i32_1236
  v2499
def k0_mult84 (i : grid0.Coords) (k0_t3 : Fin (k0_t3_loop i).trips) : BitVec 32 :=
  let c2_i32_1251 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2520 : BitVec 32 := Scalar.muli c2_i32_1251 arg29
  let c1_i32_1252 : BitVec 32 := 1#32
  let v2521 : BitVec 32 := Scalar.addi v2520 c1_i32_1252
  let c256_i32_1253 : BitVec 32 := 256#32
  let v2522 : BitVec 32 := Scalar.muli v2521 c256_i32_1253
  v2522
def k0_mult85 (i : grid0.Coords) (k0_t3 : Fin (k0_t3_loop i).trips) : BitVec 32 :=
  let c2_i32_1268 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2543 : BitVec 32 := Scalar.muli c2_i32_1268 arg29
  let c0_i32_1269 : BitVec 32 := 0#32
  let v2544 : BitVec 32 := Scalar.addi v2543 c0_i32_1269
  let c256_i32_1270 : BitVec 32 := 256#32
  let v2545 : BitVec 32 := Scalar.muli v2544 c256_i32_1270
  v2545
def k0_off304 (i : grid0.Coords) (k0_t3 : Fin (k0_t3_loop i).trips) (c0_i32_1269 : BitVec 32) : Fin 3 → Nat :=
  let c0_1271 : Index := 0#32
  let c2_i32_1268 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2543 : BitVec 32 := Scalar.muli c2_i32_1268 arg29
  let v2544 : BitVec 32 := Scalar.addi v2543 c0_i32_1269
  let c256_i32_1270 : BitVec 32 := 256#32
  let v2545 : BitVec 32 := Scalar.muli v2544 c256_i32_1270
  let v2546 : BitVec 32 := v2545
  let v2547 : Index := Scalar.indexCast v2546
  let c384_1272 : Index := 384#32
  ![0, v2547.toNat, 384]
def k0_mult86 (i : grid0.Coords) (k0_t3 : Fin (k0_t3_loop i).trips) : BitVec 32 :=
  let c2_i32_1284 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2566 : BitVec 32 := Scalar.muli c2_i32_1284 arg29
  let c1_i32_1285 : BitVec 32 := 1#32
  let v2567 : BitVec 32 := Scalar.addi v2566 c1_i32_1285
  let c256_i32_1286 : BitVec 32 := 256#32
  let v2568 : BitVec 32 := Scalar.muli v2567 c256_i32_1286
  v2568
def k0_mult87 (i : grid0.Coords) (k0_t3 : Fin (k0_t3_loop i).trips) : BitVec 32 :=
  let c2_i32_1301 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2589 : BitVec 32 := Scalar.muli c2_i32_1301 arg29
  let c0_i32_1302 : BitVec 32 := 0#32
  let v2590 : BitVec 32 := Scalar.addi v2589 c0_i32_1302
  let c256_i32_1303 : BitVec 32 := 256#32
  let v2591 : BitVec 32 := Scalar.muli v2590 c256_i32_1303
  v2591
def k0_mult88 (i : grid0.Coords) (k0_t3 : Fin (k0_t3_loop i).trips) : BitVec 32 :=
  let c2_i32_1317 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2612 : BitVec 32 := Scalar.muli c2_i32_1317 arg29
  let c1_i32_1318 : BitVec 32 := 1#32
  let v2613 : BitVec 32 := Scalar.addi v2612 c1_i32_1318
  let c256_i32_1319 : BitVec 32 := 256#32
  let v2614 : BitVec 32 := Scalar.muli v2613 c256_i32_1319
  v2614
def k0_mult89 (i : grid0.Coords) (k0_t3 : Fin (k0_t3_loop i).trips) : BitVec 32 :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let c256_i32_1335 : BitVec 32 := 256#32
  let v2636 : BitVec 32 := Scalar.muli v2635 c256_i32_1335
  v2636
def k0_off305 (i : grid0.Coords) (k0_t3 : Fin (k0_t3_loop i).trips) : Fin 3 → Nat :=
  let c0_1336 : Index := 0#32
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let c256_i32_1335 : BitVec 32 := 256#32
  let v2636 : BitVec 32 := Scalar.muli v2635 c256_i32_1335
  let v2637 : BitVec 32 := v2636
  let v2638 : Index := Scalar.indexCast v2637
  let c128_1337 : Index := 128#32
  ![0, v2638.toNat, 128]
def k0_off306 (i : grid0.Coords) (k0_t3 : Fin (k0_t3_loop i).trips) : Fin 3 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v2672 : Index := Scalar.indexCast v2635
  let c0_1349 : Index := 0#32
  let c0_1350 : Index := 0#32
  ![v2672.toNat, 0, 0]
def k0_off307 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3430 : Index := Scalar.indexCast v2635
  let c0_1592 : Index := 0#32
  let c0_1593 : Index := 0#32
  let c0_1594 : Index := 0#32
  ![v3430.toNat, 0, 0, 0]
def k0_off308 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3434 : Index := Scalar.indexCast v2635
  let c1_1595 : Index := 1#32
  let c0_1596 : Index := 0#32
  let c0_1597 : Index := 0#32
  ![v3434.toNat, 1, 0, 0]
def k0_off309 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3438 : Index := Scalar.indexCast v2635
  let c2_1598 : Index := 2#32
  let c0_1599 : Index := 0#32
  let c0_1600 : Index := 0#32
  ![v3438.toNat, 2, 0, 0]
def k0_off310 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3442 : Index := Scalar.indexCast v2635
  let c3_1601 : Index := 3#32
  let c0_1602 : Index := 0#32
  let c0_1603 : Index := 0#32
  ![v3442.toNat, 3, 0, 0]
def k0_off311 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3446 : Index := Scalar.indexCast v2635
  let c4_1604 : Index := 4#32
  let c0_1605 : Index := 0#32
  let c0_1606 : Index := 0#32
  ![v3446.toNat, 4, 0, 0]
def k0_off312 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3450 : Index := Scalar.indexCast v2635
  let c5_1607 : Index := 5#32
  let c0_1608 : Index := 0#32
  let c0_1609 : Index := 0#32
  ![v3450.toNat, 5, 0, 0]
def k0_off313 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3454 : Index := Scalar.indexCast v2635
  let c6_1610 : Index := 6#32
  let c0_1611 : Index := 0#32
  let c0_1612 : Index := 0#32
  ![v3454.toNat, 6, 0, 0]
def k0_off314 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3458 : Index := Scalar.indexCast v2635
  let c7_1613 : Index := 7#32
  let c0_1614 : Index := 0#32
  let c0_1615 : Index := 0#32
  ![v3458.toNat, 7, 0, 0]
def k0_off315 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3462 : Index := Scalar.indexCast v2635
  let c8_1616 : Index := 8#32
  let c0_1617 : Index := 0#32
  let c0_1618 : Index := 0#32
  ![v3462.toNat, 8, 0, 0]
def k0_off316 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3466 : Index := Scalar.indexCast v2635
  let c9_1619 : Index := 9#32
  let c0_1620 : Index := 0#32
  let c0_1621 : Index := 0#32
  ![v3466.toNat, 9, 0, 0]
def k0_off317 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3470 : Index := Scalar.indexCast v2635
  let c10_1622 : Index := 10#32
  let c0_1623 : Index := 0#32
  let c0_1624 : Index := 0#32
  ![v3470.toNat, 10, 0, 0]
def k0_off318 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3474 : Index := Scalar.indexCast v2635
  let c11_1625 : Index := 11#32
  let c0_1626 : Index := 0#32
  let c0_1627 : Index := 0#32
  ![v3474.toNat, 11, 0, 0]
def k0_off319 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3478 : Index := Scalar.indexCast v2635
  let c12_1628 : Index := 12#32
  let c0_1629 : Index := 0#32
  let c0_1630 : Index := 0#32
  ![v3478.toNat, 12, 0, 0]
def k0_off320 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3482 : Index := Scalar.indexCast v2635
  let c13_1631 : Index := 13#32
  let c0_1632 : Index := 0#32
  let c0_1633 : Index := 0#32
  ![v3482.toNat, 13, 0, 0]
def k0_off321 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3486 : Index := Scalar.indexCast v2635
  let c14_1634 : Index := 14#32
  let c0_1635 : Index := 0#32
  let c0_1636 : Index := 0#32
  ![v3486.toNat, 14, 0, 0]
def k0_off322 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3490 : Index := Scalar.indexCast v2635
  let c15_1637 : Index := 15#32
  let c0_1638 : Index := 0#32
  let c0_1639 : Index := 0#32
  ![v3490.toNat, 15, 0, 0]
def k0_off323 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3494 : Index := Scalar.indexCast v2635
  let c16_1640 : Index := 16#32
  let c0_1641 : Index := 0#32
  let c0_1642 : Index := 0#32
  ![v3494.toNat, 16, 0, 0]
def k0_off324 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3498 : Index := Scalar.indexCast v2635
  let c17_1643 : Index := 17#32
  let c0_1644 : Index := 0#32
  let c0_1645 : Index := 0#32
  ![v3498.toNat, 17, 0, 0]
def k0_off325 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3502 : Index := Scalar.indexCast v2635
  let c18_1646 : Index := 18#32
  let c0_1647 : Index := 0#32
  let c0_1648 : Index := 0#32
  ![v3502.toNat, 18, 0, 0]
def k0_off326 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3506 : Index := Scalar.indexCast v2635
  let c19_1649 : Index := 19#32
  let c0_1650 : Index := 0#32
  let c0_1651 : Index := 0#32
  ![v3506.toNat, 19, 0, 0]
def k0_off327 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3510 : Index := Scalar.indexCast v2635
  let c20_1652 : Index := 20#32
  let c0_1653 : Index := 0#32
  let c0_1654 : Index := 0#32
  ![v3510.toNat, 20, 0, 0]
def k0_off328 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3514 : Index := Scalar.indexCast v2635
  let c21_1655 : Index := 21#32
  let c0_1656 : Index := 0#32
  let c0_1657 : Index := 0#32
  ![v3514.toNat, 21, 0, 0]
def k0_off329 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3518 : Index := Scalar.indexCast v2635
  let c22_1658 : Index := 22#32
  let c0_1659 : Index := 0#32
  let c0_1660 : Index := 0#32
  ![v3518.toNat, 22, 0, 0]
def k0_off330 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3522 : Index := Scalar.indexCast v2635
  let c23_1661 : Index := 23#32
  let c0_1662 : Index := 0#32
  let c0_1663 : Index := 0#32
  ![v3522.toNat, 23, 0, 0]
def k0_off331 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3526 : Index := Scalar.indexCast v2635
  let c24_1664 : Index := 24#32
  let c0_1665 : Index := 0#32
  let c0_1666 : Index := 0#32
  ![v3526.toNat, 24, 0, 0]
def k0_off332 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3530 : Index := Scalar.indexCast v2635
  let c25_1667 : Index := 25#32
  let c0_1668 : Index := 0#32
  let c0_1669 : Index := 0#32
  ![v3530.toNat, 25, 0, 0]
def k0_off333 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3534 : Index := Scalar.indexCast v2635
  let c26_1670 : Index := 26#32
  let c0_1671 : Index := 0#32
  let c0_1672 : Index := 0#32
  ![v3534.toNat, 26, 0, 0]
def k0_off334 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3538 : Index := Scalar.indexCast v2635
  let c27_1673 : Index := 27#32
  let c0_1674 : Index := 0#32
  let c0_1675 : Index := 0#32
  ![v3538.toNat, 27, 0, 0]
def k0_off335 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3542 : Index := Scalar.indexCast v2635
  let c28_1676 : Index := 28#32
  let c0_1677 : Index := 0#32
  let c0_1678 : Index := 0#32
  ![v3542.toNat, 28, 0, 0]
def k0_off336 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3546 : Index := Scalar.indexCast v2635
  let c29_1679 : Index := 29#32
  let c0_1680 : Index := 0#32
  let c0_1681 : Index := 0#32
  ![v3546.toNat, 29, 0, 0]
def k0_off337 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3550 : Index := Scalar.indexCast v2635
  let c30_1682 : Index := 30#32
  let c0_1683 : Index := 0#32
  let c0_1684 : Index := 0#32
  ![v3550.toNat, 30, 0, 0]
def k0_off338 (i : grid0.Coords) (k0_t3 : Fin (k0_t3_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v2635 : BitVec 32 := Scalar.muli c2_i32_1334 arg29
  let v3554 : Index := Scalar.indexCast v2635
  let c31_1685 : Index := 31#32
  let c0_1686 : Index := 0#32
  let c0_1687 : Index := 0#32
  ![v3554.toNat, 31, 0, 0]
def k0_mult90 (i : grid0.Coords) (k0_t3 : Fin (k0_t3_loop i).trips) : BitVec 32 :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let c256_i32_1690 : BitVec 32 := 256#32
  let v3560 : BitVec 32 := Scalar.muli v3559 c256_i32_1690
  v3560
def k0_off339 (i : grid0.Coords) (k0_t3 : Fin (k0_t3_loop i).trips) : Fin 3 → Nat :=
  let c0_1691 : Index := 0#32
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let c256_i32_1690 : BitVec 32 := 256#32
  let v3560 : BitVec 32 := Scalar.muli v3559 c256_i32_1690
  let v3561 : BitVec 32 := v3560
  let v3562 : Index := Scalar.indexCast v3561
  let c128_1692 : Index := 128#32
  ![0, v3562.toNat, 128]
def k0_off340 (i : grid0.Coords) (k0_t3 : Fin (k0_t3_loop i).trips) : Fin 3 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v3596 : Index := Scalar.indexCast v3559
  let c0_1704 : Index := 0#32
  let c0_1705 : Index := 0#32
  ![v3596.toNat, 0, 0]
def k0_off341 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4354 : Index := Scalar.indexCast v3559
  let c0_1947 : Index := 0#32
  let c0_1948 : Index := 0#32
  let c0_1949 : Index := 0#32
  ![v4354.toNat, 0, 0, 0]
def k0_off342 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4358 : Index := Scalar.indexCast v3559
  let c1_1950 : Index := 1#32
  let c0_1951 : Index := 0#32
  let c0_1952 : Index := 0#32
  ![v4358.toNat, 1, 0, 0]
def k0_off343 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4362 : Index := Scalar.indexCast v3559
  let c2_1953 : Index := 2#32
  let c0_1954 : Index := 0#32
  let c0_1955 : Index := 0#32
  ![v4362.toNat, 2, 0, 0]
def k0_off344 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4366 : Index := Scalar.indexCast v3559
  let c3_1956 : Index := 3#32
  let c0_1957 : Index := 0#32
  let c0_1958 : Index := 0#32
  ![v4366.toNat, 3, 0, 0]
def k0_off345 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4370 : Index := Scalar.indexCast v3559
  let c4_1959 : Index := 4#32
  let c0_1960 : Index := 0#32
  let c0_1961 : Index := 0#32
  ![v4370.toNat, 4, 0, 0]
def k0_off346 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4374 : Index := Scalar.indexCast v3559
  let c5_1962 : Index := 5#32
  let c0_1963 : Index := 0#32
  let c0_1964 : Index := 0#32
  ![v4374.toNat, 5, 0, 0]
def k0_off347 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4378 : Index := Scalar.indexCast v3559
  let c6_1965 : Index := 6#32
  let c0_1966 : Index := 0#32
  let c0_1967 : Index := 0#32
  ![v4378.toNat, 6, 0, 0]
def k0_off348 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4382 : Index := Scalar.indexCast v3559
  let c7_1968 : Index := 7#32
  let c0_1969 : Index := 0#32
  let c0_1970 : Index := 0#32
  ![v4382.toNat, 7, 0, 0]
def k0_off349 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4386 : Index := Scalar.indexCast v3559
  let c8_1971 : Index := 8#32
  let c0_1972 : Index := 0#32
  let c0_1973 : Index := 0#32
  ![v4386.toNat, 8, 0, 0]
def k0_off350 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4390 : Index := Scalar.indexCast v3559
  let c9_1974 : Index := 9#32
  let c0_1975 : Index := 0#32
  let c0_1976 : Index := 0#32
  ![v4390.toNat, 9, 0, 0]
def k0_off351 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4394 : Index := Scalar.indexCast v3559
  let c10_1977 : Index := 10#32
  let c0_1978 : Index := 0#32
  let c0_1979 : Index := 0#32
  ![v4394.toNat, 10, 0, 0]
def k0_off352 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4398 : Index := Scalar.indexCast v3559
  let c11_1980 : Index := 11#32
  let c0_1981 : Index := 0#32
  let c0_1982 : Index := 0#32
  ![v4398.toNat, 11, 0, 0]
def k0_off353 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4402 : Index := Scalar.indexCast v3559
  let c12_1983 : Index := 12#32
  let c0_1984 : Index := 0#32
  let c0_1985 : Index := 0#32
  ![v4402.toNat, 12, 0, 0]
def k0_off354 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4406 : Index := Scalar.indexCast v3559
  let c13_1986 : Index := 13#32
  let c0_1987 : Index := 0#32
  let c0_1988 : Index := 0#32
  ![v4406.toNat, 13, 0, 0]
def k0_off355 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4410 : Index := Scalar.indexCast v3559
  let c14_1989 : Index := 14#32
  let c0_1990 : Index := 0#32
  let c0_1991 : Index := 0#32
  ![v4410.toNat, 14, 0, 0]
def k0_off356 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4414 : Index := Scalar.indexCast v3559
  let c15_1992 : Index := 15#32
  let c0_1993 : Index := 0#32
  let c0_1994 : Index := 0#32
  ![v4414.toNat, 15, 0, 0]
def k0_off357 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4418 : Index := Scalar.indexCast v3559
  let c16_1995 : Index := 16#32
  let c0_1996 : Index := 0#32
  let c0_1997 : Index := 0#32
  ![v4418.toNat, 16, 0, 0]
def k0_off358 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4422 : Index := Scalar.indexCast v3559
  let c17_1998 : Index := 17#32
  let c0_1999 : Index := 0#32
  let c0_2000 : Index := 0#32
  ![v4422.toNat, 17, 0, 0]
def k0_off359 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4426 : Index := Scalar.indexCast v3559
  let c18_2001 : Index := 18#32
  let c0_2002 : Index := 0#32
  let c0_2003 : Index := 0#32
  ![v4426.toNat, 18, 0, 0]
def k0_off360 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4430 : Index := Scalar.indexCast v3559
  let c19_2004 : Index := 19#32
  let c0_2005 : Index := 0#32
  let c0_2006 : Index := 0#32
  ![v4430.toNat, 19, 0, 0]
def k0_off361 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4434 : Index := Scalar.indexCast v3559
  let c20_2007 : Index := 20#32
  let c0_2008 : Index := 0#32
  let c0_2009 : Index := 0#32
  ![v4434.toNat, 20, 0, 0]
def k0_off362 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4438 : Index := Scalar.indexCast v3559
  let c21_2010 : Index := 21#32
  let c0_2011 : Index := 0#32
  let c0_2012 : Index := 0#32
  ![v4438.toNat, 21, 0, 0]
def k0_off363 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4442 : Index := Scalar.indexCast v3559
  let c22_2013 : Index := 22#32
  let c0_2014 : Index := 0#32
  let c0_2015 : Index := 0#32
  ![v4442.toNat, 22, 0, 0]
def k0_off364 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4446 : Index := Scalar.indexCast v3559
  let c23_2016 : Index := 23#32
  let c0_2017 : Index := 0#32
  let c0_2018 : Index := 0#32
  ![v4446.toNat, 23, 0, 0]
def k0_off365 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4450 : Index := Scalar.indexCast v3559
  let c24_2019 : Index := 24#32
  let c0_2020 : Index := 0#32
  let c0_2021 : Index := 0#32
  ![v4450.toNat, 24, 0, 0]
def k0_off366 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4454 : Index := Scalar.indexCast v3559
  let c25_2022 : Index := 25#32
  let c0_2023 : Index := 0#32
  let c0_2024 : Index := 0#32
  ![v4454.toNat, 25, 0, 0]
def k0_off367 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4458 : Index := Scalar.indexCast v3559
  let c26_2025 : Index := 26#32
  let c0_2026 : Index := 0#32
  let c0_2027 : Index := 0#32
  ![v4458.toNat, 26, 0, 0]
def k0_off368 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4462 : Index := Scalar.indexCast v3559
  let c27_2028 : Index := 27#32
  let c0_2029 : Index := 0#32
  let c0_2030 : Index := 0#32
  ![v4462.toNat, 27, 0, 0]
def k0_off369 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4466 : Index := Scalar.indexCast v3559
  let c28_2031 : Index := 28#32
  let c0_2032 : Index := 0#32
  let c0_2033 : Index := 0#32
  ![v4466.toNat, 28, 0, 0]
def k0_off370 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4470 : Index := Scalar.indexCast v3559
  let c29_2034 : Index := 29#32
  let c0_2035 : Index := 0#32
  let c0_2036 : Index := 0#32
  ![v4470.toNat, 29, 0, 0]
def k0_off371 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4474 : Index := Scalar.indexCast v3559
  let c30_2037 : Index := 30#32
  let c0_2038 : Index := 0#32
  let c0_2039 : Index := 0#32
  ![v4474.toNat, 30, 0, 0]
def k0_off372 (i : grid0.Coords) (k0_t3 : Fin (k0_t3_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v3558 : BitVec 32 := Scalar.muli c2_i32_1688 arg29
  let c1_i32_1689 : BitVec 32 := 1#32
  let v3559 : BitVec 32 := Scalar.addi v3558 c1_i32_1689
  let v4478 : Index := Scalar.indexCast v3559
  let c31_2040 : Index := 31#32
  let c0_2041 : Index := 0#32
  let c0_2042 : Index := 0#32
  ![v4478.toNat, 31, 0, 0]
def k0_off373 (i : grid0.Coords) (k0_t3 : Fin (k0_t3_loop i).trips) (c0_i32_2044 : BitVec 32) : Fin 4 → Nat :=
  let c0_2048 : Index := 0#32
  let c2_i32_2043 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v4482 : BitVec 32 := Scalar.muli c2_i32_2043 arg29
  let v4483 : BitVec 32 := Scalar.addi v4482 c0_i32_2044
  let v4486 : Index := Scalar.indexCast v4483
  let c0_2049 : Index := 0#32
  let c0_2050 : Index := 0#32
  ![0, v4486.toNat, 0, 0]
def k0_off374 (i : grid0.Coords) (k0_t3 : Fin (k0_t3_loop i).trips) (c0_i32_2074 : BitVec 32) : Fin 4 → Nat :=
  let c0_2078 : Index := 0#32
  let c2_i32_2073 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v4525 : BitVec 32 := Scalar.muli c2_i32_2073 arg29
  let v4526 : BitVec 32 := Scalar.addi v4525 c0_i32_2074
  let v4529 : Index := Scalar.indexCast v4526
  let c80 : Index := 80#32
  let c0_2079 : Index := 0#32
  ![0, v4529.toNat, 80, 0]
def k0_off375 (i : grid0.Coords) (k0_t3 : Fin (k0_t3_loop i).trips) (c0_i32_2103 : BitVec 32) : Fin 4 → Nat :=
  let c0_2107 : Index := 0#32
  let c2_i32_2102 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v4568 : BitVec 32 := Scalar.muli c2_i32_2102 arg29
  let v4569 : BitVec 32 := Scalar.addi v4568 c0_i32_2103
  let v4572 : Index := Scalar.indexCast v4569
  let c160 : Index := 160#32
  let c0_2108 : Index := 0#32
  ![0, v4572.toNat, 160, 0]
def k0_off376 (i : grid0.Coords) (k0_t3 : Fin (k0_t3_loop i).trips) (c0_i32_2132 : BitVec 32) : Fin 4 → Nat :=
  let c0_2136 : Index := 0#32
  let c2_i32_2131 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v4611 : BitVec 32 := Scalar.muli c2_i32_2131 arg29
  let v4612 : BitVec 32 := Scalar.addi v4611 c0_i32_2132
  let v4615 : Index := Scalar.indexCast v4612
  let c240 : Index := 240#32
  let c0_2137 : Index := 0#32
  ![0, v4615.toNat, 240, 0]
def k0_off377 (i : grid0.Coords) (k0_t3 : Fin (k0_t3_loop i).trips) (c0_i32_2161 : BitVec 32) : Fin 4 → Nat :=
  let c0_2165 : Index := 0#32
  let c2_i32_2160 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v4654 : BitVec 32 := Scalar.muli c2_i32_2160 arg29
  let v4655 : BitVec 32 := Scalar.addi v4654 c0_i32_2161
  let v4658 : Index := Scalar.indexCast v4655
  let c320 : Index := 320#32
  let c0_2166 : Index := 0#32
  ![0, v4658.toNat, 320, 0]
def k0_off378 (i : grid0.Coords) (k0_t3 : Fin (k0_t3_loop i).trips) (c0_i32_2190 : BitVec 32) : Fin 4 → Nat :=
  let c0_2194 : Index := 0#32
  let c2_i32_2189 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v4697 : BitVec 32 := Scalar.muli c2_i32_2189 arg29
  let v4698 : BitVec 32 := Scalar.addi v4697 c0_i32_2190
  let v4701 : Index := Scalar.indexCast v4698
  let c400 : Index := 400#32
  let c0_2195 : Index := 0#32
  ![0, v4701.toNat, 400, 0]
def k0_off379 (i : grid0.Coords) (k0_t3 : Fin (k0_t3_loop i).trips) (c0_i32_2219 : BitVec 32) : Fin 4 → Nat :=
  let c0_2223 : Index := 0#32
  let c2_i32_2218 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v4740 : BitVec 32 := Scalar.muli c2_i32_2218 arg29
  let v4741 : BitVec 32 := Scalar.addi v4740 c0_i32_2219
  let v4744 : Index := Scalar.indexCast v4741
  let c480 : Index := 480#32
  let c0_2224 : Index := 0#32
  ![0, v4744.toNat, 480, 0]
def k0_off380 (i : grid0.Coords) (k0_t3 : Fin (k0_t3_loop i).trips) (c0_i32_2248 : BitVec 32) : Fin 4 → Nat :=
  let c0_2252 : Index := 0#32
  let c2_i32_2247 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let c1_i32_1058 : BitVec 32 := 1#32
  let arg29 : BitVec 32 := Scf.iv v2256 c1_i32_1058 k0_t3
  let v4783 : BitVec 32 := Scalar.muli c2_i32_2247 arg29
  let v4784 : BitVec 32 := Scalar.addi v4783 c0_i32_2248
  let v4787 : Index := Scalar.indexCast v4784
  let c560 : Index := 560#32
  let c0_2253 : Index := 0#32
  ![0, v4787.toNat, 560, 0]
@[reducible] def k0_t4_loop (i : grid0.Coords) : Scf.Loop 32 :=
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let v2258 : BitVec 32 := Scalar.addi v2256 v2257
  let c1_i32_1059 : BitVec 32 := 1#32
  ⟨v2261, v2258, c1_i32_1059⟩
def k0_mult91 (i : grid0.Coords) (k0_t4 : Fin (k0_t4_loop i).trips) : BitVec 32 :=
  let c2_i32_1064 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2267 : BitVec 32 := Scalar.muli c2_i32_1064 arg29
  let c0_i32_1065 : BitVec 32 := 0#32
  let v2268 : BitVec 32 := Scalar.addi v2267 c0_i32_1065
  let c256_i32_1066 : BitVec 32 := 256#32
  let v2269 : BitVec 32 := Scalar.muli v2268 c256_i32_1066
  v2269
def k0_off381 (i : grid0.Coords) (k0_t4 : Fin (k0_t4_loop i).trips) (c0_i32_1065 : BitVec 32) : Fin 3 → Nat :=
  let c0_1067 : Index := 0#32
  let c2_i32_1064 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2267 : BitVec 32 := Scalar.muli c2_i32_1064 arg29
  let v2268 : BitVec 32 := Scalar.addi v2267 c0_i32_1065
  let c256_i32_1066 : BitVec 32 := 256#32
  let v2269 : BitVec 32 := Scalar.muli v2268 c256_i32_1066
  let v2270 : BitVec 32 := v2269
  let v2271 : Index := Scalar.indexCast v2270
  let c0_1068 : Index := 0#32
  ![0, v2271.toNat, 0]
def k0_off382 (i : grid0.Coords) (k0_t4 : Fin (k0_t4_loop i).trips) (c0_i32_1075 : BitVec 32) (c0_i32_1065 : BitVec 32) : Fin 3 → Nat :=
  let c2_i32_1074 : BitVec 32 := 2#32
  let c0_i32_1073 : BitVec 32 := 0#32
  let arg1 : BitVec 32 := BitVec.ofNat 32 (i 1).val
  let c2_i32_1064 : BitVec 32 := 2#32
  let c2_i32_1055 : BitVec 32 := 2#32
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2267 : BitVec 32 := Scalar.muli c2_i32_1064 arg29
  let v2268 : BitVec 32 := Scalar.addi v2267 c0_i32_1065
  let v2277 : BitVec 32 := Scalar.subi arg1 v2268
  let v2278 : BitVec 32 := Scalar.maxsi c0_i32_1073 v2277
  let v2279 : BitVec 32 := Scalar.minsi c2_i32_1074 v2278
  let v2280 : BitVec 32 := Scalar.addi c0_i32_1075 v2279
  let v2281 : Index := Scalar.indexCast v2280
  let c0_1076 : Index := 0#32
  let c0_1077 : Index := 0#32
  ![v2281.toNat, 0, 0]
def k0_mult92 (i : grid0.Coords) (k0_t4 : Fin (k0_t4_loop i).trips) : BitVec 32 :=
  let c2_i32_1081 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2290 : BitVec 32 := Scalar.muli c2_i32_1081 arg29
  let c1_i32_1082 : BitVec 32 := 1#32
  let v2291 : BitVec 32 := Scalar.addi v2290 c1_i32_1082
  let c256_i32_1083 : BitVec 32 := 256#32
  let v2292 : BitVec 32 := Scalar.muli v2291 c256_i32_1083
  v2292
def k0_mult93 (i : grid0.Coords) (k0_t4 : Fin (k0_t4_loop i).trips) : BitVec 32 :=
  let c2_i32_1098 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2313 : BitVec 32 := Scalar.muli c2_i32_1098 arg29
  let c0_i32_1099 : BitVec 32 := 0#32
  let v2314 : BitVec 32 := Scalar.addi v2313 c0_i32_1099
  let c256_i32_1100 : BitVec 32 := 256#32
  let v2315 : BitVec 32 := Scalar.muli v2314 c256_i32_1100
  v2315
def k0_mult94 (i : grid0.Coords) (k0_t4 : Fin (k0_t4_loop i).trips) : BitVec 32 :=
  let c2_i32_1115 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2336 : BitVec 32 := Scalar.muli c2_i32_1115 arg29
  let c1_i32_1116 : BitVec 32 := 1#32
  let v2337 : BitVec 32 := Scalar.addi v2336 c1_i32_1116
  let c256_i32_1117 : BitVec 32 := 256#32
  let v2338 : BitVec 32 := Scalar.muli v2337 c256_i32_1117
  v2338
def k0_mult95 (i : grid0.Coords) (k0_t4 : Fin (k0_t4_loop i).trips) : BitVec 32 :=
  let c2_i32_1132 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2359 : BitVec 32 := Scalar.muli c2_i32_1132 arg29
  let c0_i32_1133 : BitVec 32 := 0#32
  let v2360 : BitVec 32 := Scalar.addi v2359 c0_i32_1133
  let c256_i32_1134 : BitVec 32 := 256#32
  let v2361 : BitVec 32 := Scalar.muli v2360 c256_i32_1134
  v2361
def k0_off383 (i : grid0.Coords) (k0_t4 : Fin (k0_t4_loop i).trips) (c0_i32_1133 : BitVec 32) : Fin 3 → Nat :=
  let c0_1135 : Index := 0#32
  let c2_i32_1132 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2359 : BitVec 32 := Scalar.muli c2_i32_1132 arg29
  let v2360 : BitVec 32 := Scalar.addi v2359 c0_i32_1133
  let c256_i32_1134 : BitVec 32 := 256#32
  let v2361 : BitVec 32 := Scalar.muli v2360 c256_i32_1134
  let v2362 : BitVec 32 := v2361
  let v2363 : Index := Scalar.indexCast v2362
  let c128_1136 : Index := 128#32
  ![0, v2363.toNat, 128]
def k0_mult96 (i : grid0.Coords) (k0_t4 : Fin (k0_t4_loop i).trips) : BitVec 32 :=
  let c2_i32_1149 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2382 : BitVec 32 := Scalar.muli c2_i32_1149 arg29
  let c1_i32_1150 : BitVec 32 := 1#32
  let v2383 : BitVec 32 := Scalar.addi v2382 c1_i32_1150
  let c256_i32_1151 : BitVec 32 := 256#32
  let v2384 : BitVec 32 := Scalar.muli v2383 c256_i32_1151
  v2384
def k0_mult97 (i : grid0.Coords) (k0_t4 : Fin (k0_t4_loop i).trips) : BitVec 32 :=
  let c2_i32_1166 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2405 : BitVec 32 := Scalar.muli c2_i32_1166 arg29
  let c0_i32_1167 : BitVec 32 := 0#32
  let v2406 : BitVec 32 := Scalar.addi v2405 c0_i32_1167
  let c256_i32_1168 : BitVec 32 := 256#32
  let v2407 : BitVec 32 := Scalar.muli v2406 c256_i32_1168
  v2407
def k0_mult98 (i : grid0.Coords) (k0_t4 : Fin (k0_t4_loop i).trips) : BitVec 32 :=
  let c2_i32_1183 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2428 : BitVec 32 := Scalar.muli c2_i32_1183 arg29
  let c1_i32_1184 : BitVec 32 := 1#32
  let v2429 : BitVec 32 := Scalar.addi v2428 c1_i32_1184
  let c256_i32_1185 : BitVec 32 := 256#32
  let v2430 : BitVec 32 := Scalar.muli v2429 c256_i32_1185
  v2430
def k0_mult99 (i : grid0.Coords) (k0_t4 : Fin (k0_t4_loop i).trips) : BitVec 32 :=
  let c2_i32_1200 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2451 : BitVec 32 := Scalar.muli c2_i32_1200 arg29
  let c0_i32_1201 : BitVec 32 := 0#32
  let v2452 : BitVec 32 := Scalar.addi v2451 c0_i32_1201
  let c256_i32_1202 : BitVec 32 := 256#32
  let v2453 : BitVec 32 := Scalar.muli v2452 c256_i32_1202
  v2453
def k0_off384 (i : grid0.Coords) (k0_t4 : Fin (k0_t4_loop i).trips) (c0_i32_1201 : BitVec 32) : Fin 3 → Nat :=
  let c0_1203 : Index := 0#32
  let c2_i32_1200 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2451 : BitVec 32 := Scalar.muli c2_i32_1200 arg29
  let v2452 : BitVec 32 := Scalar.addi v2451 c0_i32_1201
  let c256_i32_1202 : BitVec 32 := 256#32
  let v2453 : BitVec 32 := Scalar.muli v2452 c256_i32_1202
  let v2454 : BitVec 32 := v2453
  let v2455 : Index := Scalar.indexCast v2454
  let c256_1204 : Index := 256#32
  ![0, v2455.toNat, 256]
def k0_mult100 (i : grid0.Coords) (k0_t4 : Fin (k0_t4_loop i).trips) : BitVec 32 :=
  let c2_i32_1217 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2474 : BitVec 32 := Scalar.muli c2_i32_1217 arg29
  let c1_i32_1218 : BitVec 32 := 1#32
  let v2475 : BitVec 32 := Scalar.addi v2474 c1_i32_1218
  let c256_i32_1219 : BitVec 32 := 256#32
  let v2476 : BitVec 32 := Scalar.muli v2475 c256_i32_1219
  v2476
def k0_mult101 (i : grid0.Coords) (k0_t4 : Fin (k0_t4_loop i).trips) : BitVec 32 :=
  let c2_i32_1234 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2497 : BitVec 32 := Scalar.muli c2_i32_1234 arg29
  let c0_i32_1235 : BitVec 32 := 0#32
  let v2498 : BitVec 32 := Scalar.addi v2497 c0_i32_1235
  let c256_i32_1236 : BitVec 32 := 256#32
  let v2499 : BitVec 32 := Scalar.muli v2498 c256_i32_1236
  v2499
def k0_mult102 (i : grid0.Coords) (k0_t4 : Fin (k0_t4_loop i).trips) : BitVec 32 :=
  let c2_i32_1251 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2520 : BitVec 32 := Scalar.muli c2_i32_1251 arg29
  let c1_i32_1252 : BitVec 32 := 1#32
  let v2521 : BitVec 32 := Scalar.addi v2520 c1_i32_1252
  let c256_i32_1253 : BitVec 32 := 256#32
  let v2522 : BitVec 32 := Scalar.muli v2521 c256_i32_1253
  v2522
def k0_mult103 (i : grid0.Coords) (k0_t4 : Fin (k0_t4_loop i).trips) : BitVec 32 :=
  let c2_i32_1268 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2543 : BitVec 32 := Scalar.muli c2_i32_1268 arg29
  let c0_i32_1269 : BitVec 32 := 0#32
  let v2544 : BitVec 32 := Scalar.addi v2543 c0_i32_1269
  let c256_i32_1270 : BitVec 32 := 256#32
  let v2545 : BitVec 32 := Scalar.muli v2544 c256_i32_1270
  v2545
def k0_off385 (i : grid0.Coords) (k0_t4 : Fin (k0_t4_loop i).trips) (c0_i32_1269 : BitVec 32) : Fin 3 → Nat :=
  let c0_1271 : Index := 0#32
  let c2_i32_1268 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2543 : BitVec 32 := Scalar.muli c2_i32_1268 arg29
  let v2544 : BitVec 32 := Scalar.addi v2543 c0_i32_1269
  let c256_i32_1270 : BitVec 32 := 256#32
  let v2545 : BitVec 32 := Scalar.muli v2544 c256_i32_1270
  let v2546 : BitVec 32 := v2545
  let v2547 : Index := Scalar.indexCast v2546
  let c384_1272 : Index := 384#32
  ![0, v2547.toNat, 384]
def k0_mult104 (i : grid0.Coords) (k0_t4 : Fin (k0_t4_loop i).trips) : BitVec 32 :=
  let c2_i32_1284 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2566 : BitVec 32 := Scalar.muli c2_i32_1284 arg29
  let c1_i32_1285 : BitVec 32 := 1#32
  let v2567 : BitVec 32 := Scalar.addi v2566 c1_i32_1285
  let c256_i32_1286 : BitVec 32 := 256#32
  let v2568 : BitVec 32 := Scalar.muli v2567 c256_i32_1286
  v2568
def k0_mult105 (i : grid0.Coords) (k0_t4 : Fin (k0_t4_loop i).trips) : BitVec 32 :=
  let c2_i32_1301 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2589 : BitVec 32 := Scalar.muli c2_i32_1301 arg29
  let c0_i32_1302 : BitVec 32 := 0#32
  let v2590 : BitVec 32 := Scalar.addi v2589 c0_i32_1302
  let c256_i32_1303 : BitVec 32 := 256#32
  let v2591 : BitVec 32 := Scalar.muli v2590 c256_i32_1303
  v2591
def k0_mult106 (i : grid0.Coords) (k0_t4 : Fin (k0_t4_loop i).trips) : BitVec 32 :=
  let c2_i32_1317 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2612 : BitVec 32 := Scalar.muli c2_i32_1317 arg29
  let c1_i32_1318 : BitVec 32 := 1#32
  let v2613 : BitVec 32 := Scalar.addi v2612 c1_i32_1318
  let c256_i32_1319 : BitVec 32 := 256#32
  let v2614 : BitVec 32 := Scalar.muli v2613 c256_i32_1319
  v2614
def k0_mult107 (i : grid0.Coords) (k0_t4 : Fin (k0_t4_loop i).trips) : BitVec 32 :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let c256_i32_1335 : BitVec 32 := 256#32
  let v2636 : BitVec 32 := Scalar.muli v2635 c256_i32_1335
  v2636
def k0_off386 (i : grid0.Coords) (k0_t4 : Fin (k0_t4_loop i).trips) : Fin 3 → Nat :=
  let c0_1336 : Index := 0#32
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let c256_i32_1335 : BitVec 32 := 256#32
  let v2636 : BitVec 32 := Scalar.muli v2635 c256_i32_1335
  let v2637 : BitVec 32 := v2636
  let v2638 : Index := Scalar.indexCast v2637
  let c128_1337 : Index := 128#32
  ![0, v2638.toNat, 128]
def k0_off387 (i : grid0.Coords) (k0_t4 : Fin (k0_t4_loop i).trips) : Fin 3 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v2672 : Index := Scalar.indexCast v2635
  let c0_1349 : Index := 0#32
  let c0_1350 : Index := 0#32
  ![v2672.toNat, 0, 0]
def k0_off388 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3430 : Index := Scalar.indexCast v2635
  let c0_1592 : Index := 0#32
  let c0_1593 : Index := 0#32
  let c0_1594 : Index := 0#32
  ![v3430.toNat, 0, 0, 0]
def k0_off389 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3434 : Index := Scalar.indexCast v2635
  let c1_1595 : Index := 1#32
  let c0_1596 : Index := 0#32
  let c0_1597 : Index := 0#32
  ![v3434.toNat, 1, 0, 0]
def k0_off390 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3438 : Index := Scalar.indexCast v2635
  let c2_1598 : Index := 2#32
  let c0_1599 : Index := 0#32
  let c0_1600 : Index := 0#32
  ![v3438.toNat, 2, 0, 0]
def k0_off391 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3442 : Index := Scalar.indexCast v2635
  let c3_1601 : Index := 3#32
  let c0_1602 : Index := 0#32
  let c0_1603 : Index := 0#32
  ![v3442.toNat, 3, 0, 0]
def k0_off392 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3446 : Index := Scalar.indexCast v2635
  let c4_1604 : Index := 4#32
  let c0_1605 : Index := 0#32
  let c0_1606 : Index := 0#32
  ![v3446.toNat, 4, 0, 0]
def k0_off393 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3450 : Index := Scalar.indexCast v2635
  let c5_1607 : Index := 5#32
  let c0_1608 : Index := 0#32
  let c0_1609 : Index := 0#32
  ![v3450.toNat, 5, 0, 0]
def k0_off394 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3454 : Index := Scalar.indexCast v2635
  let c6_1610 : Index := 6#32
  let c0_1611 : Index := 0#32
  let c0_1612 : Index := 0#32
  ![v3454.toNat, 6, 0, 0]
def k0_off395 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3458 : Index := Scalar.indexCast v2635
  let c7_1613 : Index := 7#32
  let c0_1614 : Index := 0#32
  let c0_1615 : Index := 0#32
  ![v3458.toNat, 7, 0, 0]
def k0_off396 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3462 : Index := Scalar.indexCast v2635
  let c8_1616 : Index := 8#32
  let c0_1617 : Index := 0#32
  let c0_1618 : Index := 0#32
  ![v3462.toNat, 8, 0, 0]
def k0_off397 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3466 : Index := Scalar.indexCast v2635
  let c9_1619 : Index := 9#32
  let c0_1620 : Index := 0#32
  let c0_1621 : Index := 0#32
  ![v3466.toNat, 9, 0, 0]
def k0_off398 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3470 : Index := Scalar.indexCast v2635
  let c10_1622 : Index := 10#32
  let c0_1623 : Index := 0#32
  let c0_1624 : Index := 0#32
  ![v3470.toNat, 10, 0, 0]
def k0_off399 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3474 : Index := Scalar.indexCast v2635
  let c11_1625 : Index := 11#32
  let c0_1626 : Index := 0#32
  let c0_1627 : Index := 0#32
  ![v3474.toNat, 11, 0, 0]
def k0_off400 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3478 : Index := Scalar.indexCast v2635
  let c12_1628 : Index := 12#32
  let c0_1629 : Index := 0#32
  let c0_1630 : Index := 0#32
  ![v3478.toNat, 12, 0, 0]
def k0_off401 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3482 : Index := Scalar.indexCast v2635
  let c13_1631 : Index := 13#32
  let c0_1632 : Index := 0#32
  let c0_1633 : Index := 0#32
  ![v3482.toNat, 13, 0, 0]
def k0_off402 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3486 : Index := Scalar.indexCast v2635
  let c14_1634 : Index := 14#32
  let c0_1635 : Index := 0#32
  let c0_1636 : Index := 0#32
  ![v3486.toNat, 14, 0, 0]
def k0_off403 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3490 : Index := Scalar.indexCast v2635
  let c15_1637 : Index := 15#32
  let c0_1638 : Index := 0#32
  let c0_1639 : Index := 0#32
  ![v3490.toNat, 15, 0, 0]
def k0_off404 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3494 : Index := Scalar.indexCast v2635
  let c16_1640 : Index := 16#32
  let c0_1641 : Index := 0#32
  let c0_1642 : Index := 0#32
  ![v3494.toNat, 16, 0, 0]
def k0_off405 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3498 : Index := Scalar.indexCast v2635
  let c17_1643 : Index := 17#32
  let c0_1644 : Index := 0#32
  let c0_1645 : Index := 0#32
  ![v3498.toNat, 17, 0, 0]
def k0_off406 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3502 : Index := Scalar.indexCast v2635
  let c18_1646 : Index := 18#32
  let c0_1647 : Index := 0#32
  let c0_1648 : Index := 0#32
  ![v3502.toNat, 18, 0, 0]
def k0_off407 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3506 : Index := Scalar.indexCast v2635
  let c19_1649 : Index := 19#32
  let c0_1650 : Index := 0#32
  let c0_1651 : Index := 0#32
  ![v3506.toNat, 19, 0, 0]
def k0_off408 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3510 : Index := Scalar.indexCast v2635
  let c20_1652 : Index := 20#32
  let c0_1653 : Index := 0#32
  let c0_1654 : Index := 0#32
  ![v3510.toNat, 20, 0, 0]
def k0_off409 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3514 : Index := Scalar.indexCast v2635
  let c21_1655 : Index := 21#32
  let c0_1656 : Index := 0#32
  let c0_1657 : Index := 0#32
  ![v3514.toNat, 21, 0, 0]
def k0_off410 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3518 : Index := Scalar.indexCast v2635
  let c22_1658 : Index := 22#32
  let c0_1659 : Index := 0#32
  let c0_1660 : Index := 0#32
  ![v3518.toNat, 22, 0, 0]
def k0_off411 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3522 : Index := Scalar.indexCast v2635
  let c23_1661 : Index := 23#32
  let c0_1662 : Index := 0#32
  let c0_1663 : Index := 0#32
  ![v3522.toNat, 23, 0, 0]
def k0_off412 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3526 : Index := Scalar.indexCast v2635
  let c24_1664 : Index := 24#32
  let c0_1665 : Index := 0#32
  let c0_1666 : Index := 0#32
  ![v3526.toNat, 24, 0, 0]
def k0_off413 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3530 : Index := Scalar.indexCast v2635
  let c25_1667 : Index := 25#32
  let c0_1668 : Index := 0#32
  let c0_1669 : Index := 0#32
  ![v3530.toNat, 25, 0, 0]
def k0_off414 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3534 : Index := Scalar.indexCast v2635
  let c26_1670 : Index := 26#32
  let c0_1671 : Index := 0#32
  let c0_1672 : Index := 0#32
  ![v3534.toNat, 26, 0, 0]
def k0_off415 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3538 : Index := Scalar.indexCast v2635
  let c27_1673 : Index := 27#32
  let c0_1674 : Index := 0#32
  let c0_1675 : Index := 0#32
  ![v3538.toNat, 27, 0, 0]
def k0_off416 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3542 : Index := Scalar.indexCast v2635
  let c28_1676 : Index := 28#32
  let c0_1677 : Index := 0#32
  let c0_1678 : Index := 0#32
  ![v3542.toNat, 28, 0, 0]
def k0_off417 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3546 : Index := Scalar.indexCast v2635
  let c29_1679 : Index := 29#32
  let c0_1680 : Index := 0#32
  let c0_1681 : Index := 0#32
  ![v3546.toNat, 29, 0, 0]
def k0_off418 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3550 : Index := Scalar.indexCast v2635
  let c30_1682 : Index := 30#32
  let c0_1683 : Index := 0#32
  let c0_1684 : Index := 0#32
  ![v3550.toNat, 30, 0, 0]
def k0_off419 (i : grid0.Coords) (k0_t4 : Fin (k0_t4_loop i).trips) : Fin 4 → Nat :=
  let c2_i32_1334 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v2635 : BitVec 32 := Scalar.muli c2_i32_1334 arg29
  let v3554 : Index := Scalar.indexCast v2635
  let c31_1685 : Index := 31#32
  let c0_1686 : Index := 0#32
  let c0_1687 : Index := 0#32
  ![v3554.toNat, 31, 0, 0]
def k0_mult108 (i : grid0.Coords) (k0_t4 : Fin (k0_t4_loop i).trips) : BitVec 32 :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let c256_i32_1690 : BitVec 32 := 256#32
  let v3560 : BitVec 32 := Scalar.muli v3559 c256_i32_1690
  v3560
def k0_off420 (i : grid0.Coords) (k0_t4 : Fin (k0_t4_loop i).trips) : Fin 3 → Nat :=
  let c0_1691 : Index := 0#32
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let c256_i32_1690 : BitVec 32 := 256#32
  let v3560 : BitVec 32 := Scalar.muli v3559 c256_i32_1690
  let v3561 : BitVec 32 := v3560
  let v3562 : Index := Scalar.indexCast v3561
  let c128_1692 : Index := 128#32
  ![0, v3562.toNat, 128]
def k0_off421 (i : grid0.Coords) (k0_t4 : Fin (k0_t4_loop i).trips) : Fin 3 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v3596 : Index := Scalar.indexCast v3559
  let c0_1704 : Index := 0#32
  let c0_1705 : Index := 0#32
  ![v3596.toNat, 0, 0]
def k0_off422 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4354 : Index := Scalar.indexCast v3559
  let c0_1947 : Index := 0#32
  let c0_1948 : Index := 0#32
  let c0_1949 : Index := 0#32
  ![v4354.toNat, 0, 0, 0]
def k0_off423 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4358 : Index := Scalar.indexCast v3559
  let c1_1950 : Index := 1#32
  let c0_1951 : Index := 0#32
  let c0_1952 : Index := 0#32
  ![v4358.toNat, 1, 0, 0]
def k0_off424 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4362 : Index := Scalar.indexCast v3559
  let c2_1953 : Index := 2#32
  let c0_1954 : Index := 0#32
  let c0_1955 : Index := 0#32
  ![v4362.toNat, 2, 0, 0]
def k0_off425 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4366 : Index := Scalar.indexCast v3559
  let c3_1956 : Index := 3#32
  let c0_1957 : Index := 0#32
  let c0_1958 : Index := 0#32
  ![v4366.toNat, 3, 0, 0]
def k0_off426 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4370 : Index := Scalar.indexCast v3559
  let c4_1959 : Index := 4#32
  let c0_1960 : Index := 0#32
  let c0_1961 : Index := 0#32
  ![v4370.toNat, 4, 0, 0]
def k0_off427 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4374 : Index := Scalar.indexCast v3559
  let c5_1962 : Index := 5#32
  let c0_1963 : Index := 0#32
  let c0_1964 : Index := 0#32
  ![v4374.toNat, 5, 0, 0]
def k0_off428 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4378 : Index := Scalar.indexCast v3559
  let c6_1965 : Index := 6#32
  let c0_1966 : Index := 0#32
  let c0_1967 : Index := 0#32
  ![v4378.toNat, 6, 0, 0]
def k0_off429 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4382 : Index := Scalar.indexCast v3559
  let c7_1968 : Index := 7#32
  let c0_1969 : Index := 0#32
  let c0_1970 : Index := 0#32
  ![v4382.toNat, 7, 0, 0]
def k0_off430 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4386 : Index := Scalar.indexCast v3559
  let c8_1971 : Index := 8#32
  let c0_1972 : Index := 0#32
  let c0_1973 : Index := 0#32
  ![v4386.toNat, 8, 0, 0]
def k0_off431 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4390 : Index := Scalar.indexCast v3559
  let c9_1974 : Index := 9#32
  let c0_1975 : Index := 0#32
  let c0_1976 : Index := 0#32
  ![v4390.toNat, 9, 0, 0]
def k0_off432 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4394 : Index := Scalar.indexCast v3559
  let c10_1977 : Index := 10#32
  let c0_1978 : Index := 0#32
  let c0_1979 : Index := 0#32
  ![v4394.toNat, 10, 0, 0]
def k0_off433 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4398 : Index := Scalar.indexCast v3559
  let c11_1980 : Index := 11#32
  let c0_1981 : Index := 0#32
  let c0_1982 : Index := 0#32
  ![v4398.toNat, 11, 0, 0]
def k0_off434 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4402 : Index := Scalar.indexCast v3559
  let c12_1983 : Index := 12#32
  let c0_1984 : Index := 0#32
  let c0_1985 : Index := 0#32
  ![v4402.toNat, 12, 0, 0]
def k0_off435 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4406 : Index := Scalar.indexCast v3559
  let c13_1986 : Index := 13#32
  let c0_1987 : Index := 0#32
  let c0_1988 : Index := 0#32
  ![v4406.toNat, 13, 0, 0]
def k0_off436 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4410 : Index := Scalar.indexCast v3559
  let c14_1989 : Index := 14#32
  let c0_1990 : Index := 0#32
  let c0_1991 : Index := 0#32
  ![v4410.toNat, 14, 0, 0]
def k0_off437 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4414 : Index := Scalar.indexCast v3559
  let c15_1992 : Index := 15#32
  let c0_1993 : Index := 0#32
  let c0_1994 : Index := 0#32
  ![v4414.toNat, 15, 0, 0]
def k0_off438 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4418 : Index := Scalar.indexCast v3559
  let c16_1995 : Index := 16#32
  let c0_1996 : Index := 0#32
  let c0_1997 : Index := 0#32
  ![v4418.toNat, 16, 0, 0]
def k0_off439 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4422 : Index := Scalar.indexCast v3559
  let c17_1998 : Index := 17#32
  let c0_1999 : Index := 0#32
  let c0_2000 : Index := 0#32
  ![v4422.toNat, 17, 0, 0]
def k0_off440 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4426 : Index := Scalar.indexCast v3559
  let c18_2001 : Index := 18#32
  let c0_2002 : Index := 0#32
  let c0_2003 : Index := 0#32
  ![v4426.toNat, 18, 0, 0]
def k0_off441 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4430 : Index := Scalar.indexCast v3559
  let c19_2004 : Index := 19#32
  let c0_2005 : Index := 0#32
  let c0_2006 : Index := 0#32
  ![v4430.toNat, 19, 0, 0]
def k0_off442 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4434 : Index := Scalar.indexCast v3559
  let c20_2007 : Index := 20#32
  let c0_2008 : Index := 0#32
  let c0_2009 : Index := 0#32
  ![v4434.toNat, 20, 0, 0]
def k0_off443 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4438 : Index := Scalar.indexCast v3559
  let c21_2010 : Index := 21#32
  let c0_2011 : Index := 0#32
  let c0_2012 : Index := 0#32
  ![v4438.toNat, 21, 0, 0]
def k0_off444 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4442 : Index := Scalar.indexCast v3559
  let c22_2013 : Index := 22#32
  let c0_2014 : Index := 0#32
  let c0_2015 : Index := 0#32
  ![v4442.toNat, 22, 0, 0]
def k0_off445 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4446 : Index := Scalar.indexCast v3559
  let c23_2016 : Index := 23#32
  let c0_2017 : Index := 0#32
  let c0_2018 : Index := 0#32
  ![v4446.toNat, 23, 0, 0]
def k0_off446 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4450 : Index := Scalar.indexCast v3559
  let c24_2019 : Index := 24#32
  let c0_2020 : Index := 0#32
  let c0_2021 : Index := 0#32
  ![v4450.toNat, 24, 0, 0]
def k0_off447 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4454 : Index := Scalar.indexCast v3559
  let c25_2022 : Index := 25#32
  let c0_2023 : Index := 0#32
  let c0_2024 : Index := 0#32
  ![v4454.toNat, 25, 0, 0]
def k0_off448 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4458 : Index := Scalar.indexCast v3559
  let c26_2025 : Index := 26#32
  let c0_2026 : Index := 0#32
  let c0_2027 : Index := 0#32
  ![v4458.toNat, 26, 0, 0]
def k0_off449 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4462 : Index := Scalar.indexCast v3559
  let c27_2028 : Index := 27#32
  let c0_2029 : Index := 0#32
  let c0_2030 : Index := 0#32
  ![v4462.toNat, 27, 0, 0]
def k0_off450 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4466 : Index := Scalar.indexCast v3559
  let c28_2031 : Index := 28#32
  let c0_2032 : Index := 0#32
  let c0_2033 : Index := 0#32
  ![v4466.toNat, 28, 0, 0]
def k0_off451 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4470 : Index := Scalar.indexCast v3559
  let c29_2034 : Index := 29#32
  let c0_2035 : Index := 0#32
  let c0_2036 : Index := 0#32
  ![v4470.toNat, 29, 0, 0]
def k0_off452 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4474 : Index := Scalar.indexCast v3559
  let c30_2037 : Index := 30#32
  let c0_2038 : Index := 0#32
  let c0_2039 : Index := 0#32
  ![v4474.toNat, 30, 0, 0]
def k0_off453 (i : grid0.Coords) (k0_t4 : Fin (k0_t4_loop i).trips) : Fin 4 → Nat :=
  let c2_i32_1688 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v3558 : BitVec 32 := Scalar.muli c2_i32_1688 arg29
  let c1_i32_1689 : BitVec 32 := 1#32
  let v3559 : BitVec 32 := Scalar.addi v3558 c1_i32_1689
  let v4478 : Index := Scalar.indexCast v3559
  let c31_2040 : Index := 31#32
  let c0_2041 : Index := 0#32
  let c0_2042 : Index := 0#32
  ![v4478.toNat, 31, 0, 0]
def k0_off454 (i : grid0.Coords) (k0_t4 : Fin (k0_t4_loop i).trips) (c0_i32_2044 : BitVec 32) : Fin 4 → Nat :=
  let c0_2048 : Index := 0#32
  let c2_i32_2043 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v4482 : BitVec 32 := Scalar.muli c2_i32_2043 arg29
  let v4483 : BitVec 32 := Scalar.addi v4482 c0_i32_2044
  let v4486 : Index := Scalar.indexCast v4483
  let c0_2049 : Index := 0#32
  let c0_2050 : Index := 0#32
  ![0, v4486.toNat, 0, 0]
def k0_off455 (i : grid0.Coords) (k0_t4 : Fin (k0_t4_loop i).trips) (c0_i32_2074 : BitVec 32) : Fin 4 → Nat :=
  let c0_2078 : Index := 0#32
  let c2_i32_2073 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v4525 : BitVec 32 := Scalar.muli c2_i32_2073 arg29
  let v4526 : BitVec 32 := Scalar.addi v4525 c0_i32_2074
  let v4529 : Index := Scalar.indexCast v4526
  let c80 : Index := 80#32
  let c0_2079 : Index := 0#32
  ![0, v4529.toNat, 80, 0]
def k0_off456 (i : grid0.Coords) (k0_t4 : Fin (k0_t4_loop i).trips) (c0_i32_2103 : BitVec 32) : Fin 4 → Nat :=
  let c0_2107 : Index := 0#32
  let c2_i32_2102 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v4568 : BitVec 32 := Scalar.muli c2_i32_2102 arg29
  let v4569 : BitVec 32 := Scalar.addi v4568 c0_i32_2103
  let v4572 : Index := Scalar.indexCast v4569
  let c160 : Index := 160#32
  let c0_2108 : Index := 0#32
  ![0, v4572.toNat, 160, 0]
def k0_off457 (i : grid0.Coords) (k0_t4 : Fin (k0_t4_loop i).trips) (c0_i32_2132 : BitVec 32) : Fin 4 → Nat :=
  let c0_2136 : Index := 0#32
  let c2_i32_2131 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v4611 : BitVec 32 := Scalar.muli c2_i32_2131 arg29
  let v4612 : BitVec 32 := Scalar.addi v4611 c0_i32_2132
  let v4615 : Index := Scalar.indexCast v4612
  let c240 : Index := 240#32
  let c0_2137 : Index := 0#32
  ![0, v4615.toNat, 240, 0]
def k0_off458 (i : grid0.Coords) (k0_t4 : Fin (k0_t4_loop i).trips) (c0_i32_2161 : BitVec 32) : Fin 4 → Nat :=
  let c0_2165 : Index := 0#32
  let c2_i32_2160 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v4654 : BitVec 32 := Scalar.muli c2_i32_2160 arg29
  let v4655 : BitVec 32 := Scalar.addi v4654 c0_i32_2161
  let v4658 : Index := Scalar.indexCast v4655
  let c320 : Index := 320#32
  let c0_2166 : Index := 0#32
  ![0, v4658.toNat, 320, 0]
def k0_off459 (i : grid0.Coords) (k0_t4 : Fin (k0_t4_loop i).trips) (c0_i32_2190 : BitVec 32) : Fin 4 → Nat :=
  let c0_2194 : Index := 0#32
  let c2_i32_2189 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v4697 : BitVec 32 := Scalar.muli c2_i32_2189 arg29
  let v4698 : BitVec 32 := Scalar.addi v4697 c0_i32_2190
  let v4701 : Index := Scalar.indexCast v4698
  let c400 : Index := 400#32
  let c0_2195 : Index := 0#32
  ![0, v4701.toNat, 400, 0]
def k0_off460 (i : grid0.Coords) (k0_t4 : Fin (k0_t4_loop i).trips) (c0_i32_2219 : BitVec 32) : Fin 4 → Nat :=
  let c0_2223 : Index := 0#32
  let c2_i32_2218 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v4740 : BitVec 32 := Scalar.muli c2_i32_2218 arg29
  let v4741 : BitVec 32 := Scalar.addi v4740 c0_i32_2219
  let v4744 : Index := Scalar.indexCast v4741
  let c480 : Index := 480#32
  let c0_2224 : Index := 0#32
  ![0, v4744.toNat, 480, 0]
def k0_off461 (i : grid0.Coords) (k0_t4 : Fin (k0_t4_loop i).trips) (c0_i32_2248 : BitVec 32) : Fin 4 → Nat :=
  let c0_2252 : Index := 0#32
  let c2_i32_2247 : BitVec 32 := 2#32
  let c2_i32_1055 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c0_i32_1044 : BitVec 32 := 0#32
  let v2235 : BitVec 1 := Scalar.cmpi .sgt v918 c0_i32_1044
  let v2236 : BitVec 32 := Scalar.extui v2235
  let c0_i32_1045 : BitVec 32 := 0#32
  let v2237 : BitVec 1 := Scalar.cmpi .slt v918 c0_i32_1045
  let v2238 : BitVec 32 := Scalar.extui v2237
  let v2239 : BitVec 32 := Scalar.subi v2236 v2238
  let c2_i32_1043 : BitVec 32 := 2#32
  let c0_i32_1046 : BitVec 32 := 0#32
  let v2240 : BitVec 1 := Scalar.cmpi .sgt c2_i32_1043 c0_i32_1046
  let v2241 : BitVec 32 := Scalar.extui v2240
  let c0_i32_1047 : BitVec 32 := 0#32
  let v2242 : BitVec 1 := Scalar.cmpi .slt c2_i32_1043 c0_i32_1047
  let v2243 : BitVec 32 := Scalar.extui v2242
  let v2244 : BitVec 32 := Scalar.subi v2241 v2243
  let v2245 : BitVec 1 := Scalar.cmpi .ne v2239 v2244
  let v2246 : BitVec 32 := Scalar.remsi v918 c2_i32_1043
  let c0_i32_1048 : BitVec 32 := 0#32
  let v2247 : BitVec 1 := Scalar.cmpi .ne v2246 c0_i32_1048
  let v2248 : BitVec 1 := Scalar.andi v2245 v2247
  let v2234 : BitVec 32 := Scalar.divsi v918 c2_i32_1043
  let c1_i32_1049 : BitVec 32 := 1#32
  let v2249 : BitVec 32 := Scalar.subi v2234 c1_i32_1049
  let v2250 : BitVec 32 := Scalar.select v2248 v2249 v2234
  let v2256 : BitVec 32 := Scalar.muli c2_i32_1055 v2250
  let v2257 : BitVec 32 := Scalar.subi v918 v2256
  let c1_i32_1057 : BitVec 32 := 1#32
  let v2259 : BitVec 32 := Scalar.divsi v2257 c1_i32_1057
  let v2260 : BitVec 32 := Scalar.muli v2259 c1_i32_1057
  let v2261 : BitVec 32 := Scalar.addi v2256 v2260
  let c1_i32_1059 : BitVec 32 := 1#32
  let arg29 : BitVec 32 := Scf.iv v2261 c1_i32_1059 k0_t4
  let v4783 : BitVec 32 := Scalar.muli c2_i32_2247 arg29
  let v4784 : BitVec 32 := Scalar.addi v4783 c0_i32_2248
  let v4787 : Index := Scalar.indexCast v4784
  let c560 : Index := 560#32
  let c0_2253 : Index := 0#32
  ![0, v4787.toNat, 560, 0]
@[reducible] def k0_t5_loop (i : grid0.Coords) : Scf.Loop 32 :=
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2262 : BitVec 32 := Scalar.subi v901 v918
  let c1_i32_1061 : BitVec 32 := 1#32
  let v2264 : BitVec 32 := Scalar.divsi v2262 c1_i32_1061
  let v2265 : BitVec 32 := Scalar.muli v2264 c1_i32_1061
  let v2266 : BitVec 32 := Scalar.addi v918 v2265
  let c1_i32_1062 : BitVec 32 := 1#32
  ⟨v918, v2266, c1_i32_1062⟩
def k0_mult109 (i : grid0.Coords) (k0_t5 : Fin (k0_t5_loop i).trips) : BitVec 32 :=
  let c2_i32_1064 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32_1062 : BitVec 32 := 1#32
  let arg29 : BitVec 32 := Scf.iv v918 c1_i32_1062 k0_t5
  let v2267 : BitVec 32 := Scalar.muli c2_i32_1064 arg29
  let c0_i32_1065 : BitVec 32 := 0#32
  let v2268 : BitVec 32 := Scalar.addi v2267 c0_i32_1065
  let c256_i32_1066 : BitVec 32 := 256#32
  let v2269 : BitVec 32 := Scalar.muli v2268 c256_i32_1066
  v2269
def k0_off462 (i : grid0.Coords) (k0_t5 : Fin (k0_t5_loop i).trips) (c0_i32_1065 : BitVec 32) : Fin 3 → Nat :=
  let c0_1067 : Index := 0#32
  let c2_i32_1064 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32_1062 : BitVec 32 := 1#32
  let arg29 : BitVec 32 := Scf.iv v918 c1_i32_1062 k0_t5
  let v2267 : BitVec 32 := Scalar.muli c2_i32_1064 arg29
  let v2268 : BitVec 32 := Scalar.addi v2267 c0_i32_1065
  let c256_i32_1066 : BitVec 32 := 256#32
  let v2269 : BitVec 32 := Scalar.muli v2268 c256_i32_1066
  let v2270 : BitVec 32 := v2269
  let v2271 : Index := Scalar.indexCast v2270
  let c0_1068 : Index := 0#32
  ![0, v2271.toNat, 0]
def k0_off463 (i : grid0.Coords) (k0_t5 : Fin (k0_t5_loop i).trips) (c0_i32_1075 : BitVec 32) (c0_i32_1065 : BitVec 32) : Fin 3 → Nat :=
  let c2_i32_1074 : BitVec 32 := 2#32
  let c0_i32_1073 : BitVec 32 := 0#32
  let arg1 : BitVec 32 := BitVec.ofNat 32 (i 1).val
  let c2_i32_1064 : BitVec 32 := 2#32
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32_1062 : BitVec 32 := 1#32
  let arg29 : BitVec 32 := Scf.iv v918 c1_i32_1062 k0_t5
  let v2267 : BitVec 32 := Scalar.muli c2_i32_1064 arg29
  let v2268 : BitVec 32 := Scalar.addi v2267 c0_i32_1065
  let v2277 : BitVec 32 := Scalar.subi arg1 v2268
  let v2278 : BitVec 32 := Scalar.maxsi c0_i32_1073 v2277
  let v2279 : BitVec 32 := Scalar.minsi c2_i32_1074 v2278
  let v2280 : BitVec 32 := Scalar.addi c0_i32_1075 v2279
  let v2281 : Index := Scalar.indexCast v2280
  let c0_1076 : Index := 0#32
  let c0_1077 : Index := 0#32
  ![v2281.toNat, 0, 0]
def k0_mult110 (i : grid0.Coords) (k0_t5 : Fin (k0_t5_loop i).trips) : BitVec 32 :=
  let c2_i32_1081 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32_1062 : BitVec 32 := 1#32
  let arg29 : BitVec 32 := Scf.iv v918 c1_i32_1062 k0_t5
  let v2290 : BitVec 32 := Scalar.muli c2_i32_1081 arg29
  let c1_i32_1082 : BitVec 32 := 1#32
  let v2291 : BitVec 32 := Scalar.addi v2290 c1_i32_1082
  let c256_i32_1083 : BitVec 32 := 256#32
  let v2292 : BitVec 32 := Scalar.muli v2291 c256_i32_1083
  v2292
def k0_mult111 (i : grid0.Coords) (k0_t5 : Fin (k0_t5_loop i).trips) : BitVec 32 :=
  let c2_i32_1098 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32_1062 : BitVec 32 := 1#32
  let arg29 : BitVec 32 := Scf.iv v918 c1_i32_1062 k0_t5
  let v2313 : BitVec 32 := Scalar.muli c2_i32_1098 arg29
  let c0_i32_1099 : BitVec 32 := 0#32
  let v2314 : BitVec 32 := Scalar.addi v2313 c0_i32_1099
  let c256_i32_1100 : BitVec 32 := 256#32
  let v2315 : BitVec 32 := Scalar.muli v2314 c256_i32_1100
  v2315
def k0_mult112 (i : grid0.Coords) (k0_t5 : Fin (k0_t5_loop i).trips) : BitVec 32 :=
  let c2_i32_1115 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32_1062 : BitVec 32 := 1#32
  let arg29 : BitVec 32 := Scf.iv v918 c1_i32_1062 k0_t5
  let v2336 : BitVec 32 := Scalar.muli c2_i32_1115 arg29
  let c1_i32_1116 : BitVec 32 := 1#32
  let v2337 : BitVec 32 := Scalar.addi v2336 c1_i32_1116
  let c256_i32_1117 : BitVec 32 := 256#32
  let v2338 : BitVec 32 := Scalar.muli v2337 c256_i32_1117
  v2338
def k0_mult113 (i : grid0.Coords) (k0_t5 : Fin (k0_t5_loop i).trips) : BitVec 32 :=
  let c2_i32_1132 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32_1062 : BitVec 32 := 1#32
  let arg29 : BitVec 32 := Scf.iv v918 c1_i32_1062 k0_t5
  let v2359 : BitVec 32 := Scalar.muli c2_i32_1132 arg29
  let c0_i32_1133 : BitVec 32 := 0#32
  let v2360 : BitVec 32 := Scalar.addi v2359 c0_i32_1133
  let c256_i32_1134 : BitVec 32 := 256#32
  let v2361 : BitVec 32 := Scalar.muli v2360 c256_i32_1134
  v2361
def k0_off464 (i : grid0.Coords) (k0_t5 : Fin (k0_t5_loop i).trips) (c0_i32_1133 : BitVec 32) : Fin 3 → Nat :=
  let c0_1135 : Index := 0#32
  let c2_i32_1132 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32_1062 : BitVec 32 := 1#32
  let arg29 : BitVec 32 := Scf.iv v918 c1_i32_1062 k0_t5
  let v2359 : BitVec 32 := Scalar.muli c2_i32_1132 arg29
  let v2360 : BitVec 32 := Scalar.addi v2359 c0_i32_1133
  let c256_i32_1134 : BitVec 32 := 256#32
  let v2361 : BitVec 32 := Scalar.muli v2360 c256_i32_1134
  let v2362 : BitVec 32 := v2361
  let v2363 : Index := Scalar.indexCast v2362
  let c128_1136 : Index := 128#32
  ![0, v2363.toNat, 128]
def k0_mult114 (i : grid0.Coords) (k0_t5 : Fin (k0_t5_loop i).trips) : BitVec 32 :=
  let c2_i32_1149 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32_1062 : BitVec 32 := 1#32
  let arg29 : BitVec 32 := Scf.iv v918 c1_i32_1062 k0_t5
  let v2382 : BitVec 32 := Scalar.muli c2_i32_1149 arg29
  let c1_i32_1150 : BitVec 32 := 1#32
  let v2383 : BitVec 32 := Scalar.addi v2382 c1_i32_1150
  let c256_i32_1151 : BitVec 32 := 256#32
  let v2384 : BitVec 32 := Scalar.muli v2383 c256_i32_1151
  v2384
def k0_mult115 (i : grid0.Coords) (k0_t5 : Fin (k0_t5_loop i).trips) : BitVec 32 :=
  let c2_i32_1166 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32_1062 : BitVec 32 := 1#32
  let arg29 : BitVec 32 := Scf.iv v918 c1_i32_1062 k0_t5
  let v2405 : BitVec 32 := Scalar.muli c2_i32_1166 arg29
  let c0_i32_1167 : BitVec 32 := 0#32
  let v2406 : BitVec 32 := Scalar.addi v2405 c0_i32_1167
  let c256_i32_1168 : BitVec 32 := 256#32
  let v2407 : BitVec 32 := Scalar.muli v2406 c256_i32_1168
  v2407
def k0_mult116 (i : grid0.Coords) (k0_t5 : Fin (k0_t5_loop i).trips) : BitVec 32 :=
  let c2_i32_1183 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32_1062 : BitVec 32 := 1#32
  let arg29 : BitVec 32 := Scf.iv v918 c1_i32_1062 k0_t5
  let v2428 : BitVec 32 := Scalar.muli c2_i32_1183 arg29
  let c1_i32_1184 : BitVec 32 := 1#32
  let v2429 : BitVec 32 := Scalar.addi v2428 c1_i32_1184
  let c256_i32_1185 : BitVec 32 := 256#32
  let v2430 : BitVec 32 := Scalar.muli v2429 c256_i32_1185
  v2430
def k0_mult117 (i : grid0.Coords) (k0_t5 : Fin (k0_t5_loop i).trips) : BitVec 32 :=
  let c2_i32_1200 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32_1062 : BitVec 32 := 1#32
  let arg29 : BitVec 32 := Scf.iv v918 c1_i32_1062 k0_t5
  let v2451 : BitVec 32 := Scalar.muli c2_i32_1200 arg29
  let c0_i32_1201 : BitVec 32 := 0#32
  let v2452 : BitVec 32 := Scalar.addi v2451 c0_i32_1201
  let c256_i32_1202 : BitVec 32 := 256#32
  let v2453 : BitVec 32 := Scalar.muli v2452 c256_i32_1202
  v2453
def k0_off465 (i : grid0.Coords) (k0_t5 : Fin (k0_t5_loop i).trips) (c0_i32_1201 : BitVec 32) : Fin 3 → Nat :=
  let c0_1203 : Index := 0#32
  let c2_i32_1200 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32_1062 : BitVec 32 := 1#32
  let arg29 : BitVec 32 := Scf.iv v918 c1_i32_1062 k0_t5
  let v2451 : BitVec 32 := Scalar.muli c2_i32_1200 arg29
  let v2452 : BitVec 32 := Scalar.addi v2451 c0_i32_1201
  let c256_i32_1202 : BitVec 32 := 256#32
  let v2453 : BitVec 32 := Scalar.muli v2452 c256_i32_1202
  let v2454 : BitVec 32 := v2453
  let v2455 : Index := Scalar.indexCast v2454
  let c256_1204 : Index := 256#32
  ![0, v2455.toNat, 256]
def k0_mult118 (i : grid0.Coords) (k0_t5 : Fin (k0_t5_loop i).trips) : BitVec 32 :=
  let c2_i32_1217 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32_1062 : BitVec 32 := 1#32
  let arg29 : BitVec 32 := Scf.iv v918 c1_i32_1062 k0_t5
  let v2474 : BitVec 32 := Scalar.muli c2_i32_1217 arg29
  let c1_i32_1218 : BitVec 32 := 1#32
  let v2475 : BitVec 32 := Scalar.addi v2474 c1_i32_1218
  let c256_i32_1219 : BitVec 32 := 256#32
  let v2476 : BitVec 32 := Scalar.muli v2475 c256_i32_1219
  v2476
def k0_mult119 (i : grid0.Coords) (k0_t5 : Fin (k0_t5_loop i).trips) : BitVec 32 :=
  let c2_i32_1234 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32_1062 : BitVec 32 := 1#32
  let arg29 : BitVec 32 := Scf.iv v918 c1_i32_1062 k0_t5
  let v2497 : BitVec 32 := Scalar.muli c2_i32_1234 arg29
  let c0_i32_1235 : BitVec 32 := 0#32
  let v2498 : BitVec 32 := Scalar.addi v2497 c0_i32_1235
  let c256_i32_1236 : BitVec 32 := 256#32
  let v2499 : BitVec 32 := Scalar.muli v2498 c256_i32_1236
  v2499
def k0_mult120 (i : grid0.Coords) (k0_t5 : Fin (k0_t5_loop i).trips) : BitVec 32 :=
  let c2_i32_1251 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32_1062 : BitVec 32 := 1#32
  let arg29 : BitVec 32 := Scf.iv v918 c1_i32_1062 k0_t5
  let v2520 : BitVec 32 := Scalar.muli c2_i32_1251 arg29
  let c1_i32_1252 : BitVec 32 := 1#32
  let v2521 : BitVec 32 := Scalar.addi v2520 c1_i32_1252
  let c256_i32_1253 : BitVec 32 := 256#32
  let v2522 : BitVec 32 := Scalar.muli v2521 c256_i32_1253
  v2522
def k0_mult121 (i : grid0.Coords) (k0_t5 : Fin (k0_t5_loop i).trips) : BitVec 32 :=
  let c2_i32_1268 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32_1062 : BitVec 32 := 1#32
  let arg29 : BitVec 32 := Scf.iv v918 c1_i32_1062 k0_t5
  let v2543 : BitVec 32 := Scalar.muli c2_i32_1268 arg29
  let c0_i32_1269 : BitVec 32 := 0#32
  let v2544 : BitVec 32 := Scalar.addi v2543 c0_i32_1269
  let c256_i32_1270 : BitVec 32 := 256#32
  let v2545 : BitVec 32 := Scalar.muli v2544 c256_i32_1270
  v2545
def k0_off466 (i : grid0.Coords) (k0_t5 : Fin (k0_t5_loop i).trips) (c0_i32_1269 : BitVec 32) : Fin 3 → Nat :=
  let c0_1271 : Index := 0#32
  let c2_i32_1268 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32_1062 : BitVec 32 := 1#32
  let arg29 : BitVec 32 := Scf.iv v918 c1_i32_1062 k0_t5
  let v2543 : BitVec 32 := Scalar.muli c2_i32_1268 arg29
  let v2544 : BitVec 32 := Scalar.addi v2543 c0_i32_1269
  let c256_i32_1270 : BitVec 32 := 256#32
  let v2545 : BitVec 32 := Scalar.muli v2544 c256_i32_1270
  let v2546 : BitVec 32 := v2545
  let v2547 : Index := Scalar.indexCast v2546
  let c384_1272 : Index := 384#32
  ![0, v2547.toNat, 384]
def k0_mult122 (i : grid0.Coords) (k0_t5 : Fin (k0_t5_loop i).trips) : BitVec 32 :=
  let c2_i32_1284 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32_1062 : BitVec 32 := 1#32
  let arg29 : BitVec 32 := Scf.iv v918 c1_i32_1062 k0_t5
  let v2566 : BitVec 32 := Scalar.muli c2_i32_1284 arg29
  let c1_i32_1285 : BitVec 32 := 1#32
  let v2567 : BitVec 32 := Scalar.addi v2566 c1_i32_1285
  let c256_i32_1286 : BitVec 32 := 256#32
  let v2568 : BitVec 32 := Scalar.muli v2567 c256_i32_1286
  v2568
def k0_mult123 (i : grid0.Coords) (k0_t5 : Fin (k0_t5_loop i).trips) : BitVec 32 :=
  let c2_i32_1301 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32_1062 : BitVec 32 := 1#32
  let arg29 : BitVec 32 := Scf.iv v918 c1_i32_1062 k0_t5
  let v2589 : BitVec 32 := Scalar.muli c2_i32_1301 arg29
  let c0_i32_1302 : BitVec 32 := 0#32
  let v2590 : BitVec 32 := Scalar.addi v2589 c0_i32_1302
  let c256_i32_1303 : BitVec 32 := 256#32
  let v2591 : BitVec 32 := Scalar.muli v2590 c256_i32_1303
  v2591
def k0_mult124 (i : grid0.Coords) (k0_t5 : Fin (k0_t5_loop i).trips) : BitVec 32 :=
  let c2_i32_1317 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32_1062 : BitVec 32 := 1#32
  let arg29 : BitVec 32 := Scf.iv v918 c1_i32_1062 k0_t5
  let v2612 : BitVec 32 := Scalar.muli c2_i32_1317 arg29
  let c1_i32_1318 : BitVec 32 := 1#32
  let v2613 : BitVec 32 := Scalar.addi v2612 c1_i32_1318
  let c256_i32_1319 : BitVec 32 := 256#32
  let v2614 : BitVec 32 := Scalar.muli v2613 c256_i32_1319
  v2614
def k0_off467 (i : grid0.Coords) (k0_t5 : Fin (k0_t5_loop i).trips) (c0_i32_1335 : BitVec 32) : Fin 4 → Nat :=
  let c0_1339 : Index := 0#32
  let c2_i32_1334 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32_1062 : BitVec 32 := 1#32
  let arg29 : BitVec 32 := Scf.iv v918 c1_i32_1062 k0_t5
  let v2635 : BitVec 32 := Scalar.muli c2_i32_1334 arg29
  let v2636 : BitVec 32 := Scalar.addi v2635 c0_i32_1335
  let v2639 : Index := Scalar.indexCast v2636
  let c0_1340 : Index := 0#32
  let c0_1341 : Index := 0#32
  ![0, v2639.toNat, 0, 0]
def k0_off468 (i : grid0.Coords) (k0_t5 : Fin (k0_t5_loop i).trips) (c0_i32_1365 : BitVec 32) : Fin 4 → Nat :=
  let c0_1369 : Index := 0#32
  let c2_i32_1364 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32_1062 : BitVec 32 := 1#32
  let arg29 : BitVec 32 := Scf.iv v918 c1_i32_1062 k0_t5
  let v2678 : BitVec 32 := Scalar.muli c2_i32_1364 arg29
  let v2679 : BitVec 32 := Scalar.addi v2678 c0_i32_1365
  let v2682 : Index := Scalar.indexCast v2679
  let c80 : Index := 80#32
  let c0_1370 : Index := 0#32
  ![0, v2682.toNat, 80, 0]
def k0_off469 (i : grid0.Coords) (k0_t5 : Fin (k0_t5_loop i).trips) (c0_i32_1394 : BitVec 32) : Fin 4 → Nat :=
  let c0_1398 : Index := 0#32
  let c2_i32_1393 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32_1062 : BitVec 32 := 1#32
  let arg29 : BitVec 32 := Scf.iv v918 c1_i32_1062 k0_t5
  let v2721 : BitVec 32 := Scalar.muli c2_i32_1393 arg29
  let v2722 : BitVec 32 := Scalar.addi v2721 c0_i32_1394
  let v2725 : Index := Scalar.indexCast v2722
  let c160 : Index := 160#32
  let c0_1399 : Index := 0#32
  ![0, v2725.toNat, 160, 0]
def k0_off470 (i : grid0.Coords) (k0_t5 : Fin (k0_t5_loop i).trips) (c0_i32_1423 : BitVec 32) : Fin 4 → Nat :=
  let c0_1427 : Index := 0#32
  let c2_i32_1422 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32_1062 : BitVec 32 := 1#32
  let arg29 : BitVec 32 := Scf.iv v918 c1_i32_1062 k0_t5
  let v2764 : BitVec 32 := Scalar.muli c2_i32_1422 arg29
  let v2765 : BitVec 32 := Scalar.addi v2764 c0_i32_1423
  let v2768 : Index := Scalar.indexCast v2765
  let c240 : Index := 240#32
  let c0_1428 : Index := 0#32
  ![0, v2768.toNat, 240, 0]
def k0_off471 (i : grid0.Coords) (k0_t5 : Fin (k0_t5_loop i).trips) (c0_i32_1452 : BitVec 32) : Fin 4 → Nat :=
  let c0_1456 : Index := 0#32
  let c2_i32_1451 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32_1062 : BitVec 32 := 1#32
  let arg29 : BitVec 32 := Scf.iv v918 c1_i32_1062 k0_t5
  let v2807 : BitVec 32 := Scalar.muli c2_i32_1451 arg29
  let v2808 : BitVec 32 := Scalar.addi v2807 c0_i32_1452
  let v2811 : Index := Scalar.indexCast v2808
  let c320 : Index := 320#32
  let c0_1457 : Index := 0#32
  ![0, v2811.toNat, 320, 0]
def k0_off472 (i : grid0.Coords) (k0_t5 : Fin (k0_t5_loop i).trips) (c0_i32_1481 : BitVec 32) : Fin 4 → Nat :=
  let c0_1485 : Index := 0#32
  let c2_i32_1480 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32_1062 : BitVec 32 := 1#32
  let arg29 : BitVec 32 := Scf.iv v918 c1_i32_1062 k0_t5
  let v2850 : BitVec 32 := Scalar.muli c2_i32_1480 arg29
  let v2851 : BitVec 32 := Scalar.addi v2850 c0_i32_1481
  let v2854 : Index := Scalar.indexCast v2851
  let c400 : Index := 400#32
  let c0_1486 : Index := 0#32
  ![0, v2854.toNat, 400, 0]
def k0_off473 (i : grid0.Coords) (k0_t5 : Fin (k0_t5_loop i).trips) (c0_i32_1510 : BitVec 32) : Fin 4 → Nat :=
  let c0_1514 : Index := 0#32
  let c2_i32_1509 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32_1062 : BitVec 32 := 1#32
  let arg29 : BitVec 32 := Scf.iv v918 c1_i32_1062 k0_t5
  let v2893 : BitVec 32 := Scalar.muli c2_i32_1509 arg29
  let v2894 : BitVec 32 := Scalar.addi v2893 c0_i32_1510
  let v2897 : Index := Scalar.indexCast v2894
  let c480 : Index := 480#32
  let c0_1515 : Index := 0#32
  ![0, v2897.toNat, 480, 0]
def k0_off474 (i : grid0.Coords) (k0_t5 : Fin (k0_t5_loop i).trips) (c0_i32_1539 : BitVec 32) : Fin 4 → Nat :=
  let c0_1543 : Index := 0#32
  let c2_i32_1538 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32_1062 : BitVec 32 := 1#32
  let arg29 : BitVec 32 := Scf.iv v918 c1_i32_1062 k0_t5
  let v2936 : BitVec 32 := Scalar.muli c2_i32_1538 arg29
  let v2937 : BitVec 32 := Scalar.addi v2936 c0_i32_1539
  let v2940 : Index := Scalar.indexCast v2937
  let c560 : Index := 560#32
  let c0_1544 : Index := 0#32
  ![0, v2940.toNat, 560, 0]
@[reducible] def k0_t6_loop (i : grid0.Coords) : Scf.Loop 32 :=
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2262 : BitVec 32 := Scalar.subi v901 v918
  let c1_i32_1061 : BitVec 32 := 1#32
  let v2264 : BitVec 32 := Scalar.divsi v2262 c1_i32_1061
  let v2265 : BitVec 32 := Scalar.muli v2264 c1_i32_1061
  let v2266 : BitVec 32 := Scalar.addi v918 v2265
  let v2263 : BitVec 32 := Scalar.addi v918 v2262
  let c1_i32_1063 : BitVec 32 := 1#32
  ⟨v2266, v2263, c1_i32_1063⟩
def k0_mult125 (i : grid0.Coords) (k0_t6 : Fin (k0_t6_loop i).trips) : BitVec 32 :=
  let c2_i32_1064 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2262 : BitVec 32 := Scalar.subi v901 v918
  let c1_i32_1061 : BitVec 32 := 1#32
  let v2264 : BitVec 32 := Scalar.divsi v2262 c1_i32_1061
  let v2265 : BitVec 32 := Scalar.muli v2264 c1_i32_1061
  let v2266 : BitVec 32 := Scalar.addi v918 v2265
  let c1_i32_1063 : BitVec 32 := 1#32
  let arg29 : BitVec 32 := Scf.iv v2266 c1_i32_1063 k0_t6
  let v2267 : BitVec 32 := Scalar.muli c2_i32_1064 arg29
  let c0_i32_1065 : BitVec 32 := 0#32
  let v2268 : BitVec 32 := Scalar.addi v2267 c0_i32_1065
  let c256_i32_1066 : BitVec 32 := 256#32
  let v2269 : BitVec 32 := Scalar.muli v2268 c256_i32_1066
  v2269
def k0_off475 (i : grid0.Coords) (k0_t6 : Fin (k0_t6_loop i).trips) (c0_i32_1065 : BitVec 32) : Fin 3 → Nat :=
  let c0_1067 : Index := 0#32
  let c2_i32_1064 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2262 : BitVec 32 := Scalar.subi v901 v918
  let c1_i32_1061 : BitVec 32 := 1#32
  let v2264 : BitVec 32 := Scalar.divsi v2262 c1_i32_1061
  let v2265 : BitVec 32 := Scalar.muli v2264 c1_i32_1061
  let v2266 : BitVec 32 := Scalar.addi v918 v2265
  let c1_i32_1063 : BitVec 32 := 1#32
  let arg29 : BitVec 32 := Scf.iv v2266 c1_i32_1063 k0_t6
  let v2267 : BitVec 32 := Scalar.muli c2_i32_1064 arg29
  let v2268 : BitVec 32 := Scalar.addi v2267 c0_i32_1065
  let c256_i32_1066 : BitVec 32 := 256#32
  let v2269 : BitVec 32 := Scalar.muli v2268 c256_i32_1066
  let v2270 : BitVec 32 := v2269
  let v2271 : Index := Scalar.indexCast v2270
  let c0_1068 : Index := 0#32
  ![0, v2271.toNat, 0]
def k0_off476 (i : grid0.Coords) (k0_t6 : Fin (k0_t6_loop i).trips) (c0_i32_1075 : BitVec 32) (c0_i32_1065 : BitVec 32) : Fin 3 → Nat :=
  let c2_i32_1074 : BitVec 32 := 2#32
  let c0_i32_1073 : BitVec 32 := 0#32
  let arg1 : BitVec 32 := BitVec.ofNat 32 (i 1).val
  let c2_i32_1064 : BitVec 32 := 2#32
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2262 : BitVec 32 := Scalar.subi v901 v918
  let c1_i32_1061 : BitVec 32 := 1#32
  let v2264 : BitVec 32 := Scalar.divsi v2262 c1_i32_1061
  let v2265 : BitVec 32 := Scalar.muli v2264 c1_i32_1061
  let v2266 : BitVec 32 := Scalar.addi v918 v2265
  let c1_i32_1063 : BitVec 32 := 1#32
  let arg29 : BitVec 32 := Scf.iv v2266 c1_i32_1063 k0_t6
  let v2267 : BitVec 32 := Scalar.muli c2_i32_1064 arg29
  let v2268 : BitVec 32 := Scalar.addi v2267 c0_i32_1065
  let v2277 : BitVec 32 := Scalar.subi arg1 v2268
  let v2278 : BitVec 32 := Scalar.maxsi c0_i32_1073 v2277
  let v2279 : BitVec 32 := Scalar.minsi c2_i32_1074 v2278
  let v2280 : BitVec 32 := Scalar.addi c0_i32_1075 v2279
  let v2281 : Index := Scalar.indexCast v2280
  let c0_1076 : Index := 0#32
  let c0_1077 : Index := 0#32
  ![v2281.toNat, 0, 0]
def k0_mult126 (i : grid0.Coords) (k0_t6 : Fin (k0_t6_loop i).trips) : BitVec 32 :=
  let c2_i32_1081 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2262 : BitVec 32 := Scalar.subi v901 v918
  let c1_i32_1061 : BitVec 32 := 1#32
  let v2264 : BitVec 32 := Scalar.divsi v2262 c1_i32_1061
  let v2265 : BitVec 32 := Scalar.muli v2264 c1_i32_1061
  let v2266 : BitVec 32 := Scalar.addi v918 v2265
  let c1_i32_1063 : BitVec 32 := 1#32
  let arg29 : BitVec 32 := Scf.iv v2266 c1_i32_1063 k0_t6
  let v2290 : BitVec 32 := Scalar.muli c2_i32_1081 arg29
  let c1_i32_1082 : BitVec 32 := 1#32
  let v2291 : BitVec 32 := Scalar.addi v2290 c1_i32_1082
  let c256_i32_1083 : BitVec 32 := 256#32
  let v2292 : BitVec 32 := Scalar.muli v2291 c256_i32_1083
  v2292
def k0_mult127 (i : grid0.Coords) (k0_t6 : Fin (k0_t6_loop i).trips) : BitVec 32 :=
  let c2_i32_1098 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2262 : BitVec 32 := Scalar.subi v901 v918
  let c1_i32_1061 : BitVec 32 := 1#32
  let v2264 : BitVec 32 := Scalar.divsi v2262 c1_i32_1061
  let v2265 : BitVec 32 := Scalar.muli v2264 c1_i32_1061
  let v2266 : BitVec 32 := Scalar.addi v918 v2265
  let c1_i32_1063 : BitVec 32 := 1#32
  let arg29 : BitVec 32 := Scf.iv v2266 c1_i32_1063 k0_t6
  let v2313 : BitVec 32 := Scalar.muli c2_i32_1098 arg29
  let c0_i32_1099 : BitVec 32 := 0#32
  let v2314 : BitVec 32 := Scalar.addi v2313 c0_i32_1099
  let c256_i32_1100 : BitVec 32 := 256#32
  let v2315 : BitVec 32 := Scalar.muli v2314 c256_i32_1100
  v2315
def k0_mult128 (i : grid0.Coords) (k0_t6 : Fin (k0_t6_loop i).trips) : BitVec 32 :=
  let c2_i32_1115 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2262 : BitVec 32 := Scalar.subi v901 v918
  let c1_i32_1061 : BitVec 32 := 1#32
  let v2264 : BitVec 32 := Scalar.divsi v2262 c1_i32_1061
  let v2265 : BitVec 32 := Scalar.muli v2264 c1_i32_1061
  let v2266 : BitVec 32 := Scalar.addi v918 v2265
  let c1_i32_1063 : BitVec 32 := 1#32
  let arg29 : BitVec 32 := Scf.iv v2266 c1_i32_1063 k0_t6
  let v2336 : BitVec 32 := Scalar.muli c2_i32_1115 arg29
  let c1_i32_1116 : BitVec 32 := 1#32
  let v2337 : BitVec 32 := Scalar.addi v2336 c1_i32_1116
  let c256_i32_1117 : BitVec 32 := 256#32
  let v2338 : BitVec 32 := Scalar.muli v2337 c256_i32_1117
  v2338
def k0_mult129 (i : grid0.Coords) (k0_t6 : Fin (k0_t6_loop i).trips) : BitVec 32 :=
  let c2_i32_1132 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2262 : BitVec 32 := Scalar.subi v901 v918
  let c1_i32_1061 : BitVec 32 := 1#32
  let v2264 : BitVec 32 := Scalar.divsi v2262 c1_i32_1061
  let v2265 : BitVec 32 := Scalar.muli v2264 c1_i32_1061
  let v2266 : BitVec 32 := Scalar.addi v918 v2265
  let c1_i32_1063 : BitVec 32 := 1#32
  let arg29 : BitVec 32 := Scf.iv v2266 c1_i32_1063 k0_t6
  let v2359 : BitVec 32 := Scalar.muli c2_i32_1132 arg29
  let c0_i32_1133 : BitVec 32 := 0#32
  let v2360 : BitVec 32 := Scalar.addi v2359 c0_i32_1133
  let c256_i32_1134 : BitVec 32 := 256#32
  let v2361 : BitVec 32 := Scalar.muli v2360 c256_i32_1134
  v2361
def k0_off477 (i : grid0.Coords) (k0_t6 : Fin (k0_t6_loop i).trips) (c0_i32_1133 : BitVec 32) : Fin 3 → Nat :=
  let c0_1135 : Index := 0#32
  let c2_i32_1132 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2262 : BitVec 32 := Scalar.subi v901 v918
  let c1_i32_1061 : BitVec 32 := 1#32
  let v2264 : BitVec 32 := Scalar.divsi v2262 c1_i32_1061
  let v2265 : BitVec 32 := Scalar.muli v2264 c1_i32_1061
  let v2266 : BitVec 32 := Scalar.addi v918 v2265
  let c1_i32_1063 : BitVec 32 := 1#32
  let arg29 : BitVec 32 := Scf.iv v2266 c1_i32_1063 k0_t6
  let v2359 : BitVec 32 := Scalar.muli c2_i32_1132 arg29
  let v2360 : BitVec 32 := Scalar.addi v2359 c0_i32_1133
  let c256_i32_1134 : BitVec 32 := 256#32
  let v2361 : BitVec 32 := Scalar.muli v2360 c256_i32_1134
  let v2362 : BitVec 32 := v2361
  let v2363 : Index := Scalar.indexCast v2362
  let c128_1136 : Index := 128#32
  ![0, v2363.toNat, 128]
def k0_mult130 (i : grid0.Coords) (k0_t6 : Fin (k0_t6_loop i).trips) : BitVec 32 :=
  let c2_i32_1149 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2262 : BitVec 32 := Scalar.subi v901 v918
  let c1_i32_1061 : BitVec 32 := 1#32
  let v2264 : BitVec 32 := Scalar.divsi v2262 c1_i32_1061
  let v2265 : BitVec 32 := Scalar.muli v2264 c1_i32_1061
  let v2266 : BitVec 32 := Scalar.addi v918 v2265
  let c1_i32_1063 : BitVec 32 := 1#32
  let arg29 : BitVec 32 := Scf.iv v2266 c1_i32_1063 k0_t6
  let v2382 : BitVec 32 := Scalar.muli c2_i32_1149 arg29
  let c1_i32_1150 : BitVec 32 := 1#32
  let v2383 : BitVec 32 := Scalar.addi v2382 c1_i32_1150
  let c256_i32_1151 : BitVec 32 := 256#32
  let v2384 : BitVec 32 := Scalar.muli v2383 c256_i32_1151
  v2384
def k0_mult131 (i : grid0.Coords) (k0_t6 : Fin (k0_t6_loop i).trips) : BitVec 32 :=
  let c2_i32_1166 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2262 : BitVec 32 := Scalar.subi v901 v918
  let c1_i32_1061 : BitVec 32 := 1#32
  let v2264 : BitVec 32 := Scalar.divsi v2262 c1_i32_1061
  let v2265 : BitVec 32 := Scalar.muli v2264 c1_i32_1061
  let v2266 : BitVec 32 := Scalar.addi v918 v2265
  let c1_i32_1063 : BitVec 32 := 1#32
  let arg29 : BitVec 32 := Scf.iv v2266 c1_i32_1063 k0_t6
  let v2405 : BitVec 32 := Scalar.muli c2_i32_1166 arg29
  let c0_i32_1167 : BitVec 32 := 0#32
  let v2406 : BitVec 32 := Scalar.addi v2405 c0_i32_1167
  let c256_i32_1168 : BitVec 32 := 256#32
  let v2407 : BitVec 32 := Scalar.muli v2406 c256_i32_1168
  v2407
def k0_mult132 (i : grid0.Coords) (k0_t6 : Fin (k0_t6_loop i).trips) : BitVec 32 :=
  let c2_i32_1183 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2262 : BitVec 32 := Scalar.subi v901 v918
  let c1_i32_1061 : BitVec 32 := 1#32
  let v2264 : BitVec 32 := Scalar.divsi v2262 c1_i32_1061
  let v2265 : BitVec 32 := Scalar.muli v2264 c1_i32_1061
  let v2266 : BitVec 32 := Scalar.addi v918 v2265
  let c1_i32_1063 : BitVec 32 := 1#32
  let arg29 : BitVec 32 := Scf.iv v2266 c1_i32_1063 k0_t6
  let v2428 : BitVec 32 := Scalar.muli c2_i32_1183 arg29
  let c1_i32_1184 : BitVec 32 := 1#32
  let v2429 : BitVec 32 := Scalar.addi v2428 c1_i32_1184
  let c256_i32_1185 : BitVec 32 := 256#32
  let v2430 : BitVec 32 := Scalar.muli v2429 c256_i32_1185
  v2430
def k0_mult133 (i : grid0.Coords) (k0_t6 : Fin (k0_t6_loop i).trips) : BitVec 32 :=
  let c2_i32_1200 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2262 : BitVec 32 := Scalar.subi v901 v918
  let c1_i32_1061 : BitVec 32 := 1#32
  let v2264 : BitVec 32 := Scalar.divsi v2262 c1_i32_1061
  let v2265 : BitVec 32 := Scalar.muli v2264 c1_i32_1061
  let v2266 : BitVec 32 := Scalar.addi v918 v2265
  let c1_i32_1063 : BitVec 32 := 1#32
  let arg29 : BitVec 32 := Scf.iv v2266 c1_i32_1063 k0_t6
  let v2451 : BitVec 32 := Scalar.muli c2_i32_1200 arg29
  let c0_i32_1201 : BitVec 32 := 0#32
  let v2452 : BitVec 32 := Scalar.addi v2451 c0_i32_1201
  let c256_i32_1202 : BitVec 32 := 256#32
  let v2453 : BitVec 32 := Scalar.muli v2452 c256_i32_1202
  v2453
def k0_off478 (i : grid0.Coords) (k0_t6 : Fin (k0_t6_loop i).trips) (c0_i32_1201 : BitVec 32) : Fin 3 → Nat :=
  let c0_1203 : Index := 0#32
  let c2_i32_1200 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2262 : BitVec 32 := Scalar.subi v901 v918
  let c1_i32_1061 : BitVec 32 := 1#32
  let v2264 : BitVec 32 := Scalar.divsi v2262 c1_i32_1061
  let v2265 : BitVec 32 := Scalar.muli v2264 c1_i32_1061
  let v2266 : BitVec 32 := Scalar.addi v918 v2265
  let c1_i32_1063 : BitVec 32 := 1#32
  let arg29 : BitVec 32 := Scf.iv v2266 c1_i32_1063 k0_t6
  let v2451 : BitVec 32 := Scalar.muli c2_i32_1200 arg29
  let v2452 : BitVec 32 := Scalar.addi v2451 c0_i32_1201
  let c256_i32_1202 : BitVec 32 := 256#32
  let v2453 : BitVec 32 := Scalar.muli v2452 c256_i32_1202
  let v2454 : BitVec 32 := v2453
  let v2455 : Index := Scalar.indexCast v2454
  let c256_1204 : Index := 256#32
  ![0, v2455.toNat, 256]
def k0_mult134 (i : grid0.Coords) (k0_t6 : Fin (k0_t6_loop i).trips) : BitVec 32 :=
  let c2_i32_1217 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2262 : BitVec 32 := Scalar.subi v901 v918
  let c1_i32_1061 : BitVec 32 := 1#32
  let v2264 : BitVec 32 := Scalar.divsi v2262 c1_i32_1061
  let v2265 : BitVec 32 := Scalar.muli v2264 c1_i32_1061
  let v2266 : BitVec 32 := Scalar.addi v918 v2265
  let c1_i32_1063 : BitVec 32 := 1#32
  let arg29 : BitVec 32 := Scf.iv v2266 c1_i32_1063 k0_t6
  let v2474 : BitVec 32 := Scalar.muli c2_i32_1217 arg29
  let c1_i32_1218 : BitVec 32 := 1#32
  let v2475 : BitVec 32 := Scalar.addi v2474 c1_i32_1218
  let c256_i32_1219 : BitVec 32 := 256#32
  let v2476 : BitVec 32 := Scalar.muli v2475 c256_i32_1219
  v2476
def k0_mult135 (i : grid0.Coords) (k0_t6 : Fin (k0_t6_loop i).trips) : BitVec 32 :=
  let c2_i32_1234 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2262 : BitVec 32 := Scalar.subi v901 v918
  let c1_i32_1061 : BitVec 32 := 1#32
  let v2264 : BitVec 32 := Scalar.divsi v2262 c1_i32_1061
  let v2265 : BitVec 32 := Scalar.muli v2264 c1_i32_1061
  let v2266 : BitVec 32 := Scalar.addi v918 v2265
  let c1_i32_1063 : BitVec 32 := 1#32
  let arg29 : BitVec 32 := Scf.iv v2266 c1_i32_1063 k0_t6
  let v2497 : BitVec 32 := Scalar.muli c2_i32_1234 arg29
  let c0_i32_1235 : BitVec 32 := 0#32
  let v2498 : BitVec 32 := Scalar.addi v2497 c0_i32_1235
  let c256_i32_1236 : BitVec 32 := 256#32
  let v2499 : BitVec 32 := Scalar.muli v2498 c256_i32_1236
  v2499
def k0_mult136 (i : grid0.Coords) (k0_t6 : Fin (k0_t6_loop i).trips) : BitVec 32 :=
  let c2_i32_1251 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2262 : BitVec 32 := Scalar.subi v901 v918
  let c1_i32_1061 : BitVec 32 := 1#32
  let v2264 : BitVec 32 := Scalar.divsi v2262 c1_i32_1061
  let v2265 : BitVec 32 := Scalar.muli v2264 c1_i32_1061
  let v2266 : BitVec 32 := Scalar.addi v918 v2265
  let c1_i32_1063 : BitVec 32 := 1#32
  let arg29 : BitVec 32 := Scf.iv v2266 c1_i32_1063 k0_t6
  let v2520 : BitVec 32 := Scalar.muli c2_i32_1251 arg29
  let c1_i32_1252 : BitVec 32 := 1#32
  let v2521 : BitVec 32 := Scalar.addi v2520 c1_i32_1252
  let c256_i32_1253 : BitVec 32 := 256#32
  let v2522 : BitVec 32 := Scalar.muli v2521 c256_i32_1253
  v2522
def k0_mult137 (i : grid0.Coords) (k0_t6 : Fin (k0_t6_loop i).trips) : BitVec 32 :=
  let c2_i32_1268 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2262 : BitVec 32 := Scalar.subi v901 v918
  let c1_i32_1061 : BitVec 32 := 1#32
  let v2264 : BitVec 32 := Scalar.divsi v2262 c1_i32_1061
  let v2265 : BitVec 32 := Scalar.muli v2264 c1_i32_1061
  let v2266 : BitVec 32 := Scalar.addi v918 v2265
  let c1_i32_1063 : BitVec 32 := 1#32
  let arg29 : BitVec 32 := Scf.iv v2266 c1_i32_1063 k0_t6
  let v2543 : BitVec 32 := Scalar.muli c2_i32_1268 arg29
  let c0_i32_1269 : BitVec 32 := 0#32
  let v2544 : BitVec 32 := Scalar.addi v2543 c0_i32_1269
  let c256_i32_1270 : BitVec 32 := 256#32
  let v2545 : BitVec 32 := Scalar.muli v2544 c256_i32_1270
  v2545
def k0_off479 (i : grid0.Coords) (k0_t6 : Fin (k0_t6_loop i).trips) (c0_i32_1269 : BitVec 32) : Fin 3 → Nat :=
  let c0_1271 : Index := 0#32
  let c2_i32_1268 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2262 : BitVec 32 := Scalar.subi v901 v918
  let c1_i32_1061 : BitVec 32 := 1#32
  let v2264 : BitVec 32 := Scalar.divsi v2262 c1_i32_1061
  let v2265 : BitVec 32 := Scalar.muli v2264 c1_i32_1061
  let v2266 : BitVec 32 := Scalar.addi v918 v2265
  let c1_i32_1063 : BitVec 32 := 1#32
  let arg29 : BitVec 32 := Scf.iv v2266 c1_i32_1063 k0_t6
  let v2543 : BitVec 32 := Scalar.muli c2_i32_1268 arg29
  let v2544 : BitVec 32 := Scalar.addi v2543 c0_i32_1269
  let c256_i32_1270 : BitVec 32 := 256#32
  let v2545 : BitVec 32 := Scalar.muli v2544 c256_i32_1270
  let v2546 : BitVec 32 := v2545
  let v2547 : Index := Scalar.indexCast v2546
  let c384_1272 : Index := 384#32
  ![0, v2547.toNat, 384]
def k0_mult138 (i : grid0.Coords) (k0_t6 : Fin (k0_t6_loop i).trips) : BitVec 32 :=
  let c2_i32_1284 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2262 : BitVec 32 := Scalar.subi v901 v918
  let c1_i32_1061 : BitVec 32 := 1#32
  let v2264 : BitVec 32 := Scalar.divsi v2262 c1_i32_1061
  let v2265 : BitVec 32 := Scalar.muli v2264 c1_i32_1061
  let v2266 : BitVec 32 := Scalar.addi v918 v2265
  let c1_i32_1063 : BitVec 32 := 1#32
  let arg29 : BitVec 32 := Scf.iv v2266 c1_i32_1063 k0_t6
  let v2566 : BitVec 32 := Scalar.muli c2_i32_1284 arg29
  let c1_i32_1285 : BitVec 32 := 1#32
  let v2567 : BitVec 32 := Scalar.addi v2566 c1_i32_1285
  let c256_i32_1286 : BitVec 32 := 256#32
  let v2568 : BitVec 32 := Scalar.muli v2567 c256_i32_1286
  v2568
def k0_mult139 (i : grid0.Coords) (k0_t6 : Fin (k0_t6_loop i).trips) : BitVec 32 :=
  let c2_i32_1301 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2262 : BitVec 32 := Scalar.subi v901 v918
  let c1_i32_1061 : BitVec 32 := 1#32
  let v2264 : BitVec 32 := Scalar.divsi v2262 c1_i32_1061
  let v2265 : BitVec 32 := Scalar.muli v2264 c1_i32_1061
  let v2266 : BitVec 32 := Scalar.addi v918 v2265
  let c1_i32_1063 : BitVec 32 := 1#32
  let arg29 : BitVec 32 := Scf.iv v2266 c1_i32_1063 k0_t6
  let v2589 : BitVec 32 := Scalar.muli c2_i32_1301 arg29
  let c0_i32_1302 : BitVec 32 := 0#32
  let v2590 : BitVec 32 := Scalar.addi v2589 c0_i32_1302
  let c256_i32_1303 : BitVec 32 := 256#32
  let v2591 : BitVec 32 := Scalar.muli v2590 c256_i32_1303
  v2591
def k0_mult140 (i : grid0.Coords) (k0_t6 : Fin (k0_t6_loop i).trips) : BitVec 32 :=
  let c2_i32_1317 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2262 : BitVec 32 := Scalar.subi v901 v918
  let c1_i32_1061 : BitVec 32 := 1#32
  let v2264 : BitVec 32 := Scalar.divsi v2262 c1_i32_1061
  let v2265 : BitVec 32 := Scalar.muli v2264 c1_i32_1061
  let v2266 : BitVec 32 := Scalar.addi v918 v2265
  let c1_i32_1063 : BitVec 32 := 1#32
  let arg29 : BitVec 32 := Scf.iv v2266 c1_i32_1063 k0_t6
  let v2612 : BitVec 32 := Scalar.muli c2_i32_1317 arg29
  let c1_i32_1318 : BitVec 32 := 1#32
  let v2613 : BitVec 32 := Scalar.addi v2612 c1_i32_1318
  let c256_i32_1319 : BitVec 32 := 256#32
  let v2614 : BitVec 32 := Scalar.muli v2613 c256_i32_1319
  v2614
def k0_off480 (i : grid0.Coords) (k0_t6 : Fin (k0_t6_loop i).trips) (c0_i32_1335 : BitVec 32) : Fin 4 → Nat :=
  let c0_1339 : Index := 0#32
  let c2_i32_1334 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2262 : BitVec 32 := Scalar.subi v901 v918
  let c1_i32_1061 : BitVec 32 := 1#32
  let v2264 : BitVec 32 := Scalar.divsi v2262 c1_i32_1061
  let v2265 : BitVec 32 := Scalar.muli v2264 c1_i32_1061
  let v2266 : BitVec 32 := Scalar.addi v918 v2265
  let c1_i32_1063 : BitVec 32 := 1#32
  let arg29 : BitVec 32 := Scf.iv v2266 c1_i32_1063 k0_t6
  let v2635 : BitVec 32 := Scalar.muli c2_i32_1334 arg29
  let v2636 : BitVec 32 := Scalar.addi v2635 c0_i32_1335
  let v2639 : Index := Scalar.indexCast v2636
  let c0_1340 : Index := 0#32
  let c0_1341 : Index := 0#32
  ![0, v2639.toNat, 0, 0]
def k0_off481 (i : grid0.Coords) (k0_t6 : Fin (k0_t6_loop i).trips) (c0_i32_1365 : BitVec 32) : Fin 4 → Nat :=
  let c0_1369 : Index := 0#32
  let c2_i32_1364 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2262 : BitVec 32 := Scalar.subi v901 v918
  let c1_i32_1061 : BitVec 32 := 1#32
  let v2264 : BitVec 32 := Scalar.divsi v2262 c1_i32_1061
  let v2265 : BitVec 32 := Scalar.muli v2264 c1_i32_1061
  let v2266 : BitVec 32 := Scalar.addi v918 v2265
  let c1_i32_1063 : BitVec 32 := 1#32
  let arg29 : BitVec 32 := Scf.iv v2266 c1_i32_1063 k0_t6
  let v2678 : BitVec 32 := Scalar.muli c2_i32_1364 arg29
  let v2679 : BitVec 32 := Scalar.addi v2678 c0_i32_1365
  let v2682 : Index := Scalar.indexCast v2679
  let c80 : Index := 80#32
  let c0_1370 : Index := 0#32
  ![0, v2682.toNat, 80, 0]
def k0_off482 (i : grid0.Coords) (k0_t6 : Fin (k0_t6_loop i).trips) (c0_i32_1394 : BitVec 32) : Fin 4 → Nat :=
  let c0_1398 : Index := 0#32
  let c2_i32_1393 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2262 : BitVec 32 := Scalar.subi v901 v918
  let c1_i32_1061 : BitVec 32 := 1#32
  let v2264 : BitVec 32 := Scalar.divsi v2262 c1_i32_1061
  let v2265 : BitVec 32 := Scalar.muli v2264 c1_i32_1061
  let v2266 : BitVec 32 := Scalar.addi v918 v2265
  let c1_i32_1063 : BitVec 32 := 1#32
  let arg29 : BitVec 32 := Scf.iv v2266 c1_i32_1063 k0_t6
  let v2721 : BitVec 32 := Scalar.muli c2_i32_1393 arg29
  let v2722 : BitVec 32 := Scalar.addi v2721 c0_i32_1394
  let v2725 : Index := Scalar.indexCast v2722
  let c160 : Index := 160#32
  let c0_1399 : Index := 0#32
  ![0, v2725.toNat, 160, 0]
def k0_off483 (i : grid0.Coords) (k0_t6 : Fin (k0_t6_loop i).trips) (c0_i32_1423 : BitVec 32) : Fin 4 → Nat :=
  let c0_1427 : Index := 0#32
  let c2_i32_1422 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2262 : BitVec 32 := Scalar.subi v901 v918
  let c1_i32_1061 : BitVec 32 := 1#32
  let v2264 : BitVec 32 := Scalar.divsi v2262 c1_i32_1061
  let v2265 : BitVec 32 := Scalar.muli v2264 c1_i32_1061
  let v2266 : BitVec 32 := Scalar.addi v918 v2265
  let c1_i32_1063 : BitVec 32 := 1#32
  let arg29 : BitVec 32 := Scf.iv v2266 c1_i32_1063 k0_t6
  let v2764 : BitVec 32 := Scalar.muli c2_i32_1422 arg29
  let v2765 : BitVec 32 := Scalar.addi v2764 c0_i32_1423
  let v2768 : Index := Scalar.indexCast v2765
  let c240 : Index := 240#32
  let c0_1428 : Index := 0#32
  ![0, v2768.toNat, 240, 0]
def k0_off484 (i : grid0.Coords) (k0_t6 : Fin (k0_t6_loop i).trips) (c0_i32_1452 : BitVec 32) : Fin 4 → Nat :=
  let c0_1456 : Index := 0#32
  let c2_i32_1451 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2262 : BitVec 32 := Scalar.subi v901 v918
  let c1_i32_1061 : BitVec 32 := 1#32
  let v2264 : BitVec 32 := Scalar.divsi v2262 c1_i32_1061
  let v2265 : BitVec 32 := Scalar.muli v2264 c1_i32_1061
  let v2266 : BitVec 32 := Scalar.addi v918 v2265
  let c1_i32_1063 : BitVec 32 := 1#32
  let arg29 : BitVec 32 := Scf.iv v2266 c1_i32_1063 k0_t6
  let v2807 : BitVec 32 := Scalar.muli c2_i32_1451 arg29
  let v2808 : BitVec 32 := Scalar.addi v2807 c0_i32_1452
  let v2811 : Index := Scalar.indexCast v2808
  let c320 : Index := 320#32
  let c0_1457 : Index := 0#32
  ![0, v2811.toNat, 320, 0]
def k0_off485 (i : grid0.Coords) (k0_t6 : Fin (k0_t6_loop i).trips) (c0_i32_1481 : BitVec 32) : Fin 4 → Nat :=
  let c0_1485 : Index := 0#32
  let c2_i32_1480 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2262 : BitVec 32 := Scalar.subi v901 v918
  let c1_i32_1061 : BitVec 32 := 1#32
  let v2264 : BitVec 32 := Scalar.divsi v2262 c1_i32_1061
  let v2265 : BitVec 32 := Scalar.muli v2264 c1_i32_1061
  let v2266 : BitVec 32 := Scalar.addi v918 v2265
  let c1_i32_1063 : BitVec 32 := 1#32
  let arg29 : BitVec 32 := Scf.iv v2266 c1_i32_1063 k0_t6
  let v2850 : BitVec 32 := Scalar.muli c2_i32_1480 arg29
  let v2851 : BitVec 32 := Scalar.addi v2850 c0_i32_1481
  let v2854 : Index := Scalar.indexCast v2851
  let c400 : Index := 400#32
  let c0_1486 : Index := 0#32
  ![0, v2854.toNat, 400, 0]
def k0_off486 (i : grid0.Coords) (k0_t6 : Fin (k0_t6_loop i).trips) (c0_i32_1510 : BitVec 32) : Fin 4 → Nat :=
  let c0_1514 : Index := 0#32
  let c2_i32_1509 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2262 : BitVec 32 := Scalar.subi v901 v918
  let c1_i32_1061 : BitVec 32 := 1#32
  let v2264 : BitVec 32 := Scalar.divsi v2262 c1_i32_1061
  let v2265 : BitVec 32 := Scalar.muli v2264 c1_i32_1061
  let v2266 : BitVec 32 := Scalar.addi v918 v2265
  let c1_i32_1063 : BitVec 32 := 1#32
  let arg29 : BitVec 32 := Scf.iv v2266 c1_i32_1063 k0_t6
  let v2893 : BitVec 32 := Scalar.muli c2_i32_1509 arg29
  let v2894 : BitVec 32 := Scalar.addi v2893 c0_i32_1510
  let v2897 : Index := Scalar.indexCast v2894
  let c480 : Index := 480#32
  let c0_1515 : Index := 0#32
  ![0, v2897.toNat, 480, 0]
def k0_off487 (i : grid0.Coords) (k0_t6 : Fin (k0_t6_loop i).trips) (c0_i32_1539 : BitVec 32) : Fin 4 → Nat :=
  let c0_1543 : Index := 0#32
  let c2_i32_1538 : BitVec 32 := 2#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2262 : BitVec 32 := Scalar.subi v901 v918
  let c1_i32_1061 : BitVec 32 := 1#32
  let v2264 : BitVec 32 := Scalar.divsi v2262 c1_i32_1061
  let v2265 : BitVec 32 := Scalar.muli v2264 c1_i32_1061
  let v2266 : BitVec 32 := Scalar.addi v918 v2265
  let c1_i32_1063 : BitVec 32 := 1#32
  let arg29 : BitVec 32 := Scf.iv v2266 c1_i32_1063 k0_t6
  let v2936 : BitVec 32 := Scalar.muli c2_i32_1538 arg29
  let v2937 : BitVec 32 := Scalar.addi v2936 c0_i32_1539
  let v2940 : Index := Scalar.indexCast v2937
  let c560 : Index := 560#32
  let c0_1544 : Index := 0#32
  ![0, v2940.toNat, 560, 0]
@[reducible] def k0_t7_loop (i : grid0.Coords) : Scf.Loop 32 :=
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1053 : BitVec 32 := 1#32
  ⟨c0_i32_1051, v2246, c1_i32_1053⟩
def k0_mult141 (i : grid0.Coords) (k0_t7 : Fin (k0_t7_loop i).trips) : BitVec 32 :=
  let c2_i32_1060 : BitVec 32 := 2#32
  let c0_i32_1051 : BitVec 32 := 0#32
  let c1_i32_1053 : BitVec 32 := 1#32
  let arg29 : BitVec 32 := Scf.iv c0_i32_1051 c1_i32_1053 k0_t7
  let v2254 : BitVec 32 := Scalar.muli c2_i32_1060 arg29
  let c0_i32_1061 : BitVec 32 := 0#32
  let v2255 : BitVec 32 := Scalar.addi v2254 c0_i32_1061
  let c256_i32_1062 : BitVec 32 := 256#32
  let v2256 : BitVec 32 := Scalar.muli v2255 c256_i32_1062
  v2256
def k0_off488 (i : grid0.Coords) (k0_t7 : Fin (k0_t7_loop i).trips) (c0_i32_1061 : BitVec 32) : Fin 3 → Nat :=
  let c0_1063 : Index := 0#32
  let c2_i32_1060 : BitVec 32 := 2#32
  let c0_i32_1051 : BitVec 32 := 0#32
  let c1_i32_1053 : BitVec 32 := 1#32
  let arg29 : BitVec 32 := Scf.iv c0_i32_1051 c1_i32_1053 k0_t7
  let v2254 : BitVec 32 := Scalar.muli c2_i32_1060 arg29
  let v2255 : BitVec 32 := Scalar.addi v2254 c0_i32_1061
  let c256_i32_1062 : BitVec 32 := 256#32
  let v2256 : BitVec 32 := Scalar.muli v2255 c256_i32_1062
  let v2257 : BitVec 32 := v2256
  let v2258 : Index := Scalar.indexCast v2257
  let c0_1064 : Index := 0#32
  ![0, v2258.toNat, 0]
def k0_off489 (i : grid0.Coords) (k0_t7 : Fin (k0_t7_loop i).trips) (c0_i32_1071 : BitVec 32) (c0_i32_1061 : BitVec 32) : Fin 3 → Nat :=
  let c2_i32_1070 : BitVec 32 := 2#32
  let c0_i32_1069 : BitVec 32 := 0#32
  let arg1 : BitVec 32 := BitVec.ofNat 32 (i 1).val
  let c2_i32_1060 : BitVec 32 := 2#32
  let c0_i32_1051 : BitVec 32 := 0#32
  let c1_i32_1053 : BitVec 32 := 1#32
  let arg29 : BitVec 32 := Scf.iv c0_i32_1051 c1_i32_1053 k0_t7
  let v2254 : BitVec 32 := Scalar.muli c2_i32_1060 arg29
  let v2255 : BitVec 32 := Scalar.addi v2254 c0_i32_1061
  let v2264 : BitVec 32 := Scalar.subi arg1 v2255
  let v2265 : BitVec 32 := Scalar.maxsi c0_i32_1069 v2264
  let v2266 : BitVec 32 := Scalar.minsi c2_i32_1070 v2265
  let v2267 : BitVec 32 := Scalar.addi c0_i32_1071 v2266
  let v2268 : Index := Scalar.indexCast v2267
  let c0_1072 : Index := 0#32
  let c0_1073 : Index := 0#32
  ![v2268.toNat, 0, 0]
def k0_mult142 (i : grid0.Coords) (k0_t7 : Fin (k0_t7_loop i).trips) : BitVec 32 :=
  let c2_i32_1081 : BitVec 32 := 2#32
  let c0_i32_1051 : BitVec 32 := 0#32
  let c1_i32_1053 : BitVec 32 := 1#32
  let arg29 : BitVec 32 := Scf.iv c0_i32_1051 c1_i32_1053 k0_t7
  let v2286 : BitVec 32 := Scalar.muli c2_i32_1081 arg29
  let c1_i32_1082 : BitVec 32 := 1#32
  let v2287 : BitVec 32 := Scalar.addi v2286 c1_i32_1082
  let c256_i32_1083 : BitVec 32 := 256#32
  let v2288 : BitVec 32 := Scalar.muli v2287 c256_i32_1083
  v2288
def k0_mult143 (i : grid0.Coords) (k0_t7 : Fin (k0_t7_loop i).trips) : BitVec 32 :=
  let c2_i32_1102 : BitVec 32 := 2#32
  let c0_i32_1051 : BitVec 32 := 0#32
  let c1_i32_1053 : BitVec 32 := 1#32
  let arg29 : BitVec 32 := Scf.iv c0_i32_1051 c1_i32_1053 k0_t7
  let v2318 : BitVec 32 := Scalar.muli c2_i32_1102 arg29
  let c0_i32_1103 : BitVec 32 := 0#32
  let v2319 : BitVec 32 := Scalar.addi v2318 c0_i32_1103
  let c256_i32_1104 : BitVec 32 := 256#32
  let v2320 : BitVec 32 := Scalar.muli v2319 c256_i32_1104
  v2320
def k0_mult144 (i : grid0.Coords) (k0_t7 : Fin (k0_t7_loop i).trips) : BitVec 32 :=
  let c2_i32_1123 : BitVec 32 := 2#32
  let c0_i32_1051 : BitVec 32 := 0#32
  let c1_i32_1053 : BitVec 32 := 1#32
  let arg29 : BitVec 32 := Scf.iv c0_i32_1051 c1_i32_1053 k0_t7
  let v2350 : BitVec 32 := Scalar.muli c2_i32_1123 arg29
  let c1_i32_1124 : BitVec 32 := 1#32
  let v2351 : BitVec 32 := Scalar.addi v2350 c1_i32_1124
  let c256_i32_1125 : BitVec 32 := 256#32
  let v2352 : BitVec 32 := Scalar.muli v2351 c256_i32_1125
  v2352
def k0_mult145 (i : grid0.Coords) (k0_t7 : Fin (k0_t7_loop i).trips) : BitVec 32 :=
  let c2_i32_1144 : BitVec 32 := 2#32
  let c0_i32_1051 : BitVec 32 := 0#32
  let c1_i32_1053 : BitVec 32 := 1#32
  let arg29 : BitVec 32 := Scf.iv c0_i32_1051 c1_i32_1053 k0_t7
  let v2382 : BitVec 32 := Scalar.muli c2_i32_1144 arg29
  let c0_i32_1145 : BitVec 32 := 0#32
  let v2383 : BitVec 32 := Scalar.addi v2382 c0_i32_1145
  let c256_i32_1146 : BitVec 32 := 256#32
  let v2384 : BitVec 32 := Scalar.muli v2383 c256_i32_1146
  v2384
def k0_off490 (i : grid0.Coords) (k0_t7 : Fin (k0_t7_loop i).trips) (c0_i32_1145 : BitVec 32) : Fin 3 → Nat :=
  let c0_1147 : Index := 0#32
  let c2_i32_1144 : BitVec 32 := 2#32
  let c0_i32_1051 : BitVec 32 := 0#32
  let c1_i32_1053 : BitVec 32 := 1#32
  let arg29 : BitVec 32 := Scf.iv c0_i32_1051 c1_i32_1053 k0_t7
  let v2382 : BitVec 32 := Scalar.muli c2_i32_1144 arg29
  let v2383 : BitVec 32 := Scalar.addi v2382 c0_i32_1145
  let c256_i32_1146 : BitVec 32 := 256#32
  let v2384 : BitVec 32 := Scalar.muli v2383 c256_i32_1146
  let v2385 : BitVec 32 := v2384
  let v2386 : Index := Scalar.indexCast v2385
  let c128_1148 : Index := 128#32
  ![0, v2386.toNat, 128]
def k0_mult146 (i : grid0.Coords) (k0_t7 : Fin (k0_t7_loop i).trips) : BitVec 32 :=
  let c2_i32_1165 : BitVec 32 := 2#32
  let c0_i32_1051 : BitVec 32 := 0#32
  let c1_i32_1053 : BitVec 32 := 1#32
  let arg29 : BitVec 32 := Scf.iv c0_i32_1051 c1_i32_1053 k0_t7
  let v2414 : BitVec 32 := Scalar.muli c2_i32_1165 arg29
  let c1_i32_1166 : BitVec 32 := 1#32
  let v2415 : BitVec 32 := Scalar.addi v2414 c1_i32_1166
  let c256_i32_1167 : BitVec 32 := 256#32
  let v2416 : BitVec 32 := Scalar.muli v2415 c256_i32_1167
  v2416
def k0_mult147 (i : grid0.Coords) (k0_t7 : Fin (k0_t7_loop i).trips) : BitVec 32 :=
  let c2_i32_1186 : BitVec 32 := 2#32
  let c0_i32_1051 : BitVec 32 := 0#32
  let c1_i32_1053 : BitVec 32 := 1#32
  let arg29 : BitVec 32 := Scf.iv c0_i32_1051 c1_i32_1053 k0_t7
  let v2446 : BitVec 32 := Scalar.muli c2_i32_1186 arg29
  let c0_i32_1187 : BitVec 32 := 0#32
  let v2447 : BitVec 32 := Scalar.addi v2446 c0_i32_1187
  let c256_i32_1188 : BitVec 32 := 256#32
  let v2448 : BitVec 32 := Scalar.muli v2447 c256_i32_1188
  v2448
def k0_mult148 (i : grid0.Coords) (k0_t7 : Fin (k0_t7_loop i).trips) : BitVec 32 :=
  let c2_i32_1207 : BitVec 32 := 2#32
  let c0_i32_1051 : BitVec 32 := 0#32
  let c1_i32_1053 : BitVec 32 := 1#32
  let arg29 : BitVec 32 := Scf.iv c0_i32_1051 c1_i32_1053 k0_t7
  let v2478 : BitVec 32 := Scalar.muli c2_i32_1207 arg29
  let c1_i32_1208 : BitVec 32 := 1#32
  let v2479 : BitVec 32 := Scalar.addi v2478 c1_i32_1208
  let c256_i32_1209 : BitVec 32 := 256#32
  let v2480 : BitVec 32 := Scalar.muli v2479 c256_i32_1209
  v2480
def k0_mult149 (i : grid0.Coords) (k0_t7 : Fin (k0_t7_loop i).trips) : BitVec 32 :=
  let c2_i32_1228 : BitVec 32 := 2#32
  let c0_i32_1051 : BitVec 32 := 0#32
  let c1_i32_1053 : BitVec 32 := 1#32
  let arg29 : BitVec 32 := Scf.iv c0_i32_1051 c1_i32_1053 k0_t7
  let v2510 : BitVec 32 := Scalar.muli c2_i32_1228 arg29
  let c0_i32_1229 : BitVec 32 := 0#32
  let v2511 : BitVec 32 := Scalar.addi v2510 c0_i32_1229
  let c256_i32_1230 : BitVec 32 := 256#32
  let v2512 : BitVec 32 := Scalar.muli v2511 c256_i32_1230
  v2512
def k0_off491 (i : grid0.Coords) (k0_t7 : Fin (k0_t7_loop i).trips) (c0_i32_1229 : BitVec 32) : Fin 3 → Nat :=
  let c0_1231 : Index := 0#32
  let c2_i32_1228 : BitVec 32 := 2#32
  let c0_i32_1051 : BitVec 32 := 0#32
  let c1_i32_1053 : BitVec 32 := 1#32
  let arg29 : BitVec 32 := Scf.iv c0_i32_1051 c1_i32_1053 k0_t7
  let v2510 : BitVec 32 := Scalar.muli c2_i32_1228 arg29
  let v2511 : BitVec 32 := Scalar.addi v2510 c0_i32_1229
  let c256_i32_1230 : BitVec 32 := 256#32
  let v2512 : BitVec 32 := Scalar.muli v2511 c256_i32_1230
  let v2513 : BitVec 32 := v2512
  let v2514 : Index := Scalar.indexCast v2513
  let c256_1232 : Index := 256#32
  ![0, v2514.toNat, 256]
def k0_mult150 (i : grid0.Coords) (k0_t7 : Fin (k0_t7_loop i).trips) : BitVec 32 :=
  let c2_i32_1249 : BitVec 32 := 2#32
  let c0_i32_1051 : BitVec 32 := 0#32
  let c1_i32_1053 : BitVec 32 := 1#32
  let arg29 : BitVec 32 := Scf.iv c0_i32_1051 c1_i32_1053 k0_t7
  let v2542 : BitVec 32 := Scalar.muli c2_i32_1249 arg29
  let c1_i32_1250 : BitVec 32 := 1#32
  let v2543 : BitVec 32 := Scalar.addi v2542 c1_i32_1250
  let c256_i32_1251 : BitVec 32 := 256#32
  let v2544 : BitVec 32 := Scalar.muli v2543 c256_i32_1251
  v2544
def k0_mult151 (i : grid0.Coords) (k0_t7 : Fin (k0_t7_loop i).trips) : BitVec 32 :=
  let c2_i32_1270 : BitVec 32 := 2#32
  let c0_i32_1051 : BitVec 32 := 0#32
  let c1_i32_1053 : BitVec 32 := 1#32
  let arg29 : BitVec 32 := Scf.iv c0_i32_1051 c1_i32_1053 k0_t7
  let v2574 : BitVec 32 := Scalar.muli c2_i32_1270 arg29
  let c0_i32_1271 : BitVec 32 := 0#32
  let v2575 : BitVec 32 := Scalar.addi v2574 c0_i32_1271
  let c256_i32_1272 : BitVec 32 := 256#32
  let v2576 : BitVec 32 := Scalar.muli v2575 c256_i32_1272
  v2576
def k0_mult152 (i : grid0.Coords) (k0_t7 : Fin (k0_t7_loop i).trips) : BitVec 32 :=
  let c2_i32_1291 : BitVec 32 := 2#32
  let c0_i32_1051 : BitVec 32 := 0#32
  let c1_i32_1053 : BitVec 32 := 1#32
  let arg29 : BitVec 32 := Scf.iv c0_i32_1051 c1_i32_1053 k0_t7
  let v2606 : BitVec 32 := Scalar.muli c2_i32_1291 arg29
  let c1_i32_1292 : BitVec 32 := 1#32
  let v2607 : BitVec 32 := Scalar.addi v2606 c1_i32_1292
  let c256_i32_1293 : BitVec 32 := 256#32
  let v2608 : BitVec 32 := Scalar.muli v2607 c256_i32_1293
  v2608
def k0_mult153 (i : grid0.Coords) (k0_t7 : Fin (k0_t7_loop i).trips) : BitVec 32 :=
  let c2_i32_1312 : BitVec 32 := 2#32
  let c0_i32_1051 : BitVec 32 := 0#32
  let c1_i32_1053 : BitVec 32 := 1#32
  let arg29 : BitVec 32 := Scf.iv c0_i32_1051 c1_i32_1053 k0_t7
  let v2638 : BitVec 32 := Scalar.muli c2_i32_1312 arg29
  let c0_i32_1313 : BitVec 32 := 0#32
  let v2639 : BitVec 32 := Scalar.addi v2638 c0_i32_1313
  let c256_i32_1314 : BitVec 32 := 256#32
  let v2640 : BitVec 32 := Scalar.muli v2639 c256_i32_1314
  v2640
def k0_off492 (i : grid0.Coords) (k0_t7 : Fin (k0_t7_loop i).trips) (c0_i32_1313 : BitVec 32) : Fin 3 → Nat :=
  let c0_1315 : Index := 0#32
  let c2_i32_1312 : BitVec 32 := 2#32
  let c0_i32_1051 : BitVec 32 := 0#32
  let c1_i32_1053 : BitVec 32 := 1#32
  let arg29 : BitVec 32 := Scf.iv c0_i32_1051 c1_i32_1053 k0_t7
  let v2638 : BitVec 32 := Scalar.muli c2_i32_1312 arg29
  let v2639 : BitVec 32 := Scalar.addi v2638 c0_i32_1313
  let c256_i32_1314 : BitVec 32 := 256#32
  let v2640 : BitVec 32 := Scalar.muli v2639 c256_i32_1314
  let v2641 : BitVec 32 := v2640
  let v2642 : Index := Scalar.indexCast v2641
  let c384_1316 : Index := 384#32
  ![0, v2642.toNat, 384]
def k0_mult154 (i : grid0.Coords) (k0_t7 : Fin (k0_t7_loop i).trips) : BitVec 32 :=
  let c2_i32_1332 : BitVec 32 := 2#32
  let c0_i32_1051 : BitVec 32 := 0#32
  let c1_i32_1053 : BitVec 32 := 1#32
  let arg29 : BitVec 32 := Scf.iv c0_i32_1051 c1_i32_1053 k0_t7
  let v2670 : BitVec 32 := Scalar.muli c2_i32_1332 arg29
  let c1_i32_1333 : BitVec 32 := 1#32
  let v2671 : BitVec 32 := Scalar.addi v2670 c1_i32_1333
  let c256_i32_1334 : BitVec 32 := 256#32
  let v2672 : BitVec 32 := Scalar.muli v2671 c256_i32_1334
  v2672
def k0_mult155 (i : grid0.Coords) (k0_t7 : Fin (k0_t7_loop i).trips) : BitVec 32 :=
  let c2_i32_1353 : BitVec 32 := 2#32
  let c0_i32_1051 : BitVec 32 := 0#32
  let c1_i32_1053 : BitVec 32 := 1#32
  let arg29 : BitVec 32 := Scf.iv c0_i32_1051 c1_i32_1053 k0_t7
  let v2702 : BitVec 32 := Scalar.muli c2_i32_1353 arg29
  let c0_i32_1354 : BitVec 32 := 0#32
  let v2703 : BitVec 32 := Scalar.addi v2702 c0_i32_1354
  let c256_i32_1355 : BitVec 32 := 256#32
  let v2704 : BitVec 32 := Scalar.muli v2703 c256_i32_1355
  v2704
def k0_mult156 (i : grid0.Coords) (k0_t7 : Fin (k0_t7_loop i).trips) : BitVec 32 :=
  let c2_i32_1373 : BitVec 32 := 2#32
  let c0_i32_1051 : BitVec 32 := 0#32
  let c1_i32_1053 : BitVec 32 := 1#32
  let arg29 : BitVec 32 := Scf.iv c0_i32_1051 c1_i32_1053 k0_t7
  let v2734 : BitVec 32 := Scalar.muli c2_i32_1373 arg29
  let c1_i32_1374 : BitVec 32 := 1#32
  let v2735 : BitVec 32 := Scalar.addi v2734 c1_i32_1374
  let c256_i32_1375 : BitVec 32 := 256#32
  let v2736 : BitVec 32 := Scalar.muli v2735 c256_i32_1375
  v2736
def k0_off493 (i : grid0.Coords) (k0_t7 : Fin (k0_t7_loop i).trips) (c0_i32_1398 : BitVec 32) : Fin 4 → Nat :=
  let c0_1402 : Index := 0#32
  let c2_i32_1397 : BitVec 32 := 2#32
  let c0_i32_1051 : BitVec 32 := 0#32
  let c1_i32_1053 : BitVec 32 := 1#32
  let arg29 : BitVec 32 := Scf.iv c0_i32_1051 c1_i32_1053 k0_t7
  let v2772 : BitVec 32 := Scalar.muli c2_i32_1397 arg29
  let v2773 : BitVec 32 := Scalar.addi v2772 c0_i32_1398
  let v2780 : Index := Scalar.indexCast v2773
  let c0_1403 : Index := 0#32
  let c0_1404 : Index := 0#32
  ![0, v2780.toNat, 0, 0]
def k0_off494 (i : grid0.Coords) (k0_t7 : Fin (k0_t7_loop i).trips) (c0_i32_1428 : BitVec 32) : Fin 4 → Nat :=
  let c0_1432 : Index := 0#32
  let c2_i32_1427 : BitVec 32 := 2#32
  let c0_i32_1051 : BitVec 32 := 0#32
  let c1_i32_1053 : BitVec 32 := 1#32
  let arg29 : BitVec 32 := Scf.iv c0_i32_1051 c1_i32_1053 k0_t7
  let v2827 : BitVec 32 := Scalar.muli c2_i32_1427 arg29
  let v2828 : BitVec 32 := Scalar.addi v2827 c0_i32_1428
  let v2835 : Index := Scalar.indexCast v2828
  let c80 : Index := 80#32
  let c0_1433 : Index := 0#32
  ![0, v2835.toNat, 80, 0]
def k0_off495 (i : grid0.Coords) (k0_t7 : Fin (k0_t7_loop i).trips) (c0_i32_1457 : BitVec 32) : Fin 4 → Nat :=
  let c0_1461 : Index := 0#32
  let c2_i32_1456 : BitVec 32 := 2#32
  let c0_i32_1051 : BitVec 32 := 0#32
  let c1_i32_1053 : BitVec 32 := 1#32
  let arg29 : BitVec 32 := Scf.iv c0_i32_1051 c1_i32_1053 k0_t7
  let v2882 : BitVec 32 := Scalar.muli c2_i32_1456 arg29
  let v2883 : BitVec 32 := Scalar.addi v2882 c0_i32_1457
  let v2890 : Index := Scalar.indexCast v2883
  let c160 : Index := 160#32
  let c0_1462 : Index := 0#32
  ![0, v2890.toNat, 160, 0]
def k0_off496 (i : grid0.Coords) (k0_t7 : Fin (k0_t7_loop i).trips) (c0_i32_1486 : BitVec 32) : Fin 4 → Nat :=
  let c0_1490 : Index := 0#32
  let c2_i32_1485 : BitVec 32 := 2#32
  let c0_i32_1051 : BitVec 32 := 0#32
  let c1_i32_1053 : BitVec 32 := 1#32
  let arg29 : BitVec 32 := Scf.iv c0_i32_1051 c1_i32_1053 k0_t7
  let v2937 : BitVec 32 := Scalar.muli c2_i32_1485 arg29
  let v2938 : BitVec 32 := Scalar.addi v2937 c0_i32_1486
  let v2945 : Index := Scalar.indexCast v2938
  let c240 : Index := 240#32
  let c0_1491 : Index := 0#32
  ![0, v2945.toNat, 240, 0]
def k0_off497 (i : grid0.Coords) (k0_t7 : Fin (k0_t7_loop i).trips) (c0_i32_1515 : BitVec 32) : Fin 4 → Nat :=
  let c0_1519 : Index := 0#32
  let c2_i32_1514 : BitVec 32 := 2#32
  let c0_i32_1051 : BitVec 32 := 0#32
  let c1_i32_1053 : BitVec 32 := 1#32
  let arg29 : BitVec 32 := Scf.iv c0_i32_1051 c1_i32_1053 k0_t7
  let v2992 : BitVec 32 := Scalar.muli c2_i32_1514 arg29
  let v2993 : BitVec 32 := Scalar.addi v2992 c0_i32_1515
  let v3000 : Index := Scalar.indexCast v2993
  let c320 : Index := 320#32
  let c0_1520 : Index := 0#32
  ![0, v3000.toNat, 320, 0]
def k0_off498 (i : grid0.Coords) (k0_t7 : Fin (k0_t7_loop i).trips) (c0_i32_1544 : BitVec 32) : Fin 4 → Nat :=
  let c0_1548 : Index := 0#32
  let c2_i32_1543 : BitVec 32 := 2#32
  let c0_i32_1051 : BitVec 32 := 0#32
  let c1_i32_1053 : BitVec 32 := 1#32
  let arg29 : BitVec 32 := Scf.iv c0_i32_1051 c1_i32_1053 k0_t7
  let v3047 : BitVec 32 := Scalar.muli c2_i32_1543 arg29
  let v3048 : BitVec 32 := Scalar.addi v3047 c0_i32_1544
  let v3055 : Index := Scalar.indexCast v3048
  let c400 : Index := 400#32
  let c0_1549 : Index := 0#32
  ![0, v3055.toNat, 400, 0]
def k0_off499 (i : grid0.Coords) (k0_t7 : Fin (k0_t7_loop i).trips) (c0_i32_1573 : BitVec 32) : Fin 4 → Nat :=
  let c0_1577 : Index := 0#32
  let c2_i32_1572 : BitVec 32 := 2#32
  let c0_i32_1051 : BitVec 32 := 0#32
  let c1_i32_1053 : BitVec 32 := 1#32
  let arg29 : BitVec 32 := Scf.iv c0_i32_1051 c1_i32_1053 k0_t7
  let v3102 : BitVec 32 := Scalar.muli c2_i32_1572 arg29
  let v3103 : BitVec 32 := Scalar.addi v3102 c0_i32_1573
  let v3110 : Index := Scalar.indexCast v3103
  let c480 : Index := 480#32
  let c0_1578 : Index := 0#32
  ![0, v3110.toNat, 480, 0]
def k0_off500 (i : grid0.Coords) (k0_t7 : Fin (k0_t7_loop i).trips) (c0_i32_1602 : BitVec 32) : Fin 4 → Nat :=
  let c0_1606 : Index := 0#32
  let c2_i32_1601 : BitVec 32 := 2#32
  let c0_i32_1051 : BitVec 32 := 0#32
  let c1_i32_1053 : BitVec 32 := 1#32
  let arg29 : BitVec 32 := Scf.iv c0_i32_1051 c1_i32_1053 k0_t7
  let v3157 : BitVec 32 := Scalar.muli c2_i32_1601 arg29
  let v3158 : BitVec 32 := Scalar.addi v3157 c0_i32_1602
  let v3165 : Index := Scalar.indexCast v3158
  let c560 : Index := 560#32
  let c0_1607 : Index := 0#32
  ![0, v3165.toNat, 560, 0]
@[reducible] def k0_t8_loop (i : grid0.Coords) : Scf.Loop 32 :=
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let v2243 : BitVec 32 := Scalar.addi c0_i32_1051 v2242
  let c1_i32_1054 : BitVec 32 := 1#32
  ⟨v2246, v2243, c1_i32_1054⟩
def k0_mult157 (i : grid0.Coords) (k0_t8 : Fin (k0_t8_loop i).trips) : BitVec 32 :=
  let c2_i32_1060 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t8
  let v2254 : BitVec 32 := Scalar.muli c2_i32_1060 arg29
  let c0_i32_1061 : BitVec 32 := 0#32
  let v2255 : BitVec 32 := Scalar.addi v2254 c0_i32_1061
  let c256_i32_1062 : BitVec 32 := 256#32
  let v2256 : BitVec 32 := Scalar.muli v2255 c256_i32_1062
  v2256
def k0_off501 (i : grid0.Coords) (k0_t8 : Fin (k0_t8_loop i).trips) (c0_i32_1061 : BitVec 32) : Fin 3 → Nat :=
  let c0_1063 : Index := 0#32
  let c2_i32_1060 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t8
  let v2254 : BitVec 32 := Scalar.muli c2_i32_1060 arg29
  let v2255 : BitVec 32 := Scalar.addi v2254 c0_i32_1061
  let c256_i32_1062 : BitVec 32 := 256#32
  let v2256 : BitVec 32 := Scalar.muli v2255 c256_i32_1062
  let v2257 : BitVec 32 := v2256
  let v2258 : Index := Scalar.indexCast v2257
  let c0_1064 : Index := 0#32
  ![0, v2258.toNat, 0]
def k0_off502 (i : grid0.Coords) (k0_t8 : Fin (k0_t8_loop i).trips) (c0_i32_1071 : BitVec 32) (c0_i32_1061 : BitVec 32) : Fin 3 → Nat :=
  let c2_i32_1070 : BitVec 32 := 2#32
  let c0_i32_1069 : BitVec 32 := 0#32
  let arg1 : BitVec 32 := BitVec.ofNat 32 (i 1).val
  let c2_i32_1060 : BitVec 32 := 2#32
  let c0_i32_1051 : BitVec 32 := 0#32
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t8
  let v2254 : BitVec 32 := Scalar.muli c2_i32_1060 arg29
  let v2255 : BitVec 32 := Scalar.addi v2254 c0_i32_1061
  let v2264 : BitVec 32 := Scalar.subi arg1 v2255
  let v2265 : BitVec 32 := Scalar.maxsi c0_i32_1069 v2264
  let v2266 : BitVec 32 := Scalar.minsi c2_i32_1070 v2265
  let v2267 : BitVec 32 := Scalar.addi c0_i32_1071 v2266
  let v2268 : Index := Scalar.indexCast v2267
  let c0_1072 : Index := 0#32
  let c0_1073 : Index := 0#32
  ![v2268.toNat, 0, 0]
def k0_mult158 (i : grid0.Coords) (k0_t8 : Fin (k0_t8_loop i).trips) : BitVec 32 :=
  let c2_i32_1081 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t8
  let v2286 : BitVec 32 := Scalar.muli c2_i32_1081 arg29
  let c1_i32_1082 : BitVec 32 := 1#32
  let v2287 : BitVec 32 := Scalar.addi v2286 c1_i32_1082
  let c256_i32_1083 : BitVec 32 := 256#32
  let v2288 : BitVec 32 := Scalar.muli v2287 c256_i32_1083
  v2288
def k0_mult159 (i : grid0.Coords) (k0_t8 : Fin (k0_t8_loop i).trips) : BitVec 32 :=
  let c2_i32_1102 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t8
  let v2318 : BitVec 32 := Scalar.muli c2_i32_1102 arg29
  let c0_i32_1103 : BitVec 32 := 0#32
  let v2319 : BitVec 32 := Scalar.addi v2318 c0_i32_1103
  let c256_i32_1104 : BitVec 32 := 256#32
  let v2320 : BitVec 32 := Scalar.muli v2319 c256_i32_1104
  v2320
def k0_mult160 (i : grid0.Coords) (k0_t8 : Fin (k0_t8_loop i).trips) : BitVec 32 :=
  let c2_i32_1123 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t8
  let v2350 : BitVec 32 := Scalar.muli c2_i32_1123 arg29
  let c1_i32_1124 : BitVec 32 := 1#32
  let v2351 : BitVec 32 := Scalar.addi v2350 c1_i32_1124
  let c256_i32_1125 : BitVec 32 := 256#32
  let v2352 : BitVec 32 := Scalar.muli v2351 c256_i32_1125
  v2352
def k0_mult161 (i : grid0.Coords) (k0_t8 : Fin (k0_t8_loop i).trips) : BitVec 32 :=
  let c2_i32_1144 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t8
  let v2382 : BitVec 32 := Scalar.muli c2_i32_1144 arg29
  let c0_i32_1145 : BitVec 32 := 0#32
  let v2383 : BitVec 32 := Scalar.addi v2382 c0_i32_1145
  let c256_i32_1146 : BitVec 32 := 256#32
  let v2384 : BitVec 32 := Scalar.muli v2383 c256_i32_1146
  v2384
def k0_off503 (i : grid0.Coords) (k0_t8 : Fin (k0_t8_loop i).trips) (c0_i32_1145 : BitVec 32) : Fin 3 → Nat :=
  let c0_1147 : Index := 0#32
  let c2_i32_1144 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t8
  let v2382 : BitVec 32 := Scalar.muli c2_i32_1144 arg29
  let v2383 : BitVec 32 := Scalar.addi v2382 c0_i32_1145
  let c256_i32_1146 : BitVec 32 := 256#32
  let v2384 : BitVec 32 := Scalar.muli v2383 c256_i32_1146
  let v2385 : BitVec 32 := v2384
  let v2386 : Index := Scalar.indexCast v2385
  let c128_1148 : Index := 128#32
  ![0, v2386.toNat, 128]
def k0_mult162 (i : grid0.Coords) (k0_t8 : Fin (k0_t8_loop i).trips) : BitVec 32 :=
  let c2_i32_1165 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t8
  let v2414 : BitVec 32 := Scalar.muli c2_i32_1165 arg29
  let c1_i32_1166 : BitVec 32 := 1#32
  let v2415 : BitVec 32 := Scalar.addi v2414 c1_i32_1166
  let c256_i32_1167 : BitVec 32 := 256#32
  let v2416 : BitVec 32 := Scalar.muli v2415 c256_i32_1167
  v2416
def k0_mult163 (i : grid0.Coords) (k0_t8 : Fin (k0_t8_loop i).trips) : BitVec 32 :=
  let c2_i32_1186 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t8
  let v2446 : BitVec 32 := Scalar.muli c2_i32_1186 arg29
  let c0_i32_1187 : BitVec 32 := 0#32
  let v2447 : BitVec 32 := Scalar.addi v2446 c0_i32_1187
  let c256_i32_1188 : BitVec 32 := 256#32
  let v2448 : BitVec 32 := Scalar.muli v2447 c256_i32_1188
  v2448
def k0_mult164 (i : grid0.Coords) (k0_t8 : Fin (k0_t8_loop i).trips) : BitVec 32 :=
  let c2_i32_1207 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t8
  let v2478 : BitVec 32 := Scalar.muli c2_i32_1207 arg29
  let c1_i32_1208 : BitVec 32 := 1#32
  let v2479 : BitVec 32 := Scalar.addi v2478 c1_i32_1208
  let c256_i32_1209 : BitVec 32 := 256#32
  let v2480 : BitVec 32 := Scalar.muli v2479 c256_i32_1209
  v2480
def k0_mult165 (i : grid0.Coords) (k0_t8 : Fin (k0_t8_loop i).trips) : BitVec 32 :=
  let c2_i32_1228 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t8
  let v2510 : BitVec 32 := Scalar.muli c2_i32_1228 arg29
  let c0_i32_1229 : BitVec 32 := 0#32
  let v2511 : BitVec 32 := Scalar.addi v2510 c0_i32_1229
  let c256_i32_1230 : BitVec 32 := 256#32
  let v2512 : BitVec 32 := Scalar.muli v2511 c256_i32_1230
  v2512
def k0_off504 (i : grid0.Coords) (k0_t8 : Fin (k0_t8_loop i).trips) (c0_i32_1229 : BitVec 32) : Fin 3 → Nat :=
  let c0_1231 : Index := 0#32
  let c2_i32_1228 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t8
  let v2510 : BitVec 32 := Scalar.muli c2_i32_1228 arg29
  let v2511 : BitVec 32 := Scalar.addi v2510 c0_i32_1229
  let c256_i32_1230 : BitVec 32 := 256#32
  let v2512 : BitVec 32 := Scalar.muli v2511 c256_i32_1230
  let v2513 : BitVec 32 := v2512
  let v2514 : Index := Scalar.indexCast v2513
  let c256_1232 : Index := 256#32
  ![0, v2514.toNat, 256]
def k0_mult166 (i : grid0.Coords) (k0_t8 : Fin (k0_t8_loop i).trips) : BitVec 32 :=
  let c2_i32_1249 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t8
  let v2542 : BitVec 32 := Scalar.muli c2_i32_1249 arg29
  let c1_i32_1250 : BitVec 32 := 1#32
  let v2543 : BitVec 32 := Scalar.addi v2542 c1_i32_1250
  let c256_i32_1251 : BitVec 32 := 256#32
  let v2544 : BitVec 32 := Scalar.muli v2543 c256_i32_1251
  v2544
def k0_mult167 (i : grid0.Coords) (k0_t8 : Fin (k0_t8_loop i).trips) : BitVec 32 :=
  let c2_i32_1270 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t8
  let v2574 : BitVec 32 := Scalar.muli c2_i32_1270 arg29
  let c0_i32_1271 : BitVec 32 := 0#32
  let v2575 : BitVec 32 := Scalar.addi v2574 c0_i32_1271
  let c256_i32_1272 : BitVec 32 := 256#32
  let v2576 : BitVec 32 := Scalar.muli v2575 c256_i32_1272
  v2576
def k0_mult168 (i : grid0.Coords) (k0_t8 : Fin (k0_t8_loop i).trips) : BitVec 32 :=
  let c2_i32_1291 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t8
  let v2606 : BitVec 32 := Scalar.muli c2_i32_1291 arg29
  let c1_i32_1292 : BitVec 32 := 1#32
  let v2607 : BitVec 32 := Scalar.addi v2606 c1_i32_1292
  let c256_i32_1293 : BitVec 32 := 256#32
  let v2608 : BitVec 32 := Scalar.muli v2607 c256_i32_1293
  v2608
def k0_mult169 (i : grid0.Coords) (k0_t8 : Fin (k0_t8_loop i).trips) : BitVec 32 :=
  let c2_i32_1312 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t8
  let v2638 : BitVec 32 := Scalar.muli c2_i32_1312 arg29
  let c0_i32_1313 : BitVec 32 := 0#32
  let v2639 : BitVec 32 := Scalar.addi v2638 c0_i32_1313
  let c256_i32_1314 : BitVec 32 := 256#32
  let v2640 : BitVec 32 := Scalar.muli v2639 c256_i32_1314
  v2640
def k0_off505 (i : grid0.Coords) (k0_t8 : Fin (k0_t8_loop i).trips) (c0_i32_1313 : BitVec 32) : Fin 3 → Nat :=
  let c0_1315 : Index := 0#32
  let c2_i32_1312 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t8
  let v2638 : BitVec 32 := Scalar.muli c2_i32_1312 arg29
  let v2639 : BitVec 32 := Scalar.addi v2638 c0_i32_1313
  let c256_i32_1314 : BitVec 32 := 256#32
  let v2640 : BitVec 32 := Scalar.muli v2639 c256_i32_1314
  let v2641 : BitVec 32 := v2640
  let v2642 : Index := Scalar.indexCast v2641
  let c384_1316 : Index := 384#32
  ![0, v2642.toNat, 384]
def k0_mult170 (i : grid0.Coords) (k0_t8 : Fin (k0_t8_loop i).trips) : BitVec 32 :=
  let c2_i32_1332 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t8
  let v2670 : BitVec 32 := Scalar.muli c2_i32_1332 arg29
  let c1_i32_1333 : BitVec 32 := 1#32
  let v2671 : BitVec 32 := Scalar.addi v2670 c1_i32_1333
  let c256_i32_1334 : BitVec 32 := 256#32
  let v2672 : BitVec 32 := Scalar.muli v2671 c256_i32_1334
  v2672
def k0_mult171 (i : grid0.Coords) (k0_t8 : Fin (k0_t8_loop i).trips) : BitVec 32 :=
  let c2_i32_1353 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t8
  let v2702 : BitVec 32 := Scalar.muli c2_i32_1353 arg29
  let c0_i32_1354 : BitVec 32 := 0#32
  let v2703 : BitVec 32 := Scalar.addi v2702 c0_i32_1354
  let c256_i32_1355 : BitVec 32 := 256#32
  let v2704 : BitVec 32 := Scalar.muli v2703 c256_i32_1355
  v2704
def k0_mult172 (i : grid0.Coords) (k0_t8 : Fin (k0_t8_loop i).trips) : BitVec 32 :=
  let c2_i32_1373 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t8
  let v2734 : BitVec 32 := Scalar.muli c2_i32_1373 arg29
  let c1_i32_1374 : BitVec 32 := 1#32
  let v2735 : BitVec 32 := Scalar.addi v2734 c1_i32_1374
  let c256_i32_1375 : BitVec 32 := 256#32
  let v2736 : BitVec 32 := Scalar.muli v2735 c256_i32_1375
  v2736
def k0_off506 (i : grid0.Coords) (k0_t8 : Fin (k0_t8_loop i).trips) (c0_i32_1398 : BitVec 32) : Fin 4 → Nat :=
  let c0_1402 : Index := 0#32
  let c2_i32_1397 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t8
  let v2772 : BitVec 32 := Scalar.muli c2_i32_1397 arg29
  let v2773 : BitVec 32 := Scalar.addi v2772 c0_i32_1398
  let v2780 : Index := Scalar.indexCast v2773
  let c0_1403 : Index := 0#32
  let c0_1404 : Index := 0#32
  ![0, v2780.toNat, 0, 0]
def k0_off507 (i : grid0.Coords) (k0_t8 : Fin (k0_t8_loop i).trips) (c0_i32_1428 : BitVec 32) : Fin 4 → Nat :=
  let c0_1432 : Index := 0#32
  let c2_i32_1427 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t8
  let v2827 : BitVec 32 := Scalar.muli c2_i32_1427 arg29
  let v2828 : BitVec 32 := Scalar.addi v2827 c0_i32_1428
  let v2835 : Index := Scalar.indexCast v2828
  let c80 : Index := 80#32
  let c0_1433 : Index := 0#32
  ![0, v2835.toNat, 80, 0]
def k0_off508 (i : grid0.Coords) (k0_t8 : Fin (k0_t8_loop i).trips) (c0_i32_1457 : BitVec 32) : Fin 4 → Nat :=
  let c0_1461 : Index := 0#32
  let c2_i32_1456 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t8
  let v2882 : BitVec 32 := Scalar.muli c2_i32_1456 arg29
  let v2883 : BitVec 32 := Scalar.addi v2882 c0_i32_1457
  let v2890 : Index := Scalar.indexCast v2883
  let c160 : Index := 160#32
  let c0_1462 : Index := 0#32
  ![0, v2890.toNat, 160, 0]
def k0_off509 (i : grid0.Coords) (k0_t8 : Fin (k0_t8_loop i).trips) (c0_i32_1486 : BitVec 32) : Fin 4 → Nat :=
  let c0_1490 : Index := 0#32
  let c2_i32_1485 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t8
  let v2937 : BitVec 32 := Scalar.muli c2_i32_1485 arg29
  let v2938 : BitVec 32 := Scalar.addi v2937 c0_i32_1486
  let v2945 : Index := Scalar.indexCast v2938
  let c240 : Index := 240#32
  let c0_1491 : Index := 0#32
  ![0, v2945.toNat, 240, 0]
def k0_off510 (i : grid0.Coords) (k0_t8 : Fin (k0_t8_loop i).trips) (c0_i32_1515 : BitVec 32) : Fin 4 → Nat :=
  let c0_1519 : Index := 0#32
  let c2_i32_1514 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t8
  let v2992 : BitVec 32 := Scalar.muli c2_i32_1514 arg29
  let v2993 : BitVec 32 := Scalar.addi v2992 c0_i32_1515
  let v3000 : Index := Scalar.indexCast v2993
  let c320 : Index := 320#32
  let c0_1520 : Index := 0#32
  ![0, v3000.toNat, 320, 0]
def k0_off511 (i : grid0.Coords) (k0_t8 : Fin (k0_t8_loop i).trips) (c0_i32_1544 : BitVec 32) : Fin 4 → Nat :=
  let c0_1548 : Index := 0#32
  let c2_i32_1543 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t8
  let v3047 : BitVec 32 := Scalar.muli c2_i32_1543 arg29
  let v3048 : BitVec 32 := Scalar.addi v3047 c0_i32_1544
  let v3055 : Index := Scalar.indexCast v3048
  let c400 : Index := 400#32
  let c0_1549 : Index := 0#32
  ![0, v3055.toNat, 400, 0]
def k0_off512 (i : grid0.Coords) (k0_t8 : Fin (k0_t8_loop i).trips) (c0_i32_1573 : BitVec 32) : Fin 4 → Nat :=
  let c0_1577 : Index := 0#32
  let c2_i32_1572 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t8
  let v3102 : BitVec 32 := Scalar.muli c2_i32_1572 arg29
  let v3103 : BitVec 32 := Scalar.addi v3102 c0_i32_1573
  let v3110 : Index := Scalar.indexCast v3103
  let c480 : Index := 480#32
  let c0_1578 : Index := 0#32
  ![0, v3110.toNat, 480, 0]
def k0_off513 (i : grid0.Coords) (k0_t8 : Fin (k0_t8_loop i).trips) (c0_i32_1602 : BitVec 32) : Fin 4 → Nat :=
  let c0_1606 : Index := 0#32
  let c2_i32_1601 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t8
  let v3157 : BitVec 32 := Scalar.muli c2_i32_1601 arg29
  let v3158 : BitVec 32 := Scalar.addi v3157 c0_i32_1602
  let v3165 : Index := Scalar.indexCast v3158
  let c560 : Index := 560#32
  let c0_1607 : Index := 0#32
  ![0, v3165.toNat, 560, 0]
@[reducible] def k0_t9_loop (i : grid0.Coords) : Scf.Loop 32 :=
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1058 : BitVec 32 := 1#32
  ⟨c0_i32_1056, v2253, c1_i32_1058⟩
def k0_mult173 (i : grid0.Coords) (k0_t9 : Fin (k0_t9_loop i).trips) : BitVec 32 :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let c256_i32_1061 : BitVec 32 := 256#32
  let v2255 : BitVec 32 := Scalar.muli v2254 c256_i32_1061
  v2255
def k0_off514 (i : grid0.Coords) (k0_t9 : Fin (k0_t9_loop i).trips) : Fin 3 → Nat :=
  let c0_1062 : Index := 0#32
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let c256_i32_1061 : BitVec 32 := 256#32
  let v2255 : BitVec 32 := Scalar.muli v2254 c256_i32_1061
  let v2256 : BitVec 32 := v2255
  let v2257 : Index := Scalar.indexCast v2256
  let c128_1063 : Index := 128#32
  ![0, v2257.toNat, 128]
def k0_off515 (i : grid0.Coords) (k0_t9 : Fin (k0_t9_loop i).trips) : Fin 3 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v2291 : Index := Scalar.indexCast v2254
  let c0_1075 : Index := 0#32
  let c0_1076 : Index := 0#32
  ![v2291.toNat, 0, 0]
def k0_off516 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3049 : Index := Scalar.indexCast v2254
  let c0_1318 : Index := 0#32
  let c0_1319 : Index := 0#32
  let c0_1320 : Index := 0#32
  ![v3049.toNat, 0, 0, 0]
def k0_off517 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3053 : Index := Scalar.indexCast v2254
  let c1_1321 : Index := 1#32
  let c0_1322 : Index := 0#32
  let c0_1323 : Index := 0#32
  ![v3053.toNat, 1, 0, 0]
def k0_off518 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3057 : Index := Scalar.indexCast v2254
  let c2_1324 : Index := 2#32
  let c0_1325 : Index := 0#32
  let c0_1326 : Index := 0#32
  ![v3057.toNat, 2, 0, 0]
def k0_off519 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3061 : Index := Scalar.indexCast v2254
  let c3_1327 : Index := 3#32
  let c0_1328 : Index := 0#32
  let c0_1329 : Index := 0#32
  ![v3061.toNat, 3, 0, 0]
def k0_off520 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3065 : Index := Scalar.indexCast v2254
  let c4_1330 : Index := 4#32
  let c0_1331 : Index := 0#32
  let c0_1332 : Index := 0#32
  ![v3065.toNat, 4, 0, 0]
def k0_off521 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3069 : Index := Scalar.indexCast v2254
  let c5_1333 : Index := 5#32
  let c0_1334 : Index := 0#32
  let c0_1335 : Index := 0#32
  ![v3069.toNat, 5, 0, 0]
def k0_off522 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3073 : Index := Scalar.indexCast v2254
  let c6_1336 : Index := 6#32
  let c0_1337 : Index := 0#32
  let c0_1338 : Index := 0#32
  ![v3073.toNat, 6, 0, 0]
def k0_off523 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3077 : Index := Scalar.indexCast v2254
  let c7_1339 : Index := 7#32
  let c0_1340 : Index := 0#32
  let c0_1341 : Index := 0#32
  ![v3077.toNat, 7, 0, 0]
def k0_off524 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3081 : Index := Scalar.indexCast v2254
  let c8_1342 : Index := 8#32
  let c0_1343 : Index := 0#32
  let c0_1344 : Index := 0#32
  ![v3081.toNat, 8, 0, 0]
def k0_off525 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3085 : Index := Scalar.indexCast v2254
  let c9_1345 : Index := 9#32
  let c0_1346 : Index := 0#32
  let c0_1347 : Index := 0#32
  ![v3085.toNat, 9, 0, 0]
def k0_off526 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3089 : Index := Scalar.indexCast v2254
  let c10_1348 : Index := 10#32
  let c0_1349 : Index := 0#32
  let c0_1350 : Index := 0#32
  ![v3089.toNat, 10, 0, 0]
def k0_off527 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3093 : Index := Scalar.indexCast v2254
  let c11_1351 : Index := 11#32
  let c0_1352 : Index := 0#32
  let c0_1353 : Index := 0#32
  ![v3093.toNat, 11, 0, 0]
def k0_off528 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3097 : Index := Scalar.indexCast v2254
  let c12_1354 : Index := 12#32
  let c0_1355 : Index := 0#32
  let c0_1356 : Index := 0#32
  ![v3097.toNat, 12, 0, 0]
def k0_off529 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3101 : Index := Scalar.indexCast v2254
  let c13_1357 : Index := 13#32
  let c0_1358 : Index := 0#32
  let c0_1359 : Index := 0#32
  ![v3101.toNat, 13, 0, 0]
def k0_off530 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3105 : Index := Scalar.indexCast v2254
  let c14_1360 : Index := 14#32
  let c0_1361 : Index := 0#32
  let c0_1362 : Index := 0#32
  ![v3105.toNat, 14, 0, 0]
def k0_off531 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3109 : Index := Scalar.indexCast v2254
  let c15_1363 : Index := 15#32
  let c0_1364 : Index := 0#32
  let c0_1365 : Index := 0#32
  ![v3109.toNat, 15, 0, 0]
def k0_off532 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3113 : Index := Scalar.indexCast v2254
  let c16_1366 : Index := 16#32
  let c0_1367 : Index := 0#32
  let c0_1368 : Index := 0#32
  ![v3113.toNat, 16, 0, 0]
def k0_off533 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3117 : Index := Scalar.indexCast v2254
  let c17_1369 : Index := 17#32
  let c0_1370 : Index := 0#32
  let c0_1371 : Index := 0#32
  ![v3117.toNat, 17, 0, 0]
def k0_off534 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3121 : Index := Scalar.indexCast v2254
  let c18_1372 : Index := 18#32
  let c0_1373 : Index := 0#32
  let c0_1374 : Index := 0#32
  ![v3121.toNat, 18, 0, 0]
def k0_off535 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3125 : Index := Scalar.indexCast v2254
  let c19_1375 : Index := 19#32
  let c0_1376 : Index := 0#32
  let c0_1377 : Index := 0#32
  ![v3125.toNat, 19, 0, 0]
def k0_off536 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3129 : Index := Scalar.indexCast v2254
  let c20_1378 : Index := 20#32
  let c0_1379 : Index := 0#32
  let c0_1380 : Index := 0#32
  ![v3129.toNat, 20, 0, 0]
def k0_off537 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3133 : Index := Scalar.indexCast v2254
  let c21_1381 : Index := 21#32
  let c0_1382 : Index := 0#32
  let c0_1383 : Index := 0#32
  ![v3133.toNat, 21, 0, 0]
def k0_off538 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3137 : Index := Scalar.indexCast v2254
  let c22_1384 : Index := 22#32
  let c0_1385 : Index := 0#32
  let c0_1386 : Index := 0#32
  ![v3137.toNat, 22, 0, 0]
def k0_off539 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3141 : Index := Scalar.indexCast v2254
  let c23_1387 : Index := 23#32
  let c0_1388 : Index := 0#32
  let c0_1389 : Index := 0#32
  ![v3141.toNat, 23, 0, 0]
def k0_off540 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3145 : Index := Scalar.indexCast v2254
  let c24_1390 : Index := 24#32
  let c0_1391 : Index := 0#32
  let c0_1392 : Index := 0#32
  ![v3145.toNat, 24, 0, 0]
def k0_off541 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3149 : Index := Scalar.indexCast v2254
  let c25_1393 : Index := 25#32
  let c0_1394 : Index := 0#32
  let c0_1395 : Index := 0#32
  ![v3149.toNat, 25, 0, 0]
def k0_off542 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3153 : Index := Scalar.indexCast v2254
  let c26_1396 : Index := 26#32
  let c0_1397 : Index := 0#32
  let c0_1398 : Index := 0#32
  ![v3153.toNat, 26, 0, 0]
def k0_off543 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3157 : Index := Scalar.indexCast v2254
  let c27_1399 : Index := 27#32
  let c0_1400 : Index := 0#32
  let c0_1401 : Index := 0#32
  ![v3157.toNat, 27, 0, 0]
def k0_off544 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3161 : Index := Scalar.indexCast v2254
  let c28_1402 : Index := 28#32
  let c0_1403 : Index := 0#32
  let c0_1404 : Index := 0#32
  ![v3161.toNat, 28, 0, 0]
def k0_off545 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3165 : Index := Scalar.indexCast v2254
  let c29_1405 : Index := 29#32
  let c0_1406 : Index := 0#32
  let c0_1407 : Index := 0#32
  ![v3165.toNat, 29, 0, 0]
def k0_off546 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3169 : Index := Scalar.indexCast v2254
  let c30_1408 : Index := 30#32
  let c0_1409 : Index := 0#32
  let c0_1410 : Index := 0#32
  ![v3169.toNat, 30, 0, 0]
def k0_off547 (i : grid0.Coords) (k0_t9 : Fin (k0_t9_loop i).trips) : Fin 4 → Nat :=
  let c2_i32_1060 : BitVec 32 := 2#32
  let c0_i32_1056 : BitVec 32 := 0#32
  let c1_i32_1058 : BitVec 32 := 1#32
  let arg29 : BitVec 32 := Scf.iv c0_i32_1056 c1_i32_1058 k0_t9
  let v2254 : BitVec 32 := Scalar.muli c2_i32_1060 arg29
  let v3173 : Index := Scalar.indexCast v2254
  let c31_1411 : Index := 31#32
  let c0_1412 : Index := 0#32
  let c0_1413 : Index := 0#32
  ![v3173.toNat, 31, 0, 0]
def k0_mult174 (i : grid0.Coords) (k0_t9 : Fin (k0_t9_loop i).trips) : BitVec 32 :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let c256_i32_1416 : BitVec 32 := 256#32
  let v3179 : BitVec 32 := Scalar.muli v3178 c256_i32_1416
  v3179
def k0_off548 (i : grid0.Coords) (k0_t9 : Fin (k0_t9_loop i).trips) : Fin 3 → Nat :=
  let c0_1417 : Index := 0#32
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let c256_i32_1416 : BitVec 32 := 256#32
  let v3179 : BitVec 32 := Scalar.muli v3178 c256_i32_1416
  let v3180 : BitVec 32 := v3179
  let v3181 : Index := Scalar.indexCast v3180
  let c128_1418 : Index := 128#32
  ![0, v3181.toNat, 128]
def k0_off549 (i : grid0.Coords) (k0_t9 : Fin (k0_t9_loop i).trips) : Fin 3 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v3215 : Index := Scalar.indexCast v3178
  let c0_1430 : Index := 0#32
  let c0_1431 : Index := 0#32
  ![v3215.toNat, 0, 0]
def k0_off550 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v3973 : Index := Scalar.indexCast v3178
  let c0_1673 : Index := 0#32
  let c0_1674 : Index := 0#32
  let c0_1675 : Index := 0#32
  ![v3973.toNat, 0, 0, 0]
def k0_off551 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v3977 : Index := Scalar.indexCast v3178
  let c1_1676 : Index := 1#32
  let c0_1677 : Index := 0#32
  let c0_1678 : Index := 0#32
  ![v3977.toNat, 1, 0, 0]
def k0_off552 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v3981 : Index := Scalar.indexCast v3178
  let c2_1679 : Index := 2#32
  let c0_1680 : Index := 0#32
  let c0_1681 : Index := 0#32
  ![v3981.toNat, 2, 0, 0]
def k0_off553 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v3985 : Index := Scalar.indexCast v3178
  let c3_1682 : Index := 3#32
  let c0_1683 : Index := 0#32
  let c0_1684 : Index := 0#32
  ![v3985.toNat, 3, 0, 0]
def k0_off554 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v3989 : Index := Scalar.indexCast v3178
  let c4_1685 : Index := 4#32
  let c0_1686 : Index := 0#32
  let c0_1687 : Index := 0#32
  ![v3989.toNat, 4, 0, 0]
def k0_off555 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v3993 : Index := Scalar.indexCast v3178
  let c5_1688 : Index := 5#32
  let c0_1689 : Index := 0#32
  let c0_1690 : Index := 0#32
  ![v3993.toNat, 5, 0, 0]
def k0_off556 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v3997 : Index := Scalar.indexCast v3178
  let c6_1691 : Index := 6#32
  let c0_1692 : Index := 0#32
  let c0_1693 : Index := 0#32
  ![v3997.toNat, 6, 0, 0]
def k0_off557 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v4001 : Index := Scalar.indexCast v3178
  let c7_1694 : Index := 7#32
  let c0_1695 : Index := 0#32
  let c0_1696 : Index := 0#32
  ![v4001.toNat, 7, 0, 0]
def k0_off558 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v4005 : Index := Scalar.indexCast v3178
  let c8_1697 : Index := 8#32
  let c0_1698 : Index := 0#32
  let c0_1699 : Index := 0#32
  ![v4005.toNat, 8, 0, 0]
def k0_off559 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v4009 : Index := Scalar.indexCast v3178
  let c9_1700 : Index := 9#32
  let c0_1701 : Index := 0#32
  let c0_1702 : Index := 0#32
  ![v4009.toNat, 9, 0, 0]
def k0_off560 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v4013 : Index := Scalar.indexCast v3178
  let c10_1703 : Index := 10#32
  let c0_1704 : Index := 0#32
  let c0_1705 : Index := 0#32
  ![v4013.toNat, 10, 0, 0]
def k0_off561 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v4017 : Index := Scalar.indexCast v3178
  let c11_1706 : Index := 11#32
  let c0_1707 : Index := 0#32
  let c0_1708 : Index := 0#32
  ![v4017.toNat, 11, 0, 0]
def k0_off562 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v4021 : Index := Scalar.indexCast v3178
  let c12_1709 : Index := 12#32
  let c0_1710 : Index := 0#32
  let c0_1711 : Index := 0#32
  ![v4021.toNat, 12, 0, 0]
def k0_off563 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v4025 : Index := Scalar.indexCast v3178
  let c13_1712 : Index := 13#32
  let c0_1713 : Index := 0#32
  let c0_1714 : Index := 0#32
  ![v4025.toNat, 13, 0, 0]
def k0_off564 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v4029 : Index := Scalar.indexCast v3178
  let c14_1715 : Index := 14#32
  let c0_1716 : Index := 0#32
  let c0_1717 : Index := 0#32
  ![v4029.toNat, 14, 0, 0]
def k0_off565 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v4033 : Index := Scalar.indexCast v3178
  let c15_1718 : Index := 15#32
  let c0_1719 : Index := 0#32
  let c0_1720 : Index := 0#32
  ![v4033.toNat, 15, 0, 0]
def k0_off566 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v4037 : Index := Scalar.indexCast v3178
  let c16_1721 : Index := 16#32
  let c0_1722 : Index := 0#32
  let c0_1723 : Index := 0#32
  ![v4037.toNat, 16, 0, 0]
def k0_off567 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v4041 : Index := Scalar.indexCast v3178
  let c17_1724 : Index := 17#32
  let c0_1725 : Index := 0#32
  let c0_1726 : Index := 0#32
  ![v4041.toNat, 17, 0, 0]
def k0_off568 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v4045 : Index := Scalar.indexCast v3178
  let c18_1727 : Index := 18#32
  let c0_1728 : Index := 0#32
  let c0_1729 : Index := 0#32
  ![v4045.toNat, 18, 0, 0]
def k0_off569 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v4049 : Index := Scalar.indexCast v3178
  let c19_1730 : Index := 19#32
  let c0_1731 : Index := 0#32
  let c0_1732 : Index := 0#32
  ![v4049.toNat, 19, 0, 0]
def k0_off570 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v4053 : Index := Scalar.indexCast v3178
  let c20_1733 : Index := 20#32
  let c0_1734 : Index := 0#32
  let c0_1735 : Index := 0#32
  ![v4053.toNat, 20, 0, 0]
def k0_off571 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v4057 : Index := Scalar.indexCast v3178
  let c21_1736 : Index := 21#32
  let c0_1737 : Index := 0#32
  let c0_1738 : Index := 0#32
  ![v4057.toNat, 21, 0, 0]
def k0_off572 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v4061 : Index := Scalar.indexCast v3178
  let c22_1739 : Index := 22#32
  let c0_1740 : Index := 0#32
  let c0_1741 : Index := 0#32
  ![v4061.toNat, 22, 0, 0]
def k0_off573 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v4065 : Index := Scalar.indexCast v3178
  let c23_1742 : Index := 23#32
  let c0_1743 : Index := 0#32
  let c0_1744 : Index := 0#32
  ![v4065.toNat, 23, 0, 0]
def k0_off574 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v4069 : Index := Scalar.indexCast v3178
  let c24_1745 : Index := 24#32
  let c0_1746 : Index := 0#32
  let c0_1747 : Index := 0#32
  ![v4069.toNat, 24, 0, 0]
def k0_off575 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v4073 : Index := Scalar.indexCast v3178
  let c25_1748 : Index := 25#32
  let c0_1749 : Index := 0#32
  let c0_1750 : Index := 0#32
  ![v4073.toNat, 25, 0, 0]
def k0_off576 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v4077 : Index := Scalar.indexCast v3178
  let c26_1751 : Index := 26#32
  let c0_1752 : Index := 0#32
  let c0_1753 : Index := 0#32
  ![v4077.toNat, 26, 0, 0]
def k0_off577 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v4081 : Index := Scalar.indexCast v3178
  let c27_1754 : Index := 27#32
  let c0_1755 : Index := 0#32
  let c0_1756 : Index := 0#32
  ![v4081.toNat, 27, 0, 0]
def k0_off578 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v4085 : Index := Scalar.indexCast v3178
  let c28_1757 : Index := 28#32
  let c0_1758 : Index := 0#32
  let c0_1759 : Index := 0#32
  ![v4085.toNat, 28, 0, 0]
def k0_off579 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v4089 : Index := Scalar.indexCast v3178
  let c29_1760 : Index := 29#32
  let c0_1761 : Index := 0#32
  let c0_1762 : Index := 0#32
  ![v4089.toNat, 29, 0, 0]
def k0_off580 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v4093 : Index := Scalar.indexCast v3178
  let c30_1763 : Index := 30#32
  let c0_1764 : Index := 0#32
  let c0_1765 : Index := 0#32
  ![v4093.toNat, 30, 0, 0]
def k0_off581 (i : grid0.Coords) (k0_t9 : Fin (k0_t9_loop i).trips) : Fin 4 → Nat :=
  let c2_i32_1414 : BitVec 32 := 2#32
  let c0_i32_1056 : BitVec 32 := 0#32
  let c1_i32_1058 : BitVec 32 := 1#32
  let arg29 : BitVec 32 := Scf.iv c0_i32_1056 c1_i32_1058 k0_t9
  let v3177 : BitVec 32 := Scalar.muli c2_i32_1414 arg29
  let c1_i32_1415 : BitVec 32 := 1#32
  let v3178 : BitVec 32 := Scalar.addi v3177 c1_i32_1415
  let v4097 : Index := Scalar.indexCast v3178
  let c31_1766 : Index := 31#32
  let c0_1767 : Index := 0#32
  let c0_1768 : Index := 0#32
  ![v4097.toNat, 31, 0, 0]
@[reducible] def k0_t10_loop (i : grid0.Coords) : Scf.Loop 32 :=
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let v2250 : BitVec 32 := Scalar.addi c0_i32_1056 v2249
  let c1_i32_1059 : BitVec 32 := 1#32
  ⟨v2253, v2250, c1_i32_1059⟩
def k0_mult175 (i : grid0.Coords) (k0_t10 : Fin (k0_t10_loop i).trips) : BitVec 32 :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let c256_i32_1061 : BitVec 32 := 256#32
  let v2255 : BitVec 32 := Scalar.muli v2254 c256_i32_1061
  v2255
def k0_off582 (i : grid0.Coords) (k0_t10 : Fin (k0_t10_loop i).trips) : Fin 3 → Nat :=
  let c0_1062 : Index := 0#32
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let c256_i32_1061 : BitVec 32 := 256#32
  let v2255 : BitVec 32 := Scalar.muli v2254 c256_i32_1061
  let v2256 : BitVec 32 := v2255
  let v2257 : Index := Scalar.indexCast v2256
  let c128_1063 : Index := 128#32
  ![0, v2257.toNat, 128]
def k0_off583 (i : grid0.Coords) (k0_t10 : Fin (k0_t10_loop i).trips) : Fin 3 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v2291 : Index := Scalar.indexCast v2254
  let c0_1075 : Index := 0#32
  let c0_1076 : Index := 0#32
  ![v2291.toNat, 0, 0]
def k0_off584 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3049 : Index := Scalar.indexCast v2254
  let c0_1318 : Index := 0#32
  let c0_1319 : Index := 0#32
  let c0_1320 : Index := 0#32
  ![v3049.toNat, 0, 0, 0]
def k0_off585 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3053 : Index := Scalar.indexCast v2254
  let c1_1321 : Index := 1#32
  let c0_1322 : Index := 0#32
  let c0_1323 : Index := 0#32
  ![v3053.toNat, 1, 0, 0]
def k0_off586 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3057 : Index := Scalar.indexCast v2254
  let c2_1324 : Index := 2#32
  let c0_1325 : Index := 0#32
  let c0_1326 : Index := 0#32
  ![v3057.toNat, 2, 0, 0]
def k0_off587 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3061 : Index := Scalar.indexCast v2254
  let c3_1327 : Index := 3#32
  let c0_1328 : Index := 0#32
  let c0_1329 : Index := 0#32
  ![v3061.toNat, 3, 0, 0]
def k0_off588 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3065 : Index := Scalar.indexCast v2254
  let c4_1330 : Index := 4#32
  let c0_1331 : Index := 0#32
  let c0_1332 : Index := 0#32
  ![v3065.toNat, 4, 0, 0]
def k0_off589 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3069 : Index := Scalar.indexCast v2254
  let c5_1333 : Index := 5#32
  let c0_1334 : Index := 0#32
  let c0_1335 : Index := 0#32
  ![v3069.toNat, 5, 0, 0]
def k0_off590 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3073 : Index := Scalar.indexCast v2254
  let c6_1336 : Index := 6#32
  let c0_1337 : Index := 0#32
  let c0_1338 : Index := 0#32
  ![v3073.toNat, 6, 0, 0]
def k0_off591 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3077 : Index := Scalar.indexCast v2254
  let c7_1339 : Index := 7#32
  let c0_1340 : Index := 0#32
  let c0_1341 : Index := 0#32
  ![v3077.toNat, 7, 0, 0]
def k0_off592 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3081 : Index := Scalar.indexCast v2254
  let c8_1342 : Index := 8#32
  let c0_1343 : Index := 0#32
  let c0_1344 : Index := 0#32
  ![v3081.toNat, 8, 0, 0]
def k0_off593 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3085 : Index := Scalar.indexCast v2254
  let c9_1345 : Index := 9#32
  let c0_1346 : Index := 0#32
  let c0_1347 : Index := 0#32
  ![v3085.toNat, 9, 0, 0]
def k0_off594 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3089 : Index := Scalar.indexCast v2254
  let c10_1348 : Index := 10#32
  let c0_1349 : Index := 0#32
  let c0_1350 : Index := 0#32
  ![v3089.toNat, 10, 0, 0]
def k0_off595 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3093 : Index := Scalar.indexCast v2254
  let c11_1351 : Index := 11#32
  let c0_1352 : Index := 0#32
  let c0_1353 : Index := 0#32
  ![v3093.toNat, 11, 0, 0]
def k0_off596 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3097 : Index := Scalar.indexCast v2254
  let c12_1354 : Index := 12#32
  let c0_1355 : Index := 0#32
  let c0_1356 : Index := 0#32
  ![v3097.toNat, 12, 0, 0]
def k0_off597 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3101 : Index := Scalar.indexCast v2254
  let c13_1357 : Index := 13#32
  let c0_1358 : Index := 0#32
  let c0_1359 : Index := 0#32
  ![v3101.toNat, 13, 0, 0]
def k0_off598 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3105 : Index := Scalar.indexCast v2254
  let c14_1360 : Index := 14#32
  let c0_1361 : Index := 0#32
  let c0_1362 : Index := 0#32
  ![v3105.toNat, 14, 0, 0]
def k0_off599 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3109 : Index := Scalar.indexCast v2254
  let c15_1363 : Index := 15#32
  let c0_1364 : Index := 0#32
  let c0_1365 : Index := 0#32
  ![v3109.toNat, 15, 0, 0]
def k0_off600 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3113 : Index := Scalar.indexCast v2254
  let c16_1366 : Index := 16#32
  let c0_1367 : Index := 0#32
  let c0_1368 : Index := 0#32
  ![v3113.toNat, 16, 0, 0]
def k0_off601 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3117 : Index := Scalar.indexCast v2254
  let c17_1369 : Index := 17#32
  let c0_1370 : Index := 0#32
  let c0_1371 : Index := 0#32
  ![v3117.toNat, 17, 0, 0]
def k0_off602 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3121 : Index := Scalar.indexCast v2254
  let c18_1372 : Index := 18#32
  let c0_1373 : Index := 0#32
  let c0_1374 : Index := 0#32
  ![v3121.toNat, 18, 0, 0]
def k0_off603 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3125 : Index := Scalar.indexCast v2254
  let c19_1375 : Index := 19#32
  let c0_1376 : Index := 0#32
  let c0_1377 : Index := 0#32
  ![v3125.toNat, 19, 0, 0]
def k0_off604 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3129 : Index := Scalar.indexCast v2254
  let c20_1378 : Index := 20#32
  let c0_1379 : Index := 0#32
  let c0_1380 : Index := 0#32
  ![v3129.toNat, 20, 0, 0]
def k0_off605 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3133 : Index := Scalar.indexCast v2254
  let c21_1381 : Index := 21#32
  let c0_1382 : Index := 0#32
  let c0_1383 : Index := 0#32
  ![v3133.toNat, 21, 0, 0]
def k0_off606 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3137 : Index := Scalar.indexCast v2254
  let c22_1384 : Index := 22#32
  let c0_1385 : Index := 0#32
  let c0_1386 : Index := 0#32
  ![v3137.toNat, 22, 0, 0]
def k0_off607 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3141 : Index := Scalar.indexCast v2254
  let c23_1387 : Index := 23#32
  let c0_1388 : Index := 0#32
  let c0_1389 : Index := 0#32
  ![v3141.toNat, 23, 0, 0]
def k0_off608 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3145 : Index := Scalar.indexCast v2254
  let c24_1390 : Index := 24#32
  let c0_1391 : Index := 0#32
  let c0_1392 : Index := 0#32
  ![v3145.toNat, 24, 0, 0]
def k0_off609 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3149 : Index := Scalar.indexCast v2254
  let c25_1393 : Index := 25#32
  let c0_1394 : Index := 0#32
  let c0_1395 : Index := 0#32
  ![v3149.toNat, 25, 0, 0]
def k0_off610 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3153 : Index := Scalar.indexCast v2254
  let c26_1396 : Index := 26#32
  let c0_1397 : Index := 0#32
  let c0_1398 : Index := 0#32
  ![v3153.toNat, 26, 0, 0]
def k0_off611 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3157 : Index := Scalar.indexCast v2254
  let c27_1399 : Index := 27#32
  let c0_1400 : Index := 0#32
  let c0_1401 : Index := 0#32
  ![v3157.toNat, 27, 0, 0]
def k0_off612 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3161 : Index := Scalar.indexCast v2254
  let c28_1402 : Index := 28#32
  let c0_1403 : Index := 0#32
  let c0_1404 : Index := 0#32
  ![v3161.toNat, 28, 0, 0]
def k0_off613 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3165 : Index := Scalar.indexCast v2254
  let c29_1405 : Index := 29#32
  let c0_1406 : Index := 0#32
  let c0_1407 : Index := 0#32
  ![v3165.toNat, 29, 0, 0]
def k0_off614 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3169 : Index := Scalar.indexCast v2254
  let c30_1408 : Index := 30#32
  let c0_1409 : Index := 0#32
  let c0_1410 : Index := 0#32
  ![v3169.toNat, 30, 0, 0]
def k0_off615 (i : grid0.Coords) (k0_t10 : Fin (k0_t10_loop i).trips) : Fin 4 → Nat :=
  let c2_i32_1060 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v2254 : BitVec 32 := Scalar.muli c2_i32_1060 arg29
  let v3173 : Index := Scalar.indexCast v2254
  let c31_1411 : Index := 31#32
  let c0_1412 : Index := 0#32
  let c0_1413 : Index := 0#32
  ![v3173.toNat, 31, 0, 0]
def k0_mult176 (i : grid0.Coords) (k0_t10 : Fin (k0_t10_loop i).trips) : BitVec 32 :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let c256_i32_1416 : BitVec 32 := 256#32
  let v3179 : BitVec 32 := Scalar.muli v3178 c256_i32_1416
  v3179
def k0_off616 (i : grid0.Coords) (k0_t10 : Fin (k0_t10_loop i).trips) : Fin 3 → Nat :=
  let c0_1417 : Index := 0#32
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let c256_i32_1416 : BitVec 32 := 256#32
  let v3179 : BitVec 32 := Scalar.muli v3178 c256_i32_1416
  let v3180 : BitVec 32 := v3179
  let v3181 : Index := Scalar.indexCast v3180
  let c128_1418 : Index := 128#32
  ![0, v3181.toNat, 128]
def k0_off617 (i : grid0.Coords) (k0_t10 : Fin (k0_t10_loop i).trips) : Fin 3 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v3215 : Index := Scalar.indexCast v3178
  let c0_1430 : Index := 0#32
  let c0_1431 : Index := 0#32
  ![v3215.toNat, 0, 0]
def k0_off618 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v3973 : Index := Scalar.indexCast v3178
  let c0_1673 : Index := 0#32
  let c0_1674 : Index := 0#32
  let c0_1675 : Index := 0#32
  ![v3973.toNat, 0, 0, 0]
def k0_off619 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v3977 : Index := Scalar.indexCast v3178
  let c1_1676 : Index := 1#32
  let c0_1677 : Index := 0#32
  let c0_1678 : Index := 0#32
  ![v3977.toNat, 1, 0, 0]
def k0_off620 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v3981 : Index := Scalar.indexCast v3178
  let c2_1679 : Index := 2#32
  let c0_1680 : Index := 0#32
  let c0_1681 : Index := 0#32
  ![v3981.toNat, 2, 0, 0]
def k0_off621 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v3985 : Index := Scalar.indexCast v3178
  let c3_1682 : Index := 3#32
  let c0_1683 : Index := 0#32
  let c0_1684 : Index := 0#32
  ![v3985.toNat, 3, 0, 0]
def k0_off622 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v3989 : Index := Scalar.indexCast v3178
  let c4_1685 : Index := 4#32
  let c0_1686 : Index := 0#32
  let c0_1687 : Index := 0#32
  ![v3989.toNat, 4, 0, 0]
def k0_off623 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v3993 : Index := Scalar.indexCast v3178
  let c5_1688 : Index := 5#32
  let c0_1689 : Index := 0#32
  let c0_1690 : Index := 0#32
  ![v3993.toNat, 5, 0, 0]
def k0_off624 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v3997 : Index := Scalar.indexCast v3178
  let c6_1691 : Index := 6#32
  let c0_1692 : Index := 0#32
  let c0_1693 : Index := 0#32
  ![v3997.toNat, 6, 0, 0]
def k0_off625 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v4001 : Index := Scalar.indexCast v3178
  let c7_1694 : Index := 7#32
  let c0_1695 : Index := 0#32
  let c0_1696 : Index := 0#32
  ![v4001.toNat, 7, 0, 0]
def k0_off626 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v4005 : Index := Scalar.indexCast v3178
  let c8_1697 : Index := 8#32
  let c0_1698 : Index := 0#32
  let c0_1699 : Index := 0#32
  ![v4005.toNat, 8, 0, 0]
def k0_off627 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v4009 : Index := Scalar.indexCast v3178
  let c9_1700 : Index := 9#32
  let c0_1701 : Index := 0#32
  let c0_1702 : Index := 0#32
  ![v4009.toNat, 9, 0, 0]
def k0_off628 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v4013 : Index := Scalar.indexCast v3178
  let c10_1703 : Index := 10#32
  let c0_1704 : Index := 0#32
  let c0_1705 : Index := 0#32
  ![v4013.toNat, 10, 0, 0]
def k0_off629 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v4017 : Index := Scalar.indexCast v3178
  let c11_1706 : Index := 11#32
  let c0_1707 : Index := 0#32
  let c0_1708 : Index := 0#32
  ![v4017.toNat, 11, 0, 0]
def k0_off630 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v4021 : Index := Scalar.indexCast v3178
  let c12_1709 : Index := 12#32
  let c0_1710 : Index := 0#32
  let c0_1711 : Index := 0#32
  ![v4021.toNat, 12, 0, 0]
def k0_off631 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v4025 : Index := Scalar.indexCast v3178
  let c13_1712 : Index := 13#32
  let c0_1713 : Index := 0#32
  let c0_1714 : Index := 0#32
  ![v4025.toNat, 13, 0, 0]
def k0_off632 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v4029 : Index := Scalar.indexCast v3178
  let c14_1715 : Index := 14#32
  let c0_1716 : Index := 0#32
  let c0_1717 : Index := 0#32
  ![v4029.toNat, 14, 0, 0]
def k0_off633 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v4033 : Index := Scalar.indexCast v3178
  let c15_1718 : Index := 15#32
  let c0_1719 : Index := 0#32
  let c0_1720 : Index := 0#32
  ![v4033.toNat, 15, 0, 0]
def k0_off634 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v4037 : Index := Scalar.indexCast v3178
  let c16_1721 : Index := 16#32
  let c0_1722 : Index := 0#32
  let c0_1723 : Index := 0#32
  ![v4037.toNat, 16, 0, 0]
def k0_off635 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v4041 : Index := Scalar.indexCast v3178
  let c17_1724 : Index := 17#32
  let c0_1725 : Index := 0#32
  let c0_1726 : Index := 0#32
  ![v4041.toNat, 17, 0, 0]
def k0_off636 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v4045 : Index := Scalar.indexCast v3178
  let c18_1727 : Index := 18#32
  let c0_1728 : Index := 0#32
  let c0_1729 : Index := 0#32
  ![v4045.toNat, 18, 0, 0]
def k0_off637 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v4049 : Index := Scalar.indexCast v3178
  let c19_1730 : Index := 19#32
  let c0_1731 : Index := 0#32
  let c0_1732 : Index := 0#32
  ![v4049.toNat, 19, 0, 0]
def k0_off638 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v4053 : Index := Scalar.indexCast v3178
  let c20_1733 : Index := 20#32
  let c0_1734 : Index := 0#32
  let c0_1735 : Index := 0#32
  ![v4053.toNat, 20, 0, 0]
def k0_off639 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v4057 : Index := Scalar.indexCast v3178
  let c21_1736 : Index := 21#32
  let c0_1737 : Index := 0#32
  let c0_1738 : Index := 0#32
  ![v4057.toNat, 21, 0, 0]
def k0_off640 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v4061 : Index := Scalar.indexCast v3178
  let c22_1739 : Index := 22#32
  let c0_1740 : Index := 0#32
  let c0_1741 : Index := 0#32
  ![v4061.toNat, 22, 0, 0]
def k0_off641 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v4065 : Index := Scalar.indexCast v3178
  let c23_1742 : Index := 23#32
  let c0_1743 : Index := 0#32
  let c0_1744 : Index := 0#32
  ![v4065.toNat, 23, 0, 0]
def k0_off642 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v4069 : Index := Scalar.indexCast v3178
  let c24_1745 : Index := 24#32
  let c0_1746 : Index := 0#32
  let c0_1747 : Index := 0#32
  ![v4069.toNat, 24, 0, 0]
def k0_off643 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v4073 : Index := Scalar.indexCast v3178
  let c25_1748 : Index := 25#32
  let c0_1749 : Index := 0#32
  let c0_1750 : Index := 0#32
  ![v4073.toNat, 25, 0, 0]
def k0_off644 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v4077 : Index := Scalar.indexCast v3178
  let c26_1751 : Index := 26#32
  let c0_1752 : Index := 0#32
  let c0_1753 : Index := 0#32
  ![v4077.toNat, 26, 0, 0]
def k0_off645 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v4081 : Index := Scalar.indexCast v3178
  let c27_1754 : Index := 27#32
  let c0_1755 : Index := 0#32
  let c0_1756 : Index := 0#32
  ![v4081.toNat, 27, 0, 0]
def k0_off646 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v4085 : Index := Scalar.indexCast v3178
  let c28_1757 : Index := 28#32
  let c0_1758 : Index := 0#32
  let c0_1759 : Index := 0#32
  ![v4085.toNat, 28, 0, 0]
def k0_off647 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v4089 : Index := Scalar.indexCast v3178
  let c29_1760 : Index := 29#32
  let c0_1761 : Index := 0#32
  let c0_1762 : Index := 0#32
  ![v4089.toNat, 29, 0, 0]
def k0_off648 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v4093 : Index := Scalar.indexCast v3178
  let c30_1763 : Index := 30#32
  let c0_1764 : Index := 0#32
  let c0_1765 : Index := 0#32
  ![v4093.toNat, 30, 0, 0]
def k0_off649 (i : grid0.Coords) (k0_t10 : Fin (k0_t10_loop i).trips) : Fin 4 → Nat :=
  let c2_i32_1414 : BitVec 32 := 2#32
  let c0_i32_1056 : BitVec 32 := 0#32
  let arg1 : BitVec 32 := BitVec.ofNat 32 (i 1).val
  let c0_i32_428 : BitVec 32 := 0#32
  let v903 : BitVec 1 := Scalar.cmpi .sgt arg1 c0_i32_428
  let v904 : BitVec 32 := Scalar.extui v903
  let c0_i32_429 : BitVec 32 := 0#32
  let v905 : BitVec 1 := Scalar.cmpi .slt arg1 c0_i32_429
  let v906 : BitVec 32 := Scalar.extui v905
  let v907 : BitVec 32 := Scalar.subi v904 v906
  let c2_i32_427 : BitVec 32 := 2#32
  let c0_i32_430 : BitVec 32 := 0#32
  let v908 : BitVec 1 := Scalar.cmpi .sgt c2_i32_427 c0_i32_430
  let v909 : BitVec 32 := Scalar.extui v908
  let c0_i32_431 : BitVec 32 := 0#32
  let v910 : BitVec 1 := Scalar.cmpi .slt c2_i32_427 c0_i32_431
  let v911 : BitVec 32 := Scalar.extui v910
  let v912 : BitVec 32 := Scalar.subi v909 v911
  let v913 : BitVec 1 := Scalar.cmpi .ne v907 v912
  let v914 : BitVec 32 := Scalar.remsi arg1 c2_i32_427
  let c0_i32_432 : BitVec 32 := 0#32
  let v915 : BitVec 1 := Scalar.cmpi .ne v914 c0_i32_432
  let v916 : BitVec 1 := Scalar.andi v913 v915
  let v902 : BitVec 32 := Scalar.divsi arg1 c2_i32_427
  let c1_i32_433 : BitVec 32 := 1#32
  let v917 : BitVec 32 := Scalar.subi v902 c1_i32_433
  let v918 : BitVec 32 := Scalar.select v916 v917 v902
  let v2249 : BitVec 32 := Scalar.subi v918 c0_i32_1056
  let c1_i32_1057 : BitVec 32 := 1#32
  let v2251 : BitVec 32 := Scalar.divsi v2249 c1_i32_1057
  let v2252 : BitVec 32 := Scalar.muli v2251 c1_i32_1057
  let v2253 : BitVec 32 := Scalar.addi c0_i32_1056 v2252
  let c1_i32_1059 : BitVec 32 := 1#32
  let arg29 : BitVec 32 := Scf.iv v2253 c1_i32_1059 k0_t10
  let v3177 : BitVec 32 := Scalar.muli c2_i32_1414 arg29
  let c1_i32_1415 : BitVec 32 := 1#32
  let v3178 : BitVec 32 := Scalar.addi v3177 c1_i32_1415
  let v4097 : Index := Scalar.indexCast v3178
  let c31_1766 : Index := 31#32
  let c0_1767 : Index := 0#32
  let c0_1768 : Index := 0#32
  ![v4097.toNat, 31, 0, 0]
@[reducible] def k0_t11_loop (i : grid0.Coords) : Scf.Loop 32 :=
  let c0_i32_515 : BitVec 32 := 0#32
  let arg1 : BitVec 32 := BitVec.ofNat 32 (i 1).val
  let c2_i32_508 : BitVec 32 := 2#32
  let c0_i32_509 : BitVec 32 := 0#32
  let v1008 : BitVec 1 := Scalar.cmpi .eq c2_i32_508 c0_i32_509
  let c1_i32_510 : BitVec 32 := 1#32
  let v1009 : BitVec 32 := Scalar.select v1008 c1_i32_510 c2_i32_508
  let v1010 : BitVec 32 := Scalar.remsi arg1 v1009
  let c0_i32_512 : BitVec 32 := 0#32
  let v1012 : BitVec 1 := Scalar.cmpi .slt v1010 c0_i32_512
  let c0_i32_513 : BitVec 32 := 0#32
  let v1013 : BitVec 1 := Scalar.cmpi .slt v1009 c0_i32_513
  let v1014 : BitVec 1 := Scalar.xori v1012 v1013
  let c0_i32_511 : BitVec 32 := 0#32
  let v1011 : BitVec 1 := Scalar.cmpi .ne v1010 c0_i32_511
  let v1015 : BitVec 1 := Scalar.andi v1014 v1011
  let v1016 : BitVec 32 := Scalar.addi v1010 v1009
  let v1017 : BitVec 32 := Scalar.select v1015 v1016 v1010
  let v1018 : BitVec 32 := Scalar.subi v1017 c0_i32_515
  let c1_i32_516 : BitVec 32 := 1#32
  let v1020 : BitVec 32 := Scalar.divsi v1018 c1_i32_516
  let v1021 : BitVec 32 := Scalar.muli v1020 c1_i32_516
  let v1022 : BitVec 32 := Scalar.addi c0_i32_515 v1021
  let c1_i32_517 : BitVec 32 := 1#32
  ⟨c0_i32_515, v1022, c1_i32_517⟩
def k0_mult177 (i : grid0.Coords) : BitVec 32 :=
  let arg1 : BitVec 32 := BitVec.ofNat 32 (i 1).val
  let c1_i32_1043 : BitVec 32 := 1#32
  let v2234 : BitVec 32 := Scalar.subi arg1 c1_i32_1043
  let c256_i32_1044 : BitVec 32 := 256#32
  let v2235 : BitVec 32 := Scalar.muli v2234 c256_i32_1044
  v2235
def k0_off650 (i : grid0.Coords) : Fin 3 → Nat :=
  let c0_1045 : Index := 0#32
  let arg1 : BitVec 32 := BitVec.ofNat 32 (i 1).val
  let c1_i32_1043 : BitVec 32 := 1#32
  let v2234 : BitVec 32 := Scalar.subi arg1 c1_i32_1043
  let c256_i32_1044 : BitVec 32 := 256#32
  let v2235 : BitVec 32 := Scalar.muli v2234 c256_i32_1044
  let v2236 : BitVec 32 := v2235
  let v2237 : Index := Scalar.indexCast v2236
  let c128_1046 : Index := 128#32
  ![0, v2237.toNat, 128]
def k0_off651 (i : grid0.Coords) : Fin 3 → Nat :=
  let arg1 : BitVec 32 := BitVec.ofNat 32 (i 1).val
  let c1_i32_1043 : BitVec 32 := 1#32
  let v2234 : BitVec 32 := Scalar.subi arg1 c1_i32_1043
  let v2271 : Index := Scalar.indexCast v2234
  let c0_1058 : Index := 0#32
  let c0_1059 : Index := 0#32
  ![v2271.toNat, 0, 0]
def k0_off652 (i : grid0.Coords) : Fin 4 → Nat :=
  let arg1 : BitVec 32 := BitVec.ofNat 32 (i 1).val
  let c1_i32_1043 : BitVec 32 := 1#32
  let v2234 : BitVec 32 := Scalar.subi arg1 c1_i32_1043
  let v3029 : Index := Scalar.indexCast v2234
  let c0_1301 : Index := 0#32
  let c0_1302 : Index := 0#32
  let c0_1303 : Index := 0#32
  ![v3029.toNat, 0, 0, 0]
def k0_off653 (i : grid0.Coords) : Fin 4 → Nat :=
  let arg1 : BitVec 32 := BitVec.ofNat 32 (i 1).val
  let c1_i32_1043 : BitVec 32 := 1#32
  let v2234 : BitVec 32 := Scalar.subi arg1 c1_i32_1043
  let v3033 : Index := Scalar.indexCast v2234
  let c1_1304 : Index := 1#32
  let c0_1305 : Index := 0#32
  let c0_1306 : Index := 0#32
  ![v3033.toNat, 1, 0, 0]
def k0_off654 (i : grid0.Coords) : Fin 4 → Nat :=
  let arg1 : BitVec 32 := BitVec.ofNat 32 (i 1).val
  let c1_i32_1043 : BitVec 32 := 1#32
  let v2234 : BitVec 32 := Scalar.subi arg1 c1_i32_1043
  let v3037 : Index := Scalar.indexCast v2234
  let c2_1307 : Index := 2#32
  let c0_1308 : Index := 0#32
  let c0_1309 : Index := 0#32
  ![v3037.toNat, 2, 0, 0]
def k0_off655 (i : grid0.Coords) : Fin 4 → Nat :=
  let arg1 : BitVec 32 := BitVec.ofNat 32 (i 1).val
  let c1_i32_1043 : BitVec 32 := 1#32
  let v2234 : BitVec 32 := Scalar.subi arg1 c1_i32_1043
  let v3041 : Index := Scalar.indexCast v2234
  let c3_1310 : Index := 3#32
  let c0_1311 : Index := 0#32
  let c0_1312 : Index := 0#32
  ![v3041.toNat, 3, 0, 0]
def k0_off656 (i : grid0.Coords) : Fin 4 → Nat :=
  let arg1 : BitVec 32 := BitVec.ofNat 32 (i 1).val
  let c1_i32_1043 : BitVec 32 := 1#32
  let v2234 : BitVec 32 := Scalar.subi arg1 c1_i32_1043
  let v3045 : Index := Scalar.indexCast v2234
  let c4_1313 : Index := 4#32
  let c0_1314 : Index := 0#32
  let c0_1315 : Index := 0#32
  ![v3045.toNat, 4, 0, 0]
def k0_off657 (i : grid0.Coords) : Fin 4 → Nat :=
  let arg1 : BitVec 32 := BitVec.ofNat 32 (i 1).val
  let c1_i32_1043 : BitVec 32 := 1#32
  let v2234 : BitVec 32 := Scalar.subi arg1 c1_i32_1043
  let v3049 : Index := Scalar.indexCast v2234
  let c5_1316 : Index := 5#32
  let c0_1317 : Index := 0#32
  let c0_1318 : Index := 0#32
  ![v3049.toNat, 5, 0, 0]
def k0_off658 (i : grid0.Coords) : Fin 4 → Nat :=
  let arg1 : BitVec 32 := BitVec.ofNat 32 (i 1).val
  let c1_i32_1043 : BitVec 32 := 1#32
  let v2234 : BitVec 32 := Scalar.subi arg1 c1_i32_1043
  let v3053 : Index := Scalar.indexCast v2234
  let c6_1319 : Index := 6#32
  let c0_1320 : Index := 0#32
  let c0_1321 : Index := 0#32
  ![v3053.toNat, 6, 0, 0]
def k0_off659 (i : grid0.Coords) : Fin 4 → Nat :=
  let arg1 : BitVec 32 := BitVec.ofNat 32 (i 1).val
  let c1_i32_1043 : BitVec 32 := 1#32
  let v2234 : BitVec 32 := Scalar.subi arg1 c1_i32_1043
  let v3057 : Index := Scalar.indexCast v2234
  let c7_1322 : Index := 7#32
  let c0_1323 : Index := 0#32
  let c0_1324 : Index := 0#32
  ![v3057.toNat, 7, 0, 0]
def k0_off660 (i : grid0.Coords) : Fin 4 → Nat :=
  let arg1 : BitVec 32 := BitVec.ofNat 32 (i 1).val
  let c1_i32_1043 : BitVec 32 := 1#32
  let v2234 : BitVec 32 := Scalar.subi arg1 c1_i32_1043
  let v3061 : Index := Scalar.indexCast v2234
  let c8_1325 : Index := 8#32
  let c0_1326 : Index := 0#32
  let c0_1327 : Index := 0#32
  ![v3061.toNat, 8, 0, 0]
def k0_off661 (i : grid0.Coords) : Fin 4 → Nat :=
  let arg1 : BitVec 32 := BitVec.ofNat 32 (i 1).val
  let c1_i32_1043 : BitVec 32 := 1#32
  let v2234 : BitVec 32 := Scalar.subi arg1 c1_i32_1043
  let v3065 : Index := Scalar.indexCast v2234
  let c9_1328 : Index := 9#32
  let c0_1329 : Index := 0#32
  let c0_1330 : Index := 0#32
  ![v3065.toNat, 9, 0, 0]
def k0_off662 (i : grid0.Coords) : Fin 4 → Nat :=
  let arg1 : BitVec 32 := BitVec.ofNat 32 (i 1).val
  let c1_i32_1043 : BitVec 32 := 1#32
  let v2234 : BitVec 32 := Scalar.subi arg1 c1_i32_1043
  let v3069 : Index := Scalar.indexCast v2234
  let c10_1331 : Index := 10#32
  let c0_1332 : Index := 0#32
  let c0_1333 : Index := 0#32
  ![v3069.toNat, 10, 0, 0]
def k0_off663 (i : grid0.Coords) : Fin 4 → Nat :=
  let arg1 : BitVec 32 := BitVec.ofNat 32 (i 1).val
  let c1_i32_1043 : BitVec 32 := 1#32
  let v2234 : BitVec 32 := Scalar.subi arg1 c1_i32_1043
  let v3073 : Index := Scalar.indexCast v2234
  let c11_1334 : Index := 11#32
  let c0_1335 : Index := 0#32
  let c0_1336 : Index := 0#32
  ![v3073.toNat, 11, 0, 0]
def k0_off664 (i : grid0.Coords) : Fin 4 → Nat :=
  let arg1 : BitVec 32 := BitVec.ofNat 32 (i 1).val
  let c1_i32_1043 : BitVec 32 := 1#32
  let v2234 : BitVec 32 := Scalar.subi arg1 c1_i32_1043
  let v3077 : Index := Scalar.indexCast v2234
  let c12_1337 : Index := 12#32
  let c0_1338 : Index := 0#32
  let c0_1339 : Index := 0#32
  ![v3077.toNat, 12, 0, 0]
def k0_off665 (i : grid0.Coords) : Fin 4 → Nat :=
  let arg1 : BitVec 32 := BitVec.ofNat 32 (i 1).val
  let c1_i32_1043 : BitVec 32 := 1#32
  let v2234 : BitVec 32 := Scalar.subi arg1 c1_i32_1043
  let v3081 : Index := Scalar.indexCast v2234
  let c13_1340 : Index := 13#32
  let c0_1341 : Index := 0#32
  let c0_1342 : Index := 0#32
  ![v3081.toNat, 13, 0, 0]
def k0_off666 (i : grid0.Coords) : Fin 4 → Nat :=
  let arg1 : BitVec 32 := BitVec.ofNat 32 (i 1).val
  let c1_i32_1043 : BitVec 32 := 1#32
  let v2234 : BitVec 32 := Scalar.subi arg1 c1_i32_1043
  let v3085 : Index := Scalar.indexCast v2234
  let c14_1343 : Index := 14#32
  let c0_1344 : Index := 0#32
  let c0_1345 : Index := 0#32
  ![v3085.toNat, 14, 0, 0]
def k0_off667 (i : grid0.Coords) : Fin 4 → Nat :=
  let arg1 : BitVec 32 := BitVec.ofNat 32 (i 1).val
  let c1_i32_1043 : BitVec 32 := 1#32
  let v2234 : BitVec 32 := Scalar.subi arg1 c1_i32_1043
  let v3089 : Index := Scalar.indexCast v2234
  let c15_1346 : Index := 15#32
  let c0_1347 : Index := 0#32
  let c0_1348 : Index := 0#32
  ![v3089.toNat, 15, 0, 0]
def k0_off668 (i : grid0.Coords) : Fin 4 → Nat :=
  let arg1 : BitVec 32 := BitVec.ofNat 32 (i 1).val
  let c1_i32_1043 : BitVec 32 := 1#32
  let v2234 : BitVec 32 := Scalar.subi arg1 c1_i32_1043
  let v3093 : Index := Scalar.indexCast v2234
  let c16_1349 : Index := 16#32
  let c0_1350 : Index := 0#32
  let c0_1351 : Index := 0#32
  ![v3093.toNat, 16, 0, 0]
def k0_off669 (i : grid0.Coords) : Fin 4 → Nat :=
  let arg1 : BitVec 32 := BitVec.ofNat 32 (i 1).val
  let c1_i32_1043 : BitVec 32 := 1#32
  let v2234 : BitVec 32 := Scalar.subi arg1 c1_i32_1043
  let v3097 : Index := Scalar.indexCast v2234
  let c17_1352 : Index := 17#32
  let c0_1353 : Index := 0#32
  let c0_1354 : Index := 0#32
  ![v3097.toNat, 17, 0, 0]
def k0_off670 (i : grid0.Coords) : Fin 4 → Nat :=
  let arg1 : BitVec 32 := BitVec.ofNat 32 (i 1).val
  let c1_i32_1043 : BitVec 32 := 1#32
  let v2234 : BitVec 32 := Scalar.subi arg1 c1_i32_1043
  let v3101 : Index := Scalar.indexCast v2234
  let c18_1355 : Index := 18#32
  let c0_1356 : Index := 0#32
  let c0_1357 : Index := 0#32
  ![v3101.toNat, 18, 0, 0]
def k0_off671 (i : grid0.Coords) : Fin 4 → Nat :=
  let arg1 : BitVec 32 := BitVec.ofNat 32 (i 1).val
  let c1_i32_1043 : BitVec 32 := 1#32
  let v2234 : BitVec 32 := Scalar.subi arg1 c1_i32_1043
  let v3105 : Index := Scalar.indexCast v2234
  let c19_1358 : Index := 19#32
  let c0_1359 : Index := 0#32
  let c0_1360 : Index := 0#32
  ![v3105.toNat, 19, 0, 0]
def k0_off672 (i : grid0.Coords) : Fin 4 → Nat :=
  let arg1 : BitVec 32 := BitVec.ofNat 32 (i 1).val
  let c1_i32_1043 : BitVec 32 := 1#32
  let v2234 : BitVec 32 := Scalar.subi arg1 c1_i32_1043
  let v3109 : Index := Scalar.indexCast v2234
  let c20_1361 : Index := 20#32
  let c0_1362 : Index := 0#32
  let c0_1363 : Index := 0#32
  ![v3109.toNat, 20, 0, 0]
def k0_off673 (i : grid0.Coords) : Fin 4 → Nat :=
  let arg1 : BitVec 32 := BitVec.ofNat 32 (i 1).val
  let c1_i32_1043 : BitVec 32 := 1#32
  let v2234 : BitVec 32 := Scalar.subi arg1 c1_i32_1043
  let v3113 : Index := Scalar.indexCast v2234
  let c21_1364 : Index := 21#32
  let c0_1365 : Index := 0#32
  let c0_1366 : Index := 0#32
  ![v3113.toNat, 21, 0, 0]
def k0_off674 (i : grid0.Coords) : Fin 4 → Nat :=
  let arg1 : BitVec 32 := BitVec.ofNat 32 (i 1).val
  let c1_i32_1043 : BitVec 32 := 1#32
  let v2234 : BitVec 32 := Scalar.subi arg1 c1_i32_1043
  let v3117 : Index := Scalar.indexCast v2234
  let c22_1367 : Index := 22#32
  let c0_1368 : Index := 0#32
  let c0_1369 : Index := 0#32
  ![v3117.toNat, 22, 0, 0]
def k0_off675 (i : grid0.Coords) : Fin 4 → Nat :=
  let arg1 : BitVec 32 := BitVec.ofNat 32 (i 1).val
  let c1_i32_1043 : BitVec 32 := 1#32
  let v2234 : BitVec 32 := Scalar.subi arg1 c1_i32_1043
  let v3121 : Index := Scalar.indexCast v2234
  let c23_1370 : Index := 23#32
  let c0_1371 : Index := 0#32
  let c0_1372 : Index := 0#32
  ![v3121.toNat, 23, 0, 0]
def k0_off676 (i : grid0.Coords) : Fin 4 → Nat :=
  let arg1 : BitVec 32 := BitVec.ofNat 32 (i 1).val
  let c1_i32_1043 : BitVec 32 := 1#32
  let v2234 : BitVec 32 := Scalar.subi arg1 c1_i32_1043
  let v3125 : Index := Scalar.indexCast v2234
  let c24_1373 : Index := 24#32
  let c0_1374 : Index := 0#32
  let c0_1375 : Index := 0#32
  ![v3125.toNat, 24, 0, 0]
def k0_off677 (i : grid0.Coords) : Fin 4 → Nat :=
  let arg1 : BitVec 32 := BitVec.ofNat 32 (i 1).val
  let c1_i32_1043 : BitVec 32 := 1#32
  let v2234 : BitVec 32 := Scalar.subi arg1 c1_i32_1043
  let v3129 : Index := Scalar.indexCast v2234
  let c25_1376 : Index := 25#32
  let c0_1377 : Index := 0#32
  let c0_1378 : Index := 0#32
  ![v3129.toNat, 25, 0, 0]
def k0_off678 (i : grid0.Coords) : Fin 4 → Nat :=
  let arg1 : BitVec 32 := BitVec.ofNat 32 (i 1).val
  let c1_i32_1043 : BitVec 32 := 1#32
  let v2234 : BitVec 32 := Scalar.subi arg1 c1_i32_1043
  let v3133 : Index := Scalar.indexCast v2234
  let c26_1379 : Index := 26#32
  let c0_1380 : Index := 0#32
  let c0_1381 : Index := 0#32
  ![v3133.toNat, 26, 0, 0]
def k0_off679 (i : grid0.Coords) : Fin 4 → Nat :=
  let arg1 : BitVec 32 := BitVec.ofNat 32 (i 1).val
  let c1_i32_1043 : BitVec 32 := 1#32
  let v2234 : BitVec 32 := Scalar.subi arg1 c1_i32_1043
  let v3137 : Index := Scalar.indexCast v2234
  let c27_1382 : Index := 27#32
  let c0_1383 : Index := 0#32
  let c0_1384 : Index := 0#32
  ![v3137.toNat, 27, 0, 0]
def k0_off680 (i : grid0.Coords) : Fin 4 → Nat :=
  let arg1 : BitVec 32 := BitVec.ofNat 32 (i 1).val
  let c1_i32_1043 : BitVec 32 := 1#32
  let v2234 : BitVec 32 := Scalar.subi arg1 c1_i32_1043
  let v3141 : Index := Scalar.indexCast v2234
  let c28_1385 : Index := 28#32
  let c0_1386 : Index := 0#32
  let c0_1387 : Index := 0#32
  ![v3141.toNat, 28, 0, 0]
def k0_off681 (i : grid0.Coords) : Fin 4 → Nat :=
  let arg1 : BitVec 32 := BitVec.ofNat 32 (i 1).val
  let c1_i32_1043 : BitVec 32 := 1#32
  let v2234 : BitVec 32 := Scalar.subi arg1 c1_i32_1043
  let v3145 : Index := Scalar.indexCast v2234
  let c29_1388 : Index := 29#32
  let c0_1389 : Index := 0#32
  let c0_1390 : Index := 0#32
  ![v3145.toNat, 29, 0, 0]
def k0_off682 (i : grid0.Coords) : Fin 4 → Nat :=
  let arg1 : BitVec 32 := BitVec.ofNat 32 (i 1).val
  let c1_i32_1043 : BitVec 32 := 1#32
  let v2234 : BitVec 32 := Scalar.subi arg1 c1_i32_1043
  let v3149 : Index := Scalar.indexCast v2234
  let c30_1391 : Index := 30#32
  let c0_1392 : Index := 0#32
  let c0_1393 : Index := 0#32
  ![v3149.toNat, 30, 0, 0]
def k0_off683 (i : grid0.Coords) : Fin 4 → Nat :=
  let arg1 : BitVec 32 := BitVec.ofNat 32 (i 1).val
  let c1_i32_1043 : BitVec 32 := 1#32
  let v2234 : BitVec 32 := Scalar.subi arg1 c1_i32_1043
  let v3153 : Index := Scalar.indexCast v2234
  let c31_1394 : Index := 31#32
  let c0_1395 : Index := 0#32
  let c0_1396 : Index := 0#32
  ![v3153.toNat, 31, 0, 0]
@[reducible] def k0_t12_loop (i : grid0.Coords) : Scf.Loop 32 :=
  let c0_i32_515 : BitVec 32 := 0#32
  let arg1 : BitVec 32 := BitVec.ofNat 32 (i 1).val
  let c2_i32_508 : BitVec 32 := 2#32
  let c0_i32_509 : BitVec 32 := 0#32
  let v1008 : BitVec 1 := Scalar.cmpi .eq c2_i32_508 c0_i32_509
  let c1_i32_510 : BitVec 32 := 1#32
  let v1009 : BitVec 32 := Scalar.select v1008 c1_i32_510 c2_i32_508
  let v1010 : BitVec 32 := Scalar.remsi arg1 v1009
  let c0_i32_512 : BitVec 32 := 0#32
  let v1012 : BitVec 1 := Scalar.cmpi .slt v1010 c0_i32_512
  let c0_i32_513 : BitVec 32 := 0#32
  let v1013 : BitVec 1 := Scalar.cmpi .slt v1009 c0_i32_513
  let v1014 : BitVec 1 := Scalar.xori v1012 v1013
  let c0_i32_511 : BitVec 32 := 0#32
  let v1011 : BitVec 1 := Scalar.cmpi .ne v1010 c0_i32_511
  let v1015 : BitVec 1 := Scalar.andi v1014 v1011
  let v1016 : BitVec 32 := Scalar.addi v1010 v1009
  let v1017 : BitVec 32 := Scalar.select v1015 v1016 v1010
  let v1018 : BitVec 32 := Scalar.subi v1017 c0_i32_515
  let c1_i32_516 : BitVec 32 := 1#32
  let v1020 : BitVec 32 := Scalar.divsi v1018 c1_i32_516
  let v1021 : BitVec 32 := Scalar.muli v1020 c1_i32_516
  let v1022 : BitVec 32 := Scalar.addi c0_i32_515 v1021
  let v1019 : BitVec 32 := Scalar.addi c0_i32_515 v1018
  let c1_i32_518 : BitVec 32 := 1#32
  ⟨v1022, v1019, c1_i32_518⟩
def k0_mult178 (i : grid0.Coords) : BitVec 32 :=
  let arg1 : BitVec 32 := BitVec.ofNat 32 (i 1).val
  let c1_i32_1043 : BitVec 32 := 1#32
  let v2234 : BitVec 32 := Scalar.subi arg1 c1_i32_1043
  let c256_i32_1044 : BitVec 32 := 256#32
  let v2235 : BitVec 32 := Scalar.muli v2234 c256_i32_1044
  v2235
def k0_off684 (i : grid0.Coords) : Fin 3 → Nat :=
  let c0_1045 : Index := 0#32
  let arg1 : BitVec 32 := BitVec.ofNat 32 (i 1).val
  let c1_i32_1043 : BitVec 32 := 1#32
  let v2234 : BitVec 32 := Scalar.subi arg1 c1_i32_1043
  let c256_i32_1044 : BitVec 32 := 256#32
  let v2235 : BitVec 32 := Scalar.muli v2234 c256_i32_1044
  let v2236 : BitVec 32 := v2235
  let v2237 : Index := Scalar.indexCast v2236
  let c128_1046 : Index := 128#32
  ![0, v2237.toNat, 128]
def k0_off685 (i : grid0.Coords) : Fin 3 → Nat :=
  let arg1 : BitVec 32 := BitVec.ofNat 32 (i 1).val
  let c1_i32_1043 : BitVec 32 := 1#32
  let v2234 : BitVec 32 := Scalar.subi arg1 c1_i32_1043
  let v2271 : Index := Scalar.indexCast v2234
  let c0_1058 : Index := 0#32
  let c0_1059 : Index := 0#32
  ![v2271.toNat, 0, 0]
def k0_off686 (i : grid0.Coords) : Fin 4 → Nat :=
  let arg1 : BitVec 32 := BitVec.ofNat 32 (i 1).val
  let c1_i32_1043 : BitVec 32 := 1#32
  let v2234 : BitVec 32 := Scalar.subi arg1 c1_i32_1043
  let v3029 : Index := Scalar.indexCast v2234
  let c0_1301 : Index := 0#32
  let c0_1302 : Index := 0#32
  let c0_1303 : Index := 0#32
  ![v3029.toNat, 0, 0, 0]
def k0_off687 (i : grid0.Coords) : Fin 4 → Nat :=
  let arg1 : BitVec 32 := BitVec.ofNat 32 (i 1).val
  let c1_i32_1043 : BitVec 32 := 1#32
  let v2234 : BitVec 32 := Scalar.subi arg1 c1_i32_1043
  let v3033 : Index := Scalar.indexCast v2234
  let c1_1304 : Index := 1#32
  let c0_1305 : Index := 0#32
  let c0_1306 : Index := 0#32
  ![v3033.toNat, 1, 0, 0]
def k0_off688 (i : grid0.Coords) : Fin 4 → Nat :=
  let arg1 : BitVec 32 := BitVec.ofNat 32 (i 1).val
  let c1_i32_1043 : BitVec 32 := 1#32
  let v2234 : BitVec 32 := Scalar.subi arg1 c1_i32_1043
  let v3037 : Index := Scalar.indexCast v2234
  let c2_1307 : Index := 2#32
  let c0_1308 : Index := 0#32
  let c0_1309 : Index := 0#32
  ![v3037.toNat, 2, 0, 0]
def k0_off689 (i : grid0.Coords) : Fin 4 → Nat :=
  let arg1 : BitVec 32 := BitVec.ofNat 32 (i 1).val
  let c1_i32_1043 : BitVec 32 := 1#32
  let v2234 : BitVec 32 := Scalar.subi arg1 c1_i32_1043
  let v3041 : Index := Scalar.indexCast v2234
  let c3_1310 : Index := 3#32
  let c0_1311 : Index := 0#32
  let c0_1312 : Index := 0#32
  ![v3041.toNat, 3, 0, 0]
def k0_off690 (i : grid0.Coords) : Fin 4 → Nat :=
  let arg1 : BitVec 32 := BitVec.ofNat 32 (i 1).val
  let c1_i32_1043 : BitVec 32 := 1#32
  let v2234 : BitVec 32 := Scalar.subi arg1 c1_i32_1043
  let v3045 : Index := Scalar.indexCast v2234
  let c4_1313 : Index := 4#32
  let c0_1314 : Index := 0#32
  let c0_1315 : Index := 0#32
  ![v3045.toNat, 4, 0, 0]
def k0_off691 (i : grid0.Coords) : Fin 4 → Nat :=
  let arg1 : BitVec 32 := BitVec.ofNat 32 (i 1).val
  let c1_i32_1043 : BitVec 32 := 1#32
  let v2234 : BitVec 32 := Scalar.subi arg1 c1_i32_1043
  let v3049 : Index := Scalar.indexCast v2234
  let c5_1316 : Index := 5#32
  let c0_1317 : Index := 0#32
  let c0_1318 : Index := 0#32
  ![v3049.toNat, 5, 0, 0]
def k0_off692 (i : grid0.Coords) : Fin 4 → Nat :=
  let arg1 : BitVec 32 := BitVec.ofNat 32 (i 1).val
  let c1_i32_1043 : BitVec 32 := 1#32
  let v2234 : BitVec 32 := Scalar.subi arg1 c1_i32_1043
  let v3053 : Index := Scalar.indexCast v2234
  let c6_1319 : Index := 6#32
  let c0_1320 : Index := 0#32
  let c0_1321 : Index := 0#32
  ![v3053.toNat, 6, 0, 0]
def k0_off693 (i : grid0.Coords) : Fin 4 → Nat :=
  let arg1 : BitVec 32 := BitVec.ofNat 32 (i 1).val
  let c1_i32_1043 : BitVec 32 := 1#32
  let v2234 : BitVec 32 := Scalar.subi arg1 c1_i32_1043
  let v3057 : Index := Scalar.indexCast v2234
  let c7_1322 : Index := 7#32
  let c0_1323 : Index := 0#32
  let c0_1324 : Index := 0#32
  ![v3057.toNat, 7, 0, 0]
def k0_off694 (i : grid0.Coords) : Fin 4 → Nat :=
  let arg1 : BitVec 32 := BitVec.ofNat 32 (i 1).val
  let c1_i32_1043 : BitVec 32 := 1#32
  let v2234 : BitVec 32 := Scalar.subi arg1 c1_i32_1043
  let v3061 : Index := Scalar.indexCast v2234
  let c8_1325 : Index := 8#32
  let c0_1326 : Index := 0#32
  let c0_1327 : Index := 0#32
  ![v3061.toNat, 8, 0, 0]
def k0_off695 (i : grid0.Coords) : Fin 4 → Nat :=
  let arg1 : BitVec 32 := BitVec.ofNat 32 (i 1).val
  let c1_i32_1043 : BitVec 32 := 1#32
  let v2234 : BitVec 32 := Scalar.subi arg1 c1_i32_1043
  let v3065 : Index := Scalar.indexCast v2234
  let c9_1328 : Index := 9#32
  let c0_1329 : Index := 0#32
  let c0_1330 : Index := 0#32
  ![v3065.toNat, 9, 0, 0]
def k0_off696 (i : grid0.Coords) : Fin 4 → Nat :=
  let arg1 : BitVec 32 := BitVec.ofNat 32 (i 1).val
  let c1_i32_1043 : BitVec 32 := 1#32
  let v2234 : BitVec 32 := Scalar.subi arg1 c1_i32_1043
  let v3069 : Index := Scalar.indexCast v2234
  let c10_1331 : Index := 10#32
  let c0_1332 : Index := 0#32
  let c0_1333 : Index := 0#32
  ![v3069.toNat, 10, 0, 0]

variable {F : FTy → Type} [BitOps F]

def k0_off697 (i : grid0.Coords) : Fin 4 → Nat :=
  let arg1 : BitVec 32 := BitVec.ofNat 32 (i 1).val
  let c1_i32_1043 : BitVec 32 := 1#32
  let v2234 : BitVec 32 := Scalar.subi arg1 c1_i32_1043
  let v3073 : Index := Scalar.indexCast v2234
  let c11_1334 : Index := 11#32
  let c0_1335 : Index := 0#32
  let c0_1336 : Index := 0#32
  ![v3073.toNat, 11, 0, 0]
def k0_off698 (i : grid0.Coords) : Fin 4 → Nat :=
  let arg1 : BitVec 32 := BitVec.ofNat 32 (i 1).val
  let c1_i32_1043 : BitVec 32 := 1#32
  let v2234 : BitVec 32 := Scalar.subi arg1 c1_i32_1043
  let v3077 : Index := Scalar.indexCast v2234
  let c12_1337 : Index := 12#32
  let c0_1338 : Index := 0#32
  let c0_1339 : Index := 0#32
  ![v3077.toNat, 12, 0, 0]
def k0_off699 (i : grid0.Coords) : Fin 4 → Nat :=
  let arg1 : BitVec 32 := BitVec.ofNat 32 (i 1).val
  let c1_i32_1043 : BitVec 32 := 1#32
  let v2234 : BitVec 32 := Scalar.subi arg1 c1_i32_1043
  let v3081 : Index := Scalar.indexCast v2234
  let c13_1340 : Index := 13#32
  let c0_1341 : Index := 0#32
  let c0_1342 : Index := 0#32
  ![v3081.toNat, 13, 0, 0]
def k0_off700 (i : grid0.Coords) : Fin 4 → Nat :=
  let arg1 : BitVec 32 := BitVec.ofNat 32 (i 1).val
  let c1_i32_1043 : BitVec 32 := 1#32
  let v2234 : BitVec 32 := Scalar.subi arg1 c1_i32_1043
  let v3085 : Index := Scalar.indexCast v2234
  let c14_1343 : Index := 14#32
  let c0_1344 : Index := 0#32
  let c0_1345 : Index := 0#32
  ![v3085.toNat, 14, 0, 0]
def k0_off701 (i : grid0.Coords) : Fin 4 → Nat :=
  let arg1 : BitVec 32 := BitVec.ofNat 32 (i 1).val
  let c1_i32_1043 : BitVec 32 := 1#32
  let v2234 : BitVec 32 := Scalar.subi arg1 c1_i32_1043
  let v3089 : Index := Scalar.indexCast v2234
  let c15_1346 : Index := 15#32
  let c0_1347 : Index := 0#32
  let c0_1348 : Index := 0#32
  ![v3089.toNat, 15, 0, 0]
def k0_off702 (i : grid0.Coords) : Fin 4 → Nat :=
  let arg1 : BitVec 32 := BitVec.ofNat 32 (i 1).val
  let c1_i32_1043 : BitVec 32 := 1#32
  let v2234 : BitVec 32 := Scalar.subi arg1 c1_i32_1043
  let v3093 : Index := Scalar.indexCast v2234
  let c16_1349 : Index := 16#32
  let c0_1350 : Index := 0#32
  let c0_1351 : Index := 0#32
  ![v3093.toNat, 16, 0, 0]
def k0_off703 (i : grid0.Coords) : Fin 4 → Nat :=
  let arg1 : BitVec 32 := BitVec.ofNat 32 (i 1).val
  let c1_i32_1043 : BitVec 32 := 1#32
  let v2234 : BitVec 32 := Scalar.subi arg1 c1_i32_1043
  let v3097 : Index := Scalar.indexCast v2234
  let c17_1352 : Index := 17#32
  let c0_1353 : Index := 0#32
  let c0_1354 : Index := 0#32
  ![v3097.toNat, 17, 0, 0]
def k0_off704 (i : grid0.Coords) : Fin 4 → Nat :=
  let arg1 : BitVec 32 := BitVec.ofNat 32 (i 1).val
  let c1_i32_1043 : BitVec 32 := 1#32
  let v2234 : BitVec 32 := Scalar.subi arg1 c1_i32_1043
  let v3101 : Index := Scalar.indexCast v2234
  let c18_1355 : Index := 18#32
  let c0_1356 : Index := 0#32
  let c0_1357 : Index := 0#32
  ![v3101.toNat, 18, 0, 0]
def k0_off705 (i : grid0.Coords) : Fin 4 → Nat :=
  let arg1 : BitVec 32 := BitVec.ofNat 32 (i 1).val
  let c1_i32_1043 : BitVec 32 := 1#32
  let v2234 : BitVec 32 := Scalar.subi arg1 c1_i32_1043
  let v3105 : Index := Scalar.indexCast v2234
  let c19_1358 : Index := 19#32
  let c0_1359 : Index := 0#32
  let c0_1360 : Index := 0#32
  ![v3105.toNat, 19, 0, 0]
def k0_off706 (i : grid0.Coords) : Fin 4 → Nat :=
  let arg1 : BitVec 32 := BitVec.ofNat 32 (i 1).val
  let c1_i32_1043 : BitVec 32 := 1#32
  let v2234 : BitVec 32 := Scalar.subi arg1 c1_i32_1043
  let v3109 : Index := Scalar.indexCast v2234
  let c20_1361 : Index := 20#32
  let c0_1362 : Index := 0#32
  let c0_1363 : Index := 0#32
  ![v3109.toNat, 20, 0, 0]
def k0_off707 (i : grid0.Coords) : Fin 4 → Nat :=
  let arg1 : BitVec 32 := BitVec.ofNat 32 (i 1).val
  let c1_i32_1043 : BitVec 32 := 1#32
  let v2234 : BitVec 32 := Scalar.subi arg1 c1_i32_1043
  let v3113 : Index := Scalar.indexCast v2234
  let c21_1364 : Index := 21#32
  let c0_1365 : Index := 0#32
  let c0_1366 : Index := 0#32
  ![v3113.toNat, 21, 0, 0]
def k0_off708 (i : grid0.Coords) : Fin 4 → Nat :=
  let arg1 : BitVec 32 := BitVec.ofNat 32 (i 1).val
  let c1_i32_1043 : BitVec 32 := 1#32
  let v2234 : BitVec 32 := Scalar.subi arg1 c1_i32_1043
  let v3117 : Index := Scalar.indexCast v2234
  let c22_1367 : Index := 22#32
  let c0_1368 : Index := 0#32
  let c0_1369 : Index := 0#32
  ![v3117.toNat, 22, 0, 0]
def k0_off709 (i : grid0.Coords) : Fin 4 → Nat :=
  let arg1 : BitVec 32 := BitVec.ofNat 32 (i 1).val
  let c1_i32_1043 : BitVec 32 := 1#32
  let v2234 : BitVec 32 := Scalar.subi arg1 c1_i32_1043
  let v3121 : Index := Scalar.indexCast v2234
  let c23_1370 : Index := 23#32
  let c0_1371 : Index := 0#32
  let c0_1372 : Index := 0#32
  ![v3121.toNat, 23, 0, 0]
def k0_off710 (i : grid0.Coords) : Fin 4 → Nat :=
  let arg1 : BitVec 32 := BitVec.ofNat 32 (i 1).val
  let c1_i32_1043 : BitVec 32 := 1#32
  let v2234 : BitVec 32 := Scalar.subi arg1 c1_i32_1043
  let v3125 : Index := Scalar.indexCast v2234
  let c24_1373 : Index := 24#32
  let c0_1374 : Index := 0#32
  let c0_1375 : Index := 0#32
  ![v3125.toNat, 24, 0, 0]
def k0_off711 (i : grid0.Coords) : Fin 4 → Nat :=
  let arg1 : BitVec 32 := BitVec.ofNat 32 (i 1).val
  let c1_i32_1043 : BitVec 32 := 1#32
  let v2234 : BitVec 32 := Scalar.subi arg1 c1_i32_1043
  let v3129 : Index := Scalar.indexCast v2234
  let c25_1376 : Index := 25#32
  let c0_1377 : Index := 0#32
  let c0_1378 : Index := 0#32
  ![v3129.toNat, 25, 0, 0]
def k0_off712 (i : grid0.Coords) : Fin 4 → Nat :=
  let arg1 : BitVec 32 := BitVec.ofNat 32 (i 1).val
  let c1_i32_1043 : BitVec 32 := 1#32
  let v2234 : BitVec 32 := Scalar.subi arg1 c1_i32_1043
  let v3133 : Index := Scalar.indexCast v2234
  let c26_1379 : Index := 26#32
  let c0_1380 : Index := 0#32
  let c0_1381 : Index := 0#32
  ![v3133.toNat, 26, 0, 0]
def k0_off713 (i : grid0.Coords) : Fin 4 → Nat :=
  let arg1 : BitVec 32 := BitVec.ofNat 32 (i 1).val
  let c1_i32_1043 : BitVec 32 := 1#32
  let v2234 : BitVec 32 := Scalar.subi arg1 c1_i32_1043
  let v3137 : Index := Scalar.indexCast v2234
  let c27_1382 : Index := 27#32
  let c0_1383 : Index := 0#32
  let c0_1384 : Index := 0#32
  ![v3137.toNat, 27, 0, 0]
def k0_off714 (i : grid0.Coords) : Fin 4 → Nat :=
  let arg1 : BitVec 32 := BitVec.ofNat 32 (i 1).val
  let c1_i32_1043 : BitVec 32 := 1#32
  let v2234 : BitVec 32 := Scalar.subi arg1 c1_i32_1043
  let v3141 : Index := Scalar.indexCast v2234
  let c28_1385 : Index := 28#32
  let c0_1386 : Index := 0#32
  let c0_1387 : Index := 0#32
  ![v3141.toNat, 28, 0, 0]
def k0_off715 (i : grid0.Coords) : Fin 4 → Nat :=
  let arg1 : BitVec 32 := BitVec.ofNat 32 (i 1).val
  let c1_i32_1043 : BitVec 32 := 1#32
  let v2234 : BitVec 32 := Scalar.subi arg1 c1_i32_1043
  let v3145 : Index := Scalar.indexCast v2234
  let c29_1388 : Index := 29#32
  let c0_1389 : Index := 0#32
  let c0_1390 : Index := 0#32
  ![v3145.toNat, 29, 0, 0]
def k0_off716 (i : grid0.Coords) : Fin 4 → Nat :=
  let arg1 : BitVec 32 := BitVec.ofNat 32 (i 1).val
  let c1_i32_1043 : BitVec 32 := 1#32
  let v2234 : BitVec 32 := Scalar.subi arg1 c1_i32_1043
  let v3149 : Index := Scalar.indexCast v2234
  let c30_1391 : Index := 30#32
  let c0_1392 : Index := 0#32
  let c0_1393 : Index := 0#32
  ![v3149.toNat, 30, 0, 0]
def k0_off717 (i : grid0.Coords) : Fin 4 → Nat :=
  let arg1 : BitVec 32 := BitVec.ofNat 32 (i 1).val
  let c1_i32_1043 : BitVec 32 := 1#32
  let v2234 : BitVec 32 := Scalar.subi arg1 c1_i32_1043
  let v3153 : Index := Scalar.indexCast v2234
  let c31_1394 : Index := 31#32
  let c0_1395 : Index := 0#32
  let c0_1396 : Index := 0#32
  ![v3153.toNat, 31, 0, 0]
def k0_mult179 (i : grid0.Coords) : BitVec 32 :=
  let arg1 : BitVec 32 := BitVec.ofNat 32 (i 1).val
  let c256_i32 : BitVec 32 := 256#32
  let v1023 : BitVec 32 := Scalar.muli arg1 c256_i32
  v1023
def k0_off718 (i : grid0.Coords) : Fin 3 → Nat :=
  let c0_519 : Index := 0#32
  let arg1 : BitVec 32 := BitVec.ofNat 32 (i 1).val
  let c256_i32 : BitVec 32 := 256#32
  let v1023 : BitVec 32 := Scalar.muli arg1 c256_i32
  let v1024 : BitVec 32 := v1023
  let v1025 : Index := Scalar.indexCast v1024
  let c128_520 : Index := 128#32
  ![0, v1025.toNat, 128]
def k0_off719 (i : grid0.Coords) : Fin 3 → Nat :=
  let arg1 : BitVec 32 := BitVec.ofNat 32 (i 1).val
  let v1062 : Index := Scalar.indexCast arg1
  let c0_531 : Index := 0#32
  let c0_532 : Index := 0#32
  ![v1062.toNat, 0, 0]
def k0_off720 (i : grid0.Coords) : Fin 4 → Nat :=
  let arg1 : BitVec 32 := BitVec.ofNat 32 (i 1).val
  let v1820 : Index := Scalar.indexCast arg1
  let c0_767 : Index := 0#32
  let c0_768 : Index := 0#32
  let c0_769 : Index := 0#32
  ![v1820.toNat, 0, 0, 0]
def k0_off721 (i : grid0.Coords) : Fin 4 → Nat :=
  let arg1 : BitVec 32 := BitVec.ofNat 32 (i 1).val
  let v1824 : Index := Scalar.indexCast arg1
  let c1_770 : Index := 1#32
  let c0_771 : Index := 0#32
  let c0_772 : Index := 0#32
  ![v1824.toNat, 1, 0, 0]
def k0_off722 (i : grid0.Coords) : Fin 4 → Nat :=
  let arg1 : BitVec 32 := BitVec.ofNat 32 (i 1).val
  let v1828 : Index := Scalar.indexCast arg1
  let c2_773 : Index := 2#32
  let c0_774 : Index := 0#32
  let c0_775 : Index := 0#32
  ![v1828.toNat, 2, 0, 0]
def k0_off723 (i : grid0.Coords) : Fin 4 → Nat :=
  let arg1 : BitVec 32 := BitVec.ofNat 32 (i 1).val
  let v1832 : Index := Scalar.indexCast arg1
  let c3_776 : Index := 3#32
  let c0_777 : Index := 0#32
  let c0_778 : Index := 0#32
  ![v1832.toNat, 3, 0, 0]
def k0_off724 (i : grid0.Coords) : Fin 4 → Nat :=
  let arg1 : BitVec 32 := BitVec.ofNat 32 (i 1).val
  let v1836 : Index := Scalar.indexCast arg1
  let c4_779 : Index := 4#32
  let c0_780 : Index := 0#32
  let c0_781 : Index := 0#32
  ![v1836.toNat, 4, 0, 0]
def k0_off725 (i : grid0.Coords) : Fin 4 → Nat :=
  let arg1 : BitVec 32 := BitVec.ofNat 32 (i 1).val
  let v1840 : Index := Scalar.indexCast arg1
  let c5_782 : Index := 5#32
  let c0_783 : Index := 0#32
  let c0_784 : Index := 0#32
  ![v1840.toNat, 5, 0, 0]
def k0_off726 (i : grid0.Coords) : Fin 4 → Nat :=
  let arg1 : BitVec 32 := BitVec.ofNat 32 (i 1).val
  let v1844 : Index := Scalar.indexCast arg1
  let c6_785 : Index := 6#32
  let c0_786 : Index := 0#32
  let c0_787 : Index := 0#32
  ![v1844.toNat, 6, 0, 0]
def k0_off727 (i : grid0.Coords) : Fin 4 → Nat :=
  let arg1 : BitVec 32 := BitVec.ofNat 32 (i 1).val
  let v1848 : Index := Scalar.indexCast arg1
  let c7_788 : Index := 7#32
  let c0_789 : Index := 0#32
  let c0_790 : Index := 0#32
  ![v1848.toNat, 7, 0, 0]
def k0_off728 (i : grid0.Coords) : Fin 4 → Nat :=
  let arg1 : BitVec 32 := BitVec.ofNat 32 (i 1).val
  let v1852 : Index := Scalar.indexCast arg1
  let c8 : Index := 8#32
  let c0_791 : Index := 0#32
  let c0_792 : Index := 0#32
  ![v1852.toNat, 8, 0, 0]
def k0_off729 (i : grid0.Coords) : Fin 4 → Nat :=
  let arg1 : BitVec 32 := BitVec.ofNat 32 (i 1).val
  let v1856 : Index := Scalar.indexCast arg1
  let c9 : Index := 9#32
  let c0_793 : Index := 0#32
  let c0_794 : Index := 0#32
  ![v1856.toNat, 9, 0, 0]
def k0_off730 (i : grid0.Coords) : Fin 4 → Nat :=
  let arg1 : BitVec 32 := BitVec.ofNat 32 (i 1).val
  let v1860 : Index := Scalar.indexCast arg1
  let c10 : Index := 10#32
  let c0_795 : Index := 0#32
  let c0_796 : Index := 0#32
  ![v1860.toNat, 10, 0, 0]
def k0_off731 (i : grid0.Coords) : Fin 4 → Nat :=
  let arg1 : BitVec 32 := BitVec.ofNat 32 (i 1).val
  let v1864 : Index := Scalar.indexCast arg1
  let c11 : Index := 11#32
  let c0_797 : Index := 0#32
  let c0_798 : Index := 0#32
  ![v1864.toNat, 11, 0, 0]
def k0_off732 (i : grid0.Coords) : Fin 4 → Nat :=
  let arg1 : BitVec 32 := BitVec.ofNat 32 (i 1).val
  let v1868 : Index := Scalar.indexCast arg1
  let c12 : Index := 12#32
  let c0_799 : Index := 0#32
  let c0_800 : Index := 0#32
  ![v1868.toNat, 12, 0, 0]
def k0_off733 (i : grid0.Coords) : Fin 4 → Nat :=
  let arg1 : BitVec 32 := BitVec.ofNat 32 (i 1).val
  let v1872 : Index := Scalar.indexCast arg1
  let c13 : Index := 13#32
  let c0_801 : Index := 0#32
  let c0_802 : Index := 0#32
  ![v1872.toNat, 13, 0, 0]
def k0_off734 (i : grid0.Coords) : Fin 4 → Nat :=
  let arg1 : BitVec 32 := BitVec.ofNat 32 (i 1).val
  let v1876 : Index := Scalar.indexCast arg1
  let c14 : Index := 14#32
  let c0_803 : Index := 0#32
  let c0_804 : Index := 0#32
  ![v1876.toNat, 14, 0, 0]
def k0_off735 (i : grid0.Coords) : Fin 4 → Nat :=
  let arg1 : BitVec 32 := BitVec.ofNat 32 (i 1).val
  let v1880 : Index := Scalar.indexCast arg1
  let c15 : Index := 15#32
  let c0_805 : Index := 0#32
  let c0_806 : Index := 0#32
  ![v1880.toNat, 15, 0, 0]
def k0_off736 (i : grid0.Coords) : Fin 4 → Nat :=
  let arg1 : BitVec 32 := BitVec.ofNat 32 (i 1).val
  let v1884 : Index := Scalar.indexCast arg1
  let c16 : Index := 16#32
  let c0_807 : Index := 0#32
  let c0_808 : Index := 0#32
  ![v1884.toNat, 16, 0, 0]
def k0_off737 (i : grid0.Coords) : Fin 4 → Nat :=
  let arg1 : BitVec 32 := BitVec.ofNat 32 (i 1).val
  let v1888 : Index := Scalar.indexCast arg1
  let c17 : Index := 17#32
  let c0_809 : Index := 0#32
  let c0_810 : Index := 0#32
  ![v1888.toNat, 17, 0, 0]
def k0_off738 (i : grid0.Coords) : Fin 4 → Nat :=
  let arg1 : BitVec 32 := BitVec.ofNat 32 (i 1).val
  let v1892 : Index := Scalar.indexCast arg1
  let c18 : Index := 18#32
  let c0_811 : Index := 0#32
  let c0_812 : Index := 0#32
  ![v1892.toNat, 18, 0, 0]
def k0_off739 (i : grid0.Coords) : Fin 4 → Nat :=
  let arg1 : BitVec 32 := BitVec.ofNat 32 (i 1).val
  let v1896 : Index := Scalar.indexCast arg1
  let c19 : Index := 19#32
  let c0_813 : Index := 0#32
  let c0_814 : Index := 0#32
  ![v1896.toNat, 19, 0, 0]
def k0_off740 (i : grid0.Coords) : Fin 4 → Nat :=
  let arg1 : BitVec 32 := BitVec.ofNat 32 (i 1).val
  let v1900 : Index := Scalar.indexCast arg1
  let c20 : Index := 20#32
  let c0_815 : Index := 0#32
  let c0_816 : Index := 0#32
  ![v1900.toNat, 20, 0, 0]
def k0_off741 (i : grid0.Coords) : Fin 4 → Nat :=
  let arg1 : BitVec 32 := BitVec.ofNat 32 (i 1).val
  let v1904 : Index := Scalar.indexCast arg1
  let c21 : Index := 21#32
  let c0_817 : Index := 0#32
  let c0_818 : Index := 0#32
  ![v1904.toNat, 21, 0, 0]
def k0_off742 (i : grid0.Coords) : Fin 4 → Nat :=
  let arg1 : BitVec 32 := BitVec.ofNat 32 (i 1).val
  let v1908 : Index := Scalar.indexCast arg1
  let c22 : Index := 22#32
  let c0_819 : Index := 0#32
  let c0_820 : Index := 0#32
  ![v1908.toNat, 22, 0, 0]
def k0_off743 (i : grid0.Coords) : Fin 4 → Nat :=
  let arg1 : BitVec 32 := BitVec.ofNat 32 (i 1).val
  let v1912 : Index := Scalar.indexCast arg1
  let c23 : Index := 23#32
  let c0_821 : Index := 0#32
  let c0_822 : Index := 0#32
  ![v1912.toNat, 23, 0, 0]
def k0_off744 (i : grid0.Coords) : Fin 4 → Nat :=
  let arg1 : BitVec 32 := BitVec.ofNat 32 (i 1).val
  let v1916 : Index := Scalar.indexCast arg1
  let c24 : Index := 24#32
  let c0_823 : Index := 0#32
  let c0_824 : Index := 0#32
  ![v1916.toNat, 24, 0, 0]
def k0_off745 (i : grid0.Coords) : Fin 4 → Nat :=
  let arg1 : BitVec 32 := BitVec.ofNat 32 (i 1).val
  let v1920 : Index := Scalar.indexCast arg1
  let c25 : Index := 25#32
  let c0_825 : Index := 0#32
  let c0_826 : Index := 0#32
  ![v1920.toNat, 25, 0, 0]
def k0_off746 (i : grid0.Coords) : Fin 4 → Nat :=
  let arg1 : BitVec 32 := BitVec.ofNat 32 (i 1).val
  let v1924 : Index := Scalar.indexCast arg1
  let c26 : Index := 26#32
  let c0_827 : Index := 0#32
  let c0_828 : Index := 0#32
  ![v1924.toNat, 26, 0, 0]
def k0_off747 (i : grid0.Coords) : Fin 4 → Nat :=
  let arg1 : BitVec 32 := BitVec.ofNat 32 (i 1).val
  let v1928 : Index := Scalar.indexCast arg1
  let c27 : Index := 27#32
  let c0_829 : Index := 0#32
  let c0_830 : Index := 0#32
  ![v1928.toNat, 27, 0, 0]
def k0_off748 (i : grid0.Coords) : Fin 4 → Nat :=
  let arg1 : BitVec 32 := BitVec.ofNat 32 (i 1).val
  let v1932 : Index := Scalar.indexCast arg1
  let c28 : Index := 28#32
  let c0_831 : Index := 0#32
  let c0_832 : Index := 0#32
  ![v1932.toNat, 28, 0, 0]
def k0_off749 (i : grid0.Coords) : Fin 4 → Nat :=
  let arg1 : BitVec 32 := BitVec.ofNat 32 (i 1).val
  let v1936 : Index := Scalar.indexCast arg1
  let c29 : Index := 29#32
  let c0_833 : Index := 0#32
  let c0_834 : Index := 0#32
  ![v1936.toNat, 29, 0, 0]
def k0_off750 (i : grid0.Coords) : Fin 4 → Nat :=
  let arg1 : BitVec 32 := BitVec.ofNat 32 (i 1).val
  let v1940 : Index := Scalar.indexCast arg1
  let c30 : Index := 30#32
  let c0_835 : Index := 0#32
  let c0_836 : Index := 0#32
  ![v1940.toNat, 30, 0, 0]
def k0_off751 (i : grid0.Coords) : Fin 4 → Nat :=
  let arg1 : BitVec 32 := BitVec.ofNat 32 (i 1).val
  let v1944 : Index := Scalar.indexCast arg1
  let c31 : Index := 31#32
  let c0_837 : Index := 0#32
  let c0_838 : Index := 0#32
  ![v1944.toNat, 31, 0, 0]
def k0_cond4 (i : grid0.Coords) : BitVec 1 :=
  let arg1 : BitVec 32 := BitVec.ofNat 32 (i 1).val
  let c1_i32 : BitVec 32 := 1#32
  let v0 : BitVec 32 := Scalar.addi arg1 c1_i32
  let c1_i32_925 : BitVec 32 := 1#32
  let v2060 : BitVec 32 := Scalar.subi v0 c1_i32_925
  let c0_i32_927 : BitVec 32 := 0#32
  let v2062 : BitVec 1 := Scalar.cmpi .sgt v2060 c0_i32_927
  let v2063 : BitVec 32 := Scalar.extui v2062
  let c0_i32_928 : BitVec 32 := 0#32
  let v2064 : BitVec 1 := Scalar.cmpi .slt v2060 c0_i32_928
  let v2065 : BitVec 32 := Scalar.extui v2064
  let v2066 : BitVec 32 := Scalar.subi v2063 v2065
  let c4_i32_926 : BitVec 32 := 4#32
  let c0_i32_929 : BitVec 32 := 0#32
  let v2067 : BitVec 1 := Scalar.cmpi .sgt c4_i32_926 c0_i32_929
  let v2068 : BitVec 32 := Scalar.extui v2067
  let c0_i32_930 : BitVec 32 := 0#32
  let v2069 : BitVec 1 := Scalar.cmpi .slt c4_i32_926 c0_i32_930
  let v2070 : BitVec 32 := Scalar.extui v2069
  let v2071 : BitVec 32 := Scalar.subi v2068 v2070
  let v2072 : BitVec 1 := Scalar.cmpi .ne v2066 v2071
  let v2073 : BitVec 32 := Scalar.remsi v2060 c4_i32_926
  let c0_i32_931 : BitVec 32 := 0#32
  let v2074 : BitVec 1 := Scalar.cmpi .ne v2073 c0_i32_931
  let v2075 : BitVec 1 := Scalar.andi v2072 v2074
  let v2061 : BitVec 32 := Scalar.divsi v2060 c4_i32_926
  let c1_i32_932 : BitVec 32 := 1#32
  let v2076 : BitVec 32 := Scalar.subi v2061 c1_i32_932
  let v2077 : BitVec 32 := Scalar.select v2075 v2076 v2061
  let c0_i32_937 : BitVec 32 := 0#32
  let v2082 : BitVec 32 := Scalar.maxsi v2077 c0_i32_937
  let c3_i32_938 : BitVec 32 := 3#32
  let v2083 : BitVec 32 := Scalar.minsi v2082 c3_i32_938
  let c0_i32_939 : BitVec 32 := 0#32
  let v2084 : BitVec 1 := Scalar.cmpi .ne v2083 c0_i32_939
  v2084

def k0_cond5 (i : grid0.Coords) : BitVec 1 :=
  let arg1 : BitVec 32 := BitVec.ofNat 32 (i 1).val
  let c1_i32 : BitVec 32 := 1#32
  let v0 : BitVec 32 := Scalar.addi arg1 c1_i32
  let c1_i32_925 : BitVec 32 := 1#32
  let v2060 : BitVec 32 := Scalar.subi v0 c1_i32_925
  let c0_i32_927 : BitVec 32 := 0#32
  let v2062 : BitVec 1 := Scalar.cmpi .sgt v2060 c0_i32_927
  let v2063 : BitVec 32 := Scalar.extui v2062
  let c0_i32_928 : BitVec 32 := 0#32
  let v2064 : BitVec 1 := Scalar.cmpi .slt v2060 c0_i32_928
  let v2065 : BitVec 32 := Scalar.extui v2064
  let v2066 : BitVec 32 := Scalar.subi v2063 v2065
  let c4_i32_926 : BitVec 32 := 4#32
  let c0_i32_929 : BitVec 32 := 0#32
  let v2067 : BitVec 1 := Scalar.cmpi .sgt c4_i32_926 c0_i32_929
  let v2068 : BitVec 32 := Scalar.extui v2067
  let c0_i32_930 : BitVec 32 := 0#32
  let v2069 : BitVec 1 := Scalar.cmpi .slt c4_i32_926 c0_i32_930
  let v2070 : BitVec 32 := Scalar.extui v2069
  let v2071 : BitVec 32 := Scalar.subi v2068 v2070
  let v2072 : BitVec 1 := Scalar.cmpi .ne v2066 v2071
  let v2073 : BitVec 32 := Scalar.remsi v2060 c4_i32_926
  let c0_i32_931 : BitVec 32 := 0#32
  let v2074 : BitVec 1 := Scalar.cmpi .ne v2073 c0_i32_931
  let v2075 : BitVec 1 := Scalar.andi v2072 v2074
  let v2061 : BitVec 32 := Scalar.divsi v2060 c4_i32_926
  let c1_i32_932 : BitVec 32 := 1#32
  let v2076 : BitVec 32 := Scalar.subi v2061 c1_i32_932
  let v2077 : BitVec 32 := Scalar.select v2075 v2076 v2061
  let c0_i32_937 : BitVec 32 := 0#32
  let v2082 : BitVec 32 := Scalar.maxsi v2077 c0_i32_937
  let c3_i32_938 : BitVec 32 := 3#32
  let v2083 : BitVec 32 := Scalar.minsi v2082 c3_i32_938
  let c1_i32_1043 : BitVec 32 := 1#32
  let v2234 : BitVec 32 := Scalar.subi v2083 c1_i32_1043
  let c0_i32_1044 : BitVec 32 := 0#32
  let v2235 : BitVec 1 := Scalar.cmpi .ne v2234 c0_i32_1044
  v2235

def k0_cond6 (i : grid0.Coords) : BitVec 1 :=
  let arg1 : BitVec 32 := BitVec.ofNat 32 (i 1).val
  let c1_i32 : BitVec 32 := 1#32
  let v0 : BitVec 32 := Scalar.addi arg1 c1_i32
  let c1_i32_925 : BitVec 32 := 1#32
  let v2060 : BitVec 32 := Scalar.subi v0 c1_i32_925
  let c0_i32_927 : BitVec 32 := 0#32
  let v2062 : BitVec 1 := Scalar.cmpi .sgt v2060 c0_i32_927
  let v2063 : BitVec 32 := Scalar.extui v2062
  let c0_i32_928 : BitVec 32 := 0#32
  let v2064 : BitVec 1 := Scalar.cmpi .slt v2060 c0_i32_928
  let v2065 : BitVec 32 := Scalar.extui v2064
  let v2066 : BitVec 32 := Scalar.subi v2063 v2065
  let c4_i32_926 : BitVec 32 := 4#32
  let c0_i32_929 : BitVec 32 := 0#32
  let v2067 : BitVec 1 := Scalar.cmpi .sgt c4_i32_926 c0_i32_929
  let v2068 : BitVec 32 := Scalar.extui v2067
  let c0_i32_930 : BitVec 32 := 0#32
  let v2069 : BitVec 1 := Scalar.cmpi .slt c4_i32_926 c0_i32_930
  let v2070 : BitVec 32 := Scalar.extui v2069
  let v2071 : BitVec 32 := Scalar.subi v2068 v2070
  let v2072 : BitVec 1 := Scalar.cmpi .ne v2066 v2071
  let v2073 : BitVec 32 := Scalar.remsi v2060 c4_i32_926
  let c0_i32_931 : BitVec 32 := 0#32
  let v2074 : BitVec 1 := Scalar.cmpi .ne v2073 c0_i32_931
  let v2075 : BitVec 1 := Scalar.andi v2072 v2074
  let v2061 : BitVec 32 := Scalar.divsi v2060 c4_i32_926
  let c1_i32_932 : BitVec 32 := 1#32
  let v2076 : BitVec 32 := Scalar.subi v2061 c1_i32_932
  let v2077 : BitVec 32 := Scalar.select v2075 v2076 v2061
  let c0_i32_937 : BitVec 32 := 0#32
  let v2082 : BitVec 32 := Scalar.maxsi v2077 c0_i32_937
  let c3_i32_938 : BitVec 32 := 3#32
  let v2083 : BitVec 32 := Scalar.minsi v2082 c3_i32_938
  let c1_i32_1043 : BitVec 32 := 1#32
  let v2234 : BitVec 32 := Scalar.subi v2083 c1_i32_1043
  let c1_i32_1045 : BitVec 32 := 1#32
  let v2237 : BitVec 32 := Scalar.subi v2234 c1_i32_1045
  let c0_i32_1046 : BitVec 32 := 0#32
  let v2238 : BitVec 1 := Scalar.cmpi .ne v2237 c0_i32_1046
  v2238

@[reducible] def k0_t13_loop : Scf.Loop 32 :=
  let c0_i32_1047 : BitVec 32 := 0#32
  let c32_i32 : BitVec 32 := 32#32
  let v2240 : BitVec 32 := Scalar.addi c0_i32_1047 c32_i32
  let c1_i32_1048 : BitVec 32 := 1#32
  ⟨c0_i32_1047, v2240, c1_i32_1048⟩
def k0_off752 (k0_t13 : Fin k0_t13_loop.trips) : Fin 4 → Nat :=
  let c0_1054 : Index := 0#32
  let c0_i32_1047 : BitVec 32 := 0#32
  let c1_i32_1048 : BitVec 32 := 1#32
  let arg29 : BitVec 32 := Scf.iv c0_i32_1047 c1_i32_1048 k0_t13
  let v2245 : Index := Scalar.indexCast arg29
  let c0_1055 : Index := 0#32
  let c0_1056 : Index := 0#32
  ![0, v2245.toNat, 0, 0]
def k0_off753 (k0_t13 : Fin k0_t13_loop.trips) : Fin 4 → Nat :=
  let c1_1060 : Index := 1#32
  let c0_i32_1047 : BitVec 32 := 0#32
  let c1_i32_1048 : BitVec 32 := 1#32
  let arg29 : BitVec 32 := Scf.iv c0_i32_1047 c1_i32_1048 k0_t13
  let v2253 : Index := Scalar.indexCast arg29
  let c0_1061 : Index := 0#32
  let c0_1062 : Index := 0#32
  ![1, v2253.toNat, 0, 0]
def k0_off754 (k0_t13 : Fin k0_t13_loop.trips) : Fin 4 → Nat :=
  let c2_1066 : Index := 2#32
  let c0_i32_1047 : BitVec 32 := 0#32
  let c1_i32_1048 : BitVec 32 := 1#32
  let arg29 : BitVec 32 := Scf.iv c0_i32_1047 c1_i32_1048 k0_t13
  let v2261 : Index := Scalar.indexCast arg29
  let c0_1067 : Index := 0#32
  let c0_1068 : Index := 0#32
  ![2, v2261.toNat, 0, 0]
def k0_off755 (k0_t13 : Fin k0_t13_loop.trips) : Fin 4 → Nat :=
  let c3_1072 : Index := 3#32
  let c0_i32_1047 : BitVec 32 := 0#32
  let c1_i32_1048 : BitVec 32 := 1#32
  let arg29 : BitVec 32 := Scf.iv c0_i32_1047 c1_i32_1048 k0_t13
  let v2269 : Index := Scalar.indexCast arg29
  let c0_1073 : Index := 0#32
  let c0_1074 : Index := 0#32
  ![3, v2269.toNat, 0, 0]
def k0_off756 (k0_t13 : Fin k0_t13_loop.trips) : Fin 4 → Nat :=
  let c4_1078 : Index := 4#32
  let c0_i32_1047 : BitVec 32 := 0#32
  let c1_i32_1048 : BitVec 32 := 1#32
  let arg29 : BitVec 32 := Scf.iv c0_i32_1047 c1_i32_1048 k0_t13
  let v2277 : Index := Scalar.indexCast arg29
  let c0_1079 : Index := 0#32
  let c0_1080 : Index := 0#32
  ![4, v2277.toNat, 0, 0]
def k0_off757 (k0_t13 : Fin k0_t13_loop.trips) : Fin 4 → Nat :=
  let c5_1084 : Index := 5#32
  let c0_i32_1047 : BitVec 32 := 0#32
  let c1_i32_1048 : BitVec 32 := 1#32
  let arg29 : BitVec 32 := Scf.iv c0_i32_1047 c1_i32_1048 k0_t13
  let v2285 : Index := Scalar.indexCast arg29
  let c0_1085 : Index := 0#32
  let c0_1086 : Index := 0#32
  ![5, v2285.toNat, 0, 0]
def k0_off758 (k0_t13 : Fin k0_t13_loop.trips) : Fin 4 → Nat :=
  let c6_1090 : Index := 6#32
  let c0_i32_1047 : BitVec 32 := 0#32
  let c1_i32_1048 : BitVec 32 := 1#32
  let arg29 : BitVec 32 := Scf.iv c0_i32_1047 c1_i32_1048 k0_t13
  let v2293 : Index := Scalar.indexCast arg29
  let c0_1091 : Index := 0#32
  let c0_1092 : Index := 0#32
  ![6, v2293.toNat, 0, 0]
def k0_off759 (k0_t13 : Fin k0_t13_loop.trips) : Fin 4 → Nat :=
  let c7_1096 : Index := 7#32
  let c0_i32_1047 : BitVec 32 := 0#32
  let c1_i32_1048 : BitVec 32 := 1#32
  let arg29 : BitVec 32 := Scf.iv c0_i32_1047 c1_i32_1048 k0_t13
  let v2301 : Index := Scalar.indexCast arg29
  let c0_1097 : Index := 0#32
  let c0_1098 : Index := 0#32
  ![7, v2301.toNat, 0, 0]
def k0_off760 (k0_t13 : Fin k0_t13_loop.trips) : Fin 4 → Nat :=
  let c8_1102 : Index := 8#32
  let c0_i32_1047 : BitVec 32 := 0#32
  let c1_i32_1048 : BitVec 32 := 1#32
  let arg29 : BitVec 32 := Scf.iv c0_i32_1047 c1_i32_1048 k0_t13
  let v2309 : Index := Scalar.indexCast arg29
  let c0_1103 : Index := 0#32
  let c0_1104 : Index := 0#32
  ![8, v2309.toNat, 0, 0]
def k0_off761 (k0_t13 : Fin k0_t13_loop.trips) : Fin 4 → Nat :=
  let c9_1108 : Index := 9#32
  let c0_i32_1047 : BitVec 32 := 0#32
  let c1_i32_1048 : BitVec 32 := 1#32
  let arg29 : BitVec 32 := Scf.iv c0_i32_1047 c1_i32_1048 k0_t13
  let v2317 : Index := Scalar.indexCast arg29
  let c0_1109 : Index := 0#32
  let c0_1110 : Index := 0#32
  ![9, v2317.toNat, 0, 0]
def k0_off762 (k0_t13 : Fin k0_t13_loop.trips) : Fin 4 → Nat :=
  let c10_1114 : Index := 10#32
  let c0_i32_1047 : BitVec 32 := 0#32
  let c1_i32_1048 : BitVec 32 := 1#32
  let arg29 : BitVec 32 := Scf.iv c0_i32_1047 c1_i32_1048 k0_t13
  let v2325 : Index := Scalar.indexCast arg29
  let c0_1115 : Index := 0#32
  let c0_1116 : Index := 0#32
  ![10, v2325.toNat, 0, 0]
def k0_off763 (k0_t13 : Fin k0_t13_loop.trips) : Fin 4 → Nat :=
  let c11_1120 : Index := 11#32
  let c0_i32_1047 : BitVec 32 := 0#32
  let c1_i32_1048 : BitVec 32 := 1#32
  let arg29 : BitVec 32 := Scf.iv c0_i32_1047 c1_i32_1048 k0_t13
  let v2333 : Index := Scalar.indexCast arg29
  let c0_1121 : Index := 0#32
  let c0_1122 : Index := 0#32
  ![11, v2333.toNat, 0, 0]
def k0_off764 (k0_t13 : Fin k0_t13_loop.trips) : Fin 4 → Nat :=
  let c12_1126 : Index := 12#32
  let c0_i32_1047 : BitVec 32 := 0#32
  let c1_i32_1048 : BitVec 32 := 1#32
  let arg29 : BitVec 32 := Scf.iv c0_i32_1047 c1_i32_1048 k0_t13
  let v2341 : Index := Scalar.indexCast arg29
  let c0_1127 : Index := 0#32
  let c0_1128 : Index := 0#32
  ![12, v2341.toNat, 0, 0]
def k0_off765 (k0_t13 : Fin k0_t13_loop.trips) : Fin 4 → Nat :=
  let c13_1132 : Index := 13#32
  let c0_i32_1047 : BitVec 32 := 0#32
  let c1_i32_1048 : BitVec 32 := 1#32
  let arg29 : BitVec 32 := Scf.iv c0_i32_1047 c1_i32_1048 k0_t13
  let v2349 : Index := Scalar.indexCast arg29
  let c0_1133 : Index := 0#32
  let c0_1134 : Index := 0#32
  ![13, v2349.toNat, 0, 0]
def k0_off766 (k0_t13 : Fin k0_t13_loop.trips) : Fin 4 → Nat :=
  let c14_1138 : Index := 14#32
  let c0_i32_1047 : BitVec 32 := 0#32
  let c1_i32_1048 : BitVec 32 := 1#32
  let arg29 : BitVec 32 := Scf.iv c0_i32_1047 c1_i32_1048 k0_t13
  let v2357 : Index := Scalar.indexCast arg29
  let c0_1139 : Index := 0#32
  let c0_1140 : Index := 0#32
  ![14, v2357.toNat, 0, 0]
def k0_off767 (k0_t13 : Fin k0_t13_loop.trips) : Fin 4 → Nat :=
  let c15_1144 : Index := 15#32
  let c0_i32_1047 : BitVec 32 := 0#32
  let c1_i32_1048 : BitVec 32 := 1#32
  let arg29 : BitVec 32 := Scf.iv c0_i32_1047 c1_i32_1048 k0_t13
  let v2365 : Index := Scalar.indexCast arg29
  let c0_1145 : Index := 0#32
  let c0_1146 : Index := 0#32
  ![15, v2365.toNat, 0, 0]
@[reducible] def k0_t14_loop : Scf.Loop 32 :=
  let c0_i32_1047 : BitVec 32 := 0#32
  let c32_i32 : BitVec 32 := 32#32
  let v2240 : BitVec 32 := Scalar.addi c0_i32_1047 c32_i32
  let c1_i32_1048 : BitVec 32 := 1#32
  ⟨c0_i32_1047, v2240, c1_i32_1048⟩
def k0_off768 (k0_t14 : Fin k0_t14_loop.trips) : Fin 4 → Nat :=
  let c0_1054 : Index := 0#32
  let c0_i32_1047 : BitVec 32 := 0#32
  let c1_i32_1048 : BitVec 32 := 1#32
  let arg29 : BitVec 32 := Scf.iv c0_i32_1047 c1_i32_1048 k0_t14
  let v2245 : Index := Scalar.indexCast arg29
  let c0_1055 : Index := 0#32
  let c0_1056 : Index := 0#32
  ![0, v2245.toNat, 0, 0]
def k0_off769 (k0_t14 : Fin k0_t14_loop.trips) : Fin 4 → Nat :=
  let c1_1060 : Index := 1#32
  let c0_i32_1047 : BitVec 32 := 0#32
  let c1_i32_1048 : BitVec 32 := 1#32
  let arg29 : BitVec 32 := Scf.iv c0_i32_1047 c1_i32_1048 k0_t14
  let v2253 : Index := Scalar.indexCast arg29
  let c0_1061 : Index := 0#32
  let c0_1062 : Index := 0#32
  ![1, v2253.toNat, 0, 0]
def k0_off770 (k0_t14 : Fin k0_t14_loop.trips) : Fin 4 → Nat :=
  let c2_1066 : Index := 2#32
  let c0_i32_1047 : BitVec 32 := 0#32
  let c1_i32_1048 : BitVec 32 := 1#32
  let arg29 : BitVec 32 := Scf.iv c0_i32_1047 c1_i32_1048 k0_t14
  let v2261 : Index := Scalar.indexCast arg29
  let c0_1067 : Index := 0#32
  let c0_1068 : Index := 0#32
  ![2, v2261.toNat, 0, 0]
def k0_off771 (k0_t14 : Fin k0_t14_loop.trips) : Fin 4 → Nat :=
  let c3_1072 : Index := 3#32
  let c0_i32_1047 : BitVec 32 := 0#32
  let c1_i32_1048 : BitVec 32 := 1#32
  let arg29 : BitVec 32 := Scf.iv c0_i32_1047 c1_i32_1048 k0_t14
  let v2269 : Index := Scalar.indexCast arg29
  let c0_1073 : Index := 0#32
  let c0_1074 : Index := 0#32
  ![3, v2269.toNat, 0, 0]
def k0_off772 (k0_t14 : Fin k0_t14_loop.trips) : Fin 4 → Nat :=
  let c4_1078 : Index := 4#32
  let c0_i32_1047 : BitVec 32 := 0#32
  let c1_i32_1048 : BitVec 32 := 1#32
  let arg29 : BitVec 32 := Scf.iv c0_i32_1047 c1_i32_1048 k0_t14
  let v2277 : Index := Scalar.indexCast arg29
  let c0_1079 : Index := 0#32
  let c0_1080 : Index := 0#32
  ![4, v2277.toNat, 0, 0]
def k0_off773 (k0_t14 : Fin k0_t14_loop.trips) : Fin 4 → Nat :=
  let c5_1084 : Index := 5#32
  let c0_i32_1047 : BitVec 32 := 0#32
  let c1_i32_1048 : BitVec 32 := 1#32
  let arg29 : BitVec 32 := Scf.iv c0_i32_1047 c1_i32_1048 k0_t14
  let v2285 : Index := Scalar.indexCast arg29
  let c0_1085 : Index := 0#32
  let c0_1086 : Index := 0#32
  ![5, v2285.toNat, 0, 0]
def k0_off774 (k0_t14 : Fin k0_t14_loop.trips) : Fin 4 → Nat :=
  let c6_1090 : Index := 6#32
  let c0_i32_1047 : BitVec 32 := 0#32
  let c1_i32_1048 : BitVec 32 := 1#32
  let arg29 : BitVec 32 := Scf.iv c0_i32_1047 c1_i32_1048 k0_t14
  let v2293 : Index := Scalar.indexCast arg29
  let c0_1091 : Index := 0#32
  let c0_1092 : Index := 0#32
  ![6, v2293.toNat, 0, 0]
def k0_off775 (k0_t14 : Fin k0_t14_loop.trips) : Fin 4 → Nat :=
  let c7_1096 : Index := 7#32
  let c0_i32_1047 : BitVec 32 := 0#32
  let c1_i32_1048 : BitVec 32 := 1#32
  let arg29 : BitVec 32 := Scf.iv c0_i32_1047 c1_i32_1048 k0_t14
  let v2301 : Index := Scalar.indexCast arg29
  let c0_1097 : Index := 0#32
  let c0_1098 : Index := 0#32
  ![7, v2301.toNat, 0, 0]
def k0_off776 (k0_t14 : Fin k0_t14_loop.trips) : Fin 4 → Nat :=
  let c8_1102 : Index := 8#32
  let c0_i32_1047 : BitVec 32 := 0#32
  let c1_i32_1048 : BitVec 32 := 1#32
  let arg29 : BitVec 32 := Scf.iv c0_i32_1047 c1_i32_1048 k0_t14
  let v2309 : Index := Scalar.indexCast arg29
  let c0_1103 : Index := 0#32
  let c0_1104 : Index := 0#32
  ![8, v2309.toNat, 0, 0]
def k0_off777 (k0_t14 : Fin k0_t14_loop.trips) : Fin 4 → Nat :=
  let c9_1108 : Index := 9#32
  let c0_i32_1047 : BitVec 32 := 0#32
  let c1_i32_1048 : BitVec 32 := 1#32
  let arg29 : BitVec 32 := Scf.iv c0_i32_1047 c1_i32_1048 k0_t14
  let v2317 : Index := Scalar.indexCast arg29
  let c0_1109 : Index := 0#32
  let c0_1110 : Index := 0#32
  ![9, v2317.toNat, 0, 0]
def k0_off778 (k0_t14 : Fin k0_t14_loop.trips) : Fin 4 → Nat :=
  let c10_1114 : Index := 10#32
  let c0_i32_1047 : BitVec 32 := 0#32
  let c1_i32_1048 : BitVec 32 := 1#32
  let arg29 : BitVec 32 := Scf.iv c0_i32_1047 c1_i32_1048 k0_t14
  let v2325 : Index := Scalar.indexCast arg29
  let c0_1115 : Index := 0#32
  let c0_1116 : Index := 0#32
  ![10, v2325.toNat, 0, 0]
def k0_off779 (k0_t14 : Fin k0_t14_loop.trips) : Fin 4 → Nat :=
  let c11_1120 : Index := 11#32
  let c0_i32_1047 : BitVec 32 := 0#32
  let c1_i32_1048 : BitVec 32 := 1#32
  let arg29 : BitVec 32 := Scf.iv c0_i32_1047 c1_i32_1048 k0_t14
  let v2333 : Index := Scalar.indexCast arg29
  let c0_1121 : Index := 0#32
  let c0_1122 : Index := 0#32
  ![11, v2333.toNat, 0, 0]
@[reducible] def k0_t15_loop : Scf.Loop 32 :=
  let c0_i32_1045 : BitVec 32 := 0#32
  let c32_i32 : BitVec 32 := 32#32
  let v2237 : BitVec 32 := Scalar.addi c0_i32_1045 c32_i32
  let c1_i32_1046 : BitVec 32 := 1#32
  ⟨c0_i32_1045, v2237, c1_i32_1046⟩
def k0_off780 (k0_t15 : Fin k0_t15_loop.trips) : Fin 4 → Nat :=
  let c0_1052 : Index := 0#32
  let c0_i32_1045 : BitVec 32 := 0#32
  let c1_i32_1046 : BitVec 32 := 1#32
  let arg29 : BitVec 32 := Scf.iv c0_i32_1045 c1_i32_1046 k0_t15
  let v2242 : Index := Scalar.indexCast arg29
  let c0_1053 : Index := 0#32
  let c0_1054 : Index := 0#32
  ![0, v2242.toNat, 0, 0]
def k0_off781 (k0_t15 : Fin k0_t15_loop.trips) : Fin 4 → Nat :=
  let c1_1058 : Index := 1#32
  let c0_i32_1045 : BitVec 32 := 0#32
  let c1_i32_1046 : BitVec 32 := 1#32
  let arg29 : BitVec 32 := Scf.iv c0_i32_1045 c1_i32_1046 k0_t15
  let v2250 : Index := Scalar.indexCast arg29
  let c0_1059 : Index := 0#32
  let c0_1060 : Index := 0#32
  ![1, v2250.toNat, 0, 0]
def k0_off782 (k0_t15 : Fin k0_t15_loop.trips) : Fin 4 → Nat :=
  let c2_1064 : Index := 2#32
  let c0_i32_1045 : BitVec 32 := 0#32
  let c1_i32_1046 : BitVec 32 := 1#32
  let arg29 : BitVec 32 := Scf.iv c0_i32_1045 c1_i32_1046 k0_t15
  let v2258 : Index := Scalar.indexCast arg29
  let c0_1065 : Index := 0#32
  let c0_1066 : Index := 0#32
  ![2, v2258.toNat, 0, 0]
def k0_off783 (k0_t15 : Fin k0_t15_loop.trips) : Fin 4 → Nat :=
  let c3_1070 : Index := 3#32
  let c0_i32_1045 : BitVec 32 := 0#32
  let c1_i32_1046 : BitVec 32 := 1#32
  let arg29 : BitVec 32 := Scf.iv c0_i32_1045 c1_i32_1046 k0_t15
  let v2266 : Index := Scalar.indexCast arg29
  let c0_1071 : Index := 0#32
  let c0_1072 : Index := 0#32
  ![3, v2266.toNat, 0, 0]
def k0_off784 (k0_t15 : Fin k0_t15_loop.trips) : Fin 4 → Nat :=
  let c4_1076 : Index := 4#32
  let c0_i32_1045 : BitVec 32 := 0#32
  let c1_i32_1046 : BitVec 32 := 1#32
  let arg29 : BitVec 32 := Scf.iv c0_i32_1045 c1_i32_1046 k0_t15
  let v2274 : Index := Scalar.indexCast arg29
  let c0_1077 : Index := 0#32
  let c0_1078 : Index := 0#32
  ![4, v2274.toNat, 0, 0]
def k0_off785 (k0_t15 : Fin k0_t15_loop.trips) : Fin 4 → Nat :=
  let c5_1082 : Index := 5#32
  let c0_i32_1045 : BitVec 32 := 0#32
  let c1_i32_1046 : BitVec 32 := 1#32
  let arg29 : BitVec 32 := Scf.iv c0_i32_1045 c1_i32_1046 k0_t15
  let v2282 : Index := Scalar.indexCast arg29
  let c0_1083 : Index := 0#32
  let c0_1084 : Index := 0#32
  ![5, v2282.toNat, 0, 0]
def k0_off786 (k0_t15 : Fin k0_t15_loop.trips) : Fin 4 → Nat :=
  let c6_1088 : Index := 6#32
  let c0_i32_1045 : BitVec 32 := 0#32
  let c1_i32_1046 : BitVec 32 := 1#32
  let arg29 : BitVec 32 := Scf.iv c0_i32_1045 c1_i32_1046 k0_t15
  let v2290 : Index := Scalar.indexCast arg29
  let c0_1089 : Index := 0#32
  let c0_1090 : Index := 0#32
  ![6, v2290.toNat, 0, 0]
def k0_off787 (k0_t15 : Fin k0_t15_loop.trips) : Fin 4 → Nat :=
  let c7_1094 : Index := 7#32
  let c0_i32_1045 : BitVec 32 := 0#32
  let c1_i32_1046 : BitVec 32 := 1#32
  let arg29 : BitVec 32 := Scf.iv c0_i32_1045 c1_i32_1046 k0_t15
  let v2298 : Index := Scalar.indexCast arg29
  let c0_1095 : Index := 0#32
  let c0_1096 : Index := 0#32
  ![7, v2298.toNat, 0, 0]
@[reducible] def k0_t16_loop : Scf.Loop 32 :=
  let c0_i32_1043 : BitVec 32 := 0#32
  let c32_i32 : BitVec 32 := 32#32
  let v2234 : BitVec 32 := Scalar.addi c0_i32_1043 c32_i32
  let c1_i32_1044 : BitVec 32 := 1#32
  ⟨c0_i32_1043, v2234, c1_i32_1044⟩
def k0_off788 (k0_t16 : Fin k0_t16_loop.trips) : Fin 4 → Nat :=
  let c0_1050 : Index := 0#32
  let c0_i32_1043 : BitVec 32 := 0#32
  let c1_i32_1044 : BitVec 32 := 1#32
  let arg29 : BitVec 32 := Scf.iv c0_i32_1043 c1_i32_1044 k0_t16
  let v2239 : Index := Scalar.indexCast arg29
  let c0_1051 : Index := 0#32
  let c0_1052 : Index := 0#32
  ![0, v2239.toNat, 0, 0]
def k0_off789 (k0_t16 : Fin k0_t16_loop.trips) : Fin 4 → Nat :=
  let c1_1056 : Index := 1#32
  let c0_i32_1043 : BitVec 32 := 0#32
  let c1_i32_1044 : BitVec 32 := 1#32
  let arg29 : BitVec 32 := Scf.iv c0_i32_1043 c1_i32_1044 k0_t16
  let v2247 : Index := Scalar.indexCast arg29
  let c0_1057 : Index := 0#32
  let c0_1058 : Index := 0#32
  ![1, v2247.toNat, 0, 0]
def k0_off790 (k0_t16 : Fin k0_t16_loop.trips) : Fin 4 → Nat :=
  let c2_1062 : Index := 2#32
  let c0_i32_1043 : BitVec 32 := 0#32
  let c1_i32_1044 : BitVec 32 := 1#32
  let arg29 : BitVec 32 := Scf.iv c0_i32_1043 c1_i32_1044 k0_t16
  let v2255 : Index := Scalar.indexCast arg29
  let c0_1063 : Index := 0#32
  let c0_1064 : Index := 0#32
  ![2, v2255.toNat, 0, 0]
def k0_off791 (k0_t16 : Fin k0_t16_loop.trips) : Fin 4 → Nat :=
  let c3_1068 : Index := 3#32
  let c0_i32_1043 : BitVec 32 := 0#32
  let c1_i32_1044 : BitVec 32 := 1#32
  let arg29 : BitVec 32 := Scf.iv c0_i32_1043 c1_i32_1044 k0_t16
  let v2263 : Index := Scalar.indexCast arg29
  let c0_1069 : Index := 0#32
  let c0_1070 : Index := 0#32
  ![3, v2263.toNat, 0, 0]
@[reducible] def k0_t17_loop (i : grid0.Coords) : Scf.Loop 32 :=
  let c0_i32_955 : BitVec 32 := 0#32
  let arg1 : BitVec 32 := BitVec.ofNat 32 (i 1).val
  let c1_i32 : BitVec 32 := 1#32
  let v0 : BitVec 32 := Scalar.addi arg1 c1_i32
  let c3_i32_946 : BitVec 32 := 3#32
  let v2100 : BitVec 32 := Scalar.addi v0 c3_i32_946
  let c0_i32_948 : BitVec 32 := 0#32
  let v2102 : BitVec 1 := Scalar.cmpi .sgt v2100 c0_i32_948
  let v2103 : BitVec 32 := Scalar.extui v2102
  let c0_i32_949 : BitVec 32 := 0#32
  let v2104 : BitVec 1 := Scalar.cmpi .slt v2100 c0_i32_949
  let v2105 : BitVec 32 := Scalar.extui v2104
  let v2106 : BitVec 32 := Scalar.subi v2103 v2105
  let c4_i32_947 : BitVec 32 := 4#32
  let c0_i32_950 : BitVec 32 := 0#32
  let v2107 : BitVec 1 := Scalar.cmpi .sgt c4_i32_947 c0_i32_950
  let v2108 : BitVec 32 := Scalar.extui v2107
  let c0_i32_951 : BitVec 32 := 0#32
  let v2109 : BitVec 1 := Scalar.cmpi .slt c4_i32_947 c0_i32_951
  let v2110 : BitVec 32 := Scalar.extui v2109
  let v2111 : BitVec 32 := Scalar.subi v2108 v2110
  let v2112 : BitVec 1 := Scalar.cmpi .ne v2106 v2111
  let v2113 : BitVec 32 := Scalar.remsi v2100 c4_i32_947
  let c0_i32_952 : BitVec 32 := 0#32
  let v2114 : BitVec 1 := Scalar.cmpi .ne v2113 c0_i32_952
  let v2115 : BitVec 1 := Scalar.andi v2112 v2114
  let v2101 : BitVec 32 := Scalar.divsi v2100 c4_i32_947
  let c1_i32_953 : BitVec 32 := 1#32
  let v2116 : BitVec 32 := Scalar.subi v2101 c1_i32_953
  let v2117 : BitVec 32 := Scalar.select v2115 v2116 v2101
  let v2119 : BitVec 32 := Scalar.subi v2117 c0_i32_955
  let c1_i32_956 : BitVec 32 := 1#32
  let v2121 : BitVec 32 := Scalar.divsi v2119 c1_i32_956
  let v2122 : BitVec 32 := Scalar.muli v2121 c1_i32_956
  let v2123 : BitVec 32 := Scalar.addi c0_i32_955 v2122
  let c1_i32_957 : BitVec 32 := 1#32
  ⟨c0_i32_955, v2123, c1_i32_957⟩
def k0_off792 (i : grid0.Coords) (k0_t17 : Fin (k0_t17_loop i).trips) (c0_i32_1044 : BitVec 32) : Fin 3 → Nat :=
  let c4_i32_1043 : BitVec 32 := 4#32
  let c0_i32_955 : BitVec 32 := 0#32
  let c1_i32_957 : BitVec 32 := 1#32
  let arg29 : BitVec 32 := Scf.iv c0_i32_955 c1_i32_957 k0_t17
  let v2234 : BitVec 32 := Scalar.muli c4_i32_1043 arg29
  let v2235 : BitVec 32 := Scalar.addi v2234 c0_i32_1044
  let v2242 : Index := Scalar.indexCast v2235
  let c0_1051 : Index := 0#32
  let c0_1052 : Index := 0#32
  ![v2242.toNat, 0, 0]
@[reducible] def k0_t18_loop (i : grid0.Coords) : Scf.Loop 32 :=
  let c0_i32_955 : BitVec 32 := 0#32
  let arg1 : BitVec 32 := BitVec.ofNat 32 (i 1).val
  let c1_i32 : BitVec 32 := 1#32
  let v0 : BitVec 32 := Scalar.addi arg1 c1_i32
  let c3_i32_946 : BitVec 32 := 3#32
  let v2100 : BitVec 32 := Scalar.addi v0 c3_i32_946
  let c0_i32_948 : BitVec 32 := 0#32
  let v2102 : BitVec 1 := Scalar.cmpi .sgt v2100 c0_i32_948
  let v2103 : BitVec 32 := Scalar.extui v2102
  let c0_i32_949 : BitVec 32 := 0#32
  let v2104 : BitVec 1 := Scalar.cmpi .slt v2100 c0_i32_949
  let v2105 : BitVec 32 := Scalar.extui v2104
  let v2106 : BitVec 32 := Scalar.subi v2103 v2105
  let c4_i32_947 : BitVec 32 := 4#32
  let c0_i32_950 : BitVec 32 := 0#32
  let v2107 : BitVec 1 := Scalar.cmpi .sgt c4_i32_947 c0_i32_950
  let v2108 : BitVec 32 := Scalar.extui v2107
  let c0_i32_951 : BitVec 32 := 0#32
  let v2109 : BitVec 1 := Scalar.cmpi .slt c4_i32_947 c0_i32_951
  let v2110 : BitVec 32 := Scalar.extui v2109
  let v2111 : BitVec 32 := Scalar.subi v2108 v2110
  let v2112 : BitVec 1 := Scalar.cmpi .ne v2106 v2111
  let v2113 : BitVec 32 := Scalar.remsi v2100 c4_i32_947
  let c0_i32_952 : BitVec 32 := 0#32
  let v2114 : BitVec 1 := Scalar.cmpi .ne v2113 c0_i32_952
  let v2115 : BitVec 1 := Scalar.andi v2112 v2114
  let v2101 : BitVec 32 := Scalar.divsi v2100 c4_i32_947
  let c1_i32_953 : BitVec 32 := 1#32
  let v2116 : BitVec 32 := Scalar.subi v2101 c1_i32_953
  let v2117 : BitVec 32 := Scalar.select v2115 v2116 v2101
  let v2119 : BitVec 32 := Scalar.subi v2117 c0_i32_955
  let c1_i32_956 : BitVec 32 := 1#32
  let v2121 : BitVec 32 := Scalar.divsi v2119 c1_i32_956
  let v2122 : BitVec 32 := Scalar.muli v2121 c1_i32_956
  let v2123 : BitVec 32 := Scalar.addi c0_i32_955 v2122
  let v2120 : BitVec 32 := Scalar.addi c0_i32_955 v2119
  let c1_i32_958 : BitVec 32 := 1#32
  ⟨v2123, v2120, c1_i32_958⟩
def k0_off793 (i : grid0.Coords) (k0_t18 : Fin (k0_t18_loop i).trips) (c0_i32_1044 : BitVec 32) : Fin 3 → Nat :=
  let c4_i32_1043 : BitVec 32 := 4#32
  let c0_i32_955 : BitVec 32 := 0#32
  let arg1 : BitVec 32 := BitVec.ofNat 32 (i 1).val
  let c1_i32 : BitVec 32 := 1#32
  let v0 : BitVec 32 := Scalar.addi arg1 c1_i32
  let c3_i32_946 : BitVec 32 := 3#32
  let v2100 : BitVec 32 := Scalar.addi v0 c3_i32_946
  let c0_i32_948 : BitVec 32 := 0#32
  let v2102 : BitVec 1 := Scalar.cmpi .sgt v2100 c0_i32_948
  let v2103 : BitVec 32 := Scalar.extui v2102
  let c0_i32_949 : BitVec 32 := 0#32
  let v2104 : BitVec 1 := Scalar.cmpi .slt v2100 c0_i32_949
  let v2105 : BitVec 32 := Scalar.extui v2104
  let v2106 : BitVec 32 := Scalar.subi v2103 v2105
  let c4_i32_947 : BitVec 32 := 4#32
  let c0_i32_950 : BitVec 32 := 0#32
  let v2107 : BitVec 1 := Scalar.cmpi .sgt c4_i32_947 c0_i32_950
  let v2108 : BitVec 32 := Scalar.extui v2107
  let c0_i32_951 : BitVec 32 := 0#32
  let v2109 : BitVec 1 := Scalar.cmpi .slt c4_i32_947 c0_i32_951
  let v2110 : BitVec 32 := Scalar.extui v2109
  let v2111 : BitVec 32 := Scalar.subi v2108 v2110
  let v2112 : BitVec 1 := Scalar.cmpi .ne v2106 v2111
  let v2113 : BitVec 32 := Scalar.remsi v2100 c4_i32_947
  let c0_i32_952 : BitVec 32 := 0#32
  let v2114 : BitVec 1 := Scalar.cmpi .ne v2113 c0_i32_952
  let v2115 : BitVec 1 := Scalar.andi v2112 v2114
  let v2101 : BitVec 32 := Scalar.divsi v2100 c4_i32_947
  let c1_i32_953 : BitVec 32 := 1#32
  let v2116 : BitVec 32 := Scalar.subi v2101 c1_i32_953
  let v2117 : BitVec 32 := Scalar.select v2115 v2116 v2101
  let v2119 : BitVec 32 := Scalar.subi v2117 c0_i32_955
  let c1_i32_956 : BitVec 32 := 1#32
  let v2121 : BitVec 32 := Scalar.divsi v2119 c1_i32_956
  let v2122 : BitVec 32 := Scalar.muli v2121 c1_i32_956
  let v2123 : BitVec 32 := Scalar.addi c0_i32_955 v2122
  let c1_i32_958 : BitVec 32 := 1#32
  let arg29 : BitVec 32 := Scf.iv v2123 c1_i32_958 k0_t18
  let v2234 : BitVec 32 := Scalar.muli c4_i32_1043 arg29
  let v2235 : BitVec 32 := Scalar.addi v2234 c0_i32_1044
  let v2242 : Index := Scalar.indexCast v2235
  let c0_1051 : Index := 0#32
  let c0_1052 : Index := 0#32
  ![v2242.toNat, 0, 0]
@[reducible] def k0_t19_loop (i : grid0.Coords) : Scf.Loop 32 :=
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1069 : BitVec 32 := 1#32
  ⟨c0_i32_1067, v2279, c1_i32_1069⟩
def k0_mult180 (i : grid0.Coords) (k0_t19 : Fin (k0_t19_loop i).trips) : BitVec 32 :=
  let c4_i32_1080 : BitVec 32 := 4#32
  let c0_i32_1067 : BitVec 32 := 0#32
  let c1_i32_1069 : BitVec 32 := 1#32
  let arg29 : BitVec 32 := Scf.iv c0_i32_1067 c1_i32_1069 k0_t19
  let v2291 : BitVec 32 := Scalar.muli c4_i32_1080 arg29
  let c0_i32_1081 : BitVec 32 := 0#32
  let v2292 : BitVec 32 := Scalar.addi v2291 c0_i32_1081
  let c256_i32_1082 : BitVec 32 := 256#32
  let v2293 : BitVec 32 := Scalar.muli v2292 c256_i32_1082
  v2293
def k0_off794 (i : grid0.Coords) (k0_t19 : Fin (k0_t19_loop i).trips) (c0_i32_1081 : BitVec 32) : Fin 3 → Nat :=
  let c0_1083 : Index := 0#32
  let c4_i32_1080 : BitVec 32 := 4#32
  let c0_i32_1067 : BitVec 32 := 0#32
  let c1_i32_1069 : BitVec 32 := 1#32
  let arg29 : BitVec 32 := Scf.iv c0_i32_1067 c1_i32_1069 k0_t19
  let v2291 : BitVec 32 := Scalar.muli c4_i32_1080 arg29
  let v2292 : BitVec 32 := Scalar.addi v2291 c0_i32_1081
  let c256_i32_1082 : BitVec 32 := 256#32
  let v2293 : BitVec 32 := Scalar.muli v2292 c256_i32_1082
  let v2294 : BitVec 32 := v2293
  let v2295 : Index := Scalar.indexCast v2294
  let c0_1084 : Index := 0#32
  ![0, v2295.toNat, 0]
def k0_off795 (i : grid0.Coords) (k0_t19 : Fin (k0_t19_loop i).trips) (c0_i32_1081 : BitVec 32) : Fin 3 → Nat :=
  let c4_i32_1080 : BitVec 32 := 4#32
  let c0_i32_1067 : BitVec 32 := 0#32
  let c1_i32_1069 : BitVec 32 := 1#32
  let arg29 : BitVec 32 := Scf.iv c0_i32_1067 c1_i32_1069 k0_t19
  let v2291 : BitVec 32 := Scalar.muli c4_i32_1080 arg29
  let v2292 : BitVec 32 := Scalar.addi v2291 c0_i32_1081
  let v2301 : Index := Scalar.indexCast v2292
  let c0_1089 : Index := 0#32
  let c0_1090 : Index := 0#32
  ![v2301.toNat, 0, 0]
def k0_mult181 (i : grid0.Coords) (k0_t19 : Fin (k0_t19_loop i).trips) : BitVec 32 :=
  let c4_i32_1094 : BitVec 32 := 4#32
  let c0_i32_1067 : BitVec 32 := 0#32
  let c1_i32_1069 : BitVec 32 := 1#32
  let arg29 : BitVec 32 := Scf.iv c0_i32_1067 c1_i32_1069 k0_t19
  let v2310 : BitVec 32 := Scalar.muli c4_i32_1094 arg29
  let c1_i32_1095 : BitVec 32 := 1#32
  let v2311 : BitVec 32 := Scalar.addi v2310 c1_i32_1095
  let c256_i32_1096 : BitVec 32 := 256#32
  let v2312 : BitVec 32 := Scalar.muli v2311 c256_i32_1096
  v2312
def k0_mult182 (i : grid0.Coords) (k0_t19 : Fin (k0_t19_loop i).trips) : BitVec 32 :=
  let c4_i32_1108 : BitVec 32 := 4#32
  let c0_i32_1067 : BitVec 32 := 0#32
  let c1_i32_1069 : BitVec 32 := 1#32
  let arg29 : BitVec 32 := Scf.iv c0_i32_1067 c1_i32_1069 k0_t19
  let v2329 : BitVec 32 := Scalar.muli c4_i32_1108 arg29
  let c2_i32_1109 : BitVec 32 := 2#32
  let v2330 : BitVec 32 := Scalar.addi v2329 c2_i32_1109
  let c256_i32_1110 : BitVec 32 := 256#32
  let v2331 : BitVec 32 := Scalar.muli v2330 c256_i32_1110
  v2331
def k0_mult183 (i : grid0.Coords) (k0_t19 : Fin (k0_t19_loop i).trips) : BitVec 32 :=
  let c4_i32_1122 : BitVec 32 := 4#32
  let c0_i32_1067 : BitVec 32 := 0#32
  let c1_i32_1069 : BitVec 32 := 1#32
  let arg29 : BitVec 32 := Scf.iv c0_i32_1067 c1_i32_1069 k0_t19
  let v2348 : BitVec 32 := Scalar.muli c4_i32_1122 arg29
  let c3_i32_1123 : BitVec 32 := 3#32
  let v2349 : BitVec 32 := Scalar.addi v2348 c3_i32_1123
  let c256_i32_1124 : BitVec 32 := 256#32
  let v2350 : BitVec 32 := Scalar.muli v2349 c256_i32_1124
  v2350
def k0_mult184 (i : grid0.Coords) (k0_t19 : Fin (k0_t19_loop i).trips) : BitVec 32 :=
  let c4_i32_1136 : BitVec 32 := 4#32
  let c0_i32_1067 : BitVec 32 := 0#32
  let c1_i32_1069 : BitVec 32 := 1#32
  let arg29 : BitVec 32 := Scf.iv c0_i32_1067 c1_i32_1069 k0_t19
  let v2367 : BitVec 32 := Scalar.muli c4_i32_1136 arg29
  let c0_i32_1137 : BitVec 32 := 0#32
  let v2368 : BitVec 32 := Scalar.addi v2367 c0_i32_1137
  let c256_i32_1138 : BitVec 32 := 256#32
  let v2369 : BitVec 32 := Scalar.muli v2368 c256_i32_1138
  v2369
def k0_mult185 (i : grid0.Coords) (k0_t19 : Fin (k0_t19_loop i).trips) : BitVec 32 :=
  let c4_i32_1150 : BitVec 32 := 4#32
  let c0_i32_1067 : BitVec 32 := 0#32
  let c1_i32_1069 : BitVec 32 := 1#32
  let arg29 : BitVec 32 := Scf.iv c0_i32_1067 c1_i32_1069 k0_t19
  let v2386 : BitVec 32 := Scalar.muli c4_i32_1150 arg29
  let c1_i32_1151 : BitVec 32 := 1#32
  let v2387 : BitVec 32 := Scalar.addi v2386 c1_i32_1151
  let c256_i32_1152 : BitVec 32 := 256#32
  let v2388 : BitVec 32 := Scalar.muli v2387 c256_i32_1152
  v2388
def k0_mult186 (i : grid0.Coords) (k0_t19 : Fin (k0_t19_loop i).trips) : BitVec 32 :=
  let c4_i32_1164 : BitVec 32 := 4#32
  let c0_i32_1067 : BitVec 32 := 0#32
  let c1_i32_1069 : BitVec 32 := 1#32
  let arg29 : BitVec 32 := Scf.iv c0_i32_1067 c1_i32_1069 k0_t19
  let v2405 : BitVec 32 := Scalar.muli c4_i32_1164 arg29
  let c2_i32_1165 : BitVec 32 := 2#32
  let v2406 : BitVec 32 := Scalar.addi v2405 c2_i32_1165
  let c256_i32_1166 : BitVec 32 := 256#32
  let v2407 : BitVec 32 := Scalar.muli v2406 c256_i32_1166
  v2407
def k0_mult187 (i : grid0.Coords) (k0_t19 : Fin (k0_t19_loop i).trips) : BitVec 32 :=
  let c4_i32_1178 : BitVec 32 := 4#32
  let c0_i32_1067 : BitVec 32 := 0#32
  let c1_i32_1069 : BitVec 32 := 1#32
  let arg29 : BitVec 32 := Scf.iv c0_i32_1067 c1_i32_1069 k0_t19
  let v2424 : BitVec 32 := Scalar.muli c4_i32_1178 arg29
  let c3_i32_1179 : BitVec 32 := 3#32
  let v2425 : BitVec 32 := Scalar.addi v2424 c3_i32_1179
  let c256_i32_1180 : BitVec 32 := 256#32
  let v2426 : BitVec 32 := Scalar.muli v2425 c256_i32_1180
  v2426
def k0_mult188 (i : grid0.Coords) (k0_t19 : Fin (k0_t19_loop i).trips) : BitVec 32 :=
  let c4_i32_1192 : BitVec 32 := 4#32
  let c0_i32_1067 : BitVec 32 := 0#32
  let c1_i32_1069 : BitVec 32 := 1#32
  let arg29 : BitVec 32 := Scf.iv c0_i32_1067 c1_i32_1069 k0_t19
  let v2443 : BitVec 32 := Scalar.muli c4_i32_1192 arg29
  let c0_i32_1193 : BitVec 32 := 0#32
  let v2444 : BitVec 32 := Scalar.addi v2443 c0_i32_1193
  let c256_i32_1194 : BitVec 32 := 256#32
  let v2445 : BitVec 32 := Scalar.muli v2444 c256_i32_1194
  v2445
def k0_mult189 (i : grid0.Coords) (k0_t19 : Fin (k0_t19_loop i).trips) : BitVec 32 :=
  let c4_i32_1206 : BitVec 32 := 4#32
  let c0_i32_1067 : BitVec 32 := 0#32
  let c1_i32_1069 : BitVec 32 := 1#32
  let arg29 : BitVec 32 := Scf.iv c0_i32_1067 c1_i32_1069 k0_t19
  let v2462 : BitVec 32 := Scalar.muli c4_i32_1206 arg29
  let c1_i32_1207 : BitVec 32 := 1#32
  let v2463 : BitVec 32 := Scalar.addi v2462 c1_i32_1207
  let c256_i32_1208 : BitVec 32 := 256#32
  let v2464 : BitVec 32 := Scalar.muli v2463 c256_i32_1208
  v2464
def k0_mult190 (i : grid0.Coords) (k0_t19 : Fin (k0_t19_loop i).trips) : BitVec 32 :=
  let c4_i32_1220 : BitVec 32 := 4#32
  let c0_i32_1067 : BitVec 32 := 0#32
  let c1_i32_1069 : BitVec 32 := 1#32
  let arg29 : BitVec 32 := Scf.iv c0_i32_1067 c1_i32_1069 k0_t19
  let v2481 : BitVec 32 := Scalar.muli c4_i32_1220 arg29
  let c2_i32_1221 : BitVec 32 := 2#32
  let v2482 : BitVec 32 := Scalar.addi v2481 c2_i32_1221
  let c256_i32_1222 : BitVec 32 := 256#32
  let v2483 : BitVec 32 := Scalar.muli v2482 c256_i32_1222
  v2483
def k0_mult191 (i : grid0.Coords) (k0_t19 : Fin (k0_t19_loop i).trips) : BitVec 32 :=
  let c4_i32_1234 : BitVec 32 := 4#32
  let c0_i32_1067 : BitVec 32 := 0#32
  let c1_i32_1069 : BitVec 32 := 1#32
  let arg29 : BitVec 32 := Scf.iv c0_i32_1067 c1_i32_1069 k0_t19
  let v2500 : BitVec 32 := Scalar.muli c4_i32_1234 arg29
  let c3_i32_1235 : BitVec 32 := 3#32
  let v2501 : BitVec 32 := Scalar.addi v2500 c3_i32_1235
  let c256_i32_1236 : BitVec 32 := 256#32
  let v2502 : BitVec 32 := Scalar.muli v2501 c256_i32_1236
  v2502
def k0_mult192 (i : grid0.Coords) (k0_t19 : Fin (k0_t19_loop i).trips) : BitVec 32 :=
  let c4_i32_1248 : BitVec 32 := 4#32
  let c0_i32_1067 : BitVec 32 := 0#32
  let c1_i32_1069 : BitVec 32 := 1#32
  let arg29 : BitVec 32 := Scf.iv c0_i32_1067 c1_i32_1069 k0_t19
  let v2519 : BitVec 32 := Scalar.muli c4_i32_1248 arg29
  let c0_i32_1249 : BitVec 32 := 0#32
  let v2520 : BitVec 32 := Scalar.addi v2519 c0_i32_1249
  let c256_i32_1250 : BitVec 32 := 256#32
  let v2521 : BitVec 32 := Scalar.muli v2520 c256_i32_1250
  v2521
def k0_mult193 (i : grid0.Coords) (k0_t19 : Fin (k0_t19_loop i).trips) : BitVec 32 :=
  let c4_i32_1262 : BitVec 32 := 4#32
  let c0_i32_1067 : BitVec 32 := 0#32
  let c1_i32_1069 : BitVec 32 := 1#32
  let arg29 : BitVec 32 := Scf.iv c0_i32_1067 c1_i32_1069 k0_t19
  let v2538 : BitVec 32 := Scalar.muli c4_i32_1262 arg29
  let c1_i32_1263 : BitVec 32 := 1#32
  let v2539 : BitVec 32 := Scalar.addi v2538 c1_i32_1263
  let c256_i32_1264 : BitVec 32 := 256#32
  let v2540 : BitVec 32 := Scalar.muli v2539 c256_i32_1264
  v2540
def k0_mult194 (i : grid0.Coords) (k0_t19 : Fin (k0_t19_loop i).trips) : BitVec 32 :=
  let c4_i32_1276 : BitVec 32 := 4#32
  let c0_i32_1067 : BitVec 32 := 0#32
  let c1_i32_1069 : BitVec 32 := 1#32
  let arg29 : BitVec 32 := Scf.iv c0_i32_1067 c1_i32_1069 k0_t19
  let v2557 : BitVec 32 := Scalar.muli c4_i32_1276 arg29
  let c2_i32_1277 : BitVec 32 := 2#32
  let v2558 : BitVec 32 := Scalar.addi v2557 c2_i32_1277
  let c256_i32_1278 : BitVec 32 := 256#32
  let v2559 : BitVec 32 := Scalar.muli v2558 c256_i32_1278
  v2559
def k0_mult195 (i : grid0.Coords) (k0_t19 : Fin (k0_t19_loop i).trips) : BitVec 32 :=
  let c4_i32_1290 : BitVec 32 := 4#32
  let c0_i32_1067 : BitVec 32 := 0#32
  let c1_i32_1069 : BitVec 32 := 1#32
  let arg29 : BitVec 32 := Scf.iv c0_i32_1067 c1_i32_1069 k0_t19
  let v2576 : BitVec 32 := Scalar.muli c4_i32_1290 arg29
  let c3_i32_1291 : BitVec 32 := 3#32
  let v2577 : BitVec 32 := Scalar.addi v2576 c3_i32_1291
  let c256_i32_1292 : BitVec 32 := 256#32
  let v2578 : BitVec 32 := Scalar.muli v2577 c256_i32_1292
  v2578
def k0_mult196 (i : grid0.Coords) (k0_t19 : Fin (k0_t19_loop i).trips) : BitVec 32 :=
  let c4_i32_1304 : BitVec 32 := 4#32
  let c0_i32_1067 : BitVec 32 := 0#32
  let c1_i32_1069 : BitVec 32 := 1#32
  let arg29 : BitVec 32 := Scf.iv c0_i32_1067 c1_i32_1069 k0_t19
  let v2595 : BitVec 32 := Scalar.muli c4_i32_1304 arg29
  let c0_i32_1305 : BitVec 32 := 0#32
  let v2596 : BitVec 32 := Scalar.addi v2595 c0_i32_1305
  let c256_i32_1306 : BitVec 32 := 256#32
  let v2597 : BitVec 32 := Scalar.muli v2596 c256_i32_1306
  v2597
def k0_mult197 (i : grid0.Coords) (k0_t19 : Fin (k0_t19_loop i).trips) : BitVec 32 :=
  let c4_i32_1318 : BitVec 32 := 4#32
  let c0_i32_1067 : BitVec 32 := 0#32
  let c1_i32_1069 : BitVec 32 := 1#32
  let arg29 : BitVec 32 := Scf.iv c0_i32_1067 c1_i32_1069 k0_t19
  let v2614 : BitVec 32 := Scalar.muli c4_i32_1318 arg29
  let c1_i32_1319 : BitVec 32 := 1#32
  let v2615 : BitVec 32 := Scalar.addi v2614 c1_i32_1319
  let c256_i32_1320 : BitVec 32 := 256#32
  let v2616 : BitVec 32 := Scalar.muli v2615 c256_i32_1320
  v2616
def k0_mult198 (i : grid0.Coords) (k0_t19 : Fin (k0_t19_loop i).trips) : BitVec 32 :=
  let c4_i32_1332 : BitVec 32 := 4#32
  let c0_i32_1067 : BitVec 32 := 0#32
  let c1_i32_1069 : BitVec 32 := 1#32
  let arg29 : BitVec 32 := Scf.iv c0_i32_1067 c1_i32_1069 k0_t19
  let v2633 : BitVec 32 := Scalar.muli c4_i32_1332 arg29
  let c2_i32_1333 : BitVec 32 := 2#32
  let v2634 : BitVec 32 := Scalar.addi v2633 c2_i32_1333
  let c256_i32_1334 : BitVec 32 := 256#32
  let v2635 : BitVec 32 := Scalar.muli v2634 c256_i32_1334
  v2635
def k0_mult199 (i : grid0.Coords) (k0_t19 : Fin (k0_t19_loop i).trips) : BitVec 32 :=
  let c4_i32_1346 : BitVec 32 := 4#32
  let c0_i32_1067 : BitVec 32 := 0#32
  let c1_i32_1069 : BitVec 32 := 1#32
  let arg29 : BitVec 32 := Scf.iv c0_i32_1067 c1_i32_1069 k0_t19
  let v2652 : BitVec 32 := Scalar.muli c4_i32_1346 arg29
  let c3_i32_1347 : BitVec 32 := 3#32
  let v2653 : BitVec 32 := Scalar.addi v2652 c3_i32_1347
  let c256_i32_1348 : BitVec 32 := 256#32
  let v2654 : BitVec 32 := Scalar.muli v2653 c256_i32_1348
  v2654
def k0_mult200 (i : grid0.Coords) (k0_t19 : Fin (k0_t19_loop i).trips) : BitVec 32 :=
  let c4_i32_1360 : BitVec 32 := 4#32
  let c0_i32_1067 : BitVec 32 := 0#32
  let c1_i32_1069 : BitVec 32 := 1#32
  let arg29 : BitVec 32 := Scf.iv c0_i32_1067 c1_i32_1069 k0_t19
  let v2671 : BitVec 32 := Scalar.muli c4_i32_1360 arg29
  let c0_i32_1361 : BitVec 32 := 0#32
  let v2672 : BitVec 32 := Scalar.addi v2671 c0_i32_1361
  let c256_i32_1362 : BitVec 32 := 256#32
  let v2673 : BitVec 32 := Scalar.muli v2672 c256_i32_1362
  v2673
def k0_mult201 (i : grid0.Coords) (k0_t19 : Fin (k0_t19_loop i).trips) : BitVec 32 :=
  let c4_i32_1374 : BitVec 32 := 4#32
  let c0_i32_1067 : BitVec 32 := 0#32
  let c1_i32_1069 : BitVec 32 := 1#32
  let arg29 : BitVec 32 := Scf.iv c0_i32_1067 c1_i32_1069 k0_t19
  let v2690 : BitVec 32 := Scalar.muli c4_i32_1374 arg29
  let c1_i32_1375 : BitVec 32 := 1#32
  let v2691 : BitVec 32 := Scalar.addi v2690 c1_i32_1375
  let c256_i32_1376 : BitVec 32 := 256#32
  let v2692 : BitVec 32 := Scalar.muli v2691 c256_i32_1376
  v2692
def k0_mult202 (i : grid0.Coords) (k0_t19 : Fin (k0_t19_loop i).trips) : BitVec 32 :=
  let c4_i32_1388 : BitVec 32 := 4#32
  let c0_i32_1067 : BitVec 32 := 0#32
  let c1_i32_1069 : BitVec 32 := 1#32
  let arg29 : BitVec 32 := Scf.iv c0_i32_1067 c1_i32_1069 k0_t19
  let v2709 : BitVec 32 := Scalar.muli c4_i32_1388 arg29
  let c2_i32_1389 : BitVec 32 := 2#32
  let v2710 : BitVec 32 := Scalar.addi v2709 c2_i32_1389
  let c256_i32_1390 : BitVec 32 := 256#32
  let v2711 : BitVec 32 := Scalar.muli v2710 c256_i32_1390
  v2711
def k0_mult203 (i : grid0.Coords) (k0_t19 : Fin (k0_t19_loop i).trips) : BitVec 32 :=
  let c4_i32_1402 : BitVec 32 := 4#32
  let c0_i32_1067 : BitVec 32 := 0#32
  let c1_i32_1069 : BitVec 32 := 1#32
  let arg29 : BitVec 32 := Scf.iv c0_i32_1067 c1_i32_1069 k0_t19
  let v2728 : BitVec 32 := Scalar.muli c4_i32_1402 arg29
  let c3_i32_1403 : BitVec 32 := 3#32
  let v2729 : BitVec 32 := Scalar.addi v2728 c3_i32_1403
  let c256_i32_1404 : BitVec 32 := 256#32
  let v2730 : BitVec 32 := Scalar.muli v2729 c256_i32_1404
  v2730
def k0_mult204 (i : grid0.Coords) (k0_t19 : Fin (k0_t19_loop i).trips) : BitVec 32 :=
  let c4_i32_1416 : BitVec 32 := 4#32
  let c0_i32_1067 : BitVec 32 := 0#32
  let c1_i32_1069 : BitVec 32 := 1#32
  let arg29 : BitVec 32 := Scf.iv c0_i32_1067 c1_i32_1069 k0_t19
  let v2747 : BitVec 32 := Scalar.muli c4_i32_1416 arg29
  let c0_i32_1417 : BitVec 32 := 0#32
  let v2748 : BitVec 32 := Scalar.addi v2747 c0_i32_1417
  let c256_i32_1418 : BitVec 32 := 256#32
  let v2749 : BitVec 32 := Scalar.muli v2748 c256_i32_1418
  v2749
def k0_mult205 (i : grid0.Coords) (k0_t19 : Fin (k0_t19_loop i).trips) : BitVec 32 :=
  let c4_i32_1430 : BitVec 32 := 4#32
  let c0_i32_1067 : BitVec 32 := 0#32
  let c1_i32_1069 : BitVec 32 := 1#32
  let arg29 : BitVec 32 := Scf.iv c0_i32_1067 c1_i32_1069 k0_t19
  let v2766 : BitVec 32 := Scalar.muli c4_i32_1430 arg29
  let c1_i32_1431 : BitVec 32 := 1#32
  let v2767 : BitVec 32 := Scalar.addi v2766 c1_i32_1431
  let c256_i32_1432 : BitVec 32 := 256#32
  let v2768 : BitVec 32 := Scalar.muli v2767 c256_i32_1432
  v2768
def k0_mult206 (i : grid0.Coords) (k0_t19 : Fin (k0_t19_loop i).trips) : BitVec 32 :=
  let c4_i32_1444 : BitVec 32 := 4#32
  let c0_i32_1067 : BitVec 32 := 0#32
  let c1_i32_1069 : BitVec 32 := 1#32
  let arg29 : BitVec 32 := Scf.iv c0_i32_1067 c1_i32_1069 k0_t19
  let v2785 : BitVec 32 := Scalar.muli c4_i32_1444 arg29
  let c2_i32_1445 : BitVec 32 := 2#32
  let v2786 : BitVec 32 := Scalar.addi v2785 c2_i32_1445
  let c256_i32_1446 : BitVec 32 := 256#32
  let v2787 : BitVec 32 := Scalar.muli v2786 c256_i32_1446
  v2787
def k0_mult207 (i : grid0.Coords) (k0_t19 : Fin (k0_t19_loop i).trips) : BitVec 32 :=
  let c4_i32_1458 : BitVec 32 := 4#32
  let c0_i32_1067 : BitVec 32 := 0#32
  let c1_i32_1069 : BitVec 32 := 1#32
  let arg29 : BitVec 32 := Scf.iv c0_i32_1067 c1_i32_1069 k0_t19
  let v2804 : BitVec 32 := Scalar.muli c4_i32_1458 arg29
  let c3_i32_1459 : BitVec 32 := 3#32
  let v2805 : BitVec 32 := Scalar.addi v2804 c3_i32_1459
  let c256_i32_1460 : BitVec 32 := 256#32
  let v2806 : BitVec 32 := Scalar.muli v2805 c256_i32_1460
  v2806
def k0_mult208 (i : grid0.Coords) (k0_t19 : Fin (k0_t19_loop i).trips) : BitVec 32 :=
  let c4_i32_1472 : BitVec 32 := 4#32
  let c0_i32_1067 : BitVec 32 := 0#32
  let c1_i32_1069 : BitVec 32 := 1#32
  let arg29 : BitVec 32 := Scf.iv c0_i32_1067 c1_i32_1069 k0_t19
  let v2823 : BitVec 32 := Scalar.muli c4_i32_1472 arg29
  let c0_i32_1473 : BitVec 32 := 0#32
  let v2824 : BitVec 32 := Scalar.addi v2823 c0_i32_1473
  let c256_i32_1474 : BitVec 32 := 256#32
  let v2825 : BitVec 32 := Scalar.muli v2824 c256_i32_1474
  v2825
def k0_mult209 (i : grid0.Coords) (k0_t19 : Fin (k0_t19_loop i).trips) : BitVec 32 :=
  let c4_i32_1486 : BitVec 32 := 4#32
  let c0_i32_1067 : BitVec 32 := 0#32
  let c1_i32_1069 : BitVec 32 := 1#32
  let arg29 : BitVec 32 := Scf.iv c0_i32_1067 c1_i32_1069 k0_t19
  let v2842 : BitVec 32 := Scalar.muli c4_i32_1486 arg29
  let c1_i32_1487 : BitVec 32 := 1#32
  let v2843 : BitVec 32 := Scalar.addi v2842 c1_i32_1487
  let c256_i32_1488 : BitVec 32 := 256#32
  let v2844 : BitVec 32 := Scalar.muli v2843 c256_i32_1488
  v2844
def k0_mult210 (i : grid0.Coords) (k0_t19 : Fin (k0_t19_loop i).trips) : BitVec 32 :=
  let c4_i32_1500 : BitVec 32 := 4#32
  let c0_i32_1067 : BitVec 32 := 0#32
  let c1_i32_1069 : BitVec 32 := 1#32
  let arg29 : BitVec 32 := Scf.iv c0_i32_1067 c1_i32_1069 k0_t19
  let v2861 : BitVec 32 := Scalar.muli c4_i32_1500 arg29
  let c2_i32_1501 : BitVec 32 := 2#32
  let v2862 : BitVec 32 := Scalar.addi v2861 c2_i32_1501
  let c256_i32_1502 : BitVec 32 := 256#32
  let v2863 : BitVec 32 := Scalar.muli v2862 c256_i32_1502
  v2863
def k0_mult211 (i : grid0.Coords) (k0_t19 : Fin (k0_t19_loop i).trips) : BitVec 32 :=
  let c4_i32_1514 : BitVec 32 := 4#32
  let c0_i32_1067 : BitVec 32 := 0#32
  let c1_i32_1069 : BitVec 32 := 1#32
  let arg29 : BitVec 32 := Scf.iv c0_i32_1067 c1_i32_1069 k0_t19
  let v2880 : BitVec 32 := Scalar.muli c4_i32_1514 arg29
  let c3_i32_1515 : BitVec 32 := 3#32
  let v2881 : BitVec 32 := Scalar.addi v2880 c3_i32_1515
  let c256_i32_1516 : BitVec 32 := 256#32
  let v2882 : BitVec 32 := Scalar.muli v2881 c256_i32_1516
  v2882
def k0_off796 (i : grid0.Coords) (k0_t19 : Fin (k0_t19_loop i).trips) (c0_i32_1529 : BitVec 32) : Fin 4 → Nat :=
  let c0_1533 : Index := 0#32
  let c4_i32_1528 : BitVec 32 := 4#32
  let c0_i32_1067 : BitVec 32 := 0#32
  let c1_i32_1069 : BitVec 32 := 1#32
  let arg29 : BitVec 32 := Scf.iv c0_i32_1067 c1_i32_1069 k0_t19
  let v2899 : BitVec 32 := Scalar.muli c4_i32_1528 arg29
  let v2900 : BitVec 32 := Scalar.addi v2899 c0_i32_1529
  let v2903 : Index := Scalar.indexCast v2900
  let c0_1534 : Index := 0#32
  let c0_1535 : Index := 0#32
  ![0, v2903.toNat, 0, 0]
@[reducible] def k0_t20_loop (i : grid0.Coords) : Scf.Loop 32 :=
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let v2276 : BitVec 32 := Scalar.addi c0_i32_1067 v2275
  let c1_i32_1070 : BitVec 32 := 1#32
  ⟨v2279, v2276, c1_i32_1070⟩
def k0_mult212 (i : grid0.Coords) (k0_t20 : Fin (k0_t20_loop i).trips) : BitVec 32 :=
  let c4_i32_1080 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2291 : BitVec 32 := Scalar.muli c4_i32_1080 arg29
  let c0_i32_1081 : BitVec 32 := 0#32
  let v2292 : BitVec 32 := Scalar.addi v2291 c0_i32_1081
  let c256_i32_1082 : BitVec 32 := 256#32
  let v2293 : BitVec 32 := Scalar.muli v2292 c256_i32_1082
  v2293
def k0_off797 (i : grid0.Coords) (k0_t20 : Fin (k0_t20_loop i).trips) (c0_i32_1081 : BitVec 32) : Fin 3 → Nat :=
  let c0_1083 : Index := 0#32
  let c4_i32_1080 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2291 : BitVec 32 := Scalar.muli c4_i32_1080 arg29
  let v2292 : BitVec 32 := Scalar.addi v2291 c0_i32_1081
  let c256_i32_1082 : BitVec 32 := 256#32
  let v2293 : BitVec 32 := Scalar.muli v2292 c256_i32_1082
  let v2294 : BitVec 32 := v2293
  let v2295 : Index := Scalar.indexCast v2294
  let c0_1084 : Index := 0#32
  ![0, v2295.toNat, 0]
def k0_off798 (i : grid0.Coords) (k0_t20 : Fin (k0_t20_loop i).trips) (c0_i32_1081 : BitVec 32) : Fin 3 → Nat :=
  let c4_i32_1080 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2291 : BitVec 32 := Scalar.muli c4_i32_1080 arg29
  let v2292 : BitVec 32 := Scalar.addi v2291 c0_i32_1081
  let v2301 : Index := Scalar.indexCast v2292
  let c0_1089 : Index := 0#32
  let c0_1090 : Index := 0#32
  ![v2301.toNat, 0, 0]
def k0_mult213 (i : grid0.Coords) (k0_t20 : Fin (k0_t20_loop i).trips) : BitVec 32 :=
  let c4_i32_1094 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2310 : BitVec 32 := Scalar.muli c4_i32_1094 arg29
  let c1_i32_1095 : BitVec 32 := 1#32
  let v2311 : BitVec 32 := Scalar.addi v2310 c1_i32_1095
  let c256_i32_1096 : BitVec 32 := 256#32
  let v2312 : BitVec 32 := Scalar.muli v2311 c256_i32_1096
  v2312
def k0_mult214 (i : grid0.Coords) (k0_t20 : Fin (k0_t20_loop i).trips) : BitVec 32 :=
  let c4_i32_1108 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2329 : BitVec 32 := Scalar.muli c4_i32_1108 arg29
  let c2_i32_1109 : BitVec 32 := 2#32
  let v2330 : BitVec 32 := Scalar.addi v2329 c2_i32_1109
  let c256_i32_1110 : BitVec 32 := 256#32
  let v2331 : BitVec 32 := Scalar.muli v2330 c256_i32_1110
  v2331
def k0_mult215 (i : grid0.Coords) (k0_t20 : Fin (k0_t20_loop i).trips) : BitVec 32 :=
  let c4_i32_1122 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2348 : BitVec 32 := Scalar.muli c4_i32_1122 arg29
  let c3_i32_1123 : BitVec 32 := 3#32
  let v2349 : BitVec 32 := Scalar.addi v2348 c3_i32_1123
  let c256_i32_1124 : BitVec 32 := 256#32
  let v2350 : BitVec 32 := Scalar.muli v2349 c256_i32_1124
  v2350
def k0_mult216 (i : grid0.Coords) (k0_t20 : Fin (k0_t20_loop i).trips) : BitVec 32 :=
  let c4_i32_1136 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2367 : BitVec 32 := Scalar.muli c4_i32_1136 arg29
  let c0_i32_1137 : BitVec 32 := 0#32
  let v2368 : BitVec 32 := Scalar.addi v2367 c0_i32_1137
  let c256_i32_1138 : BitVec 32 := 256#32
  let v2369 : BitVec 32 := Scalar.muli v2368 c256_i32_1138
  v2369
def k0_mult217 (i : grid0.Coords) (k0_t20 : Fin (k0_t20_loop i).trips) : BitVec 32 :=
  let c4_i32_1150 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2386 : BitVec 32 := Scalar.muli c4_i32_1150 arg29
  let c1_i32_1151 : BitVec 32 := 1#32
  let v2387 : BitVec 32 := Scalar.addi v2386 c1_i32_1151
  let c256_i32_1152 : BitVec 32 := 256#32
  let v2388 : BitVec 32 := Scalar.muli v2387 c256_i32_1152
  v2388
def k0_mult218 (i : grid0.Coords) (k0_t20 : Fin (k0_t20_loop i).trips) : BitVec 32 :=
  let c4_i32_1164 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2405 : BitVec 32 := Scalar.muli c4_i32_1164 arg29
  let c2_i32_1165 : BitVec 32 := 2#32
  let v2406 : BitVec 32 := Scalar.addi v2405 c2_i32_1165
  let c256_i32_1166 : BitVec 32 := 256#32
  let v2407 : BitVec 32 := Scalar.muli v2406 c256_i32_1166
  v2407
def k0_mult219 (i : grid0.Coords) (k0_t20 : Fin (k0_t20_loop i).trips) : BitVec 32 :=
  let c4_i32_1178 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2424 : BitVec 32 := Scalar.muli c4_i32_1178 arg29
  let c3_i32_1179 : BitVec 32 := 3#32
  let v2425 : BitVec 32 := Scalar.addi v2424 c3_i32_1179
  let c256_i32_1180 : BitVec 32 := 256#32
  let v2426 : BitVec 32 := Scalar.muli v2425 c256_i32_1180
  v2426
def k0_mult220 (i : grid0.Coords) (k0_t20 : Fin (k0_t20_loop i).trips) : BitVec 32 :=
  let c4_i32_1192 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2443 : BitVec 32 := Scalar.muli c4_i32_1192 arg29
  let c0_i32_1193 : BitVec 32 := 0#32
  let v2444 : BitVec 32 := Scalar.addi v2443 c0_i32_1193
  let c256_i32_1194 : BitVec 32 := 256#32
  let v2445 : BitVec 32 := Scalar.muli v2444 c256_i32_1194
  v2445
def k0_mult221 (i : grid0.Coords) (k0_t20 : Fin (k0_t20_loop i).trips) : BitVec 32 :=
  let c4_i32_1206 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2462 : BitVec 32 := Scalar.muli c4_i32_1206 arg29
  let c1_i32_1207 : BitVec 32 := 1#32
  let v2463 : BitVec 32 := Scalar.addi v2462 c1_i32_1207
  let c256_i32_1208 : BitVec 32 := 256#32
  let v2464 : BitVec 32 := Scalar.muli v2463 c256_i32_1208
  v2464
def k0_mult222 (i : grid0.Coords) (k0_t20 : Fin (k0_t20_loop i).trips) : BitVec 32 :=
  let c4_i32_1220 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2481 : BitVec 32 := Scalar.muli c4_i32_1220 arg29
  let c2_i32_1221 : BitVec 32 := 2#32
  let v2482 : BitVec 32 := Scalar.addi v2481 c2_i32_1221
  let c256_i32_1222 : BitVec 32 := 256#32
  let v2483 : BitVec 32 := Scalar.muli v2482 c256_i32_1222
  v2483
def k0_mult223 (i : grid0.Coords) (k0_t20 : Fin (k0_t20_loop i).trips) : BitVec 32 :=
  let c4_i32_1234 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2500 : BitVec 32 := Scalar.muli c4_i32_1234 arg29
  let c3_i32_1235 : BitVec 32 := 3#32
  let v2501 : BitVec 32 := Scalar.addi v2500 c3_i32_1235
  let c256_i32_1236 : BitVec 32 := 256#32
  let v2502 : BitVec 32 := Scalar.muli v2501 c256_i32_1236
  v2502
def k0_mult224 (i : grid0.Coords) (k0_t20 : Fin (k0_t20_loop i).trips) : BitVec 32 :=
  let c4_i32_1248 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2519 : BitVec 32 := Scalar.muli c4_i32_1248 arg29
  let c0_i32_1249 : BitVec 32 := 0#32
  let v2520 : BitVec 32 := Scalar.addi v2519 c0_i32_1249
  let c256_i32_1250 : BitVec 32 := 256#32
  let v2521 : BitVec 32 := Scalar.muli v2520 c256_i32_1250
  v2521
def k0_mult225 (i : grid0.Coords) (k0_t20 : Fin (k0_t20_loop i).trips) : BitVec 32 :=
  let c4_i32_1262 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2538 : BitVec 32 := Scalar.muli c4_i32_1262 arg29
  let c1_i32_1263 : BitVec 32 := 1#32
  let v2539 : BitVec 32 := Scalar.addi v2538 c1_i32_1263
  let c256_i32_1264 : BitVec 32 := 256#32
  let v2540 : BitVec 32 := Scalar.muli v2539 c256_i32_1264
  v2540
def k0_mult226 (i : grid0.Coords) (k0_t20 : Fin (k0_t20_loop i).trips) : BitVec 32 :=
  let c4_i32_1276 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2557 : BitVec 32 := Scalar.muli c4_i32_1276 arg29
  let c2_i32_1277 : BitVec 32 := 2#32
  let v2558 : BitVec 32 := Scalar.addi v2557 c2_i32_1277
  let c256_i32_1278 : BitVec 32 := 256#32
  let v2559 : BitVec 32 := Scalar.muli v2558 c256_i32_1278
  v2559
def k0_mult227 (i : grid0.Coords) (k0_t20 : Fin (k0_t20_loop i).trips) : BitVec 32 :=
  let c4_i32_1290 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2576 : BitVec 32 := Scalar.muli c4_i32_1290 arg29
  let c3_i32_1291 : BitVec 32 := 3#32
  let v2577 : BitVec 32 := Scalar.addi v2576 c3_i32_1291
  let c256_i32_1292 : BitVec 32 := 256#32
  let v2578 : BitVec 32 := Scalar.muli v2577 c256_i32_1292
  v2578
def k0_mult228 (i : grid0.Coords) (k0_t20 : Fin (k0_t20_loop i).trips) : BitVec 32 :=
  let c4_i32_1304 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2595 : BitVec 32 := Scalar.muli c4_i32_1304 arg29
  let c0_i32_1305 : BitVec 32 := 0#32
  let v2596 : BitVec 32 := Scalar.addi v2595 c0_i32_1305
  let c256_i32_1306 : BitVec 32 := 256#32
  let v2597 : BitVec 32 := Scalar.muli v2596 c256_i32_1306
  v2597
def k0_mult229 (i : grid0.Coords) (k0_t20 : Fin (k0_t20_loop i).trips) : BitVec 32 :=
  let c4_i32_1318 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2614 : BitVec 32 := Scalar.muli c4_i32_1318 arg29
  let c1_i32_1319 : BitVec 32 := 1#32
  let v2615 : BitVec 32 := Scalar.addi v2614 c1_i32_1319
  let c256_i32_1320 : BitVec 32 := 256#32
  let v2616 : BitVec 32 := Scalar.muli v2615 c256_i32_1320
  v2616
def k0_mult230 (i : grid0.Coords) (k0_t20 : Fin (k0_t20_loop i).trips) : BitVec 32 :=
  let c4_i32_1332 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2633 : BitVec 32 := Scalar.muli c4_i32_1332 arg29
  let c2_i32_1333 : BitVec 32 := 2#32
  let v2634 : BitVec 32 := Scalar.addi v2633 c2_i32_1333
  let c256_i32_1334 : BitVec 32 := 256#32
  let v2635 : BitVec 32 := Scalar.muli v2634 c256_i32_1334
  v2635
def k0_mult231 (i : grid0.Coords) (k0_t20 : Fin (k0_t20_loop i).trips) : BitVec 32 :=
  let c4_i32_1346 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2652 : BitVec 32 := Scalar.muli c4_i32_1346 arg29
  let c3_i32_1347 : BitVec 32 := 3#32
  let v2653 : BitVec 32 := Scalar.addi v2652 c3_i32_1347
  let c256_i32_1348 : BitVec 32 := 256#32
  let v2654 : BitVec 32 := Scalar.muli v2653 c256_i32_1348
  v2654
def k0_mult232 (i : grid0.Coords) (k0_t20 : Fin (k0_t20_loop i).trips) : BitVec 32 :=
  let c4_i32_1360 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2671 : BitVec 32 := Scalar.muli c4_i32_1360 arg29
  let c0_i32_1361 : BitVec 32 := 0#32
  let v2672 : BitVec 32 := Scalar.addi v2671 c0_i32_1361
  let c256_i32_1362 : BitVec 32 := 256#32
  let v2673 : BitVec 32 := Scalar.muli v2672 c256_i32_1362
  v2673
def k0_mult233 (i : grid0.Coords) (k0_t20 : Fin (k0_t20_loop i).trips) : BitVec 32 :=
  let c4_i32_1374 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2690 : BitVec 32 := Scalar.muli c4_i32_1374 arg29
  let c1_i32_1375 : BitVec 32 := 1#32
  let v2691 : BitVec 32 := Scalar.addi v2690 c1_i32_1375
  let c256_i32_1376 : BitVec 32 := 256#32
  let v2692 : BitVec 32 := Scalar.muli v2691 c256_i32_1376
  v2692
def k0_mult234 (i : grid0.Coords) (k0_t20 : Fin (k0_t20_loop i).trips) : BitVec 32 :=
  let c4_i32_1388 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2709 : BitVec 32 := Scalar.muli c4_i32_1388 arg29
  let c2_i32_1389 : BitVec 32 := 2#32
  let v2710 : BitVec 32 := Scalar.addi v2709 c2_i32_1389
  let c256_i32_1390 : BitVec 32 := 256#32
  let v2711 : BitVec 32 := Scalar.muli v2710 c256_i32_1390
  v2711
def k0_mult235 (i : grid0.Coords) (k0_t20 : Fin (k0_t20_loop i).trips) : BitVec 32 :=
  let c4_i32_1402 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2728 : BitVec 32 := Scalar.muli c4_i32_1402 arg29
  let c3_i32_1403 : BitVec 32 := 3#32
  let v2729 : BitVec 32 := Scalar.addi v2728 c3_i32_1403
  let c256_i32_1404 : BitVec 32 := 256#32
  let v2730 : BitVec 32 := Scalar.muli v2729 c256_i32_1404
  v2730
def k0_mult236 (i : grid0.Coords) (k0_t20 : Fin (k0_t20_loop i).trips) : BitVec 32 :=
  let c4_i32_1416 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2747 : BitVec 32 := Scalar.muli c4_i32_1416 arg29
  let c0_i32_1417 : BitVec 32 := 0#32
  let v2748 : BitVec 32 := Scalar.addi v2747 c0_i32_1417
  let c256_i32_1418 : BitVec 32 := 256#32
  let v2749 : BitVec 32 := Scalar.muli v2748 c256_i32_1418
  v2749
def k0_mult237 (i : grid0.Coords) (k0_t20 : Fin (k0_t20_loop i).trips) : BitVec 32 :=
  let c4_i32_1430 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2766 : BitVec 32 := Scalar.muli c4_i32_1430 arg29
  let c1_i32_1431 : BitVec 32 := 1#32
  let v2767 : BitVec 32 := Scalar.addi v2766 c1_i32_1431
  let c256_i32_1432 : BitVec 32 := 256#32
  let v2768 : BitVec 32 := Scalar.muli v2767 c256_i32_1432
  v2768
def k0_mult238 (i : grid0.Coords) (k0_t20 : Fin (k0_t20_loop i).trips) : BitVec 32 :=
  let c4_i32_1444 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2785 : BitVec 32 := Scalar.muli c4_i32_1444 arg29
  let c2_i32_1445 : BitVec 32 := 2#32
  let v2786 : BitVec 32 := Scalar.addi v2785 c2_i32_1445
  let c256_i32_1446 : BitVec 32 := 256#32
  let v2787 : BitVec 32 := Scalar.muli v2786 c256_i32_1446
  v2787
def k0_mult239 (i : grid0.Coords) (k0_t20 : Fin (k0_t20_loop i).trips) : BitVec 32 :=
  let c4_i32_1458 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2804 : BitVec 32 := Scalar.muli c4_i32_1458 arg29
  let c3_i32_1459 : BitVec 32 := 3#32
  let v2805 : BitVec 32 := Scalar.addi v2804 c3_i32_1459
  let c256_i32_1460 : BitVec 32 := 256#32
  let v2806 : BitVec 32 := Scalar.muli v2805 c256_i32_1460
  v2806
def k0_mult240 (i : grid0.Coords) (k0_t20 : Fin (k0_t20_loop i).trips) : BitVec 32 :=
  let c4_i32_1472 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2823 : BitVec 32 := Scalar.muli c4_i32_1472 arg29
  let c0_i32_1473 : BitVec 32 := 0#32
  let v2824 : BitVec 32 := Scalar.addi v2823 c0_i32_1473
  let c256_i32_1474 : BitVec 32 := 256#32
  let v2825 : BitVec 32 := Scalar.muli v2824 c256_i32_1474
  v2825
def k0_mult241 (i : grid0.Coords) (k0_t20 : Fin (k0_t20_loop i).trips) : BitVec 32 :=
  let c4_i32_1486 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2842 : BitVec 32 := Scalar.muli c4_i32_1486 arg29
  let c1_i32_1487 : BitVec 32 := 1#32
  let v2843 : BitVec 32 := Scalar.addi v2842 c1_i32_1487
  let c256_i32_1488 : BitVec 32 := 256#32
  let v2844 : BitVec 32 := Scalar.muli v2843 c256_i32_1488
  v2844
def k0_mult242 (i : grid0.Coords) (k0_t20 : Fin (k0_t20_loop i).trips) : BitVec 32 :=
  let c4_i32_1500 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2861 : BitVec 32 := Scalar.muli c4_i32_1500 arg29
  let c2_i32_1501 : BitVec 32 := 2#32
  let v2862 : BitVec 32 := Scalar.addi v2861 c2_i32_1501
  let c256_i32_1502 : BitVec 32 := 256#32
  let v2863 : BitVec 32 := Scalar.muli v2862 c256_i32_1502
  v2863
def k0_mult243 (i : grid0.Coords) (k0_t20 : Fin (k0_t20_loop i).trips) : BitVec 32 :=
  let c4_i32_1514 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2880 : BitVec 32 := Scalar.muli c4_i32_1514 arg29
  let c3_i32_1515 : BitVec 32 := 3#32
  let v2881 : BitVec 32 := Scalar.addi v2880 c3_i32_1515
  let c256_i32_1516 : BitVec 32 := 256#32
  let v2882 : BitVec 32 := Scalar.muli v2881 c256_i32_1516
  v2882
def k0_off799 (i : grid0.Coords) (k0_t20 : Fin (k0_t20_loop i).trips) (c0_i32_1529 : BitVec 32) : Fin 4 → Nat :=
  let c0_1533 : Index := 0#32
  let c4_i32_1528 : BitVec 32 := 4#32
  let c0_i32_1067 : BitVec 32 := 0#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2275 : BitVec 32 := Scalar.subi v2274 c0_i32_1067
  let c1_i32_1068 : BitVec 32 := 1#32
  let v2277 : BitVec 32 := Scalar.divsi v2275 c1_i32_1068
  let v2278 : BitVec 32 := Scalar.muli v2277 c1_i32_1068
  let v2279 : BitVec 32 := Scalar.addi c0_i32_1067 v2278
  let c1_i32_1070 : BitVec 32 := 1#32
  let arg29 : BitVec 32 := Scf.iv v2279 c1_i32_1070 k0_t20
  let v2899 : BitVec 32 := Scalar.muli c4_i32_1528 arg29
  let v2900 : BitVec 32 := Scalar.addi v2899 c0_i32_1529
  let v2903 : Index := Scalar.indexCast v2900
  let c0_1534 : Index := 0#32
  let c0_1535 : Index := 0#32
  ![0, v2903.toNat, 0, 0]
@[reducible] def k0_t21_loop (i : grid0.Coords) : Scf.Loop 32 :=
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let v2281 : BitVec 32 := Scalar.subi v2144 v2280
  let c1_i32_1073 : BitVec 32 := 1#32
  let v2283 : BitVec 32 := Scalar.divsi v2281 c1_i32_1073
  let v2284 : BitVec 32 := Scalar.muli v2283 c1_i32_1073
  let v2285 : BitVec 32 := Scalar.addi v2280 v2284
  let c1_i32_1074 : BitVec 32 := 1#32
  ⟨v2280, v2285, c1_i32_1074⟩
def k0_mult244 (i : grid0.Coords) (k0_t21 : Fin (k0_t21_loop i).trips) : BitVec 32 :=
  let c2_i32_1080 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let c1_i32_1074 : BitVec 32 := 1#32
  let arg29 : BitVec 32 := Scf.iv v2280 c1_i32_1074 k0_t21
  let v2291 : BitVec 32 := Scalar.muli c2_i32_1080 arg29
  let c0_i32_1081 : BitVec 32 := 0#32
  let v2292 : BitVec 32 := Scalar.addi v2291 c0_i32_1081
  let c256_i32_1082 : BitVec 32 := 256#32
  let v2293 : BitVec 32 := Scalar.muli v2292 c256_i32_1082
  v2293
def k0_off800 (i : grid0.Coords) (k0_t21 : Fin (k0_t21_loop i).trips) (c0_i32_1081 : BitVec 32) : Fin 3 → Nat :=
  let c0_1083 : Index := 0#32
  let c2_i32_1080 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let c1_i32_1074 : BitVec 32 := 1#32
  let arg29 : BitVec 32 := Scf.iv v2280 c1_i32_1074 k0_t21
  let v2291 : BitVec 32 := Scalar.muli c2_i32_1080 arg29
  let v2292 : BitVec 32 := Scalar.addi v2291 c0_i32_1081
  let c256_i32_1082 : BitVec 32 := 256#32
  let v2293 : BitVec 32 := Scalar.muli v2292 c256_i32_1082
  let v2294 : BitVec 32 := v2293
  let v2295 : Index := Scalar.indexCast v2294
  let c0_1084 : Index := 0#32
  ![0, v2295.toNat, 0]
def k0_off801 (i : grid0.Coords) (k0_t21 : Fin (k0_t21_loop i).trips) (c0_i32_1081 : BitVec 32) : Fin 3 → Nat :=
  let c2_i32_1080 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let c1_i32_1074 : BitVec 32 := 1#32
  let arg29 : BitVec 32 := Scf.iv v2280 c1_i32_1074 k0_t21
  let v2291 : BitVec 32 := Scalar.muli c2_i32_1080 arg29
  let v2292 : BitVec 32 := Scalar.addi v2291 c0_i32_1081
  let v2301 : Index := Scalar.indexCast v2292
  let c0_1089 : Index := 0#32
  let c0_1090 : Index := 0#32
  ![v2301.toNat, 0, 0]
def k0_mult245 (i : grid0.Coords) (k0_t21 : Fin (k0_t21_loop i).trips) : BitVec 32 :=
  let c2_i32_1094 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let c1_i32_1074 : BitVec 32 := 1#32
  let arg29 : BitVec 32 := Scf.iv v2280 c1_i32_1074 k0_t21
  let v2310 : BitVec 32 := Scalar.muli c2_i32_1094 arg29
  let c1_i32_1095 : BitVec 32 := 1#32
  let v2311 : BitVec 32 := Scalar.addi v2310 c1_i32_1095
  let c256_i32_1096 : BitVec 32 := 256#32
  let v2312 : BitVec 32 := Scalar.muli v2311 c256_i32_1096
  v2312
def k0_mult246 (i : grid0.Coords) (k0_t21 : Fin (k0_t21_loop i).trips) : BitVec 32 :=
  let c2_i32_1108 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let c1_i32_1074 : BitVec 32 := 1#32
  let arg29 : BitVec 32 := Scf.iv v2280 c1_i32_1074 k0_t21
  let v2329 : BitVec 32 := Scalar.muli c2_i32_1108 arg29
  let c0_i32_1109 : BitVec 32 := 0#32
  let v2330 : BitVec 32 := Scalar.addi v2329 c0_i32_1109
  let c256_i32_1110 : BitVec 32 := 256#32
  let v2331 : BitVec 32 := Scalar.muli v2330 c256_i32_1110
  v2331
def k0_mult247 (i : grid0.Coords) (k0_t21 : Fin (k0_t21_loop i).trips) : BitVec 32 :=
  let c2_i32_1122 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let c1_i32_1074 : BitVec 32 := 1#32
  let arg29 : BitVec 32 := Scf.iv v2280 c1_i32_1074 k0_t21
  let v2348 : BitVec 32 := Scalar.muli c2_i32_1122 arg29
  let c1_i32_1123 : BitVec 32 := 1#32
  let v2349 : BitVec 32 := Scalar.addi v2348 c1_i32_1123
  let c256_i32_1124 : BitVec 32 := 256#32
  let v2350 : BitVec 32 := Scalar.muli v2349 c256_i32_1124
  v2350
def k0_mult248 (i : grid0.Coords) (k0_t21 : Fin (k0_t21_loop i).trips) : BitVec 32 :=
  let c2_i32_1136 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let c1_i32_1074 : BitVec 32 := 1#32
  let arg29 : BitVec 32 := Scf.iv v2280 c1_i32_1074 k0_t21
  let v2367 : BitVec 32 := Scalar.muli c2_i32_1136 arg29
  let c0_i32_1137 : BitVec 32 := 0#32
  let v2368 : BitVec 32 := Scalar.addi v2367 c0_i32_1137
  let c256_i32_1138 : BitVec 32 := 256#32
  let v2369 : BitVec 32 := Scalar.muli v2368 c256_i32_1138
  v2369
def k0_mult249 (i : grid0.Coords) (k0_t21 : Fin (k0_t21_loop i).trips) : BitVec 32 :=
  let c2_i32_1150 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let c1_i32_1074 : BitVec 32 := 1#32
  let arg29 : BitVec 32 := Scf.iv v2280 c1_i32_1074 k0_t21
  let v2386 : BitVec 32 := Scalar.muli c2_i32_1150 arg29
  let c1_i32_1151 : BitVec 32 := 1#32
  let v2387 : BitVec 32 := Scalar.addi v2386 c1_i32_1151
  let c256_i32_1152 : BitVec 32 := 256#32
  let v2388 : BitVec 32 := Scalar.muli v2387 c256_i32_1152
  v2388
def k0_mult250 (i : grid0.Coords) (k0_t21 : Fin (k0_t21_loop i).trips) : BitVec 32 :=
  let c2_i32_1164 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let c1_i32_1074 : BitVec 32 := 1#32
  let arg29 : BitVec 32 := Scf.iv v2280 c1_i32_1074 k0_t21
  let v2405 : BitVec 32 := Scalar.muli c2_i32_1164 arg29
  let c0_i32_1165 : BitVec 32 := 0#32
  let v2406 : BitVec 32 := Scalar.addi v2405 c0_i32_1165
  let c256_i32_1166 : BitVec 32 := 256#32
  let v2407 : BitVec 32 := Scalar.muli v2406 c256_i32_1166
  v2407
def k0_mult251 (i : grid0.Coords) (k0_t21 : Fin (k0_t21_loop i).trips) : BitVec 32 :=
  let c2_i32_1178 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let c1_i32_1074 : BitVec 32 := 1#32
  let arg29 : BitVec 32 := Scf.iv v2280 c1_i32_1074 k0_t21
  let v2424 : BitVec 32 := Scalar.muli c2_i32_1178 arg29
  let c1_i32_1179 : BitVec 32 := 1#32
  let v2425 : BitVec 32 := Scalar.addi v2424 c1_i32_1179
  let c256_i32_1180 : BitVec 32 := 256#32
  let v2426 : BitVec 32 := Scalar.muli v2425 c256_i32_1180
  v2426
def k0_mult252 (i : grid0.Coords) (k0_t21 : Fin (k0_t21_loop i).trips) : BitVec 32 :=
  let c2_i32_1192 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let c1_i32_1074 : BitVec 32 := 1#32
  let arg29 : BitVec 32 := Scf.iv v2280 c1_i32_1074 k0_t21
  let v2443 : BitVec 32 := Scalar.muli c2_i32_1192 arg29
  let c0_i32_1193 : BitVec 32 := 0#32
  let v2444 : BitVec 32 := Scalar.addi v2443 c0_i32_1193
  let c256_i32_1194 : BitVec 32 := 256#32
  let v2445 : BitVec 32 := Scalar.muli v2444 c256_i32_1194
  v2445
def k0_mult253 (i : grid0.Coords) (k0_t21 : Fin (k0_t21_loop i).trips) : BitVec 32 :=
  let c2_i32_1206 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let c1_i32_1074 : BitVec 32 := 1#32
  let arg29 : BitVec 32 := Scf.iv v2280 c1_i32_1074 k0_t21
  let v2462 : BitVec 32 := Scalar.muli c2_i32_1206 arg29
  let c1_i32_1207 : BitVec 32 := 1#32
  let v2463 : BitVec 32 := Scalar.addi v2462 c1_i32_1207
  let c256_i32_1208 : BitVec 32 := 256#32
  let v2464 : BitVec 32 := Scalar.muli v2463 c256_i32_1208
  v2464
def k0_mult254 (i : grid0.Coords) (k0_t21 : Fin (k0_t21_loop i).trips) : BitVec 32 :=
  let c2_i32_1220 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let c1_i32_1074 : BitVec 32 := 1#32
  let arg29 : BitVec 32 := Scf.iv v2280 c1_i32_1074 k0_t21
  let v2481 : BitVec 32 := Scalar.muli c2_i32_1220 arg29
  let c0_i32_1221 : BitVec 32 := 0#32
  let v2482 : BitVec 32 := Scalar.addi v2481 c0_i32_1221
  let c256_i32_1222 : BitVec 32 := 256#32
  let v2483 : BitVec 32 := Scalar.muli v2482 c256_i32_1222
  v2483
def k0_mult255 (i : grid0.Coords) (k0_t21 : Fin (k0_t21_loop i).trips) : BitVec 32 :=
  let c2_i32_1234 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let c1_i32_1074 : BitVec 32 := 1#32
  let arg29 : BitVec 32 := Scf.iv v2280 c1_i32_1074 k0_t21
  let v2500 : BitVec 32 := Scalar.muli c2_i32_1234 arg29
  let c1_i32_1235 : BitVec 32 := 1#32
  let v2501 : BitVec 32 := Scalar.addi v2500 c1_i32_1235
  let c256_i32_1236 : BitVec 32 := 256#32
  let v2502 : BitVec 32 := Scalar.muli v2501 c256_i32_1236
  v2502
def k0_mult256 (i : grid0.Coords) (k0_t21 : Fin (k0_t21_loop i).trips) : BitVec 32 :=
  let c2_i32_1248 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let c1_i32_1074 : BitVec 32 := 1#32
  let arg29 : BitVec 32 := Scf.iv v2280 c1_i32_1074 k0_t21
  let v2519 : BitVec 32 := Scalar.muli c2_i32_1248 arg29
  let c0_i32_1249 : BitVec 32 := 0#32
  let v2520 : BitVec 32 := Scalar.addi v2519 c0_i32_1249
  let c256_i32_1250 : BitVec 32 := 256#32
  let v2521 : BitVec 32 := Scalar.muli v2520 c256_i32_1250
  v2521
def k0_mult257 (i : grid0.Coords) (k0_t21 : Fin (k0_t21_loop i).trips) : BitVec 32 :=
  let c2_i32_1262 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let c1_i32_1074 : BitVec 32 := 1#32
  let arg29 : BitVec 32 := Scf.iv v2280 c1_i32_1074 k0_t21
  let v2538 : BitVec 32 := Scalar.muli c2_i32_1262 arg29
  let c1_i32_1263 : BitVec 32 := 1#32
  let v2539 : BitVec 32 := Scalar.addi v2538 c1_i32_1263
  let c256_i32_1264 : BitVec 32 := 256#32
  let v2540 : BitVec 32 := Scalar.muli v2539 c256_i32_1264
  v2540
def k0_mult258 (i : grid0.Coords) (k0_t21 : Fin (k0_t21_loop i).trips) : BitVec 32 :=
  let c2_i32_1276 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let c1_i32_1074 : BitVec 32 := 1#32
  let arg29 : BitVec 32 := Scf.iv v2280 c1_i32_1074 k0_t21
  let v2557 : BitVec 32 := Scalar.muli c2_i32_1276 arg29
  let c0_i32_1277 : BitVec 32 := 0#32
  let v2558 : BitVec 32 := Scalar.addi v2557 c0_i32_1277
  let c256_i32_1278 : BitVec 32 := 256#32
  let v2559 : BitVec 32 := Scalar.muli v2558 c256_i32_1278
  v2559
def k0_mult259 (i : grid0.Coords) (k0_t21 : Fin (k0_t21_loop i).trips) : BitVec 32 :=
  let c2_i32_1290 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let c1_i32_1074 : BitVec 32 := 1#32
  let arg29 : BitVec 32 := Scf.iv v2280 c1_i32_1074 k0_t21
  let v2576 : BitVec 32 := Scalar.muli c2_i32_1290 arg29
  let c1_i32_1291 : BitVec 32 := 1#32
  let v2577 : BitVec 32 := Scalar.addi v2576 c1_i32_1291
  let c256_i32_1292 : BitVec 32 := 256#32
  let v2578 : BitVec 32 := Scalar.muli v2577 c256_i32_1292
  v2578
def k0_off802 (i : grid0.Coords) (k0_t21 : Fin (k0_t21_loop i).trips) (c0_i32_1305 : BitVec 32) : Fin 4 → Nat :=
  let c0_1309 : Index := 0#32
  let c2_i32_1304 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let c1_i32_1074 : BitVec 32 := 1#32
  let arg29 : BitVec 32 := Scf.iv v2280 c1_i32_1074 k0_t21
  let v2595 : BitVec 32 := Scalar.muli c2_i32_1304 arg29
  let v2596 : BitVec 32 := Scalar.addi v2595 c0_i32_1305
  let v2599 : Index := Scalar.indexCast v2596
  let c0_1310 : Index := 0#32
  let c0_1311 : Index := 0#32
  ![0, v2599.toNat, 0, 0]
@[reducible] def k0_t22_loop (i : grid0.Coords) : Scf.Loop 32 :=
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let v2281 : BitVec 32 := Scalar.subi v2144 v2280
  let c1_i32_1073 : BitVec 32 := 1#32
  let v2283 : BitVec 32 := Scalar.divsi v2281 c1_i32_1073
  let v2284 : BitVec 32 := Scalar.muli v2283 c1_i32_1073
  let v2285 : BitVec 32 := Scalar.addi v2280 v2284
  let v2282 : BitVec 32 := Scalar.addi v2280 v2281
  let c1_i32_1075 : BitVec 32 := 1#32
  ⟨v2285, v2282, c1_i32_1075⟩
def k0_mult260 (i : grid0.Coords) (k0_t22 : Fin (k0_t22_loop i).trips) : BitVec 32 :=
  let c2_i32_1080 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let v2281 : BitVec 32 := Scalar.subi v2144 v2280
  let c1_i32_1073 : BitVec 32 := 1#32
  let v2283 : BitVec 32 := Scalar.divsi v2281 c1_i32_1073
  let v2284 : BitVec 32 := Scalar.muli v2283 c1_i32_1073
  let v2285 : BitVec 32 := Scalar.addi v2280 v2284
  let c1_i32_1075 : BitVec 32 := 1#32
  let arg29 : BitVec 32 := Scf.iv v2285 c1_i32_1075 k0_t22
  let v2291 : BitVec 32 := Scalar.muli c2_i32_1080 arg29
  let c0_i32_1081 : BitVec 32 := 0#32
  let v2292 : BitVec 32 := Scalar.addi v2291 c0_i32_1081
  let c256_i32_1082 : BitVec 32 := 256#32
  let v2293 : BitVec 32 := Scalar.muli v2292 c256_i32_1082
  v2293
def k0_off803 (i : grid0.Coords) (k0_t22 : Fin (k0_t22_loop i).trips) (c0_i32_1081 : BitVec 32) : Fin 3 → Nat :=
  let c0_1083 : Index := 0#32
  let c2_i32_1080 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let v2281 : BitVec 32 := Scalar.subi v2144 v2280
  let c1_i32_1073 : BitVec 32 := 1#32
  let v2283 : BitVec 32 := Scalar.divsi v2281 c1_i32_1073
  let v2284 : BitVec 32 := Scalar.muli v2283 c1_i32_1073
  let v2285 : BitVec 32 := Scalar.addi v2280 v2284
  let c1_i32_1075 : BitVec 32 := 1#32
  let arg29 : BitVec 32 := Scf.iv v2285 c1_i32_1075 k0_t22
  let v2291 : BitVec 32 := Scalar.muli c2_i32_1080 arg29
  let v2292 : BitVec 32 := Scalar.addi v2291 c0_i32_1081
  let c256_i32_1082 : BitVec 32 := 256#32
  let v2293 : BitVec 32 := Scalar.muli v2292 c256_i32_1082
  let v2294 : BitVec 32 := v2293
  let v2295 : Index := Scalar.indexCast v2294
  let c0_1084 : Index := 0#32
  ![0, v2295.toNat, 0]
def k0_off804 (i : grid0.Coords) (k0_t22 : Fin (k0_t22_loop i).trips) (c0_i32_1081 : BitVec 32) : Fin 3 → Nat :=
  let c2_i32_1080 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let v2281 : BitVec 32 := Scalar.subi v2144 v2280
  let c1_i32_1073 : BitVec 32 := 1#32
  let v2283 : BitVec 32 := Scalar.divsi v2281 c1_i32_1073
  let v2284 : BitVec 32 := Scalar.muli v2283 c1_i32_1073
  let v2285 : BitVec 32 := Scalar.addi v2280 v2284
  let c1_i32_1075 : BitVec 32 := 1#32
  let arg29 : BitVec 32 := Scf.iv v2285 c1_i32_1075 k0_t22
  let v2291 : BitVec 32 := Scalar.muli c2_i32_1080 arg29
  let v2292 : BitVec 32 := Scalar.addi v2291 c0_i32_1081
  let v2301 : Index := Scalar.indexCast v2292
  let c0_1089 : Index := 0#32
  let c0_1090 : Index := 0#32
  ![v2301.toNat, 0, 0]
def k0_mult261 (i : grid0.Coords) (k0_t22 : Fin (k0_t22_loop i).trips) : BitVec 32 :=
  let c2_i32_1094 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let v2281 : BitVec 32 := Scalar.subi v2144 v2280
  let c1_i32_1073 : BitVec 32 := 1#32
  let v2283 : BitVec 32 := Scalar.divsi v2281 c1_i32_1073
  let v2284 : BitVec 32 := Scalar.muli v2283 c1_i32_1073
  let v2285 : BitVec 32 := Scalar.addi v2280 v2284
  let c1_i32_1075 : BitVec 32 := 1#32
  let arg29 : BitVec 32 := Scf.iv v2285 c1_i32_1075 k0_t22
  let v2310 : BitVec 32 := Scalar.muli c2_i32_1094 arg29
  let c1_i32_1095 : BitVec 32 := 1#32
  let v2311 : BitVec 32 := Scalar.addi v2310 c1_i32_1095
  let c256_i32_1096 : BitVec 32 := 256#32
  let v2312 : BitVec 32 := Scalar.muli v2311 c256_i32_1096
  v2312
def k0_mult262 (i : grid0.Coords) (k0_t22 : Fin (k0_t22_loop i).trips) : BitVec 32 :=
  let c2_i32_1108 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let v2281 : BitVec 32 := Scalar.subi v2144 v2280
  let c1_i32_1073 : BitVec 32 := 1#32
  let v2283 : BitVec 32 := Scalar.divsi v2281 c1_i32_1073
  let v2284 : BitVec 32 := Scalar.muli v2283 c1_i32_1073
  let v2285 : BitVec 32 := Scalar.addi v2280 v2284
  let c1_i32_1075 : BitVec 32 := 1#32
  let arg29 : BitVec 32 := Scf.iv v2285 c1_i32_1075 k0_t22
  let v2329 : BitVec 32 := Scalar.muli c2_i32_1108 arg29
  let c0_i32_1109 : BitVec 32 := 0#32
  let v2330 : BitVec 32 := Scalar.addi v2329 c0_i32_1109
  let c256_i32_1110 : BitVec 32 := 256#32
  let v2331 : BitVec 32 := Scalar.muli v2330 c256_i32_1110
  v2331
def k0_mult263 (i : grid0.Coords) (k0_t22 : Fin (k0_t22_loop i).trips) : BitVec 32 :=
  let c2_i32_1122 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let v2281 : BitVec 32 := Scalar.subi v2144 v2280
  let c1_i32_1073 : BitVec 32 := 1#32
  let v2283 : BitVec 32 := Scalar.divsi v2281 c1_i32_1073
  let v2284 : BitVec 32 := Scalar.muli v2283 c1_i32_1073
  let v2285 : BitVec 32 := Scalar.addi v2280 v2284
  let c1_i32_1075 : BitVec 32 := 1#32
  let arg29 : BitVec 32 := Scf.iv v2285 c1_i32_1075 k0_t22
  let v2348 : BitVec 32 := Scalar.muli c2_i32_1122 arg29
  let c1_i32_1123 : BitVec 32 := 1#32
  let v2349 : BitVec 32 := Scalar.addi v2348 c1_i32_1123
  let c256_i32_1124 : BitVec 32 := 256#32
  let v2350 : BitVec 32 := Scalar.muli v2349 c256_i32_1124
  v2350
def k0_mult264 (i : grid0.Coords) (k0_t22 : Fin (k0_t22_loop i).trips) : BitVec 32 :=
  let c2_i32_1136 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let v2281 : BitVec 32 := Scalar.subi v2144 v2280
  let c1_i32_1073 : BitVec 32 := 1#32
  let v2283 : BitVec 32 := Scalar.divsi v2281 c1_i32_1073
  let v2284 : BitVec 32 := Scalar.muli v2283 c1_i32_1073
  let v2285 : BitVec 32 := Scalar.addi v2280 v2284
  let c1_i32_1075 : BitVec 32 := 1#32
  let arg29 : BitVec 32 := Scf.iv v2285 c1_i32_1075 k0_t22
  let v2367 : BitVec 32 := Scalar.muli c2_i32_1136 arg29
  let c0_i32_1137 : BitVec 32 := 0#32
  let v2368 : BitVec 32 := Scalar.addi v2367 c0_i32_1137
  let c256_i32_1138 : BitVec 32 := 256#32
  let v2369 : BitVec 32 := Scalar.muli v2368 c256_i32_1138
  v2369
def k0_mult265 (i : grid0.Coords) (k0_t22 : Fin (k0_t22_loop i).trips) : BitVec 32 :=
  let c2_i32_1150 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let v2281 : BitVec 32 := Scalar.subi v2144 v2280
  let c1_i32_1073 : BitVec 32 := 1#32
  let v2283 : BitVec 32 := Scalar.divsi v2281 c1_i32_1073
  let v2284 : BitVec 32 := Scalar.muli v2283 c1_i32_1073
  let v2285 : BitVec 32 := Scalar.addi v2280 v2284
  let c1_i32_1075 : BitVec 32 := 1#32
  let arg29 : BitVec 32 := Scf.iv v2285 c1_i32_1075 k0_t22
  let v2386 : BitVec 32 := Scalar.muli c2_i32_1150 arg29
  let c1_i32_1151 : BitVec 32 := 1#32
  let v2387 : BitVec 32 := Scalar.addi v2386 c1_i32_1151
  let c256_i32_1152 : BitVec 32 := 256#32
  let v2388 : BitVec 32 := Scalar.muli v2387 c256_i32_1152
  v2388
def k0_mult266 (i : grid0.Coords) (k0_t22 : Fin (k0_t22_loop i).trips) : BitVec 32 :=
  let c2_i32_1164 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let v2281 : BitVec 32 := Scalar.subi v2144 v2280
  let c1_i32_1073 : BitVec 32 := 1#32
  let v2283 : BitVec 32 := Scalar.divsi v2281 c1_i32_1073
  let v2284 : BitVec 32 := Scalar.muli v2283 c1_i32_1073
  let v2285 : BitVec 32 := Scalar.addi v2280 v2284
  let c1_i32_1075 : BitVec 32 := 1#32
  let arg29 : BitVec 32 := Scf.iv v2285 c1_i32_1075 k0_t22
  let v2405 : BitVec 32 := Scalar.muli c2_i32_1164 arg29
  let c0_i32_1165 : BitVec 32 := 0#32
  let v2406 : BitVec 32 := Scalar.addi v2405 c0_i32_1165
  let c256_i32_1166 : BitVec 32 := 256#32
  let v2407 : BitVec 32 := Scalar.muli v2406 c256_i32_1166
  v2407
def k0_mult267 (i : grid0.Coords) (k0_t22 : Fin (k0_t22_loop i).trips) : BitVec 32 :=
  let c2_i32_1178 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let v2281 : BitVec 32 := Scalar.subi v2144 v2280
  let c1_i32_1073 : BitVec 32 := 1#32
  let v2283 : BitVec 32 := Scalar.divsi v2281 c1_i32_1073
  let v2284 : BitVec 32 := Scalar.muli v2283 c1_i32_1073
  let v2285 : BitVec 32 := Scalar.addi v2280 v2284
  let c1_i32_1075 : BitVec 32 := 1#32
  let arg29 : BitVec 32 := Scf.iv v2285 c1_i32_1075 k0_t22
  let v2424 : BitVec 32 := Scalar.muli c2_i32_1178 arg29
  let c1_i32_1179 : BitVec 32 := 1#32
  let v2425 : BitVec 32 := Scalar.addi v2424 c1_i32_1179
  let c256_i32_1180 : BitVec 32 := 256#32
  let v2426 : BitVec 32 := Scalar.muli v2425 c256_i32_1180
  v2426
def k0_mult268 (i : grid0.Coords) (k0_t22 : Fin (k0_t22_loop i).trips) : BitVec 32 :=
  let c2_i32_1192 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let v2281 : BitVec 32 := Scalar.subi v2144 v2280
  let c1_i32_1073 : BitVec 32 := 1#32
  let v2283 : BitVec 32 := Scalar.divsi v2281 c1_i32_1073
  let v2284 : BitVec 32 := Scalar.muli v2283 c1_i32_1073
  let v2285 : BitVec 32 := Scalar.addi v2280 v2284
  let c1_i32_1075 : BitVec 32 := 1#32
  let arg29 : BitVec 32 := Scf.iv v2285 c1_i32_1075 k0_t22
  let v2443 : BitVec 32 := Scalar.muli c2_i32_1192 arg29
  let c0_i32_1193 : BitVec 32 := 0#32
  let v2444 : BitVec 32 := Scalar.addi v2443 c0_i32_1193
  let c256_i32_1194 : BitVec 32 := 256#32
  let v2445 : BitVec 32 := Scalar.muli v2444 c256_i32_1194
  v2445
def k0_mult269 (i : grid0.Coords) (k0_t22 : Fin (k0_t22_loop i).trips) : BitVec 32 :=
  let c2_i32_1206 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let v2281 : BitVec 32 := Scalar.subi v2144 v2280
  let c1_i32_1073 : BitVec 32 := 1#32
  let v2283 : BitVec 32 := Scalar.divsi v2281 c1_i32_1073
  let v2284 : BitVec 32 := Scalar.muli v2283 c1_i32_1073
  let v2285 : BitVec 32 := Scalar.addi v2280 v2284
  let c1_i32_1075 : BitVec 32 := 1#32
  let arg29 : BitVec 32 := Scf.iv v2285 c1_i32_1075 k0_t22
  let v2462 : BitVec 32 := Scalar.muli c2_i32_1206 arg29
  let c1_i32_1207 : BitVec 32 := 1#32
  let v2463 : BitVec 32 := Scalar.addi v2462 c1_i32_1207
  let c256_i32_1208 : BitVec 32 := 256#32
  let v2464 : BitVec 32 := Scalar.muli v2463 c256_i32_1208
  v2464
def k0_mult270 (i : grid0.Coords) (k0_t22 : Fin (k0_t22_loop i).trips) : BitVec 32 :=
  let c2_i32_1220 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let v2281 : BitVec 32 := Scalar.subi v2144 v2280
  let c1_i32_1073 : BitVec 32 := 1#32
  let v2283 : BitVec 32 := Scalar.divsi v2281 c1_i32_1073
  let v2284 : BitVec 32 := Scalar.muli v2283 c1_i32_1073
  let v2285 : BitVec 32 := Scalar.addi v2280 v2284
  let c1_i32_1075 : BitVec 32 := 1#32
  let arg29 : BitVec 32 := Scf.iv v2285 c1_i32_1075 k0_t22
  let v2481 : BitVec 32 := Scalar.muli c2_i32_1220 arg29
  let c0_i32_1221 : BitVec 32 := 0#32
  let v2482 : BitVec 32 := Scalar.addi v2481 c0_i32_1221
  let c256_i32_1222 : BitVec 32 := 256#32
  let v2483 : BitVec 32 := Scalar.muli v2482 c256_i32_1222
  v2483
def k0_mult271 (i : grid0.Coords) (k0_t22 : Fin (k0_t22_loop i).trips) : BitVec 32 :=
  let c2_i32_1234 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let v2281 : BitVec 32 := Scalar.subi v2144 v2280
  let c1_i32_1073 : BitVec 32 := 1#32
  let v2283 : BitVec 32 := Scalar.divsi v2281 c1_i32_1073
  let v2284 : BitVec 32 := Scalar.muli v2283 c1_i32_1073
  let v2285 : BitVec 32 := Scalar.addi v2280 v2284
  let c1_i32_1075 : BitVec 32 := 1#32
  let arg29 : BitVec 32 := Scf.iv v2285 c1_i32_1075 k0_t22
  let v2500 : BitVec 32 := Scalar.muli c2_i32_1234 arg29
  let c1_i32_1235 : BitVec 32 := 1#32
  let v2501 : BitVec 32 := Scalar.addi v2500 c1_i32_1235
  let c256_i32_1236 : BitVec 32 := 256#32
  let v2502 : BitVec 32 := Scalar.muli v2501 c256_i32_1236
  v2502
def k0_mult272 (i : grid0.Coords) (k0_t22 : Fin (k0_t22_loop i).trips) : BitVec 32 :=
  let c2_i32_1248 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let v2281 : BitVec 32 := Scalar.subi v2144 v2280
  let c1_i32_1073 : BitVec 32 := 1#32
  let v2283 : BitVec 32 := Scalar.divsi v2281 c1_i32_1073
  let v2284 : BitVec 32 := Scalar.muli v2283 c1_i32_1073
  let v2285 : BitVec 32 := Scalar.addi v2280 v2284
  let c1_i32_1075 : BitVec 32 := 1#32
  let arg29 : BitVec 32 := Scf.iv v2285 c1_i32_1075 k0_t22
  let v2519 : BitVec 32 := Scalar.muli c2_i32_1248 arg29
  let c0_i32_1249 : BitVec 32 := 0#32
  let v2520 : BitVec 32 := Scalar.addi v2519 c0_i32_1249
  let c256_i32_1250 : BitVec 32 := 256#32
  let v2521 : BitVec 32 := Scalar.muli v2520 c256_i32_1250
  v2521
def k0_mult273 (i : grid0.Coords) (k0_t22 : Fin (k0_t22_loop i).trips) : BitVec 32 :=
  let c2_i32_1262 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let v2281 : BitVec 32 := Scalar.subi v2144 v2280
  let c1_i32_1073 : BitVec 32 := 1#32
  let v2283 : BitVec 32 := Scalar.divsi v2281 c1_i32_1073
  let v2284 : BitVec 32 := Scalar.muli v2283 c1_i32_1073
  let v2285 : BitVec 32 := Scalar.addi v2280 v2284
  let c1_i32_1075 : BitVec 32 := 1#32
  let arg29 : BitVec 32 := Scf.iv v2285 c1_i32_1075 k0_t22
  let v2538 : BitVec 32 := Scalar.muli c2_i32_1262 arg29
  let c1_i32_1263 : BitVec 32 := 1#32
  let v2539 : BitVec 32 := Scalar.addi v2538 c1_i32_1263
  let c256_i32_1264 : BitVec 32 := 256#32
  let v2540 : BitVec 32 := Scalar.muli v2539 c256_i32_1264
  v2540
def k0_mult274 (i : grid0.Coords) (k0_t22 : Fin (k0_t22_loop i).trips) : BitVec 32 :=
  let c2_i32_1276 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let v2281 : BitVec 32 := Scalar.subi v2144 v2280
  let c1_i32_1073 : BitVec 32 := 1#32
  let v2283 : BitVec 32 := Scalar.divsi v2281 c1_i32_1073
  let v2284 : BitVec 32 := Scalar.muli v2283 c1_i32_1073
  let v2285 : BitVec 32 := Scalar.addi v2280 v2284
  let c1_i32_1075 : BitVec 32 := 1#32
  let arg29 : BitVec 32 := Scf.iv v2285 c1_i32_1075 k0_t22
  let v2557 : BitVec 32 := Scalar.muli c2_i32_1276 arg29
  let c0_i32_1277 : BitVec 32 := 0#32
  let v2558 : BitVec 32 := Scalar.addi v2557 c0_i32_1277
  let c256_i32_1278 : BitVec 32 := 256#32
  let v2559 : BitVec 32 := Scalar.muli v2558 c256_i32_1278
  v2559
def k0_mult275 (i : grid0.Coords) (k0_t22 : Fin (k0_t22_loop i).trips) : BitVec 32 :=
  let c2_i32_1290 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let v2281 : BitVec 32 := Scalar.subi v2144 v2280
  let c1_i32_1073 : BitVec 32 := 1#32
  let v2283 : BitVec 32 := Scalar.divsi v2281 c1_i32_1073
  let v2284 : BitVec 32 := Scalar.muli v2283 c1_i32_1073
  let v2285 : BitVec 32 := Scalar.addi v2280 v2284
  let c1_i32_1075 : BitVec 32 := 1#32
  let arg29 : BitVec 32 := Scf.iv v2285 c1_i32_1075 k0_t22
  let v2576 : BitVec 32 := Scalar.muli c2_i32_1290 arg29
  let c1_i32_1291 : BitVec 32 := 1#32
  let v2577 : BitVec 32 := Scalar.addi v2576 c1_i32_1291
  let c256_i32_1292 : BitVec 32 := 256#32
  let v2578 : BitVec 32 := Scalar.muli v2577 c256_i32_1292
  v2578
def k0_off805 (i : grid0.Coords) (k0_t22 : Fin (k0_t22_loop i).trips) (c0_i32_1305 : BitVec 32) : Fin 4 → Nat :=
  let c0_1309 : Index := 0#32
  let c2_i32_1304 : BitVec 32 := 2#32
  let c2_i32_1071 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c0_i32_1060 : BitVec 32 := 0#32
  let v2259 : BitVec 1 := Scalar.cmpi .sgt v2144 c0_i32_1060
  let v2260 : BitVec 32 := Scalar.extui v2259
  let c0_i32_1061 : BitVec 32 := 0#32
  let v2261 : BitVec 1 := Scalar.cmpi .slt v2144 c0_i32_1061
  let v2262 : BitVec 32 := Scalar.extui v2261
  let v2263 : BitVec 32 := Scalar.subi v2260 v2262
  let c2_i32_1059 : BitVec 32 := 2#32
  let c0_i32_1062 : BitVec 32 := 0#32
  let v2264 : BitVec 1 := Scalar.cmpi .sgt c2_i32_1059 c0_i32_1062
  let v2265 : BitVec 32 := Scalar.extui v2264
  let c0_i32_1063 : BitVec 32 := 0#32
  let v2266 : BitVec 1 := Scalar.cmpi .slt c2_i32_1059 c0_i32_1063
  let v2267 : BitVec 32 := Scalar.extui v2266
  let v2268 : BitVec 32 := Scalar.subi v2265 v2267
  let v2269 : BitVec 1 := Scalar.cmpi .ne v2263 v2268
  let v2270 : BitVec 32 := Scalar.remsi v2144 c2_i32_1059
  let c0_i32_1064 : BitVec 32 := 0#32
  let v2271 : BitVec 1 := Scalar.cmpi .ne v2270 c0_i32_1064
  let v2272 : BitVec 1 := Scalar.andi v2269 v2271
  let v2258 : BitVec 32 := Scalar.divsi v2144 c2_i32_1059
  let c1_i32_1065 : BitVec 32 := 1#32
  let v2273 : BitVec 32 := Scalar.subi v2258 c1_i32_1065
  let v2274 : BitVec 32 := Scalar.select v2272 v2273 v2258
  let v2280 : BitVec 32 := Scalar.muli c2_i32_1071 v2274
  let v2281 : BitVec 32 := Scalar.subi v2144 v2280
  let c1_i32_1073 : BitVec 32 := 1#32
  let v2283 : BitVec 32 := Scalar.divsi v2281 c1_i32_1073
  let v2284 : BitVec 32 := Scalar.muli v2283 c1_i32_1073
  let v2285 : BitVec 32 := Scalar.addi v2280 v2284
  let c1_i32_1075 : BitVec 32 := 1#32
  let arg29 : BitVec 32 := Scf.iv v2285 c1_i32_1075 k0_t22
  let v2595 : BitVec 32 := Scalar.muli c2_i32_1304 arg29
  let v2596 : BitVec 32 := Scalar.addi v2595 c0_i32_1305
  let v2599 : Index := Scalar.indexCast v2596
  let c0_1310 : Index := 0#32
  let c0_1311 : Index := 0#32
  ![0, v2599.toNat, 0, 0]
@[reducible] def k0_t23_loop (i : grid0.Coords) : Scf.Loop 32 :=
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2286 : BitVec 32 := Scalar.subi v901 v2144
  let c1_i32_1077 : BitVec 32 := 1#32
  let v2288 : BitVec 32 := Scalar.divsi v2286 c1_i32_1077
  let v2289 : BitVec 32 := Scalar.muli v2288 c1_i32_1077
  let v2290 : BitVec 32 := Scalar.addi v2144 v2289
  let c1_i32_1078 : BitVec 32 := 1#32
  ⟨v2144, v2290, c1_i32_1078⟩
def k0_mult276 (i : grid0.Coords) (k0_t23 : Fin (k0_t23_loop i).trips) : BitVec 32 :=
  let c2_i32_1080 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32_1078 : BitVec 32 := 1#32
  let arg29 : BitVec 32 := Scf.iv v2144 c1_i32_1078 k0_t23
  let v2291 : BitVec 32 := Scalar.muli c2_i32_1080 arg29
  let c0_i32_1081 : BitVec 32 := 0#32
  let v2292 : BitVec 32 := Scalar.addi v2291 c0_i32_1081
  let c256_i32_1082 : BitVec 32 := 256#32
  let v2293 : BitVec 32 := Scalar.muli v2292 c256_i32_1082
  v2293
def k0_off806 (i : grid0.Coords) (k0_t23 : Fin (k0_t23_loop i).trips) (c0_i32_1081 : BitVec 32) : Fin 3 → Nat :=
  let c0_1083 : Index := 0#32
  let c2_i32_1080 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32_1078 : BitVec 32 := 1#32
  let arg29 : BitVec 32 := Scf.iv v2144 c1_i32_1078 k0_t23
  let v2291 : BitVec 32 := Scalar.muli c2_i32_1080 arg29
  let v2292 : BitVec 32 := Scalar.addi v2291 c0_i32_1081
  let c256_i32_1082 : BitVec 32 := 256#32
  let v2293 : BitVec 32 := Scalar.muli v2292 c256_i32_1082
  let v2294 : BitVec 32 := v2293
  let v2295 : Index := Scalar.indexCast v2294
  let c0_1084 : Index := 0#32
  ![0, v2295.toNat, 0]
def k0_off807 (i : grid0.Coords) (k0_t23 : Fin (k0_t23_loop i).trips) (c0_i32_1091 : BitVec 32) (c0_i32_1081 : BitVec 32) : Fin 3 → Nat :=
  let c2_i32_1090 : BitVec 32 := 2#32
  let c0_i32_1089 : BitVec 32 := 0#32
  let arg1 : BitVec 32 := BitVec.ofNat 32 (i 1).val
  let c2_i32_1080 : BitVec 32 := 2#32
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32_1078 : BitVec 32 := 1#32
  let arg29 : BitVec 32 := Scf.iv v2144 c1_i32_1078 k0_t23
  let v2291 : BitVec 32 := Scalar.muli c2_i32_1080 arg29
  let v2292 : BitVec 32 := Scalar.addi v2291 c0_i32_1081
  let v2301 : BitVec 32 := Scalar.subi arg1 v2292
  let v2302 : BitVec 32 := Scalar.maxsi c0_i32_1089 v2301
  let v2303 : BitVec 32 := Scalar.minsi c2_i32_1090 v2302
  let v2304 : BitVec 32 := Scalar.addi c0_i32_1091 v2303
  let v2305 : Index := Scalar.indexCast v2304
  let c0_1092 : Index := 0#32
  let c0_1093 : Index := 0#32
  ![v2305.toNat, 0, 0]
def k0_off808 (i : grid0.Coords) (k0_t23 : Fin (k0_t23_loop i).trips) (c0_i32_1081 : BitVec 32) : Fin 3 → Nat :=
  let c2_i32_1080 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32_1078 : BitVec 32 := 1#32
  let arg29 : BitVec 32 := Scf.iv v2144 c1_i32_1078 k0_t23
  let v2291 : BitVec 32 := Scalar.muli c2_i32_1080 arg29
  let v2292 : BitVec 32 := Scalar.addi v2291 c0_i32_1081
  let v2309 : Index := Scalar.indexCast v2292
  let c0_1094 : Index := 0#32
  let c0_1095 : Index := 0#32
  ![v2309.toNat, 0, 0]
def k0_mult277 (i : grid0.Coords) (k0_t23 : Fin (k0_t23_loop i).trips) : BitVec 32 :=
  let c2_i32_1099 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32_1078 : BitVec 32 := 1#32
  let arg29 : BitVec 32 := Scf.iv v2144 c1_i32_1078 k0_t23
  let v2318 : BitVec 32 := Scalar.muli c2_i32_1099 arg29
  let c1_i32_1100 : BitVec 32 := 1#32
  let v2319 : BitVec 32 := Scalar.addi v2318 c1_i32_1100
  let c256_i32_1101 : BitVec 32 := 256#32
  let v2320 : BitVec 32 := Scalar.muli v2319 c256_i32_1101
  v2320
def k0_mult278 (i : grid0.Coords) (k0_t23 : Fin (k0_t23_loop i).trips) : BitVec 32 :=
  let c2_i32_1118 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32_1078 : BitVec 32 := 1#32
  let arg29 : BitVec 32 := Scf.iv v2144 c1_i32_1078 k0_t23
  let v2345 : BitVec 32 := Scalar.muli c2_i32_1118 arg29
  let c0_i32_1119 : BitVec 32 := 0#32
  let v2346 : BitVec 32 := Scalar.addi v2345 c0_i32_1119
  let c256_i32_1120 : BitVec 32 := 256#32
  let v2347 : BitVec 32 := Scalar.muli v2346 c256_i32_1120
  v2347
def k0_mult279 (i : grid0.Coords) (k0_t23 : Fin (k0_t23_loop i).trips) : BitVec 32 :=
  let c2_i32_1137 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32_1078 : BitVec 32 := 1#32
  let arg29 : BitVec 32 := Scf.iv v2144 c1_i32_1078 k0_t23
  let v2372 : BitVec 32 := Scalar.muli c2_i32_1137 arg29
  let c1_i32_1138 : BitVec 32 := 1#32
  let v2373 : BitVec 32 := Scalar.addi v2372 c1_i32_1138
  let c256_i32_1139 : BitVec 32 := 256#32
  let v2374 : BitVec 32 := Scalar.muli v2373 c256_i32_1139
  v2374
def k0_mult280 (i : grid0.Coords) (k0_t23 : Fin (k0_t23_loop i).trips) : BitVec 32 :=
  let c2_i32_1156 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32_1078 : BitVec 32 := 1#32
  let arg29 : BitVec 32 := Scf.iv v2144 c1_i32_1078 k0_t23
  let v2399 : BitVec 32 := Scalar.muli c2_i32_1156 arg29
  let c0_i32_1157 : BitVec 32 := 0#32
  let v2400 : BitVec 32 := Scalar.addi v2399 c0_i32_1157
  let c256_i32_1158 : BitVec 32 := 256#32
  let v2401 : BitVec 32 := Scalar.muli v2400 c256_i32_1158
  v2401
def k0_mult281 (i : grid0.Coords) (k0_t23 : Fin (k0_t23_loop i).trips) : BitVec 32 :=
  let c2_i32_1175 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32_1078 : BitVec 32 := 1#32
  let arg29 : BitVec 32 := Scf.iv v2144 c1_i32_1078 k0_t23
  let v2426 : BitVec 32 := Scalar.muli c2_i32_1175 arg29
  let c1_i32_1176 : BitVec 32 := 1#32
  let v2427 : BitVec 32 := Scalar.addi v2426 c1_i32_1176
  let c256_i32_1177 : BitVec 32 := 256#32
  let v2428 : BitVec 32 := Scalar.muli v2427 c256_i32_1177
  v2428
def k0_mult282 (i : grid0.Coords) (k0_t23 : Fin (k0_t23_loop i).trips) : BitVec 32 :=
  let c2_i32_1194 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32_1078 : BitVec 32 := 1#32
  let arg29 : BitVec 32 := Scf.iv v2144 c1_i32_1078 k0_t23
  let v2453 : BitVec 32 := Scalar.muli c2_i32_1194 arg29
  let c0_i32_1195 : BitVec 32 := 0#32
  let v2454 : BitVec 32 := Scalar.addi v2453 c0_i32_1195
  let c256_i32_1196 : BitVec 32 := 256#32
  let v2455 : BitVec 32 := Scalar.muli v2454 c256_i32_1196
  v2455
def k0_mult283 (i : grid0.Coords) (k0_t23 : Fin (k0_t23_loop i).trips) : BitVec 32 :=
  let c2_i32_1213 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32_1078 : BitVec 32 := 1#32
  let arg29 : BitVec 32 := Scf.iv v2144 c1_i32_1078 k0_t23
  let v2480 : BitVec 32 := Scalar.muli c2_i32_1213 arg29
  let c1_i32_1214 : BitVec 32 := 1#32
  let v2481 : BitVec 32 := Scalar.addi v2480 c1_i32_1214
  let c256_i32_1215 : BitVec 32 := 256#32
  let v2482 : BitVec 32 := Scalar.muli v2481 c256_i32_1215
  v2482
def k0_mult284 (i : grid0.Coords) (k0_t23 : Fin (k0_t23_loop i).trips) : BitVec 32 :=
  let c2_i32_1232 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32_1078 : BitVec 32 := 1#32
  let arg29 : BitVec 32 := Scf.iv v2144 c1_i32_1078 k0_t23
  let v2507 : BitVec 32 := Scalar.muli c2_i32_1232 arg29
  let c0_i32_1233 : BitVec 32 := 0#32
  let v2508 : BitVec 32 := Scalar.addi v2507 c0_i32_1233
  let c256_i32_1234 : BitVec 32 := 256#32
  let v2509 : BitVec 32 := Scalar.muli v2508 c256_i32_1234
  v2509
def k0_mult285 (i : grid0.Coords) (k0_t23 : Fin (k0_t23_loop i).trips) : BitVec 32 :=
  let c2_i32_1251 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32_1078 : BitVec 32 := 1#32
  let arg29 : BitVec 32 := Scf.iv v2144 c1_i32_1078 k0_t23
  let v2534 : BitVec 32 := Scalar.muli c2_i32_1251 arg29
  let c1_i32_1252 : BitVec 32 := 1#32
  let v2535 : BitVec 32 := Scalar.addi v2534 c1_i32_1252
  let c256_i32_1253 : BitVec 32 := 256#32
  let v2536 : BitVec 32 := Scalar.muli v2535 c256_i32_1253
  v2536
def k0_mult286 (i : grid0.Coords) (k0_t23 : Fin (k0_t23_loop i).trips) : BitVec 32 :=
  let c2_i32_1270 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32_1078 : BitVec 32 := 1#32
  let arg29 : BitVec 32 := Scf.iv v2144 c1_i32_1078 k0_t23
  let v2561 : BitVec 32 := Scalar.muli c2_i32_1270 arg29
  let c0_i32_1271 : BitVec 32 := 0#32
  let v2562 : BitVec 32 := Scalar.addi v2561 c0_i32_1271
  let c256_i32_1272 : BitVec 32 := 256#32
  let v2563 : BitVec 32 := Scalar.muli v2562 c256_i32_1272
  v2563
def k0_mult287 (i : grid0.Coords) (k0_t23 : Fin (k0_t23_loop i).trips) : BitVec 32 :=
  let c2_i32_1289 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32_1078 : BitVec 32 := 1#32
  let arg29 : BitVec 32 := Scf.iv v2144 c1_i32_1078 k0_t23
  let v2588 : BitVec 32 := Scalar.muli c2_i32_1289 arg29
  let c1_i32_1290 : BitVec 32 := 1#32
  let v2589 : BitVec 32 := Scalar.addi v2588 c1_i32_1290
  let c256_i32_1291 : BitVec 32 := 256#32
  let v2590 : BitVec 32 := Scalar.muli v2589 c256_i32_1291
  v2590
def k0_mult288 (i : grid0.Coords) (k0_t23 : Fin (k0_t23_loop i).trips) : BitVec 32 :=
  let c2_i32_1308 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32_1078 : BitVec 32 := 1#32
  let arg29 : BitVec 32 := Scf.iv v2144 c1_i32_1078 k0_t23
  let v2615 : BitVec 32 := Scalar.muli c2_i32_1308 arg29
  let c0_i32_1309 : BitVec 32 := 0#32
  let v2616 : BitVec 32 := Scalar.addi v2615 c0_i32_1309
  let c256_i32_1310 : BitVec 32 := 256#32
  let v2617 : BitVec 32 := Scalar.muli v2616 c256_i32_1310
  v2617
def k0_mult289 (i : grid0.Coords) (k0_t23 : Fin (k0_t23_loop i).trips) : BitVec 32 :=
  let c2_i32_1326 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32_1078 : BitVec 32 := 1#32
  let arg29 : BitVec 32 := Scf.iv v2144 c1_i32_1078 k0_t23
  let v2642 : BitVec 32 := Scalar.muli c2_i32_1326 arg29
  let c1_i32_1327 : BitVec 32 := 1#32
  let v2643 : BitVec 32 := Scalar.addi v2642 c1_i32_1327
  let c256_i32_1328 : BitVec 32 := 256#32
  let v2644 : BitVec 32 := Scalar.muli v2643 c256_i32_1328
  v2644
def k0_mult290 (i : grid0.Coords) (k0_t23 : Fin (k0_t23_loop i).trips) : BitVec 32 :=
  let c2_i32_1345 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32_1078 : BitVec 32 := 1#32
  let arg29 : BitVec 32 := Scf.iv v2144 c1_i32_1078 k0_t23
  let v2669 : BitVec 32 := Scalar.muli c2_i32_1345 arg29
  let c0_i32_1346 : BitVec 32 := 0#32
  let v2670 : BitVec 32 := Scalar.addi v2669 c0_i32_1346
  let c256_i32_1347 : BitVec 32 := 256#32
  let v2671 : BitVec 32 := Scalar.muli v2670 c256_i32_1347
  v2671
def k0_mult291 (i : grid0.Coords) (k0_t23 : Fin (k0_t23_loop i).trips) : BitVec 32 :=
  let c2_i32_1363 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32_1078 : BitVec 32 := 1#32
  let arg29 : BitVec 32 := Scf.iv v2144 c1_i32_1078 k0_t23
  let v2696 : BitVec 32 := Scalar.muli c2_i32_1363 arg29
  let c1_i32_1364 : BitVec 32 := 1#32
  let v2697 : BitVec 32 := Scalar.addi v2696 c1_i32_1364
  let c256_i32_1365 : BitVec 32 := 256#32
  let v2698 : BitVec 32 := Scalar.muli v2697 c256_i32_1365
  v2698
def k0_off809 (i : grid0.Coords) (k0_t23 : Fin (k0_t23_loop i).trips) (c0_i32_1383 : BitVec 32) : Fin 4 → Nat :=
  let c0_1387 : Index := 0#32
  let c2_i32_1382 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32_1078 : BitVec 32 := 1#32
  let arg29 : BitVec 32 := Scf.iv v2144 c1_i32_1078 k0_t23
  let v2723 : BitVec 32 := Scalar.muli c2_i32_1382 arg29
  let v2724 : BitVec 32 := Scalar.addi v2723 c0_i32_1383
  let v2727 : Index := Scalar.indexCast v2724
  let c0_1388 : Index := 0#32
  let c0_1389 : Index := 0#32
  ![0, v2727.toNat, 0, 0]
@[reducible] def k0_t24_loop (i : grid0.Coords) : Scf.Loop 32 :=
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2286 : BitVec 32 := Scalar.subi v901 v2144
  let c1_i32_1077 : BitVec 32 := 1#32
  let v2288 : BitVec 32 := Scalar.divsi v2286 c1_i32_1077
  let v2289 : BitVec 32 := Scalar.muli v2288 c1_i32_1077
  let v2290 : BitVec 32 := Scalar.addi v2144 v2289
  let v2287 : BitVec 32 := Scalar.addi v2144 v2286
  let c1_i32_1079 : BitVec 32 := 1#32
  ⟨v2290, v2287, c1_i32_1079⟩
def k0_mult292 (i : grid0.Coords) (k0_t24 : Fin (k0_t24_loop i).trips) : BitVec 32 :=
  let c2_i32_1080 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2286 : BitVec 32 := Scalar.subi v901 v2144
  let c1_i32_1077 : BitVec 32 := 1#32
  let v2288 : BitVec 32 := Scalar.divsi v2286 c1_i32_1077
  let v2289 : BitVec 32 := Scalar.muli v2288 c1_i32_1077
  let v2290 : BitVec 32 := Scalar.addi v2144 v2289
  let c1_i32_1079 : BitVec 32 := 1#32
  let arg29 : BitVec 32 := Scf.iv v2290 c1_i32_1079 k0_t24
  let v2291 : BitVec 32 := Scalar.muli c2_i32_1080 arg29
  let c0_i32_1081 : BitVec 32 := 0#32
  let v2292 : BitVec 32 := Scalar.addi v2291 c0_i32_1081
  let c256_i32_1082 : BitVec 32 := 256#32
  let v2293 : BitVec 32 := Scalar.muli v2292 c256_i32_1082
  v2293
def k0_off810 (i : grid0.Coords) (k0_t24 : Fin (k0_t24_loop i).trips) (c0_i32_1081 : BitVec 32) : Fin 3 → Nat :=
  let c0_1083 : Index := 0#32
  let c2_i32_1080 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2286 : BitVec 32 := Scalar.subi v901 v2144
  let c1_i32_1077 : BitVec 32 := 1#32
  let v2288 : BitVec 32 := Scalar.divsi v2286 c1_i32_1077
  let v2289 : BitVec 32 := Scalar.muli v2288 c1_i32_1077
  let v2290 : BitVec 32 := Scalar.addi v2144 v2289
  let c1_i32_1079 : BitVec 32 := 1#32
  let arg29 : BitVec 32 := Scf.iv v2290 c1_i32_1079 k0_t24
  let v2291 : BitVec 32 := Scalar.muli c2_i32_1080 arg29
  let v2292 : BitVec 32 := Scalar.addi v2291 c0_i32_1081
  let c256_i32_1082 : BitVec 32 := 256#32
  let v2293 : BitVec 32 := Scalar.muli v2292 c256_i32_1082
  let v2294 : BitVec 32 := v2293
  let v2295 : Index := Scalar.indexCast v2294
  let c0_1084 : Index := 0#32
  ![0, v2295.toNat, 0]
def k0_off811 (i : grid0.Coords) (k0_t24 : Fin (k0_t24_loop i).trips) (c0_i32_1091 : BitVec 32) (c0_i32_1081 : BitVec 32) : Fin 3 → Nat :=
  let c2_i32_1090 : BitVec 32 := 2#32
  let c0_i32_1089 : BitVec 32 := 0#32
  let arg1 : BitVec 32 := BitVec.ofNat 32 (i 1).val
  let c2_i32_1080 : BitVec 32 := 2#32
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2286 : BitVec 32 := Scalar.subi v901 v2144
  let c1_i32_1077 : BitVec 32 := 1#32
  let v2288 : BitVec 32 := Scalar.divsi v2286 c1_i32_1077
  let v2289 : BitVec 32 := Scalar.muli v2288 c1_i32_1077
  let v2290 : BitVec 32 := Scalar.addi v2144 v2289
  let c1_i32_1079 : BitVec 32 := 1#32
  let arg29 : BitVec 32 := Scf.iv v2290 c1_i32_1079 k0_t24
  let v2291 : BitVec 32 := Scalar.muli c2_i32_1080 arg29
  let v2292 : BitVec 32 := Scalar.addi v2291 c0_i32_1081
  let v2301 : BitVec 32 := Scalar.subi arg1 v2292
  let v2302 : BitVec 32 := Scalar.maxsi c0_i32_1089 v2301
  let v2303 : BitVec 32 := Scalar.minsi c2_i32_1090 v2302
  let v2304 : BitVec 32 := Scalar.addi c0_i32_1091 v2303
  let v2305 : Index := Scalar.indexCast v2304
  let c0_1092 : Index := 0#32
  let c0_1093 : Index := 0#32
  ![v2305.toNat, 0, 0]
def k0_off812 (i : grid0.Coords) (k0_t24 : Fin (k0_t24_loop i).trips) (c0_i32_1081 : BitVec 32) : Fin 3 → Nat :=
  let c2_i32_1080 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2286 : BitVec 32 := Scalar.subi v901 v2144
  let c1_i32_1077 : BitVec 32 := 1#32
  let v2288 : BitVec 32 := Scalar.divsi v2286 c1_i32_1077
  let v2289 : BitVec 32 := Scalar.muli v2288 c1_i32_1077
  let v2290 : BitVec 32 := Scalar.addi v2144 v2289
  let c1_i32_1079 : BitVec 32 := 1#32
  let arg29 : BitVec 32 := Scf.iv v2290 c1_i32_1079 k0_t24
  let v2291 : BitVec 32 := Scalar.muli c2_i32_1080 arg29
  let v2292 : BitVec 32 := Scalar.addi v2291 c0_i32_1081
  let v2309 : Index := Scalar.indexCast v2292
  let c0_1094 : Index := 0#32
  let c0_1095 : Index := 0#32
  ![v2309.toNat, 0, 0]
def k0_mult293 (i : grid0.Coords) (k0_t24 : Fin (k0_t24_loop i).trips) : BitVec 32 :=
  let c2_i32_1099 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2286 : BitVec 32 := Scalar.subi v901 v2144
  let c1_i32_1077 : BitVec 32 := 1#32
  let v2288 : BitVec 32 := Scalar.divsi v2286 c1_i32_1077
  let v2289 : BitVec 32 := Scalar.muli v2288 c1_i32_1077
  let v2290 : BitVec 32 := Scalar.addi v2144 v2289
  let c1_i32_1079 : BitVec 32 := 1#32
  let arg29 : BitVec 32 := Scf.iv v2290 c1_i32_1079 k0_t24
  let v2318 : BitVec 32 := Scalar.muli c2_i32_1099 arg29
  let c1_i32_1100 : BitVec 32 := 1#32
  let v2319 : BitVec 32 := Scalar.addi v2318 c1_i32_1100
  let c256_i32_1101 : BitVec 32 := 256#32
  let v2320 : BitVec 32 := Scalar.muli v2319 c256_i32_1101
  v2320
def k0_mult294 (i : grid0.Coords) (k0_t24 : Fin (k0_t24_loop i).trips) : BitVec 32 :=
  let c2_i32_1118 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2286 : BitVec 32 := Scalar.subi v901 v2144
  let c1_i32_1077 : BitVec 32 := 1#32
  let v2288 : BitVec 32 := Scalar.divsi v2286 c1_i32_1077
  let v2289 : BitVec 32 := Scalar.muli v2288 c1_i32_1077
  let v2290 : BitVec 32 := Scalar.addi v2144 v2289
  let c1_i32_1079 : BitVec 32 := 1#32
  let arg29 : BitVec 32 := Scf.iv v2290 c1_i32_1079 k0_t24
  let v2345 : BitVec 32 := Scalar.muli c2_i32_1118 arg29
  let c0_i32_1119 : BitVec 32 := 0#32
  let v2346 : BitVec 32 := Scalar.addi v2345 c0_i32_1119
  let c256_i32_1120 : BitVec 32 := 256#32
  let v2347 : BitVec 32 := Scalar.muli v2346 c256_i32_1120
  v2347
def k0_mult295 (i : grid0.Coords) (k0_t24 : Fin (k0_t24_loop i).trips) : BitVec 32 :=
  let c2_i32_1137 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2286 : BitVec 32 := Scalar.subi v901 v2144
  let c1_i32_1077 : BitVec 32 := 1#32
  let v2288 : BitVec 32 := Scalar.divsi v2286 c1_i32_1077
  let v2289 : BitVec 32 := Scalar.muli v2288 c1_i32_1077
  let v2290 : BitVec 32 := Scalar.addi v2144 v2289
  let c1_i32_1079 : BitVec 32 := 1#32
  let arg29 : BitVec 32 := Scf.iv v2290 c1_i32_1079 k0_t24
  let v2372 : BitVec 32 := Scalar.muli c2_i32_1137 arg29
  let c1_i32_1138 : BitVec 32 := 1#32
  let v2373 : BitVec 32 := Scalar.addi v2372 c1_i32_1138
  let c256_i32_1139 : BitVec 32 := 256#32
  let v2374 : BitVec 32 := Scalar.muli v2373 c256_i32_1139
  v2374
def k0_mult296 (i : grid0.Coords) (k0_t24 : Fin (k0_t24_loop i).trips) : BitVec 32 :=
  let c2_i32_1156 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2286 : BitVec 32 := Scalar.subi v901 v2144
  let c1_i32_1077 : BitVec 32 := 1#32
  let v2288 : BitVec 32 := Scalar.divsi v2286 c1_i32_1077
  let v2289 : BitVec 32 := Scalar.muli v2288 c1_i32_1077
  let v2290 : BitVec 32 := Scalar.addi v2144 v2289
  let c1_i32_1079 : BitVec 32 := 1#32
  let arg29 : BitVec 32 := Scf.iv v2290 c1_i32_1079 k0_t24
  let v2399 : BitVec 32 := Scalar.muli c2_i32_1156 arg29
  let c0_i32_1157 : BitVec 32 := 0#32
  let v2400 : BitVec 32 := Scalar.addi v2399 c0_i32_1157
  let c256_i32_1158 : BitVec 32 := 256#32
  let v2401 : BitVec 32 := Scalar.muli v2400 c256_i32_1158
  v2401
def k0_mult297 (i : grid0.Coords) (k0_t24 : Fin (k0_t24_loop i).trips) : BitVec 32 :=
  let c2_i32_1175 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2286 : BitVec 32 := Scalar.subi v901 v2144
  let c1_i32_1077 : BitVec 32 := 1#32
  let v2288 : BitVec 32 := Scalar.divsi v2286 c1_i32_1077
  let v2289 : BitVec 32 := Scalar.muli v2288 c1_i32_1077
  let v2290 : BitVec 32 := Scalar.addi v2144 v2289
  let c1_i32_1079 : BitVec 32 := 1#32
  let arg29 : BitVec 32 := Scf.iv v2290 c1_i32_1079 k0_t24
  let v2426 : BitVec 32 := Scalar.muli c2_i32_1175 arg29
  let c1_i32_1176 : BitVec 32 := 1#32
  let v2427 : BitVec 32 := Scalar.addi v2426 c1_i32_1176
  let c256_i32_1177 : BitVec 32 := 256#32
  let v2428 : BitVec 32 := Scalar.muli v2427 c256_i32_1177
  v2428
def k0_mult298 (i : grid0.Coords) (k0_t24 : Fin (k0_t24_loop i).trips) : BitVec 32 :=
  let c2_i32_1194 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2286 : BitVec 32 := Scalar.subi v901 v2144
  let c1_i32_1077 : BitVec 32 := 1#32
  let v2288 : BitVec 32 := Scalar.divsi v2286 c1_i32_1077
  let v2289 : BitVec 32 := Scalar.muli v2288 c1_i32_1077
  let v2290 : BitVec 32 := Scalar.addi v2144 v2289
  let c1_i32_1079 : BitVec 32 := 1#32
  let arg29 : BitVec 32 := Scf.iv v2290 c1_i32_1079 k0_t24
  let v2453 : BitVec 32 := Scalar.muli c2_i32_1194 arg29
  let c0_i32_1195 : BitVec 32 := 0#32
  let v2454 : BitVec 32 := Scalar.addi v2453 c0_i32_1195
  let c256_i32_1196 : BitVec 32 := 256#32
  let v2455 : BitVec 32 := Scalar.muli v2454 c256_i32_1196
  v2455
def k0_mult299 (i : grid0.Coords) (k0_t24 : Fin (k0_t24_loop i).trips) : BitVec 32 :=
  let c2_i32_1213 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2286 : BitVec 32 := Scalar.subi v901 v2144
  let c1_i32_1077 : BitVec 32 := 1#32
  let v2288 : BitVec 32 := Scalar.divsi v2286 c1_i32_1077
  let v2289 : BitVec 32 := Scalar.muli v2288 c1_i32_1077
  let v2290 : BitVec 32 := Scalar.addi v2144 v2289
  let c1_i32_1079 : BitVec 32 := 1#32
  let arg29 : BitVec 32 := Scf.iv v2290 c1_i32_1079 k0_t24
  let v2480 : BitVec 32 := Scalar.muli c2_i32_1213 arg29
  let c1_i32_1214 : BitVec 32 := 1#32
  let v2481 : BitVec 32 := Scalar.addi v2480 c1_i32_1214
  let c256_i32_1215 : BitVec 32 := 256#32
  let v2482 : BitVec 32 := Scalar.muli v2481 c256_i32_1215
  v2482
def k0_mult300 (i : grid0.Coords) (k0_t24 : Fin (k0_t24_loop i).trips) : BitVec 32 :=
  let c2_i32_1232 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2286 : BitVec 32 := Scalar.subi v901 v2144
  let c1_i32_1077 : BitVec 32 := 1#32
  let v2288 : BitVec 32 := Scalar.divsi v2286 c1_i32_1077
  let v2289 : BitVec 32 := Scalar.muli v2288 c1_i32_1077
  let v2290 : BitVec 32 := Scalar.addi v2144 v2289
  let c1_i32_1079 : BitVec 32 := 1#32
  let arg29 : BitVec 32 := Scf.iv v2290 c1_i32_1079 k0_t24
  let v2507 : BitVec 32 := Scalar.muli c2_i32_1232 arg29
  let c0_i32_1233 : BitVec 32 := 0#32
  let v2508 : BitVec 32 := Scalar.addi v2507 c0_i32_1233
  let c256_i32_1234 : BitVec 32 := 256#32
  let v2509 : BitVec 32 := Scalar.muli v2508 c256_i32_1234
  v2509
def k0_mult301 (i : grid0.Coords) (k0_t24 : Fin (k0_t24_loop i).trips) : BitVec 32 :=
  let c2_i32_1251 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2286 : BitVec 32 := Scalar.subi v901 v2144
  let c1_i32_1077 : BitVec 32 := 1#32
  let v2288 : BitVec 32 := Scalar.divsi v2286 c1_i32_1077
  let v2289 : BitVec 32 := Scalar.muli v2288 c1_i32_1077
  let v2290 : BitVec 32 := Scalar.addi v2144 v2289
  let c1_i32_1079 : BitVec 32 := 1#32
  let arg29 : BitVec 32 := Scf.iv v2290 c1_i32_1079 k0_t24
  let v2534 : BitVec 32 := Scalar.muli c2_i32_1251 arg29
  let c1_i32_1252 : BitVec 32 := 1#32
  let v2535 : BitVec 32 := Scalar.addi v2534 c1_i32_1252
  let c256_i32_1253 : BitVec 32 := 256#32
  let v2536 : BitVec 32 := Scalar.muli v2535 c256_i32_1253
  v2536
def k0_mult302 (i : grid0.Coords) (k0_t24 : Fin (k0_t24_loop i).trips) : BitVec 32 :=
  let c2_i32_1270 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2286 : BitVec 32 := Scalar.subi v901 v2144
  let c1_i32_1077 : BitVec 32 := 1#32
  let v2288 : BitVec 32 := Scalar.divsi v2286 c1_i32_1077
  let v2289 : BitVec 32 := Scalar.muli v2288 c1_i32_1077
  let v2290 : BitVec 32 := Scalar.addi v2144 v2289
  let c1_i32_1079 : BitVec 32 := 1#32
  let arg29 : BitVec 32 := Scf.iv v2290 c1_i32_1079 k0_t24
  let v2561 : BitVec 32 := Scalar.muli c2_i32_1270 arg29
  let c0_i32_1271 : BitVec 32 := 0#32
  let v2562 : BitVec 32 := Scalar.addi v2561 c0_i32_1271
  let c256_i32_1272 : BitVec 32 := 256#32
  let v2563 : BitVec 32 := Scalar.muli v2562 c256_i32_1272
  v2563
def k0_mult303 (i : grid0.Coords) (k0_t24 : Fin (k0_t24_loop i).trips) : BitVec 32 :=
  let c2_i32_1289 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2286 : BitVec 32 := Scalar.subi v901 v2144
  let c1_i32_1077 : BitVec 32 := 1#32
  let v2288 : BitVec 32 := Scalar.divsi v2286 c1_i32_1077
  let v2289 : BitVec 32 := Scalar.muli v2288 c1_i32_1077
  let v2290 : BitVec 32 := Scalar.addi v2144 v2289
  let c1_i32_1079 : BitVec 32 := 1#32
  let arg29 : BitVec 32 := Scf.iv v2290 c1_i32_1079 k0_t24
  let v2588 : BitVec 32 := Scalar.muli c2_i32_1289 arg29
  let c1_i32_1290 : BitVec 32 := 1#32
  let v2589 : BitVec 32 := Scalar.addi v2588 c1_i32_1290
  let c256_i32_1291 : BitVec 32 := 256#32
  let v2590 : BitVec 32 := Scalar.muli v2589 c256_i32_1291
  v2590
def k0_mult304 (i : grid0.Coords) (k0_t24 : Fin (k0_t24_loop i).trips) : BitVec 32 :=
  let c2_i32_1308 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2286 : BitVec 32 := Scalar.subi v901 v2144
  let c1_i32_1077 : BitVec 32 := 1#32
  let v2288 : BitVec 32 := Scalar.divsi v2286 c1_i32_1077
  let v2289 : BitVec 32 := Scalar.muli v2288 c1_i32_1077
  let v2290 : BitVec 32 := Scalar.addi v2144 v2289
  let c1_i32_1079 : BitVec 32 := 1#32
  let arg29 : BitVec 32 := Scf.iv v2290 c1_i32_1079 k0_t24
  let v2615 : BitVec 32 := Scalar.muli c2_i32_1308 arg29
  let c0_i32_1309 : BitVec 32 := 0#32
  let v2616 : BitVec 32 := Scalar.addi v2615 c0_i32_1309
  let c256_i32_1310 : BitVec 32 := 256#32
  let v2617 : BitVec 32 := Scalar.muli v2616 c256_i32_1310
  v2617
def k0_mult305 (i : grid0.Coords) (k0_t24 : Fin (k0_t24_loop i).trips) : BitVec 32 :=
  let c2_i32_1326 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2286 : BitVec 32 := Scalar.subi v901 v2144
  let c1_i32_1077 : BitVec 32 := 1#32
  let v2288 : BitVec 32 := Scalar.divsi v2286 c1_i32_1077
  let v2289 : BitVec 32 := Scalar.muli v2288 c1_i32_1077
  let v2290 : BitVec 32 := Scalar.addi v2144 v2289
  let c1_i32_1079 : BitVec 32 := 1#32
  let arg29 : BitVec 32 := Scf.iv v2290 c1_i32_1079 k0_t24
  let v2642 : BitVec 32 := Scalar.muli c2_i32_1326 arg29
  let c1_i32_1327 : BitVec 32 := 1#32
  let v2643 : BitVec 32 := Scalar.addi v2642 c1_i32_1327
  let c256_i32_1328 : BitVec 32 := 256#32
  let v2644 : BitVec 32 := Scalar.muli v2643 c256_i32_1328
  v2644
def k0_mult306 (i : grid0.Coords) (k0_t24 : Fin (k0_t24_loop i).trips) : BitVec 32 :=
  let c2_i32_1345 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2286 : BitVec 32 := Scalar.subi v901 v2144
  let c1_i32_1077 : BitVec 32 := 1#32
  let v2288 : BitVec 32 := Scalar.divsi v2286 c1_i32_1077
  let v2289 : BitVec 32 := Scalar.muli v2288 c1_i32_1077
  let v2290 : BitVec 32 := Scalar.addi v2144 v2289
  let c1_i32_1079 : BitVec 32 := 1#32
  let arg29 : BitVec 32 := Scf.iv v2290 c1_i32_1079 k0_t24
  let v2669 : BitVec 32 := Scalar.muli c2_i32_1345 arg29
  let c0_i32_1346 : BitVec 32 := 0#32
  let v2670 : BitVec 32 := Scalar.addi v2669 c0_i32_1346
  let c256_i32_1347 : BitVec 32 := 256#32
  let v2671 : BitVec 32 := Scalar.muli v2670 c256_i32_1347
  v2671
def k0_mult307 (i : grid0.Coords) (k0_t24 : Fin (k0_t24_loop i).trips) : BitVec 32 :=
  let c2_i32_1363 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2286 : BitVec 32 := Scalar.subi v901 v2144
  let c1_i32_1077 : BitVec 32 := 1#32
  let v2288 : BitVec 32 := Scalar.divsi v2286 c1_i32_1077
  let v2289 : BitVec 32 := Scalar.muli v2288 c1_i32_1077
  let v2290 : BitVec 32 := Scalar.addi v2144 v2289
  let c1_i32_1079 : BitVec 32 := 1#32
  let arg29 : BitVec 32 := Scf.iv v2290 c1_i32_1079 k0_t24
  let v2696 : BitVec 32 := Scalar.muli c2_i32_1363 arg29
  let c1_i32_1364 : BitVec 32 := 1#32
  let v2697 : BitVec 32 := Scalar.addi v2696 c1_i32_1364
  let c256_i32_1365 : BitVec 32 := 256#32
  let v2698 : BitVec 32 := Scalar.muli v2697 c256_i32_1365
  v2698
def k0_off813 (i : grid0.Coords) (k0_t24 : Fin (k0_t24_loop i).trips) (c0_i32_1383 : BitVec 32) : Fin 4 → Nat :=
  let c0_1387 : Index := 0#32
  let c2_i32_1382 : BitVec 32 := 2#32
  let arg1 : BitVec 32 := BitVec.ofNat 32 (i 1).val
  let c1_i32_959 : BitVec 32 := 1#32
  let v2126 : BitVec 32 := Scalar.subi arg1 c1_i32_959
  let c0_i32_960 : BitVec 32 := 0#32
  let v2127 : BitVec 32 := Scalar.maxsi v2126 c0_i32_960
  let c0_i32_962 : BitVec 32 := 0#32
  let v2129 : BitVec 1 := Scalar.cmpi .sgt v2127 c0_i32_962
  let v2130 : BitVec 32 := Scalar.extui v2129
  let c0_i32_963 : BitVec 32 := 0#32
  let v2131 : BitVec 1 := Scalar.cmpi .slt v2127 c0_i32_963
  let v2132 : BitVec 32 := Scalar.extui v2131
  let v2133 : BitVec 32 := Scalar.subi v2130 v2132
  let c2_i32_961 : BitVec 32 := 2#32
  let c0_i32_964 : BitVec 32 := 0#32
  let v2134 : BitVec 1 := Scalar.cmpi .sgt c2_i32_961 c0_i32_964
  let v2135 : BitVec 32 := Scalar.extui v2134
  let c0_i32_965 : BitVec 32 := 0#32
  let v2136 : BitVec 1 := Scalar.cmpi .slt c2_i32_961 c0_i32_965
  let v2137 : BitVec 32 := Scalar.extui v2136
  let v2138 : BitVec 32 := Scalar.subi v2135 v2137
  let v2139 : BitVec 1 := Scalar.cmpi .ne v2133 v2138
  let v2140 : BitVec 32 := Scalar.remsi v2127 c2_i32_961
  let c0_i32_966 : BitVec 32 := 0#32
  let v2141 : BitVec 1 := Scalar.cmpi .ne v2140 c0_i32_966
  let v2142 : BitVec 1 := Scalar.andi v2139 v2141
  let v2128 : BitVec 32 := Scalar.divsi v2127 c2_i32_961
  let c1_i32_967 : BitVec 32 := 1#32
  let v2143 : BitVec 32 := Scalar.subi v2128 c1_i32_967
  let v2144 : BitVec 32 := Scalar.select v2142 v2143 v2128
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2286 : BitVec 32 := Scalar.subi v901 v2144
  let c1_i32_1077 : BitVec 32 := 1#32
  let v2288 : BitVec 32 := Scalar.divsi v2286 c1_i32_1077
  let v2289 : BitVec 32 := Scalar.muli v2288 c1_i32_1077
  let v2290 : BitVec 32 := Scalar.addi v2144 v2289
  let c1_i32_1079 : BitVec 32 := 1#32
  let arg29 : BitVec 32 := Scf.iv v2290 c1_i32_1079 k0_t24
  let v2723 : BitVec 32 := Scalar.muli c2_i32_1382 arg29
  let v2724 : BitVec 32 := Scalar.addi v2723 c0_i32_1383
  let v2727 : Index := Scalar.indexCast v2724
  let c0_1388 : Index := 0#32
  let c0_1389 : Index := 0#32
  ![0, v2727.toNat, 0, 0]
@[reducible] def k0_t25_loop (i : grid0.Coords) : Scf.Loop 32 :=
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1053 : BitVec 32 := 1#32
  ⟨c0_i32_1051, v2246, c1_i32_1053⟩
def k0_mult308 (i : grid0.Coords) (k0_t25 : Fin (k0_t25_loop i).trips) : BitVec 32 :=
  let c2_i32_1055 : BitVec 32 := 2#32
  let c0_i32_1051 : BitVec 32 := 0#32
  let c1_i32_1053 : BitVec 32 := 1#32
  let arg29 : BitVec 32 := Scf.iv c0_i32_1051 c1_i32_1053 k0_t25
  let v2249 : BitVec 32 := Scalar.muli c2_i32_1055 arg29
  let c0_i32_1056 : BitVec 32 := 0#32
  let v2250 : BitVec 32 := Scalar.addi v2249 c0_i32_1056
  let c256_i32_1057 : BitVec 32 := 256#32
  let v2251 : BitVec 32 := Scalar.muli v2250 c256_i32_1057
  v2251
def k0_off814 (i : grid0.Coords) (k0_t25 : Fin (k0_t25_loop i).trips) (c0_i32_1056 : BitVec 32) : Fin 3 → Nat :=
  let c0_1058 : Index := 0#32
  let c2_i32_1055 : BitVec 32 := 2#32
  let c0_i32_1051 : BitVec 32 := 0#32
  let c1_i32_1053 : BitVec 32 := 1#32
  let arg29 : BitVec 32 := Scf.iv c0_i32_1051 c1_i32_1053 k0_t25
  let v2249 : BitVec 32 := Scalar.muli c2_i32_1055 arg29
  let v2250 : BitVec 32 := Scalar.addi v2249 c0_i32_1056
  let c256_i32_1057 : BitVec 32 := 256#32
  let v2251 : BitVec 32 := Scalar.muli v2250 c256_i32_1057
  let v2252 : BitVec 32 := v2251
  let v2253 : Index := Scalar.indexCast v2252
  let c0_1059 : Index := 0#32
  ![0, v2253.toNat, 0]
def k0_off815 (i : grid0.Coords) (k0_t25 : Fin (k0_t25_loop i).trips) (c0_i32_1066 : BitVec 32) (c0_i32_1056 : BitVec 32) : Fin 3 → Nat :=
  let c2_i32_1065 : BitVec 32 := 2#32
  let c0_i32_1064 : BitVec 32 := 0#32
  let arg1 : BitVec 32 := BitVec.ofNat 32 (i 1).val
  let c2_i32_1055 : BitVec 32 := 2#32
  let c0_i32_1051 : BitVec 32 := 0#32
  let c1_i32_1053 : BitVec 32 := 1#32
  let arg29 : BitVec 32 := Scf.iv c0_i32_1051 c1_i32_1053 k0_t25
  let v2249 : BitVec 32 := Scalar.muli c2_i32_1055 arg29
  let v2250 : BitVec 32 := Scalar.addi v2249 c0_i32_1056
  let v2259 : BitVec 32 := Scalar.subi arg1 v2250
  let v2260 : BitVec 32 := Scalar.maxsi c0_i32_1064 v2259
  let v2261 : BitVec 32 := Scalar.minsi c2_i32_1065 v2260
  let v2262 : BitVec 32 := Scalar.addi c0_i32_1066 v2261
  let v2263 : Index := Scalar.indexCast v2262
  let c0_1067 : Index := 0#32
  let c0_1068 : Index := 0#32
  ![v2263.toNat, 0, 0]
def k0_off816 (i : grid0.Coords) (k0_t25 : Fin (k0_t25_loop i).trips) (c0_i32_1056 : BitVec 32) : Fin 3 → Nat :=
  let c2_i32_1055 : BitVec 32 := 2#32
  let c0_i32_1051 : BitVec 32 := 0#32
  let c1_i32_1053 : BitVec 32 := 1#32
  let arg29 : BitVec 32 := Scf.iv c0_i32_1051 c1_i32_1053 k0_t25
  let v2249 : BitVec 32 := Scalar.muli c2_i32_1055 arg29
  let v2250 : BitVec 32 := Scalar.addi v2249 c0_i32_1056
  let v2267 : Index := Scalar.indexCast v2250
  let c0_1069 : Index := 0#32
  let c0_1070 : Index := 0#32
  ![v2267.toNat, 0, 0]
def k0_mult309 (i : grid0.Coords) (k0_t25 : Fin (k0_t25_loop i).trips) : BitVec 32 :=
  let c2_i32_1075 : BitVec 32 := 2#32
  let c0_i32_1051 : BitVec 32 := 0#32
  let c1_i32_1053 : BitVec 32 := 1#32
  let arg29 : BitVec 32 := Scf.iv c0_i32_1051 c1_i32_1053 k0_t25
  let v2277 : BitVec 32 := Scalar.muli c2_i32_1075 arg29
  let c1_i32_1076 : BitVec 32 := 1#32
  let v2278 : BitVec 32 := Scalar.addi v2277 c1_i32_1076
  let c256_i32_1077 : BitVec 32 := 256#32
  let v2279 : BitVec 32 := Scalar.muli v2278 c256_i32_1077
  v2279
def k0_mult310 (i : grid0.Coords) (k0_t25 : Fin (k0_t25_loop i).trips) : BitVec 32 :=
  let c2_i32_1095 : BitVec 32 := 2#32
  let c0_i32_1051 : BitVec 32 := 0#32
  let c1_i32_1053 : BitVec 32 := 1#32
  let arg29 : BitVec 32 := Scf.iv c0_i32_1051 c1_i32_1053 k0_t25
  let v2305 : BitVec 32 := Scalar.muli c2_i32_1095 arg29
  let c0_i32_1096 : BitVec 32 := 0#32
  let v2306 : BitVec 32 := Scalar.addi v2305 c0_i32_1096
  let c256_i32_1097 : BitVec 32 := 256#32
  let v2307 : BitVec 32 := Scalar.muli v2306 c256_i32_1097
  v2307
def k0_mult311 (i : grid0.Coords) (k0_t25 : Fin (k0_t25_loop i).trips) : BitVec 32 :=
  let c2_i32_1115 : BitVec 32 := 2#32
  let c0_i32_1051 : BitVec 32 := 0#32
  let c1_i32_1053 : BitVec 32 := 1#32
  let arg29 : BitVec 32 := Scf.iv c0_i32_1051 c1_i32_1053 k0_t25
  let v2333 : BitVec 32 := Scalar.muli c2_i32_1115 arg29
  let c1_i32_1116 : BitVec 32 := 1#32
  let v2334 : BitVec 32 := Scalar.addi v2333 c1_i32_1116
  let c256_i32_1117 : BitVec 32 := 256#32
  let v2335 : BitVec 32 := Scalar.muli v2334 c256_i32_1117
  v2335
def k0_mult312 (i : grid0.Coords) (k0_t25 : Fin (k0_t25_loop i).trips) : BitVec 32 :=
  let c2_i32_1135 : BitVec 32 := 2#32
  let c0_i32_1051 : BitVec 32 := 0#32
  let c1_i32_1053 : BitVec 32 := 1#32
  let arg29 : BitVec 32 := Scf.iv c0_i32_1051 c1_i32_1053 k0_t25
  let v2361 : BitVec 32 := Scalar.muli c2_i32_1135 arg29
  let c0_i32_1136 : BitVec 32 := 0#32
  let v2362 : BitVec 32 := Scalar.addi v2361 c0_i32_1136
  let c256_i32_1137 : BitVec 32 := 256#32
  let v2363 : BitVec 32 := Scalar.muli v2362 c256_i32_1137
  v2363
def k0_mult313 (i : grid0.Coords) (k0_t25 : Fin (k0_t25_loop i).trips) : BitVec 32 :=
  let c2_i32_1155 : BitVec 32 := 2#32
  let c0_i32_1051 : BitVec 32 := 0#32
  let c1_i32_1053 : BitVec 32 := 1#32
  let arg29 : BitVec 32 := Scf.iv c0_i32_1051 c1_i32_1053 k0_t25
  let v2389 : BitVec 32 := Scalar.muli c2_i32_1155 arg29
  let c1_i32_1156 : BitVec 32 := 1#32
  let v2390 : BitVec 32 := Scalar.addi v2389 c1_i32_1156
  let c256_i32_1157 : BitVec 32 := 256#32
  let v2391 : BitVec 32 := Scalar.muli v2390 c256_i32_1157
  v2391
def k0_mult314 (i : grid0.Coords) (k0_t25 : Fin (k0_t25_loop i).trips) : BitVec 32 :=
  let c2_i32_1175 : BitVec 32 := 2#32
  let c0_i32_1051 : BitVec 32 := 0#32
  let c1_i32_1053 : BitVec 32 := 1#32
  let arg29 : BitVec 32 := Scf.iv c0_i32_1051 c1_i32_1053 k0_t25
  let v2417 : BitVec 32 := Scalar.muli c2_i32_1175 arg29
  let c0_i32_1176 : BitVec 32 := 0#32
  let v2418 : BitVec 32 := Scalar.addi v2417 c0_i32_1176
  let c256_i32_1177 : BitVec 32 := 256#32
  let v2419 : BitVec 32 := Scalar.muli v2418 c256_i32_1177
  v2419
def k0_mult315 (i : grid0.Coords) (k0_t25 : Fin (k0_t25_loop i).trips) : BitVec 32 :=
  let c2_i32_1195 : BitVec 32 := 2#32
  let c0_i32_1051 : BitVec 32 := 0#32
  let c1_i32_1053 : BitVec 32 := 1#32
  let arg29 : BitVec 32 := Scf.iv c0_i32_1051 c1_i32_1053 k0_t25
  let v2445 : BitVec 32 := Scalar.muli c2_i32_1195 arg29
  let c1_i32_1196 : BitVec 32 := 1#32
  let v2446 : BitVec 32 := Scalar.addi v2445 c1_i32_1196
  let c256_i32_1197 : BitVec 32 := 256#32
  let v2447 : BitVec 32 := Scalar.muli v2446 c256_i32_1197
  v2447
def k0_mult316 (i : grid0.Coords) (k0_t25 : Fin (k0_t25_loop i).trips) : BitVec 32 :=
  let c2_i32_1215 : BitVec 32 := 2#32
  let c0_i32_1051 : BitVec 32 := 0#32
  let c1_i32_1053 : BitVec 32 := 1#32
  let arg29 : BitVec 32 := Scf.iv c0_i32_1051 c1_i32_1053 k0_t25
  let v2473 : BitVec 32 := Scalar.muli c2_i32_1215 arg29
  let c0_i32_1216 : BitVec 32 := 0#32
  let v2474 : BitVec 32 := Scalar.addi v2473 c0_i32_1216
  let c256_i32_1217 : BitVec 32 := 256#32
  let v2475 : BitVec 32 := Scalar.muli v2474 c256_i32_1217
  v2475
def k0_mult317 (i : grid0.Coords) (k0_t25 : Fin (k0_t25_loop i).trips) : BitVec 32 :=
  let c2_i32_1235 : BitVec 32 := 2#32
  let c0_i32_1051 : BitVec 32 := 0#32
  let c1_i32_1053 : BitVec 32 := 1#32
  let arg29 : BitVec 32 := Scf.iv c0_i32_1051 c1_i32_1053 k0_t25
  let v2501 : BitVec 32 := Scalar.muli c2_i32_1235 arg29
  let c1_i32_1236 : BitVec 32 := 1#32
  let v2502 : BitVec 32 := Scalar.addi v2501 c1_i32_1236
  let c256_i32_1237 : BitVec 32 := 256#32
  let v2503 : BitVec 32 := Scalar.muli v2502 c256_i32_1237
  v2503
def k0_mult318 (i : grid0.Coords) (k0_t25 : Fin (k0_t25_loop i).trips) : BitVec 32 :=
  let c2_i32_1255 : BitVec 32 := 2#32
  let c0_i32_1051 : BitVec 32 := 0#32
  let c1_i32_1053 : BitVec 32 := 1#32
  let arg29 : BitVec 32 := Scf.iv c0_i32_1051 c1_i32_1053 k0_t25
  let v2529 : BitVec 32 := Scalar.muli c2_i32_1255 arg29
  let c0_i32_1256 : BitVec 32 := 0#32
  let v2530 : BitVec 32 := Scalar.addi v2529 c0_i32_1256
  let c256_i32_1257 : BitVec 32 := 256#32
  let v2531 : BitVec 32 := Scalar.muli v2530 c256_i32_1257
  v2531
def k0_mult319 (i : grid0.Coords) (k0_t25 : Fin (k0_t25_loop i).trips) : BitVec 32 :=
  let c2_i32_1275 : BitVec 32 := 2#32
  let c0_i32_1051 : BitVec 32 := 0#32
  let c1_i32_1053 : BitVec 32 := 1#32
  let arg29 : BitVec 32 := Scf.iv c0_i32_1051 c1_i32_1053 k0_t25
  let v2557 : BitVec 32 := Scalar.muli c2_i32_1275 arg29
  let c1_i32_1276 : BitVec 32 := 1#32
  let v2558 : BitVec 32 := Scalar.addi v2557 c1_i32_1276
  let c256_i32_1277 : BitVec 32 := 256#32
  let v2559 : BitVec 32 := Scalar.muli v2558 c256_i32_1277
  v2559
def k0_mult320 (i : grid0.Coords) (k0_t25 : Fin (k0_t25_loop i).trips) : BitVec 32 :=
  let c2_i32_1295 : BitVec 32 := 2#32
  let c0_i32_1051 : BitVec 32 := 0#32
  let c1_i32_1053 : BitVec 32 := 1#32
  let arg29 : BitVec 32 := Scf.iv c0_i32_1051 c1_i32_1053 k0_t25
  let v2585 : BitVec 32 := Scalar.muli c2_i32_1295 arg29
  let c0_i32_1296 : BitVec 32 := 0#32
  let v2586 : BitVec 32 := Scalar.addi v2585 c0_i32_1296
  let c256_i32_1297 : BitVec 32 := 256#32
  let v2587 : BitVec 32 := Scalar.muli v2586 c256_i32_1297
  v2587
def k0_mult321 (i : grid0.Coords) (k0_t25 : Fin (k0_t25_loop i).trips) : BitVec 32 :=
  let c2_i32_1314 : BitVec 32 := 2#32
  let c0_i32_1051 : BitVec 32 := 0#32
  let c1_i32_1053 : BitVec 32 := 1#32
  let arg29 : BitVec 32 := Scf.iv c0_i32_1051 c1_i32_1053 k0_t25
  let v2613 : BitVec 32 := Scalar.muli c2_i32_1314 arg29
  let c1_i32_1315 : BitVec 32 := 1#32
  let v2614 : BitVec 32 := Scalar.addi v2613 c1_i32_1315
  let c256_i32_1316 : BitVec 32 := 256#32
  let v2615 : BitVec 32 := Scalar.muli v2614 c256_i32_1316
  v2615
def k0_mult322 (i : grid0.Coords) (k0_t25 : Fin (k0_t25_loop i).trips) : BitVec 32 :=
  let c2_i32_1334 : BitVec 32 := 2#32
  let c0_i32_1051 : BitVec 32 := 0#32
  let c1_i32_1053 : BitVec 32 := 1#32
  let arg29 : BitVec 32 := Scf.iv c0_i32_1051 c1_i32_1053 k0_t25
  let v2641 : BitVec 32 := Scalar.muli c2_i32_1334 arg29
  let c0_i32_1335 : BitVec 32 := 0#32
  let v2642 : BitVec 32 := Scalar.addi v2641 c0_i32_1335
  let c256_i32_1336 : BitVec 32 := 256#32
  let v2643 : BitVec 32 := Scalar.muli v2642 c256_i32_1336
  v2643
def k0_mult323 (i : grid0.Coords) (k0_t25 : Fin (k0_t25_loop i).trips) : BitVec 32 :=
  let c2_i32_1353 : BitVec 32 := 2#32
  let c0_i32_1051 : BitVec 32 := 0#32
  let c1_i32_1053 : BitVec 32 := 1#32
  let arg29 : BitVec 32 := Scf.iv c0_i32_1051 c1_i32_1053 k0_t25
  let v2669 : BitVec 32 := Scalar.muli c2_i32_1353 arg29
  let c1_i32_1354 : BitVec 32 := 1#32
  let v2670 : BitVec 32 := Scalar.addi v2669 c1_i32_1354
  let c256_i32_1355 : BitVec 32 := 256#32
  let v2671 : BitVec 32 := Scalar.muli v2670 c256_i32_1355
  v2671
def k0_off817 (i : grid0.Coords) (k0_t25 : Fin (k0_t25_loop i).trips) (c0_i32_1377 : BitVec 32) : Fin 4 → Nat :=
  let c0_1381 : Index := 0#32
  let c2_i32_1376 : BitVec 32 := 2#32
  let c0_i32_1051 : BitVec 32 := 0#32
  let c1_i32_1053 : BitVec 32 := 1#32
  let arg29 : BitVec 32 := Scf.iv c0_i32_1051 c1_i32_1053 k0_t25
  let v2703 : BitVec 32 := Scalar.muli c2_i32_1376 arg29
  let v2704 : BitVec 32 := Scalar.addi v2703 c0_i32_1377
  let v2711 : Index := Scalar.indexCast v2704
  let c0_1382 : Index := 0#32
  let c0_1383 : Index := 0#32
  ![0, v2711.toNat, 0, 0]
@[reducible] def k0_t26_loop (i : grid0.Coords) : Scf.Loop 32 :=
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let v2243 : BitVec 32 := Scalar.addi c0_i32_1051 v2242
  let c1_i32_1054 : BitVec 32 := 1#32
  ⟨v2246, v2243, c1_i32_1054⟩
def k0_mult324 (i : grid0.Coords) (k0_t26 : Fin (k0_t26_loop i).trips) : BitVec 32 :=
  let c2_i32_1055 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t26
  let v2249 : BitVec 32 := Scalar.muli c2_i32_1055 arg29
  let c0_i32_1056 : BitVec 32 := 0#32
  let v2250 : BitVec 32 := Scalar.addi v2249 c0_i32_1056
  let c256_i32_1057 : BitVec 32 := 256#32
  let v2251 : BitVec 32 := Scalar.muli v2250 c256_i32_1057
  v2251
def k0_off818 (i : grid0.Coords) (k0_t26 : Fin (k0_t26_loop i).trips) (c0_i32_1056 : BitVec 32) : Fin 3 → Nat :=
  let c0_1058 : Index := 0#32
  let c2_i32_1055 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t26
  let v2249 : BitVec 32 := Scalar.muli c2_i32_1055 arg29
  let v2250 : BitVec 32 := Scalar.addi v2249 c0_i32_1056
  let c256_i32_1057 : BitVec 32 := 256#32
  let v2251 : BitVec 32 := Scalar.muli v2250 c256_i32_1057
  let v2252 : BitVec 32 := v2251
  let v2253 : Index := Scalar.indexCast v2252
  let c0_1059 : Index := 0#32
  ![0, v2253.toNat, 0]
def k0_off819 (i : grid0.Coords) (k0_t26 : Fin (k0_t26_loop i).trips) (c0_i32_1066 : BitVec 32) (c0_i32_1056 : BitVec 32) : Fin 3 → Nat :=
  let c2_i32_1065 : BitVec 32 := 2#32
  let c0_i32_1064 : BitVec 32 := 0#32
  let arg1 : BitVec 32 := BitVec.ofNat 32 (i 1).val
  let c2_i32_1055 : BitVec 32 := 2#32
  let c0_i32_1051 : BitVec 32 := 0#32
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t26
  let v2249 : BitVec 32 := Scalar.muli c2_i32_1055 arg29
  let v2250 : BitVec 32 := Scalar.addi v2249 c0_i32_1056
  let v2259 : BitVec 32 := Scalar.subi arg1 v2250
  let v2260 : BitVec 32 := Scalar.maxsi c0_i32_1064 v2259
  let v2261 : BitVec 32 := Scalar.minsi c2_i32_1065 v2260
  let v2262 : BitVec 32 := Scalar.addi c0_i32_1066 v2261
  let v2263 : Index := Scalar.indexCast v2262
  let c0_1067 : Index := 0#32
  let c0_1068 : Index := 0#32
  ![v2263.toNat, 0, 0]
def k0_off820 (i : grid0.Coords) (k0_t26 : Fin (k0_t26_loop i).trips) (c0_i32_1056 : BitVec 32) : Fin 3 → Nat :=
  let c2_i32_1055 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t26
  let v2249 : BitVec 32 := Scalar.muli c2_i32_1055 arg29
  let v2250 : BitVec 32 := Scalar.addi v2249 c0_i32_1056
  let v2267 : Index := Scalar.indexCast v2250
  let c0_1069 : Index := 0#32
  let c0_1070 : Index := 0#32
  ![v2267.toNat, 0, 0]
def k0_mult325 (i : grid0.Coords) (k0_t26 : Fin (k0_t26_loop i).trips) : BitVec 32 :=
  let c2_i32_1075 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t26
  let v2277 : BitVec 32 := Scalar.muli c2_i32_1075 arg29
  let c1_i32_1076 : BitVec 32 := 1#32
  let v2278 : BitVec 32 := Scalar.addi v2277 c1_i32_1076
  let c256_i32_1077 : BitVec 32 := 256#32
  let v2279 : BitVec 32 := Scalar.muli v2278 c256_i32_1077
  v2279
def k0_mult326 (i : grid0.Coords) (k0_t26 : Fin (k0_t26_loop i).trips) : BitVec 32 :=
  let c2_i32_1095 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t26
  let v2305 : BitVec 32 := Scalar.muli c2_i32_1095 arg29
  let c0_i32_1096 : BitVec 32 := 0#32
  let v2306 : BitVec 32 := Scalar.addi v2305 c0_i32_1096
  let c256_i32_1097 : BitVec 32 := 256#32
  let v2307 : BitVec 32 := Scalar.muli v2306 c256_i32_1097
  v2307
def k0_mult327 (i : grid0.Coords) (k0_t26 : Fin (k0_t26_loop i).trips) : BitVec 32 :=
  let c2_i32_1115 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t26
  let v2333 : BitVec 32 := Scalar.muli c2_i32_1115 arg29
  let c1_i32_1116 : BitVec 32 := 1#32
  let v2334 : BitVec 32 := Scalar.addi v2333 c1_i32_1116
  let c256_i32_1117 : BitVec 32 := 256#32
  let v2335 : BitVec 32 := Scalar.muli v2334 c256_i32_1117
  v2335
def k0_mult328 (i : grid0.Coords) (k0_t26 : Fin (k0_t26_loop i).trips) : BitVec 32 :=
  let c2_i32_1135 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t26
  let v2361 : BitVec 32 := Scalar.muli c2_i32_1135 arg29
  let c0_i32_1136 : BitVec 32 := 0#32
  let v2362 : BitVec 32 := Scalar.addi v2361 c0_i32_1136
  let c256_i32_1137 : BitVec 32 := 256#32
  let v2363 : BitVec 32 := Scalar.muli v2362 c256_i32_1137
  v2363
def k0_mult329 (i : grid0.Coords) (k0_t26 : Fin (k0_t26_loop i).trips) : BitVec 32 :=
  let c2_i32_1155 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t26
  let v2389 : BitVec 32 := Scalar.muli c2_i32_1155 arg29
  let c1_i32_1156 : BitVec 32 := 1#32
  let v2390 : BitVec 32 := Scalar.addi v2389 c1_i32_1156
  let c256_i32_1157 : BitVec 32 := 256#32
  let v2391 : BitVec 32 := Scalar.muli v2390 c256_i32_1157
  v2391
def k0_mult330 (i : grid0.Coords) (k0_t26 : Fin (k0_t26_loop i).trips) : BitVec 32 :=
  let c2_i32_1175 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t26
  let v2417 : BitVec 32 := Scalar.muli c2_i32_1175 arg29
  let c0_i32_1176 : BitVec 32 := 0#32
  let v2418 : BitVec 32 := Scalar.addi v2417 c0_i32_1176
  let c256_i32_1177 : BitVec 32 := 256#32
  let v2419 : BitVec 32 := Scalar.muli v2418 c256_i32_1177
  v2419
def k0_mult331 (i : grid0.Coords) (k0_t26 : Fin (k0_t26_loop i).trips) : BitVec 32 :=
  let c2_i32_1195 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t26
  let v2445 : BitVec 32 := Scalar.muli c2_i32_1195 arg29
  let c1_i32_1196 : BitVec 32 := 1#32
  let v2446 : BitVec 32 := Scalar.addi v2445 c1_i32_1196
  let c256_i32_1197 : BitVec 32 := 256#32
  let v2447 : BitVec 32 := Scalar.muli v2446 c256_i32_1197
  v2447
def k0_mult332 (i : grid0.Coords) (k0_t26 : Fin (k0_t26_loop i).trips) : BitVec 32 :=
  let c2_i32_1215 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t26
  let v2473 : BitVec 32 := Scalar.muli c2_i32_1215 arg29
  let c0_i32_1216 : BitVec 32 := 0#32
  let v2474 : BitVec 32 := Scalar.addi v2473 c0_i32_1216
  let c256_i32_1217 : BitVec 32 := 256#32
  let v2475 : BitVec 32 := Scalar.muli v2474 c256_i32_1217
  v2475
def k0_mult333 (i : grid0.Coords) (k0_t26 : Fin (k0_t26_loop i).trips) : BitVec 32 :=
  let c2_i32_1235 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t26
  let v2501 : BitVec 32 := Scalar.muli c2_i32_1235 arg29
  let c1_i32_1236 : BitVec 32 := 1#32
  let v2502 : BitVec 32 := Scalar.addi v2501 c1_i32_1236
  let c256_i32_1237 : BitVec 32 := 256#32
  let v2503 : BitVec 32 := Scalar.muli v2502 c256_i32_1237
  v2503
def k0_mult334 (i : grid0.Coords) (k0_t26 : Fin (k0_t26_loop i).trips) : BitVec 32 :=
  let c2_i32_1255 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t26
  let v2529 : BitVec 32 := Scalar.muli c2_i32_1255 arg29
  let c0_i32_1256 : BitVec 32 := 0#32
  let v2530 : BitVec 32 := Scalar.addi v2529 c0_i32_1256
  let c256_i32_1257 : BitVec 32 := 256#32
  let v2531 : BitVec 32 := Scalar.muli v2530 c256_i32_1257
  v2531
def k0_mult335 (i : grid0.Coords) (k0_t26 : Fin (k0_t26_loop i).trips) : BitVec 32 :=
  let c2_i32_1275 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t26
  let v2557 : BitVec 32 := Scalar.muli c2_i32_1275 arg29
  let c1_i32_1276 : BitVec 32 := 1#32
  let v2558 : BitVec 32 := Scalar.addi v2557 c1_i32_1276
  let c256_i32_1277 : BitVec 32 := 256#32
  let v2559 : BitVec 32 := Scalar.muli v2558 c256_i32_1277
  v2559
def k0_mult336 (i : grid0.Coords) (k0_t26 : Fin (k0_t26_loop i).trips) : BitVec 32 :=
  let c2_i32_1295 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t26
  let v2585 : BitVec 32 := Scalar.muli c2_i32_1295 arg29
  let c0_i32_1296 : BitVec 32 := 0#32
  let v2586 : BitVec 32 := Scalar.addi v2585 c0_i32_1296
  let c256_i32_1297 : BitVec 32 := 256#32
  let v2587 : BitVec 32 := Scalar.muli v2586 c256_i32_1297
  v2587
def k0_mult337 (i : grid0.Coords) (k0_t26 : Fin (k0_t26_loop i).trips) : BitVec 32 :=
  let c2_i32_1314 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t26
  let v2613 : BitVec 32 := Scalar.muli c2_i32_1314 arg29
  let c1_i32_1315 : BitVec 32 := 1#32
  let v2614 : BitVec 32 := Scalar.addi v2613 c1_i32_1315
  let c256_i32_1316 : BitVec 32 := 256#32
  let v2615 : BitVec 32 := Scalar.muli v2614 c256_i32_1316
  v2615
def k0_mult338 (i : grid0.Coords) (k0_t26 : Fin (k0_t26_loop i).trips) : BitVec 32 :=
  let c2_i32_1334 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t26
  let v2641 : BitVec 32 := Scalar.muli c2_i32_1334 arg29
  let c0_i32_1335 : BitVec 32 := 0#32
  let v2642 : BitVec 32 := Scalar.addi v2641 c0_i32_1335
  let c256_i32_1336 : BitVec 32 := 256#32
  let v2643 : BitVec 32 := Scalar.muli v2642 c256_i32_1336
  v2643
def k0_mult339 (i : grid0.Coords) (k0_t26 : Fin (k0_t26_loop i).trips) : BitVec 32 :=
  let c2_i32_1353 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t26
  let v2669 : BitVec 32 := Scalar.muli c2_i32_1353 arg29
  let c1_i32_1354 : BitVec 32 := 1#32
  let v2670 : BitVec 32 := Scalar.addi v2669 c1_i32_1354
  let c256_i32_1355 : BitVec 32 := 256#32
  let v2671 : BitVec 32 := Scalar.muli v2670 c256_i32_1355
  v2671
def k0_off821 (i : grid0.Coords) (k0_t26 : Fin (k0_t26_loop i).trips) (c0_i32_1377 : BitVec 32) : Fin 4 → Nat :=
  let c0_1381 : Index := 0#32
  let c2_i32_1376 : BitVec 32 := 2#32
  let c0_i32_1051 : BitVec 32 := 0#32
  let arg1 : BitVec 32 := BitVec.ofNat 32 (i 1).val
  let c1_i32 : BitVec 32 := 1#32
  let v0 : BitVec 32 := Scalar.addi arg1 c1_i32
  let c1_i32_419 : BitVec 32 := 1#32
  let v884 : BitVec 32 := Scalar.addi v0 c1_i32_419
  let c0_i32_421 : BitVec 32 := 0#32
  let v886 : BitVec 1 := Scalar.cmpi .sgt v884 c0_i32_421
  let v887 : BitVec 32 := Scalar.extui v886
  let c0_i32_422 : BitVec 32 := 0#32
  let v888 : BitVec 1 := Scalar.cmpi .slt v884 c0_i32_422
  let v889 : BitVec 32 := Scalar.extui v888
  let v890 : BitVec 32 := Scalar.subi v887 v889
  let c2_i32_420 : BitVec 32 := 2#32
  let c0_i32_423 : BitVec 32 := 0#32
  let v891 : BitVec 1 := Scalar.cmpi .sgt c2_i32_420 c0_i32_423
  let v892 : BitVec 32 := Scalar.extui v891
  let c0_i32_424 : BitVec 32 := 0#32
  let v893 : BitVec 1 := Scalar.cmpi .slt c2_i32_420 c0_i32_424
  let v894 : BitVec 32 := Scalar.extui v893
  let v895 : BitVec 32 := Scalar.subi v892 v894
  let v896 : BitVec 1 := Scalar.cmpi .ne v890 v895
  let v897 : BitVec 32 := Scalar.remsi v884 c2_i32_420
  let c0_i32_425 : BitVec 32 := 0#32
  let v898 : BitVec 1 := Scalar.cmpi .ne v897 c0_i32_425
  let v899 : BitVec 1 := Scalar.andi v896 v898
  let v885 : BitVec 32 := Scalar.divsi v884 c2_i32_420
  let c1_i32_426 : BitVec 32 := 1#32
  let v900 : BitVec 32 := Scalar.subi v885 c1_i32_426
  let v901 : BitVec 32 := Scalar.select v899 v900 v885
  let v2242 : BitVec 32 := Scalar.subi v901 c0_i32_1051
  let c1_i32_1052 : BitVec 32 := 1#32
  let v2244 : BitVec 32 := Scalar.divsi v2242 c1_i32_1052
  let v2245 : BitVec 32 := Scalar.muli v2244 c1_i32_1052
  let v2246 : BitVec 32 := Scalar.addi c0_i32_1051 v2245
  let c1_i32_1054 : BitVec 32 := 1#32
  let arg29 : BitVec 32 := Scf.iv v2246 c1_i32_1054 k0_t26
  let v2703 : BitVec 32 := Scalar.muli c2_i32_1376 arg29
  let v2704 : BitVec 32 := Scalar.addi v2703 c0_i32_1377
  let v2711 : Index := Scalar.indexCast v2704
  let c0_1382 : Index := 0#32
  let c0_1383 : Index := 0#32
  ![0, v2711.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x16x640x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x4096x384 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S1x16x80x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 2 → Memref sig .tc .vmem S1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Kernel2.lean ====
abbrev S8x4096x1024 : Shape := ⟨3, ![8, 4096, 1024]⟩
abbrev S8x4096x512 : Shape := ⟨3, ![8, 4096, 512]⟩
abbrev S512x1024 : Shape := ⟨2, ![512, 1024]⟩
abbrev S1024x1024 : Shape := ⟨2, ![1024, 1024]⟩
abbrev S32768x1024 : Shape := ⟨2, ![32768, 1024]⟩
abbrev S32768x512 : Shape := ⟨2, ![32768, 512]⟩
abbrev S1024x512 : Shape := ⟨2, ![1024, 512]⟩

abbrev nBuf : Space → Nat
  | .hbm => 17
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S8x4096x1024, .f32⟩
  | .hbm, ⟨4, _⟩ => ⟨S8x4096x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S32768x1024, .f32⟩
  | .hbm, ⟨9, _⟩ => ⟨S32768x512, .bf16⟩
  | .hbm, ⟨10, _⟩ => ⟨S32768x512, .bf16⟩
  | .hbm, ⟨11, _⟩ => ⟨S32768x1024, .f32⟩
  | .hbm, ⟨12, _⟩ => ⟨S32768x1024, .f32⟩
  | .hbm, ⟨13, _⟩ => ⟨S512x1024, .bf16⟩
  | .hbm, ⟨14, _⟩ => ⟨S512x1024, .bf16⟩
  | .hbm, ⟨15, _⟩ => ⟨S1024x1024, .bf16⟩
  | .hbm, ⟨16, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S8x4096x1024 : Shape := ⟨3, ![8, 4096, 1024]⟩
abbrev S8x4096x512 : Shape := ⟨3, ![8, 4096, 512]⟩
abbrev S512x1024 : Shape := ⟨2, ![512, 1024]⟩
abbrev S1024x1024 : Shape := ⟨2, ![1024, 1024]⟩
abbrev S32768x1024 : Shape := ⟨2, ![32768, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S8x4096x1024, .f32⟩
  | .hbm, ⟨4, _⟩ => ⟨S8x4096x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S8x4096x512, .f32⟩
  | .hbm, ⟨9, _⟩ => ⟨S8x4096x1024, .f32⟩
  | .hbm, ⟨10, _⟩ => ⟨S8x4096x1024, .f32⟩
  | .hbm, ⟨11, _⟩ => ⟨S8x4096x512, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S1024x5572 : Shape := ⟨2, ![1024, 5572]⟩
abbrev S64 : Shape := ⟨1, ![64]⟩
abbrev S1024x512 : Shape := ⟨2, ![1024, 512]⟩
abbrev S1024x64 : Shape := ⟨2, ![1024, 64]⟩
abbrev S1024x256 : Shape := ⟨2, ![1024, 256]⟩
abbrev S1024x4 : Shape := ⟨2, ![1024, 4]⟩
abbrev S1024x1024 : Shape := ⟨2, ![1024, 1024]⟩
abbrev S1024x3968 : Shape := ⟨2, ![1024, 3968]⟩
abbrev S_ : Shape := ⟨0, ![]⟩
abbrev S1024x12 : Shape := ⟨2, ![1024, 12]⟩
abbrev S1024x1872 : Shape := ⟨2, ![1024, 1872]⟩
abbrev S1872x1024 : Shape := ⟨2, ![1872, 1024]⟩
abbrev S1x64 : Shape := ⟨2, ![1, 64]⟩
abbrev S8x64 : Shape := ⟨2, ![8, 64]⟩
abbrev S512 : Shape := ⟨1, ![512]⟩
abbrev S2x64 : Shape := ⟨2, ![2, 64]⟩
abbrev S128 : Shape := ⟨1, ![128]⟩
abbrev S640 : Shape := ⟨1, ![640]⟩
abbrev S1x640 : Shape := ⟨2, ![1, 640]⟩
abbrev S1024x1 : Shape := ⟨2, ![1024, 1]⟩
abbrev S32768x1024 : Shape := ⟨2, ![32768, 1024]⟩
abbrev S1x1024 : Shape := ⟨2, ![1, 1024]⟩
abbrev S32768x512 : Shape := ⟨2, ![32768, 512]⟩
abbrev S32768x384 : Shape := ⟨2, ![32768, 384]⟩
abbrev S128x1x512 : Shape := ⟨3, ![128, 1, 512]⟩
abbrev S128x512x256 : Shape := ⟨3, ![128, 512, 256]⟩
abbrev S128x640x256 : Shape := ⟨3, ![128, 640, 256]⟩
abbrev S128x256x256 : Shape := ⟨3, ![128, 256, 256]⟩
abbrev S128x80x256 : Shape := ⟨3, ![128, 80, 256]⟩
abbrev S128x8x256 : Shape := ⟨3, ![128, 8, 256]⟩
abbrev S512x1024 : Shape := ⟨2, ![512, 1024]⟩
abbrev S512x512 : Shape := ⟨2, ![512, 512]⟩
abbrev S512x384 : Shape := ⟨2, ![512, 384]⟩
abbrev S2x1x512 : Shape := ⟨3, ![2, 1, 512]⟩
abbrev S2x512x256 : Shape := ⟨3, ![2, 512, 256]⟩
abbrev S2x640x256 : Shape := ⟨3, ![2, 640, 256]⟩
abbrev S2x256x256 : Shape := ⟨3, ![2, 256, 256]⟩
abbrev S2x80x256 : Shape := ⟨3, ![2, 80, 256]⟩
abbrev S2x8x256 : Shape := ⟨3, ![2, 8, 256]⟩
abbrev S512x1 : Shape := ⟨2, ![512, 1]⟩
abbrev S256x256 : Shape := ⟨2, ![256, 256]⟩
abbrev S512x256 : Shape := ⟨2, ![512, 256]⟩
abbrev S1x256 : Shape := ⟨2, ![1, 256]⟩
abbrev S256 : Shape := ⟨1, ![256]⟩
abbrev S1x1x256 : Shape := ⟨3, ![1, 1, 256]⟩
abbrev S1024x384 : Shape := ⟨2, ![1024, 384]⟩
abbrev S512x128 : Shape := ⟨2, ![512, 128]⟩
abbrev S128x128 : Shape := ⟨2, ![128, 128]⟩
abbrev S1x128 : Shape := ⟨2, ![1, 128]⟩
abbrev S16x512 : Shape := ⟨2, ![16, 512]⟩
abbrev S64x512 : Shape := ⟨2, ![64, 512]⟩
abbrev S1x512 : Shape := ⟨2, ![1, 512]⟩
abbrev S64x1 : Shape := ⟨2, ![64, 1]⟩
abbrev S64x256 : Shape := ⟨2, ![64, 256]⟩
abbrev S1x64x256 : Shape := ⟨3, ![1, 64, 256]⟩
abbrev S16x256 : Shape := ⟨2, ![16, 256]⟩
abbrev S1x16x256 : Shape := ⟨3, ![1, 16, 256]⟩
abbrev S256x1024 : Shape := ⟨2, ![256, 1024]⟩
abbrev S256x512 : Shape := ⟨2, ![256, 512]⟩
abbrev S1x256x256 : Shape := ⟨3, ![1, 256, 256]⟩
abbrev S80x1024 : Shape := ⟨2, ![80, 1024]⟩
abbrev S80x512 : Shape := ⟨2, ![80, 512]⟩
abbrev S8x512 : Shape := ⟨2, ![8, 512]⟩
abbrev S8x256 : Shape := ⟨2, ![8, 256]⟩
abbrev S1x8x256 : Shape := ⟨3, ![1, 8, 256]⟩

abbrev nBuf : Space → Nat
  | .hbm => 58
  | .vmem => 33
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5572, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x64, .f32⟩
  | .hbm, ⟨13, _⟩ => ⟨S1024x64, .f32⟩
  | .hbm, ⟨14, _⟩ => ⟨S1024x512, .f32⟩
  | .hbm, ⟨15, _⟩ => ⟨S1024x256, .f32⟩
  | .hbm, ⟨16, _⟩ => ⟨S1024x64, .f32⟩
  | .hbm, ⟨17, _⟩ => ⟨S1024x4, .f32⟩
  | .hbm, ⟨18, _⟩ => ⟨S1024x1024, .f32⟩
  | .hbm, ⟨19, _⟩ => ⟨S1024x1024, .f32⟩
  | .hbm, ⟨20, _⟩ => ⟨S1024x3968, .f32⟩
  | .hbm, ⟨21, _⟩ => ⟨S1024x3968, .bf16⟩
  | .hbm, ⟨22, _⟩ => ⟨S_, .f32⟩
  | .hbm, ⟨23, _⟩ => ⟨S1024x12, .f32⟩
  | .hbm, ⟨24, _⟩ => ⟨S1024x1872, .f32⟩
  | .hbm, ⟨25, _⟩ => ⟨S1872x1024, .f32⟩
  | .hbm, ⟨26, _⟩ => ⟨S1872x1024, .bf16⟩
  | .hbm, ⟨27, _⟩ => ⟨S1x64, .f32⟩
  | .hbm, ⟨28, _⟩ => ⟨S8x64, .f32⟩
  | .hbm, ⟨29, _⟩ => ⟨S512, .f32⟩
  | .hbm, ⟨30, _⟩ => ⟨S1x64, .f32⟩
  | .hbm, ⟨31, _⟩ => ⟨S2x64, .f32⟩
  | .hbm, ⟨32, _⟩ => ⟨S128, .f32⟩
  | .hbm, ⟨33, _⟩ => ⟨S640, .f32⟩
  | .hbm, ⟨34, _⟩ => ⟨S1x640, .f32⟩
  | .hbm, ⟨35, _⟩ => ⟨S1x64, .f32⟩
  | .hbm, ⟨36, _⟩ => ⟨S8x64, .f32⟩
  | .hbm, ⟨37, _⟩ => ⟨S512, .f32⟩
  | .hbm, ⟨38, _⟩ => ⟨S1x64, .f32⟩
  | .hbm, ⟨39, _⟩ => ⟨S8x64, .f32⟩
  | .hbm, ⟨40, _⟩ => ⟨S512, .f32⟩
  | .hbm, ⟨41, _⟩ => ⟨S1024, .f32⟩
  | .hbm, ⟨42, _⟩ => ⟨S1024x1, .f32⟩
  | .hbm, ⟨43, _⟩ => ⟨S32768x1024, .f32⟩
  | .hbm, ⟨44, _⟩ => ⟨S1x1024, .f32⟩
  | .hbm, ⟨45, _⟩ => ⟨S32768x512, .bf16⟩
  | .hbm, ⟨46, _⟩ => ⟨S32768x384, .bf16⟩
  | .hbm, ⟨47, _⟩ => ⟨S32768x512, .f32⟩
  | .hbm, ⟨48, _⟩ => ⟨S32768x512, .f32⟩
  | .hbm, ⟨49, _⟩ => ⟨S32768x1024, .f32⟩
  | .hbm, ⟨50, _⟩ => ⟨S32768x1024, .f32⟩
  | .hbm, ⟨51, _⟩ => ⟨S128x1x512, .f32⟩
  | .hbm, ⟨52, _⟩ => ⟨S128x512x256, .bf16⟩
  | .hbm, ⟨53, _⟩ => ⟨S128x512x256, .bf16⟩
  | .hbm, ⟨54, _⟩ => ⟨S128x640x256, .bf16⟩
  | .hbm, ⟨55, _⟩ => ⟨S128x256x256, .bf16⟩
  | .hbm, ⟨56, _⟩ => ⟨S128x80x256, .bf16⟩
  | .hbm, ⟨57, _⟩ => ⟨S128x8x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3968, .bf16⟩
  | .local _ .vmem, ⟨4, _⟩ => ⟨S1872x1024, .bf16⟩
  | .local _ .vmem, ⟨5, _⟩ => ⟨S1x640, .f32⟩
  | .local _ .vmem, ⟨6, _⟩ => ⟨S1024x1, .f32⟩
  | .local _ .vmem, ⟨7, _⟩ => ⟨S512x512, .bf16⟩
  | .local _ .vmem, ⟨8, _⟩ => ⟨S512x512, .bf16⟩
  | .local _ .vmem, ⟨9, _⟩ => ⟨S512x384, .bf16⟩
  | .local _ .vmem, ⟨10, _⟩ => ⟨S512x384, .bf16⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S2x1x512, .f32⟩
  | .local _ .vmem, ⟨20, _⟩ => ⟨S2x1x512, .f32⟩
  | .local _ .vmem, ⟨21, _⟩ => ⟨S2x512x256, .bf16⟩
  | .local _ .vmem, ⟨22, _⟩ => ⟨S2x512x256, .bf16⟩
  | .local _ .vmem, ⟨23, _⟩ => ⟨S2x512x256, .bf16⟩
  | .local _ .vmem, ⟨24, _⟩ => ⟨S2x512x256, .bf16⟩
  | .local _ .vmem, ⟨25, _⟩ => ⟨S2x640x256, .bf16⟩
  | .local _ .vmem, ⟨26, _⟩ => ⟨S2x640x256, .bf16⟩
  | .local _ .vmem, ⟨27, _⟩ => ⟨S2x256x256, .bf16⟩
  | .local _ .vmem, ⟨28, _⟩ => ⟨S2x256x256, .bf16⟩
  | .local _ .vmem, ⟨29, _⟩ => ⟨S2x80x256, .bf16⟩
  | .local _ .vmem, ⟨30, _⟩ => ⟨S2x80x256, .bf16⟩
  | .local _ .vmem, ⟨31, _⟩ => ⟨S2x8x256, .f32⟩
  | .local _ .vmem, ⟨32, _⟩ => ⟨S2x8x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37_0 : Ref sig .tc := ⟨.hbm, 45, rfl⟩
abbrev main_v37_1 : Ref sig .tc := ⟨.hbm, 46, rfl⟩
abbrev main_v37_2 : Ref sig .tc := ⟨.hbm, 47, rfl⟩
abbrev main_v37_3 : Ref sig .tc := ⟨.hbm, 48, rfl⟩
abbrev main_v37_4 : Ref sig .tc := ⟨.hbm, 49, rfl⟩
abbrev main_v37_5 : Ref sig .tc := ⟨.hbm, 50, rfl⟩
abbrev main_v37_6 : Ref sig .tc := ⟨.hbm, 51, rfl⟩
abbrev main_v37_7 : Ref sig .tc := ⟨.hbm, 52, rfl⟩
abbrev main_v37_8 : Ref sig .tc := ⟨.hbm, 53, rfl⟩
abbrev main_v37_9 : Ref sig .tc := ⟨.hbm, 54, rfl⟩
abbrev main_v37_10 : Ref sig .tc := ⟨.hbm, 55, rfl⟩
abbrev main_v37_11 : Ref sig .tc := ⟨.hbm, 56, rfl⟩
abbrev main_v37_12 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3968 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1872x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x640x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x256x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x80x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x8x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference3Ideal.lean ====
abbrev S8x4096x1024 : Shape := ⟨3, ![8, 4096, 1024]⟩
abbrev S1024 : Shape := ⟨1, ![1024]⟩
abbrev S1024x5572 : Shape := ⟨2, ![1024, 5572]⟩
abbrev S64 : Shape := ⟨1, ![64]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5572 : Shape := ⟨3, ![8, 4096, 5572]⟩
abbrev S8x4096x512 : Shape := ⟨3, ![8, 4096, 512]⟩
abbrev S8x4096x64 : Shape := ⟨3, ![8, 4096, 64]⟩
abbrev S8x4096x256 : Shape := ⟨3, ![8, 4096, 256]⟩
abbrev S8x4096x4 : Shape := ⟨3, ![8, 4096, 4]⟩
abbrev S8x4096x8x64 : Shape := ⟨4, ![8, 4096, 8, 64]⟩
abbrev S8x4096x8 : Shape := ⟨3, ![8, 4096, 8]⟩
abbrev S8x4096x8x1 : Shape := ⟨4, ![8, 4096, 8, 1]⟩
abbrev S1x1x1x64 : Shape := ⟨4, ![1, 1, 1, 64]⟩
abbrev S1x1x64 : Shape := ⟨3, ![1, 1, 64]⟩
abbrev S8x16x256x8x64 : Shape := ⟨5, ![8, 16, 256, 8, 64]⟩
abbrev S8x16x8x64 : Shape := ⟨4, ![8, 16, 8, 64]⟩
abbrev S32768x512 : Shape := ⟨2, ![32768, 512]⟩
abbrev S8x4096x384 : Shape := ⟨3, ![8, 4096, 384]⟩
abbrev S32768x384 : Shape := ⟨2, ![32768, 384]⟩
abbrev S32768x1024 : Shape := ⟨2, ![32768, 1024]⟩
abbrev S128x1x512 : Shape := ⟨3, ![128, 1, 512]⟩
abbrev S128x256x512 : Shape := ⟨3, ![128, 256, 512]⟩
abbrev S128x512x256 : Shape := ⟨3, ![128, 512, 256]⟩
abbrev S128x256x8x64 : Shape := ⟨4, ![128, 256, 8, 64]⟩
abbrev S128x256x8x16 : Shape := ⟨4, ![128, 256, 8, 16]⟩
abbrev S128x256x8x80 : Shape := ⟨4, ![128, 256, 8, 80]⟩
abbrev S128x256x640 : Shape := ⟨3, ![128, 256, 640]⟩
abbrev S128x640x256 : Shape := ⟨3, ![128, 640, 256]⟩
abbrev S128x256x256 : Shape := ⟨3, ![128, 256, 256]⟩
abbrev S128x256x1x64 : Shape := ⟨4, ![128, 256, 1, 64]⟩
abbrev S128x256x1x16 : Shape := ⟨4, ![128, 256, 1, 16]⟩
abbrev S128x256x1x80 : Shape := ⟨4, ![128, 256, 1, 80]⟩
abbrev S128x256x80 : Shape := ⟨3, ![128, 256, 80]⟩
abbrev S128x80x256 : Shape := ⟨3, ![128, 80, 256]⟩
abbrev S128x256x8 : Shape := ⟨3, ![128, 256, 8]⟩
abbrev S128x8x256 : Shape := ⟨3, ![128, 8, 256]⟩

abbrev nBuf : Space → Nat
  | .hbm => 194
  | .vmem => 0
  | .smem => 0
  | _ => 0

abbrev hbmTy0_0 (i : Nat) : BufTy := match i % 128 with
  | 0 => ⟨S8x4096x1024, .f32⟩
  | 1 => ⟨S1024, .f32⟩
  | 2 => ⟨S1024x5572, .f32⟩
  | 3 => ⟨S64, .f32⟩
  | 4 => ⟨S64, .f32⟩
  | 5 => ⟨S64, .f32⟩
  | 6 => ⟨S64, .f32⟩
  | 7 => ⟨S8x4096x1024, .f32⟩
  | 8 => ⟨S_, .f32⟩
  | 9 => ⟨S8x4096, .f32⟩
  | 10 => ⟨S8x4096x1, .f32⟩
  | 11 => ⟨S_, .f32⟩
  | 12 => ⟨S8x4096x1, .f32⟩
  | 13 => ⟨S8x4096x1, .f32⟩
  | 14 => ⟨S_, .f32⟩
  | 15 => ⟨S8x4096x1, .f32⟩
  | 16 => ⟨S8x4096x1, .f32⟩
  | 17 => ⟨S8x4096x1, .f32⟩
  | 18 => ⟨S8x4096x1024, .f32⟩
  | 19 => ⟨S8x4096x1024, .f32⟩
  | 20 => ⟨S1x1x1024, .f32⟩
  | 21 => ⟨S8x4096x1024, .f32⟩
  | 22 => ⟨S8x4096x1024, .f32⟩
  | 23 => ⟨S8x4096x5572, .f32⟩
  | 24 => ⟨S8x4096x512, .f32⟩
  | 25 => ⟨S8x4096x512, .f32⟩
  | 26 => ⟨S8x4096x512, .f32⟩
  | 27 => ⟨S8x4096x512, .f32⟩
  | 28 => ⟨S8x4096x512, .f32⟩
  | 29 => ⟨S8x4096x64, .f32⟩
  | 30 => ⟨S8x4096x64, .f32⟩
  | 31 => ⟨S8x4096x512, .f32⟩
  | 32 => ⟨S8x4096x256, .f32⟩
  | 33 => ⟨S8x4096x64, .f32⟩
  | 34 => ⟨S8x4096x4, .f32⟩
  | 35 => ⟨S8x4096x1024, .f32⟩
  | 36 => ⟨S8x4096x1024, .f32⟩
  | 37 => ⟨S8x4096x8x64, .f32⟩
  | 38 => ⟨S8x4096x8x64, .f32⟩
  | 39 => ⟨S_, .f32⟩
  | 40 => ⟨S8x4096x8, .f32⟩
  | 41 => ⟨S8x4096x8x1, .f32⟩
  | 42 => ⟨S_, .f32⟩
  | 43 => ⟨S8x4096x8x1, .f32⟩
  | 44 => ⟨S8x4096x8x1, .f32⟩
  | 45 => ⟨S_, .f32⟩
  | 46 => ⟨S8x4096x8x1, .f32⟩
  | 47 => ⟨S8x4096x8x1, .f32⟩
  | 48 => ⟨S8x4096x8x1, .f32⟩
  | 49 => ⟨S8x4096x8x64, .f32⟩
  | 50 => ⟨S8x4096x8x64, .f32⟩
  | 51 => ⟨S1x1x1x64, .f32⟩
  | 52 => ⟨S8x4096x8x64, .f32⟩
  | 53 => ⟨S8x4096x8x64, .f32⟩
  | 54 => ⟨S8x4096x8x64, .f32⟩
  | 55 => ⟨S8x4096x8x64, .f32⟩
  | 56 => ⟨S_, .f32⟩
  | 57 => ⟨S8x4096x8, .f32⟩
  | 58 => ⟨S8x4096x8x1, .f32⟩
  | 59 => ⟨S_, .f32⟩
  | 60 => ⟨S8x4096x8x1, .f32⟩
  | 61 => ⟨S8x4096x8x1, .f32⟩
  | 62 => ⟨S_, .f32⟩
  | 63 => ⟨S8x4096x8x1, .f32⟩
  | 64 => ⟨S8x4096x8x1, .f32⟩
  | 65 => ⟨S8x4096x8x1, .f32⟩
  | 66 => ⟨S8x4096x8x64, .f32⟩
  | 67 => ⟨S8x4096x8x64, .f32⟩
  | 68 => ⟨S1x1x1x64, .f32⟩
  | 69 => ⟨S8x4096x8x64, .f32⟩
  | 70 => ⟨S8x4096x8x64, .f32⟩
  | 71 => ⟨S8x4096x8x64, .f32⟩
  | 72 => ⟨S8x4096x8x64, .f32⟩
  | 73 => ⟨S_, .f32⟩
  | 74 => ⟨S8x4096x8, .f32⟩
  | 75 => ⟨S8x4096x8x1, .f32⟩
  | 76 => ⟨S_, .f32⟩
  | 77 => ⟨S8x4096x8x1, .f32⟩
  | 78 => ⟨S8x4096x8x1, .f32⟩
  | 79 => ⟨S_, .f32⟩
  | 80 => ⟨S8x4096x8x1, .f32⟩
  | 81 => ⟨S8x4096x8x1, .f32⟩
  | 82 => ⟨S8x4096x8x1, .f32⟩
  | 83 => ⟨S8x4096x8x64, .f32⟩
  | 84 => ⟨S8x4096x8x64, .f32⟩
  | 85 => ⟨S1x1x1x64, .f32⟩
  | 86 => ⟨S8x4096x8x64, .f32⟩
  | 87 => ⟨S8x4096x8x64, .f32⟩
  | 88 => ⟨S8x4096x64, .f32⟩
  | 89 => ⟨S_, .f32⟩
  | 90 => ⟨S8x4096, .f32⟩
  | 91 => ⟨S8x4096x1, .f32⟩
  | 92 => ⟨S_, .f32⟩
  | 93 => ⟨S8x4096x1, .f32⟩
  | 94 => ⟨S8x4096x1, .f32⟩
  | 95 => ⟨S_, .f32⟩
  | 96 => ⟨S8x4096x1, .f32⟩
  | 97 => ⟨S8x4096x1, .f32⟩
  | 98 => ⟨S8x4096x1, .f32⟩
  | 99 => ⟨S8x4096x64, .f32⟩
  | 100 => ⟨S8x4096x64, .f32⟩
  | 101 => ⟨S1x1x64, .f32⟩
  | 102 => ⟨S8x4096x64, .f32⟩
  | 103 => ⟨S8x4096x64, .f32⟩
  | 104 => ⟨S8x16x256x8x64, .f32⟩
  | 105 => ⟨S_, .f32⟩
  | 106 => ⟨S8x16x8x64, .f32⟩
  | 107 => ⟨S_, .f32⟩
  | 108 => ⟨S8x16x8x64, .f32⟩
  | 109 => ⟨S8x16x8x64, .f32⟩
  | 110 => ⟨S32768x512, .f32⟩
  | 111 => ⟨S32768x512, .bf16⟩
  | 112 => ⟨S8x4096x384, .f32⟩
  | 113 => ⟨S32768x384, .f32⟩
  | 114 => ⟨S32768x384, .bf16⟩
  | 115 => ⟨S8x4096x512, .f32⟩
  | 116 => ⟨S8x4096x512, .f32⟩
  | 117 => ⟨S_, .f32⟩
  | 118 => ⟨S8x4096x512, .f32⟩
  | 119 => ⟨S8x4096x512, .f32⟩
  | 120 => ⟨S_, .f32⟩
  | 121 => ⟨S8x4096x512, .f32⟩
  | 122 => ⟨S8x4096x512, .f32⟩
  | 123 => ⟨S8x4096x512, .f32⟩
  | 124 => ⟨S32768x512, .f32⟩
  | 125 => ⟨S8x4096x512, .f32⟩
  | 126 => ⟨S8x4096x512, .f32⟩
  | 127 => ⟨S_, .f32⟩
  | _ => ⟨S8x4096x1024, .f32⟩

abbrev hbmTy0_1 (i : Nat) : BufTy := match i % 128 with
  | 0 => ⟨S8x4096x512, .f32⟩
  | 1 => ⟨S8x4096x512, .f32⟩
  | 2 => ⟨S_, .f32⟩
  | 3 => ⟨S8x4096x512, .f32⟩
  | 4 => ⟨S8x4096x512, .f32⟩
  | 5 => ⟨S8x4096x512, .f32⟩
  | 6 => ⟨S32768x512, .f32⟩
  | 7 => ⟨S8x4096x1024, .f32⟩
  | 8 => ⟨S8x4096x1024, .f32⟩
  | 9 => ⟨S_, .f32⟩
  | 10 => ⟨S8x4096x1024, .f32⟩
  | 11 => ⟨S8x4096x1024, .f32⟩
  | 12 => ⟨S_, .f32⟩
  | 13 => ⟨S8x4096x1024, .f32⟩
  | 14 => ⟨S8x4096x1024, .f32⟩
  | 15 => ⟨S32768x1024, .f32⟩
  | 16 => ⟨S8x4096x1024, .f32⟩
  | 17 => ⟨S8x4096x1024, .f32⟩
  | 18 => ⟨S_, .f32⟩
  | 19 => ⟨S8x4096x1024, .f32⟩
  | 20 => ⟨S8x4096x1024, .f32⟩
  | 21 => ⟨S_, .f32⟩
  | 22 => ⟨S8x4096x1024, .f32⟩
  | 23 => ⟨S8x4096x1024, .f32⟩
  | 24 => ⟨S32768x1024, .f32⟩
  | 25 => ⟨S128x1x512, .f32⟩
  | 26 => ⟨S_, .f32⟩
  | 27 => ⟨S8x4096x8x64, .f32⟩
  | 28 => ⟨S8x4096x8x64, .f32⟩
  | 29 => ⟨S128x256x512, .f32⟩
  | 30 => ⟨S128x512x256, .f32⟩
  | 31 => ⟨S128x512x256, .bf16⟩
  | 32 => ⟨S_, .f32⟩
  | 33 => ⟨S8x4096x8x64, .f32⟩
  | 34 => ⟨S8x4096x8x64, .f32⟩
  | 35 => ⟨S128x256x512, .f32⟩
  | 36 => ⟨S128x512x256, .f32⟩
  | 37 => ⟨S128x512x256, .bf16⟩
  | 38 => ⟨S128x256x8x64, .f32⟩
  | 39 => ⟨S_, .f32⟩
  | 40 => ⟨S128x256x8x16, .f32⟩
  | 41 => ⟨S128x256x8x80, .f32⟩
  | 42 => ⟨S128x256x640, .f32⟩
  | 43 => ⟨S128x640x256, .f32⟩
  | 44 => ⟨S128x640x256, .bf16⟩
  | 45 => ⟨S_, .f32⟩
  | 46 => ⟨S8x4096x256, .f32⟩
  | 47 => ⟨S8x4096x256, .f32⟩
  | 48 => ⟨S128x256x256, .f32⟩
  | 49 => ⟨S128x256x256, .f32⟩
  | 50 => ⟨S128x256x256, .bf16⟩
  | 51 => ⟨S128x256x1x64, .f32⟩
  | 52 => ⟨S_, .f32⟩
  | 53 => ⟨S128x256x1x16, .f32⟩
  | 54 => ⟨S128x256x1x80, .f32⟩
  | 55 => ⟨S128x256x80, .f32⟩
  | 56 => ⟨S128x80x256, .f32⟩
  | 57 => ⟨S128x80x256, .bf16⟩
  | 58 => ⟨S_, .f32⟩
  | 59 => ⟨S8x4096x4, .f32⟩
  | 60 => ⟨S8x4096x8, .f32⟩
  | 61 => ⟨S_, .f32⟩
  | 62 => ⟨S8x4096x8, .f32⟩
  | 63 => ⟨S8x4096x8, .f32⟩
  | 64 => ⟨S128x256x8, .f32⟩
  | 65 => ⟨S128x8x256, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_8 : Ref sig .tc := ⟨.hbm, 73, rfl⟩
abbrev main_v57 : Ref sig .tc := ⟨.hbm, 74, rfl⟩
abbrev main_v58 : Ref sig .tc := ⟨.hbm, 75, rfl⟩
abbrev main_cst_9 : Ref sig .tc := ⟨.hbm, 76, rfl⟩
abbrev main_v59 : Ref sig .tc := ⟨.hbm, 77, rfl⟩
abbrev main_v60 : Ref sig .tc := ⟨.hbm, 78, rfl⟩
abbrev main_cst_10 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_11 : Ref sig .tc := ⟨.hbm, 89, rfl⟩
abbrev main_v70 : Ref sig .tc := ⟨.hbm, 90, rfl⟩
abbrev main_v71 : Ref sig .tc := ⟨.hbm, 91, rfl⟩
abbrev main_cst_12 : Ref sig .tc := ⟨.hbm, 92, rfl⟩
abbrev main_v72 : Ref sig .tc := ⟨.hbm, 93, rfl⟩
abbrev main_v73 : Ref sig .tc := ⟨.hbm, 94, rfl⟩
abbrev main_cst_13 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_14 : Ref sig .tc := ⟨.hbm, 105, rfl⟩
abbrev main_v83 : Ref sig .tc := ⟨.hbm, 106, rfl⟩
abbrev main_cst_15 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_call0_v0 : Ref sig .tc := ⟨.hbm, 115, rfl⟩
abbrev main_call0_v1 : Ref sig .tc := ⟨.hbm, 116, rfl⟩
abbrev main_call0_cst : Ref sig .tc := ⟨.hbm, 117, rfl⟩
abbrev main_call0_v2 : Ref sig .tc := ⟨.hbm, 118, rfl⟩
abbrev main_call0_v3 : Ref sig .tc := ⟨.hbm, 119, rfl⟩
abbrev main_call0_cst_0 : Ref sig .tc := ⟨.hbm, 120, rfl⟩
abbrev main_call0_v4 : Ref sig .tc := ⟨.hbm, 121, rfl⟩
abbrev main_call0_v5 : Ref sig .tc := ⟨.hbm, 122, rfl⟩
abbrev main_v91 : Ref sig .tc := ⟨.hbm, 123, rfl⟩
abbrev main_v92 : Ref sig .tc := ⟨.hbm, 124, rfl⟩
abbrev main_call1_v0 : Ref sig .tc := ⟨.hbm, 125, rfl⟩
abbrev main_call1_v1 : Ref sig .tc := ⟨.hbm, 126, rfl⟩
abbrev main_call1_cst : Ref sig .tc := ⟨.hbm, 127, rfl⟩
abbrev main_call1_v2 : Ref sig .tc := ⟨.hbm, 128, rfl⟩
abbrev main_call1_v3 : Ref sig .tc := ⟨.hbm, 129, rfl⟩
abbrev main_call1_cst_0 : Ref sig .tc := ⟨.hbm, 130, rfl⟩
abbrev main_call1_v4 : Ref sig .tc := ⟨.hbm, 131, rfl⟩
abbrev main_call1_v5 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_16 : Ref sig .tc := ⟨.hbm, 137, rfl⟩
abbrev main_v97 : Ref sig .tc := ⟨.hbm, 138, rfl⟩
abbrev main_v98 : Ref sig .tc := ⟨.hbm, 139, rfl⟩
abbrev main_cst_17 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_18 : Ref sig .tc := ⟨.hbm, 146, rfl⟩
abbrev main_v104 : Ref sig .tc := ⟨.hbm, 147, rfl⟩
abbrev main_v105 : Ref sig .tc := ⟨.hbm, 148, rfl⟩
abbrev main_cst_19 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_20 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_21 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_cst_22 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_23 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_cst_24 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_cst_25 : Ref sig .tc := ⟨.hbm, 186, rfl⟩
abbrev main_v137 : Ref sig .tc := ⟨.hbm, 187, rfl⟩
abbrev main_v138 : Ref sig .tc := ⟨.hbm, 188, rfl⟩
abbrev main_cst_26 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩

abbrev nD : Nat := 1
abbrev τ : Topo := Topo.v7x

variable {F : FTy → Type} [FloatOps F]
-- ==== Proof.Safe.lean ====
/- A judgement for frames: a program that may load from some buffers and store into others keeps, whatever the values
   it computes, an assertion `I` that holds those buffers. Its rules follow the program's syntax and speak of no value. -/
module

public import Idealize.ShloMosaic.Lib.Pipeline.FrameBody
public import Idealize.ShloMosaic.Lib.Ring
public import Idealize.ShloMosaic.Lib.Tactic

@[expose] public section

noncomputable section

namespace Cert.Proof.Safe

open Idealize.ShloMosaic Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem

variable {nD : Nat} {τ : Topo} {sig : RefSig} {Val : EltTy → Type} {Λ : Labels}

local notation "𝕄" => MT nD τ sig Unit Val ℕ (UR sig nD τ) ℕ

variable (defs : Defs nD τ sig Val Λ) (𝒱 : Variants) (c : Dev nD) (I : sProp (MT nD τ sig Unit Val ℕ (UR sig nD τ) ℕ))
variable {α β γ : Type}

/-- From `I` the program runs, without fault, to `I` again, whatever it returns. -/
structure Keeps (p : Prog (TpuEff nD τ sig Val Λ .tc) α) : Prop where
  run : I ⊢ (wp frame (wpE defs 𝒱 (c : Thread nD τ) none) Set.univ p (fun _ => I))

/-- Every load through `m` keeps `I`. -/
class Loads {cs : CoreSpace} {s : Shape} {e : EltTy} (m : Memref sig .tc cs s e) : Prop where
  keeps : ∀ (r : LoadRect s) (hl : m.view.LoadsAt r), Keeps defs 𝒱 c I (Prog.lift (TpuEff.load m r hl))

/-- Every store through `m` keeps `I`. -/
class Stores {cs : CoreSpace} {s : Shape} {e : EltTy} (m : Memref sig .tc cs s e) : Prop where
  keeps : ∀ (r : Rect s) (w : r.shape.Idx → Val e) (Mk : Finset r.shape.Idx) (hx : (m.access r).Stores Mk)
    (hm : Mk = Finset.univ ∨ ∀ a, r.stride a = 1), Keeps defs 𝒱 c I (Prog.lift (TpuEff.store m r w Mk hx hm))

variable {defs 𝒱 c I}

/-- Returning keeps `I`. -/
theorem keeps_pure (a : α) : Keeps defs 𝒱 c I (pure a) :=
  ⟨exec_ret 𝒱 (c : Thread nD τ) none Set.univ a .rfl⟩

/-- One program after another. -/
theorem keeps_bind {p : Prog (TpuEff nD τ sig Val Λ .tc) β} {k : β → Prog (TpuEff nD τ sig Val Λ .tc) α}
    (hp : Keeps defs 𝒱 c I p) (hk : ∀ b, Keeps defs 𝒱 c I (k b)) : Keeps defs 𝒱 c I (p >>= k) :=
  ⟨exec_bind 𝒱 (c : Thread nD τ) none Set.univ p k (hp.run.trans (wp_mono _ _ _ fun b => (hk b).run))⟩

/-- A load. -/
theorem keeps_load {cs : CoreSpace} {s : Shape} {e : EltTy} {m : Memref sig .tc cs s e} [h : Loads defs 𝒱 c I m]
    {r : LoadRect s} {hl : m.view.LoadsAt r} : Keeps defs 𝒱 c I (Prog.lift (TpuEff.load m r hl)) := h.keeps r hl

/-- A store. -/
theorem keeps_store {cs : CoreSpace} {s : Shape} {e : EltTy} {m : Memref sig .tc cs s e} [h : Stores defs 𝒱 c I m]
    {r : Rect s} {w : r.shape.Idx → Val e} {Mk : Finset r.shape.Idx} {hx : (m.access r).Stores Mk}
    {hm : Mk = Finset.univ ∨ ∀ a, r.stride a = 1} : Keeps defs 𝒱 c I (Prog.lift (TpuEff.store m r w Mk hx hm)) :=
  h.keeps r w Mk hx hm

/-- A scalar load. -/
theorem keeps_smemLoad {s : Shape} {e : EltTy} {m : Memref sig .tc .smem s e} [h : Loads defs 𝒱 c I m]
    {r : Rect s} {h1 : r.shape.numel = 1} {hp : e.packing = 1} :
    Keeps defs 𝒱 c I (smemLoad (p := .tc) m r h1 hp) :=
  keeps_bind (p := Prog.lift (TpuEff.load m r.toLoadRect (View.loadsAt_rect (View.loads_smem_one hp h1))))
    (k := fun f => pure (f (Shape.Idx.first (h1.symm ▸ Nat.one_pos)))) keeps_load fun f => keeps_pure _

/-- A scalar load of a buffer of `i32`, its evidence as a program states it. -/
theorem keeps_smemLoad_i32 {s : Shape} {m : Memref sig .tc .smem s .i32} [h : Loads defs 𝒱 c I m]
    {r : Rect s} {h1 : r.shape.numel = 1} {hp : EltTy.packing .i32 = EltTy.packing .i32} :
    Keeps defs 𝒱 c I (smemLoad (p := .tc) m r h1 hp) := keeps_smemLoad

/-- A scalar load of a buffer of `f32`, its evidence as a program states it. -/
theorem keeps_smemLoad_f32 {s : Shape} {m : Memref sig .tc .smem s .f32} [h : Loads defs 𝒱 c I m]
    {r : Rect s} {h1 : r.shape.numel = 1} {hp : EltTy.packing .f32 = EltTy.packing .f32} :
    Keeps defs 𝒱 c I (smemLoad (p := .tc) m r h1 hp) := keeps_smemLoad

/-- A branch, whose arms may use the condition. -/
theorem keeps_dite {C : Prop} {d : Decidable C} {t : C → Prog (TpuEff nD τ sig Val Λ .tc) α}
    {e : ¬ C → Prog (TpuEff nD τ sig Val Λ .tc) α} (ht : ∀ h, Keeps defs 𝒱 c I (t h)) (he : ∀ h, Keeps defs 𝒱 c I (e h)) :
    Keeps defs 𝒱 c I (dite C t e) := by
  by_cases h : C
  · rw [dif_pos h]; exact ht h
  · rw [dif_neg h]; exact he h

/-- A branch. -/
theorem keeps_ite {C : Prop} {d : Decidable C} {t e : Prog (TpuEff nD τ sig Val Λ .tc) α}
    (ht : Keeps defs 𝒱 c I t) (he : Keeps defs 𝒱 c I e) : Keeps defs 𝒱 c I (ite C t e) := by
  by_cases h : C
  · rw [if_pos h]; exact ht
  · rw [if_neg h]; exact he

/-- A counted loop: each trip keeps `I`. -/
theorem keeps_for {w : Nat} {lb ub st : BitVec w} {hok : Scf.OK lb ub st} {init : α}
    {body : Fin (Scf.trips lb ub st) → α → Prog (TpuEff nD τ sig Val Λ .tc) α}
    (hb : ∀ k acc, Keeps defs 𝒱 c I (body k acc)) : Keeps defs 𝒱 c I (Scf.for lb ub st hok init body) := by
  constructor
  refine BIBase.Entails.trans ?_ (Scf.wp_for _ _ _ lb ub st hok init body (fun _ _ => I) fun k acc => (hb k acc).run)
  iintro H
  isplitl [H]
  · iexact H
  · iintro %acc H
    iexact H

/-- A statement of every pair is one of every value of the pair's type. -/
theorem all_psigma {A : Sort*} {B : A → Sort*} {P : PSigma B → Prop} (h : ∀ a b, P ⟨a, b⟩) : ∀ x, P x := fun ⟨a, b⟩ => h a b

/-- The same of an unnamed pair. -/
theorem all_prod {A B : Type*} {P : A × B → Prop} (h : ∀ a b, P (a, b)) : ∀ x, P x := fun ⟨a, b⟩ => h a b

/-- A buffer `I` holds, at some share and some contents, may be loaded from. -/
theorem loads_of {cs : CoreSpace} {s : Shape} {e : EltTy} {m : Memref sig .tc cs s e} {R : sProp 𝕄} {q : PosShare TreeShare}
    {f : Buf Val (m.view.loc (c : Thread nD τ))}
    (hI : I ⊣⊢ R ∗ (m.view.loc (c : Thread nD τ) ↦[m.view.set]{q} f)) : Loads defs 𝒱 c I m where
  keeps r hl :=
    ⟨exec_load (c := (c : Thread nD τ)) 𝒱 none Set.univ hI (View.setOn_subset_set ..) _ rfl
      (exec_ret 𝒱 (c : Thread nD τ) none Set.univ _ .rfl)⟩

/-- A buffer `I` holds whole-share at contents it does not name may be loaded from. -/
theorem loads_of_some {cs : CoreSpace} {s : Shape} {e : EltTy} {m : Memref sig .tc cs s e} {R : sProp 𝕄}
    (hI : I ⊣⊢ R ∗ ∃ f, (m.view.loc (c : Thread nD τ) ↦[m.view.set]{fullShare} f)) : Loads defs 𝒱 c I m where
  keeps r hl := by
    constructor
    refine hI.1.trans ?_
    iintro ⟨HR, %f, Hf⟩
    iapply (wp_load 𝒱 (c : Thread nD τ) none Set.univ (m := m) (r := r) (hl := hl) (View.setOn_subset_set ..)) $$ Hf
    iintro Hf
    iapply (le_wp_ret _ _ _ _ _)
    iapply hI.2
    isplitl [HR]
    · iexact HR
    · iexists f; iexact Hf

/-- And stored into. -/
theorem stores_of_some {cs : CoreSpace} {s : Shape} {e : EltTy} {m : Memref sig .tc cs s e} {R : sProp 𝕄}
    (hI : I ⊣⊢ R ∗ ∃ f, (m.view.loc (c : Thread nD τ) ↦[m.view.set]{fullShare} f)) : Stores defs 𝒱 c I m where
  keeps r w Mk hx hm := by
    constructor
    refine hI.1.trans ?_
    iintro ⟨HR, %f, Hf⟩
    iapply (wp_store 𝒱 (c : Thread nD τ) none Set.univ (m := m) (r := r) (w := w) (Mk := Mk) (hx := hx) (hm := hm)
      ((View.setOn_subset_set ..).trans (View.set_slice_subset ..))) $$ Hf
    iintro Hf
    iapply (le_wp_ret _ _ _ _ _)
    iapply hI.2
    isplitl [HR]
    · iexact HR
    · iexists _; iexact Hf

end Cert.Proof.Safe

end
-- ==== Proof.Body1.lean ====
/- The attention's body keeps its buffers: the first loop over the tiles and what precedes it. -/
module

public import proofs.«01_k».proof.Kernel
public import proofs.«01_k».proof.Proof.Safe

@[expose] public section

set_option maxHeartbeats 0

noncomputable section

namespace Cert.Proof.Body

open Idealize.ShloMosaic Idealize.ShloMosaic.TcCoe
open Idealize.SL Idealize.SL.RA Idealize.SL.BI
open scoped Idealize.SL.BI
open Idealize.ShloMosaic.Rounds
open Idealize.SL.BI.BIBase Idealize.SL.Sem
open Cert.Kernel Cert.Proof.Safe

variable {F : FTy → Type} [BitOps F] [Facts]
variable {defs : Defs nD τ sig (Elt F) Λ₀} {𝒱 : Variants} {c : Dev nD}
  {I : sProp (MT nD τ sig Unit (Elt F) ℕ (UR sig nD τ) ℕ)}
variable (i : grid0.Coords)
variable (arg2 : Memref sig .tc .smem S32x16 .f32) (harg2 : arg2.IsWhole) [Loads defs 𝒱 c I arg2]
variable (arg3 : Memref sig .tc .smem S2 .i32) (harg3 : arg3.IsWhole) [Loads defs 𝒱 c I arg3]
variable (arg4 : Memref sig .tc .vmem S1x512x256 .bf16) (harg4 : arg4.IsWhole) [Loads defs 𝒱 c I arg4]
variable (arg5 : Memref sig .tc .vmem S1x4096x512 .bf16) (harg5 : arg5.IsWhole) [Loads defs 𝒱 c I arg5]
variable (arg6 : Memref sig .tc .vmem S1x16x640x256 .bf16) (harg6 : arg6.IsWhole) [Loads defs 𝒱 c I arg6]
variable (arg7 : Memref sig .tc .vmem S1x16x512 .f32) (harg7 : arg7.IsWhole) [Loads defs 𝒱 c I arg7]
variable (arg8 : Memref sig .tc .vmem S1x256x512 .f32) (harg8 : arg8.IsWhole) [Loads defs 𝒱 c I arg8]
variable (arg9 : Memref sig .tc .vmem S1x512x256 .bf16) (harg9 : arg9.IsWhole) [Loads defs 𝒱 c I arg9]
variable (arg10 : Memref sig .tc .vmem S1x256x256 .bf16) (harg10 : arg10.IsWhole) [Loads defs 𝒱 c I arg10]
variable (arg11 : Memref sig .tc .vmem S1x8x256 .f32) (harg11 : arg11.IsWhole) [Loads defs 𝒱 c I arg11]
variable (arg12 : Memref sig .tc .vmem S1x4096x384 .bf16) (harg12 : arg12.IsWhole) [Loads defs 𝒱 c I arg12]
variable (arg13 : Memref sig .tc .vmem S1x16x80x256 .bf16) (harg13 : arg13.IsWhole) [Loads defs 𝒱 c I arg13]
variable (arg14 : Memref sig .tc .vmem S1x256x512 .f32) (harg14 : arg14.IsWhole) [Loads defs 𝒱 c I arg14]
variable (arg15 : Memref sig .tc .vmem S1x256x512 .bf16) (harg15 : arg15.IsWhole) [Loads defs 𝒱 c I arg15] [Stores defs 𝒱 c I arg15]
variable (arg16 : Memref sig .tc .vmem S1x256x512 .bf16) (harg16 : arg16.IsWhole) [Loads defs 𝒱 c I arg16] [Stores defs 𝒱 c I arg16]
variable (arg17 : Memref sig .tc .vmem S24x256x256 .f32) (harg17 : arg17.IsWhole) [Loads defs 𝒱 c I arg17] [Stores defs 𝒱 c I arg17]
variable (arg18 : Memref sig .tc .vmem S24x256x256 .f32) (harg18 : arg18.IsWhole) [Loads defs 𝒱 c I arg18] [Stores defs 𝒱 c I arg18]
variable (arg19 : Memref sig .tc .vmem S8x128x256 .bf16) (harg19 : arg19.IsWhole) [Loads defs 𝒱 c I arg19] [Stores defs 𝒱 c I arg19]
variable (arg20 : Memref sig .tc .vmem S8x128x256 .bf16) (harg20 : arg20.IsWhole) [Loads defs 𝒱 c I arg20] [Stores defs 𝒱 c I arg20]
variable (arg21 : Memref sig .tc .vmem S8x80x256 .f32) (harg21 : arg21.IsWhole) [Loads defs 𝒱 c I arg21] [Stores defs 𝒱 c I arg21]
variable (arg22 : Memref sig .tc .vmem S8x80x256 .f32) (harg22 : arg22.IsWhole) [Loads defs 𝒱 c I arg22] [Stores defs 𝒱 c I arg22]
variable (arg23 : Memref sig .tc .vmem S8x512x256 .f32) (harg23 : arg23.IsWhole) [Loads defs 𝒱 c I arg23] [Stores defs 𝒱 c I arg23]
variable (arg24 : Memref sig .tc .vmem S32x256x256 .bf16) (harg24 : arg24.IsWhole) [Loads defs 𝒱 c I arg24] [Stores defs 𝒱 c I arg24]
variable (arg25 : Memref sig .tc .vmem S16x256x256 .i32) (harg25 : arg25.IsWhole) [Loads defs 𝒱 c I arg25] [Stores defs 𝒱 c I arg25]
variable (arg26 : Memref sig .tc .vmem S16x32x8x256 .i32) (harg26 : arg26.IsWhole) [Loads defs 𝒱 c I arg26] [Stores defs 𝒱 c I arg26]
variable (arg27 : Memref sig .tc .vmem S16x8x256 .i32) (harg27 : arg27.IsWhole) [Loads defs 𝒱 c I arg27] [Stores defs 𝒱 c I arg27]
variable (arg28 : Memref sig .tc .vmem S16x256x256 .f32) (harg28 : arg28.IsWhole) [Loads defs 𝒱 c I arg28] [Stores defs 𝒱 c I arg28]

/-- The opening of the body, with the loops that gather the selected tiles. -/
theorem keeps_part961 :
    Keeps defs 𝒱 c I (k0_part961 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 ) := by
  repeat' (first
    | with_reducible exact keeps_load
    | with_reducible exact keeps_store
    | with_reducible exact keeps_smemLoad_f32
    | with_reducible exact keeps_smemLoad_i32
    | with_reducible exact keeps_pure _
    | with_reducible refine keeps_bind ?_ ?_
    | with_reducible refine keeps_for ?_
    | with_reducible refine keeps_dite ?_ ?_
    | with_reducible refine keeps_ite ?_ ?_
    | with_reducible refine all_psigma fun _ => ?_
    | with_reducible refine all_prod fun _ => ?_
    | intro _
    | refine keeps_bind ?_ ?_
    | exact keeps_pure _
    | refine keeps_ite ?_ ?_
    | refine keeps_dite ?_ ?_
    | refine keeps_for ?_)

end Cert.Proof.Body

end
-- ==== Proof.Body5.lean ====
/- The attention's body keeps its buffers: the second branch's selection. -/
module

public import proofs.«01_k».proof.Kernel
public import proofs.«01_k».proof.Proof.Safe

@[expose] public section

set_option maxHeartbeats 0

noncomputable section

namespace Cert.Proof.Body

open Idealize.ShloMosaic Idealize.ShloMosaic.TcCoe
open Idealize.SL Idealize.SL.RA Idealize.SL.BI
open scoped Idealize.SL.BI
open Idealize.ShloMosaic.Rounds
open Idealize.SL.BI.BIBase Idealize.SL.Sem
open Cert.Kernel Cert.Proof.Safe

variable {F : FTy → Type} [BitOps F] [Facts]
variable {defs : Defs nD τ sig (Elt F) Λ₀} {𝒱 : Variants} {c : Dev nD}
  {I : sProp (MT nD τ sig Unit (Elt F) ℕ (UR sig nD τ) ℕ)}
variable (i : grid0.Coords)
variable (arg2 : Memref sig .tc .smem S32x16 .f32) (harg2 : arg2.IsWhole) [Loads defs 𝒱 c I arg2]
variable (arg3 : Memref sig .tc .smem S2 .i32) (harg3 : arg3.IsWhole) [Loads defs 𝒱 c I arg3]
variable (arg4 : Memref sig .tc .vmem S1x512x256 .bf16) (harg4 : arg4.IsWhole) [Loads defs 𝒱 c I arg4]
variable (arg5 : Memref sig .tc .vmem S1x4096x512 .bf16) (harg5 : arg5.IsWhole) [Loads defs 𝒱 c I arg5]
variable (arg6 : Memref sig .tc .vmem S1x16x640x256 .bf16) (harg6 : arg6.IsWhole) [Loads defs 𝒱 c I arg6]
variable (arg7 : Memref sig .tc .vmem S1x16x512 .f32) (harg7 : arg7.IsWhole) [Loads defs 𝒱 c I arg7]
variable (arg8 : Memref sig .tc .vmem S1x256x512 .f32) (harg8 : arg8.IsWhole) [Loads defs 𝒱 c I arg8]
variable (arg9 : Memref sig .tc .vmem S1x512x256 .bf16) (harg9 : arg9.IsWhole) [Loads defs 𝒱 c I arg9]
variable (arg10 : Memref sig .tc .vmem S1x256x256 .bf16) (harg10 : arg10.IsWhole) [Loads defs 𝒱 c I arg10]
variable (arg11 : Memref sig .tc .vmem S1x8x256 .f32) (harg11 : arg11.IsWhole) [Loads defs 𝒱 c I arg11]
variable (arg12 : Memref sig .tc .vmem S1x4096x384 .bf16) (harg12 : arg12.IsWhole) [Loads defs 𝒱 c I arg12]
variable (arg13 : Memref sig .tc .vmem S1x16x80x256 .bf16) (harg13 : arg13.IsWhole) [Loads defs 𝒱 c I arg13]
variable (arg14 : Memref sig .tc .vmem S1x256x512 .f32) (harg14 : arg14.IsWhole) [Loads defs 𝒱 c I arg14]
variable (arg15 : Memref sig .tc .vmem S1x256x512 .bf16) (harg15 : arg15.IsWhole) [Loads defs 𝒱 c I arg15] [Stores defs 𝒱 c I arg15]
variable (arg16 : Memref sig .tc .vmem S1x256x512 .bf16) (harg16 : arg16.IsWhole) [Loads defs 𝒱 c I arg16] [Stores defs 𝒱 c I arg16]
variable (arg17 : Memref sig .tc .vmem S24x256x256 .f32) (harg17 : arg17.IsWhole) [Loads defs 𝒱 c I arg17] [Stores defs 𝒱 c I arg17]
variable (arg18 : Memref sig .tc .vmem S24x256x256 .f32) (harg18 : arg18.IsWhole) [Loads defs 𝒱 c I arg18] [Stores defs 𝒱 c I arg18]
variable (arg19 : Memref sig .tc .vmem S8x128x256 .bf16) (harg19 : arg19.IsWhole) [Loads defs 𝒱 c I arg19] [Stores defs 𝒱 c I arg19]
variable (arg20 : Memref sig .tc .vmem S8x128x256 .bf16) (harg20 : arg20.IsWhole) [Loads defs 𝒱 c I arg20] [Stores defs 𝒱 c I arg20]
variable (arg21 : Memref sig .tc .vmem S8x80x256 .f32) (harg21 : arg21.IsWhole) [Loads defs 𝒱 c I arg21] [Stores defs 𝒱 c I arg21]
variable (arg22 : Memref sig .tc .vmem S8x80x256 .f32) (harg22 : arg22.IsWhole) [Loads defs 𝒱 c I arg22] [Stores defs 𝒱 c I arg22]
variable (arg23 : Memref sig .tc .vmem S8x512x256 .f32) (harg23 : arg23.IsWhole) [Loads defs 𝒱 c I arg23] [Stores defs 𝒱 c I arg23]
variable (arg24 : Memref sig .tc .vmem S32x256x256 .bf16) (harg24 : arg24.IsWhole) [Loads defs 𝒱 c I arg24] [Stores defs 𝒱 c I arg24]
variable (arg25 : Memref sig .tc .vmem S16x256x256 .i32) (harg25 : arg25.IsWhole) [Loads defs 𝒱 c I arg25] [Stores defs 𝒱 c I arg25]
variable (arg26 : Memref sig .tc .vmem S16x32x8x256 .i32) (harg26 : arg26.IsWhole) [Loads defs 𝒱 c I arg26] [Stores defs 𝒱 c I arg26]
variable (arg27 : Memref sig .tc .vmem S16x8x256 .i32) (harg27 : arg27.IsWhole) [Loads defs 𝒱 c I arg27] [Stores defs 𝒱 c I arg27]
variable (arg28 : Memref sig .tc .vmem S16x256x256 .f32) (harg28 : arg28.IsWhole) [Loads defs 𝒱 c I arg28] [Stores defs 𝒱 c I arg28]

/-- The second branch's selection by counted bits, its branches over the tile count among them. -/
theorem keeps_part1015 :
    ∀ arg1 v4 v901 v2127 c2_i32_961 v2128 c0_i32_962,
      Keeps defs 𝒱 c I (k0_part1015 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg1 v4 v901 v2127 c2_i32_961 v2128 c0_i32_962) := by
  intros
  repeat' (first
    | with_reducible exact keeps_load
    | with_reducible exact keeps_store
    | with_reducible exact keeps_smemLoad_f32
    | with_reducible exact keeps_smemLoad_i32
    | with_reducible exact keeps_pure _
    | with_reducible refine keeps_bind ?_ ?_
    | with_reducible refine keeps_for ?_
    | with_reducible refine keeps_dite ?_ ?_
    | with_reducible refine keeps_ite ?_ ?_
    | with_reducible refine all_psigma fun _ => ?_
    | with_reducible refine all_prod fun _ => ?_
    | intro _
    | refine keeps_bind ?_ ?_
    | exact keeps_pure _
    | refine keeps_ite ?_ ?_
    | refine keeps_dite ?_ ?_
    | refine keeps_for ?_)

end Cert.Proof.Body

end
-- ==== Proof.Body2.lean ====
/- The attention's body keeps its buffers: a trip of the first flash loop. -/
module

public import proofs.«01_k».proof.Kernel.P05
public import proofs.«01_k».proof.Proof.Safe

@[expose] public section

set_option maxHeartbeats 0

noncomputable section

namespace Cert.Proof.Body

open Idealize.ShloMosaic Idealize.ShloMosaic.TcCoe
open Idealize.SL Idealize.SL.RA Idealize.SL.BI
open scoped Idealize.SL.BI
open Idealize.ShloMosaic.Rounds
open Idealize.SL.BI.BIBase Idealize.SL.Sem
open Cert.Kernel Cert.Proof.Safe

variable {F : FTy → Type} [BitOps F] [Facts]
variable {defs : Defs nD τ sig (Elt F) Λ₀} {𝒱 : Variants} {c : Dev nD}
  {I : sProp (MT nD τ sig Unit (Elt F) ℕ (UR sig nD τ) ℕ)}
variable (i : grid0.Coords)
variable (arg2 : Memref sig .tc .smem S32x16 .f32) (harg2 : arg2.IsWhole) [Loads defs 𝒱 c I arg2]
variable (arg3 : Memref sig .tc .smem S2 .i32) (harg3 : arg3.IsWhole) [Loads defs 𝒱 c I arg3]
variable (arg4 : Memref sig .tc .vmem S1x512x256 .bf16) (harg4 : arg4.IsWhole) [Loads defs 𝒱 c I arg4]
variable (arg5 : Memref sig .tc .vmem S1x4096x512 .bf16) (harg5 : arg5.IsWhole) [Loads defs 𝒱 c I arg5]
variable (arg6 : Memref sig .tc .vmem S1x16x640x256 .bf16) (harg6 : arg6.IsWhole) [Loads defs 𝒱 c I arg6]
variable (arg7 : Memref sig .tc .vmem S1x16x512 .f32) (harg7 : arg7.IsWhole) [Loads defs 𝒱 c I arg7]
variable (arg8 : Memref sig .tc .vmem S1x256x512 .f32) (harg8 : arg8.IsWhole) [Loads defs 𝒱 c I arg8]
variable (arg9 : Memref sig .tc .vmem S1x512x256 .bf16) (harg9 : arg9.IsWhole) [Loads defs 𝒱 c I arg9]
variable (arg10 : Memref sig .tc .vmem S1x256x256 .bf16) (harg10 : arg10.IsWhole) [Loads defs 𝒱 c I arg10]
variable (arg11 : Memref sig .tc .vmem S1x8x256 .f32) (harg11 : arg11.IsWhole) [Loads defs 𝒱 c I arg11]
variable (arg12 : Memref sig .tc .vmem S1x4096x384 .bf16) (harg12 : arg12.IsWhole) [Loads defs 𝒱 c I arg12]
variable (arg13 : Memref sig .tc .vmem S1x16x80x256 .bf16) (harg13 : arg13.IsWhole) [Loads defs 𝒱 c I arg13]
variable (arg14 : Memref sig .tc .vmem S1x256x512 .f32) (harg14 : arg14.IsWhole) [Loads defs 𝒱 c I arg14]
variable (arg15 : Memref sig .tc .vmem S1x256x512 .bf16) (harg15 : arg15.IsWhole) [Loads defs 𝒱 c I arg15] [Stores defs 𝒱 c I arg15]
variable (arg16 : Memref sig .tc .vmem S1x256x512 .bf16) (harg16 : arg16.IsWhole) [Loads defs 𝒱 c I arg16] [Stores defs 𝒱 c I arg16]
variable (arg17 : Memref sig .tc .vmem S24x256x256 .f32) (harg17 : arg17.IsWhole) [Loads defs 𝒱 c I arg17] [Stores defs 𝒱 c I arg17]
variable (arg18 : Memref sig .tc .vmem S24x256x256 .f32) (harg18 : arg18.IsWhole) [Loads defs 𝒱 c I arg18] [Stores defs 𝒱 c I arg18]
variable (arg19 : Memref sig .tc .vmem S8x128x256 .bf16) (harg19 : arg19.IsWhole) [Loads defs 𝒱 c I arg19] [Stores defs 𝒱 c I arg19]
variable (arg20 : Memref sig .tc .vmem S8x128x256 .bf16) (harg20 : arg20.IsWhole) [Loads defs 𝒱 c I arg20] [Stores defs 𝒱 c I arg20]
variable (arg21 : Memref sig .tc .vmem S8x80x256 .f32) (harg21 : arg21.IsWhole) [Loads defs 𝒱 c I arg21] [Stores defs 𝒱 c I arg21]
variable (arg22 : Memref sig .tc .vmem S8x80x256 .f32) (harg22 : arg22.IsWhole) [Loads defs 𝒱 c I arg22] [Stores defs 𝒱 c I arg22]
variable (arg23 : Memref sig .tc .vmem S8x512x256 .f32) (harg23 : arg23.IsWhole) [Loads defs 𝒱 c I arg23] [Stores defs 𝒱 c I arg23]
variable (arg24 : Memref sig .tc .vmem S32x256x256 .bf16) (harg24 : arg24.IsWhole) [Loads defs 𝒱 c I arg24] [Stores defs 𝒱 c I arg24]
variable (arg25 : Memref sig .tc .vmem S16x256x256 .i32) (harg25 : arg25.IsWhole) [Loads defs 𝒱 c I arg25] [Stores defs 𝒱 c I arg25]
variable (arg26 : Memref sig .tc .vmem S16x32x8x256 .i32) (harg26 : arg26.IsWhole) [Loads defs 𝒱 c I arg26] [Stores defs 𝒱 c I arg26]
variable (arg27 : Memref sig .tc .vmem S16x8x256 .i32) (harg27 : arg27.IsWhole) [Loads defs 𝒱 c I arg27] [Stores defs 𝒱 c I arg27]
variable (arg28 : Memref sig .tc .vmem S16x256x256 .f32) (harg28 : arg28.IsWhole) [Loads defs 𝒱 c I arg28] [Stores defs 𝒱 c I arg28]

/-- A trip of a flash loop, its first part. -/
theorem keeps_part273 :
    ∀ arg1 v774 v802 v830 v858 v859 v860 v861 v862 c0_i32_1051 c1_i32_1053 k0_t1,
      Keeps defs 𝒱 c I (k0_part273 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg1 v774 v802 v830 v858 v859 v860 v861 v862 c0_i32_1051 c1_i32_1053 k0_t1) := by
  intros
  repeat' (first
    | with_reducible exact keeps_load
    | with_reducible exact keeps_store
    | with_reducible exact keeps_smemLoad_f32
    | with_reducible exact keeps_smemLoad_i32
    | with_reducible exact keeps_pure _
    | with_reducible refine keeps_bind ?_ ?_
    | with_reducible refine keeps_for ?_
    | with_reducible refine keeps_dite ?_ ?_
    | with_reducible refine keeps_ite ?_ ?_
    | with_reducible refine all_psigma fun _ => ?_
    | with_reducible refine all_prod fun _ => ?_
    | intro _
    | refine keeps_bind ?_ ?_
    | exact keeps_pure _
    | refine keeps_ite ?_ ?_
    | refine keeps_dite ?_ ?_
    | refine keeps_for ?_)

/-- The rest of that trip. -/
theorem keeps_part274 :
    ∀ v278 v344 v410 v476 v542 v774 v802 v830 v858 v859 v860 v861 v862 k0_t1 arg29 v3928 v4515 v4524 v4530 v4533 v4539 v4542 v4548 v4551 v4557 v4560 v4566 v4569 v4575 v4578 v4584 v4587 v4593 v4596 v4602 v4605 v4611 v4614 v4620 v4623 v4629 v4632 v4638 v4641 v4647 v4650 v4656 v4659 v4661,
      Keeps defs 𝒱 c I (k0_part274 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v278 v344 v410 v476 v542 v774 v802 v830 v858 v859 v860 v861 v862 k0_t1 arg29 v3928 v4515 v4524 v4530 v4533 v4539 v4542 v4548 v4551 v4557 v4560 v4566 v4569 v4575 v4578 v4584 v4587 v4593 v4596 v4602 v4605 v4611 v4614 v4620 v4623 v4629 v4632 v4638 v4641 v4647 v4650 v4656 v4659 v4661) := by
  intros
  repeat' (first
    | with_reducible exact keeps_load
    | with_reducible exact keeps_store
    | with_reducible exact keeps_smemLoad_f32
    | with_reducible exact keeps_smemLoad_i32
    | with_reducible exact keeps_pure _
    | with_reducible refine keeps_bind ?_ ?_
    | with_reducible refine keeps_for ?_
    | with_reducible refine keeps_dite ?_ ?_
    | with_reducible refine keeps_ite ?_ ?_
    | with_reducible refine all_psigma fun _ => ?_
    | with_reducible refine all_prod fun _ => ?_
    | intro _
    | refine keeps_bind ?_ ?_
    | exact keeps_pure _
    | refine keeps_ite ?_ ?_
    | refine keeps_dite ?_ ?_
    | refine keeps_for ?_)

end Cert.Proof.Body

end
-- ==== Proof.Body3.lean ====
/- The attention's body keeps its buffers: a trip of the second flash loop. -/
module

public import proofs.«01_k».proof.Kernel.P05
public import proofs.«01_k».proof.Proof.Safe

@[expose] public section

set_option maxHeartbeats 0

noncomputable section

namespace Cert.Proof.Body

open Idealize.ShloMosaic Idealize.ShloMosaic.TcCoe
open Idealize.SL Idealize.SL.RA Idealize.SL.BI
open scoped Idealize.SL.BI
open Idealize.ShloMosaic.Rounds
open Idealize.SL.BI.BIBase Idealize.SL.Sem
open Cert.Kernel Cert.Proof.Safe

variable {F : FTy → Type} [BitOps F] [Facts]
variable {defs : Defs nD τ sig (Elt F) Λ₀} {𝒱 : Variants} {c : Dev nD}
  {I : sProp (MT nD τ sig Unit (Elt F) ℕ (UR sig nD τ) ℕ)}
variable (i : grid0.Coords)
variable (arg2 : Memref sig .tc .smem S32x16 .f32) (harg2 : arg2.IsWhole) [Loads defs 𝒱 c I arg2]
variable (arg3 : Memref sig .tc .smem S2 .i32) (harg3 : arg3.IsWhole) [Loads defs 𝒱 c I arg3]
variable (arg4 : Memref sig .tc .vmem S1x512x256 .bf16) (harg4 : arg4.IsWhole) [Loads defs 𝒱 c I arg4]
variable (arg5 : Memref sig .tc .vmem S1x4096x512 .bf16) (harg5 : arg5.IsWhole) [Loads defs 𝒱 c I arg5]
variable (arg6 : Memref sig .tc .vmem S1x16x640x256 .bf16) (harg6 : arg6.IsWhole) [Loads defs 𝒱 c I arg6]
variable (arg7 : Memref sig .tc .vmem S1x16x512 .f32) (harg7 : arg7.IsWhole) [Loads defs 𝒱 c I arg7]
variable (arg8 : Memref sig .tc .vmem S1x256x512 .f32) (harg8 : arg8.IsWhole) [Loads defs 𝒱 c I arg8]
variable (arg9 : Memref sig .tc .vmem S1x512x256 .bf16) (harg9 : arg9.IsWhole) [Loads defs 𝒱 c I arg9]
variable (arg10 : Memref sig .tc .vmem S1x256x256 .bf16) (harg10 : arg10.IsWhole) [Loads defs 𝒱 c I arg10]
variable (arg11 : Memref sig .tc .vmem S1x8x256 .f32) (harg11 : arg11.IsWhole) [Loads defs 𝒱 c I arg11]
variable (arg12 : Memref sig .tc .vmem S1x4096x384 .bf16) (harg12 : arg12.IsWhole) [Loads defs 𝒱 c I arg12]
variable (arg13 : Memref sig .tc .vmem S1x16x80x256 .bf16) (harg13 : arg13.IsWhole) [Loads defs 𝒱 c I arg13]
variable (arg14 : Memref sig .tc .vmem S1x256x512 .f32) (harg14 : arg14.IsWhole) [Loads defs 𝒱 c I arg14]
variable (arg15 : Memref sig .tc .vmem S1x256x512 .bf16) (harg15 : arg15.IsWhole) [Loads defs 𝒱 c I arg15] [Stores defs 𝒱 c I arg15]
variable (arg16 : Memref sig .tc .vmem S1x256x512 .bf16) (harg16 : arg16.IsWhole) [Loads defs 𝒱 c I arg16] [Stores defs 𝒱 c I arg16]
variable (arg17 : Memref sig .tc .vmem S24x256x256 .f32) (harg17 : arg17.IsWhole) [Loads defs 𝒱 c I arg17] [Stores defs 𝒱 c I arg17]
variable (arg18 : Memref sig .tc .vmem S24x256x256 .f32) (harg18 : arg18.IsWhole) [Loads defs 𝒱 c I arg18] [Stores defs 𝒱 c I arg18]
variable (arg19 : Memref sig .tc .vmem S8x128x256 .bf16) (harg19 : arg19.IsWhole) [Loads defs 𝒱 c I arg19] [Stores defs 𝒱 c I arg19]
variable (arg20 : Memref sig .tc .vmem S8x128x256 .bf16) (harg20 : arg20.IsWhole) [Loads defs 𝒱 c I arg20] [Stores defs 𝒱 c I arg20]
variable (arg21 : Memref sig .tc .vmem S8x80x256 .f32) (harg21 : arg21.IsWhole) [Loads defs 𝒱 c I arg21] [Stores defs 𝒱 c I arg21]
variable (arg22 : Memref sig .tc .vmem S8x80x256 .f32) (harg22 : arg22.IsWhole) [Loads defs 𝒱 c I arg22] [Stores defs 𝒱 c I arg22]
variable (arg23 : Memref sig .tc .vmem S8x512x256 .f32) (harg23 : arg23.IsWhole) [Loads defs 𝒱 c I arg23] [Stores defs 𝒱 c I arg23]
variable (arg24 : Memref sig .tc .vmem S32x256x256 .bf16) (harg24 : arg24.IsWhole) [Loads defs 𝒱 c I arg24] [Stores defs 𝒱 c I arg24]
variable (arg25 : Memref sig .tc .vmem S16x256x256 .i32) (harg25 : arg25.IsWhole) [Loads defs 𝒱 c I arg25] [Stores defs 𝒱 c I arg25]
variable (arg26 : Memref sig .tc .vmem S16x32x8x256 .i32) (harg26 : arg26.IsWhole) [Loads defs 𝒱 c I arg26] [Stores defs 𝒱 c I arg26]
variable (arg27 : Memref sig .tc .vmem S16x8x256 .i32) (harg27 : arg27.IsWhole) [Loads defs 𝒱 c I arg27] [Stores defs 𝒱 c I arg27]
variable (arg28 : Memref sig .tc .vmem S16x256x256 .f32) (harg28 : arg28.IsWhole) [Loads defs 𝒱 c I arg28] [Stores defs 𝒱 c I arg28]

/-- A trip of a flash loop, its first part. -/
theorem keeps_part402 :
    ∀ arg1 v774 v802 v830 v858 v859 v860 v861 v862 v2255 c1_i32_1054 k0_t2,
      Keeps defs 𝒱 c I (k0_part402 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg1 v774 v802 v830 v858 v859 v860 v861 v862 v2255 c1_i32_1054 k0_t2) := by
  intros
  repeat' (first
    | with_reducible exact keeps_load
    | with_reducible exact keeps_store
    | with_reducible exact keeps_smemLoad_f32
    | with_reducible exact keeps_smemLoad_i32
    | with_reducible exact keeps_pure _
    | with_reducible refine keeps_bind ?_ ?_
    | with_reducible refine keeps_for ?_
    | with_reducible refine keeps_dite ?_ ?_
    | with_reducible refine keeps_ite ?_ ?_
    | with_reducible refine all_psigma fun _ => ?_
    | with_reducible refine all_prod fun _ => ?_
    | intro _
    | refine keeps_bind ?_ ?_
    | exact keeps_pure _
    | refine keeps_ite ?_ ?_
    | refine keeps_dite ?_ ?_
    | refine keeps_for ?_)

/-- The rest of that trip. -/
theorem keeps_part403 :
    ∀ v278 v344 v410 v476 v542 v774 v802 v830 v858 v859 v860 v861 v862 k0_t2 arg29 v3928 v4515 v4524 v4530 v4533 v4539 v4542 v4548 v4551 v4557 v4560 v4566 v4569 v4575 v4578 v4584 v4587 v4593 v4596 v4602 v4605 v4611 v4614 v4620 v4623 v4629 v4632 v4638 v4641 v4647 v4650 v4656 v4659 v4661,
      Keeps defs 𝒱 c I (k0_part403 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 v278 v344 v410 v476 v542 v774 v802 v830 v858 v859 v860 v861 v862 k0_t2 arg29 v3928 v4515 v4524 v4530 v4533 v4539 v4542 v4548 v4551 v4557 v4560 v4566 v4569 v4575 v4578 v4584 v4587 v4593 v4596 v4602 v4605 v4611 v4614 v4620 v4623 v4629 v4632 v4638 v4641 v4647 v4650 v4656 v4659 v4661) := by
  intros
  repeat' (first
    | with_reducible exact keeps_load
    | with_reducible exact keeps_store
    | with_reducible exact keeps_smemLoad_f32
    | with_reducible exact keeps_smemLoad_i32
    | with_reducible exact keeps_pure _
    | with_reducible refine keeps_bind ?_ ?_
    | with_reducible refine keeps_for ?_
    | with_reducible refine keeps_dite ?_ ?_
    | with_reducible refine keeps_ite ?_ ?_
    | with_reducible refine all_psigma fun _ => ?_
    | with_reducible refine all_prod fun _ => ?_
    | intro _
    | refine keeps_bind ?_ ?_
    | exact keeps_pure _
    | refine keeps_ite ?_ ?_
    | refine keeps_dite ?_ ?_
    | refine keeps_for ?_)

end Cert.Proof.Body

end
-- ==== Proof.Body4.lean ====
/- The attention's body keeps its buffers: trips of the later flash loops. -/
module

public import proofs.«01_k».proof.Kernel.P05
public import proofs.«01_k».proof.Proof.Safe

@[expose] public section

set_option maxHeartbeats 0

noncomputable section

namespace Cert.Proof.Body

open Idealize.ShloMosaic Idealize.ShloMosaic.TcCoe
open Idealize.SL Idealize.SL.RA Idealize.SL.BI
open scoped Idealize.SL.BI
open Idealize.ShloMosaic.Rounds
open Idealize.SL.BI.BIBase Idealize.SL.Sem
open Cert.Kernel Cert.Proof.Safe

variable {F : FTy → Type} [BitOps F] [Facts]
variable {defs : Defs nD τ sig (Elt F) Λ₀} {𝒱 : Variants} {c : Dev nD}
  {I : sProp (MT nD τ sig Unit (Elt F) ℕ (UR sig nD τ) ℕ)}
variable (i : grid0.Coords)
variable (arg2 : Memref sig .tc .smem S32x16 .f32) (harg2 : arg2.IsWhole) [Loads defs 𝒱 c I arg2]
variable (arg3 : Memref sig .tc .smem S2 .i32) (harg3 : arg3.IsWhole) [Loads defs 𝒱 c I arg3]
variable (arg4 : Memref sig .tc .vmem S1x512x256 .bf16) (harg4 : arg4.IsWhole) [Loads defs 𝒱 c I arg4]
variable (arg5 : Memref sig .tc .vmem S1x4096x512 .bf16) (harg5 : arg5.IsWhole) [Loads defs 𝒱 c I arg5]
variable (arg6 : Memref sig .tc .vmem S1x16x640x256 .bf16) (harg6 : arg6.IsWhole) [Loads defs 𝒱 c I arg6]
variable (arg7 : Memref sig .tc .vmem S1x16x512 .f32) (harg7 : arg7.IsWhole) [Loads defs 𝒱 c I arg7]
variable (arg8 : Memref sig .tc .vmem S1x256x512 .f32) (harg8 : arg8.IsWhole) [Loads defs 𝒱 c I arg8]
variable (arg9 : Memref sig .tc .vmem S1x512x256 .bf16) (harg9 : arg9.IsWhole) [Loads defs 𝒱 c I arg9]
variable (arg10 : Memref sig .tc .vmem S1x256x256 .bf16) (harg10 : arg10.IsWhole) [Loads defs 𝒱 c I arg10]
variable (arg11 : Memref sig .tc .vmem S1x8x256 .f32) (harg11 : arg11.IsWhole) [Loads defs 𝒱 c I arg11]
variable (arg12 : Memref sig .tc .vmem S1x4096x384 .bf16) (harg12 : arg12.IsWhole) [Loads defs 𝒱 c I arg12]
variable (arg13 : Memref sig .tc .vmem S1x16x80x256 .bf16) (harg13 : arg13.IsWhole) [Loads defs 𝒱 c I arg13]
variable (arg14 : Memref sig .tc .vmem S1x256x512 .f32) (harg14 : arg14.IsWhole) [Loads defs 𝒱 c I arg14]
variable (arg15 : Memref sig .tc .vmem S1x256x512 .bf16) (harg15 : arg15.IsWhole) [Loads defs 𝒱 c I arg15] [Stores defs 𝒱 c I arg15]
variable (arg16 : Memref sig .tc .vmem S1x256x512 .bf16) (harg16 : arg16.IsWhole) [Loads defs 𝒱 c I arg16] [Stores defs 𝒱 c I arg16]
variable (arg17 : Memref sig .tc .vmem S24x256x256 .f32) (harg17 : arg17.IsWhole) [Loads defs 𝒱 c I arg17] [Stores defs 𝒱 c I arg17]
variable (arg18 : Memref sig .tc .vmem S24x256x256 .f32) (harg18 : arg18.IsWhole) [Loads defs 𝒱 c I arg18] [Stores defs 𝒱 c I arg18]
variable (arg19 : Memref sig .tc .vmem S8x128x256 .bf16) (harg19 : arg19.IsWhole) [Loads defs 𝒱 c I arg19] [Stores defs 𝒱 c I arg19]
variable (arg20 : Memref sig .tc .vmem S8x128x256 .bf16) (harg20 : arg20.IsWhole) [Loads defs 𝒱 c I arg20] [Stores defs 𝒱 c I arg20]
variable (arg21 : Memref sig .tc .vmem S8x80x256 .f32) (harg21 : arg21.IsWhole) [Loads defs 𝒱 c I arg21] [Stores defs 𝒱 c I arg21]
variable (arg22 : Memref sig .tc .vmem S8x80x256 .f32) (harg22 : arg22.IsWhole) [Loads defs 𝒱 c I arg22] [Stores defs 𝒱 c I arg22]
variable (arg23 : Memref sig .tc .vmem S8x512x256 .f32) (harg23 : arg23.IsWhole) [Loads defs 𝒱 c I arg23] [Stores defs 𝒱 c I arg23]
variable (arg24 : Memref sig .tc .vmem S32x256x256 .bf16) (harg24 : arg24.IsWhole) [Loads defs 𝒱 c I arg24] [Stores defs 𝒱 c I arg24]
variable (arg25 : Memref sig .tc .vmem S16x256x256 .i32) (harg25 : arg25.IsWhole) [Loads defs 𝒱 c I arg25] [Stores defs 𝒱 c I arg25]
variable (arg26 : Memref sig .tc .vmem S16x32x8x256 .i32) (harg26 : arg26.IsWhole) [Loads defs 𝒱 c I arg26] [Stores defs 𝒱 c I arg26]
variable (arg27 : Memref sig .tc .vmem S16x8x256 .i32) (harg27 : arg27.IsWhole) [Loads defs 𝒱 c I arg27] [Stores defs 𝒱 c I arg27]
variable (arg28 : Memref sig .tc .vmem S16x256x256 .f32) (harg28 : arg28.IsWhole) [Loads defs 𝒱 c I arg28] [Stores defs 𝒱 c I arg28]

/-- A trip of the third flash loop. -/
theorem keeps_part468 :
    ∀ arg1 v278 v344 v410 v476 v542 v774 v802 v830 v858 v859 v860 v861 v862 v2256 c1_i32_1058 k0_t3,
      Keeps defs 𝒱 c I (k0_part468 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg1 v278 v344 v410 v476 v542 v774 v802 v830 v858 v859 v860 v861 v862 v2256 c1_i32_1058 k0_t3) := by
  intros
  repeat' (first
    | with_reducible exact keeps_load
    | with_reducible exact keeps_store
    | with_reducible exact keeps_smemLoad_f32
    | with_reducible exact keeps_smemLoad_i32
    | with_reducible exact keeps_pure _
    | with_reducible refine keeps_bind ?_ ?_
    | with_reducible refine keeps_for ?_
    | with_reducible refine keeps_dite ?_ ?_
    | with_reducible refine keeps_ite ?_ ?_
    | with_reducible refine all_psigma fun _ => ?_
    | with_reducible refine all_prod fun _ => ?_
    | intro _
    | refine keeps_bind ?_ ?_
    | exact keeps_pure _
    | refine keeps_ite ?_ ?_
    | refine keeps_dite ?_ ?_
    | refine keeps_for ?_)

/-- A trip of the fourth flash loop. -/
theorem keeps_part533 :
    ∀ arg1 v278 v344 v410 v476 v542 v774 v802 v830 v858 v859 v860 v861 v862 v2261 c1_i32_1059 k0_t4,
      Keeps defs 𝒱 c I (k0_part533 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg1 v278 v344 v410 v476 v542 v774 v802 v830 v858 v859 v860 v861 v862 v2261 c1_i32_1059 k0_t4) := by
  intros
  repeat' (first
    | with_reducible exact keeps_load
    | with_reducible exact keeps_store
    | with_reducible exact keeps_smemLoad_f32
    | with_reducible exact keeps_smemLoad_i32
    | with_reducible exact keeps_pure _
    | with_reducible refine keeps_bind ?_ ?_
    | with_reducible refine keeps_for ?_
    | with_reducible refine keeps_dite ?_ ?_
    | with_reducible refine keeps_ite ?_ ?_
    | with_reducible refine all_psigma fun _ => ?_
    | with_reducible refine all_prod fun _ => ?_
    | intro _
    | refine keeps_bind ?_ ?_
    | exact keeps_pure _
    | refine keeps_ite ?_ ?_
    | refine keeps_dite ?_ ?_
    | refine keeps_for ?_)

end Cert.Proof.Body

end
-- ==== Proof.Body6.lean ====
/- The attention's body keeps its buffers: the flash loops. -/
module

public import proofs.«01_k».proof.Kernel
public import proofs.«01_k».proof.Proof.Body2
public import proofs.«01_k».proof.Proof.Body3
public import proofs.«01_k».proof.Proof.Body4
public import proofs.«01_k».proof.Proof.Safe

@[expose] public section

set_option maxHeartbeats 0

noncomputable section

namespace Cert.Proof.Body

open Idealize.ShloMosaic Idealize.ShloMosaic.TcCoe
open Idealize.SL Idealize.SL.RA Idealize.SL.BI
open scoped Idealize.SL.BI
open Idealize.ShloMosaic.Rounds
open Idealize.SL.BI.BIBase Idealize.SL.Sem
open Cert.Kernel Cert.Proof.Safe

variable {F : FTy → Type} [BitOps F] [Facts]
variable {defs : Defs nD τ sig (Elt F) Λ₀} {𝒱 : Variants} {c : Dev nD}
  {I : sProp (MT nD τ sig Unit (Elt F) ℕ (UR sig nD τ) ℕ)}
variable (i : grid0.Coords)
variable (arg2 : Memref sig .tc .smem S32x16 .f32) (harg2 : arg2.IsWhole) [Loads defs 𝒱 c I arg2]
variable (arg3 : Memref sig .tc .smem S2 .i32) (harg3 : arg3.IsWhole) [Loads defs 𝒱 c I arg3]
variable (arg4 : Memref sig .tc .vmem S1x512x256 .bf16) (harg4 : arg4.IsWhole) [Loads defs 𝒱 c I arg4]
variable (arg5 : Memref sig .tc .vmem S1x4096x512 .bf16) (harg5 : arg5.IsWhole) [Loads defs 𝒱 c I arg5]
variable (arg6 : Memref sig .tc .vmem S1x16x640x256 .bf16) (harg6 : arg6.IsWhole) [Loads defs 𝒱 c I arg6]
variable (arg7 : Memref sig .tc .vmem S1x16x512 .f32) (harg7 : arg7.IsWhole) [Loads defs 𝒱 c I arg7]
variable (arg8 : Memref sig .tc .vmem S1x256x512 .f32) (harg8 : arg8.IsWhole) [Loads defs 𝒱 c I arg8]
variable (arg9 : Memref sig .tc .vmem S1x512x256 .bf16) (harg9 : arg9.IsWhole) [Loads defs 𝒱 c I arg9]
variable (arg10 : Memref sig .tc .vmem S1x256x256 .bf16) (harg10 : arg10.IsWhole) [Loads defs 𝒱 c I arg10]
variable (arg11 : Memref sig .tc .vmem S1x8x256 .f32) (harg11 : arg11.IsWhole) [Loads defs 𝒱 c I arg11]
variable (arg12 : Memref sig .tc .vmem S1x4096x384 .bf16) (harg12 : arg12.IsWhole) [Loads defs 𝒱 c I arg12]
variable (arg13 : Memref sig .tc .vmem S1x16x80x256 .bf16) (harg13 : arg13.IsWhole) [Loads defs 𝒱 c I arg13]
variable (arg14 : Memref sig .tc .vmem S1x256x512 .f32) (harg14 : arg14.IsWhole) [Loads defs 𝒱 c I arg14]
variable (arg15 : Memref sig .tc .vmem S1x256x512 .bf16) (harg15 : arg15.IsWhole) [Loads defs 𝒱 c I arg15] [Stores defs 𝒱 c I arg15]
variable (arg16 : Memref sig .tc .vmem S1x256x512 .bf16) (harg16 : arg16.IsWhole) [Loads defs 𝒱 c I arg16] [Stores defs 𝒱 c I arg16]
variable (arg17 : Memref sig .tc .vmem S24x256x256 .f32) (harg17 : arg17.IsWhole) [Loads defs 𝒱 c I arg17] [Stores defs 𝒱 c I arg17]
variable (arg18 : Memref sig .tc .vmem S24x256x256 .f32) (harg18 : arg18.IsWhole) [Loads defs 𝒱 c I arg18] [Stores defs 𝒱 c I arg18]
variable (arg19 : Memref sig .tc .vmem S8x128x256 .bf16) (harg19 : arg19.IsWhole) [Loads defs 𝒱 c I arg19] [Stores defs 𝒱 c I arg19]
variable (arg20 : Memref sig .tc .vmem S8x128x256 .bf16) (harg20 : arg20.IsWhole) [Loads defs 𝒱 c I arg20] [Stores defs 𝒱 c I arg20]
variable (arg21 : Memref sig .tc .vmem S8x80x256 .f32) (harg21 : arg21.IsWhole) [Loads defs 𝒱 c I arg21] [Stores defs 𝒱 c I arg21]
variable (arg22 : Memref sig .tc .vmem S8x80x256 .f32) (harg22 : arg22.IsWhole) [Loads defs 𝒱 c I arg22] [Stores defs 𝒱 c I arg22]
variable (arg23 : Memref sig .tc .vmem S8x512x256 .f32) (harg23 : arg23.IsWhole) [Loads defs 𝒱 c I arg23] [Stores defs 𝒱 c I arg23]
variable (arg24 : Memref sig .tc .vmem S32x256x256 .bf16) (harg24 : arg24.IsWhole) [Loads defs 𝒱 c I arg24] [Stores defs 𝒱 c I arg24]
variable (arg25 : Memref sig .tc .vmem S16x256x256 .i32) (harg25 : arg25.IsWhole) [Loads defs 𝒱 c I arg25] [Stores defs 𝒱 c I arg25]
variable (arg26 : Memref sig .tc .vmem S16x32x8x256 .i32) (harg26 : arg26.IsWhole) [Loads defs 𝒱 c I arg26] [Stores defs 𝒱 c I arg26]
variable (arg27 : Memref sig .tc .vmem S16x8x256 .i32) (harg27 : arg27.IsWhole) [Loads defs 𝒱 c I arg27] [Stores defs 𝒱 c I arg27]
variable (arg28 : Memref sig .tc .vmem S16x256x256 .f32) (harg28 : arg28.IsWhole) [Loads defs 𝒱 c I arg28] [Stores defs 𝒱 c I arg28]

/-- The flash loops. -/
theorem keeps_part576 :
    ∀ arg1 v278 v344 v410 v476 v542 v608 v674 v740 v774 v802 v830 v858 v859 v860 v861 v862 v901 v918,
      Keeps defs 𝒱 c I (k0_part576 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg1 v278 v344 v410 v476 v542 v608 v674 v740 v774 v802 v830 v858 v859 v860 v861 v862 v901 v918) := by
  intros
  repeat' (first
    | with_reducible exact keeps_load
    | with_reducible exact keeps_store
    | with_reducible exact keeps_smemLoad_f32
    | with_reducible exact keeps_smemLoad_i32
    | with_reducible exact keeps_pure _
    | with_reducible refine keeps_bind ?_ ?_
    | with_reducible refine keeps_for ?_
    | with_reducible refine keeps_dite ?_ ?_
    | with_reducible refine keeps_ite ?_ ?_
    | with_reducible refine all_psigma fun _ => ?_
    | with_reducible refine all_prod fun _ => ?_
    | with_reducible exact keeps_part273 ..
    | with_reducible exact keeps_part274 ..
    | with_reducible exact keeps_part402 ..
    | with_reducible exact keeps_part403 ..
    | with_reducible exact keeps_part468 ..
    | with_reducible exact keeps_part533 ..
    | intro _
    | refine keeps_bind ?_ ?_
    | exact keeps_pure _
    | refine keeps_ite ?_ ?_
    | refine keeps_dite ?_ ?_
    | refine keeps_for ?_)

/-- The first branch's flash loops and their counterparts. -/
theorem keeps_part984 :
    ∀ arg1 v2 v278 v344 v410 v476 v542 v608 v674 v740 v774 v802 v830 v858 v859 v860 v861 v862 v901 c2_i32_427 v902 v904,
      Keeps defs 𝒱 c I (k0_part984 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg1 v2 v278 v344 v410 v476 v542 v608 v674 v740 v774 v802 v830 v858 v859 v860 v861 v862 v901 c2_i32_427 v902 v904) := by
  intros
  repeat' (first
    | with_reducible exact keeps_load
    | with_reducible exact keeps_store
    | with_reducible exact keeps_smemLoad_f32
    | with_reducible exact keeps_smemLoad_i32
    | with_reducible exact keeps_pure _
    | with_reducible refine keeps_bind ?_ ?_
    | with_reducible refine keeps_for ?_
    | with_reducible refine keeps_dite ?_ ?_
    | with_reducible refine keeps_ite ?_ ?_
    | with_reducible refine all_psigma fun _ => ?_
    | with_reducible refine all_prod fun _ => ?_
    | with_reducible exact keeps_part576 ..
    | intro _
    | refine keeps_bind ?_ ?_
    | exact keeps_pure _
    | refine keeps_ite ?_ ?_
    | refine keeps_dite ?_ ?_
    | refine keeps_for ?_)

end Cert.Proof.Body

end
-- ==== Proof.Body.lean ====
/- The attention's body keeps its buffers: the whole body. -/
module

public import proofs.«01_k».proof.Kernel
public import proofs.«01_k».proof.Proof.Body1
public import proofs.«01_k».proof.Proof.Body5
public import proofs.«01_k».proof.Proof.Body6
public import proofs.«01_k».proof.Proof.Safe

@[expose] public section

set_option maxHeartbeats 0

noncomputable section

namespace Cert.Proof.Body

open Idealize.ShloMosaic Idealize.ShloMosaic.TcCoe
open Idealize.SL Idealize.SL.RA Idealize.SL.BI
open scoped Idealize.SL.BI
open Idealize.ShloMosaic.Rounds
open Idealize.SL.BI.BIBase Idealize.SL.Sem
open Cert.Kernel Cert.Proof.Safe

variable {F : FTy → Type} [BitOps F] [Facts]
variable {defs : Defs nD τ sig (Elt F) Λ₀} {𝒱 : Variants} {c : Dev nD}
  {I : sProp (MT nD τ sig Unit (Elt F) ℕ (UR sig nD τ) ℕ)}
variable (i : grid0.Coords)
variable (arg2 : Memref sig .tc .smem S32x16 .f32) (harg2 : arg2.IsWhole) [Loads defs 𝒱 c I arg2]
variable (arg3 : Memref sig .tc .smem S2 .i32) (harg3 : arg3.IsWhole) [Loads defs 𝒱 c I arg3]
variable (arg4 : Memref sig .tc .vmem S1x512x256 .bf16) (harg4 : arg4.IsWhole) [Loads defs 𝒱 c I arg4]
variable (arg5 : Memref sig .tc .vmem S1x4096x512 .bf16) (harg5 : arg5.IsWhole) [Loads defs 𝒱 c I arg5]
variable (arg6 : Memref sig .tc .vmem S1x16x640x256 .bf16) (harg6 : arg6.IsWhole) [Loads defs 𝒱 c I arg6]
variable (arg7 : Memref sig .tc .vmem S1x16x512 .f32) (harg7 : arg7.IsWhole) [Loads defs 𝒱 c I arg7]
variable (arg8 : Memref sig .tc .vmem S1x256x512 .f32) (harg8 : arg8.IsWhole) [Loads defs 𝒱 c I arg8]
variable (arg9 : Memref sig .tc .vmem S1x512x256 .bf16) (harg9 : arg9.IsWhole) [Loads defs 𝒱 c I arg9]
variable (arg10 : Memref sig .tc .vmem S1x256x256 .bf16) (harg10 : arg10.IsWhole) [Loads defs 𝒱 c I arg10]
variable (arg11 : Memref sig .tc .vmem S1x8x256 .f32) (harg11 : arg11.IsWhole) [Loads defs 𝒱 c I arg11]
variable (arg12 : Memref sig .tc .vmem S1x4096x384 .bf16) (harg12 : arg12.IsWhole) [Loads defs 𝒱 c I arg12]
variable (arg13 : Memref sig .tc .vmem S1x16x80x256 .bf16) (harg13 : arg13.IsWhole) [Loads defs 𝒱 c I arg13]
variable (arg14 : Memref sig .tc .vmem S1x256x512 .f32) (harg14 : arg14.IsWhole) [Loads defs 𝒱 c I arg14]
variable (arg15 : Memref sig .tc .vmem S1x256x512 .bf16) (harg15 : arg15.IsWhole) [Loads defs 𝒱 c I arg15] [Stores defs 𝒱 c I arg15]
variable (arg16 : Memref sig .tc .vmem S1x256x512 .bf16) (harg16 : arg16.IsWhole) [Loads defs 𝒱 c I arg16] [Stores defs 𝒱 c I arg16]
variable (arg17 : Memref sig .tc .vmem S24x256x256 .f32) (harg17 : arg17.IsWhole) [Loads defs 𝒱 c I arg17] [Stores defs 𝒱 c I arg17]
variable (arg18 : Memref sig .tc .vmem S24x256x256 .f32) (harg18 : arg18.IsWhole) [Loads defs 𝒱 c I arg18] [Stores defs 𝒱 c I arg18]
variable (arg19 : Memref sig .tc .vmem S8x128x256 .bf16) (harg19 : arg19.IsWhole) [Loads defs 𝒱 c I arg19] [Stores defs 𝒱 c I arg19]
variable (arg20 : Memref sig .tc .vmem S8x128x256 .bf16) (harg20 : arg20.IsWhole) [Loads defs 𝒱 c I arg20] [Stores defs 𝒱 c I arg20]
variable (arg21 : Memref sig .tc .vmem S8x80x256 .f32) (harg21 : arg21.IsWhole) [Loads defs 𝒱 c I arg21] [Stores defs 𝒱 c I arg21]
variable (arg22 : Memref sig .tc .vmem S8x80x256 .f32) (harg22 : arg22.IsWhole) [Loads defs 𝒱 c I arg22] [Stores defs 𝒱 c I arg22]
variable (arg23 : Memref sig .tc .vmem S8x512x256 .f32) (harg23 : arg23.IsWhole) [Loads defs 𝒱 c I arg23] [Stores defs 𝒱 c I arg23]
variable (arg24 : Memref sig .tc .vmem S32x256x256 .bf16) (harg24 : arg24.IsWhole) [Loads defs 𝒱 c I arg24] [Stores defs 𝒱 c I arg24]
variable (arg25 : Memref sig .tc .vmem S16x256x256 .i32) (harg25 : arg25.IsWhole) [Loads defs 𝒱 c I arg25] [Stores defs 𝒱 c I arg25]
variable (arg26 : Memref sig .tc .vmem S16x32x8x256 .i32) (harg26 : arg26.IsWhole) [Loads defs 𝒱 c I arg26] [Stores defs 𝒱 c I arg26]
variable (arg27 : Memref sig .tc .vmem S16x8x256 .i32) (harg27 : arg27.IsWhole) [Loads defs 𝒱 c I arg27] [Stores defs 𝒱 c I arg27]
variable (arg28 : Memref sig .tc .vmem S16x256x256 .f32) (harg28 : arg28.IsWhole) [Loads defs 𝒱 c I arg28] [Stores defs 𝒱 c I arg28]

/-- THE BODY: whatever it computes, it faults nowhere and gives back the buffers it was given, those it only reads unchanged. -/
theorem keeps_attention :
    Keeps defs 𝒱 c I (cc0_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 ) := by
  repeat' (first
    | with_reducible exact keeps_load
    | with_reducible exact keeps_store
    | with_reducible exact keeps_smemLoad_f32
    | with_reducible exact keeps_smemLoad_i32
    | with_reducible exact keeps_pure _
    | with_reducible refine keeps_bind ?_ ?_
    | with_reducible refine keeps_for ?_
    | with_reducible refine keeps_dite ?_ ?_
    | with_reducible refine keeps_ite ?_ ?_
    | with_reducible refine all_psigma fun _ => ?_
    | with_reducible refine all_prod fun _ => ?_
    | with_reducible exact keeps_part961 ..
    | with_reducible exact keeps_part984 ..
    | with_reducible exact keeps_part1015 ..
    | intro _
    | refine keeps_bind ?_ ?_
    | exact keeps_pure _
    | refine keeps_ite ?_ ?_
    | refine keeps_dite ?_ ?_
    | refine keeps_for ?_)

end Cert.Proof.Body

end
-- ==== Proof.Held.lean ====
/- Which assertions hold a buffer: a separating conjunction does when one of its two sides does, and a whole-share
   memref owned at some contents may be loaded from and stored into. -/
module

public import proofs.«01_k».proof.Proof.Safe

@[expose] public section

noncomputable section

namespace Cert.Proof.Safe

open Idealize.ShloMosaic Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem

variable {nD : Nat} {τ : Topo} {sig : RefSig} {Val : EltTy → Type} {Λ : Labels}
variable {defs : Defs nD τ sig Val Λ} {𝒱 : Variants} {c : Dev nD} {I J : sProp (MT nD τ sig Unit Val ℕ (UR sig nD τ) ℕ)}
variable {α : Type}

/-- What keeps `I` keeps `J ∗ I`. -/
theorem keeps_under_left {p : Prog (TpuEff nD τ sig Val Λ .tc) α} (h : Keeps defs 𝒱 c I p) : Keeps defs 𝒱 c iprop(J ∗ I) p :=
  ⟨(sep_mono .rfl h.run).trans (wp_frame_l _ _ _)⟩

/-- What keeps `I` keeps `I ∗ J`. -/
theorem keeps_under_right {p : Prog (TpuEff nD τ sig Val Λ .tc) α} (h : Keeps defs 𝒱 c I p) : Keeps defs 𝒱 c iprop(I ∗ J) p :=
  ⟨(sep_mono h.run .rfl).trans (wp_frame_r _ _ _)⟩

variable {cs : CoreSpace} {s : Shape} {e : EltTy} {m : Memref sig .tc cs s e}

instance loads_sep_right [h : Loads defs 𝒱 c I m] : Loads defs 𝒱 c iprop(J ∗ I) m := ⟨fun r hl => keeps_under_left (h.keeps r hl)⟩
instance loads_sep_left [h : Loads defs 𝒱 c I m] : Loads defs 𝒱 c iprop(I ∗ J) m := ⟨fun r hl => keeps_under_right (h.keeps r hl)⟩
instance stores_sep_right [h : Stores defs 𝒱 c I m] : Stores defs 𝒱 c iprop(J ∗ I) m :=
  ⟨fun r w Mk hx hm => keeps_under_left (h.keeps r w Mk hx hm)⟩
instance stores_sep_left [h : Stores defs 𝒱 c I m] : Stores defs 𝒱 c iprop(I ∗ J) m :=
  ⟨fun r w Mk hx hm => keeps_under_right (h.keeps r w Mk hx hm)⟩

/-- A memref owned at known contents may be loaded from: the contents stay. -/
instance loads_owns {X : s.Idx → Val e} : Loads defs 𝒱 c (owns (c : Thread nD τ) m fullShare X) m where
  keeps r hl := by
    constructor
    unfold owns
    iintro ⟨%f, %hf, Hf⟩
    iapply (wp_load 𝒱 (c : Thread nD τ) none Set.univ (m := m) (r := r) (hl := hl) (View.setOn_subset_set ..)) $$ Hf
    iintro Hf
    iapply (le_wp_ret _ _ _ _ _)
    iexists f
    isplitr
    · ipureintro; exact hf
    · iexact Hf

/-- A memref owned at contents not named. -/
def owned {sp : Space} {s : Shape} {e : EltTy} (c : Dev nD) (m : Memref sig .tc sp s e) : sProp (MT nD τ sig Unit Val ℕ (UR sig nD τ) ℕ) := iprop(∃ X, owns (c : Thread nD τ) m fullShare X)

/-- A memref owned at contents not named may be loaded from. -/
instance loads_owned : Loads defs 𝒱 c (owned c m) m where
  keeps r hl := by
    constructor
    unfold owned
    iintro ⟨%X, H⟩
    iapply (wp_mono _ _ _ fun _ => exists_intro (Φ := fun X => owns (c : Thread nD τ) m fullShare X) X)
    iapply ((loads_owns (defs := defs) (𝒱 := 𝒱) (c := c) (m := m) (X := X)).keeps r hl).run
    iexact H

/-- Owning names some contents of the buffer's elements. -/
theorem owns_some {X : s.Idx → Val e} : owns (c : Thread nD τ) m fullShare X
    ⊢ (iprop(∃ f, m.view.loc (c : Thread nD τ) ↦[m.view.set]{fullShare} f) : sProp (MT nD τ sig Unit Val ℕ (UR sig nD τ) ℕ)) := by
  unfold owns
  iintro ⟨%f, -, Hf⟩
  iexists f
  iexact Hf

/-- And stored into. -/
instance stores_owned : Stores defs 𝒱 c (owned c m) m where
  keeps r w Mk hx hm := by
    constructor
    unfold owned
    iintro ⟨%X, HX⟩
    ihave H := owns_some $$ HX
    icases H with ⟨%f, Hf⟩
    iapply (wp_store 𝒱 (c : Thread nD τ) none Set.univ (m := m) (r := r) (w := w) (Mk := Mk) (hx := hx) (hm := hm)
      ((View.setOn_subset_set ..).trans (View.set_slice_subset ..))) $$ Hf
    iintro Hf
    iapply (le_wp_ret _ _ _ _ _)
    iexists _
    iapply (owns_intro _ _ _ _)
    iexact Hf

/-- A whole buffer held at contents not named is the memref of all of it, so held. -/
theorem owned_whole (b : Ref sig .tc) :
    iprop(∃ f : Buf Val ((c : Thread nD τ).loc b), ((c : Thread nD τ).loc b) ↦{fullShare} f)
      = (owned c (Memref.whole b) : sProp (MT nD τ sig Unit Val ℕ (UR sig nD τ) ℕ)) := by
  unfold owned
  refine congrArg _ (funext fun f => ?_)
  exact (owns_whole (c : Thread nD τ) b fullShare f).symm

end Cert.Proof.Safe

end
-- ==== Proof.Attn.lean ====
/- The attention's body, from the assertion the pipeline hands it to the same assertion: every buffer it names is in it. -/
module

public import proofs.«01_k».proof.Proof.Body
public import proofs.«01_k».proof.Proof.Held

@[expose] public section

noncomputable section

namespace Cert.Proof.Body

open Idealize.ShloMosaic Idealize.ShloMosaic.TcCoe
open Idealize.SL Idealize.SL.RA Idealize.SL.BI
open scoped Idealize.SL.BI
open Idealize.ShloMosaic.Rounds
open Idealize.SL.BI.BIBase Idealize.SL.Sem
open Cert.Kernel Cert.Proof.Safe

variable {F : FTy → Type} [BitOps F] [Facts]
variable {defs : Defs nD τ sig (Elt F) Λ₀} {𝒱 : Variants} {c : Dev nD}
variable (i : grid0.Coords)
variable (arg2 : Memref sig .tc .smem S32x16 .f32) (harg2 : arg2.IsWhole)
variable (arg3 : Memref sig .tc .smem S2 .i32) (harg3 : arg3.IsWhole)
variable (arg4 : Memref sig .tc .vmem S1x512x256 .bf16) (harg4 : arg4.IsWhole)
variable (arg5 : Memref sig .tc .vmem S1x4096x512 .bf16) (harg5 : arg5.IsWhole)
variable (arg6 : Memref sig .tc .vmem S1x16x640x256 .bf16) (harg6 : arg6.IsWhole)
variable (arg7 : Memref sig .tc .vmem S1x16x512 .f32) (harg7 : arg7.IsWhole)
variable (arg8 : Memref sig .tc .vmem S1x256x512 .f32) (harg8 : arg8.IsWhole)
variable (arg9 : Memref sig .tc .vmem S1x512x256 .bf16) (harg9 : arg9.IsWhole)
variable (arg10 : Memref sig .tc .vmem S1x256x256 .bf16) (harg10 : arg10.IsWhole)
variable (arg11 : Memref sig .tc .vmem S1x8x256 .f32) (harg11 : arg11.IsWhole)
variable (arg12 : Memref sig .tc .vmem S1x4096x384 .bf16) (harg12 : arg12.IsWhole)
variable (arg13 : Memref sig .tc .vmem S1x16x80x256 .bf16) (harg13 : arg13.IsWhole)
variable (arg14 : Memref sig .tc .vmem S1x256x512 .f32) (harg14 : arg14.IsWhole)
variable (arg15 : Memref sig .tc .vmem S1x256x512 .bf16) (harg15 : arg15.IsWhole)
variable (arg16 : Memref sig .tc .vmem S1x256x512 .bf16) (harg16 : arg16.IsWhole)
variable (arg17 : Memref sig .tc .vmem S24x256x256 .f32) (harg17 : arg17.IsWhole)
variable (arg18 : Memref sig .tc .vmem S24x256x256 .f32) (harg18 : arg18.IsWhole)
variable (arg19 : Memref sig .tc .vmem S8x128x256 .bf16) (harg19 : arg19.IsWhole)
variable (arg20 : Memref sig .tc .vmem S8x128x256 .bf16) (harg20 : arg20.IsWhole)
variable (arg21 : Memref sig .tc .vmem S8x80x256 .f32) (harg21 : arg21.IsWhole)
variable (arg22 : Memref sig .tc .vmem S8x80x256 .f32) (harg22 : arg22.IsWhole)
variable (arg23 : Memref sig .tc .vmem S8x512x256 .f32) (harg23 : arg23.IsWhole)
variable (arg24 : Memref sig .tc .vmem S32x256x256 .bf16) (harg24 : arg24.IsWhole)
variable (arg25 : Memref sig .tc .vmem S16x256x256 .i32) (harg25 : arg25.IsWhole)
variable (arg26 : Memref sig .tc .vmem S16x32x8x256 .i32) (harg26 : arg26.IsWhole)
variable (arg27 : Memref sig .tc .vmem S16x8x256 .i32) (harg27 : arg27.IsWhole)
variable (arg28 : Memref sig .tc .vmem S16x256x256 .f32) (harg28 : arg28.IsWhole)
variable {X2 : S32x16.Idx → Elt F .f32}
  {X3 : S2.Idx → Elt F .i32}
  {X4 : S1x512x256.Idx → Elt F .bf16}
  {X5 : S1x4096x512.Idx → Elt F .bf16}
  {X6 : S1x16x640x256.Idx → Elt F .bf16}
  {X7 : S1x16x512.Idx → Elt F .f32}
  {X8 : S1x256x512.Idx → Elt F .f32}
  {X9 : S1x512x256.Idx → Elt F .bf16}
  {X10 : S1x256x256.Idx → Elt F .bf16}
  {X11 : S1x8x256.Idx → Elt F .f32}
  {X12 : S1x4096x384.Idx → Elt F .bf16}
  {X13 : S1x16x80x256.Idx → Elt F .bf16}
  {X14 : S1x256x512.Idx → Elt F .f32}
variable (R Q : sProp (MT nD τ sig Unit (Elt F) ℕ (UR sig nD τ) ℕ))

/-- The body keeps: the scratch buffers at contents not named beside any `R`, any `Q`, the inputs' buffers at their
    contents, and the outputs' two at contents not named. -/
theorem keeps_held : Keeps defs 𝒱 c
    iprop(((owned c arg17
        ∗ owned c arg18
        ∗ owned c arg19
        ∗ owned c arg20
        ∗ owned c arg21
        ∗ owned c arg22
        ∗ owned c arg23
        ∗ owned c arg24
        ∗ owned c arg25
        ∗ owned c arg26
        ∗ owned c arg27
        ∗ owned c arg28) ∗ R) ∗ Q
      ∗ owns (c : Thread nD τ) arg2 fullShare X2
      ∗ owns (c : Thread nD τ) arg3 fullShare X3
      ∗ owns (c : Thread nD τ) arg4 fullShare X4
      ∗ owns (c : Thread nD τ) arg5 fullShare X5
      ∗ owns (c : Thread nD τ) arg6 fullShare X6
      ∗ owns (c : Thread nD τ) arg7 fullShare X7
      ∗ owns (c : Thread nD τ) arg8 fullShare X8
      ∗ owns (c : Thread nD τ) arg9 fullShare X9
      ∗ owns (c : Thread nD τ) arg10 fullShare X10
      ∗ owns (c : Thread nD τ) arg11 fullShare X11
      ∗ owns (c : Thread nD τ) arg12 fullShare X12
      ∗ owns (c : Thread nD τ) arg13 fullShare X13
      ∗ owns (c : Thread nD τ) arg14 fullShare X14
      ∗ owned c arg15
      ∗ owned c arg16)
    (cc0_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) :=
  keeps_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28

end Cert.Proof.Body

end
-- ==== Proof.AttnFrame.lean ====
/- The attention's frame: its two outputs are written at every point with whatever the body computes, and nothing else
   moves, so the arguments end as they began. -/
module

public import proofs.«01_k».proof.Proof.Gen.Kernel.Frame
public import proofs.«01_k».proof.Proof.Attn
public import proofs.«01_k».proof.Defs

@[expose] public section

set_option maxRecDepth 16384

noncomputable section

namespace Cert.Proof.AttnFrame

open Idealize.ShloMosaic Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem
open Idealize.ShloMosaic.Pipeline (Dat Cfg Window BodyObligation BodyObligationLoose RDat)
open Cert.Kernel Cert.Kernel.Gen Cert.Proof.Safe

variable {F : FTy → Type} [BitOps F]

variable (m : (ℓ : Loc nD τ sig) → Buf (Elt F) ℓ) (ρ : Dev nD → PrngReg)

/-- The two outputs, of whose contents nothing is said. -/
def outs : Fin cfg0.W → Bool := fun w => decide (13 ≤ w.val)

/-- The proof's data: the arrays as the host leaves them, each input's buffer left at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => Pipeline.Dat.unnamed 13 t
    | ⟨14, _⟩ => Pipeline.Dat.unnamed 14 t
  Φ _ := Pipeline.ΦA spec0 c
  q _ := fullShare
  owed _ := 0

theorem A_eq (c : Dev nD) (w : Fin cfg0.W) : (dats m 0 c).A w = V m c (Pipeline.arrRef spec0 w) := by dsimp only [dats]

/-- The body table's row is the attention's body at the point's buffers. -/
theorem row (t : Fin cfg0.N) : defs₀ (F := F) .tc cfg0.body (cfg0.bodyArgs t (cfg0.slots t)) = bodyAt0 t := by
  unfold defs₀; rw [Defs.onTc_tc]

/-- What holds before and after the body at a point. -/
def held (c : Dev nD) (t : Fin cfg0.N) : sProp (MT nD τ sig Unit (Elt F) ℕ (UR sig nD τ) ℕ) :=
  iprop(Pipeline.ΦA spec0 c ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ owns (c : Thread nD τ) (st0_9 t) fullShare (iblk m c 9 t)
    ∗ owns (c : Thread nD τ) (st0_10 t) fullShare (iblk m c 10 t)
    ∗ owns (c : Thread nD τ) (st0_11 t) fullShare (iblk m c 11 t)
    ∗ owns (c : Thread nD τ) (st0_12 t) fullShare (iblk m c 12 t)
    ∗ owned c (st0_13 t)
    ∗ owned c (st0_14 t))

/-- The body keeps it: each buffer the body names is there, the scratch among the invariant's scoped buffers. -/
theorem keeps_point (c : Dev nD) (t : Fin cfg0.N) :
    Keeps (defs₀ (F := F)) Variants.none c (held m c t) (bodyAt0 t) := by
  unfold held Pipeline.ΦA bodyAt0
  rw [scopedRest0_eq]
  simp only [owned_whole]
  exact Cert.Proof.Body.keeps_held ..

/-- An input's buffer, fetched or not, is at its block. -/
theorem before_block {c : Dev nD} {t : Fin cfg0.N} {w : Fin cfg0.W} {X}
    (h : ∀ d, (dats m 0 c).before w t d = X) :
    (iprop(∃ d, owns (c : Thread nD τ) ((cfg0.win w).stage (cfg0.slots t w)) fullShare ((dats m 0 c).before w t d))
      : sProp (MT nD τ sig Unit (Elt F) ℕ (UR sig nD τ) ℕ))
      ⊢ owns (c : Thread nD τ) ((cfg0.win w).stage (cfg0.slots t w)) fullShare X := by
  iintro ⟨%d, H⟩
  rw [h]
  iexact H

set_option maxHeartbeats 2000000 in
/-- The body's obligation, the outputs' contents forgotten. -/
theorem body_obligation (c : Dev nD) :
    BodyObligation (dats (F := F) m 0 c) (defs₀ (F := F)) Variants.none () Set.univ outs := fun t => by
  rw [bigSep_W0, bigSep_W0, row]
  simp only [show outs 0 = false from rfl, show outs 1 = false from rfl, show outs 2 = false from rfl,
    show outs 3 = false from rfl, show outs 4 = false from rfl, show outs 5 = false from rfl,
    show outs 6 = false from rfl, show outs 7 = false from rfl, show outs 8 = false from rfl,
    show outs 9 = false from rfl, show outs 10 = false from rfl, show outs 11 = false from rfl,
    show outs 12 = false from rfl, show outs 13 = true from rfl, show outs 14 = true from rfl]
  refine BIBase.Entails.trans ?_ (keeps_point m c t).run
  unfold held
  refine BIClass.sep_mono .rfl (BIClass.sep_mono .rfl ?_)
  refine BIClass.sep_mono (before_block m fun d => before0_0_of m (dats m 0 c) (A_eq m c 0) (fun _ => rfl) t d) ?_
  refine BIClass.sep_mono (before_block m fun d => before0_1_of m (dats m 0 c) (A_eq m c 1) (fun _ => rfl) t d) ?_
  refine BIClass.sep_mono (before_block m fun d => before0_2_of m (dats m 0 c) (A_eq m c 2) (fun _ => rfl) t d) ?_
  refine BIClass.sep_mono (before_block m fun d => before0_3_of m (dats m 0 c) (A_eq m c 3) (fun _ => rfl) t d) ?_
  refine BIClass.sep_mono (before_block m fun d => before0_4_of m (dats m 0 c) (A_eq m c 4) (fun _ => rfl) t d) ?_
  refine BIClass.sep_mono (before_block m fun d => before0_5_of m (dats m 0 c) (A_eq m c 5) (fun _ => rfl) t d) ?_
  refine BIClass.sep_mono (before_block m fun d => before0_6_of m (dats m 0 c) (A_eq m c 6) (fun _ => rfl) t d) ?_
  refine BIClass.sep_mono (before_block m fun d => before0_7_of m (dats m 0 c) (A_eq m c 7) (fun _ => rfl) t d) ?_
  refine BIClass.sep_mono (before_block m fun d => before0_8_of m (dats m 0 c) (A_eq m c 8) (fun _ => rfl) t d) ?_
  refine BIClass.sep_mono (before_block m fun d => before0_9_of m (dats m 0 c) (A_eq m c 9) (fun _ => rfl) t d) ?_
  refine BIClass.sep_mono (before_block m fun d => before0_10_of m (dats m 0 c) (A_eq m c 10) (fun _ => rfl) t d) ?_
  refine BIClass.sep_mono (before_block m fun d => before0_11_of m (dats m 0 c) (A_eq m c 11) (fun _ => rfl) t d) ?_
  refine BIClass.sep_mono (before_block m fun d => before0_12_of m (dats m 0 c) (A_eq m c 12) (fun _ => rfl) t d) ?_
  exact .rfl

set_option backward.isDefEq.respectTransparency.types false in
/-- The run: every argument array ends as it began, and every semaphore counter at zero. -/
theorem run_quiescent : θ_run defs (onTc (τ := τ) (main (F := F))) (s₀ m ρ)
    (fun r => RDat.FramePost cfg0 (fun c => (dats m 0 c).toRForget outs) (V m) r ∧ r.2.sem = fun _ => 0) :=
  Pipeline.θ_run_frame_forget (Q' := _) cfgs (dats m) (0 : Fin 1) launch0 defs₀ Variants.none outs m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The attention runs, leaves its arguments as they were, and ends with every semaphore at zero. -/
theorem frame_printed : Cert.quiescent_Kernel := fun m ρ _ =>
  (θ_run defs _ _).mono (fun _ h => ⟨fun c =>
    ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c)),
      (h.1.arr_in c 3 rfl).trans ((A_eq m c 3).trans (V_main_arg3 m c)),
      ((h.1 c).2 main_arg4 (Pipeline.mem_restRefs_of main_arg4 (by decide) (by decide))).trans (V_main_arg4 m c),
      (h.1.arr_in c 5 rfl).trans ((A_eq m c 5).trans (V_main_arg5 m c)),
      (h.1.arr_in c 6 rfl).trans ((A_eq m c 6).trans (V_main_arg6 m c)),
      (h.1.arr_in c 7 rfl).trans ((A_eq m c 7).trans (V_main_arg7 m c)),
      (h.1.arr_in c 8 rfl).trans ((A_eq m c 8).trans (V_main_arg8 m c)),
      (h.1.arr_in c 9 rfl).trans ((A_eq m c 9).trans (V_main_arg9 m c)),
      (h.1.arr_in c 10 rfl).trans ((A_eq m c 10).trans (V_main_arg10 m c)),
      ((h.1 c).2 main_arg11 (Pipeline.mem_restRefs_of main_arg11 (by decide) (by decide))).trans (V_main_arg11 m c),
      (h.1.arr_in c 12 rfl).trans ((A_eq m c 12).trans (V_main_arg12 m c))⟩, h.2⟩) (run_quiescent m ρ)

end Cert.Proof.AttnFrame

end
-- ==== Proof.OutProj.lean ====
/- The output projection over the extended reals: the array that the call leaves is the reference's, index by index. -/
module

public import proofs.«01_k».proof.Defs
public import proofs.«01_k».proof.Proof.Gen.Kernel2Ideal.Value
public import proofs.«01_k».proof.Proof.Gen.Reference2Ideal.Run
public import proofs.«01_k».proof.Proof.Gen.Kernel2.Frame
public import Idealize.ShloMosaic.Lib.Pipeline.ValueKit
public import Idealize.ShloMosaic.Lib.Quiescent

@[expose] public section

set_option maxRecDepth 16384

noncomputable section

namespace Cert.Proof.OutProj

open Idealize.ShloMosaic Idealize.ShloMosaic.TcCoe Idealize.SL.Sem
open Cert.Kernel2Ideal Cert.Kernel2Ideal.Gen

variable (m : (ℓ : Loc nD τ sig) → Buf (Elt Ideal) ℓ)

/-- Row block `t` of the activations and of the result at point `t`; the weights whole. -/
theorem index_at : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![t.val, 0] :=
  (by decide +kernel : ∀ t : Fin grid0.N, _)

/-- The textbook's value of the arguments: both branches' outputs projected, each times its gate, the sum projected and
    added to the layer's input, the batch and the sequence read as one axis. -/
def merged (x : FVec Ideal Cert.Reference2Ideal.S8x4096x1024 .f32) (ya yb : FVec Ideal Cert.Reference2Ideal.S8x4096x512 .bf16)
    (sma smb : FVec Ideal Cert.Reference2Ideal.S8x4096x1024 .f32) (wa wb : FVec Ideal Cert.Reference2Ideal.S512x1024 .f32)
    (wo : FVec Ideal Cert.Reference2Ideal.S1024x1024 .f32) : FVec Ideal Cert.Reference2Ideal.S32768x1024 .f32 :=
  shapeCast _ (addf x (Host.dotGeneral Cert.Reference2Ideal.dot_S8x4096x1024_S1024x1024_S8x4096x1024_2_0_01_1_n_n none
      (addf (mulf sma (Host.dotGeneral Cert.Reference2Ideal.dot_S8x4096x512_S512x1024_S8x4096x1024_2_0_01_1_n_n none
          (extf .f32 ya Cert.Reference2Ideal.Facts₀.bitsLt_bf16_f32) wa))
        (mulf smb (Host.dotGeneral Cert.Reference2Ideal.dot_S8x4096x512_S512x1024_S8x4096x1024_2_0_01_1_n_n none
          (extf .f32 yb Cert.Reference2Ideal.Facts₀.bitsLt_bf16_f32) wb))) wo))
    Cert.Reference2Ideal.Facts₀.shapeCasts_S8x4096x1024_S32768x1024

/-- The body's stored value at row `r`, column `q`. -/
theorem stored_apply (v0 v8 v17 : Vec Ideal S1024x1024 .f32) (v2 v10 : Vec Ideal S1024x512 .bf16)
    (v4 v12 : Vec Ideal S512x1024 .bf16) (v20 : Vec Ideal S1024x1024 .bf16) (r q : Fin 1024) :
    k0_pay1 v0 v2 v4 v8 v10 v12 v17 v20 (ix2 r q)
      = v17 (ix2 r q) + ∑ k : Fin 1024, (v0 (ix2 r k) * ∑ j : Fin 512, v2 (ix2 r j) * v4 (ix2 j k)
          + v8 (ix2 r k) * ∑ j : Fin 512, v10 (ix2 r j) * v12 (ix2 j k)) * v20 (ix2 k q) := by
  pointwise [k0_pay1]

/-- The textbook's value at row `n` of the batch and sequence together, column `q`. -/
theorem merged_apply (x : FVec Ideal Cert.Reference2Ideal.S8x4096x1024 .f32) (ya yb : FVec Ideal Cert.Reference2Ideal.S8x4096x512 .bf16)
    (sma smb : FVec Ideal Cert.Reference2Ideal.S8x4096x1024 .f32) (wa wb : FVec Ideal Cert.Reference2Ideal.S512x1024 .f32)
    (wo : FVec Ideal Cert.Reference2Ideal.S1024x1024 .f32) (n : Fin 32768) (q : Fin 1024) (hb : n.val / 4096 < 8)
    (hs : n.val % 4096 < 4096) :
    merged x ya yb sma smb wa wb wo (ix2 n q)
      = x (ix3 ⟨n.val / 4096, hb⟩ ⟨n.val % 4096, hs⟩ q)
        + ∑ k : Fin 1024, (sma (ix3 ⟨n.val / 4096, hb⟩ ⟨n.val % 4096, hs⟩ k)
              * ∑ j : Fin 512, ya (ix3 ⟨n.val / 4096, hb⟩ ⟨n.val % 4096, hs⟩ j) * wa (ix2 j k)
            + smb (ix3 ⟨n.val / 4096, hb⟩ ⟨n.val % 4096, hs⟩ k)
              * ∑ j : Fin 512, yb (ix3 ⟨n.val / 4096, hb⟩ ⟨n.val % 4096, hs⟩ j) * wb (ix2 j k)) * wo (ix2 k q) := by
  pointwise [merged]

/-- The result array holds it. -/
theorem result_eq (c : Dev nD) :
    (dats m 0 c).arrAt 8 cfg0.N
      = merged (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  refine (dats m 0 c).arrAt_eq_of_covers 8 _ (by decide +kernel) fun t hf y => ?_
  obtain ⟨e0, e1, e2, e3, e4, e5, e6, e7, e8⟩ := index_at t
  blk_simp
  rw [after0_8]
  frame_out
  have ht : t.val < 32 := t.isLt
  obtain ⟨r, q, rfl⟩ : ∃ (r : Fin 1024) (q : Fin 1024), y = ix2 r q := ⟨y 0, y 1, eq_ix2 (n0 := 1024) (n1 := 1024) y⟩
  have hr : r.val < 1024 := r.isLt
  have ey : ((View.whole main_v8).slice (win0_8.rect t)).emb (ix2 r q)
      = (ix2 (⟨t.val * 1024 + r.val, by omega⟩ : Fin 32768) q : Cert.Reference2Ideal.S32768x1024.Idx) := by
    blk_ext [e8]
  rw [ey, merged_apply (hb := by show (t.val * 1024 + r.val) / 4096 < 8; omega) (hs := Nat.mod_lt _ (by decide))]
  refine (stored_apply ..).trans ?_
  blk_point [iblk, V, e0, e1, e2, e3, e4, e5, e6, e7]

/-- The kernel as printed ends with its arguments unchanged and every counter at zero. -/
theorem frame_printed : Cert.quiescent_Kernel2 := fun m ρ _ => Cert.Kernel2.Gen.frame m ρ

/-- So does the kernel over the extended reals. -/
theorem frame_ideal : Cert.quiescent_Kernel2Ideal := fun m ρ _ => Cert.Kernel2Ideal.Gen.frame m ρ

/-- So does the reference. -/
theorem frame_reference : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- From equal arguments, kernel and reference leave equal results. -/
theorem algebraic : Cert.algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨(h c).1.trans ?_, (h c).2⟩)
    (Cert.Reference2Ideal.Value.run (F := Ideal) m' ρ')
  obtain ⟨h0, h1, h2, h3, h4, h5, h6, h7⟩ := hagree c
  rw [h0, h1, h2, h3, h4, h5, h6, h7]
  exact (result_eq m c).symm

end Cert.Proof.OutProj

end
-- ==== Proof.InSpec.lean ====
/- The layer's projected and normalised rows over the extended reals, as functions of the arguments. -/
module

public import proofs.«01_k».proof.Defs
public import proofs.«01_k».proof.Proof.OutProj
public import Idealize.ShloMosaic.Lib.Pipeline.ValueKit
public import Idealize.ShloMosaic.Lib.Tactic.CleanTypes
public import Idealize.ShloMosaic.Lib.StableHlo.ReadAt

@[expose] public section

set_option maxRecDepth 16384

noncomputable section

namespace Cert.Proof.InProj

open Idealize.ShloMosaic Idealize.ShloMosaic.TcCoe Idealize.SL.Sem
open Cert.Reference3Ideal

/-- The normalised input of batch `b` at position `s`, feature `k`: the input over the root of its mean square, times the gain. -/
def hid (x : FVec Ideal S8x4096x1024 .f32) (g : FVec Ideal S1024 .f32) (b : Fin 8) (s : Fin 4096) (k : Fin 1024) : EReal :=
  (x (ix3 b s k) * Ideal.rsqrt (Ideal.div (∑ j : Fin 1024, x (ix3 b s j) * x (ix3 b s j)) (Ideal.ofBits .f32 0x44800000#32)
    + Ideal.ofBits .f32 0x358637BD#32)) * g (ix1 k)

/-- The projected row's column `e`. -/
def prj (x : FVec Ideal S8x4096x1024 .f32) (g : FVec Ideal S1024 .f32) (w : FVec Ideal S1024x5572 .f32) (b : Fin 8) (s : Fin 4096)
    (e : Fin 5572) : EReal := ∑ k : Fin 1024, hid x g b s k * w (ix2 k e)

/-- A number times its logistic. -/
def sil (z : EReal) : EReal := z * Ideal.div 1 (1 + Ideal.exp (-z))

/-- The logistic. -/
def sgm (z : EReal) : EReal := Ideal.div 1 (1 + Ideal.exp (-z))

/-- A head's 64 numbers over the root of their mean square, times the gain. -/
def nrm (v : Fin 64 → EReal) (a : FVec Ideal S64 .f32) (d : Fin 64) : EReal :=
  v d * Ideal.rsqrt (Ideal.div (∑ x : Fin 64, v x * v x) (Ideal.ofBits .f32 0x42800000#32) + Ideal.ofBits .f32 0x358637BD#32) * a (ix1 d)

/-- The numbers the words stand for. -/
theorem c64 : Ideal.ofBits .f32 0x42800000#32 = ((64 : ℝ) : EReal) := by
  simp [Ideal.ofBits, Ideal.ieee, -EReal.coe_mul]; norm_num

theorem c64i : Ideal.ofBits .f32 0x3C800000#32 = ((1 / 64 : ℝ) : EReal) := by
  simp [Ideal.ofBits, Ideal.ieee, -EReal.coe_mul]; norm_num

theorem c256 : Ideal.ofBits .f32 0x43800000#32 = ((256 : ℝ) : EReal) := by
  simp [Ideal.ofBits, Ideal.ieee, -EReal.coe_mul]; norm_num

theorem c256i : Ideal.ofBits .f32 0x3B800000#32 = ((1 / 256 : ℝ) : EReal) := by
  simp [Ideal.ofBits, Ideal.ieee, -EReal.coe_mul]; norm_num

theorem c1024 : Ideal.ofBits .f32 0x44800000#32 = ((1024 : ℝ) : EReal) := by
  simp [Ideal.ofBits, Ideal.ieee, -EReal.coe_mul]; norm_num

/-- The small number under the root is real and positive. -/
theorem eps_pos : ∃ e : ℝ, 0 < e ∧ Ideal.ofBits .f32 0x358637BD#32 = ((e : ℝ) : EReal) := by
  refine ⟨8796093 / 8796093022208, by norm_num, ?_⟩
  simp [Ideal.ofBits, Ideal.ieee, -EReal.coe_mul]; norm_num

/-- Times a sixty-fourth is over 64. -/
theorem mean64 (S : EReal) : S * Ideal.ofBits .f32 0x3C800000#32 = Ideal.div S (Ideal.ofBits .f32 0x42800000#32) := by
  rw [c64, c64i, Ideal.div_coe (by norm_num)]

/-- Times a 256th is over 256. -/
theorem mean256 (S : EReal) : S * Ideal.ofBits .f32 0x3B800000#32 = Ideal.div S (Ideal.ofBits .f32 0x43800000#32) := by
  rw [c256, c256i, Ideal.div_coe (by norm_num)]

end Cert.Proof.InProj

end
-- ==== Proof.InRef.lean ====
/- The reference of the input projection: its results under names, and what they are at an index. -/
module

public import proofs.«01_k».proof.Defs
public import proofs.«01_k».proof.Proof.Gen.Reference3Ideal.Run
public import Idealize.ShloMosaic.Lib.Pipeline.ValueKit
public import Idealize.ShloMosaic.Lib.Tactic.CleanTypes
public import Idealize.ShloMosaic.Lib.StableHlo.ReadAt
public import proofs.«01_k».proof.Proof.InSpec

@[expose] public section

set_option maxRecDepth 16384

noncomputable section

namespace Cert.Proof.InProj

open Idealize.ShloMosaic Idealize.ShloMosaic.TcCoe Idealize.SL.Sem
open Cert.Reference3Ideal Cert.Reference3Ideal.Gen Cert.Reference3Ideal.Value

variable (V0 : Valuation τ sig (Elt Ideal))

/-- The queries from an array in heads: normalised, scaled, in tiles. -/
def rq (A : FVec Ideal S8x4096x8x64 .f32) (a : FVec Ideal S64 .f32) : FVec Ideal S128x512x256 .bf16 :=
  truncf .bf16 (transpose S128x512x256 [0, 2, 1] (shapeCast _ (mulf (mulf (mulf A (broadcastInDim S8x4096x8x64 ![0, 1, 2, 3] bcast_S8x4096x8x1_S8x4096x8x64_0_1_2_3 (Host.rsqrt (addf (Host.divf (broadcastInDim S8x4096x8x1 ![0, 1, 2] bcast_S8x4096x8_S8x4096x8x1_0_1_2 (Host.reduceAdd (mulf A A) (constant S_ .f32 0x00000000#32) reducesTo_S8x4096x8x64_S8x4096x8_d3 h_S_)) (broadcastInDim S8x4096x8x1 ![] bcast_S_S8x4096x8x1 (constant S_ .f32 0x42800000#32))) (broadcastInDim S8x4096x8x1 ![] bcast_S_S8x4096x8x1 (constant S_ .f32 0x358637BD#32)))))) (broadcastInDim S8x4096x8x64 ![0, 1, 2, 3] bcast_S1x1x1x64_S8x4096x8x64_0_1_2_3 (broadcastInDim S1x1x1x64 ![3] bcast_S64_S1x1x1x64_3 a))) (broadcastInDim S8x4096x8x64 ![] bcast_S_S8x4096x8x64 (constant S_ .f32 0x3E000000#32))) shapeCasts_S8x4096x8x64_S128x256x512) transposes_S128x256x512_S128x512x256_0_2_1) bitsLt_bf16_f32

/-- Two of one array and four of another along the last axis. -/
def rk (A B : FVec Ideal S8x4096x64 .f32) : FVec Ideal S32768x384 .bf16 :=
  truncf .bf16 (shapeCast _ ((concatenate S8x4096x384 2 [⟨S8x4096x64, (A : (⟨S8x4096x64, .f32⟩ : BufTy).Contents (Elt Ideal))⟩, ⟨S8x4096x64, (A : (⟨S8x4096x64, .f32⟩ : BufTy).Contents (Elt Ideal))⟩, ⟨S8x4096x64, (B : (⟨S8x4096x64, .f32⟩ : BufTy).Contents (Elt Ideal))⟩, ⟨S8x4096x64, (B : (⟨S8x4096x64, .f32⟩ : BufTy).Contents (Elt Ideal))⟩, ⟨S8x4096x64, (B : (⟨S8x4096x64, .f32⟩ : BufTy).Contents (Elt Ideal))⟩, ⟨S8x4096x64, (B : (⟨S8x4096x64, .f32⟩ : BufTy).Contents (Elt Ideal))⟩] concatenates_S8x4096x64_S8x4096x64_S8x4096x64_S8x4096x64_S8x4096x64_S8x4096x64_S8x4096x384_d2 : (⟨S8x4096x384, .f32⟩ : BufTy).Contents (Elt Ideal))) shapeCasts_S8x4096x384_S32768x384) bitsLt_bf16_f32

/-- Result 87 of the reference. -/
def r87 : FVec Ideal S32768x512 .bf16 :=
  truncf .bf16 (shapeCast _ (res_main_v54 V0) shapeCasts_S8x4096x8x64_S32768x512) bitsLt_bf16_f32

/-- Result 90 of the reference. -/
def r90 : FVec Ideal S32768x384 .bf16 :=
  rk (res_main_v81 V0) (res_main_v23 V0)

/-- Result 92 of the reference. -/
def r92 : FVec Ideal S32768x512 .f32 :=
  shapeCast _ (mulf (res_main_v17 V0) (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf (res_main_v17 V0)))))) shapeCasts_S8x4096x512_S32768x512

/-- Result 94 of the reference. -/
def r94 : FVec Ideal S32768x512 .f32 :=
  shapeCast _ (mulf (res_main_v21 V0) (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf (res_main_v21 V0)))))) shapeCasts_S8x4096x512_S32768x512

/-- Result 101 of the reference. -/
def r101 : FVec Ideal S32768x1024 .f32 :=
  shapeCast _ (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (extractStridedSlice S8x4096x1024 ![0, 0, 3524] (res_main_v13 V0) slices_S8x4096x5572_S8x4096x1024_0_0_3524))))) shapeCasts_S8x4096x1024_S32768x1024

/-- Result 108 of the reference. -/
def r108 : FVec Ideal S32768x1024 .f32 :=
  shapeCast _ (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (extractStridedSlice S8x4096x1024 ![0, 0, 4548] (res_main_v13 V0) slices_S8x4096x5572_S8x4096x1024_0_0_4548))))) shapeCasts_S8x4096x1024_S32768x1024

/-- Result 109 of the reference. -/
def r109 : FVec Ideal S128x1x512 .f32 :=
  shapeCast _ (Host.divf (Host.reduceAdd (shapeCast _ (res_main_v54 V0) shapeCasts_S8x4096x8x64_S8x16x256x8x64) (constant S_ .f32 0x00000000#32) reducesTo_S8x16x256x8x64_S8x16x8x64_d2 h_S_) (broadcastInDim S8x16x8x64 ![] bcast_S_S8x16x8x64 (constant S_ .f32 0x43800000#32))) shapeCasts_S8x16x8x64_S128x1x512

/-- Result 114 of the reference. -/
def r114 : FVec Ideal S128x512x256 .bf16 :=
  rq (res_main_v27 V0) (V0 (Proc.devRef .tc main_arg3))

/-- Result 119 of the reference. -/
def r119 : FVec Ideal S128x512x256 .bf16 :=
  rq (res_main_v55 V0) (V0 (Proc.devRef .tc main_arg5))

/-- Result 125 of the reference. -/
def r125 : FVec Ideal S128x640x256 .bf16 :=
  truncf .bf16 (transpose S128x640x256 [0, 2, 1] (shapeCast _ (concatenate S128x256x8x80 3 [⟨S128x256x8x64, (shapeCast _ (extractStridedSlice S8x4096x512 ![0, 0, 1024] (res_main_v13 V0) slices_S8x4096x5572_S8x4096x512_0_0_1024) shapeCasts_S8x4096x512_S128x256x8x64)⟩, ⟨S128x256x8x16, (broadcastInDim S128x256x8x16 ![] bcast_S_S128x256x8x16 (constant S_ .f32 0x3F800000#32))⟩] concatenates_S128x256x8x64_S128x256x8x16_S128x256x8x80_d3) shapeCasts_S128x256x8x80_S128x256x640) transposes_S128x256x640_S128x640x256_0_2_1) bitsLt_bf16_f32

/-- Result 130 of the reference. -/
def r130 : FVec Ideal S128x256x256 .bf16 :=
  truncf .bf16 (transpose S128x256x256 [0, 2, 1] (shapeCast _ (mulf (extractStridedSlice S8x4096x256 ![0, 0, 3200] (res_main_v13 V0) slices_S8x4096x5572_S8x4096x256_0_0_3200) (broadcastInDim S8x4096x256 ![] bcast_S_S8x4096x256 (constant S_ .f32 0x3E000000#32))) shapeCasts_S8x4096x256_S128x256x256) transposes_S128x256x256_S128x256x256_0_2_1) bitsLt_bf16_f32

/-- Result 136 of the reference. -/
def r136 : FVec Ideal S128x80x256 .bf16 :=
  truncf .bf16 (transpose S128x80x256 [0, 2, 1] (shapeCast _ (concatenate S128x256x1x80 3 [⟨S128x256x1x64, (shapeCast _ (extractStridedSlice S8x4096x64 ![0, 0, 2624] (res_main_v13 V0) slices_S8x4096x5572_S8x4096x64_0_0_2624) shapeCasts_S8x4096x64_S128x256x1x64)⟩, ⟨S128x256x1x16, (broadcastInDim S128x256x1x16 ![] bcast_S_S128x256x1x16 (constant S_ .f32 0x3F800000#32))⟩] concatenates_S128x256x1x64_S128x256x1x16_S128x256x1x80_d3) shapeCasts_S128x256x1x80_S128x256x80) transposes_S128x256x80_S128x80x256_0_2_1) bitsLt_bf16_f32

/-- Result 142 of the reference. -/
def r142 : FVec Ideal S128x8x256 .f32 :=
  transpose S128x8x256 [0, 2, 1] (shapeCast _ (mulf (concatenate S8x4096x8 2 [⟨S8x4096x4, (extractStridedSlice S8x4096x4 ![0, 0, 3520] (res_main_v13 V0) slices_S8x4096x5572_S8x4096x4_0_0_3520)⟩, ⟨S8x4096x4, (broadcastInDim S8x4096x4 ![] bcast_S_S8x4096x4 (constant S_ .f32 0x00000000#32))⟩] concatenates_S8x4096x4_S8x4096x4_S8x4096x8_d2) (broadcastInDim S8x4096x8 ![] bcast_S_S8x4096x8 (constant S_ .f32 0x3F000000#32))) shapeCasts_S8x4096x8_S128x256x8) transposes_S128x256x8_S128x8x256_0_2_1

/-- The reference's projected rows. -/
theorem t13 (b : Fin 8) (s : Fin 4096) (e : Fin 5572) : res_main_v13 V0 (ix3 b s e) = prj (V0 (Proc.devRef .tc main_arg0)) (V0 (Proc.devRef .tc main_arg1)) (V0 (Proc.devRef .tc main_arg2)) b s e := by
  unfold res_main_v13
  clean_types
  pointwise [prj, hid]

/-- Columns of them. -/
theorem t17 (b : Fin 8) (s : Fin 4096) (q : Fin 512) : res_main_v17 V0 (ix3 b s q) = prj (V0 (Proc.devRef .tc main_arg0)) (V0 (Proc.devRef .tc main_arg1)) (V0 (Proc.devRef .tc main_arg2)) b s ⟨1536 + q.val, by omega⟩ := by
  rw [← t13]
  unfold res_main_v17
  clean_types
  pointwise

/-- Columns of them. -/
theorem t19 (b : Fin 8) (s : Fin 4096) (q : Fin 64) : res_main_v19 V0 (ix3 b s q) = prj (V0 (Proc.devRef .tc main_arg0)) (V0 (Proc.devRef .tc main_arg1)) (V0 (Proc.devRef .tc main_arg2)) b s ⟨2560 + q.val, by omega⟩ := by
  rw [← t13]
  unfold res_main_v19
  clean_types
  pointwise

/-- Columns of them. -/
theorem t21 (b : Fin 8) (s : Fin 4096) (q : Fin 512) : res_main_v21 V0 (ix3 b s q) = prj (V0 (Proc.devRef .tc main_arg0)) (V0 (Proc.devRef .tc main_arg1)) (V0 (Proc.devRef .tc main_arg2)) b s ⟨2688 + q.val, by omega⟩ := by
  rw [← t13]
  unfold res_main_v21
  clean_types
  pointwise

/-- Columns of them. -/
theorem t23 (b : Fin 8) (s : Fin 4096) (q : Fin 64) : res_main_v23 V0 (ix3 b s q) = prj (V0 (Proc.devRef .tc main_arg0)) (V0 (Proc.devRef .tc main_arg1)) (V0 (Proc.devRef .tc main_arg2)) b s ⟨3456 + q.val, by omega⟩ := by
  rw [← t13]
  unfold res_main_v23
  clean_types
  pointwise

/-- Columns of them, in heads. -/
theorem t27 (b : Fin 8) (s : Fin 4096) (h : Fin 8) (d : Fin 64) : res_main_v27 V0 (ix4 b s h d) = prj (V0 (Proc.devRef .tc main_arg0)) (V0 (Proc.devRef .tc main_arg1)) (V0 (Proc.devRef .tc main_arg2)) b s ⟨h.val * 64 + d.val, by omega⟩ := by
  rw [← t13]
  unfold res_main_v27
  clean_types
  pointwise

/-- Columns of them, in heads. -/
theorem t41 (b : Fin 8) (s : Fin 4096) (h : Fin 8) (d : Fin 64) : res_main_v41 V0 (ix4 b s h d) = prj (V0 (Proc.devRef .tc main_arg0)) (V0 (Proc.devRef .tc main_arg1)) (V0 (Proc.devRef .tc main_arg2)) b s ⟨512 + (h.val * 64 + d.val), by omega⟩ := by
  rw [← t13]
  unfold res_main_v41
  clean_types
  pointwise

/-- Columns of them, in heads. -/
theorem t55 (b : Fin 8) (s : Fin 4096) (h : Fin 8) (d : Fin 64) : res_main_v55 V0 (ix4 b s h d) = prj (V0 (Proc.devRef .tc main_arg0)) (V0 (Proc.devRef .tc main_arg1)) (V0 (Proc.devRef .tc main_arg2)) b s ⟨2048 + (h.val * 64 + d.val), by omega⟩ := by
  rw [← t13]
  unfold res_main_v55
  clean_types
  pointwise

/-- The keys of one branch, normalised. -/
theorem t54 (b : Fin 8) (s : Fin 4096) (h : Fin 8) (d : Fin 64) :
    res_main_v54 V0 (ix4 b s h d) = nrm (fun x => prj (V0 (Proc.devRef .tc main_arg0)) (V0 (Proc.devRef .tc main_arg1)) (V0 (Proc.devRef .tc main_arg2)) b s ⟨512 + (h.val * 64 + x.val), by omega⟩) (V0 (Proc.devRef .tc main_arg4)) d := by
  simp only [nrm, ← t41]
  unfold res_main_v54
  clean_types
  pointwise

/-- The keys of the other, normalised. -/
theorem t81 (b : Fin 8) (s : Fin 4096) (d : Fin 64) :
    res_main_v81 V0 (ix3 b s d) = nrm (fun x => prj (V0 (Proc.devRef .tc main_arg0)) (V0 (Proc.devRef .tc main_arg1)) (V0 (Proc.devRef .tc main_arg2)) b s ⟨2560 + x.val, by omega⟩) (V0 (Proc.devRef .tc main_arg6)) d := by
  simp only [nrm, ← t19]
  unfold res_main_v81
  clean_types
  pointwise

/-- Result 92 of the reference at an index. -/
theorem p92 (n : Fin 32768) (q : Fin 512) : r92 V0 (ix2 n q) = sil (prj (V0 (Proc.devRef .tc main_arg0)) (V0 (Proc.devRef .tc main_arg1)) (V0 (Proc.devRef .tc main_arg2)) ⟨n.val / 4096, by omega⟩ ⟨n.val % 4096, by omega⟩ ⟨1536 + q.val, by omega⟩) := by
  simp only [sil, ← t17]
  unfold r92
  clean_types
  pointwise

/-- Result 94 of the reference at an index. -/
theorem p94 (n : Fin 32768) (q : Fin 512) : r94 V0 (ix2 n q) = sil (prj (V0 (Proc.devRef .tc main_arg0)) (V0 (Proc.devRef .tc main_arg1)) (V0 (Proc.devRef .tc main_arg2)) ⟨n.val / 4096, by omega⟩ ⟨n.val % 4096, by omega⟩ ⟨2688 + q.val, by omega⟩) := by
  simp only [sil, ← t21]
  unfold r94
  clean_types
  pointwise

/-- Result 101 of the reference at an index. -/
theorem p101 (n : Fin 32768) (q : Fin 1024) : r101 V0 (ix2 n q) = sgm (prj (V0 (Proc.devRef .tc main_arg0)) (V0 (Proc.devRef .tc main_arg1)) (V0 (Proc.devRef .tc main_arg2)) ⟨n.val / 4096, by omega⟩ ⟨n.val % 4096, by omega⟩ ⟨3524 + q.val, by omega⟩) := by
  simp only [sgm, ← t13]
  unfold r101
  clean_types
  pointwise

/-- Result 108 of the reference at an index. -/
theorem p108 (n : Fin 32768) (q : Fin 1024) : r108 V0 (ix2 n q) = sgm (prj (V0 (Proc.devRef .tc main_arg0)) (V0 (Proc.devRef .tc main_arg1)) (V0 (Proc.devRef .tc main_arg2)) ⟨n.val / 4096, by omega⟩ ⟨n.val % 4096, by omega⟩ ⟨4548 + q.val, by omega⟩) := by
  simp only [sgm, ← t13]
  unfold r108
  clean_types
  pointwise

/-- Result 87 of the reference at an index. -/
theorem p87 (n : Fin 32768) (q : Fin 512) : r87 V0 (ix2 n q) = nrm (fun x => prj (V0 (Proc.devRef .tc main_arg0)) (V0 (Proc.devRef .tc main_arg1)) (V0 (Proc.devRef .tc main_arg2)) ⟨n.val / 4096, by omega⟩ ⟨n.val % 4096, by omega⟩ ⟨512 + (q.val / 64 * 64 + x.val), by omega⟩) (V0 (Proc.devRef .tc main_arg4)) ⟨q.val % 64, by omega⟩ := by
  simp only [← t54 V0 _ _ ⟨q.val / 64, by omega⟩]
  unfold r87
  clean_types
  pointwise

/-- The queries at an index. -/
theorem rq_at (A : FVec Ideal S8x4096x8x64 .f32) (a : FVec Ideal S64 .f32) (n : Fin 128) (i : Fin 512) (j : Fin 256) :
    rq A a (ix3 n i j) = nrm (fun x => A (ix4 (⟨n.val / 16, by omega⟩ : Fin 8) (⟨n.val % 16 * 256 + j.val, by omega⟩ : Fin 4096)
      (⟨i.val / 64, by omega⟩ : Fin 8) x)) a ⟨i.val % 64, by omega⟩ * Ideal.ofBits .f32 0x3E000000#32 := by
  pointwise [rq, nrm]

/-- Result 114 of the reference at an index. -/
theorem p114 (n : Fin 128) (i : Fin 512) (j : Fin 256) : r114 V0 (ix3 n i j)
    = nrm (fun x => prj (V0 (Proc.devRef .tc main_arg0)) (V0 (Proc.devRef .tc main_arg1)) (V0 (Proc.devRef .tc main_arg2)) ⟨n.val / 16, by omega⟩ ⟨n.val % 16 * 256 + j.val, by omega⟩ ⟨i.val / 64 * 64 + x.val, by omega⟩) (V0 (Proc.devRef .tc main_arg3)) ⟨i.val % 64, by omega⟩ * Ideal.ofBits .f32 0x3E000000#32 := by
  refine (rq_at _ _ n i j).trans ?_
  refine congrArg (· * _) ?_
  exact congrArg (fun v => nrm v _ _) (funext fun x => t27 V0 _ _ _ x)

/-- Result 119 of the reference at an index. -/
theorem p119 (n : Fin 128) (i : Fin 512) (j : Fin 256) : r119 V0 (ix3 n i j)
    = nrm (fun x => prj (V0 (Proc.devRef .tc main_arg0)) (V0 (Proc.devRef .tc main_arg1)) (V0 (Proc.devRef .tc main_arg2)) ⟨n.val / 16, by omega⟩ ⟨n.val % 16 * 256 + j.val, by omega⟩ ⟨2048 + (i.val / 64 * 64 + x.val), by omega⟩) (V0 (Proc.devRef .tc main_arg5)) ⟨i.val % 64, by omega⟩ * Ideal.ofBits .f32 0x3E000000#32 := by
  refine (rq_at _ _ n i j).trans ?_
  refine congrArg (· * _) ?_
  exact congrArg (fun v => nrm v _ _) (funext fun x => t55 V0 _ _ _ x)

/-- Result 125 of the reference at an index. -/
theorem p125 (n : Fin 128) (i : Fin 640) (j : Fin 256) : r125 V0 (ix3 n i j) = (if h : i.val % 80 < 64 then prj (V0 (Proc.devRef .tc main_arg0)) (V0 (Proc.devRef .tc main_arg1)) (V0 (Proc.devRef .tc main_arg2)) ⟨n.val / 16, by omega⟩ ⟨n.val % 16 * 256 + j.val, by omega⟩ ⟨1024 + (i.val / 80 * 64 + i.val % 80), by omega⟩ else 1) := by
  simp only [← t13]
  unfold r125
  clean_types
  pointwise

/-- Result 130 of the reference at an index. -/
theorem p130 (n : Fin 128) (i : Fin 256) (j : Fin 256) : r130 V0 (ix3 n i j) = prj (V0 (Proc.devRef .tc main_arg0)) (V0 (Proc.devRef .tc main_arg1)) (V0 (Proc.devRef .tc main_arg2)) ⟨n.val / 16, by omega⟩ ⟨n.val % 16 * 256 + j.val, by omega⟩ ⟨3200 + i.val, by omega⟩ * Ideal.ofBits .f32 0x3E000000#32 := by
  simp only [← t13]
  unfold r130
  clean_types
  pointwise

/-- Result 136 of the reference at an index. -/
theorem p136 (n : Fin 128) (i : Fin 80) (j : Fin 256) : r136 V0 (ix3 n i j) = (if h : i.val < 64 then prj (V0 (Proc.devRef .tc main_arg0)) (V0 (Proc.devRef .tc main_arg1)) (V0 (Proc.devRef .tc main_arg2)) ⟨n.val / 16, by omega⟩ ⟨n.val % 16 * 256 + j.val, by omega⟩ ⟨2624 + i.val, by omega⟩ else 1) := by
  simp only [← t13]
  unfold r136
  clean_types
  pointwise

/-- Result 142 of the reference at an index. -/
theorem p142 (n : Fin 128) (i : Fin 8) (j : Fin 256) : r142 V0 (ix3 n i j) = (if h : i.val < 4 then prj (V0 (Proc.devRef .tc main_arg0)) (V0 (Proc.devRef .tc main_arg1)) (V0 (Proc.devRef .tc main_arg2)) ⟨n.val / 16, by omega⟩ ⟨n.val % 16 * 256 + j.val, by omega⟩ ⟨3520 + i.val, by omega⟩ else 0) * Ideal.ofBits .f32 0x3F000000#32 := by
  simp only [← t13]
  unfold r142
  clean_types
  pointwise

/-- Result 109 of the reference at an index. -/
theorem p109 (n : Fin 128) (i : Fin 512) : r109 V0 (ix3 n 0 i) = Ideal.div (∑ j : Fin 256, nrm (fun x => prj (V0 (Proc.devRef .tc main_arg0)) (V0 (Proc.devRef .tc main_arg1)) (V0 (Proc.devRef .tc main_arg2)) ⟨n.val / 16, by omega⟩ ⟨n.val % 16 * 256 + j.val, by omega⟩ ⟨512 + (i.val / 64 * 64 + x.val), by omega⟩) (V0 (Proc.devRef .tc main_arg4)) ⟨i.val % 64, by omega⟩) (Ideal.ofBits .f32 0x43800000#32) := by
  simp only [← t54 V0 _ _ ⟨i.val / 64, by omega⟩]
  unfold r109
  clean_types
  pointwise

/-- Two of one array and four of another along the last axis, at an index. -/
theorem rk_at (A B : FVec Ideal S8x4096x64 .f32) (n : Fin 32768) (q : Fin 384) : rk A B (ix2 n q)
    = if q.val < 128 then A (ix3 (⟨n.val / 4096, by omega⟩ : Fin 8) (⟨n.val % 4096, by omega⟩ : Fin 4096) (⟨q.val % 64, by omega⟩ : Fin 64))
      else B (ix3 (⟨n.val / 4096, by omega⟩ : Fin 8) (⟨n.val % 4096, by omega⟩ : Fin 4096) (⟨q.val % 64, by omega⟩ : Fin 64)) := by
  pointwise [rk]
  obtain ⟨q, hq⟩ := q
  dsimp only
  (repeat' split) <;> first | omega | exact congrArg (fun z => A (ix3 _ _ z)) (Fin.ext (by first | omega | (dsimp only; done) | (dsimp only; omega))) | exact congrArg (fun z => B (ix3 _ _ z)) (Fin.ext (by first | omega | (dsimp only; done) | (dsimp only; omega)))

/-- Result 90 of the reference at an index. -/
theorem p90 (n : Fin 32768) (q : Fin 384) : r90 V0 (ix2 n q)
    = if q.val < 128 then nrm (fun x => prj (V0 (Proc.devRef .tc main_arg0)) (V0 (Proc.devRef .tc main_arg1)) (V0 (Proc.devRef .tc main_arg2)) ⟨n.val / 4096, by omega⟩ ⟨n.val % 4096, by omega⟩ ⟨2560 + x.val, by omega⟩) (V0 (Proc.devRef .tc main_arg6)) (⟨q.val % 64, by omega⟩ : Fin 64)
      else prj (V0 (Proc.devRef .tc main_arg0)) (V0 (Proc.devRef .tc main_arg1)) (V0 (Proc.devRef .tc main_arg2)) ⟨n.val / 4096, by omega⟩ ⟨n.val % 4096, by omega⟩ ⟨3456 + q.val % 64, by omega⟩ := by
  refine (rk_at _ _ n q).trans ?_
  split_ifs
  · exact t81 V0 _ _ _
  · exact t23 V0 _ _ _

end Cert.Proof.InProj

end
-- ==== Proof.InBase.lean ====
/- The input projection over the extended reals: what the body finds in its blocks. -/
module

public import proofs.«01_k».proof.Defs
public import proofs.«01_k».proof.Proof.InRef
public import proofs.«01_k».proof.Proof.Gen.Kernel3Ideal.Value
public import Idealize.ShloMosaic.Lib.Pipeline.ValueKit
public import Idealize.ShloMosaic.Lib.Tactic.CleanTypes
public import Idealize.ShloMosaic.Lib.StableHlo.ReadAt
public import proofs.«01_k».proof.Proof.InSpec

@[expose] public section

set_option maxRecDepth 16384

noncomputable section

namespace Cert.Proof.InProj

open Idealize.ShloMosaic Idealize.ShloMosaic.TcCoe Idealize.SL.Sem
open Cert.Kernel3Ideal Cert.Kernel3Ideal.Gen

variable (m : (ℓ : Loc nD τ sig) → Buf (Elt Ideal) ℓ)

/-- The windows' blocks at a point: the weights and gains whole, the input's rows the point's own. -/
theorem index_at : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The same of the outputs that keep the rows. -/
theorem index_rows : ∀ t : Fin cfg0.N, win0_6.index t = ![t.val, 0] ∧ win0_7.index t = ![t.val, 0] ∧ win0_8.index t = ![t.val, 0]
    ∧ win0_9.index t = ![t.val, 0] ∧ win0_10.index t = ![t.val, 0] ∧ win0_11.index t = ![t.val, 0] :=
  (by decide +kernel : ∀ t : Fin grid0.N, _)

/-- The same of the outputs in tiles. -/
theorem index_tiles : ∀ t : Fin cfg0.N, win0_12.index t = ![t.val, 0, 0] ∧ win0_13.index t = ![t.val, 0, 0]
    ∧ win0_14.index t = ![t.val, 0, 0] ∧ win0_15.index t = ![t.val, 0, 0] ∧ win0_16.index t = ![t.val, 0, 0]
    ∧ win0_17.index t = ![t.val, 0, 0] ∧ win0_18.index t = ![t.val, 0, 0] :=
  (by decide +kernel : ∀ t : Fin grid0.N, _)

/-- The body's normalised rows. -/
theorem pay_hid (v0 : Vec Ideal S512x1024 .f32) (v12 : Vec Ideal S1x1024 .f32) (r : Fin 512) (k : Fin 1024) :
    k0_pay5 v0 v12 (ix2 r k) = (v0 (ix2 r k) * Ideal.rsqrt (Ideal.div (∑ j : Fin 1024, v0 (ix2 r j) * v0 (ix2 r j)) (Ideal.ofBits .f32 0x44800000#32)
      + Ideal.ofBits .f32 0x358637BD#32)) * v12 (ix2 0 k) := by
  pointwise [k0_pay5]

/-- The body's projected row `r` at column `e` of the rearranged weights. -/
def kp (v0 : Vec Ideal S512x1024 .f32) (v12 : Vec Ideal S1x1024 .f32) (w : Vec Ideal S1024x3968 .bf16) (r : Fin 512) (e : Fin 3968) : EReal :=
  ∑ k : Fin 1024, k0_pay5 v0 v12 (ix2 r k) * w (ix2 k e)

/-- The same for the weights that lie transposed. -/
def kt (v0 : Vec Ideal S512x1024 .f32) (v12 : Vec Ideal S1x1024 .f32) (w : Vec Ideal S1872x1024 .bf16) (r : Fin 512) (e : Fin 1872) : EReal :=
  ∑ k : Fin 1024, w (ix2 e k) * k0_pay5 v0 v12 (ix2 r k)

/-- The input's block. -/
theorem blk_x (c : Dev nD) (t : Fin cfg0.N) (r : Fin 512) (k : Fin 1024) (b : Fin 8) (s : Fin 4096)
    (hb : b.val = (t.val * 512 + r.val) / 4096) (hs : s.val = (t.val * 512 + r.val) % 4096) :
    (iblk m c 0 t : Vec Ideal S512x1024 .f32) (ix2 r k) = (m ((c.tc : Thread nD τ).loc main_arg0) : FVec Ideal S8x4096x1024 .f32) (ix3 b s k) := by
  obtain ⟨e0, e1, e2, e3, e4, e5⟩ := index_at t
  have ht : t.val < 64 := t.isLt
  have hr : r.val < 512 := r.isLt
  have hV : ∀ n : Fin 32768, V m c main_v35 (ix2 n k) = (m ((c.tc : Thread nD τ).loc main_arg0) : FVec Ideal S8x4096x1024 .f32)
      (ix3 (⟨n.val / 4096, by omega⟩ : Fin 8) (⟨n.val % 4096, by omega⟩ : Fin 4096) k) := by
    intro n
    unfold V
    after_reads_at
  have hi : (iblk m c 0 t : Vec Ideal S512x1024 .f32) (ix2 r k) = V m c main_v35 (ix2 (⟨t.val * 512 + r.val, by omega⟩ : Fin 32768) k) := by
    blk_point [iblk, e0]
  rw [hi, hV]
  exact congrArg₂ (fun b s => (m ((c.tc : Thread nD τ).loc main_arg0) : FVec Ideal S8x4096x1024 .f32) (ix3 b s k)) (Fin.ext hb.symm) (Fin.ext hs.symm)

/-- The gain's block. -/
theorem blk_g (c : Dev nD) (t : Fin cfg0.N) (k : Fin 1024) :
    (iblk m c 1 t : Vec Ideal S1x1024 .f32) (ix2 0 k) = (m ((c.tc : Thread nD τ).loc main_arg1) : FVec Ideal S1024 .f32) (ix1 k) := by
  obtain ⟨e0, e1, e2, e3, e4, e5⟩ := index_at t
  have hV : V m c main_v36 (ix2 0 k) = (m ((c.tc : Thread nD τ).loc main_arg1) : FVec Ideal S1024 .f32) (ix1 k) := by
    unfold V
    after_reads_at
  rw [← hV]
  blk_point [iblk, e1]

/-- The rearranged weights' block is the array. -/
theorem blk_wn (c : Dev nD) (t : Fin cfg0.N) (k : Fin 1024) (e : Fin 3968) :
    (iblk m c 2 t : Vec Ideal S1024x3968 .bf16) (ix2 k e) = V m c main_v14 (ix2 k e) := by
  obtain ⟨e0, e1, e2, e3, e4, e5⟩ := index_at t
  blk_point [iblk, e2]

/-- So is the transposed weights'. -/
theorem blk_wt (c : Dev nD) (t : Fin cfg0.N) (e : Fin 1872) (k : Fin 1024) :
    (iblk m c 3 t : Vec Ideal S1872x1024 .bf16) (ix2 e k) = V m c main_v18 (ix2 e k) := by
  obtain ⟨e0, e1, e2, e3, e4, e5⟩ := index_at t
  blk_point [iblk, e3]

/-- So are the heads' gains in a row. -/
theorem blk_gn (c : Dev nD) (t : Fin cfg0.N) (e : Fin 640) :
    (iblk m c 4 t : Vec Ideal S1x640 .f32) (ix2 0 e) = V m c main_v26 (ix2 0 e) := by
  obtain ⟨e0, e1, e2, e3, e4, e5⟩ := index_at t
  blk_point [iblk, e4]

/-- So are the heads' gains in a column. -/
theorem blk_gt (c : Dev nD) (t : Fin cfg0.N) (e : Fin 1024) :
    (iblk m c 5 t : Vec Ideal S1024x1 .f32) (ix2 e 0) = V m c main_v34 (ix2 e 0) := by
  obtain ⟨e0, e1, e2, e3, e4, e5⟩ := index_at t
  blk_point [iblk, e5]

/-- The body's normalised rows are the layer's. -/
theorem pay_hid_eq (c : Dev nD) (t : Fin cfg0.N) (r : Fin 512) (k : Fin 1024) (b : Fin 8) (s : Fin 4096)
    (hb : b.val = (t.val * 512 + r.val) / 4096) (hs : s.val = (t.val * 512 + r.val) % 4096) :
    k0_pay5 (iblk m c 0 t) (iblk m c 1 t) (ix2 r k)
      = hid (m ((c.tc : Thread nD τ).loc main_arg0)) (m ((c.tc : Thread nD τ).loc main_arg1)) b s k := by
  rw [pay_hid]
  simp only [hid, blk_x m c t r _ b s hb hs, blk_g m c t]

/-- A projected row of the body is the layer's, where the column of the rearranged weights is the weights' own. -/
theorem kp_eq (c : Dev nD) (t : Fin cfg0.N) (r : Fin 512) (e : Fin 3968) (b : Fin 8) (s : Fin 4096) (e' : Fin 5572)
    (hb : b.val = (t.val * 512 + r.val) / 4096) (hs : s.val = (t.val * 512 + r.val) % 4096)
    (he : ∀ k, V m c main_v14 (ix2 k e) = (m ((c.tc : Thread nD τ).loc main_arg2) : FVec Ideal S1024x5572 .f32) (ix2 k e')) :
    kp (iblk m c 0 t) (iblk m c 1 t) (iblk m c 2 t) r e
      = prj (m ((c.tc : Thread nD τ).loc main_arg0)) (m ((c.tc : Thread nD τ).loc main_arg1)) (m ((c.tc : Thread nD τ).loc main_arg2)) b s e' := by
  refine Finset.sum_congr rfl fun k _ => ?_
  rw [pay_hid_eq m c t r k b s hb hs, blk_wn m c t, he]

/-- The same for the transposed weights. -/
theorem kt_eq (c : Dev nD) (t : Fin cfg0.N) (r : Fin 512) (e : Fin 1872) (b : Fin 8) (s : Fin 4096) (e' : Fin 5572)
    (hb : b.val = (t.val * 512 + r.val) / 4096) (hs : s.val = (t.val * 512 + r.val) % 4096)
    (he : ∀ k, V m c main_v18 (ix2 e k) = (m ((c.tc : Thread nD τ).loc main_arg2) : FVec Ideal S1024x5572 .f32) (ix2 k e')) :
    kt (iblk m c 0 t) (iblk m c 1 t) (iblk m c 3 t) r e
      = prj (m ((c.tc : Thread nD τ).loc main_arg0)) (m ((c.tc : Thread nD τ).loc main_arg1)) (m ((c.tc : Thread nD τ).loc main_arg2)) b s e' := by
  refine Finset.sum_congr rfl fun k _ => ?_
  rw [pay_hid_eq m c t r k b s hb hs, blk_wt m c t, he, mul_comm]

/-- The rearranged weights, section ka. -/
theorem wn_ka (c : Dev nD) (k : Fin 1024) (q : Fin 512) :
    V m c main_v14 (ix2 k (⟨q.val, by omega⟩ : Fin 3968)) = (m ((c.tc : Thread nD τ).loc main_arg2) : FVec Ideal S1024x5572 .f32) (ix2 k (⟨512 + q.val, by omega⟩ : Fin 5572)) := by
  unfold V
  after_reads_at
  after_reads_at

/-- The rearranged weights, section kb0. -/
theorem wn_kb0 (c : Dev nD) (k : Fin 1024) (q : Fin 64) :
    V m c main_v14 (ix2 k (⟨512 + q.val, by omega⟩ : Fin 3968)) = (m ((c.tc : Thread nD τ).loc main_arg2) : FVec Ideal S1024x5572 .f32) (ix2 k (⟨2560 + q.val, by omega⟩ : Fin 5572)) := by
  unfold V
  after_reads_at
  after_reads_at

/-- The rearranged weights, section kb1. -/
theorem wn_kb1 (c : Dev nD) (k : Fin 1024) (q : Fin 64) :
    V m c main_v14 (ix2 k (⟨576 + q.val, by omega⟩ : Fin 3968)) = (m ((c.tc : Thread nD τ).loc main_arg2) : FVec Ideal S1024x5572 .f32) (ix2 k (⟨2560 + q.val, by omega⟩ : Fin 5572)) := by
  unfold V
  after_reads_at
  rw [dif_neg (show ¬ (576 + q.val < 512) by omega)]
  rw [dif_neg (show ¬ (576 + q.val - 512 < 64) by omega)]
  rw [dif_pos (show (576 + q.val - 512 - 64 < 64) by omega)]
  after_reads_at
  exact congrArg (fun e : Fin 5572 => (m ((c.tc : Thread nD τ).loc main_arg2) : FVec Ideal S1024x5572 .f32) (ix2 k e)) (Fin.ext (by first | omega | (dsimp only; omega)))

/-- The rearranged weights, section ki0. -/
theorem wn_ki0 (c : Dev nD) (k : Fin 1024) (q : Fin 64) :
    V m c main_v14 (ix2 k (⟨640 + q.val, by omega⟩ : Fin 3968)) = (m ((c.tc : Thread nD τ).loc main_arg2) : FVec Ideal S1024x5572 .f32) (ix2 k (⟨3456 + q.val, by omega⟩ : Fin 5572)) := by
  unfold V
  after_reads_at
  rw [dif_neg (show ¬ (640 + q.val < 512) by omega)]
  rw [dif_neg (show ¬ (640 + q.val - 512 < 64) by omega)]
  rw [dif_neg (show ¬ (640 + q.val - 512 - 64 < 64) by omega)]
  rw [dif_pos (show (640 + q.val - 512 - 64 - 64 < 64) by omega)]
  after_reads_at
  exact congrArg (fun e : Fin 5572 => (m ((c.tc : Thread nD τ).loc main_arg2) : FVec Ideal S1024x5572 .f32) (ix2 k e)) (Fin.ext (by first | omega | (dsimp only; omega)))

/-- The rearranged weights, section ki1. -/
theorem wn_ki1 (c : Dev nD) (k : Fin 1024) (q : Fin 64) :
    V m c main_v14 (ix2 k (⟨704 + q.val, by omega⟩ : Fin 3968)) = (m ((c.tc : Thread nD τ).loc main_arg2) : FVec Ideal S1024x5572 .f32) (ix2 k (⟨3456 + q.val, by omega⟩ : Fin 5572)) := by
  unfold V
  after_reads_at
  rw [dif_neg (show ¬ (704 + q.val < 512) by omega)]
  rw [dif_neg (show ¬ (704 + q.val - 512 < 64) by omega)]
  rw [dif_neg (show ¬ (704 + q.val - 512 - 64 < 64) by omega)]
  rw [dif_neg (show ¬ (704 + q.val - 512 - 64 - 64 < 64) by omega)]
  rw [dif_pos (show (704 + q.val - 512 - 64 - 64 - 64 < 64) by omega)]
  after_reads_at
  exact congrArg (fun e : Fin 5572 => (m ((c.tc : Thread nD τ).loc main_arg2) : FVec Ideal S1024x5572 .f32) (ix2 k e)) (Fin.ext (by first | omega | (dsimp only; omega)))

/-- The rearranged weights, section ki2. -/
theorem wn_ki2 (c : Dev nD) (k : Fin 1024) (q : Fin 64) :
    V m c main_v14 (ix2 k (⟨768 + q.val, by omega⟩ : Fin 3968)) = (m ((c.tc : Thread nD τ).loc main_arg2) : FVec Ideal S1024x5572 .f32) (ix2 k (⟨3456 + q.val, by omega⟩ : Fin 5572)) := by
  unfold V
  after_reads_at
  rw [dif_neg (show ¬ (768 + q.val < 512) by omega)]
  rw [dif_neg (show ¬ (768 + q.val - 512 < 64) by omega)]
  rw [dif_neg (show ¬ (768 + q.val - 512 - 64 < 64) by omega)]
  rw [dif_neg (show ¬ (768 + q.val - 512 - 64 - 64 < 64) by omega)]
  rw [dif_neg (show ¬ (768 + q.val - 512 - 64 - 64 - 64 < 64) by omega)]
  rw [dif_pos (show (768 + q.val - 512 - 64 - 64 - 64 - 64 < 64) by omega)]
  after_reads_at
  exact congrArg (fun e : Fin 5572 => (m ((c.tc : Thread nD τ).loc main_arg2) : FVec Ideal S1024x5572 .f32) (ix2 k e)) (Fin.ext (by first | omega | (dsimp only; omega)))

/-- The rearranged weights, section ki3. -/
theorem wn_ki3 (c : Dev nD) (k : Fin 1024) (q : Fin 64) :
    V m c main_v14 (ix2 k (⟨832 + q.val, by omega⟩ : Fin 3968)) = (m ((c.tc : Thread nD τ).loc main_arg2) : FVec Ideal S1024x5572 .f32) (ix2 k (⟨3456 + q.val, by omega⟩ : Fin 5572)) := by
  unfold V
  after_reads_at
  rw [dif_neg (show ¬ (832 + q.val < 512) by omega)]
  rw [dif_neg (show ¬ (832 + q.val - 512 < 64) by omega)]
  rw [dif_neg (show ¬ (832 + q.val - 512 - 64 < 64) by omega)]
  rw [dif_neg (show ¬ (832 + q.val - 512 - 64 - 64 < 64) by omega)]
  rw [dif_neg (show ¬ (832 + q.val - 512 - 64 - 64 - 64 < 64) by omega)]
  rw [dif_neg (show ¬ (832 + q.val - 512 - 64 - 64 - 64 - 64 < 64) by omega)]
  rw [dif_pos (show (832 + q.val - 512 - 64 - 64 - 64 - 64 - 64 < 64) by omega)]
  after_reads_at
  exact congrArg (fun e : Fin 5572 => (m ((c.tc : Thread nD τ).loc main_arg2) : FVec Ideal S1024x5572 .f32) (ix2 k e)) (Fin.ext (by first | omega | (dsimp only; omega)))

/-- The rearranged weights, section ga. -/
theorem wn_ga (c : Dev nD) (k : Fin 1024) (q : Fin 512) :
    V m c main_v14 (ix2 k (⟨896 + q.val, by omega⟩ : Fin 3968)) = (m ((c.tc : Thread nD τ).loc main_arg2) : FVec Ideal S1024x5572 .f32) (ix2 k (⟨1536 + q.val, by omega⟩ : Fin 5572)) := by
  unfold V
  after_reads_at
  rw [dif_neg (show ¬ (896 + q.val < 512) by omega)]
  rw [dif_neg (show ¬ (896 + q.val - 512 < 64) by omega)]
  rw [dif_neg (show ¬ (896 + q.val - 512 - 64 < 64) by omega)]
  rw [dif_neg (show ¬ (896 + q.val - 512 - 64 - 64 < 64) by omega)]
  rw [dif_neg (show ¬ (896 + q.val - 512 - 64 - 64 - 64 < 64) by omega)]
  rw [dif_neg (show ¬ (896 + q.val - 512 - 64 - 64 - 64 - 64 < 64) by omega)]
  rw [dif_neg (show ¬ (896 + q.val - 512 - 64 - 64 - 64 - 64 - 64 < 64) by omega)]
  rw [dif_pos (show (896 + q.val - 512 - 64 - 64 - 64 - 64 - 64 - 64 < 512) by omega)]
  after_reads_at
  exact congrArg (fun e : Fin 5572 => (m ((c.tc : Thread nD τ).loc main_arg2) : FVec Ideal S1024x5572 .f32) (ix2 k e)) (Fin.ext (by first | omega | (dsimp only; omega)))

/-- The rearranged weights, section gb. -/
theorem wn_gb (c : Dev nD) (k : Fin 1024) (q : Fin 512) :
    V m c main_v14 (ix2 k (⟨1408 + q.val, by omega⟩ : Fin 3968)) = (m ((c.tc : Thread nD τ).loc main_arg2) : FVec Ideal S1024x5572 .f32) (ix2 k (⟨2688 + q.val, by omega⟩ : Fin 5572)) := by
  unfold V
  after_reads_at
  rw [dif_neg (show ¬ (1408 + q.val < 512) by omega)]
  rw [dif_neg (show ¬ (1408 + q.val - 512 < 64) by omega)]
  rw [dif_neg (show ¬ (1408 + q.val - 512 - 64 < 64) by omega)]
  rw [dif_neg (show ¬ (1408 + q.val - 512 - 64 - 64 < 64) by omega)]
  rw [dif_neg (show ¬ (1408 + q.val - 512 - 64 - 64 - 64 < 64) by omega)]
  rw [dif_neg (show ¬ (1408 + q.val - 512 - 64 - 64 - 64 - 64 < 64) by omega)]
  rw [dif_neg (show ¬ (1408 + q.val - 512 - 64 - 64 - 64 - 64 - 64 < 64) by omega)]
  rw [dif_neg (show ¬ (1408 + q.val - 512 - 64 - 64 - 64 - 64 - 64 - 64 < 512) by omega)]
  rw [dif_pos (show (1408 + q.val - 512 - 64 - 64 - 64 - 64 - 64 - 64 - 512 < 512) by omega)]
  after_reads_at
  exact congrArg (fun e : Fin 5572 => (m ((c.tc : Thread nD τ).loc main_arg2) : FVec Ideal S1024x5572 .f32) (ix2 k e)) (Fin.ext (by first | omega | (dsimp only; omega)))

/-- The rearranged weights, section ma. -/
theorem wn_ma (c : Dev nD) (k : Fin 1024) (q : Fin 1024) :
    V m c main_v14 (ix2 k (⟨1920 + q.val, by omega⟩ : Fin 3968)) = (m ((c.tc : Thread nD τ).loc main_arg2) : FVec Ideal S1024x5572 .f32) (ix2 k (⟨3524 + q.val, by omega⟩ : Fin 5572)) := by
  unfold V
  after_reads_at
  rw [dif_neg (show ¬ (1920 + q.val < 512) by omega)]
  rw [dif_neg (show ¬ (1920 + q.val - 512 < 64) by omega)]
  rw [dif_neg (show ¬ (1920 + q.val - 512 - 64 < 64) by omega)]
  rw [dif_neg (show ¬ (1920 + q.val - 512 - 64 - 64 < 64) by omega)]
  rw [dif_neg (show ¬ (1920 + q.val - 512 - 64 - 64 - 64 < 64) by omega)]
  rw [dif_neg (show ¬ (1920 + q.val - 512 - 64 - 64 - 64 - 64 < 64) by omega)]
  rw [dif_neg (show ¬ (1920 + q.val - 512 - 64 - 64 - 64 - 64 - 64 < 64) by omega)]
  rw [dif_neg (show ¬ (1920 + q.val - 512 - 64 - 64 - 64 - 64 - 64 - 64 < 512) by omega)]
  rw [dif_neg (show ¬ (1920 + q.val - 512 - 64 - 64 - 64 - 64 - 64 - 64 - 512 < 512) by omega)]
  rw [dif_pos (show (1920 + q.val - 512 - 64 - 64 - 64 - 64 - 64 - 64 - 512 - 512 < 1024) by omega)]
  after_reads_at
  exact congrArg (fun e : Fin 5572 => (m ((c.tc : Thread nD τ).loc main_arg2) : FVec Ideal S1024x5572 .f32) (ix2 k e)) (Fin.ext (by first | omega | (dsimp only; omega)))

/-- The rearranged weights, section mb. -/
theorem wn_mb (c : Dev nD) (k : Fin 1024) (q : Fin 1024) :
    V m c main_v14 (ix2 k (⟨2944 + q.val, by omega⟩ : Fin 3968)) = (m ((c.tc : Thread nD τ).loc main_arg2) : FVec Ideal S1024x5572 .f32) (ix2 k (⟨4548 + q.val, by omega⟩ : Fin 5572)) := by
  unfold V
  after_reads_at
  rw [dif_neg (show ¬ (2944 + q.val < 512) by omega)]
  rw [dif_neg (show ¬ (2944 + q.val - 512 < 64) by omega)]
  rw [dif_neg (show ¬ (2944 + q.val - 512 - 64 < 64) by omega)]
  rw [dif_neg (show ¬ (2944 + q.val - 512 - 64 - 64 < 64) by omega)]
  rw [dif_neg (show ¬ (2944 + q.val - 512 - 64 - 64 - 64 < 64) by omega)]
  rw [dif_neg (show ¬ (2944 + q.val - 512 - 64 - 64 - 64 - 64 < 64) by omega)]
  rw [dif_neg (show ¬ (2944 + q.val - 512 - 64 - 64 - 64 - 64 - 64 < 64) by omega)]
  rw [dif_neg (show ¬ (2944 + q.val - 512 - 64 - 64 - 64 - 64 - 64 - 64 < 512) by omega)]
  rw [dif_neg (show ¬ (2944 + q.val - 512 - 64 - 64 - 64 - 64 - 64 - 64 - 512 < 512) by omega)]
  rw [dif_neg (show ¬ (2944 + q.val - 512 - 64 - 64 - 64 - 64 - 64 - 64 - 512 - 512 < 1024) by omega)]
  after_reads_at
  exact congrArg (fun e : Fin 5572 => (m ((c.tc : Thread nD τ).loc main_arg2) : FVec Ideal S1024x5572 .f32) (ix2 k e)) (Fin.ext (by first | omega | (dsimp only; omega)))

/-- The transposed weights, section qa. -/
theorem wt_qa (c : Dev nD) (k : Fin 1024) (q : Fin 512) :
    V m c main_v18 (ix2 (⟨q.val, by omega⟩ : Fin 1872) k) = (m ((c.tc : Thread nD τ).loc main_arg2) : FVec Ideal S1024x5572 .f32) (ix2 k (⟨q.val, by omega⟩ : Fin 5572)) := by
  unfold V
  after_reads_at
  after_reads_at

/-- The transposed weights, section qb. -/
theorem wt_qb (c : Dev nD) (k : Fin 1024) (q : Fin 512) :
    V m c main_v18 (ix2 (⟨512 + q.val, by omega⟩ : Fin 1872) k) = (m ((c.tc : Thread nD τ).loc main_arg2) : FVec Ideal S1024x5572 .f32) (ix2 k (⟨2048 + q.val, by omega⟩ : Fin 5572)) := by
  unfold V
  after_reads_at
  after_reads_at

/-- The transposed weights, section va. -/
theorem wt_va (c : Dev nD) (k : Fin 1024) (q : Fin 512) :
    V m c main_v18 (ix2 (⟨1024 + q.val, by omega⟩ : Fin 1872) k) = (m ((c.tc : Thread nD τ).loc main_arg2) : FVec Ideal S1024x5572 .f32) (ix2 k (⟨1024 + q.val, by omega⟩ : Fin 5572)) := by
  unfold V
  after_reads_at
  rw [dif_neg (show ¬ (1024 + q.val < 512) by omega)]
  rw [dif_neg (show ¬ (1024 + q.val - 512 < 512) by omega)]
  rw [dif_pos (show (1024 + q.val - 512 - 512 < 512) by omega)]
  after_reads_at
  exact congrArg (fun e : Fin 5572 => (m ((c.tc : Thread nD τ).loc main_arg2) : FVec Ideal S1024x5572 .f32) (ix2 k e)) (Fin.ext (by first | omega | (dsimp only; omega)))

/-- The transposed weights, section qi. -/
theorem wt_qi (c : Dev nD) (k : Fin 1024) (q : Fin 256) :
    V m c main_v18 (ix2 (⟨1536 + q.val, by omega⟩ : Fin 1872) k) = (m ((c.tc : Thread nD τ).loc main_arg2) : FVec Ideal S1024x5572 .f32) (ix2 k (⟨3200 + q.val, by omega⟩ : Fin 5572)) := by
  unfold V
  after_reads_at
  rw [dif_neg (show ¬ (1536 + q.val < 512) by omega)]
  rw [dif_neg (show ¬ (1536 + q.val - 512 < 512) by omega)]
  rw [dif_neg (show ¬ (1536 + q.val - 512 - 512 < 512) by omega)]
  rw [dif_pos (show (1536 + q.val - 512 - 512 - 512 < 256) by omega)]
  after_reads_at
  exact congrArg (fun e : Fin 5572 => (m ((c.tc : Thread nD τ).loc main_arg2) : FVec Ideal S1024x5572 .f32) (ix2 k e)) (Fin.ext (by first | omega | (dsimp only; omega)))

/-- The transposed weights, section vb. -/
theorem wt_vb (c : Dev nD) (k : Fin 1024) (q : Fin 64) :
    V m c main_v18 (ix2 (⟨1792 + q.val, by omega⟩ : Fin 1872) k) = (m ((c.tc : Thread nD τ).loc main_arg2) : FVec Ideal S1024x5572 .f32) (ix2 k (⟨2624 + q.val, by omega⟩ : Fin 5572)) := by
  unfold V
  after_reads_at
  rw [dif_neg (show ¬ (1792 + q.val < 512) by omega)]
  rw [dif_neg (show ¬ (1792 + q.val - 512 < 512) by omega)]
  rw [dif_neg (show ¬ (1792 + q.val - 512 - 512 < 512) by omega)]
  rw [dif_neg (show ¬ (1792 + q.val - 512 - 512 - 512 < 256) by omega)]
  rw [dif_pos (show (1792 + q.val - 512 - 512 - 512 - 256 < 64) by omega)]
  after_reads_at
  exact congrArg (fun e : Fin 5572 => (m ((c.tc : Thread nD τ).loc main_arg2) : FVec Ideal S1024x5572 .f32) (ix2 k e)) (Fin.ext (by first | omega | (dsimp only; omega)))

/-- The transposed weights, section wi. -/
theorem wt_wi (c : Dev nD) (k : Fin 1024) (q : Fin 4) :
    V m c main_v18 (ix2 (⟨1856 + q.val, by omega⟩ : Fin 1872) k) = (m ((c.tc : Thread nD τ).loc main_arg2) : FVec Ideal S1024x5572 .f32) (ix2 k (⟨3520 + q.val, by omega⟩ : Fin 5572)) := by
  unfold V
  after_reads_at
  rw [dif_neg (show ¬ (1856 + q.val < 512) by omega)]
  rw [dif_neg (show ¬ (1856 + q.val - 512 < 512) by omega)]
  rw [dif_neg (show ¬ (1856 + q.val - 512 - 512 < 512) by omega)]
  rw [dif_neg (show ¬ (1856 + q.val - 512 - 512 - 512 < 256) by omega)]
  rw [dif_neg (show ¬ (1856 + q.val - 512 - 512 - 512 - 256 < 64) by omega)]
  rw [dif_pos (show (1856 + q.val - 512 - 512 - 512 - 256 - 64 < 4) by omega)]
  after_reads_at
  exact congrArg (fun e : Fin 5572 => (m ((c.tc : Thread nD τ).loc main_arg2) : FVec Ideal S1024x5572 .f32) (ix2 k e)) (Fin.ext (by first | omega | (dsimp only; omega)))

/-- The rows that fill the transposed weights up are zero. -/
theorem wt_pad (c : Dev nD) (k : Fin 1024) (q : Fin 12) : V m c main_v18 (ix2 (⟨1860 + q.val, by omega⟩ : Fin 1872) k) = (0 : EReal) := by
  unfold V
  after_reads_at
  rw [dif_neg (show ¬ (1860 + q.val < 512) by omega)]
  rw [dif_neg (show ¬ (1860 + q.val - 512 < 512) by omega)]
  rw [dif_neg (show ¬ (1860 + q.val - 512 - 512 < 512) by omega)]
  rw [dif_neg (show ¬ (1860 + q.val - 512 - 512 - 512 < 256) by omega)]
  rw [dif_neg (show ¬ (1860 + q.val - 512 - 512 - 512 - 256 < 64) by omega)]
  rw [dif_neg (show ¬ (1860 + q.val - 512 - 512 - 512 - 256 - 64 < 4) by omega)]
  after_reads_at

/-- The heads' gains, section gn_a. -/
theorem gn_a (c : Dev nD) (q : Fin 512) :
    V m c main_v26 (ix2 0 (⟨q.val, by omega⟩ : Fin 640)) = (m ((c.tc : Thread nD τ).loc main_arg4) : FVec Ideal S64 .f32) (ix1 (⟨q.val % 64, by omega⟩ : Fin 64)) := by
  unfold V
  after_reads_at
  after_reads_at

/-- The heads' gains, section gn_b. -/
theorem gn_b (c : Dev nD) (q : Fin 128) :
    V m c main_v26 (ix2 0 (⟨512 + q.val, by omega⟩ : Fin 640)) = (m ((c.tc : Thread nD τ).loc main_arg6) : FVec Ideal S64 .f32) (ix1 (⟨q.val % 64, by omega⟩ : Fin 64)) := by
  unfold V
  after_reads_at
  after_reads_at

/-- The heads' gains, section gt_a. -/
theorem gt_a (c : Dev nD) (q : Fin 512) :
    V m c main_v34 (ix2 (⟨q.val, by omega⟩ : Fin 1024) 0) = (m ((c.tc : Thread nD τ).loc main_arg3) : FVec Ideal S64 .f32) (ix1 (⟨q.val % 64, by omega⟩ : Fin 64)) := by
  unfold V
  after_reads_at
  after_reads_at

/-- The heads' gains, section gt_b. -/
theorem gt_b (c : Dev nD) (q : Fin 512) :
    V m c main_v34 (ix2 (⟨512 + q.val, by omega⟩ : Fin 1024) 0) = (m ((c.tc : Thread nD τ).loc main_arg5) : FVec Ideal S64 .f32) (ix1 (⟨q.val % 64, by omega⟩ : Fin 64)) := by
  unfold V
  after_reads_at
  after_reads_at

end Cert.Proof.InProj

end
-- ==== Proof.InReal.lean ====
/- The norm that goes through a matrix of ones and noughts, over the extended reals, where the numbers are real. -/
module

public import proofs.«01_k».proof.Defs
public import proofs.«01_k».proof.Proof.Gen.Kernel3Ideal.Value
public import Idealize.ShloMosaic.Lib.Pipeline.ValueKit
public import Idealize.ShloMosaic.Lib.Tactic.CleanTypes
public import Idealize.ShloMosaic.Lib.StableHlo.ReadAt
public import proofs.«01_k».proof.Proof.InBase
public import proofs.«01_k».proof.Proof.InRef

@[expose] public section

set_option maxRecDepth 16384

noncomputable section

namespace Cert.Proof.InProj

open Idealize.ShloMosaic Idealize.ShloMosaic.TcCoe Idealize.SL.Sem
open Cert.Kernel3Ideal Cert.Kernel3Ideal.Gen

variable (m : (ℓ : Loc nD τ sig) → Buf (Elt Ideal) ℓ)

/-- A real number among the extended ones. -/
def IsR (z : EReal) : Prop := ∃ r : ℝ, z = (r : EReal)

theorem IsR.mul {a b : EReal} (ha : IsR a) (hb : IsR b) : IsR (a * b) := by
  obtain ⟨r, rfl⟩ := ha
  obtain ⟨s, rfl⟩ := hb
  exact ⟨r * s, (EReal.coe_mul r s).symm⟩

theorem IsR.add {a b : EReal} (ha : IsR a) (hb : IsR b) : IsR (a + b) := by
  obtain ⟨r, rfl⟩ := ha
  obtain ⟨s, rfl⟩ := hb
  exact ⟨r + s, (EReal.coe_add r s).symm⟩

/-- A finite sum of reals is real. -/
theorem IsR.sum {n : Nat} (f : Fin n → EReal) (hf : ∀ i, IsR (f i)) : IsR (∑ i, f i) :=
  Finset.sum_induction f IsR (fun _ _ => IsR.add) ⟨0, EReal.coe_zero.symm⟩ fun i _ => hf i

/-- A finite sum of squares of reals is real and not negative. -/
theorem sum_sq {n : Nat} (f : Fin n → EReal) (hf : ∀ i, IsR (f i)) : ∃ r : ℝ, 0 ≤ r ∧ ∑ i, f i * f i = (r : EReal) := by
  refine Finset.sum_induction (fun i => f i * f i) (fun z => ∃ r : ℝ, 0 ≤ r ∧ z = (r : EReal)) ?_ ⟨0, le_rfl, EReal.coe_zero.symm⟩ fun i _ => ?_
  · rintro _ _ ⟨r, hr, rfl⟩ ⟨s, hs, rfl⟩
    exact ⟨r + s, add_nonneg hr hs, (EReal.coe_add r s).symm⟩
  · obtain ⟨r, hr⟩ := hf i
    refine ⟨r * r, mul_self_nonneg r, ?_⟩
    show f i * f i = _
    rw [hr, EReal.coe_mul]

/-- A square of an extended real is not negative. -/
theorem sq_nonneg' (z : EReal) : 0 ≤ z * z := by
  induction z using EReal.rec with
  | bot => simp
  | coe r => rw [← EReal.coe_mul]; exact EReal.coe_nonneg.2 (mul_self_nonneg r)
  | top => simp

/-- A finite sum of squares is infinite where a number is. -/
theorem sum_sq_top {n : Nat} (f : Fin n → EReal) (j : Fin n) (hj : ¬ IsR (f j)) : ∑ i, f i * f i = ⊤ := by
  have h : f j * f j = ⊤ := by
    generalize f j = z at hj
    induction z using EReal.rec with
    | bot => simp
    | coe r => exact absurd ⟨r, rfl⟩ hj
    | top => simp
  refine top_le_iff.1 (h.ge.trans ?_)
  exact Finset.single_le_sum (f := fun i => f i * f i) (fun i _ => sq_nonneg' (f i)) (Finset.mem_univ j)

/-- The normalised input is real where the gain is: an infinite number leaves a row of zeros. -/
theorem hid_real (x : FVec Ideal Cert.Reference3Ideal.S8x4096x1024 .f32) (g : FVec Ideal Cert.Reference3Ideal.S1024 .f32) (hg : ∀ i, IsR (g i))
    (b : Fin 8) (s : Fin 4096) (k : Fin 1024) : IsR (hid x g b s k) := by
  refine IsR.mul ?_ (hg _)
  obtain ⟨p, hp, ep⟩ := eps_pos
  by_cases hx : ∀ j : Fin 1024, IsR (x (ix3 b s j))
  · refine (hx _).mul ?_
    obtain ⟨r, hr, e⟩ := sum_sq (fun j : Fin 1024 => x (ix3 b s j)) hx
    have hq : 0 < r * (1 / 1024) + p := by positivity
    rw [e, c1024, ep, Ideal.div_coe (by norm_num), ← EReal.coe_mul, ← EReal.coe_add, Ideal.rsqrt_coe, if_neg hq.not_gt, if_neg hq.ne']
    exact ⟨_, rfl⟩
  · obtain ⟨j, hj⟩ := not_forall.1 hx
    rw [sum_sq_top (fun j : Fin 1024 => x (ix3 b s j)) j hj, c1024, ep, Ideal.div_coe (by norm_num), EReal.top_mul_coe_of_pos (by norm_num), EReal.top_add_coe, Ideal.rsqrt_top, mul_zero]
    exact ⟨0, EReal.coe_zero.symm⟩

/-- So is the projected row where the weights are. -/
theorem prj_real (x : FVec Ideal Cert.Reference3Ideal.S8x4096x1024 .f32) (g : FVec Ideal Cert.Reference3Ideal.S1024 .f32)
    (w : FVec Ideal Cert.Reference3Ideal.S1024x5572 .f32) (hg : ∀ i, IsR (g i)) (hw : ∀ i, IsR (w i))
    (b : Fin 8) (s : Fin 4096) (e : Fin 5572) : IsR (prj x g w b s e) :=
  IsR.sum _ fun k => (hid_real x g hg b s k).mul (hw _)

/-- A number over the root of the mean square that a matrix's column `G` picks, the squares' rests added, times the gain. -/
def kq {n : Nat} (y G : Fin n → EReal) (g : EReal) (q : Fin n) : EReal :=
  y q * Ideal.rsqrt ((∑ x, y x * y x * G x + ∑ x, (y x * y x - y x * y x) * G x) * Ideal.ofBits .f32 0x3C800000#32 + Ideal.ofBits .f32 0x358637BD#32) * g

/-- Where the numbers are real and the column marks the head's own 64, it is the head's norm. -/
theorem kq_eq {n : Nat} (y G : Fin n → EReal) (g : EReal) (q : Fin n) (v : Fin 64 → EReal) (a : FVec Ideal Cert.Reference3Ideal.S64 .f32) (d : Fin 64)
    (hy : ∀ x, IsR (y x)) (hG : ∀ x : Fin n, G x = if x.val / 64 = q.val / 64 then 1 else 0) (hn : q.val / 64 * 64 + 64 ≤ n)
    (hv : ∀ (x : Fin 64) (z : Fin n), z.val = q.val / 64 * 64 + x.val → y z = v x) (hg : g = a (ix1 d)) (hd : d.val = q.val % 64) :
    kq y G g q = nrm v a d := by
  have h1 : ∑ x, (y x * y x - y x * y x) * G x = 0 := Finset.sum_eq_zero fun x _ => by
    obtain ⟨r, hr⟩ := hy x
    rw [hr, ← EReal.coe_mul, ← EReal.coe_sub, sub_self, EReal.coe_zero, zero_mul]
  have h2 : ∑ x, y x * y x * G x = ∑ x : Fin 64, v x * v x := by
    simp only [hG, mul_ite, mul_one, mul_zero]
    rw [← Finset.sum_filter]
    refine Finset.sum_bij' (fun x _ => (⟨x.val % 64, Nat.mod_lt _ (by decide)⟩ : Fin 64)) (fun x _ => (⟨q.val / 64 * 64 + x.val, by have := x.isLt; omega⟩ : Fin n)) ?_ ?_ ?_ ?_ ?_
    · exact fun _ _ => Finset.mem_univ _
    · intro x _
      have := x.isLt
      refine Finset.mem_filter.mpr ⟨Finset.mem_univ _, ?_⟩
      show (q.val / 64 * 64 + x.val) / 64 = q.val / 64
      omega
    · intro x hx
      have := (Finset.mem_filter.mp hx).2
      refine Fin.ext ?_
      show q.val / 64 * 64 + x.val % 64 = x.val
      omega
    · intro x _
      have := x.isLt
      refine Fin.ext ?_
      show (q.val / 64 * 64 + x.val) % 64 = x.val
      omega
    · intro x hx
      have := (Finset.mem_filter.mp hx).2
      rw [hv ⟨x.val % 64, Nat.mod_lt _ (by decide)⟩ x (by show x.val = q.val / 64 * 64 + x.val % 64; omega)]
  rw [kq, nrm, h1, h2, add_zero, mean64, hv d q (by omega), hg]

/-- The head a column belongs to, as the body counts it. -/
def row (b : BitVec 32) : BitVec 32 :=
  Scalar.select
    (IntOp.andi
      (IntOp.cmpi .ne
        (IntOp.subi (BitVec.setWidth 32 (IntOp.cmpi .sgt b 0#32)) (BitVec.setWidth 32 (IntOp.cmpi .slt b 0#32)))
        (Scalar.subi (Scalar.extui (Scalar.cmpi .sgt 64#32 0#32)) (Scalar.extui (Scalar.cmpi .slt 64#32 0#32))))
      (IntOp.cmpi .ne (IntOp.remsi .vector b 64#32) 0#32))
    (IntOp.subi (IntOp.divsi .vector b 64#32) 1#32)
    (IntOp.divsi .vector b 64#32)

theorem row_eq : ∀ i : Fin 256, row (BitVec.ofNat 32 i.val) = BitVec.ofNat 32 (i.val / 64) := by
  decide +kernel

/-- Two heads are one or not. -/
theorem row_same : ∀ a b : Fin 4, IntOp.cmpi .eq (BitVec.ofNat 32 a.val) (BitVec.ofNat 32 b.val) = if a.val = b.val then 1#1 else 0#1 := by
  decide +kernel

/-- The matrix has a one where row and column belong to one head. -/
theorem grp_at (i j : Fin 256) :
    k0_pay9 (F := Ideal) k0_pay8 (iota .tc S256x256 32 [1] iota_S256x256_d1_w32) (ix2 i j) = if i.val / 64 = j.val / 64 then 1 else 0 := by
  pointwise [k0_pay9, k0_pay8]
  show Scalar.select (IntOp.cmpi .eq (row (BitVec.ofNat 32 i.val)) (row (BitVec.ofNat 32 j.val))) (1 : EReal) 0 = _
  rw [row_eq, row_eq, row_same ⟨i.val / 64, by omega⟩ ⟨j.val / 64, by omega⟩]
  show Scalar.select (if i.val / 64 = j.val / 64 then 1#1 else 0#1) (1 : EReal) 0 = _
  split_ifs <;> rfl

end Cert.Proof.InProj

end
-- ==== Proof.InRows.lean ====
/- The outputs that keep the rows and hold a gate: its value times its logistic, or its logistic. -/
module

public import proofs.«01_k».proof.Defs
public import proofs.«01_k».proof.Proof.InReal
public import proofs.«01_k».proof.Proof.Gen.Kernel3Ideal.Value
public import Idealize.ShloMosaic.Lib.Pipeline.ValueKit
public import Idealize.ShloMosaic.Lib.Tactic.CleanTypes
public import Idealize.ShloMosaic.Lib.StableHlo.ReadAt
public import proofs.«01_k».proof.Proof.InBase
public import proofs.«01_k».proof.Proof.InRef

@[expose] public section

set_option maxRecDepth 16384

noncomputable section

namespace Cert.Proof.InProj

open Idealize.ShloMosaic Idealize.ShloMosaic.TcCoe Idealize.SL.Sem
open Cert.Kernel3Ideal Cert.Kernel3Ideal.Gen

variable (m : (ℓ : Loc nD τ sig) → Buf (Elt Ideal) ℓ)

/-- The body's stored value of output 8 at row `r`, column `q`. -/
theorem pay_8 (v0 : Vec Ideal S512x1024 .f32) (v12 : Vec Ideal S1x1024 .f32) (w : Vec Ideal S1024x3968 .bf16) (r q : Fin 512) :
    k0_pay24 (k0_pay6 v0 v12) (View.ld w (Rect.unit ![0, 896] ![1024, 512] inb_S1024x3968_S1024x512_0_896)) (ix2 r q)
      = sil (kp v0 v12 w r ⟨896 + q.val, by omega⟩) := by
  pointwise [k0_pay24, k0_pay6, sil, kp, Ideal.logistic]

/-- Output 8 is result 92 of the reference. -/
theorem res_8 (c : Dev nD) (V0 : Valuation Cert.Reference3Ideal.τ Cert.Reference3Ideal.sig (Elt Ideal))
    (h0 : V0 (Proc.devRef .tc Cert.Reference3Ideal.main_arg0) = m ((c.tc : Thread nD τ).loc main_arg0))
    (h1 : V0 (Proc.devRef .tc Cert.Reference3Ideal.main_arg1) = m ((c.tc : Thread nD τ).loc main_arg1))
    (h2 : V0 (Proc.devRef .tc Cert.Reference3Ideal.main_arg2) = m ((c.tc : Thread nD τ).loc main_arg2)) :
    (dats m 0 c).arrAt 8 cfg0.N = r92 V0 := by
  refine (dats m 0 c).arrAt_eq_of_covers 8 _ (by decide +kernel) fun t hf y => ?_
  obtain ⟨e6, e7, e8, e9, e10, e11⟩ := index_rows t
  blk_simp
  rw [after0_8]
  unfold outsAt0
  frame_out
  have ht : t.val < 64 := t.isLt
  obtain ⟨r, q, rfl⟩ : ∃ (r : Fin 512) (q : Fin 512), y = ix2 r q := ⟨y 0, y 1, eq_ix2 (n0 := 512) (n1 := 512) y⟩
  have hr : r.val < 512 := r.isLt
  have ey : ((View.whole main_v37_2).slice (win0_8.rect t)).emb (ix2 r q)
      = (ix2 (⟨t.val * 512 + r.val, by omega⟩ : Fin 32768) q : S32768x512.Idx) := by
    blk_ext [e8]
  rw [ey, p92, h0, h1, h2]
  refine (pay_8 ..).trans ?_
  exact congrArg sil (kp_eq m c t r _ _ _ _ rfl rfl fun k => wn_ga m c k q)

/-- The body's stored value of output 9 at row `r`, column `q`. -/
theorem pay_9 (v0 : Vec Ideal S512x1024 .f32) (v12 : Vec Ideal S1x1024 .f32) (w : Vec Ideal S1024x3968 .bf16) (r q : Fin 512) :
    k0_pay25 (k0_pay6 v0 v12) (View.ld w (Rect.unit ![0, 1408] ![1024, 512] inb_S1024x3968_S1024x512_0_1408)) (ix2 r q)
      = sil (kp v0 v12 w r ⟨1408 + q.val, by omega⟩) := by
  pointwise [k0_pay25, k0_pay6, sil, kp, Ideal.logistic]

/-- Output 9 is result 94 of the reference. -/
theorem res_9 (c : Dev nD) (V0 : Valuation Cert.Reference3Ideal.τ Cert.Reference3Ideal.sig (Elt Ideal))
    (h0 : V0 (Proc.devRef .tc Cert.Reference3Ideal.main_arg0) = m ((c.tc : Thread nD τ).loc main_arg0))
    (h1 : V0 (Proc.devRef .tc Cert.Reference3Ideal.main_arg1) = m ((c.tc : Thread nD τ).loc main_arg1))
    (h2 : V0 (Proc.devRef .tc Cert.Reference3Ideal.main_arg2) = m ((c.tc : Thread nD τ).loc main_arg2)) :
    (dats m 0 c).arrAt 9 cfg0.N = r94 V0 := by
  refine (dats m 0 c).arrAt_eq_of_covers 9 _ (by decide +kernel) fun t hf y => ?_
  obtain ⟨e6, e7, e8, e9, e10, e11⟩ := index_rows t
  blk_simp
  rw [after0_9]
  unfold outsAt0
  frame_out
  have ht : t.val < 64 := t.isLt
  obtain ⟨r, q, rfl⟩ : ∃ (r : Fin 512) (q : Fin 512), y = ix2 r q := ⟨y 0, y 1, eq_ix2 (n0 := 512) (n1 := 512) y⟩
  have hr : r.val < 512 := r.isLt
  have ey : ((View.whole main_v37_3).slice (win0_9.rect t)).emb (ix2 r q)
      = (ix2 (⟨t.val * 512 + r.val, by omega⟩ : Fin 32768) q : S32768x512.Idx) := by
    blk_ext [e9]
  rw [ey, p94, h0, h1, h2]
  refine (pay_9 ..).trans ?_
  exact congrArg sil (kp_eq m c t r _ _ _ _ rfl rfl fun k => wn_gb m c k q)

/-- The body's stored value of output 10 at row `r`, column `q` of half 0. -/
theorem pay_10_0 (v0 : Vec Ideal S512x1024 .f32) (v12 : Vec Ideal S1x1024 .f32) (w : Vec Ideal S1024x3968 .bf16) (r q : Fin 512) :
    k0_pay29 (k0_pay6 v0 v12) (View.ld w (Rect.unit ![0, 1920] ![1024, 512] inb_S1024x3968_S1024x512_0_1920)) (ix2 r q)
      = sgm (kp v0 v12 w r ⟨1920 + q.val, by omega⟩) := by
  pointwise [k0_pay29, k0_pay6, sgm, kp, Ideal.logistic]

/-- The body's stored value of output 10 at row `r`, column `q` of half 1. -/
theorem pay_10_1 (v0 : Vec Ideal S512x1024 .f32) (v12 : Vec Ideal S1x1024 .f32) (w : Vec Ideal S1024x3968 .bf16) (r q : Fin 512) :
    k0_pay31 (k0_pay6 v0 v12) (View.ld w (Rect.unit ![0, 2432] ![1024, 512] inb_S1024x3968_S1024x512_0_2432)) (ix2 r q)
      = sgm (kp v0 v12 w r ⟨2432 + q.val, by omega⟩) := by
  pointwise [k0_pay31, k0_pay6, sgm, kp, Ideal.logistic]

/-- Output 10 is result 101 of the reference. -/
theorem res_10 (c : Dev nD) (V0 : Valuation Cert.Reference3Ideal.τ Cert.Reference3Ideal.sig (Elt Ideal))
    (h0 : V0 (Proc.devRef .tc Cert.Reference3Ideal.main_arg0) = m ((c.tc : Thread nD τ).loc main_arg0))
    (h1 : V0 (Proc.devRef .tc Cert.Reference3Ideal.main_arg1) = m ((c.tc : Thread nD τ).loc main_arg1))
    (h2 : V0 (Proc.devRef .tc Cert.Reference3Ideal.main_arg2) = m ((c.tc : Thread nD τ).loc main_arg2)) :
    (dats m 0 c).arrAt 10 cfg0.N = r101 V0 := by
  refine (dats m 0 c).arrAt_eq_of_covers 10 _ (by decide +kernel) fun t hf y => ?_
  obtain ⟨e6, e7, e8, e9, e10, e11⟩ := index_rows t
  blk_simp
  rw [after0_10]
  unfold outsAt0
  frame_out
  have ht : t.val < 64 := t.isLt
  obtain ⟨r, q, rfl⟩ : ∃ (r : Fin 512) (q : Fin 1024), y = ix2 r q := ⟨y 0, y 1, eq_ix2 (n0 := 512) (n1 := 1024) y⟩
  have hr : r.val < 512 := r.isLt
  have ey : ((View.whole main_v37_4).slice (win0_10.rect t)).emb (ix2 r q)
      = (ix2 (⟨t.val * 512 + r.val, by omega⟩ : Fin 32768) q : S32768x1024.Idx) := by
    blk_ext [e10]
  rw [ey, p101, h0, h1, h2]
  canon_tiles x u
  · obtain ⟨r', q', rfl⟩ : ∃ (r' : Fin 512) (q' : Fin 512), x = ix2 r' q' := ⟨x 0, x 1, eq_ix2 (n0 := 512) (n1 := 512) x⟩
    have g0 : r.val = r'.val := u0
    have g1 : q.val = 512 + q'.val := u1
    refine (pay_10_1 ..).trans (congrArg sgm ?_)
    refine kp_eq m c t r' _ _ _ _ ?_ ?_ fun k => ?_
    · show (t.val * 512 + r.val) / 4096 = _; rw [g0]
    · show (t.val * 512 + r.val) % 4096 = _; rw [g0]
    · exact (congrArg (fun e : Fin 3968 => V m c main_v14 (ix2 k e)) (Fin.ext (by show 2432 + q'.val = 1920 + q.val; omega))).trans (wn_ma m c k q)
  · obtain ⟨r', q', rfl⟩ : ∃ (r' : Fin 512) (q' : Fin 512), x = ix2 r' q' := ⟨x 0, x 1, eq_ix2 (n0 := 512) (n1 := 512) x⟩
    have g0 : r.val = r'.val := u0
    have g1 : q.val = q'.val := u1
    refine (pay_10_0 ..).trans (congrArg sgm ?_)
    refine kp_eq m c t r' _ _ _ _ ?_ ?_ fun k => ?_
    · show (t.val * 512 + r.val) / 4096 = _; rw [g0]
    · show (t.val * 512 + r.val) % 4096 = _; rw [g0]
    · exact (congrArg (fun e : Fin 3968 => V m c main_v14 (ix2 k e)) (Fin.ext (by show 1920 + q'.val = 1920 + q.val; omega))).trans (wn_ma m c k q)

/-- The body's stored value of output 11 at row `r`, column `q` of half 0. -/
theorem pay_11_0 (v0 : Vec Ideal S512x1024 .f32) (v12 : Vec Ideal S1x1024 .f32) (w : Vec Ideal S1024x3968 .bf16) (r q : Fin 512) :
    k0_pay30 (k0_pay6 v0 v12) (View.ld w (Rect.unit ![0, 2944] ![1024, 512] inb_S1024x3968_S1024x512_0_2944)) (ix2 r q)
      = sgm (kp v0 v12 w r ⟨2944 + q.val, by omega⟩) := by
  pointwise [k0_pay30, k0_pay6, sgm, kp, Ideal.logistic]

/-- The body's stored value of output 11 at row `r`, column `q` of half 1. -/
theorem pay_11_1 (v0 : Vec Ideal S512x1024 .f32) (v12 : Vec Ideal S1x1024 .f32) (w : Vec Ideal S1024x3968 .bf16) (r q : Fin 512) :
    k0_pay32 (k0_pay6 v0 v12) (View.ld w (Rect.unit ![0, 3456] ![1024, 512] inb_S1024x3968_S1024x512_0_3456)) (ix2 r q)
      = sgm (kp v0 v12 w r ⟨3456 + q.val, by omega⟩) := by
  pointwise [k0_pay32, k0_pay6, sgm, kp, Ideal.logistic]

/-- Output 11 is result 108 of the reference. -/
theorem res_11 (c : Dev nD) (V0 : Valuation Cert.Reference3Ideal.τ Cert.Reference3Ideal.sig (Elt Ideal))
    (h0 : V0 (Proc.devRef .tc Cert.Reference3Ideal.main_arg0) = m ((c.tc : Thread nD τ).loc main_arg0))
    (h1 : V0 (Proc.devRef .tc Cert.Reference3Ideal.main_arg1) = m ((c.tc : Thread nD τ).loc main_arg1))
    (h2 : V0 (Proc.devRef .tc Cert.Reference3Ideal.main_arg2) = m ((c.tc : Thread nD τ).loc main_arg2)) :
    (dats m 0 c).arrAt 11 cfg0.N = r108 V0 := by
  refine (dats m 0 c).arrAt_eq_of_covers 11 _ (by decide +kernel) fun t hf y => ?_
  obtain ⟨e6, e7, e8, e9, e10, e11⟩ := index_rows t
  blk_simp
  rw [after0_11]
  unfold outsAt0
  frame_out
  have ht : t.val < 64 := t.isLt
  obtain ⟨r, q, rfl⟩ : ∃ (r : Fin 512) (q : Fin 1024), y = ix2 r q := ⟨y 0, y 1, eq_ix2 (n0 := 512) (n1 := 1024) y⟩
  have hr : r.val < 512 := r.isLt
  have ey : ((View.whole main_v37_5).slice (win0_11.rect t)).emb (ix2 r q)
      = (ix2 (⟨t.val * 512 + r.val, by omega⟩ : Fin 32768) q : S32768x1024.Idx) := by
    blk_ext [e11]
  rw [ey, p108, h0, h1, h2]
  canon_tiles x u
  · obtain ⟨r', q', rfl⟩ : ∃ (r' : Fin 512) (q' : Fin 512), x = ix2 r' q' := ⟨x 0, x 1, eq_ix2 (n0 := 512) (n1 := 512) x⟩
    have g0 : r.val = r'.val := u0
    have g1 : q.val = 512 + q'.val := u1
    refine (pay_11_1 ..).trans (congrArg sgm ?_)
    refine kp_eq m c t r' _ _ _ _ ?_ ?_ fun k => ?_
    · show (t.val * 512 + r.val) / 4096 = _; rw [g0]
    · show (t.val * 512 + r.val) % 4096 = _; rw [g0]
    · exact (congrArg (fun e : Fin 3968 => V m c main_v14 (ix2 k e)) (Fin.ext (by show 3456 + q'.val = 2944 + q.val; omega))).trans (wn_mb m c k q)
  · obtain ⟨r', q', rfl⟩ : ∃ (r' : Fin 512) (q' : Fin 512), x = ix2 r' q' := ⟨x 0, x 1, eq_ix2 (n0 := 512) (n1 := 512) x⟩
    have g0 : r.val = r'.val := u0
    have g1 : q.val = q'.val := u1
    refine (pay_11_0 ..).trans (congrArg sgm ?_)
    refine kp_eq m c t r' _ _ _ _ ?_ ?_ fun k => ?_
    · show (t.val * 512 + r.val) / 4096 = _; rw [g0]
    · show (t.val * 512 + r.val) % 4096 = _; rw [g0]
    · exact (congrArg (fun e : Fin 3968 => V m c main_v14 (ix2 k e)) (Fin.ext (by show 2944 + q'.val = 2944 + q.val; omega))).trans (wn_mb m c k q)

end Cert.Proof.InProj

end
-- ==== Proof.InTail.lean ====
/- The outputs in tiles that need no normalisation and one store or two a tile. -/
module

public import proofs.«01_k».proof.Defs
public import proofs.«01_k».proof.Proof.InRows
public import proofs.«01_k».proof.Proof.Gen.Kernel3Ideal.Value
public import Idealize.ShloMosaic.Lib.Pipeline.ValueKit
public import Idealize.ShloMosaic.Lib.Tactic.CleanTypes
public import Idealize.ShloMosaic.Lib.StableHlo.ReadAt
public import proofs.«01_k».proof.Proof.InBase
public import proofs.«01_k».proof.Proof.InRef

@[expose] public section

set_option maxRecDepth 16384

noncomputable section

namespace Cert.Proof.InProj

open Idealize.ShloMosaic Idealize.ShloMosaic.TcCoe Idealize.SL.Sem
open Cert.Kernel3Ideal Cert.Kernel3Ideal.Gen

variable (m : (ℓ : Loc nD τ sig) → Buf (Elt Ideal) ℓ)

/-- The body's stored value of output 16, piece 0. -/
theorem pay_16_0 (v0 : Vec Ideal S512x1024 .f32) (v12 : Vec Ideal S1x1024 .f32) (w : Vec Ideal S1872x1024 .bf16) (z : Fin 1) (d : Fin 256) (j : Fin 256) :
    k0_pay144 (k0_pay7 (v0) (v12)) (View.ld (w) (Rect.unit ![1536, 0] ![256, 1024] inb_S1872x1024_S256x1024_1536_0)) (ix3 z d j)
      = kt v0 v12 w ⟨256 + j.val, by omega⟩ ⟨1536 + d.val, by omega⟩ * Ideal.ofBits .f32 0x3E000000#32 := by
  pointwise [k0_pay144, k0_pay7, k0_pay142, kt]

/-- The body's stored value of output 16, piece 1. -/
theorem pay_16_1 (v0 : Vec Ideal S512x1024 .f32) (v12 : Vec Ideal S1x1024 .f32) (w : Vec Ideal S1872x1024 .bf16) (z : Fin 1) (d : Fin 256) (j : Fin 256) :
    k0_pay143 (k0_pay7 (v0) (v12)) (View.ld (w) (Rect.unit ![1536, 0] ![256, 1024] inb_S1872x1024_S256x1024_1536_0)) (ix3 z d j)
      = kt v0 v12 w ⟨j.val, by omega⟩ ⟨1536 + d.val, by omega⟩ * Ideal.ofBits .f32 0x3E000000#32 := by
  pointwise [k0_pay143, k0_pay7, k0_pay142, kt]

set_option maxHeartbeats 2000000 in
/-- Output 16 is result 130 of the reference. -/
theorem res_16 (c : Dev nD) (V0 : Valuation Cert.Reference3Ideal.τ Cert.Reference3Ideal.sig (Elt Ideal))
    (h0 : V0 (Proc.devRef .tc Cert.Reference3Ideal.main_arg0) = m ((c.tc : Thread nD τ).loc main_arg0))
    (h1 : V0 (Proc.devRef .tc Cert.Reference3Ideal.main_arg1) = m ((c.tc : Thread nD τ).loc main_arg1))
    (h2 : V0 (Proc.devRef .tc Cert.Reference3Ideal.main_arg2) = m ((c.tc : Thread nD τ).loc main_arg2)) :
    (dats m 0 c).arrAt 16 cfg0.N = r130 V0 := by
  refine (dats m 0 c).arrAt_eq_of_covers 16 _ (by decide +kernel) fun t hf y => ?_
  obtain ⟨e12, e13, e14, e15, e16, e17, e18⟩ := index_tiles t
  blk_simp
  rw [after0_16]
  unfold outsAt0
  frame_out
  have ht : t.val < 64 := t.isLt
  obtain ⟨z, i, j, rfl⟩ : ∃ (z : Fin 2) (i : Fin 256) (j : Fin 256), y = ix3 z i j := ⟨y 0, y 1, y 2, eq_ix3 (n0 := 2) (n1 := 256) (n2 := 256) y⟩
  have hz : z.val < 2 := z.isLt
  have ey : ((View.whole main_v37_10).slice (win0_16.rect t)).emb (ix3 z i j)
      = (ix3 (⟨t.val * 2 + z.val, by omega⟩ : Fin 128) i j : Cert.Kernel3Ideal.S128x256x256.Idx) := by
    blk_ext [e16]
  rw [ey, p130, h0, h1, h2]
  canon_tiles x u
  · obtain ⟨z', d, j', rfl⟩ : ∃ (z' : Fin 1) (d : Fin 256) (j' : Fin 256), x = ix3 z' d j' := ⟨x 0, x 1, x 2, eq_ix3 (n0 := 1) (n1 := 256) (n2 := 256) x⟩
    have g0 : z.val = 1 + z'.val := u0
    have g1 : i.val = d.val := u1
    have g2 : j.val = j'.val := u2
    have hz' : z'.val < 1 := z'.isLt
    have hd : d.val < 256 := d.isLt
    exact (pay_16_0 ..).trans (congrArg (· * _) (kt_eq m c t _ _ _ _ _ (by show (t.val * 2 + z.val) / 16 = (t.val * 512 + (256 + j'.val)) / 4096 <;> omega) (by show (t.val * 2 + z.val) % 16 * 256 + j.val = (t.val * 512 + (256 + j'.val)) % 4096 <;> omega) (fun k => (congrArg (fun e : Fin 1872 => V m c main_v18 (ix2 e k)) (Fin.ext (by show 1536 + d.val = 1536 + i.val <;> omega))).trans (wt_qi m c k i))))
  · obtain ⟨z', d, j', rfl⟩ : ∃ (z' : Fin 1) (d : Fin 256) (j' : Fin 256), x = ix3 z' d j' := ⟨x 0, x 1, x 2, eq_ix3 (n0 := 1) (n1 := 256) (n2 := 256) x⟩
    have g0 : z.val = z'.val := u0
    have g1 : i.val = d.val := u1
    have g2 : j.val = j'.val := u2
    have hz' : z'.val < 1 := z'.isLt
    have hd : d.val < 256 := d.isLt
    exact (pay_16_1 ..).trans (congrArg (· * _) (kt_eq m c t _ _ _ _ _ (by show (t.val * 2 + z.val) / 16 = (t.val * 512 + j'.val) / 4096 <;> omega) (by show (t.val * 2 + z.val) % 16 * 256 + j.val = (t.val * 512 + j'.val) % 4096 <;> omega) (fun k => (congrArg (fun e : Fin 1872 => V m c main_v18 (ix2 e k)) (Fin.ext (by show 1536 + d.val = 1536 + i.val <;> omega))).trans (wt_qi m c k i))))

/-- The body's stored value of output 17, piece 0. -/
theorem pay_17_0 (z : Fin 1) (d : Fin 16) (j : Fin 256) :
    k0_pay1 (k0_pay33 (F := Ideal)) (ix3 z d j)
      = 1 := by
  pointwise [k0_pay1, k0_pay33]

/-- The body's stored value of output 17, piece 1. -/
theorem pay_17_1 (z : Fin 1) (d : Fin 16) (j : Fin 256) :
    k0_pay149 (k0_pay33 (F := Ideal)) (ix3 z d j)
      = 1 := by
  pointwise [k0_pay149, k0_pay33]

/-- The body's stored value of output 17, piece 2. -/
theorem pay_17_2 (v0 : Vec Ideal S512x1024 .f32) (v12 : Vec Ideal S1x1024 .f32) (w : Vec Ideal S1872x1024 .bf16) (z : Fin 1) (d : Fin 64) (j : Fin 256) :
    k0_pay148 (k0_pay7 (v0) (v12)) (View.ld (w) (Rect.unit ![1792, 0] ![80, 1024] inb_S1872x1024_S80x1024_1792_0)) (ix3 z d j)
      = kt v0 v12 w ⟨256 + j.val, by omega⟩ ⟨1792 + d.val, by omega⟩ := by
  pointwise [k0_pay148, k0_pay7, k0_pay146, k0_pay145, kt]

/-- The body's stored value of output 17, piece 3. -/
theorem pay_17_3 (v0 : Vec Ideal S512x1024 .f32) (v12 : Vec Ideal S1x1024 .f32) (w : Vec Ideal S1872x1024 .bf16) (z : Fin 1) (d : Fin 64) (j : Fin 256) :
    k0_pay147 (k0_pay7 (v0) (v12)) (View.ld (w) (Rect.unit ![1792, 0] ![80, 1024] inb_S1872x1024_S80x1024_1792_0)) (ix3 z d j)
      = kt v0 v12 w ⟨j.val, by omega⟩ ⟨1792 + d.val, by omega⟩ := by
  pointwise [k0_pay147, k0_pay7, k0_pay146, k0_pay145, kt]

set_option maxHeartbeats 2000000 in
/-- Output 17 is result 136 of the reference. -/
theorem res_17 (c : Dev nD) (V0 : Valuation Cert.Reference3Ideal.τ Cert.Reference3Ideal.sig (Elt Ideal))
    (h0 : V0 (Proc.devRef .tc Cert.Reference3Ideal.main_arg0) = m ((c.tc : Thread nD τ).loc main_arg0))
    (h1 : V0 (Proc.devRef .tc Cert.Reference3Ideal.main_arg1) = m ((c.tc : Thread nD τ).loc main_arg1))
    (h2 : V0 (Proc.devRef .tc Cert.Reference3Ideal.main_arg2) = m ((c.tc : Thread nD τ).loc main_arg2)) :
    (dats m 0 c).arrAt 17 cfg0.N = r136 V0 := by
  refine (dats m 0 c).arrAt_eq_of_covers 17 _ (by decide +kernel) fun t hf y => ?_
  obtain ⟨e12, e13, e14, e15, e16, e17, e18⟩ := index_tiles t
  blk_simp
  rw [after0_17]
  unfold outsAt0
  frame_out
  have ht : t.val < 64 := t.isLt
  obtain ⟨z, i, j, rfl⟩ : ∃ (z : Fin 2) (i : Fin 80) (j : Fin 256), y = ix3 z i j := ⟨y 0, y 1, y 2, eq_ix3 (n0 := 2) (n1 := 80) (n2 := 256) y⟩
  have hz : z.val < 2 := z.isLt
  have ey : ((View.whole main_v37_11).slice (win0_17.rect t)).emb (ix3 z i j)
      = (ix3 (⟨t.val * 2 + z.val, by omega⟩ : Fin 128) i j : Cert.Kernel3Ideal.S128x80x256.Idx) := by
    blk_ext [e17]
  rw [ey, p136, h0, h1, h2]
  canon_tiles x u using View.cover_of_tiledBy _ ![1, 16, 256] (by sl_kernel_rfl) _
  · obtain ⟨z', d, j', rfl⟩ : ∃ (z' : Fin 1) (d : Fin 16) (j' : Fin 256), x = ix3 z' d j' := ⟨x 0, x 1, x 2, eq_ix3 (n0 := 1) (n1 := 16) (n2 := 256) x⟩
    have g0 : z.val = 1 + z'.val := u0
    have g1 : i.val = 64 + d.val := u1
    have g2 : j.val = j'.val := u2
    have hz' : z'.val < 1 := z'.isLt
    have hd : d.val < 16 := d.isLt
    rw [dif_neg (show ¬ (i.val < 64) by omega)]
    exact pay_17_0 ..
  · obtain ⟨z', d, j', rfl⟩ : ∃ (z' : Fin 1) (d : Fin 16) (j' : Fin 256), x = ix3 z' d j' := ⟨x 0, x 1, x 2, eq_ix3 (n0 := 1) (n1 := 16) (n2 := 256) x⟩
    have g0 : z.val = z'.val := u0
    have g1 : i.val = 64 + d.val := u1
    have g2 : j.val = j'.val := u2
    have hz' : z'.val < 1 := z'.isLt
    have hd : d.val < 16 := d.isLt
    rw [dif_neg (show ¬ (i.val < 64) by omega)]
    exact pay_17_1 ..
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = 1 + z'.val := u0
    have g1 : i.val = d.val := u1
    have g2 : j.val = j'.val := u2
    have hz' : z'.val < 1 := z'.isLt
    have hd : d.val < 64 := d.isLt
    rw [dif_pos (show i.val < 64 by omega)]
    exact (pay_17_2 ..).trans (kt_eq m c t _ _ _ _ _ (by show (t.val * 2 + z.val) / 16 = (t.val * 512 + (256 + j'.val)) / 4096 <;> omega) (by show (t.val * 2 + z.val) % 16 * 256 + j.val = (t.val * 512 + (256 + j'.val)) % 4096 <;> omega) (fun k => (congrArg (fun e : Fin 1872 => V m c main_v18 (ix2 e k)) (Fin.ext (by show 1792 + d.val = 1792 + i.val <;> omega))).trans (wt_vb m c k ⟨i.val, by omega⟩)))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = z'.val := u0
    have g1 : i.val = d.val := u1
    have g2 : j.val = j'.val := u2
    have hz' : z'.val < 1 := z'.isLt
    have hd : d.val < 64 := d.isLt
    rw [dif_pos (show i.val < 64 by omega)]
    exact (pay_17_3 ..).trans (kt_eq m c t _ _ _ _ _ (by show (t.val * 2 + z.val) / 16 = (t.val * 512 + j'.val) / 4096 <;> omega) (by show (t.val * 2 + z.val) % 16 * 256 + j.val = (t.val * 512 + j'.val) % 4096 <;> omega) (fun k => (congrArg (fun e : Fin 1872 => V m c main_v18 (ix2 e k)) (Fin.ext (by show 1792 + d.val = 1792 + i.val <;> omega))).trans (wt_vb m c k ⟨i.val, by omega⟩)))

/-- The body's stored value of output 18, piece 0. -/
theorem pay_18_0 (v0 : Vec Ideal S512x1024 .f32) (v12 : Vec Ideal S1x1024 .f32) (w : Vec Ideal S1872x1024 .bf16) (z : Fin 1) (d : Fin 8) (j : Fin 256) :
    k0_pay4 (k0_pay145 (k0_pay7 (v0) (v12)) (View.ld (w) (Rect.unit ![1792, 0] ![80, 1024] inb_S1872x1024_S80x1024_1792_0))) (ix3 z d j)
      = kt v0 v12 w ⟨256 + j.val, by omega⟩ ⟨1792 + (64 + d.val), by omega⟩ * Ideal.ofBits .f32 0x3F000000#32 := by
  pointwise [k0_pay4, k0_pay145, k0_pay7, k0_pay2, kt]

/-- The body's stored value of output 18, piece 1. -/
theorem pay_18_1 (v0 : Vec Ideal S512x1024 .f32) (v12 : Vec Ideal S1x1024 .f32) (w : Vec Ideal S1872x1024 .bf16) (z : Fin 1) (d : Fin 8) (j : Fin 256) :
    k0_pay3 (k0_pay145 (k0_pay7 (v0) (v12)) (View.ld (w) (Rect.unit ![1792, 0] ![80, 1024] inb_S1872x1024_S80x1024_1792_0))) (ix3 z d j)
      = kt v0 v12 w ⟨j.val, by omega⟩ ⟨1792 + (64 + d.val), by omega⟩ * Ideal.ofBits .f32 0x3F000000#32 := by
  pointwise [k0_pay3, k0_pay145, k0_pay7, k0_pay2, kt]

set_option maxHeartbeats 2000000 in
/-- Output 18 is result 142 of the reference. -/
theorem res_18 (c : Dev nD) (V0 : Valuation Cert.Reference3Ideal.τ Cert.Reference3Ideal.sig (Elt Ideal))
    (h0 : V0 (Proc.devRef .tc Cert.Reference3Ideal.main_arg0) = m ((c.tc : Thread nD τ).loc main_arg0))
    (h1 : V0 (Proc.devRef .tc Cert.Reference3Ideal.main_arg1) = m ((c.tc : Thread nD τ).loc main_arg1))
    (h2 : V0 (Proc.devRef .tc Cert.Reference3Ideal.main_arg2) = m ((c.tc : Thread nD τ).loc main_arg2)) :
    (dats m 0 c).arrAt 18 cfg0.N = r142 V0 := by
  refine (dats m 0 c).arrAt_eq_of_covers 18 _ (by decide +kernel) fun t hf y => ?_
  obtain ⟨e12, e13, e14, e15, e16, e17, e18⟩ := index_tiles t
  blk_simp
  rw [after0_18]
  unfold outsAt0
  frame_out
  have ht : t.val < 64 := t.isLt
  obtain ⟨z, i, j, rfl⟩ : ∃ (z : Fin 2) (i : Fin 8) (j : Fin 256), y = ix3 z i j := ⟨y 0, y 1, y 2, eq_ix3 (n0 := 2) (n1 := 8) (n2 := 256) y⟩
  have hz : z.val < 2 := z.isLt
  have ey : ((View.whole main_v37_12).slice (win0_18.rect t)).emb (ix3 z i j)
      = (ix3 (⟨t.val * 2 + z.val, by omega⟩ : Fin 128) i j : Cert.Kernel3Ideal.S128x8x256.Idx) := by
    blk_ext [e18]
  rw [ey, p142, h0, h1, h2]
  canon_tiles x u
  · obtain ⟨z', d, j', rfl⟩ : ∃ (z' : Fin 1) (d : Fin 8) (j' : Fin 256), x = ix3 z' d j' := ⟨x 0, x 1, x 2, eq_ix3 (n0 := 1) (n1 := 8) (n2 := 256) x⟩
    have g0 : z.val = 1 + z'.val := u0
    have g1 : i.val = d.val := u1
    have g2 : j.val = j'.val := u2
    have hz' : z'.val < 1 := z'.isLt
    have hd : d.val < 8 := d.isLt
    refine (pay_18_0 ..).trans (congrArg (· * _) ?_)
    split_ifs with hi
    · exact kt_eq m c t _ _ _ _ _ (by show (t.val * 2 + z.val) / 16 = (t.val * 512 + (256 + j'.val)) / 4096 <;> omega) (by show (t.val * 2 + z.val) % 16 * 256 + j.val = (t.val * 512 + (256 + j'.val)) % 4096 <;> omega) (fun k => (congrArg (fun e : Fin 1872 => V m c main_v18 (ix2 e k)) (Fin.ext (by show 1792 + (64 + d.val) = 1856 + i.val <;> omega))).trans (wt_wi m c k ⟨i.val, by omega⟩))
    · refine Finset.sum_eq_zero fun k _ => ?_
      rw [blk_wt m c t, (congrArg (fun e : Fin 1872 => V m c main_v18 (ix2 e k)) (Fin.ext (by show 1792 + (64 + d.val) = 1860 + (d.val - 4) <;> omega))).trans (wt_pad m c k ⟨d.val - 4, by omega⟩), zero_mul]
  · obtain ⟨z', d, j', rfl⟩ : ∃ (z' : Fin 1) (d : Fin 8) (j' : Fin 256), x = ix3 z' d j' := ⟨x 0, x 1, x 2, eq_ix3 (n0 := 1) (n1 := 8) (n2 := 256) x⟩
    have g0 : z.val = z'.val := u0
    have g1 : i.val = d.val := u1
    have g2 : j.val = j'.val := u2
    have hz' : z'.val < 1 := z'.isLt
    have hd : d.val < 8 := d.isLt
    refine (pay_18_1 ..).trans (congrArg (· * _) ?_)
    split_ifs with hi
    · exact kt_eq m c t _ _ _ _ _ (by show (t.val * 2 + z.val) / 16 = (t.val * 512 + j'.val) / 4096 <;> omega) (by show (t.val * 2 + z.val) % 16 * 256 + j.val = (t.val * 512 + j'.val) % 4096 <;> omega) (fun k => (congrArg (fun e : Fin 1872 => V m c main_v18 (ix2 e k)) (Fin.ext (by show 1792 + (64 + d.val) = 1856 + i.val <;> omega))).trans (wt_wi m c k ⟨i.val, by omega⟩))
    · refine Finset.sum_eq_zero fun k _ => ?_
      rw [blk_wt m c t, (congrArg (fun e : Fin 1872 => V m c main_v18 (ix2 e k)) (Fin.ext (by show 1792 + (64 + d.val) = 1860 + (d.val - 4) <;> omega))).trans (wt_pad m c k ⟨d.val - 4, by omega⟩), zero_mul]

end Cert.Proof.InProj

end
-- ==== Proof.InV.lean ====
/- The values of the first branch in tiles, each head followed by ones. -/
module

public import proofs.«01_k».proof.Defs
public import proofs.«01_k».proof.Proof.InTail
public import proofs.«01_k».proof.Proof.Gen.Kernel3Ideal.Value
public import Idealize.ShloMosaic.Lib.Pipeline.ValueKit
public import Idealize.ShloMosaic.Lib.Tactic.CleanTypes
public import Idealize.ShloMosaic.Lib.StableHlo.ReadAt
public import proofs.«01_k».proof.Proof.InBase
public import proofs.«01_k».proof.Proof.InRef

@[expose] public section

set_option maxRecDepth 16384

noncomputable section

namespace Cert.Proof.InProj

open Idealize.ShloMosaic Idealize.ShloMosaic.TcCoe Idealize.SL.Sem
open Cert.Kernel3Ideal Cert.Kernel3Ideal.Gen

variable (m : (ℓ : Loc nD τ sig) → Buf (Elt Ideal) ℓ)

/-- The body's stored value of output 15, piece 0. -/
theorem pay_15_0 (z : Fin 1) (d : Fin 16) (j : Fin 256) :
    k0_pay141 (k0_pay140 (k0_pay33 (F := Ideal))) (ix3 z d j)
      = 1 := by
  pointwise [k0_pay141, k0_pay140, k0_pay33]

/-- The body's stored value of output 15, piece 1. -/
theorem pay_15_1 (z : Fin 1) (d : Fin 16) (j : Fin 256) :
    k0_pay139 (k0_pay33 (F := Ideal)) (ix3 z d j)
      = 1 := by
  pointwise [k0_pay139, k0_pay33]

/-- The body's stored value of output 15, piece 2. -/
theorem pay_15_2 (v0 : Vec Ideal S512x1024 .f32) (v12 : Vec Ideal S1x1024 .f32) (w : Vec Ideal S1872x1024 .bf16) (z : Fin 1) (d : Fin 64) (j : Fin 256) :
    k0_pay138 (k0_pay36 (k0_pay7 (v0) (v12)) (View.ld (w) (Rect.unit ![1024, 0] ![512, 1024] inb_S1872x1024_S512x1024_1024_0))) (ix3 z d j)
      = kt v0 v12 w ⟨256 + j.val, by omega⟩ ⟨1024 + (448 + d.val), by omega⟩ := by
  pointwise [k0_pay138, k0_pay36, k0_pay7, k0_pay136, kt]

/-- The body's stored value of output 15, piece 3. -/
theorem pay_15_3 (v0 : Vec Ideal S512x1024 .f32) (v12 : Vec Ideal S1x1024 .f32) (w : Vec Ideal S1872x1024 .bf16) (z : Fin 1) (d : Fin 64) (j : Fin 256) :
    k0_pay137 (k0_pay36 (k0_pay7 (v0) (v12)) (View.ld (w) (Rect.unit ![1024, 0] ![512, 1024] inb_S1872x1024_S512x1024_1024_0))) (ix3 z d j)
      = kt v0 v12 w ⟨j.val, by omega⟩ ⟨1024 + (448 + d.val), by omega⟩ := by
  pointwise [k0_pay137, k0_pay36, k0_pay7, k0_pay136, kt]

/-- The body's stored value of output 15, piece 4. -/
theorem pay_15_4 (z : Fin 1) (d : Fin 16) (j : Fin 256) :
    k0_pay127 (k0_pay33 (F := Ideal)) (ix3 z d j)
      = 1 := by
  pointwise [k0_pay127, k0_pay33]

/-- The body's stored value of output 15, piece 5. -/
theorem pay_15_5 (z : Fin 1) (d : Fin 16) (j : Fin 256) :
    k0_pay126 (k0_pay33 (F := Ideal)) (ix3 z d j)
      = 1 := by
  pointwise [k0_pay126, k0_pay33]

/-- The body's stored value of output 15, piece 6. -/
theorem pay_15_6 (v0 : Vec Ideal S512x1024 .f32) (v12 : Vec Ideal S1x1024 .f32) (w : Vec Ideal S1872x1024 .bf16) (z : Fin 1) (d : Fin 64) (j : Fin 256) :
    k0_pay125 (k0_pay36 (k0_pay7 (v0) (v12)) (View.ld (w) (Rect.unit ![1024, 0] ![512, 1024] inb_S1872x1024_S512x1024_1024_0))) (ix3 z d j)
      = kt v0 v12 w ⟨256 + j.val, by omega⟩ ⟨1024 + (384 + d.val), by omega⟩ := by
  pointwise [k0_pay125, k0_pay36, k0_pay7, k0_pay123, kt]

/-- The body's stored value of output 15, piece 7. -/
theorem pay_15_7 (v0 : Vec Ideal S512x1024 .f32) (v12 : Vec Ideal S1x1024 .f32) (w : Vec Ideal S1872x1024 .bf16) (z : Fin 1) (d : Fin 64) (j : Fin 256) :
    k0_pay124 (k0_pay36 (k0_pay7 (v0) (v12)) (View.ld (w) (Rect.unit ![1024, 0] ![512, 1024] inb_S1872x1024_S512x1024_1024_0))) (ix3 z d j)
      = kt v0 v12 w ⟨j.val, by omega⟩ ⟨1024 + (384 + d.val), by omega⟩ := by
  pointwise [k0_pay124, k0_pay36, k0_pay7, k0_pay123, kt]

/-- The body's stored value of output 15, piece 8. -/
theorem pay_15_8 (z : Fin 1) (d : Fin 16) (j : Fin 256) :
    k0_pay114 (k0_pay33 (F := Ideal)) (ix3 z d j)
      = 1 := by
  pointwise [k0_pay114, k0_pay33]

/-- The body's stored value of output 15, piece 9. -/
theorem pay_15_9 (z : Fin 1) (d : Fin 16) (j : Fin 256) :
    k0_pay113 (k0_pay112 (k0_pay33 (F := Ideal))) (ix3 z d j)
      = 1 := by
  pointwise [k0_pay113, k0_pay112, k0_pay33]

/-- The body's stored value of output 15, piece 10. -/
theorem pay_15_10 (v0 : Vec Ideal S512x1024 .f32) (v12 : Vec Ideal S1x1024 .f32) (w : Vec Ideal S1872x1024 .bf16) (z : Fin 1) (d : Fin 64) (j : Fin 256) :
    k0_pay111 (k0_pay36 (k0_pay7 (v0) (v12)) (View.ld (w) (Rect.unit ![1024, 0] ![512, 1024] inb_S1872x1024_S512x1024_1024_0))) (ix3 z d j)
      = kt v0 v12 w ⟨256 + j.val, by omega⟩ ⟨1024 + (320 + d.val), by omega⟩ := by
  pointwise [k0_pay111, k0_pay36, k0_pay7, k0_pay109, kt]

/-- The body's stored value of output 15, piece 11. -/
theorem pay_15_11 (v0 : Vec Ideal S512x1024 .f32) (v12 : Vec Ideal S1x1024 .f32) (w : Vec Ideal S1872x1024 .bf16) (z : Fin 1) (d : Fin 64) (j : Fin 256) :
    k0_pay110 (k0_pay36 (k0_pay7 (v0) (v12)) (View.ld (w) (Rect.unit ![1024, 0] ![512, 1024] inb_S1872x1024_S512x1024_1024_0))) (ix3 z d j)
      = kt v0 v12 w ⟨j.val, by omega⟩ ⟨1024 + (320 + d.val), by omega⟩ := by
  pointwise [k0_pay110, k0_pay36, k0_pay7, k0_pay109, kt]

/-- The body's stored value of output 15, piece 12. -/
theorem pay_15_12 (z : Fin 1) (d : Fin 16) (j : Fin 256) :
    k0_pay102 (k0_pay33 (F := Ideal)) (ix3 z d j)
      = 1 := by
  pointwise [k0_pay102, k0_pay33]

/-- The body's stored value of output 15, piece 13. -/
theorem pay_15_13 (z : Fin 1) (d : Fin 16) (j : Fin 256) :
    k0_pay101 (k0_pay33 (F := Ideal)) (ix3 z d j)
      = 1 := by
  pointwise [k0_pay101, k0_pay33]

/-- The body's stored value of output 15, piece 14. -/
theorem pay_15_14 (v0 : Vec Ideal S512x1024 .f32) (v12 : Vec Ideal S1x1024 .f32) (w : Vec Ideal S1872x1024 .bf16) (z : Fin 1) (d : Fin 64) (j : Fin 256) :
    k0_pay100 (k0_pay99 (k0_pay36 (k0_pay7 (v0) (v12)) (View.ld (w) (Rect.unit ![1024, 0] ![512, 1024] inb_S1872x1024_S512x1024_1024_0)))) (ix3 z d j)
      = kt v0 v12 w ⟨256 + j.val, by omega⟩ ⟨1024 + (256 + d.val), by omega⟩ := by
  pointwise [k0_pay100, k0_pay99, k0_pay36, k0_pay7, k0_pay97, kt]

/-- The body's stored value of output 15, piece 15. -/
theorem pay_15_15 (v0 : Vec Ideal S512x1024 .f32) (v12 : Vec Ideal S1x1024 .f32) (w : Vec Ideal S1872x1024 .bf16) (z : Fin 1) (d : Fin 64) (j : Fin 256) :
    k0_pay98 (k0_pay36 (k0_pay7 (v0) (v12)) (View.ld (w) (Rect.unit ![1024, 0] ![512, 1024] inb_S1872x1024_S512x1024_1024_0))) (ix3 z d j)
      = kt v0 v12 w ⟨j.val, by omega⟩ ⟨1024 + (256 + d.val), by omega⟩ := by
  pointwise [k0_pay98, k0_pay36, k0_pay7, k0_pay97, kt]

/-- The body's stored value of output 15, piece 16. -/
theorem pay_15_16 (z : Fin 1) (d : Fin 16) (j : Fin 256) :
    k0_pay89 (k0_pay33 (F := Ideal)) (ix3 z d j)
      = 1 := by
  pointwise [k0_pay89, k0_pay33]

/-- The body's stored value of output 15, piece 17. -/
theorem pay_15_17 (z : Fin 1) (d : Fin 16) (j : Fin 256) :
    k0_pay88 (k0_pay33 (F := Ideal)) (ix3 z d j)
      = 1 := by
  pointwise [k0_pay88, k0_pay33]

/-- The body's stored value of output 15, piece 18. -/
theorem pay_15_18 (v0 : Vec Ideal S512x1024 .f32) (v12 : Vec Ideal S1x1024 .f32) (w : Vec Ideal S1872x1024 .bf16) (z : Fin 1) (d : Fin 64) (j : Fin 256) :
    k0_pay87 (k0_pay84 (k0_pay36 (k0_pay7 (v0) (v12)) (View.ld (w) (Rect.unit ![1024, 0] ![512, 1024] inb_S1872x1024_S512x1024_1024_0)))) (ix3 z d j)
      = kt v0 v12 w ⟨256 + j.val, by omega⟩ ⟨1024 + (192 + d.val), by omega⟩ := by
  pointwise [k0_pay87, k0_pay84, k0_pay36, k0_pay7, kt]

/-- The body's stored value of output 15, piece 19. -/
theorem pay_15_19 (v0 : Vec Ideal S512x1024 .f32) (v12 : Vec Ideal S1x1024 .f32) (w : Vec Ideal S1872x1024 .bf16) (z : Fin 1) (d : Fin 64) (j : Fin 256) :
    k0_pay86 (k0_pay85 (k0_pay36 (k0_pay7 (v0) (v12)) (View.ld (w) (Rect.unit ![1024, 0] ![512, 1024] inb_S1872x1024_S512x1024_1024_0)))) (ix3 z d j)
      = kt v0 v12 w ⟨j.val, by omega⟩ ⟨1024 + (192 + d.val), by omega⟩ := by
  pointwise [k0_pay86, k0_pay85, k0_pay36, k0_pay7, k0_pay84, kt]

/-- The body's stored value of output 15, piece 20. -/
theorem pay_15_20 (z : Fin 1) (d : Fin 16) (j : Fin 256) :
    k0_pay76 (k0_pay33 (F := Ideal)) (ix3 z d j)
      = 1 := by
  pointwise [k0_pay76, k0_pay33]

/-- The body's stored value of output 15, piece 21. -/
theorem pay_15_21 (z : Fin 1) (d : Fin 16) (j : Fin 256) :
    k0_pay75 (k0_pay33 (F := Ideal)) (ix3 z d j)
      = 1 := by
  pointwise [k0_pay75, k0_pay33]

/-- The body's stored value of output 15, piece 22. -/
theorem pay_15_22 (v0 : Vec Ideal S512x1024 .f32) (v12 : Vec Ideal S1x1024 .f32) (w : Vec Ideal S1872x1024 .bf16) (z : Fin 1) (d : Fin 64) (j : Fin 256) :
    k0_pay74 (k0_pay71 (k0_pay36 (k0_pay7 (v0) (v12)) (View.ld (w) (Rect.unit ![1024, 0] ![512, 1024] inb_S1872x1024_S512x1024_1024_0)))) (ix3 z d j)
      = kt v0 v12 w ⟨256 + j.val, by omega⟩ ⟨1024 + (128 + d.val), by omega⟩ := by
  pointwise [k0_pay74, k0_pay71, k0_pay36, k0_pay7, k0_pay72, kt]

/-- The body's stored value of output 15, piece 23. -/
theorem pay_15_23 (v0 : Vec Ideal S512x1024 .f32) (v12 : Vec Ideal S1x1024 .f32) (w : Vec Ideal S1872x1024 .bf16) (z : Fin 1) (d : Fin 64) (j : Fin 256) :
    k0_pay73 (k0_pay71 (k0_pay36 (k0_pay7 (v0) (v12)) (View.ld (w) (Rect.unit ![1024, 0] ![512, 1024] inb_S1872x1024_S512x1024_1024_0)))) (ix3 z d j)
      = kt v0 v12 w ⟨j.val, by omega⟩ ⟨1024 + (128 + d.val), by omega⟩ := by
  pointwise [k0_pay73, k0_pay71, k0_pay36, k0_pay7, k0_pay72, kt]

/-- The body's stored value of output 15, piece 24. -/
theorem pay_15_24 (z : Fin 1) (d : Fin 16) (j : Fin 256) :
    k0_pay63 (k0_pay33 (F := Ideal)) (ix3 z d j)
      = 1 := by
  pointwise [k0_pay63, k0_pay33]

/-- The body's stored value of output 15, piece 25. -/
theorem pay_15_25 (z : Fin 1) (d : Fin 16) (j : Fin 256) :
    k0_pay62 (k0_pay33 (F := Ideal)) (ix3 z d j)
      = 1 := by
  pointwise [k0_pay62, k0_pay33]

/-- The body's stored value of output 15, piece 26. -/
theorem pay_15_26 (v0 : Vec Ideal S512x1024 .f32) (v12 : Vec Ideal S1x1024 .f32) (w : Vec Ideal S1872x1024 .bf16) (z : Fin 1) (d : Fin 64) (j : Fin 256) :
    k0_pay61 (k0_pay36 (k0_pay7 (v0) (v12)) (View.ld (w) (Rect.unit ![1024, 0] ![512, 1024] inb_S1872x1024_S512x1024_1024_0))) (ix3 z d j)
      = kt v0 v12 w ⟨256 + j.val, by omega⟩ ⟨1024 + (64 + d.val), by omega⟩ := by
  pointwise [k0_pay61, k0_pay36, k0_pay7, k0_pay59, kt]

/-- The body's stored value of output 15, piece 27. -/
theorem pay_15_27 (v0 : Vec Ideal S512x1024 .f32) (v12 : Vec Ideal S1x1024 .f32) (w : Vec Ideal S1872x1024 .bf16) (z : Fin 1) (d : Fin 64) (j : Fin 256) :
    k0_pay60 (k0_pay36 (k0_pay7 (v0) (v12)) (View.ld (w) (Rect.unit ![1024, 0] ![512, 1024] inb_S1872x1024_S512x1024_1024_0))) (ix3 z d j)
      = kt v0 v12 w ⟨j.val, by omega⟩ ⟨1024 + (64 + d.val), by omega⟩ := by
  pointwise [k0_pay60, k0_pay36, k0_pay7, k0_pay59, kt]

/-- The body's stored value of output 15, piece 28. -/
theorem pay_15_28 (z : Fin 1) (d : Fin 16) (j : Fin 256) :
    k0_pay50 (k0_pay33 (F := Ideal)) (ix3 z d j)
      = 1 := by
  pointwise [k0_pay50, k0_pay33]

/-- The body's stored value of output 15, piece 29. -/
theorem pay_15_29 (z : Fin 1) (d : Fin 16) (j : Fin 256) :
    k0_pay49 (k0_pay33 (F := Ideal)) (ix3 z d j)
      = 1 := by
  pointwise [k0_pay49, k0_pay33]

/-- The body's stored value of output 15, piece 30. -/
theorem pay_15_30 (v0 : Vec Ideal S512x1024 .f32) (v12 : Vec Ideal S1x1024 .f32) (w : Vec Ideal S1872x1024 .bf16) (z : Fin 1) (d : Fin 64) (j : Fin 256) :
    k0_pay48 (k0_pay36 (k0_pay7 (v0) (v12)) (View.ld (w) (Rect.unit ![1024, 0] ![512, 1024] inb_S1872x1024_S512x1024_1024_0))) (ix3 z d j)
      = kt v0 v12 w ⟨256 + j.val, by omega⟩ ⟨1024 + d.val, by omega⟩ := by
  pointwise [k0_pay48, k0_pay36, k0_pay7, k0_pay46, kt]

/-- The body's stored value of output 15, piece 31. -/
theorem pay_15_31 (v0 : Vec Ideal S512x1024 .f32) (v12 : Vec Ideal S1x1024 .f32) (w : Vec Ideal S1872x1024 .bf16) (z : Fin 1) (d : Fin 64) (j : Fin 256) :
    k0_pay47 (k0_pay36 (k0_pay7 (v0) (v12)) (View.ld (w) (Rect.unit ![1024, 0] ![512, 1024] inb_S1872x1024_S512x1024_1024_0))) (ix3 z d j)
      = kt v0 v12 w ⟨j.val, by omega⟩ ⟨1024 + d.val, by omega⟩ := by
  pointwise [k0_pay47, k0_pay36, k0_pay7, k0_pay46, kt]

set_option maxHeartbeats 2000000 in
/-- Output 15 is result 125 of the reference. -/
theorem res_15 (c : Dev nD) (V0 : Valuation Cert.Reference3Ideal.τ Cert.Reference3Ideal.sig (Elt Ideal))
    (h0 : V0 (Proc.devRef .tc Cert.Reference3Ideal.main_arg0) = m ((c.tc : Thread nD τ).loc main_arg0))
    (h1 : V0 (Proc.devRef .tc Cert.Reference3Ideal.main_arg1) = m ((c.tc : Thread nD τ).loc main_arg1))
    (h2 : V0 (Proc.devRef .tc Cert.Reference3Ideal.main_arg2) = m ((c.tc : Thread nD τ).loc main_arg2)) :
    (dats m 0 c).arrAt 15 cfg0.N = r125 V0 := by
  refine (dats m 0 c).arrAt_eq_of_covers 15 _ (by decide +kernel) fun t hf y => ?_
  obtain ⟨e12, e13, e14, e15, e16, e17, e18⟩ := index_tiles t
  blk_simp
  rw [after0_15]
  unfold outsAt0
  frame_out
  have ht : t.val < 64 := t.isLt
  obtain ⟨z, i, j, rfl⟩ : ∃ (z : Fin 2) (i : Fin 640) (j : Fin 256), y = ix3 z i j := ⟨y 0, y 1, y 2, eq_ix3 (n0 := 2) (n1 := 640) (n2 := 256) y⟩
  have hz : z.val < 2 := z.isLt
  have ey : ((View.whole main_v37_9).slice (win0_15.rect t)).emb (ix3 z i j)
      = (ix3 (⟨t.val * 2 + z.val, by omega⟩ : Fin 128) i j : Cert.Kernel3Ideal.S128x640x256.Idx) := by
    blk_ext [e15]
  rw [ey, p125, h0, h1, h2]
  canon_tiles x u using View.cover_of_tiledBy _ ![1, 16, 256] (by sl_kernel_rfl) _
  · obtain ⟨z', d, j', rfl⟩ : ∃ (z' : Fin 1) (d : Fin 16) (j' : Fin 256), x = ix3 z' d j' := ⟨x 0, x 1, x 2, eq_ix3 (n0 := 1) (n1 := 16) (n2 := 256) x⟩
    have g0 : z.val = 1 + z'.val := u0
    have g1 : i.val = 624 + d.val := u1
    have g2 : j.val = j'.val := u2
    have hz' : z'.val < 1 := z'.isLt
    have hd : d.val < 16 := d.isLt
    rw [dif_neg (show ¬ (i.val % 80 < 64) by omega)]
    exact pay_15_0 ..
  · obtain ⟨z', d, j', rfl⟩ : ∃ (z' : Fin 1) (d : Fin 16) (j' : Fin 256), x = ix3 z' d j' := ⟨x 0, x 1, x 2, eq_ix3 (n0 := 1) (n1 := 16) (n2 := 256) x⟩
    have g0 : z.val = z'.val := u0
    have g1 : i.val = 624 + d.val := u1
    have g2 : j.val = j'.val := u2
    have hz' : z'.val < 1 := z'.isLt
    have hd : d.val < 16 := d.isLt
    rw [dif_neg (show ¬ (i.val % 80 < 64) by omega)]
    exact pay_15_1 ..
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = 1 + z'.val := u0
    have g1 : i.val = 560 + d.val := u1
    have g2 : j.val = j'.val := u2
    have hz' : z'.val < 1 := z'.isLt
    have hd : d.val < 64 := d.isLt
    rw [dif_pos (show i.val % 80 < 64 by omega)]
    exact (pay_15_2 ..).trans (kt_eq m c t _ _ _ _ _ (by show (t.val * 2 + z.val) / 16 = (t.val * 512 + (256 + j'.val)) / 4096 <;> omega) (by show (t.val * 2 + z.val) % 16 * 256 + j.val = (t.val * 512 + (256 + j'.val)) % 4096 <;> omega) (fun k => (congrArg (fun e : Fin 1872 => V m c main_v18 (ix2 e k)) (Fin.ext (by show 1024 + (448 + d.val) = 1024 + (i.val / 80 * 64 + i.val % 80) <;> omega))).trans (wt_va m c k ⟨i.val / 80 * 64 + i.val % 80, by omega⟩)))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = z'.val := u0
    have g1 : i.val = 560 + d.val := u1
    have g2 : j.val = j'.val := u2
    have hz' : z'.val < 1 := z'.isLt
    have hd : d.val < 64 := d.isLt
    rw [dif_pos (show i.val % 80 < 64 by omega)]
    exact (pay_15_3 ..).trans (kt_eq m c t _ _ _ _ _ (by show (t.val * 2 + z.val) / 16 = (t.val * 512 + j'.val) / 4096 <;> omega) (by show (t.val * 2 + z.val) % 16 * 256 + j.val = (t.val * 512 + j'.val) % 4096 <;> omega) (fun k => (congrArg (fun e : Fin 1872 => V m c main_v18 (ix2 e k)) (Fin.ext (by show 1024 + (448 + d.val) = 1024 + (i.val / 80 * 64 + i.val % 80) <;> omega))).trans (wt_va m c k ⟨i.val / 80 * 64 + i.val % 80, by omega⟩)))
  · obtain ⟨z', d, j', rfl⟩ : ∃ (z' : Fin 1) (d : Fin 16) (j' : Fin 256), x = ix3 z' d j' := ⟨x 0, x 1, x 2, eq_ix3 (n0 := 1) (n1 := 16) (n2 := 256) x⟩
    have g0 : z.val = 1 + z'.val := u0
    have g1 : i.val = 544 + d.val := u1
    have g2 : j.val = j'.val := u2
    have hz' : z'.val < 1 := z'.isLt
    have hd : d.val < 16 := d.isLt
    rw [dif_neg (show ¬ (i.val % 80 < 64) by omega)]
    exact pay_15_4 ..
  · obtain ⟨z', d, j', rfl⟩ : ∃ (z' : Fin 1) (d : Fin 16) (j' : Fin 256), x = ix3 z' d j' := ⟨x 0, x 1, x 2, eq_ix3 (n0 := 1) (n1 := 16) (n2 := 256) x⟩
    have g0 : z.val = z'.val := u0
    have g1 : i.val = 544 + d.val := u1
    have g2 : j.val = j'.val := u2
    have hz' : z'.val < 1 := z'.isLt
    have hd : d.val < 16 := d.isLt
    rw [dif_neg (show ¬ (i.val % 80 < 64) by omega)]
    exact pay_15_5 ..
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = 1 + z'.val := u0
    have g1 : i.val = 480 + d.val := u1
    have g2 : j.val = j'.val := u2
    have hz' : z'.val < 1 := z'.isLt
    have hd : d.val < 64 := d.isLt
    rw [dif_pos (show i.val % 80 < 64 by omega)]
    exact (pay_15_6 ..).trans (kt_eq m c t _ _ _ _ _ (by show (t.val * 2 + z.val) / 16 = (t.val * 512 + (256 + j'.val)) / 4096 <;> omega) (by show (t.val * 2 + z.val) % 16 * 256 + j.val = (t.val * 512 + (256 + j'.val)) % 4096 <;> omega) (fun k => (congrArg (fun e : Fin 1872 => V m c main_v18 (ix2 e k)) (Fin.ext (by show 1024 + (384 + d.val) = 1024 + (i.val / 80 * 64 + i.val % 80) <;> omega))).trans (wt_va m c k ⟨i.val / 80 * 64 + i.val % 80, by omega⟩)))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = z'.val := u0
    have g1 : i.val = 480 + d.val := u1
    have g2 : j.val = j'.val := u2
    have hz' : z'.val < 1 := z'.isLt
    have hd : d.val < 64 := d.isLt
    rw [dif_pos (show i.val % 80 < 64 by omega)]
    exact (pay_15_7 ..).trans (kt_eq m c t _ _ _ _ _ (by show (t.val * 2 + z.val) / 16 = (t.val * 512 + j'.val) / 4096 <;> omega) (by show (t.val * 2 + z.val) % 16 * 256 + j.val = (t.val * 512 + j'.val) % 4096 <;> omega) (fun k => (congrArg (fun e : Fin 1872 => V m c main_v18 (ix2 e k)) (Fin.ext (by show 1024 + (384 + d.val) = 1024 + (i.val / 80 * 64 + i.val % 80) <;> omega))).trans (wt_va m c k ⟨i.val / 80 * 64 + i.val % 80, by omega⟩)))
  · obtain ⟨z', d, j', rfl⟩ : ∃ (z' : Fin 1) (d : Fin 16) (j' : Fin 256), x = ix3 z' d j' := ⟨x 0, x 1, x 2, eq_ix3 (n0 := 1) (n1 := 16) (n2 := 256) x⟩
    have g0 : z.val = 1 + z'.val := u0
    have g1 : i.val = 464 + d.val := u1
    have g2 : j.val = j'.val := u2
    have hz' : z'.val < 1 := z'.isLt
    have hd : d.val < 16 := d.isLt
    rw [dif_neg (show ¬ (i.val % 80 < 64) by omega)]
    exact pay_15_8 ..
  · obtain ⟨z', d, j', rfl⟩ : ∃ (z' : Fin 1) (d : Fin 16) (j' : Fin 256), x = ix3 z' d j' := ⟨x 0, x 1, x 2, eq_ix3 (n0 := 1) (n1 := 16) (n2 := 256) x⟩
    have g0 : z.val = z'.val := u0
    have g1 : i.val = 464 + d.val := u1
    have g2 : j.val = j'.val := u2
    have hz' : z'.val < 1 := z'.isLt
    have hd : d.val < 16 := d.isLt
    rw [dif_neg (show ¬ (i.val % 80 < 64) by omega)]
    exact pay_15_9 ..
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = 1 + z'.val := u0
    have g1 : i.val = 400 + d.val := u1
    have g2 : j.val = j'.val := u2
    have hz' : z'.val < 1 := z'.isLt
    have hd : d.val < 64 := d.isLt
    rw [dif_pos (show i.val % 80 < 64 by omega)]
    exact (pay_15_10 ..).trans (kt_eq m c t _ _ _ _ _ (by show (t.val * 2 + z.val) / 16 = (t.val * 512 + (256 + j'.val)) / 4096 <;> omega) (by show (t.val * 2 + z.val) % 16 * 256 + j.val = (t.val * 512 + (256 + j'.val)) % 4096 <;> omega) (fun k => (congrArg (fun e : Fin 1872 => V m c main_v18 (ix2 e k)) (Fin.ext (by show 1024 + (320 + d.val) = 1024 + (i.val / 80 * 64 + i.val % 80) <;> omega))).trans (wt_va m c k ⟨i.val / 80 * 64 + i.val % 80, by omega⟩)))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = z'.val := u0
    have g1 : i.val = 400 + d.val := u1
    have g2 : j.val = j'.val := u2
    have hz' : z'.val < 1 := z'.isLt
    have hd : d.val < 64 := d.isLt
    rw [dif_pos (show i.val % 80 < 64 by omega)]
    exact (pay_15_11 ..).trans (kt_eq m c t _ _ _ _ _ (by show (t.val * 2 + z.val) / 16 = (t.val * 512 + j'.val) / 4096 <;> omega) (by show (t.val * 2 + z.val) % 16 * 256 + j.val = (t.val * 512 + j'.val) % 4096 <;> omega) (fun k => (congrArg (fun e : Fin 1872 => V m c main_v18 (ix2 e k)) (Fin.ext (by show 1024 + (320 + d.val) = 1024 + (i.val / 80 * 64 + i.val % 80) <;> omega))).trans (wt_va m c k ⟨i.val / 80 * 64 + i.val % 80, by omega⟩)))
  · obtain ⟨z', d, j', rfl⟩ : ∃ (z' : Fin 1) (d : Fin 16) (j' : Fin 256), x = ix3 z' d j' := ⟨x 0, x 1, x 2, eq_ix3 (n0 := 1) (n1 := 16) (n2 := 256) x⟩
    have g0 : z.val = 1 + z'.val := u0
    have g1 : i.val = 384 + d.val := u1
    have g2 : j.val = j'.val := u2
    have hz' : z'.val < 1 := z'.isLt
    have hd : d.val < 16 := d.isLt
    rw [dif_neg (show ¬ (i.val % 80 < 64) by omega)]
    exact pay_15_12 ..
  · obtain ⟨z', d, j', rfl⟩ : ∃ (z' : Fin 1) (d : Fin 16) (j' : Fin 256), x = ix3 z' d j' := ⟨x 0, x 1, x 2, eq_ix3 (n0 := 1) (n1 := 16) (n2 := 256) x⟩
    have g0 : z.val = z'.val := u0
    have g1 : i.val = 384 + d.val := u1
    have g2 : j.val = j'.val := u2
    have hz' : z'.val < 1 := z'.isLt
    have hd : d.val < 16 := d.isLt
    rw [dif_neg (show ¬ (i.val % 80 < 64) by omega)]
    exact pay_15_13 ..
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = 1 + z'.val := u0
    have g1 : i.val = 320 + d.val := u1
    have g2 : j.val = j'.val := u2
    have hz' : z'.val < 1 := z'.isLt
    have hd : d.val < 64 := d.isLt
    rw [dif_pos (show i.val % 80 < 64 by omega)]
    exact (pay_15_14 ..).trans (kt_eq m c t _ _ _ _ _ (by show (t.val * 2 + z.val) / 16 = (t.val * 512 + (256 + j'.val)) / 4096 <;> omega) (by show (t.val * 2 + z.val) % 16 * 256 + j.val = (t.val * 512 + (256 + j'.val)) % 4096 <;> omega) (fun k => (congrArg (fun e : Fin 1872 => V m c main_v18 (ix2 e k)) (Fin.ext (by show 1024 + (256 + d.val) = 1024 + (i.val / 80 * 64 + i.val % 80) <;> omega))).trans (wt_va m c k ⟨i.val / 80 * 64 + i.val % 80, by omega⟩)))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = z'.val := u0
    have g1 : i.val = 320 + d.val := u1
    have g2 : j.val = j'.val := u2
    have hz' : z'.val < 1 := z'.isLt
    have hd : d.val < 64 := d.isLt
    rw [dif_pos (show i.val % 80 < 64 by omega)]
    exact (pay_15_15 ..).trans (kt_eq m c t _ _ _ _ _ (by show (t.val * 2 + z.val) / 16 = (t.val * 512 + j'.val) / 4096 <;> omega) (by show (t.val * 2 + z.val) % 16 * 256 + j.val = (t.val * 512 + j'.val) % 4096 <;> omega) (fun k => (congrArg (fun e : Fin 1872 => V m c main_v18 (ix2 e k)) (Fin.ext (by show 1024 + (256 + d.val) = 1024 + (i.val / 80 * 64 + i.val % 80) <;> omega))).trans (wt_va m c k ⟨i.val / 80 * 64 + i.val % 80, by omega⟩)))
  · obtain ⟨z', d, j', rfl⟩ : ∃ (z' : Fin 1) (d : Fin 16) (j' : Fin 256), x = ix3 z' d j' := ⟨x 0, x 1, x 2, eq_ix3 (n0 := 1) (n1 := 16) (n2 := 256) x⟩
    have g0 : z.val = 1 + z'.val := u0
    have g1 : i.val = 304 + d.val := u1
    have g2 : j.val = j'.val := u2
    have hz' : z'.val < 1 := z'.isLt
    have hd : d.val < 16 := d.isLt
    rw [dif_neg (show ¬ (i.val % 80 < 64) by omega)]
    exact pay_15_16 ..
  · obtain ⟨z', d, j', rfl⟩ : ∃ (z' : Fin 1) (d : Fin 16) (j' : Fin 256), x = ix3 z' d j' := ⟨x 0, x 1, x 2, eq_ix3 (n0 := 1) (n1 := 16) (n2 := 256) x⟩
    have g0 : z.val = z'.val := u0
    have g1 : i.val = 304 + d.val := u1
    have g2 : j.val = j'.val := u2
    have hz' : z'.val < 1 := z'.isLt
    have hd : d.val < 16 := d.isLt
    rw [dif_neg (show ¬ (i.val % 80 < 64) by omega)]
    exact pay_15_17 ..
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = 1 + z'.val := u0
    have g1 : i.val = 240 + d.val := u1
    have g2 : j.val = j'.val := u2
    have hz' : z'.val < 1 := z'.isLt
    have hd : d.val < 64 := d.isLt
    rw [dif_pos (show i.val % 80 < 64 by omega)]
    exact (pay_15_18 ..).trans (kt_eq m c t _ _ _ _ _ (by show (t.val * 2 + z.val) / 16 = (t.val * 512 + (256 + j'.val)) / 4096 <;> omega) (by show (t.val * 2 + z.val) % 16 * 256 + j.val = (t.val * 512 + (256 + j'.val)) % 4096 <;> omega) (fun k => (congrArg (fun e : Fin 1872 => V m c main_v18 (ix2 e k)) (Fin.ext (by show 1024 + (192 + d.val) = 1024 + (i.val / 80 * 64 + i.val % 80) <;> omega))).trans (wt_va m c k ⟨i.val / 80 * 64 + i.val % 80, by omega⟩)))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = z'.val := u0
    have g1 : i.val = 240 + d.val := u1
    have g2 : j.val = j'.val := u2
    have hz' : z'.val < 1 := z'.isLt
    have hd : d.val < 64 := d.isLt
    rw [dif_pos (show i.val % 80 < 64 by omega)]
    exact (pay_15_19 ..).trans (kt_eq m c t _ _ _ _ _ (by show (t.val * 2 + z.val) / 16 = (t.val * 512 + j'.val) / 4096 <;> omega) (by show (t.val * 2 + z.val) % 16 * 256 + j.val = (t.val * 512 + j'.val) % 4096 <;> omega) (fun k => (congrArg (fun e : Fin 1872 => V m c main_v18 (ix2 e k)) (Fin.ext (by show 1024 + (192 + d.val) = 1024 + (i.val / 80 * 64 + i.val % 80) <;> omega))).trans (wt_va m c k ⟨i.val / 80 * 64 + i.val % 80, by omega⟩)))
  · obtain ⟨z', d, j', rfl⟩ : ∃ (z' : Fin 1) (d : Fin 16) (j' : Fin 256), x = ix3 z' d j' := ⟨x 0, x 1, x 2, eq_ix3 (n0 := 1) (n1 := 16) (n2 := 256) x⟩
    have g0 : z.val = 1 + z'.val := u0
    have g1 : i.val = 224 + d.val := u1
    have g2 : j.val = j'.val := u2
    have hz' : z'.val < 1 := z'.isLt
    have hd : d.val < 16 := d.isLt
    rw [dif_neg (show ¬ (i.val % 80 < 64) by omega)]
    exact pay_15_20 ..
  · obtain ⟨z', d, j', rfl⟩ : ∃ (z' : Fin 1) (d : Fin 16) (j' : Fin 256), x = ix3 z' d j' := ⟨x 0, x 1, x 2, eq_ix3 (n0 := 1) (n1 := 16) (n2 := 256) x⟩
    have g0 : z.val = z'.val := u0
    have g1 : i.val = 224 + d.val := u1
    have g2 : j.val = j'.val := u2
    have hz' : z'.val < 1 := z'.isLt
    have hd : d.val < 16 := d.isLt
    rw [dif_neg (show ¬ (i.val % 80 < 64) by omega)]
    exact pay_15_21 ..
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = 1 + z'.val := u0
    have g1 : i.val = 160 + d.val := u1
    have g2 : j.val = j'.val := u2
    have hz' : z'.val < 1 := z'.isLt
    have hd : d.val < 64 := d.isLt
    rw [dif_pos (show i.val % 80 < 64 by omega)]
    exact (pay_15_22 ..).trans (kt_eq m c t _ _ _ _ _ (by show (t.val * 2 + z.val) / 16 = (t.val * 512 + (256 + j'.val)) / 4096 <;> omega) (by show (t.val * 2 + z.val) % 16 * 256 + j.val = (t.val * 512 + (256 + j'.val)) % 4096 <;> omega) (fun k => (congrArg (fun e : Fin 1872 => V m c main_v18 (ix2 e k)) (Fin.ext (by show 1024 + (128 + d.val) = 1024 + (i.val / 80 * 64 + i.val % 80) <;> omega))).trans (wt_va m c k ⟨i.val / 80 * 64 + i.val % 80, by omega⟩)))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = z'.val := u0
    have g1 : i.val = 160 + d.val := u1
    have g2 : j.val = j'.val := u2
    have hz' : z'.val < 1 := z'.isLt
    have hd : d.val < 64 := d.isLt
    rw [dif_pos (show i.val % 80 < 64 by omega)]
    exact (pay_15_23 ..).trans (kt_eq m c t _ _ _ _ _ (by show (t.val * 2 + z.val) / 16 = (t.val * 512 + j'.val) / 4096 <;> omega) (by show (t.val * 2 + z.val) % 16 * 256 + j.val = (t.val * 512 + j'.val) % 4096 <;> omega) (fun k => (congrArg (fun e : Fin 1872 => V m c main_v18 (ix2 e k)) (Fin.ext (by show 1024 + (128 + d.val) = 1024 + (i.val / 80 * 64 + i.val % 80) <;> omega))).trans (wt_va m c k ⟨i.val / 80 * 64 + i.val % 80, by omega⟩)))
  · obtain ⟨z', d, j', rfl⟩ : ∃ (z' : Fin 1) (d : Fin 16) (j' : Fin 256), x = ix3 z' d j' := ⟨x 0, x 1, x 2, eq_ix3 (n0 := 1) (n1 := 16) (n2 := 256) x⟩
    have g0 : z.val = 1 + z'.val := u0
    have g1 : i.val = 144 + d.val := u1
    have g2 : j.val = j'.val := u2
    have hz' : z'.val < 1 := z'.isLt
    have hd : d.val < 16 := d.isLt
    rw [dif_neg (show ¬ (i.val % 80 < 64) by omega)]
    exact pay_15_24 ..
  · obtain ⟨z', d, j', rfl⟩ : ∃ (z' : Fin 1) (d : Fin 16) (j' : Fin 256), x = ix3 z' d j' := ⟨x 0, x 1, x 2, eq_ix3 (n0 := 1) (n1 := 16) (n2 := 256) x⟩
    have g0 : z.val = z'.val := u0
    have g1 : i.val = 144 + d.val := u1
    have g2 : j.val = j'.val := u2
    have hz' : z'.val < 1 := z'.isLt
    have hd : d.val < 16 := d.isLt
    rw [dif_neg (show ¬ (i.val % 80 < 64) by omega)]
    exact pay_15_25 ..
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = 1 + z'.val := u0
    have g1 : i.val = 80 + d.val := u1
    have g2 : j.val = j'.val := u2
    have hz' : z'.val < 1 := z'.isLt
    have hd : d.val < 64 := d.isLt
    rw [dif_pos (show i.val % 80 < 64 by omega)]
    exact (pay_15_26 ..).trans (kt_eq m c t _ _ _ _ _ (by show (t.val * 2 + z.val) / 16 = (t.val * 512 + (256 + j'.val)) / 4096 <;> omega) (by show (t.val * 2 + z.val) % 16 * 256 + j.val = (t.val * 512 + (256 + j'.val)) % 4096 <;> omega) (fun k => (congrArg (fun e : Fin 1872 => V m c main_v18 (ix2 e k)) (Fin.ext (by show 1024 + (64 + d.val) = 1024 + (i.val / 80 * 64 + i.val % 80) <;> omega))).trans (wt_va m c k ⟨i.val / 80 * 64 + i.val % 80, by omega⟩)))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = z'.val := u0
    have g1 : i.val = 80 + d.val := u1
    have g2 : j.val = j'.val := u2
    have hz' : z'.val < 1 := z'.isLt
    have hd : d.val < 64 := d.isLt
    rw [dif_pos (show i.val % 80 < 64 by omega)]
    exact (pay_15_27 ..).trans (kt_eq m c t _ _ _ _ _ (by show (t.val * 2 + z.val) / 16 = (t.val * 512 + j'.val) / 4096 <;> omega) (by show (t.val * 2 + z.val) % 16 * 256 + j.val = (t.val * 512 + j'.val) % 4096 <;> omega) (fun k => (congrArg (fun e : Fin 1872 => V m c main_v18 (ix2 e k)) (Fin.ext (by show 1024 + (64 + d.val) = 1024 + (i.val / 80 * 64 + i.val % 80) <;> omega))).trans (wt_va m c k ⟨i.val / 80 * 64 + i.val % 80, by omega⟩)))
  · obtain ⟨z', d, j', rfl⟩ : ∃ (z' : Fin 1) (d : Fin 16) (j' : Fin 256), x = ix3 z' d j' := ⟨x 0, x 1, x 2, eq_ix3 (n0 := 1) (n1 := 16) (n2 := 256) x⟩
    have g0 : z.val = 1 + z'.val := u0
    have g1 : i.val = 64 + d.val := u1
    have g2 : j.val = j'.val := u2
    have hz' : z'.val < 1 := z'.isLt
    have hd : d.val < 16 := d.isLt
    rw [dif_neg (show ¬ (i.val % 80 < 64) by omega)]
    exact pay_15_28 ..
  · obtain ⟨z', d, j', rfl⟩ : ∃ (z' : Fin 1) (d : Fin 16) (j' : Fin 256), x = ix3 z' d j' := ⟨x 0, x 1, x 2, eq_ix3 (n0 := 1) (n1 := 16) (n2 := 256) x⟩
    have g0 : z.val = z'.val := u0
    have g1 : i.val = 64 + d.val := u1
    have g2 : j.val = j'.val := u2
    have hz' : z'.val < 1 := z'.isLt
    have hd : d.val < 16 := d.isLt
    rw [dif_neg (show ¬ (i.val % 80 < 64) by omega)]
    exact pay_15_29 ..
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = 1 + z'.val := u0
    have g1 : i.val = d.val := u1
    have g2 : j.val = j'.val := u2
    have hz' : z'.val < 1 := z'.isLt
    have hd : d.val < 64 := d.isLt
    rw [dif_pos (show i.val % 80 < 64 by omega)]
    exact (pay_15_30 ..).trans (kt_eq m c t _ _ _ _ _ (by show (t.val * 2 + z.val) / 16 = (t.val * 512 + (256 + j'.val)) / 4096 <;> omega) (by show (t.val * 2 + z.val) % 16 * 256 + j.val = (t.val * 512 + (256 + j'.val)) % 4096 <;> omega) (fun k => (congrArg (fun e : Fin 1872 => V m c main_v18 (ix2 e k)) (Fin.ext (by show 1024 + d.val = 1024 + (i.val / 80 * 64 + i.val % 80) <;> omega))).trans (wt_va m c k ⟨i.val / 80 * 64 + i.val % 80, by omega⟩)))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = z'.val := u0
    have g1 : i.val = d.val := u1
    have g2 : j.val = j'.val := u2
    have hz' : z'.val < 1 := z'.isLt
    have hd : d.val < 64 := d.isLt
    rw [dif_pos (show i.val % 80 < 64 by omega)]
    exact (pay_15_31 ..).trans (kt_eq m c t _ _ _ _ _ (by show (t.val * 2 + z.val) / 16 = (t.val * 512 + j'.val) / 4096 <;> omega) (by show (t.val * 2 + z.val) % 16 * 256 + j.val = (t.val * 512 + j'.val) % 4096 <;> omega) (fun k => (congrArg (fun e : Fin 1872 => V m c main_v18 (ix2 e k)) (Fin.ext (by show 1024 + d.val = 1024 + (i.val / 80 * 64 + i.val % 80) <;> omega))).trans (wt_va m c k ⟨i.val / 80 * 64 + i.val % 80, by omega⟩)))

end Cert.Proof.InProj

end
-- ==== Proof.InQa.lean ====
/- The first branch's queries in tiles. -/
module

public import proofs.«01_k».proof.Defs
public import proofs.«01_k».proof.Proof.InV
public import proofs.«01_k».proof.Proof.Gen.Kernel3Ideal.Value
public import Idealize.ShloMosaic.Lib.Pipeline.ValueKit
public import Idealize.ShloMosaic.Lib.Tactic.CleanTypes
public import Idealize.ShloMosaic.Lib.StableHlo.ReadAt
public import proofs.«01_k».proof.Proof.InBase
public import proofs.«01_k».proof.Proof.InRef

@[expose] public section

set_option maxRecDepth 16384

noncomputable section

namespace Cert.Proof.InProj

open Idealize.ShloMosaic Idealize.ShloMosaic.TcCoe Idealize.SL.Sem
open Cert.Kernel3Ideal Cert.Kernel3Ideal.Gen

/-- A head's 64 numbers normalised as the body does it, times the gain and an eighth. -/
def qk (v : Fin 64 → EReal) (g : EReal) (d : Fin 64) : EReal :=
  v d * Ideal.rsqrt ((∑ x : Fin 64, v x * v x) * Ideal.ofBits .f32 0x3C800000#32 + Ideal.ofBits .f32 0x358637BD#32) * g * Ideal.ofBits .f32 0x3E000000#32

/-- It is the layer's. -/
theorem qk_eq (v v' : Fin 64 → EReal) (g : EReal) (a : FVec Ideal S64 .f32) (d d' : Fin 64) (hv : ∀ x, v x = v' x) (hg : g = a (ix1 d'))
    (hd : d = d') : qk v g d = nrm v' a d' * Ideal.ofBits .f32 0x3E000000#32 := by
  obtain rfl : v = v' := funext hv
  subst hd
  rw [qk, nrm, mean64, hg]

variable (m : (ℓ : Loc nD τ sig) → Buf (Elt Ideal) ℓ)

/-- The body's stored value of output 13, piece 0. -/
theorem pay_13_0 (v0 : Vec Ideal S512x1024 .f32) (v12 : Vec Ideal S1x1024 .f32) (w : Vec Ideal S1872x1024 .bf16) (gt : Vec Ideal S1024x1 .f32) (z : Fin 1) (d : Fin 64) (j : Fin 256) :
    k0_pay130 (k0_pay34 (k0_pay7 (v0) (v12)) (View.ld (w) (Rect.unit ![0, 0] ![512, 1024] inb_S1872x1024_S512x1024_0_0))) (View.ld (gt) (Rect.unit ![448, 0] ![64, 1] inb_S1024x1_S64x1_448_0)) (ix3 z d j)
      = qk (fun x => kt v0 v12 w ⟨256 + j.val, by omega⟩ ⟨448 + x.val, by omega⟩) (gt (ix2 ⟨448 + d.val, by omega⟩ 0)) d := by
  pointwise [k0_pay130, k0_pay34, k0_pay7, k0_pay128, kt, qk]

/-- The body's stored value of output 13, piece 1. -/
theorem pay_13_1 (v0 : Vec Ideal S512x1024 .f32) (v12 : Vec Ideal S1x1024 .f32) (w : Vec Ideal S1872x1024 .bf16) (gt : Vec Ideal S1024x1 .f32) (z : Fin 1) (d : Fin 64) (j : Fin 256) :
    k0_pay129 (k0_pay34 (k0_pay7 (v0) (v12)) (View.ld (w) (Rect.unit ![0, 0] ![512, 1024] inb_S1872x1024_S512x1024_0_0))) (View.ld (gt) (Rect.unit ![448, 0] ![64, 1] inb_S1024x1_S64x1_448_0)) (ix3 z d j)
      = qk (fun x => kt v0 v12 w ⟨j.val, by omega⟩ ⟨448 + x.val, by omega⟩) (gt (ix2 ⟨448 + d.val, by omega⟩ 0)) d := by
  pointwise [k0_pay129, k0_pay34, k0_pay7, k0_pay128, kt, qk]

/-- The body's stored value of output 13, piece 2. -/
theorem pay_13_2 (v0 : Vec Ideal S512x1024 .f32) (v12 : Vec Ideal S1x1024 .f32) (w : Vec Ideal S1872x1024 .bf16) (gt : Vec Ideal S1024x1 .f32) (z : Fin 1) (d : Fin 64) (j : Fin 256) :
    k0_pay117 (k0_pay34 (k0_pay7 (v0) (v12)) (View.ld (w) (Rect.unit ![0, 0] ![512, 1024] inb_S1872x1024_S512x1024_0_0))) (View.ld (gt) (Rect.unit ![384, 0] ![64, 1] inb_S1024x1_S64x1_384_0)) (ix3 z d j)
      = qk (fun x => kt v0 v12 w ⟨256 + j.val, by omega⟩ ⟨384 + x.val, by omega⟩) (gt (ix2 ⟨384 + d.val, by omega⟩ 0)) d := by
  pointwise [k0_pay117, k0_pay34, k0_pay7, k0_pay115, kt, qk]

/-- The body's stored value of output 13, piece 3. -/
theorem pay_13_3 (v0 : Vec Ideal S512x1024 .f32) (v12 : Vec Ideal S1x1024 .f32) (w : Vec Ideal S1872x1024 .bf16) (gt : Vec Ideal S1024x1 .f32) (z : Fin 1) (d : Fin 64) (j : Fin 256) :
    k0_pay116 (k0_pay34 (k0_pay7 (v0) (v12)) (View.ld (w) (Rect.unit ![0, 0] ![512, 1024] inb_S1872x1024_S512x1024_0_0))) (View.ld (gt) (Rect.unit ![384, 0] ![64, 1] inb_S1024x1_S64x1_384_0)) (ix3 z d j)
      = qk (fun x => kt v0 v12 w ⟨j.val, by omega⟩ ⟨384 + x.val, by omega⟩) (gt (ix2 ⟨384 + d.val, by omega⟩ 0)) d := by
  pointwise [k0_pay116, k0_pay34, k0_pay7, k0_pay115, kt, qk]

/-- The body's stored value of output 13, piece 4. -/
theorem pay_13_4 (v0 : Vec Ideal S512x1024 .f32) (v12 : Vec Ideal S1x1024 .f32) (w : Vec Ideal S1872x1024 .bf16) (gt : Vec Ideal S1024x1 .f32) (z : Fin 1) (d : Fin 64) (j : Fin 256) :
    k0_pay105 (k0_pay34 (k0_pay7 (v0) (v12)) (View.ld (w) (Rect.unit ![0, 0] ![512, 1024] inb_S1872x1024_S512x1024_0_0))) (View.ld (gt) (Rect.unit ![320, 0] ![64, 1] inb_S1024x1_S64x1_320_0)) (ix3 z d j)
      = qk (fun x => kt v0 v12 w ⟨256 + j.val, by omega⟩ ⟨320 + x.val, by omega⟩) (gt (ix2 ⟨320 + d.val, by omega⟩ 0)) d := by
  pointwise [k0_pay105, k0_pay34, k0_pay7, k0_pay103, kt, qk]

/-- The body's stored value of output 13, piece 5. -/
theorem pay_13_5 (v0 : Vec Ideal S512x1024 .f32) (v12 : Vec Ideal S1x1024 .f32) (w : Vec Ideal S1872x1024 .bf16) (gt : Vec Ideal S1024x1 .f32) (z : Fin 1) (d : Fin 64) (j : Fin 256) :
    k0_pay104 (k0_pay34 (k0_pay7 (v0) (v12)) (View.ld (w) (Rect.unit ![0, 0] ![512, 1024] inb_S1872x1024_S512x1024_0_0))) (View.ld (gt) (Rect.unit ![320, 0] ![64, 1] inb_S1024x1_S64x1_320_0)) (ix3 z d j)
      = qk (fun x => kt v0 v12 w ⟨j.val, by omega⟩ ⟨320 + x.val, by omega⟩) (gt (ix2 ⟨320 + d.val, by omega⟩ 0)) d := by
  pointwise [k0_pay104, k0_pay34, k0_pay7, k0_pay103, kt, qk]

/-- The body's stored value of output 13, piece 6. -/
theorem pay_13_6 (v0 : Vec Ideal S512x1024 .f32) (v12 : Vec Ideal S1x1024 .f32) (w : Vec Ideal S1872x1024 .bf16) (gt : Vec Ideal S1024x1 .f32) (z : Fin 1) (d : Fin 64) (j : Fin 256) :
    k0_pay93 (k0_pay92 (k0_pay34 (k0_pay7 (v0) (v12)) (View.ld (w) (Rect.unit ![0, 0] ![512, 1024] inb_S1872x1024_S512x1024_0_0))) (View.ld (gt) (Rect.unit ![256, 0] ![64, 1] inb_S1024x1_S64x1_256_0))) (ix3 z d j)
      = qk (fun x => kt v0 v12 w ⟨256 + j.val, by omega⟩ ⟨256 + x.val, by omega⟩) (gt (ix2 ⟨256 + d.val, by omega⟩ 0)) d := by
  pointwise [k0_pay93, k0_pay92, k0_pay34, k0_pay7, k0_pay90, kt, qk]

/-- The body's stored value of output 13, piece 7. -/
theorem pay_13_7 (v0 : Vec Ideal S512x1024 .f32) (v12 : Vec Ideal S1x1024 .f32) (w : Vec Ideal S1872x1024 .bf16) (gt : Vec Ideal S1024x1 .f32) (z : Fin 1) (d : Fin 64) (j : Fin 256) :
    k0_pay91 (k0_pay34 (k0_pay7 (v0) (v12)) (View.ld (w) (Rect.unit ![0, 0] ![512, 1024] inb_S1872x1024_S512x1024_0_0))) (View.ld (gt) (Rect.unit ![256, 0] ![64, 1] inb_S1024x1_S64x1_256_0)) (ix3 z d j)
      = qk (fun x => kt v0 v12 w ⟨j.val, by omega⟩ ⟨256 + x.val, by omega⟩) (gt (ix2 ⟨256 + d.val, by omega⟩ 0)) d := by
  pointwise [k0_pay91, k0_pay34, k0_pay7, k0_pay90, kt, qk]

/-- The body's stored value of output 13, piece 8. -/
theorem pay_13_8 (v0 : Vec Ideal S512x1024 .f32) (v12 : Vec Ideal S1x1024 .f32) (w : Vec Ideal S1872x1024 .bf16) (gt : Vec Ideal S1024x1 .f32) (z : Fin 1) (d : Fin 64) (j : Fin 256) :
    k0_pay80 (k0_pay77 (k0_pay34 (k0_pay7 (v0) (v12)) (View.ld (w) (Rect.unit ![0, 0] ![512, 1024] inb_S1872x1024_S512x1024_0_0))) (View.ld (gt) (Rect.unit ![192, 0] ![64, 1] inb_S1024x1_S64x1_192_0))) (ix3 z d j)
      = qk (fun x => kt v0 v12 w ⟨256 + j.val, by omega⟩ ⟨192 + x.val, by omega⟩) (gt (ix2 ⟨192 + d.val, by omega⟩ 0)) d := by
  pointwise [k0_pay80, k0_pay77, k0_pay34, k0_pay7, kt, qk]

/-- The body's stored value of output 13, piece 9. -/
theorem pay_13_9 (v0 : Vec Ideal S512x1024 .f32) (v12 : Vec Ideal S1x1024 .f32) (w : Vec Ideal S1872x1024 .bf16) (gt : Vec Ideal S1024x1 .f32) (z : Fin 1) (d : Fin 64) (j : Fin 256) :
    k0_pay79 (k0_pay78 (k0_pay34 (k0_pay7 (v0) (v12)) (View.ld (w) (Rect.unit ![0, 0] ![512, 1024] inb_S1872x1024_S512x1024_0_0))) (View.ld (gt) (Rect.unit ![192, 0] ![64, 1] inb_S1024x1_S64x1_192_0))) (ix3 z d j)
      = qk (fun x => kt v0 v12 w ⟨j.val, by omega⟩ ⟨192 + x.val, by omega⟩) (gt (ix2 ⟨192 + d.val, by omega⟩ 0)) d := by
  pointwise [k0_pay79, k0_pay78, k0_pay34, k0_pay7, k0_pay77, kt, qk]

/-- The body's stored value of output 13, piece 10. -/
theorem pay_13_10 (v0 : Vec Ideal S512x1024 .f32) (v12 : Vec Ideal S1x1024 .f32) (w : Vec Ideal S1872x1024 .bf16) (gt : Vec Ideal S1024x1 .f32) (z : Fin 1) (d : Fin 64) (j : Fin 256) :
    k0_pay67 (k0_pay64 (k0_pay34 (k0_pay7 (v0) (v12)) (View.ld (w) (Rect.unit ![0, 0] ![512, 1024] inb_S1872x1024_S512x1024_0_0))) (View.ld (gt) (Rect.unit ![128, 0] ![64, 1] inb_S1024x1_S64x1_128_0))) (FloatOps.ofBits (F := Ideal) FTy.f32 1040187392#32) (ix3 z d j)
      = qk (fun x => kt v0 v12 w ⟨256 + j.val, by omega⟩ ⟨128 + x.val, by omega⟩) (gt (ix2 ⟨128 + d.val, by omega⟩ 0)) d := by
  pointwise [k0_pay67, k0_pay64, k0_pay34, k0_pay7, k0_pay65, kt, qk]

/-- The body's stored value of output 13, piece 11. -/
theorem pay_13_11 (v0 : Vec Ideal S512x1024 .f32) (v12 : Vec Ideal S1x1024 .f32) (w : Vec Ideal S1872x1024 .bf16) (gt : Vec Ideal S1024x1 .f32) (z : Fin 1) (d : Fin 64) (j : Fin 256) :
    k0_pay66 (k0_pay64 (k0_pay34 (k0_pay7 (v0) (v12)) (View.ld (w) (Rect.unit ![0, 0] ![512, 1024] inb_S1872x1024_S512x1024_0_0))) (View.ld (gt) (Rect.unit ![128, 0] ![64, 1] inb_S1024x1_S64x1_128_0))) (FloatOps.ofBits (F := Ideal) FTy.f32 1040187392#32) (ix3 z d j)
      = qk (fun x => kt v0 v12 w ⟨j.val, by omega⟩ ⟨128 + x.val, by omega⟩) (gt (ix2 ⟨128 + d.val, by omega⟩ 0)) d := by
  pointwise [k0_pay66, k0_pay64, k0_pay34, k0_pay7, k0_pay65, kt, qk]

/-- The body's stored value of output 13, piece 12. -/
theorem pay_13_12 (v0 : Vec Ideal S512x1024 .f32) (v12 : Vec Ideal S1x1024 .f32) (w : Vec Ideal S1872x1024 .bf16) (gt : Vec Ideal S1024x1 .f32) (z : Fin 1) (d : Fin 64) (j : Fin 256) :
    k0_pay54 (k0_pay51 (k0_pay34 (k0_pay7 (v0) (v12)) (View.ld (w) (Rect.unit ![0, 0] ![512, 1024] inb_S1872x1024_S512x1024_0_0)))) (View.ld (gt) (Rect.unit ![64, 0] ![64, 1] inb_S1024x1_S64x1_64_0)) (ix3 z d j)
      = qk (fun x => kt v0 v12 w ⟨256 + j.val, by omega⟩ ⟨64 + x.val, by omega⟩) (gt (ix2 ⟨64 + d.val, by omega⟩ 0)) d := by
  pointwise [k0_pay54, k0_pay51, k0_pay34, k0_pay7, k0_pay52, kt, qk]

/-- The body's stored value of output 13, piece 13. -/
theorem pay_13_13 (v0 : Vec Ideal S512x1024 .f32) (v12 : Vec Ideal S1x1024 .f32) (w : Vec Ideal S1872x1024 .bf16) (gt : Vec Ideal S1024x1 .f32) (z : Fin 1) (d : Fin 64) (j : Fin 256) :
    k0_pay53 (k0_pay51 (k0_pay34 (k0_pay7 (v0) (v12)) (View.ld (w) (Rect.unit ![0, 0] ![512, 1024] inb_S1872x1024_S512x1024_0_0)))) (View.ld (gt) (Rect.unit ![64, 0] ![64, 1] inb_S1024x1_S64x1_64_0)) (ix3 z d j)
      = qk (fun x => kt v0 v12 w ⟨j.val, by omega⟩ ⟨64 + x.val, by omega⟩) (gt (ix2 ⟨64 + d.val, by omega⟩ 0)) d := by
  pointwise [k0_pay53, k0_pay51, k0_pay34, k0_pay7, k0_pay52, kt, qk]

/-- The body's stored value of output 13, piece 14. -/
theorem pay_13_14 (v0 : Vec Ideal S512x1024 .f32) (v12 : Vec Ideal S1x1024 .f32) (w : Vec Ideal S1872x1024 .bf16) (gt : Vec Ideal S1024x1 .f32) (z : Fin 1) (d : Fin 64) (j : Fin 256) :
    k0_pay41 (k0_pay37 (k0_pay7 (v0) (v12)) (View.ld (w) (Rect.unit ![0, 0] ![512, 1024] inb_S1872x1024_S512x1024_0_0))) (k0_pay38 (k0_pay7 (v0) (v12)) (View.ld (w) (Rect.unit ![0, 0] ![512, 1024] inb_S1872x1024_S512x1024_0_0))) (FloatOps.ofBits (F := Ideal) FTy.f32 897988541#32) (View.ld (gt) (Rect.unit ![0, 0] ![64, 1] inb_S1024x1_S64x1_0_0)) (ix3 z d j)
      = qk (fun x => kt v0 v12 w ⟨256 + j.val, by omega⟩ ⟨x.val, by omega⟩) (gt (ix2 ⟨d.val, by omega⟩ 0)) d := by
  pointwise [k0_pay41, k0_pay37, k0_pay7, k0_pay38, k0_pay39, k0_pay34, kt, qk]

/-- The body's stored value of output 13, piece 15. -/
theorem pay_13_15 (v0 : Vec Ideal S512x1024 .f32) (v12 : Vec Ideal S1x1024 .f32) (w : Vec Ideal S1872x1024 .bf16) (gt : Vec Ideal S1024x1 .f32) (z : Fin 1) (d : Fin 64) (j : Fin 256) :
    k0_pay40 (k0_pay37 (k0_pay7 (v0) (v12)) (View.ld (w) (Rect.unit ![0, 0] ![512, 1024] inb_S1872x1024_S512x1024_0_0))) (k0_pay38 (k0_pay7 (v0) (v12)) (View.ld (w) (Rect.unit ![0, 0] ![512, 1024] inb_S1872x1024_S512x1024_0_0))) (FloatOps.ofBits (F := Ideal) FTy.f32 897988541#32) (View.ld (gt) (Rect.unit ![0, 0] ![64, 1] inb_S1024x1_S64x1_0_0)) (ix3 z d j)
      = qk (fun x => kt v0 v12 w ⟨j.val, by omega⟩ ⟨x.val, by omega⟩) (gt (ix2 ⟨d.val, by omega⟩ 0)) d := by
  pointwise [k0_pay40, k0_pay37, k0_pay7, k0_pay38, k0_pay39, k0_pay34, kt, qk]

set_option maxHeartbeats 2000000 in
/-- Output 13 is result 114 of the reference. -/
theorem res_13 (c : Dev nD) (V0 : Valuation Cert.Reference3Ideal.τ Cert.Reference3Ideal.sig (Elt Ideal))
    (h0 : V0 (Proc.devRef .tc Cert.Reference3Ideal.main_arg0) = m ((c.tc : Thread nD τ).loc main_arg0))
    (h1 : V0 (Proc.devRef .tc Cert.Reference3Ideal.main_arg1) = m ((c.tc : Thread nD τ).loc main_arg1))
    (h2 : V0 (Proc.devRef .tc Cert.Reference3Ideal.main_arg2) = m ((c.tc : Thread nD τ).loc main_arg2))
    (h3 : V0 (Proc.devRef .tc Cert.Reference3Ideal.main_arg3) = m ((c.tc : Thread nD τ).loc main_arg3)) :
    (dats m 0 c).arrAt 13 cfg0.N = r114 V0 := by
  refine (dats m 0 c).arrAt_eq_of_covers 13 _ (by decide +kernel) fun t hf y => ?_
  obtain ⟨e12, e13, e14, e15, e16, e17, e18⟩ := index_tiles t
  blk_simp
  rw [after0_13]
  unfold outsAt0
  frame_out
  have ht : t.val < 64 := t.isLt
  obtain ⟨z, i, j, rfl⟩ : ∃ (z : Fin 2) (i : Fin 512) (j : Fin 256), y = ix3 z i j := ⟨y 0, y 1, y 2, eq_ix3 (n0 := 2) (n1 := 512) (n2 := 256) y⟩
  have hz : z.val < 2 := z.isLt
  have ey : ((View.whole main_v37_7).slice (win0_13.rect t)).emb (ix3 z i j)
      = (ix3 (⟨t.val * 2 + z.val, by omega⟩ : Fin 128) i j : Cert.Kernel3Ideal.S128x512x256.Idx) := by
    blk_ext [e13]
  rw [ey, p114, h0, h1, h2, h3]
  canon_tiles x u
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = 1 + z'.val := u0
    have g1 : i.val = 448 + d.val := u1
    have g2 : j.val = j'.val := u2
    have hz' : z'.val < 1 := z'.isLt
    have hd : d.val < 64 := d.isLt
    refine (pay_13_0 ..).trans (qk_eq _ _ _ _ _ _ (fun x => ?_) ?_ (Fin.ext (by show d.val = i.val % 64 <;> omega)))
    · exact kt_eq m c t _ _ _ _ _ (by show (t.val * 2 + z.val) / 16 = (t.val * 512 + (256 + j'.val)) / 4096 <;> omega) (by show (t.val * 2 + z.val) % 16 * 256 + j.val = (t.val * 512 + (256 + j'.val)) % 4096 <;> omega) (fun k => (congrArg (fun e : Fin 1872 => V m c main_v18 (ix2 e k)) (Fin.ext (by show 448 + x.val = i.val / 64 * 64 + x.val <;> omega))).trans (wt_qa m c k ⟨i.val / 64 * 64 + x.val, by omega⟩))
    · refine (blk_gt m c t _).trans ((congrArg (fun e : Fin 1024 => V m c main_v34 (ix2 e 0)) (Fin.ext (by show 448 + d.val = (448 + d.val) <;> omega))).trans ((gt_a m c ⟨448 + d.val, by omega⟩).trans ?_))
      exact congrArg (fun e : Fin 64 => (m ((c.tc : Thread nD τ).loc main_arg3) : FVec Ideal S64 .f32) (ix1 e)) (Fin.ext (by show (448 + d.val) % 64 = i.val % 64 <;> omega))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = z'.val := u0
    have g1 : i.val = 448 + d.val := u1
    have g2 : j.val = j'.val := u2
    have hz' : z'.val < 1 := z'.isLt
    have hd : d.val < 64 := d.isLt
    refine (pay_13_1 ..).trans (qk_eq _ _ _ _ _ _ (fun x => ?_) ?_ (Fin.ext (by show d.val = i.val % 64 <;> omega)))
    · exact kt_eq m c t _ _ _ _ _ (by show (t.val * 2 + z.val) / 16 = (t.val * 512 + j'.val) / 4096 <;> omega) (by show (t.val * 2 + z.val) % 16 * 256 + j.val = (t.val * 512 + j'.val) % 4096 <;> omega) (fun k => (congrArg (fun e : Fin 1872 => V m c main_v18 (ix2 e k)) (Fin.ext (by show 448 + x.val = i.val / 64 * 64 + x.val <;> omega))).trans (wt_qa m c k ⟨i.val / 64 * 64 + x.val, by omega⟩))
    · refine (blk_gt m c t _).trans ((congrArg (fun e : Fin 1024 => V m c main_v34 (ix2 e 0)) (Fin.ext (by show 448 + d.val = (448 + d.val) <;> omega))).trans ((gt_a m c ⟨448 + d.val, by omega⟩).trans ?_))
      exact congrArg (fun e : Fin 64 => (m ((c.tc : Thread nD τ).loc main_arg3) : FVec Ideal S64 .f32) (ix1 e)) (Fin.ext (by show (448 + d.val) % 64 = i.val % 64 <;> omega))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = 1 + z'.val := u0
    have g1 : i.val = 384 + d.val := u1
    have g2 : j.val = j'.val := u2
    have hz' : z'.val < 1 := z'.isLt
    have hd : d.val < 64 := d.isLt
    refine (pay_13_2 ..).trans (qk_eq _ _ _ _ _ _ (fun x => ?_) ?_ (Fin.ext (by show d.val = i.val % 64 <;> omega)))
    · exact kt_eq m c t _ _ _ _ _ (by show (t.val * 2 + z.val) / 16 = (t.val * 512 + (256 + j'.val)) / 4096 <;> omega) (by show (t.val * 2 + z.val) % 16 * 256 + j.val = (t.val * 512 + (256 + j'.val)) % 4096 <;> omega) (fun k => (congrArg (fun e : Fin 1872 => V m c main_v18 (ix2 e k)) (Fin.ext (by show 384 + x.val = i.val / 64 * 64 + x.val <;> omega))).trans (wt_qa m c k ⟨i.val / 64 * 64 + x.val, by omega⟩))
    · refine (blk_gt m c t _).trans ((congrArg (fun e : Fin 1024 => V m c main_v34 (ix2 e 0)) (Fin.ext (by show 384 + d.val = (384 + d.val) <;> omega))).trans ((gt_a m c ⟨384 + d.val, by omega⟩).trans ?_))
      exact congrArg (fun e : Fin 64 => (m ((c.tc : Thread nD τ).loc main_arg3) : FVec Ideal S64 .f32) (ix1 e)) (Fin.ext (by show (384 + d.val) % 64 = i.val % 64 <;> omega))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = z'.val := u0
    have g1 : i.val = 384 + d.val := u1
    have g2 : j.val = j'.val := u2
    have hz' : z'.val < 1 := z'.isLt
    have hd : d.val < 64 := d.isLt
    refine (pay_13_3 ..).trans (qk_eq _ _ _ _ _ _ (fun x => ?_) ?_ (Fin.ext (by show d.val = i.val % 64 <;> omega)))
    · exact kt_eq m c t _ _ _ _ _ (by show (t.val * 2 + z.val) / 16 = (t.val * 512 + j'.val) / 4096 <;> omega) (by show (t.val * 2 + z.val) % 16 * 256 + j.val = (t.val * 512 + j'.val) % 4096 <;> omega) (fun k => (congrArg (fun e : Fin 1872 => V m c main_v18 (ix2 e k)) (Fin.ext (by show 384 + x.val = i.val / 64 * 64 + x.val <;> omega))).trans (wt_qa m c k ⟨i.val / 64 * 64 + x.val, by omega⟩))
    · refine (blk_gt m c t _).trans ((congrArg (fun e : Fin 1024 => V m c main_v34 (ix2 e 0)) (Fin.ext (by show 384 + d.val = (384 + d.val) <;> omega))).trans ((gt_a m c ⟨384 + d.val, by omega⟩).trans ?_))
      exact congrArg (fun e : Fin 64 => (m ((c.tc : Thread nD τ).loc main_arg3) : FVec Ideal S64 .f32) (ix1 e)) (Fin.ext (by show (384 + d.val) % 64 = i.val % 64 <;> omega))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = 1 + z'.val := u0
    have g1 : i.val = 320 + d.val := u1
    have g2 : j.val = j'.val := u2
    have hz' : z'.val < 1 := z'.isLt
    have hd : d.val < 64 := d.isLt
    refine (pay_13_4 ..).trans (qk_eq _ _ _ _ _ _ (fun x => ?_) ?_ (Fin.ext (by show d.val = i.val % 64 <;> omega)))
    · exact kt_eq m c t _ _ _ _ _ (by show (t.val * 2 + z.val) / 16 = (t.val * 512 + (256 + j'.val)) / 4096 <;> omega) (by show (t.val * 2 + z.val) % 16 * 256 + j.val = (t.val * 512 + (256 + j'.val)) % 4096 <;> omega) (fun k => (congrArg (fun e : Fin 1872 => V m c main_v18 (ix2 e k)) (Fin.ext (by show 320 + x.val = i.val / 64 * 64 + x.val <;> omega))).trans (wt_qa m c k ⟨i.val / 64 * 64 + x.val, by omega⟩))
    · refine (blk_gt m c t _).trans ((congrArg (fun e : Fin 1024 => V m c main_v34 (ix2 e 0)) (Fin.ext (by show 320 + d.val = (320 + d.val) <;> omega))).trans ((gt_a m c ⟨320 + d.val, by omega⟩).trans ?_))
      exact congrArg (fun e : Fin 64 => (m ((c.tc : Thread nD τ).loc main_arg3) : FVec Ideal S64 .f32) (ix1 e)) (Fin.ext (by show (320 + d.val) % 64 = i.val % 64 <;> omega))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = z'.val := u0
    have g1 : i.val = 320 + d.val := u1
    have g2 : j.val = j'.val := u2
    have hz' : z'.val < 1 := z'.isLt
    have hd : d.val < 64 := d.isLt
    refine (pay_13_5 ..).trans (qk_eq _ _ _ _ _ _ (fun x => ?_) ?_ (Fin.ext (by show d.val = i.val % 64 <;> omega)))
    · exact kt_eq m c t _ _ _ _ _ (by show (t.val * 2 + z.val) / 16 = (t.val * 512 + j'.val) / 4096 <;> omega) (by show (t.val * 2 + z.val) % 16 * 256 + j.val = (t.val * 512 + j'.val) % 4096 <;> omega) (fun k => (congrArg (fun e : Fin 1872 => V m c main_v18 (ix2 e k)) (Fin.ext (by show 320 + x.val = i.val / 64 * 64 + x.val <;> omega))).trans (wt_qa m c k ⟨i.val / 64 * 64 + x.val, by omega⟩))
    · refine (blk_gt m c t _).trans ((congrArg (fun e : Fin 1024 => V m c main_v34 (ix2 e 0)) (Fin.ext (by show 320 + d.val = (320 + d.val) <;> omega))).trans ((gt_a m c ⟨320 + d.val, by omega⟩).trans ?_))
      exact congrArg (fun e : Fin 64 => (m ((c.tc : Thread nD τ).loc main_arg3) : FVec Ideal S64 .f32) (ix1 e)) (Fin.ext (by show (320 + d.val) % 64 = i.val % 64 <;> omega))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = 1 + z'.val := u0
    have g1 : i.val = 256 + d.val := u1
    have g2 : j.val = j'.val := u2
    have hz' : z'.val < 1 := z'.isLt
    have hd : d.val < 64 := d.isLt
    refine (pay_13_6 ..).trans (qk_eq _ _ _ _ _ _ (fun x => ?_) ?_ (Fin.ext (by show d.val = i.val % 64 <;> omega)))
    · exact kt_eq m c t _ _ _ _ _ (by show (t.val * 2 + z.val) / 16 = (t.val * 512 + (256 + j'.val)) / 4096 <;> omega) (by show (t.val * 2 + z.val) % 16 * 256 + j.val = (t.val * 512 + (256 + j'.val)) % 4096 <;> omega) (fun k => (congrArg (fun e : Fin 1872 => V m c main_v18 (ix2 e k)) (Fin.ext (by show 256 + x.val = i.val / 64 * 64 + x.val <;> omega))).trans (wt_qa m c k ⟨i.val / 64 * 64 + x.val, by omega⟩))
    · refine (blk_gt m c t _).trans ((congrArg (fun e : Fin 1024 => V m c main_v34 (ix2 e 0)) (Fin.ext (by show 256 + d.val = (256 + d.val) <;> omega))).trans ((gt_a m c ⟨256 + d.val, by omega⟩).trans ?_))
      exact congrArg (fun e : Fin 64 => (m ((c.tc : Thread nD τ).loc main_arg3) : FVec Ideal S64 .f32) (ix1 e)) (Fin.ext (by show (256 + d.val) % 64 = i.val % 64 <;> omega))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = z'.val := u0
    have g1 : i.val = 256 + d.val := u1
    have g2 : j.val = j'.val := u2
    have hz' : z'.val < 1 := z'.isLt
    have hd : d.val < 64 := d.isLt
    refine (pay_13_7 ..).trans (qk_eq _ _ _ _ _ _ (fun x => ?_) ?_ (Fin.ext (by show d.val = i.val % 64 <;> omega)))
    · exact kt_eq m c t _ _ _ _ _ (by show (t.val * 2 + z.val) / 16 = (t.val * 512 + j'.val) / 4096 <;> omega) (by show (t.val * 2 + z.val) % 16 * 256 + j.val = (t.val * 512 + j'.val) % 4096 <;> omega) (fun k => (congrArg (fun e : Fin 1872 => V m c main_v18 (ix2 e k)) (Fin.ext (by show 256 + x.val = i.val / 64 * 64 + x.val <;> omega))).trans (wt_qa m c k ⟨i.val / 64 * 64 + x.val, by omega⟩))
    · refine (blk_gt m c t _).trans ((congrArg (fun e : Fin 1024 => V m c main_v34 (ix2 e 0)) (Fin.ext (by show 256 + d.val = (256 + d.val) <;> omega))).trans ((gt_a m c ⟨256 + d.val, by omega⟩).trans ?_))
      exact congrArg (fun e : Fin 64 => (m ((c.tc : Thread nD τ).loc main_arg3) : FVec Ideal S64 .f32) (ix1 e)) (Fin.ext (by show (256 + d.val) % 64 = i.val % 64 <;> omega))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = 1 + z'.val := u0
    have g1 : i.val = 192 + d.val := u1
    have g2 : j.val = j'.val := u2
    have hz' : z'.val < 1 := z'.isLt
    have hd : d.val < 64 := d.isLt
    refine (pay_13_8 ..).trans (qk_eq _ _ _ _ _ _ (fun x => ?_) ?_ (Fin.ext (by show d.val = i.val % 64 <;> omega)))
    · exact kt_eq m c t _ _ _ _ _ (by show (t.val * 2 + z.val) / 16 = (t.val * 512 + (256 + j'.val)) / 4096 <;> omega) (by show (t.val * 2 + z.val) % 16 * 256 + j.val = (t.val * 512 + (256 + j'.val)) % 4096 <;> omega) (fun k => (congrArg (fun e : Fin 1872 => V m c main_v18 (ix2 e k)) (Fin.ext (by show 192 + x.val = i.val / 64 * 64 + x.val <;> omega))).trans (wt_qa m c k ⟨i.val / 64 * 64 + x.val, by omega⟩))
    · refine (blk_gt m c t _).trans ((congrArg (fun e : Fin 1024 => V m c main_v34 (ix2 e 0)) (Fin.ext (by show 192 + d.val = (192 + d.val) <;> omega))).trans ((gt_a m c ⟨192 + d.val, by omega⟩).trans ?_))
      exact congrArg (fun e : Fin 64 => (m ((c.tc : Thread nD τ).loc main_arg3) : FVec Ideal S64 .f32) (ix1 e)) (Fin.ext (by show (192 + d.val) % 64 = i.val % 64 <;> omega))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = z'.val := u0
    have g1 : i.val = 192 + d.val := u1
    have g2 : j.val = j'.val := u2
    have hz' : z'.val < 1 := z'.isLt
    have hd : d.val < 64 := d.isLt
    refine (pay_13_9 ..).trans (qk_eq _ _ _ _ _ _ (fun x => ?_) ?_ (Fin.ext (by show d.val = i.val % 64 <;> omega)))
    · exact kt_eq m c t _ _ _ _ _ (by show (t.val * 2 + z.val) / 16 = (t.val * 512 + j'.val) / 4096 <;> omega) (by show (t.val * 2 + z.val) % 16 * 256 + j.val = (t.val * 512 + j'.val) % 4096 <;> omega) (fun k => (congrArg (fun e : Fin 1872 => V m c main_v18 (ix2 e k)) (Fin.ext (by show 192 + x.val = i.val / 64 * 64 + x.val <;> omega))).trans (wt_qa m c k ⟨i.val / 64 * 64 + x.val, by omega⟩))
    · refine (blk_gt m c t _).trans ((congrArg (fun e : Fin 1024 => V m c main_v34 (ix2 e 0)) (Fin.ext (by show 192 + d.val = (192 + d.val) <;> omega))).trans ((gt_a m c ⟨192 + d.val, by omega⟩).trans ?_))
      exact congrArg (fun e : Fin 64 => (m ((c.tc : Thread nD τ).loc main_arg3) : FVec Ideal S64 .f32) (ix1 e)) (Fin.ext (by show (192 + d.val) % 64 = i.val % 64 <;> omega))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = 1 + z'.val := u0
    have g1 : i.val = 128 + d.val := u1
    have g2 : j.val = j'.val := u2
    have hz' : z'.val < 1 := z'.isLt
    have hd : d.val < 64 := d.isLt
    refine (pay_13_10 ..).trans (qk_eq _ _ _ _ _ _ (fun x => ?_) ?_ (Fin.ext (by show d.val = i.val % 64 <;> omega)))
    · exact kt_eq m c t _ _ _ _ _ (by show (t.val * 2 + z.val) / 16 = (t.val * 512 + (256 + j'.val)) / 4096 <;> omega) (by show (t.val * 2 + z.val) % 16 * 256 + j.val = (t.val * 512 + (256 + j'.val)) % 4096 <;> omega) (fun k => (congrArg (fun e : Fin 1872 => V m c main_v18 (ix2 e k)) (Fin.ext (by show 128 + x.val = i.val / 64 * 64 + x.val <;> omega))).trans (wt_qa m c k ⟨i.val / 64 * 64 + x.val, by omega⟩))
    · refine (blk_gt m c t _).trans ((congrArg (fun e : Fin 1024 => V m c main_v34 (ix2 e 0)) (Fin.ext (by show 128 + d.val = (128 + d.val) <;> omega))).trans ((gt_a m c ⟨128 + d.val, by omega⟩).trans ?_))
      exact congrArg (fun e : Fin 64 => (m ((c.tc : Thread nD τ).loc main_arg3) : FVec Ideal S64 .f32) (ix1 e)) (Fin.ext (by show (128 + d.val) % 64 = i.val % 64 <;> omega))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = z'.val := u0
    have g1 : i.val = 128 + d.val := u1
    have g2 : j.val = j'.val := u2
    have hz' : z'.val < 1 := z'.isLt
    have hd : d.val < 64 := d.isLt
    refine (pay_13_11 ..).trans (qk_eq _ _ _ _ _ _ (fun x => ?_) ?_ (Fin.ext (by show d.val = i.val % 64 <;> omega)))
    · exact kt_eq m c t _ _ _ _ _ (by show (t.val * 2 + z.val) / 16 = (t.val * 512 + j'.val) / 4096 <;> omega) (by show (t.val * 2 + z.val) % 16 * 256 + j.val = (t.val * 512 + j'.val) % 4096 <;> omega) (fun k => (congrArg (fun e : Fin 1872 => V m c main_v18 (ix2 e k)) (Fin.ext (by show 128 + x.val = i.val / 64 * 64 + x.val <;> omega))).trans (wt_qa m c k ⟨i.val / 64 * 64 + x.val, by omega⟩))
    · refine (blk_gt m c t _).trans ((congrArg (fun e : Fin 1024 => V m c main_v34 (ix2 e 0)) (Fin.ext (by show 128 + d.val = (128 + d.val) <;> omega))).trans ((gt_a m c ⟨128 + d.val, by omega⟩).trans ?_))
      exact congrArg (fun e : Fin 64 => (m ((c.tc : Thread nD τ).loc main_arg3) : FVec Ideal S64 .f32) (ix1 e)) (Fin.ext (by show (128 + d.val) % 64 = i.val % 64 <;> omega))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = 1 + z'.val := u0
    have g1 : i.val = 64 + d.val := u1
    have g2 : j.val = j'.val := u2
    have hz' : z'.val < 1 := z'.isLt
    have hd : d.val < 64 := d.isLt
    refine (pay_13_12 ..).trans (qk_eq _ _ _ _ _ _ (fun x => ?_) ?_ (Fin.ext (by show d.val = i.val % 64 <;> omega)))
    · exact kt_eq m c t _ _ _ _ _ (by show (t.val * 2 + z.val) / 16 = (t.val * 512 + (256 + j'.val)) / 4096 <;> omega) (by show (t.val * 2 + z.val) % 16 * 256 + j.val = (t.val * 512 + (256 + j'.val)) % 4096 <;> omega) (fun k => (congrArg (fun e : Fin 1872 => V m c main_v18 (ix2 e k)) (Fin.ext (by show 64 + x.val = i.val / 64 * 64 + x.val <;> omega))).trans (wt_qa m c k ⟨i.val / 64 * 64 + x.val, by omega⟩))
    · refine (blk_gt m c t _).trans ((congrArg (fun e : Fin 1024 => V m c main_v34 (ix2 e 0)) (Fin.ext (by show 64 + d.val = (64 + d.val) <;> omega))).trans ((gt_a m c ⟨64 + d.val, by omega⟩).trans ?_))
      exact congrArg (fun e : Fin 64 => (m ((c.tc : Thread nD τ).loc main_arg3) : FVec Ideal S64 .f32) (ix1 e)) (Fin.ext (by show (64 + d.val) % 64 = i.val % 64 <;> omega))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = z'.val := u0
    have g1 : i.val = 64 + d.val := u1
    have g2 : j.val = j'.val := u2
    have hz' : z'.val < 1 := z'.isLt
    have hd : d.val < 64 := d.isLt
    refine (pay_13_13 ..).trans (qk_eq _ _ _ _ _ _ (fun x => ?_) ?_ (Fin.ext (by show d.val = i.val % 64 <;> omega)))
    · exact kt_eq m c t _ _ _ _ _ (by show (t.val * 2 + z.val) / 16 = (t.val * 512 + j'.val) / 4096 <;> omega) (by show (t.val * 2 + z.val) % 16 * 256 + j.val = (t.val * 512 + j'.val) % 4096 <;> omega) (fun k => (congrArg (fun e : Fin 1872 => V m c main_v18 (ix2 e k)) (Fin.ext (by show 64 + x.val = i.val / 64 * 64 + x.val <;> omega))).trans (wt_qa m c k ⟨i.val / 64 * 64 + x.val, by omega⟩))
    · refine (blk_gt m c t _).trans ((congrArg (fun e : Fin 1024 => V m c main_v34 (ix2 e 0)) (Fin.ext (by show 64 + d.val = (64 + d.val) <;> omega))).trans ((gt_a m c ⟨64 + d.val, by omega⟩).trans ?_))
      exact congrArg (fun e : Fin 64 => (m ((c.tc : Thread nD τ).loc main_arg3) : FVec Ideal S64 .f32) (ix1 e)) (Fin.ext (by show (64 + d.val) % 64 = i.val % 64 <;> omega))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = 1 + z'.val := u0
    have g1 : i.val = d.val := u1
    have g2 : j.val = j'.val := u2
    have hz' : z'.val < 1 := z'.isLt
    have hd : d.val < 64 := d.isLt
    refine (pay_13_14 ..).trans (qk_eq _ _ _ _ _ _ (fun x => ?_) ?_ (Fin.ext (by show d.val = i.val % 64 <;> omega)))
    · exact kt_eq m c t _ _ _ _ _ (by show (t.val * 2 + z.val) / 16 = (t.val * 512 + (256 + j'.val)) / 4096 <;> omega) (by show (t.val * 2 + z.val) % 16 * 256 + j.val = (t.val * 512 + (256 + j'.val)) % 4096 <;> omega) (fun k => (congrArg (fun e : Fin 1872 => V m c main_v18 (ix2 e k)) (Fin.ext (by show x.val = i.val / 64 * 64 + x.val <;> omega))).trans (wt_qa m c k ⟨i.val / 64 * 64 + x.val, by omega⟩))
    · refine (blk_gt m c t _).trans ((congrArg (fun e : Fin 1024 => V m c main_v34 (ix2 e 0)) (Fin.ext (by show d.val = d.val <;> omega))).trans ((gt_a m c ⟨d.val, by omega⟩).trans ?_))
      exact congrArg (fun e : Fin 64 => (m ((c.tc : Thread nD τ).loc main_arg3) : FVec Ideal S64 .f32) (ix1 e)) (Fin.ext (by show (d.val) % 64 = i.val % 64 <;> omega))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = z'.val := u0
    have g1 : i.val = d.val := u1
    have g2 : j.val = j'.val := u2
    have hz' : z'.val < 1 := z'.isLt
    have hd : d.val < 64 := d.isLt
    refine (pay_13_15 ..).trans (qk_eq _ _ _ _ _ _ (fun x => ?_) ?_ (Fin.ext (by show d.val = i.val % 64 <;> omega)))
    · exact kt_eq m c t _ _ _ _ _ (by show (t.val * 2 + z.val) / 16 = (t.val * 512 + j'.val) / 4096 <;> omega) (by show (t.val * 2 + z.val) % 16 * 256 + j.val = (t.val * 512 + j'.val) % 4096 <;> omega) (fun k => (congrArg (fun e : Fin 1872 => V m c main_v18 (ix2 e k)) (Fin.ext (by show x.val = i.val / 64 * 64 + x.val <;> omega))).trans (wt_qa m c k ⟨i.val / 64 * 64 + x.val, by omega⟩))
    · refine (blk_gt m c t _).trans ((congrArg (fun e : Fin 1024 => V m c main_v34 (ix2 e 0)) (Fin.ext (by show d.val = d.val <;> omega))).trans ((gt_a m c ⟨d.val, by omega⟩).trans ?_))
      exact congrArg (fun e : Fin 64 => (m ((c.tc : Thread nD τ).loc main_arg3) : FVec Ideal S64 .f32) (ix1 e)) (Fin.ext (by show (d.val) % 64 = i.val % 64 <;> omega))

end Cert.Proof.InProj

end
-- ==== Proof.InQb.lean ====
/- The second branch's queries in tiles. -/
module

public import proofs.«01_k».proof.Defs
public import proofs.«01_k».proof.Proof.Gen.Kernel3Ideal.Value
public import Idealize.ShloMosaic.Lib.Pipeline.ValueKit
public import Idealize.ShloMosaic.Lib.Tactic.CleanTypes
public import Idealize.ShloMosaic.Lib.StableHlo.ReadAt
public import proofs.«01_k».proof.Proof.InBase
public import proofs.«01_k».proof.Proof.InRef
public import proofs.«01_k».proof.Proof.InQa

@[expose] public section

set_option maxRecDepth 16384

noncomputable section

namespace Cert.Proof.InProj

open Idealize.ShloMosaic Idealize.ShloMosaic.TcCoe Idealize.SL.Sem
open Cert.Kernel3Ideal Cert.Kernel3Ideal.Gen

variable (m : (ℓ : Loc nD τ sig) → Buf (Elt Ideal) ℓ)

/-- The body's stored value of output 14, piece 0. -/
theorem pay_14_0 (v0 : Vec Ideal S512x1024 .f32) (v12 : Vec Ideal S1x1024 .f32) (w : Vec Ideal S1872x1024 .bf16) (gt : Vec Ideal S1024x1 .f32) (z : Fin 1) (d : Fin 64) (j : Fin 256) :
    k0_pay135 (k0_pay131 (k0_pay35 (k0_pay7 (v0) (v12)) (View.ld (w) (Rect.unit ![512, 0] ![512, 1024] inb_S1872x1024_S512x1024_512_0)))) (k0_pay132 (k0_pay35 (k0_pay7 (v0) (v12)) (View.ld (w) (Rect.unit ![512, 0] ![512, 1024] inb_S1872x1024_S512x1024_512_0)))) (View.ld (gt) (Rect.unit ![960, 0] ![64, 1] inb_S1024x1_S64x1_960_0)) (ix3 z d j)
      = qk (fun x => kt v0 v12 w ⟨256 + j.val, by omega⟩ ⟨512 + (448 + x.val), by omega⟩) (gt (ix2 ⟨960 + d.val, by omega⟩ 0)) d := by
  pointwise [k0_pay135, k0_pay131, k0_pay35, k0_pay7, k0_pay132, k0_pay133, kt, qk]

/-- The body's stored value of output 14, piece 1. -/
theorem pay_14_1 (v0 : Vec Ideal S512x1024 .f32) (v12 : Vec Ideal S1x1024 .f32) (w : Vec Ideal S1872x1024 .bf16) (gt : Vec Ideal S1024x1 .f32) (z : Fin 1) (d : Fin 64) (j : Fin 256) :
    k0_pay134 (k0_pay131 (k0_pay35 (k0_pay7 (v0) (v12)) (View.ld (w) (Rect.unit ![512, 0] ![512, 1024] inb_S1872x1024_S512x1024_512_0)))) (k0_pay132 (k0_pay35 (k0_pay7 (v0) (v12)) (View.ld (w) (Rect.unit ![512, 0] ![512, 1024] inb_S1872x1024_S512x1024_512_0)))) (View.ld (gt) (Rect.unit ![960, 0] ![64, 1] inb_S1024x1_S64x1_960_0)) (ix3 z d j)
      = qk (fun x => kt v0 v12 w ⟨j.val, by omega⟩ ⟨512 + (448 + x.val), by omega⟩) (gt (ix2 ⟨960 + d.val, by omega⟩ 0)) d := by
  pointwise [k0_pay134, k0_pay131, k0_pay35, k0_pay7, k0_pay132, k0_pay133, kt, qk]

/-- The body's stored value of output 14, piece 2. -/
theorem pay_14_2 (v0 : Vec Ideal S512x1024 .f32) (v12 : Vec Ideal S1x1024 .f32) (w : Vec Ideal S1872x1024 .bf16) (gt : Vec Ideal S1024x1 .f32) (z : Fin 1) (d : Fin 64) (j : Fin 256) :
    k0_pay122 (k0_pay118 (k0_pay35 (k0_pay7 (v0) (v12)) (View.ld (w) (Rect.unit ![512, 0] ![512, 1024] inb_S1872x1024_S512x1024_512_0)))) (k0_pay119 (k0_pay35 (k0_pay7 (v0) (v12)) (View.ld (w) (Rect.unit ![512, 0] ![512, 1024] inb_S1872x1024_S512x1024_512_0)))) (View.ld (gt) (Rect.unit ![896, 0] ![64, 1] inb_S1024x1_S64x1_896_0)) (ix3 z d j)
      = qk (fun x => kt v0 v12 w ⟨256 + j.val, by omega⟩ ⟨512 + (384 + x.val), by omega⟩) (gt (ix2 ⟨896 + d.val, by omega⟩ 0)) d := by
  pointwise [k0_pay122, k0_pay118, k0_pay35, k0_pay7, k0_pay119, k0_pay120, kt, qk]

/-- The body's stored value of output 14, piece 3. -/
theorem pay_14_3 (v0 : Vec Ideal S512x1024 .f32) (v12 : Vec Ideal S1x1024 .f32) (w : Vec Ideal S1872x1024 .bf16) (gt : Vec Ideal S1024x1 .f32) (z : Fin 1) (d : Fin 64) (j : Fin 256) :
    k0_pay121 (k0_pay118 (k0_pay35 (k0_pay7 (v0) (v12)) (View.ld (w) (Rect.unit ![512, 0] ![512, 1024] inb_S1872x1024_S512x1024_512_0)))) (k0_pay119 (k0_pay35 (k0_pay7 (v0) (v12)) (View.ld (w) (Rect.unit ![512, 0] ![512, 1024] inb_S1872x1024_S512x1024_512_0)))) (View.ld (gt) (Rect.unit ![896, 0] ![64, 1] inb_S1024x1_S64x1_896_0)) (ix3 z d j)
      = qk (fun x => kt v0 v12 w ⟨j.val, by omega⟩ ⟨512 + (384 + x.val), by omega⟩) (gt (ix2 ⟨896 + d.val, by omega⟩ 0)) d := by
  pointwise [k0_pay121, k0_pay118, k0_pay35, k0_pay7, k0_pay119, k0_pay120, kt, qk]

/-- The body's stored value of output 14, piece 4. -/
theorem pay_14_4 (v0 : Vec Ideal S512x1024 .f32) (v12 : Vec Ideal S1x1024 .f32) (w : Vec Ideal S1872x1024 .bf16) (gt : Vec Ideal S1024x1 .f32) (z : Fin 1) (d : Fin 64) (j : Fin 256) :
    k0_pay108 (k0_pay35 (k0_pay7 (v0) (v12)) (View.ld (w) (Rect.unit ![512, 0] ![512, 1024] inb_S1872x1024_S512x1024_512_0))) (View.ld (gt) (Rect.unit ![832, 0] ![64, 1] inb_S1024x1_S64x1_832_0)) (ix3 z d j)
      = qk (fun x => kt v0 v12 w ⟨256 + j.val, by omega⟩ ⟨512 + (320 + x.val), by omega⟩) (gt (ix2 ⟨832 + d.val, by omega⟩ 0)) d := by
  pointwise [k0_pay108, k0_pay35, k0_pay7, k0_pay106, kt, qk]

/-- The body's stored value of output 14, piece 5. -/
theorem pay_14_5 (v0 : Vec Ideal S512x1024 .f32) (v12 : Vec Ideal S1x1024 .f32) (w : Vec Ideal S1872x1024 .bf16) (gt : Vec Ideal S1024x1 .f32) (z : Fin 1) (d : Fin 64) (j : Fin 256) :
    k0_pay107 (k0_pay35 (k0_pay7 (v0) (v12)) (View.ld (w) (Rect.unit ![512, 0] ![512, 1024] inb_S1872x1024_S512x1024_512_0))) (View.ld (gt) (Rect.unit ![832, 0] ![64, 1] inb_S1024x1_S64x1_832_0)) (ix3 z d j)
      = qk (fun x => kt v0 v12 w ⟨j.val, by omega⟩ ⟨512 + (320 + x.val), by omega⟩) (gt (ix2 ⟨832 + d.val, by omega⟩ 0)) d := by
  pointwise [k0_pay107, k0_pay35, k0_pay7, k0_pay106, kt, qk]

/-- The body's stored value of output 14, piece 6. -/
theorem pay_14_6 (v0 : Vec Ideal S512x1024 .f32) (v12 : Vec Ideal S1x1024 .f32) (w : Vec Ideal S1872x1024 .bf16) (gt : Vec Ideal S1024x1 .f32) (z : Fin 1) (d : Fin 64) (j : Fin 256) :
    k0_pay96 (k0_pay35 (k0_pay7 (v0) (v12)) (View.ld (w) (Rect.unit ![512, 0] ![512, 1024] inb_S1872x1024_S512x1024_512_0))) (View.ld (gt) (Rect.unit ![768, 0] ![64, 1] inb_S1024x1_S64x1_768_0)) (ix3 z d j)
      = qk (fun x => kt v0 v12 w ⟨256 + j.val, by omega⟩ ⟨512 + (256 + x.val), by omega⟩) (gt (ix2 ⟨768 + d.val, by omega⟩ 0)) d := by
  pointwise [k0_pay96, k0_pay35, k0_pay7, k0_pay94, kt, qk]

/-- The body's stored value of output 14, piece 7. -/
theorem pay_14_7 (v0 : Vec Ideal S512x1024 .f32) (v12 : Vec Ideal S1x1024 .f32) (w : Vec Ideal S1872x1024 .bf16) (gt : Vec Ideal S1024x1 .f32) (z : Fin 1) (d : Fin 64) (j : Fin 256) :
    k0_pay95 (k0_pay35 (k0_pay7 (v0) (v12)) (View.ld (w) (Rect.unit ![512, 0] ![512, 1024] inb_S1872x1024_S512x1024_512_0))) (View.ld (gt) (Rect.unit ![768, 0] ![64, 1] inb_S1024x1_S64x1_768_0)) (ix3 z d j)
      = qk (fun x => kt v0 v12 w ⟨j.val, by omega⟩ ⟨512 + (256 + x.val), by omega⟩) (gt (ix2 ⟨768 + d.val, by omega⟩ 0)) d := by
  pointwise [k0_pay95, k0_pay35, k0_pay7, k0_pay94, kt, qk]

/-- The body's stored value of output 14, piece 8. -/
theorem pay_14_8 (v0 : Vec Ideal S512x1024 .f32) (v12 : Vec Ideal S1x1024 .f32) (w : Vec Ideal S1872x1024 .bf16) (gt : Vec Ideal S1024x1 .f32) (z : Fin 1) (d : Fin 64) (j : Fin 256) :
    k0_pay83 (k0_pay35 (k0_pay7 (v0) (v12)) (View.ld (w) (Rect.unit ![512, 0] ![512, 1024] inb_S1872x1024_S512x1024_512_0))) (View.ld (gt) (Rect.unit ![704, 0] ![64, 1] inb_S1024x1_S64x1_704_0)) (ix3 z d j)
      = qk (fun x => kt v0 v12 w ⟨256 + j.val, by omega⟩ ⟨512 + (192 + x.val), by omega⟩) (gt (ix2 ⟨704 + d.val, by omega⟩ 0)) d := by
  pointwise [k0_pay83, k0_pay35, k0_pay7, k0_pay81, kt, qk]

/-- The body's stored value of output 14, piece 9. -/
theorem pay_14_9 (v0 : Vec Ideal S512x1024 .f32) (v12 : Vec Ideal S1x1024 .f32) (w : Vec Ideal S1872x1024 .bf16) (gt : Vec Ideal S1024x1 .f32) (z : Fin 1) (d : Fin 64) (j : Fin 256) :
    k0_pay82 (k0_pay35 (k0_pay7 (v0) (v12)) (View.ld (w) (Rect.unit ![512, 0] ![512, 1024] inb_S1872x1024_S512x1024_512_0))) (View.ld (gt) (Rect.unit ![704, 0] ![64, 1] inb_S1024x1_S64x1_704_0)) (ix3 z d j)
      = qk (fun x => kt v0 v12 w ⟨j.val, by omega⟩ ⟨512 + (192 + x.val), by omega⟩) (gt (ix2 ⟨704 + d.val, by omega⟩ 0)) d := by
  pointwise [k0_pay82, k0_pay35, k0_pay7, k0_pay81, kt, qk]

/-- The body's stored value of output 14, piece 10. -/
theorem pay_14_10 (v0 : Vec Ideal S512x1024 .f32) (v12 : Vec Ideal S1x1024 .f32) (w : Vec Ideal S1872x1024 .bf16) (gt : Vec Ideal S1024x1 .f32) (z : Fin 1) (d : Fin 64) (j : Fin 256) :
    k0_pay70 (k0_pay35 (k0_pay7 (v0) (v12)) (View.ld (w) (Rect.unit ![512, 0] ![512, 1024] inb_S1872x1024_S512x1024_512_0))) (View.ld (gt) (Rect.unit ![640, 0] ![64, 1] inb_S1024x1_S64x1_640_0)) (ix3 z d j)
      = qk (fun x => kt v0 v12 w ⟨256 + j.val, by omega⟩ ⟨512 + (128 + x.val), by omega⟩) (gt (ix2 ⟨640 + d.val, by omega⟩ 0)) d := by
  pointwise [k0_pay70, k0_pay35, k0_pay7, k0_pay68, kt, qk]

/-- The body's stored value of output 14, piece 11. -/
theorem pay_14_11 (v0 : Vec Ideal S512x1024 .f32) (v12 : Vec Ideal S1x1024 .f32) (w : Vec Ideal S1872x1024 .bf16) (gt : Vec Ideal S1024x1 .f32) (z : Fin 1) (d : Fin 64) (j : Fin 256) :
    k0_pay69 (k0_pay35 (k0_pay7 (v0) (v12)) (View.ld (w) (Rect.unit ![512, 0] ![512, 1024] inb_S1872x1024_S512x1024_512_0))) (View.ld (gt) (Rect.unit ![640, 0] ![64, 1] inb_S1024x1_S64x1_640_0)) (ix3 z d j)
      = qk (fun x => kt v0 v12 w ⟨j.val, by omega⟩ ⟨512 + (128 + x.val), by omega⟩) (gt (ix2 ⟨640 + d.val, by omega⟩ 0)) d := by
  pointwise [k0_pay69, k0_pay35, k0_pay7, k0_pay68, kt, qk]

/-- The body's stored value of output 14, piece 12. -/
theorem pay_14_12 (v0 : Vec Ideal S512x1024 .f32) (v12 : Vec Ideal S1x1024 .f32) (w : Vec Ideal S1872x1024 .bf16) (gt : Vec Ideal S1024x1 .f32) (z : Fin 1) (d : Fin 64) (j : Fin 256) :
    k0_pay58 (k0_pay57 (k0_pay35 (k0_pay7 (v0) (v12)) (View.ld (w) (Rect.unit ![512, 0] ![512, 1024] inb_S1872x1024_S512x1024_512_0))) (View.ld (gt) (Rect.unit ![576, 0] ![64, 1] inb_S1024x1_S64x1_576_0))) (ix3 z d j)
      = qk (fun x => kt v0 v12 w ⟨256 + j.val, by omega⟩ ⟨512 + (64 + x.val), by omega⟩) (gt (ix2 ⟨576 + d.val, by omega⟩ 0)) d := by
  pointwise [k0_pay58, k0_pay57, k0_pay35, k0_pay7, k0_pay55, kt, qk]

/-- The body's stored value of output 14, piece 13. -/
theorem pay_14_13 (v0 : Vec Ideal S512x1024 .f32) (v12 : Vec Ideal S1x1024 .f32) (w : Vec Ideal S1872x1024 .bf16) (gt : Vec Ideal S1024x1 .f32) (z : Fin 1) (d : Fin 64) (j : Fin 256) :
    k0_pay56 (k0_pay35 (k0_pay7 (v0) (v12)) (View.ld (w) (Rect.unit ![512, 0] ![512, 1024] inb_S1872x1024_S512x1024_512_0))) (View.ld (gt) (Rect.unit ![576, 0] ![64, 1] inb_S1024x1_S64x1_576_0)) (ix3 z d j)
      = qk (fun x => kt v0 v12 w ⟨j.val, by omega⟩ ⟨512 + (64 + x.val), by omega⟩) (gt (ix2 ⟨576 + d.val, by omega⟩ 0)) d := by
  pointwise [k0_pay56, k0_pay35, k0_pay7, k0_pay55, kt, qk]

/-- The body's stored value of output 14, piece 14. -/
theorem pay_14_14 (v0 : Vec Ideal S512x1024 .f32) (v12 : Vec Ideal S1x1024 .f32) (w : Vec Ideal S1872x1024 .bf16) (gt : Vec Ideal S1024x1 .f32) (z : Fin 1) (d : Fin 64) (j : Fin 256) :
    k0_pay45 (k0_pay42 (k0_pay35 (k0_pay7 (v0) (v12)) (View.ld (w) (Rect.unit ![512, 0] ![512, 1024] inb_S1872x1024_S512x1024_512_0))) (View.ld (gt) (Rect.unit ![512, 0] ![64, 1] inb_S1024x1_S64x1_512_0))) (ix3 z d j)
      = qk (fun x => kt v0 v12 w ⟨256 + j.val, by omega⟩ ⟨512 + x.val, by omega⟩) (gt (ix2 ⟨512 + d.val, by omega⟩ 0)) d := by
  pointwise [k0_pay45, k0_pay42, k0_pay35, k0_pay7, kt, qk]

/-- The body's stored value of output 14, piece 15. -/
theorem pay_14_15 (v0 : Vec Ideal S512x1024 .f32) (v12 : Vec Ideal S1x1024 .f32) (w : Vec Ideal S1872x1024 .bf16) (gt : Vec Ideal S1024x1 .f32) (z : Fin 1) (d : Fin 64) (j : Fin 256) :
    k0_pay44 (k0_pay43 (k0_pay35 (k0_pay7 (v0) (v12)) (View.ld (w) (Rect.unit ![512, 0] ![512, 1024] inb_S1872x1024_S512x1024_512_0))) (View.ld (gt) (Rect.unit ![512, 0] ![64, 1] inb_S1024x1_S64x1_512_0))) (ix3 z d j)
      = qk (fun x => kt v0 v12 w ⟨j.val, by omega⟩ ⟨512 + x.val, by omega⟩) (gt (ix2 ⟨512 + d.val, by omega⟩ 0)) d := by
  pointwise [k0_pay44, k0_pay43, k0_pay35, k0_pay7, k0_pay42, kt, qk]

set_option maxHeartbeats 2000000 in
/-- Output 14 is result 119 of the reference. -/
theorem res_14 (c : Dev nD) (V0 : Valuation Cert.Reference3Ideal.τ Cert.Reference3Ideal.sig (Elt Ideal))
    (h0 : V0 (Proc.devRef .tc Cert.Reference3Ideal.main_arg0) = m ((c.tc : Thread nD τ).loc main_arg0))
    (h1 : V0 (Proc.devRef .tc Cert.Reference3Ideal.main_arg1) = m ((c.tc : Thread nD τ).loc main_arg1))
    (h2 : V0 (Proc.devRef .tc Cert.Reference3Ideal.main_arg2) = m ((c.tc : Thread nD τ).loc main_arg2))
    (h5 : V0 (Proc.devRef .tc Cert.Reference3Ideal.main_arg5) = m ((c.tc : Thread nD τ).loc main_arg5)) :
    (dats m 0 c).arrAt 14 cfg0.N = r119 V0 := by
  refine (dats m 0 c).arrAt_eq_of_covers 14 _ (by decide +kernel) fun t hf y => ?_
  obtain ⟨e12, e13, e14, e15, e16, e17, e18⟩ := index_tiles t
  blk_simp
  rw [after0_14]
  unfold outsAt0
  frame_out
  have ht : t.val < 64 := t.isLt
  obtain ⟨z, i, j, rfl⟩ : ∃ (z : Fin 2) (i : Fin 512) (j : Fin 256), y = ix3 z i j := ⟨y 0, y 1, y 2, eq_ix3 (n0 := 2) (n1 := 512) (n2 := 256) y⟩
  have hz : z.val < 2 := z.isLt
  have ey : ((View.whole main_v37_8).slice (win0_14.rect t)).emb (ix3 z i j)
      = (ix3 (⟨t.val * 2 + z.val, by omega⟩ : Fin 128) i j : Cert.Kernel3Ideal.S128x512x256.Idx) := by
    blk_ext [e14]
  rw [ey, p119, h0, h1, h2, h5]
  canon_tiles x u
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = 1 + z'.val := u0
    have g1 : i.val = 448 + d.val := u1
    have g2 : j.val = j'.val := u2
    have hz' : z'.val < 1 := z'.isLt
    have hd : d.val < 64 := d.isLt
    refine (pay_14_0 ..).trans (qk_eq _ _ _ _ _ _ (fun x => ?_) ?_ (Fin.ext (by show d.val = i.val % 64 <;> omega)))
    · exact kt_eq m c t _ _ _ _ _ (by show (t.val * 2 + z.val) / 16 = (t.val * 512 + (256 + j'.val)) / 4096 <;> omega) (by show (t.val * 2 + z.val) % 16 * 256 + j.val = (t.val * 512 + (256 + j'.val)) % 4096 <;> omega) (fun k => (congrArg (fun e : Fin 1872 => V m c main_v18 (ix2 e k)) (Fin.ext (by show 512 + (448 + x.val) = 512 + (i.val / 64 * 64 + x.val) <;> omega))).trans (wt_qb m c k ⟨i.val / 64 * 64 + x.val, by omega⟩))
    · refine (blk_gt m c t _).trans ((congrArg (fun e : Fin 1024 => V m c main_v34 (ix2 e 0)) (Fin.ext (by show 960 + d.val = 512 + (448 + d.val) <;> omega))).trans ((gt_b m c ⟨448 + d.val, by omega⟩).trans ?_))
      exact congrArg (fun e : Fin 64 => (m ((c.tc : Thread nD τ).loc main_arg5) : FVec Ideal S64 .f32) (ix1 e)) (Fin.ext (by show (448 + d.val) % 64 = i.val % 64 <;> omega))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = z'.val := u0
    have g1 : i.val = 448 + d.val := u1
    have g2 : j.val = j'.val := u2
    have hz' : z'.val < 1 := z'.isLt
    have hd : d.val < 64 := d.isLt
    refine (pay_14_1 ..).trans (qk_eq _ _ _ _ _ _ (fun x => ?_) ?_ (Fin.ext (by show d.val = i.val % 64 <;> omega)))
    · exact kt_eq m c t _ _ _ _ _ (by show (t.val * 2 + z.val) / 16 = (t.val * 512 + j'.val) / 4096 <;> omega) (by show (t.val * 2 + z.val) % 16 * 256 + j.val = (t.val * 512 + j'.val) % 4096 <;> omega) (fun k => (congrArg (fun e : Fin 1872 => V m c main_v18 (ix2 e k)) (Fin.ext (by show 512 + (448 + x.val) = 512 + (i.val / 64 * 64 + x.val) <;> omega))).trans (wt_qb m c k ⟨i.val / 64 * 64 + x.val, by omega⟩))
    · refine (blk_gt m c t _).trans ((congrArg (fun e : Fin 1024 => V m c main_v34 (ix2 e 0)) (Fin.ext (by show 960 + d.val = 512 + (448 + d.val) <;> omega))).trans ((gt_b m c ⟨448 + d.val, by omega⟩).trans ?_))
      exact congrArg (fun e : Fin 64 => (m ((c.tc : Thread nD τ).loc main_arg5) : FVec Ideal S64 .f32) (ix1 e)) (Fin.ext (by show (448 + d.val) % 64 = i.val % 64 <;> omega))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = 1 + z'.val := u0
    have g1 : i.val = 384 + d.val := u1
    have g2 : j.val = j'.val := u2
    have hz' : z'.val < 1 := z'.isLt
    have hd : d.val < 64 := d.isLt
    refine (pay_14_2 ..).trans (qk_eq _ _ _ _ _ _ (fun x => ?_) ?_ (Fin.ext (by show d.val = i.val % 64 <;> omega)))
    · exact kt_eq m c t _ _ _ _ _ (by show (t.val * 2 + z.val) / 16 = (t.val * 512 + (256 + j'.val)) / 4096 <;> omega) (by show (t.val * 2 + z.val) % 16 * 256 + j.val = (t.val * 512 + (256 + j'.val)) % 4096 <;> omega) (fun k => (congrArg (fun e : Fin 1872 => V m c main_v18 (ix2 e k)) (Fin.ext (by show 512 + (384 + x.val) = 512 + (i.val / 64 * 64 + x.val) <;> omega))).trans (wt_qb m c k ⟨i.val / 64 * 64 + x.val, by omega⟩))
    · refine (blk_gt m c t _).trans ((congrArg (fun e : Fin 1024 => V m c main_v34 (ix2 e 0)) (Fin.ext (by show 896 + d.val = 512 + (384 + d.val) <;> omega))).trans ((gt_b m c ⟨384 + d.val, by omega⟩).trans ?_))
      exact congrArg (fun e : Fin 64 => (m ((c.tc : Thread nD τ).loc main_arg5) : FVec Ideal S64 .f32) (ix1 e)) (Fin.ext (by show (384 + d.val) % 64 = i.val % 64 <;> omega))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = z'.val := u0
    have g1 : i.val = 384 + d.val := u1
    have g2 : j.val = j'.val := u2
    have hz' : z'.val < 1 := z'.isLt
    have hd : d.val < 64 := d.isLt
    refine (pay_14_3 ..).trans (qk_eq _ _ _ _ _ _ (fun x => ?_) ?_ (Fin.ext (by show d.val = i.val % 64 <;> omega)))
    · exact kt_eq m c t _ _ _ _ _ (by show (t.val * 2 + z.val) / 16 = (t.val * 512 + j'.val) / 4096 <;> omega) (by show (t.val * 2 + z.val) % 16 * 256 + j.val = (t.val * 512 + j'.val) % 4096 <;> omega) (fun k => (congrArg (fun e : Fin 1872 => V m c main_v18 (ix2 e k)) (Fin.ext (by show 512 + (384 + x.val) = 512 + (i.val / 64 * 64 + x.val) <;> omega))).trans (wt_qb m c k ⟨i.val / 64 * 64 + x.val, by omega⟩))
    · refine (blk_gt m c t _).trans ((congrArg (fun e : Fin 1024 => V m c main_v34 (ix2 e 0)) (Fin.ext (by show 896 + d.val = 512 + (384 + d.val) <;> omega))).trans ((gt_b m c ⟨384 + d.val, by omega⟩).trans ?_))
      exact congrArg (fun e : Fin 64 => (m ((c.tc : Thread nD τ).loc main_arg5) : FVec Ideal S64 .f32) (ix1 e)) (Fin.ext (by show (384 + d.val) % 64 = i.val % 64 <;> omega))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = 1 + z'.val := u0
    have g1 : i.val = 320 + d.val := u1
    have g2 : j.val = j'.val := u2
    have hz' : z'.val < 1 := z'.isLt
    have hd : d.val < 64 := d.isLt
    refine (pay_14_4 ..).trans (qk_eq _ _ _ _ _ _ (fun x => ?_) ?_ (Fin.ext (by show d.val = i.val % 64 <;> omega)))
    · exact kt_eq m c t _ _ _ _ _ (by show (t.val * 2 + z.val) / 16 = (t.val * 512 + (256 + j'.val)) / 4096 <;> omega) (by show (t.val * 2 + z.val) % 16 * 256 + j.val = (t.val * 512 + (256 + j'.val)) % 4096 <;> omega) (fun k => (congrArg (fun e : Fin 1872 => V m c main_v18 (ix2 e k)) (Fin.ext (by show 512 + (320 + x.val) = 512 + (i.val / 64 * 64 + x.val) <;> omega))).trans (wt_qb m c k ⟨i.val / 64 * 64 + x.val, by omega⟩))
    · refine (blk_gt m c t _).trans ((congrArg (fun e : Fin 1024 => V m c main_v34 (ix2 e 0)) (Fin.ext (by show 832 + d.val = 512 + (320 + d.val) <;> omega))).trans ((gt_b m c ⟨320 + d.val, by omega⟩).trans ?_))
      exact congrArg (fun e : Fin 64 => (m ((c.tc : Thread nD τ).loc main_arg5) : FVec Ideal S64 .f32) (ix1 e)) (Fin.ext (by show (320 + d.val) % 64 = i.val % 64 <;> omega))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = z'.val := u0
    have g1 : i.val = 320 + d.val := u1
    have g2 : j.val = j'.val := u2
    have hz' : z'.val < 1 := z'.isLt
    have hd : d.val < 64 := d.isLt
    refine (pay_14_5 ..).trans (qk_eq _ _ _ _ _ _ (fun x => ?_) ?_ (Fin.ext (by show d.val = i.val % 64 <;> omega)))
    · exact kt_eq m c t _ _ _ _ _ (by show (t.val * 2 + z.val) / 16 = (t.val * 512 + j'.val) / 4096 <;> omega) (by show (t.val * 2 + z.val) % 16 * 256 + j.val = (t.val * 512 + j'.val) % 4096 <;> omega) (fun k => (congrArg (fun e : Fin 1872 => V m c main_v18 (ix2 e k)) (Fin.ext (by show 512 + (320 + x.val) = 512 + (i.val / 64 * 64 + x.val) <;> omega))).trans (wt_qb m c k ⟨i.val / 64 * 64 + x.val, by omega⟩))
    · refine (blk_gt m c t _).trans ((congrArg (fun e : Fin 1024 => V m c main_v34 (ix2 e 0)) (Fin.ext (by show 832 + d.val = 512 + (320 + d.val) <;> omega))).trans ((gt_b m c ⟨320 + d.val, by omega⟩).trans ?_))
      exact congrArg (fun e : Fin 64 => (m ((c.tc : Thread nD τ).loc main_arg5) : FVec Ideal S64 .f32) (ix1 e)) (Fin.ext (by show (320 + d.val) % 64 = i.val % 64 <;> omega))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = 1 + z'.val := u0
    have g1 : i.val = 256 + d.val := u1
    have g2 : j.val = j'.val := u2
    have hz' : z'.val < 1 := z'.isLt
    have hd : d.val < 64 := d.isLt
    refine (pay_14_6 ..).trans (qk_eq _ _ _ _ _ _ (fun x => ?_) ?_ (Fin.ext (by show d.val = i.val % 64 <;> omega)))
    · exact kt_eq m c t _ _ _ _ _ (by show (t.val * 2 + z.val) / 16 = (t.val * 512 + (256 + j'.val)) / 4096 <;> omega) (by show (t.val * 2 + z.val) % 16 * 256 + j.val = (t.val * 512 + (256 + j'.val)) % 4096 <;> omega) (fun k => (congrArg (fun e : Fin 1872 => V m c main_v18 (ix2 e k)) (Fin.ext (by show 512 + (256 + x.val) = 512 + (i.val / 64 * 64 + x.val) <;> omega))).trans (wt_qb m c k ⟨i.val / 64 * 64 + x.val, by omega⟩))
    · refine (blk_gt m c t _).trans ((congrArg (fun e : Fin 1024 => V m c main_v34 (ix2 e 0)) (Fin.ext (by show 768 + d.val = 512 + (256 + d.val) <;> omega))).trans ((gt_b m c ⟨256 + d.val, by omega⟩).trans ?_))
      exact congrArg (fun e : Fin 64 => (m ((c.tc : Thread nD τ).loc main_arg5) : FVec Ideal S64 .f32) (ix1 e)) (Fin.ext (by show (256 + d.val) % 64 = i.val % 64 <;> omega))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = z'.val := u0
    have g1 : i.val = 256 + d.val := u1
    have g2 : j.val = j'.val := u2
    have hz' : z'.val < 1 := z'.isLt
    have hd : d.val < 64 := d.isLt
    refine (pay_14_7 ..).trans (qk_eq _ _ _ _ _ _ (fun x => ?_) ?_ (Fin.ext (by show d.val = i.val % 64 <;> omega)))
    · exact kt_eq m c t _ _ _ _ _ (by show (t.val * 2 + z.val) / 16 = (t.val * 512 + j'.val) / 4096 <;> omega) (by show (t.val * 2 + z.val) % 16 * 256 + j.val = (t.val * 512 + j'.val) % 4096 <;> omega) (fun k => (congrArg (fun e : Fin 1872 => V m c main_v18 (ix2 e k)) (Fin.ext (by show 512 + (256 + x.val) = 512 + (i.val / 64 * 64 + x.val) <;> omega))).trans (wt_qb m c k ⟨i.val / 64 * 64 + x.val, by omega⟩))
    · refine (blk_gt m c t _).trans ((congrArg (fun e : Fin 1024 => V m c main_v34 (ix2 e 0)) (Fin.ext (by show 768 + d.val = 512 + (256 + d.val) <;> omega))).trans ((gt_b m c ⟨256 + d.val, by omega⟩).trans ?_))
      exact congrArg (fun e : Fin 64 => (m ((c.tc : Thread nD τ).loc main_arg5) : FVec Ideal S64 .f32) (ix1 e)) (Fin.ext (by show (256 + d.val) % 64 = i.val % 64 <;> omega))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = 1 + z'.val := u0
    have g1 : i.val = 192 + d.val := u1
    have g2 : j.val = j'.val := u2
    have hz' : z'.val < 1 := z'.isLt
    have hd : d.val < 64 := d.isLt
    refine (pay_14_8 ..).trans (qk_eq _ _ _ _ _ _ (fun x => ?_) ?_ (Fin.ext (by show d.val = i.val % 64 <;> omega)))
    · exact kt_eq m c t _ _ _ _ _ (by show (t.val * 2 + z.val) / 16 = (t.val * 512 + (256 + j'.val)) / 4096 <;> omega) (by show (t.val * 2 + z.val) % 16 * 256 + j.val = (t.val * 512 + (256 + j'.val)) % 4096 <;> omega) (fun k => (congrArg (fun e : Fin 1872 => V m c main_v18 (ix2 e k)) (Fin.ext (by show 512 + (192 + x.val) = 512 + (i.val / 64 * 64 + x.val) <;> omega))).trans (wt_qb m c k ⟨i.val / 64 * 64 + x.val, by omega⟩))
    · refine (blk_gt m c t _).trans ((congrArg (fun e : Fin 1024 => V m c main_v34 (ix2 e 0)) (Fin.ext (by show 704 + d.val = 512 + (192 + d.val) <;> omega))).trans ((gt_b m c ⟨192 + d.val, by omega⟩).trans ?_))
      exact congrArg (fun e : Fin 64 => (m ((c.tc : Thread nD τ).loc main_arg5) : FVec Ideal S64 .f32) (ix1 e)) (Fin.ext (by show (192 + d.val) % 64 = i.val % 64 <;> omega))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = z'.val := u0
    have g1 : i.val = 192 + d.val := u1
    have g2 : j.val = j'.val := u2
    have hz' : z'.val < 1 := z'.isLt
    have hd : d.val < 64 := d.isLt
    refine (pay_14_9 ..).trans (qk_eq _ _ _ _ _ _ (fun x => ?_) ?_ (Fin.ext (by show d.val = i.val % 64 <;> omega)))
    · exact kt_eq m c t _ _ _ _ _ (by show (t.val * 2 + z.val) / 16 = (t.val * 512 + j'.val) / 4096 <;> omega) (by show (t.val * 2 + z.val) % 16 * 256 + j.val = (t.val * 512 + j'.val) % 4096 <;> omega) (fun k => (congrArg (fun e : Fin 1872 => V m c main_v18 (ix2 e k)) (Fin.ext (by show 512 + (192 + x.val) = 512 + (i.val / 64 * 64 + x.val) <;> omega))).trans (wt_qb m c k ⟨i.val / 64 * 64 + x.val, by omega⟩))
    · refine (blk_gt m c t _).trans ((congrArg (fun e : Fin 1024 => V m c main_v34 (ix2 e 0)) (Fin.ext (by show 704 + d.val = 512 + (192 + d.val) <;> omega))).trans ((gt_b m c ⟨192 + d.val, by omega⟩).trans ?_))
      exact congrArg (fun e : Fin 64 => (m ((c.tc : Thread nD τ).loc main_arg5) : FVec Ideal S64 .f32) (ix1 e)) (Fin.ext (by show (192 + d.val) % 64 = i.val % 64 <;> omega))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = 1 + z'.val := u0
    have g1 : i.val = 128 + d.val := u1
    have g2 : j.val = j'.val := u2
    have hz' : z'.val < 1 := z'.isLt
    have hd : d.val < 64 := d.isLt
    refine (pay_14_10 ..).trans (qk_eq _ _ _ _ _ _ (fun x => ?_) ?_ (Fin.ext (by show d.val = i.val % 64 <;> omega)))
    · exact kt_eq m c t _ _ _ _ _ (by show (t.val * 2 + z.val) / 16 = (t.val * 512 + (256 + j'.val)) / 4096 <;> omega) (by show (t.val * 2 + z.val) % 16 * 256 + j.val = (t.val * 512 + (256 + j'.val)) % 4096 <;> omega) (fun k => (congrArg (fun e : Fin 1872 => V m c main_v18 (ix2 e k)) (Fin.ext (by show 512 + (128 + x.val) = 512 + (i.val / 64 * 64 + x.val) <;> omega))).trans (wt_qb m c k ⟨i.val / 64 * 64 + x.val, by omega⟩))
    · refine (blk_gt m c t _).trans ((congrArg (fun e : Fin 1024 => V m c main_v34 (ix2 e 0)) (Fin.ext (by show 640 + d.val = 512 + (128 + d.val) <;> omega))).trans ((gt_b m c ⟨128 + d.val, by omega⟩).trans ?_))
      exact congrArg (fun e : Fin 64 => (m ((c.tc : Thread nD τ).loc main_arg5) : FVec Ideal S64 .f32) (ix1 e)) (Fin.ext (by show (128 + d.val) % 64 = i.val % 64 <;> omega))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = z'.val := u0
    have g1 : i.val = 128 + d.val := u1
    have g2 : j.val = j'.val := u2
    have hz' : z'.val < 1 := z'.isLt
    have hd : d.val < 64 := d.isLt
    refine (pay_14_11 ..).trans (qk_eq _ _ _ _ _ _ (fun x => ?_) ?_ (Fin.ext (by show d.val = i.val % 64 <;> omega)))
    · exact kt_eq m c t _ _ _ _ _ (by show (t.val * 2 + z.val) / 16 = (t.val * 512 + j'.val) / 4096 <;> omega) (by show (t.val * 2 + z.val) % 16 * 256 + j.val = (t.val * 512 + j'.val) % 4096 <;> omega) (fun k => (congrArg (fun e : Fin 1872 => V m c main_v18 (ix2 e k)) (Fin.ext (by show 512 + (128 + x.val) = 512 + (i.val / 64 * 64 + x.val) <;> omega))).trans (wt_qb m c k ⟨i.val / 64 * 64 + x.val, by omega⟩))
    · refine (blk_gt m c t _).trans ((congrArg (fun e : Fin 1024 => V m c main_v34 (ix2 e 0)) (Fin.ext (by show 640 + d.val = 512 + (128 + d.val) <;> omega))).trans ((gt_b m c ⟨128 + d.val, by omega⟩).trans ?_))
      exact congrArg (fun e : Fin 64 => (m ((c.tc : Thread nD τ).loc main_arg5) : FVec Ideal S64 .f32) (ix1 e)) (Fin.ext (by show (128 + d.val) % 64 = i.val % 64 <;> omega))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = 1 + z'.val := u0
    have g1 : i.val = 64 + d.val := u1
    have g2 : j.val = j'.val := u2
    have hz' : z'.val < 1 := z'.isLt
    have hd : d.val < 64 := d.isLt
    refine (pay_14_12 ..).trans (qk_eq _ _ _ _ _ _ (fun x => ?_) ?_ (Fin.ext (by show d.val = i.val % 64 <;> omega)))
    · exact kt_eq m c t _ _ _ _ _ (by show (t.val * 2 + z.val) / 16 = (t.val * 512 + (256 + j'.val)) / 4096 <;> omega) (by show (t.val * 2 + z.val) % 16 * 256 + j.val = (t.val * 512 + (256 + j'.val)) % 4096 <;> omega) (fun k => (congrArg (fun e : Fin 1872 => V m c main_v18 (ix2 e k)) (Fin.ext (by show 512 + (64 + x.val) = 512 + (i.val / 64 * 64 + x.val) <;> omega))).trans (wt_qb m c k ⟨i.val / 64 * 64 + x.val, by omega⟩))
    · refine (blk_gt m c t _).trans ((congrArg (fun e : Fin 1024 => V m c main_v34 (ix2 e 0)) (Fin.ext (by show 576 + d.val = 512 + (64 + d.val) <;> omega))).trans ((gt_b m c ⟨64 + d.val, by omega⟩).trans ?_))
      exact congrArg (fun e : Fin 64 => (m ((c.tc : Thread nD τ).loc main_arg5) : FVec Ideal S64 .f32) (ix1 e)) (Fin.ext (by show (64 + d.val) % 64 = i.val % 64 <;> omega))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = z'.val := u0
    have g1 : i.val = 64 + d.val := u1
    have g2 : j.val = j'.val := u2
    have hz' : z'.val < 1 := z'.isLt
    have hd : d.val < 64 := d.isLt
    refine (pay_14_13 ..).trans (qk_eq _ _ _ _ _ _ (fun x => ?_) ?_ (Fin.ext (by show d.val = i.val % 64 <;> omega)))
    · exact kt_eq m c t _ _ _ _ _ (by show (t.val * 2 + z.val) / 16 = (t.val * 512 + j'.val) / 4096 <;> omega) (by show (t.val * 2 + z.val) % 16 * 256 + j.val = (t.val * 512 + j'.val) % 4096 <;> omega) (fun k => (congrArg (fun e : Fin 1872 => V m c main_v18 (ix2 e k)) (Fin.ext (by show 512 + (64 + x.val) = 512 + (i.val / 64 * 64 + x.val) <;> omega))).trans (wt_qb m c k ⟨i.val / 64 * 64 + x.val, by omega⟩))
    · refine (blk_gt m c t _).trans ((congrArg (fun e : Fin 1024 => V m c main_v34 (ix2 e 0)) (Fin.ext (by show 576 + d.val = 512 + (64 + d.val) <;> omega))).trans ((gt_b m c ⟨64 + d.val, by omega⟩).trans ?_))
      exact congrArg (fun e : Fin 64 => (m ((c.tc : Thread nD τ).loc main_arg5) : FVec Ideal S64 .f32) (ix1 e)) (Fin.ext (by show (64 + d.val) % 64 = i.val % 64 <;> omega))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = 1 + z'.val := u0
    have g1 : i.val = d.val := u1
    have g2 : j.val = j'.val := u2
    have hz' : z'.val < 1 := z'.isLt
    have hd : d.val < 64 := d.isLt
    refine (pay_14_14 ..).trans (qk_eq _ _ _ _ _ _ (fun x => ?_) ?_ (Fin.ext (by show d.val = i.val % 64 <;> omega)))
    · exact kt_eq m c t _ _ _ _ _ (by show (t.val * 2 + z.val) / 16 = (t.val * 512 + (256 + j'.val)) / 4096 <;> omega) (by show (t.val * 2 + z.val) % 16 * 256 + j.val = (t.val * 512 + (256 + j'.val)) % 4096 <;> omega) (fun k => (congrArg (fun e : Fin 1872 => V m c main_v18 (ix2 e k)) (Fin.ext (by show 512 + x.val = 512 + (i.val / 64 * 64 + x.val) <;> omega))).trans (wt_qb m c k ⟨i.val / 64 * 64 + x.val, by omega⟩))
    · refine (blk_gt m c t _).trans ((congrArg (fun e : Fin 1024 => V m c main_v34 (ix2 e 0)) (Fin.ext (by show 512 + d.val = 512 + d.val <;> omega))).trans ((gt_b m c ⟨d.val, by omega⟩).trans ?_))
      exact congrArg (fun e : Fin 64 => (m ((c.tc : Thread nD τ).loc main_arg5) : FVec Ideal S64 .f32) (ix1 e)) (Fin.ext (by show (d.val) % 64 = i.val % 64 <;> omega))
  · obtain ⟨z', d, j', rfl⟩ : ∃ (z' : Fin 1) (d : Fin 64) (j' : Fin 256), x = ix3 z' d j' := ⟨x 0, x 1, x 2, eq_ix3 (n0 := 1) (n1 := 64) (n2 := 256) x⟩
    have g0 : z.val = z'.val := u0
    have g1 : i.val = d.val := u1
    have g2 : j.val = j'.val := u2
    have hz' : z'.val < 1 := z'.isLt
    have hd : d.val < 64 := d.isLt
    refine (pay_14_15 ..).trans (qk_eq _ _ _ _ _ _ (fun x => ?_) ?_ (Fin.ext (by show d.val = i.val % 64 <;> omega)))
    · exact kt_eq m c t _ _ _ _ _ (by show (t.val * 2 + z.val) / 16 = (t.val * 512 + j'.val) / 4096 <;> omega) (by show (t.val * 2 + z.val) % 16 * 256 + j.val = (t.val * 512 + j'.val) % 4096 <;> omega) (fun k => (congrArg (fun e : Fin 1872 => V m c main_v18 (ix2 e k)) (Fin.ext (by show 512 + x.val = 512 + (i.val / 64 * 64 + x.val) <;> omega))).trans (wt_qb m c k ⟨i.val / 64 * 64 + x.val, by omega⟩))
    · refine (blk_gt m c t _).trans ((congrArg (fun e : Fin 1024 => V m c main_v34 (ix2 e 0)) (Fin.ext (by show 512 + d.val = 512 + d.val <;> omega))).trans ((gt_b m c ⟨d.val, by omega⟩).trans ?_))
      exact congrArg (fun e : Fin 64 => (m ((c.tc : Thread nD τ).loc main_arg5) : FVec Ideal S64 .f32) (ix1 e)) (Fin.ext (by show (d.val) % 64 = i.val % 64 <;> omega))

end Cert.Proof.InProj

end
-- ==== Proof.InKeys.lean ====
/- The keys, normalised, and their means over tiles. -/
module

public import proofs.«01_k».proof.Defs
public import proofs.«01_k».proof.Proof.InQb
public import proofs.«01_k».proof.Proof.Gen.Kernel3Ideal.Value
public import Idealize.ShloMosaic.Lib.Pipeline.ValueKit
public import Idealize.ShloMosaic.Lib.Tactic.CleanTypes
public import Idealize.ShloMosaic.Lib.StableHlo.ReadAt
public import proofs.«01_k».proof.Proof.InBase
public import proofs.«01_k».proof.Proof.InRef
public import proofs.«01_k».proof.Proof.InReal

@[expose] public section

set_option maxRecDepth 16384

noncomputable section

namespace Cert.Proof.InProj

open Idealize.ShloMosaic Idealize.ShloMosaic.TcCoe Idealize.SL.Sem
open Cert.Kernel3Ideal Cert.Kernel3Ideal.Gen

variable (m : (ℓ : Loc nD τ sig) → Buf (Elt Ideal) ℓ)

/-- The body's stored value of output 6, piece 0. -/
theorem pay_6_0 (v0 : Vec Ideal S512x1024 .f32) (v12 : Vec Ideal S1x1024 .f32) (w : Vec Ideal S1024x3968 .bf16) (gn : Vec Ideal S1x640 .f32) (A B : IVec S256x256 32) (r : Fin 512) (q : Fin 256) :
    k0_pay21 (k0_pay18 (k0_pay10 (k0_pay6 (v0) (v12)) (View.ld (w) (Rect.unit ![0, 0] ![1024, 512] inb_S1024x3968_S1024x512_0_0)))) (k0_pay19 (k0_pay9 A B) (k0_pay10 (k0_pay6 (v0) (v12)) (View.ld (w) (Rect.unit ![0, 0] ![1024, 512] inb_S1024x3968_S1024x512_0_0)))) (View.ld (gn) (Rect.unit ![0, 256] ![1, 256] inb_S1x640_S1x256_0_256)) (ix2 r q)
      = kq (fun x : Fin 256 => kp v0 v12 w r ⟨256 + x.val, by omega⟩) (fun x => k0_pay9 (F := Ideal) A B (ix2 x q)) (gn (ix2 0 ⟨256 + q.val, by omega⟩)) q := by
  pointwise [k0_pay21, k0_pay18, k0_pay10, k0_pay6, k0_pay19, k0_pay20, kp, kq]

/-- The body's stored value of output 6, piece 1. -/
theorem pay_6_1 (v0 : Vec Ideal S512x1024 .f32) (v12 : Vec Ideal S1x1024 .f32) (w : Vec Ideal S1024x3968 .bf16) (gn : Vec Ideal S1x640 .f32) (A B : IVec S256x256 32) (r : Fin 512) (q : Fin 256) :
    k0_pay15 (k0_pay11 (k0_pay6 (v0) (v12)) (View.ld (w) (Rect.unit ![0, 0] ![1024, 512] inb_S1024x3968_S1024x512_0_0))) (k0_pay12 (k0_pay6 (v0) (v12)) A B (View.ld (w) (Rect.unit ![0, 0] ![1024, 512] inb_S1024x3968_S1024x512_0_0))) k0_pay13 (View.ld (gn) (Rect.unit ![0, 0] ![1, 256] inb_S1x640_S1x256_0_0)) (ix2 r q)
      = kq (fun x : Fin 256 => kp v0 v12 w r ⟨x.val, by omega⟩) (fun x => k0_pay9 (F := Ideal) A B (ix2 x q)) (gn (ix2 0 ⟨q.val, by omega⟩)) q := by
  pointwise [k0_pay15, k0_pay11, k0_pay6, k0_pay12, k0_pay13, k0_pay14, k0_pay10, kp, kq]

/-- The body's stored value of output 12, piece 0. -/
theorem pay_12_0 (v0 : Vec Ideal S512x1024 .f32) (v12 : Vec Ideal S1x1024 .f32) (w : Vec Ideal S1024x3968 .bf16) (gn : Vec Ideal S1x640 .f32) (A B : IVec S256x256 32) (q : Fin 256) :
    k0_pay23 (k0_pay18 (k0_pay10 (k0_pay6 (v0) (v12)) (View.ld (w) (Rect.unit ![0, 0] ![1024, 512] inb_S1024x3968_S1024x512_0_0)))) (k0_pay19 (k0_pay9 A B) (k0_pay10 (k0_pay6 (v0) (v12)) (View.ld (w) (Rect.unit ![0, 0] ![1024, 512] inb_S1024x3968_S1024x512_0_0)))) (View.ld (gn) (Rect.unit ![0, 256] ![1, 256] inb_S1x640_S1x256_0_256)) (ix3 0 0 q)
      = Ideal.div (∑ j : Fin 256, kq (fun x : Fin 256 => kp v0 v12 w ⟨256 + j.val, by omega⟩ ⟨256 + x.val, by omega⟩) (fun x => k0_pay9 (F := Ideal) A B (ix2 x q)) (gn (ix2 0 ⟨256 + q.val, by omega⟩)) q) (Ideal.ofBits .f32 0x43800000#32) := by
  pointwise [k0_pay23, k0_pay18, k0_pay10, k0_pay6, k0_pay19, k0_pay20, kp, kq]

/-- The body's stored value of output 12, piece 1. -/
theorem pay_12_1 (v0 : Vec Ideal S512x1024 .f32) (v12 : Vec Ideal S1x1024 .f32) (w : Vec Ideal S1024x3968 .bf16) (gn : Vec Ideal S1x640 .f32) (A B : IVec S256x256 32) (q : Fin 256) :
    k0_pay22 (k0_pay18 (k0_pay10 (k0_pay6 (v0) (v12)) (View.ld (w) (Rect.unit ![0, 0] ![1024, 512] inb_S1024x3968_S1024x512_0_0)))) (k0_pay19 (k0_pay9 A B) (k0_pay10 (k0_pay6 (v0) (v12)) (View.ld (w) (Rect.unit ![0, 0] ![1024, 512] inb_S1024x3968_S1024x512_0_0)))) (View.ld (gn) (Rect.unit ![0, 256] ![1, 256] inb_S1x640_S1x256_0_256)) (ix3 0 0 q)
      = Ideal.div (∑ j : Fin 256, kq (fun x : Fin 256 => kp v0 v12 w ⟨j.val, by omega⟩ ⟨256 + x.val, by omega⟩) (fun x => k0_pay9 (F := Ideal) A B (ix2 x q)) (gn (ix2 0 ⟨256 + q.val, by omega⟩)) q) (Ideal.ofBits .f32 0x43800000#32) := by
  pointwise [k0_pay22, k0_pay18, k0_pay10, k0_pay6, k0_pay19, k0_pay20, kp, kq]

/-- The body's stored value of output 12, piece 2. -/
theorem pay_12_2 (v0 : Vec Ideal S512x1024 .f32) (v12 : Vec Ideal S1x1024 .f32) (w : Vec Ideal S1024x3968 .bf16) (gn : Vec Ideal S1x640 .f32) (A B : IVec S256x256 32) (q : Fin 256) :
    k0_pay17 (k0_pay11 (k0_pay6 (v0) (v12)) (View.ld (w) (Rect.unit ![0, 0] ![1024, 512] inb_S1024x3968_S1024x512_0_0))) (k0_pay12 (k0_pay6 (v0) (v12)) A B (View.ld (w) (Rect.unit ![0, 0] ![1024, 512] inb_S1024x3968_S1024x512_0_0))) k0_pay13 (View.ld (gn) (Rect.unit ![0, 0] ![1, 256] inb_S1x640_S1x256_0_0)) (ix3 0 0 q)
      = Ideal.div (∑ j : Fin 256, kq (fun x : Fin 256 => kp v0 v12 w ⟨256 + j.val, by omega⟩ ⟨x.val, by omega⟩) (fun x => k0_pay9 (F := Ideal) A B (ix2 x q)) (gn (ix2 0 ⟨q.val, by omega⟩)) q) (Ideal.ofBits .f32 0x43800000#32) := by
  pointwise [k0_pay17, k0_pay11, k0_pay6, k0_pay12, k0_pay13, k0_pay14, k0_pay10, kp, kq]

/-- The body's stored value of output 12, piece 3. -/
theorem pay_12_3 (v0 : Vec Ideal S512x1024 .f32) (v12 : Vec Ideal S1x1024 .f32) (w : Vec Ideal S1024x3968 .bf16) (gn : Vec Ideal S1x640 .f32) (A B : IVec S256x256 32) (q : Fin 256) :
    k0_pay16 (k0_pay11 (k0_pay6 (v0) (v12)) (View.ld (w) (Rect.unit ![0, 0] ![1024, 512] inb_S1024x3968_S1024x512_0_0))) (k0_pay12 (k0_pay6 (v0) (v12)) A B (View.ld (w) (Rect.unit ![0, 0] ![1024, 512] inb_S1024x3968_S1024x512_0_0))) k0_pay13 (View.ld (gn) (Rect.unit ![0, 0] ![1, 256] inb_S1x640_S1x256_0_0)) (ix3 0 0 q)
      = Ideal.div (∑ j : Fin 256, kq (fun x : Fin 256 => kp v0 v12 w ⟨j.val, by omega⟩ ⟨x.val, by omega⟩) (fun x => k0_pay9 (F := Ideal) A B (ix2 x q)) (gn (ix2 0 ⟨q.val, by omega⟩)) q) (Ideal.ofBits .f32 0x43800000#32) := by
  pointwise [k0_pay16, k0_pay11, k0_pay6, k0_pay12, k0_pay13, k0_pay14, k0_pay10, kp, kq]

/-- The body's stored value of output 7, piece 0. -/
theorem pay_7_0 (v0 : Vec Ideal S512x1024 .f32) (v12 : Vec Ideal S1x1024 .f32) (w : Vec Ideal S1024x3968 .bf16) (r : Fin 512) (q : Fin 256) :
    k0_pay28 (k0_pay6 (v0) (v12)) (View.ld (w) (Rect.unit ![0, 512] ![1024, 384] inb_S1024x3968_S1024x384_0_512)) (ix2 r q)
      = kp v0 v12 w r ⟨640 + q.val, by omega⟩ := by
  pointwise [k0_pay28, k0_pay6, k0_pay26, kp]
  exact Finset.sum_congr rfl fun k _ => congrArg (fun e : Fin 3968 => k0_pay5 v0 v12 (ix2 r k) * w (ix2 k e)) (Fin.ext (by show 512 + (128 + q.val) = 640 + q.val; omega))

/-- The body's stored value of output 7, piece 1. -/
theorem pay_7_1 (v0 : Vec Ideal S512x1024 .f32) (v12 : Vec Ideal S1x1024 .f32) (w : Vec Ideal S1024x3968 .bf16) (gn : Vec Ideal S1x640 .f32) (A B : IVec S256x256 32) (r : Fin 512) (q : Fin 128) :
    k0_pay27 (k0_pay6 (v0) (v12)) (k0_pay9 A B) (View.ld (w) (Rect.unit ![0, 512] ![1024, 384] inb_S1024x3968_S1024x384_0_512)) (View.ld (gn) (Rect.unit ![0, 512] ![1, 128] inb_S1x640_S1x128_0_512)) (ix2 r q)
      = kq (fun x : Fin 128 => kp v0 v12 w r ⟨512 + x.val, by omega⟩) (fun x => k0_pay9 (F := Ideal) A B (ix2 (⟨x.val, by omega⟩ : Fin 256) (⟨q.val, by omega⟩ : Fin 256))) (gn (ix2 0 ⟨512 + q.val, by omega⟩)) q := by
  pointwise [k0_pay27, k0_pay6, k0_pay26, kp, kq]

section Real

/-- A head of the keys in the body is the layer's. -/
theorem ka_eq (c : Dev nD) (t : Fin cfg0.N) (r : Fin 512) (b : Fin 8) (s : Fin 4096)
    (f1 : ∀ i, IsR ((m ((c.tc : Thread nD τ).loc main_arg1) : FVec Ideal S1024 .f32) i))
    (f2 : ∀ i, IsR ((m ((c.tc : Thread nD τ).loc main_arg2) : FVec Ideal S1024x5572 .f32) i))
    (hb : b.val = (t.val * 512 + r.val) / 4096) (hs : s.val = (t.val * 512 + r.val) % 4096) (o : Nat) (ho : o = 0 ∨ o = 256) (q : Fin 256) (g : EReal)
    (hg : g = V m c main_v26 (ix2 0 (⟨o + q.val, by omega⟩ : Fin 640))) (i : Fin 512) (hi : i.val = o + q.val) (d : Fin 64) (hd : d.val = i.val % 64) :
    kq (fun x : Fin 256 => kp (iblk m c 0 t) (iblk m c 1 t) (iblk m c 2 t) r ⟨o + x.val, by omega⟩)
      (fun x => k0_pay9 (F := Ideal) k0_pay8 (iota Kind.tc S256x256 32 [1] iota_S256x256_d1_w32) (ix2 x q)) g q
    = nrm (fun x => prj (m ((c.tc : Thread nD τ).loc main_arg0)) (m ((c.tc : Thread nD τ).loc main_arg1)) (m ((c.tc : Thread nD τ).loc main_arg2)) b s ⟨512 + (i.val / 64 * 64 + x.val), by omega⟩) (m ((c.tc : Thread nD τ).loc main_arg4)) d := by
  have hk : ∀ x : Fin 256, kp (iblk m c 0 t) (iblk m c 1 t) (iblk m c 2 t) r ⟨o + x.val, by omega⟩ = prj (m ((c.tc : Thread nD τ).loc main_arg0)) (m ((c.tc : Thread nD τ).loc main_arg1)) (m ((c.tc : Thread nD τ).loc main_arg2)) b s ⟨512 + (o + x.val), by omega⟩ :=
    fun x => kp_eq m c t r _ b s _ hb hs fun k => wn_ka m c k ⟨o + x.val, by omega⟩
  refine kq_eq _ _ _ _ _ _ _ (fun x => ?_) (fun x => grp_at x q) (by omega) (fun x z hz => ?_) (hg.trans ((gn_a m c ⟨o + q.val, by omega⟩).trans ?_)) (by omega)
  · show IsR (kp (iblk m c 0 t) (iblk m c 1 t) (iblk m c 2 t) r ⟨o + x.val, by omega⟩)
    rw [hk]
    exact prj_real _ _ _ f1 f2 _ _ _
  · exact (hk z).trans (congrArg (fun e : Fin 5572 => prj (m ((c.tc : Thread nD τ).loc main_arg0)) (m ((c.tc : Thread nD τ).loc main_arg1)) (m ((c.tc : Thread nD τ).loc main_arg2)) b s e) (Fin.ext (by show 512 + (o + z.val) = 512 + (i.val / 64 * 64 + x.val); omega)))
  · exact congrArg (fun e : Fin 64 => (m ((c.tc : Thread nD τ).loc main_arg4) : FVec Ideal S64 .f32) (ix1 e)) (Fin.ext (by show (o + q.val) % 64 = d.val; omega))

/-- The second branch's key, of which the body holds two, is the layer's. -/
theorem kb_eq (c : Dev nD) (t : Fin cfg0.N) (r : Fin 512) (b : Fin 8) (s : Fin 4096)
    (f1 : ∀ i, IsR ((m ((c.tc : Thread nD τ).loc main_arg1) : FVec Ideal S1024 .f32) i))
    (f2 : ∀ i, IsR ((m ((c.tc : Thread nD τ).loc main_arg2) : FVec Ideal S1024x5572 .f32) i))
    (hb : b.val = (t.val * 512 + r.val) / 4096) (hs : s.val = (t.val * 512 + r.val) % 4096) (q : Fin 128) (g : EReal)
    (hg : g = V m c main_v26 (ix2 0 (⟨512 + q.val, by omega⟩ : Fin 640))) (d : Fin 64) (hd : d.val = q.val % 64) :
    kq (fun x : Fin 128 => kp (iblk m c 0 t) (iblk m c 1 t) (iblk m c 2 t) r ⟨512 + x.val, by omega⟩)
      (fun x => k0_pay9 (F := Ideal) k0_pay8 (iota Kind.tc S256x256 32 [1] iota_S256x256_d1_w32) (ix2 (⟨x.val, by omega⟩ : Fin 256) (⟨q.val, by omega⟩ : Fin 256))) g q
    = nrm (fun x => prj (m ((c.tc : Thread nD τ).loc main_arg0)) (m ((c.tc : Thread nD τ).loc main_arg1)) (m ((c.tc : Thread nD τ).loc main_arg2)) b s ⟨2560 + x.val, by omega⟩) (m ((c.tc : Thread nD τ).loc main_arg6)) d := by
  have hk : ∀ x : Fin 128, kp (iblk m c 0 t) (iblk m c 1 t) (iblk m c 2 t) r ⟨512 + x.val, by omega⟩ = prj (m ((c.tc : Thread nD τ).loc main_arg0)) (m ((c.tc : Thread nD τ).loc main_arg1)) (m ((c.tc : Thread nD τ).loc main_arg2)) b s ⟨2560 + x.val % 64, by omega⟩ := by
    intro x
    by_cases hx : x.val < 64
    · exact kp_eq m c t r _ b s _ hb hs fun k => (wn_kb0 m c k ⟨x.val, hx⟩).trans (congrArg (fun e : Fin 5572 => (m ((c.tc : Thread nD τ).loc main_arg2) : FVec Ideal S1024x5572 .f32) (ix2 k e)) (Fin.ext (by show 2560 + x.val = 2560 + x.val % 64; omega)))
    · exact kp_eq m c t r _ b s _ hb hs fun k => (congrArg (fun e : Fin 3968 => V m c main_v14 (ix2 k e)) (Fin.ext (by show 512 + x.val = 576 + (x.val - 64); omega))).trans ((wn_kb1 m c k ⟨x.val - 64, by omega⟩).trans (congrArg (fun e : Fin 5572 => (m ((c.tc : Thread nD τ).loc main_arg2) : FVec Ideal S1024x5572 .f32) (ix2 k e)) (Fin.ext (by show 2560 + (x.val - 64) = 2560 + x.val % 64; omega))))
  refine kq_eq _ _ _ _ _ _ _ (fun x => ?_) (fun x => grp_at _ _) (by omega) (fun x z hz => ?_) (hg.trans ((gn_b m c ⟨q.val, by omega⟩).trans ?_)) (by omega)
  · show IsR (kp (iblk m c 0 t) (iblk m c 1 t) (iblk m c 2 t) r ⟨512 + x.val, by omega⟩)
    rw [hk]
    exact prj_real _ _ _ f1 f2 _ _ _
  · exact (hk z).trans (congrArg (fun e : Fin 5572 => prj (m ((c.tc : Thread nD τ).loc main_arg0)) (m ((c.tc : Thread nD τ).loc main_arg1)) (m ((c.tc : Thread nD τ).loc main_arg2)) b s e) (Fin.ext (by show 2560 + z.val % 64 = 2560 + x.val; omega)))
  · exact congrArg (fun e : Fin 64 => (m ((c.tc : Thread nD τ).loc main_arg6) : FVec Ideal S64 .f32) (ix1 e)) (Fin.ext (by show q.val % 64 = d.val; omega))

/-- The third key, of which the body holds four, is the layer's. -/
theorem ki_eq (c : Dev nD) (t : Fin cfg0.N) (r : Fin 512) (b : Fin 8) (s : Fin 4096)
    (hb : b.val = (t.val * 512 + r.val) / 4096) (hs : s.val = (t.val * 512 + r.val) % 4096) (q : Fin 256) (d : Fin 5572) (hd : d.val = 3456 + q.val % 64) :
    kp (iblk m c 0 t) (iblk m c 1 t) (iblk m c 2 t) r ⟨640 + q.val, by omega⟩ = prj (m ((c.tc : Thread nD τ).loc main_arg0)) (m ((c.tc : Thread nD τ).loc main_arg1)) (m ((c.tc : Thread nD τ).loc main_arg2)) b s d := by
  refine kp_eq m c t r _ b s _ hb hs fun k => ?_
  have hc : q.val < 64 ∨ (64 ≤ q.val ∧ q.val < 128) ∨ (128 ≤ q.val ∧ q.val < 192) ∨ 192 ≤ q.val := by omega
  rcases hc with hq | hq | hq | hq
  · exact (congrArg (fun e : Fin 3968 => V m c main_v14 (ix2 k e)) (Fin.ext (by show 640 + q.val = 640 + (q.val - 0); omega))).trans ((wn_ki0 m c k ⟨q.val - 0, by omega⟩).trans (congrArg (fun e : Fin 5572 => (m ((c.tc : Thread nD τ).loc main_arg2) : FVec Ideal S1024x5572 .f32) (ix2 k e)) (Fin.ext (by show 3456 + (q.val - 0) = d.val; omega))))
  · exact (congrArg (fun e : Fin 3968 => V m c main_v14 (ix2 k e)) (Fin.ext (by show 640 + q.val = 704 + (q.val - 64); omega))).trans ((wn_ki1 m c k ⟨q.val - 64, by omega⟩).trans (congrArg (fun e : Fin 5572 => (m ((c.tc : Thread nD τ).loc main_arg2) : FVec Ideal S1024x5572 .f32) (ix2 k e)) (Fin.ext (by show 3456 + (q.val - 64) = d.val; omega))))
  · exact (congrArg (fun e : Fin 3968 => V m c main_v14 (ix2 k e)) (Fin.ext (by show 640 + q.val = 768 + (q.val - 128); omega))).trans ((wn_ki2 m c k ⟨q.val - 128, by omega⟩).trans (congrArg (fun e : Fin 5572 => (m ((c.tc : Thread nD τ).loc main_arg2) : FVec Ideal S1024x5572 .f32) (ix2 k e)) (Fin.ext (by show 3456 + (q.val - 128) = d.val; omega))))
  · exact (congrArg (fun e : Fin 3968 => V m c main_v14 (ix2 k e)) (Fin.ext (by show 640 + q.val = 832 + (q.val - 192); omega))).trans ((wn_ki3 m c k ⟨q.val - 192, by omega⟩).trans (congrArg (fun e : Fin 5572 => (m ((c.tc : Thread nD τ).loc main_arg2) : FVec Ideal S1024x5572 .f32) (ix2 k e)) (Fin.ext (by show 3456 + (q.val - 192) = d.val; omega))))

set_option maxHeartbeats 2000000 in
/-- Output 6 is result 87 of the reference. -/
theorem res_6 (c : Dev nD) (V0 : Valuation Cert.Reference3Ideal.τ Cert.Reference3Ideal.sig (Elt Ideal))
    (h0 : V0 (Proc.devRef .tc Cert.Reference3Ideal.main_arg0) = m ((c.tc : Thread nD τ).loc main_arg0))
    (h1 : V0 (Proc.devRef .tc Cert.Reference3Ideal.main_arg1) = m ((c.tc : Thread nD τ).loc main_arg1))
    (h2 : V0 (Proc.devRef .tc Cert.Reference3Ideal.main_arg2) = m ((c.tc : Thread nD τ).loc main_arg2))
    (h4 : V0 (Proc.devRef .tc Cert.Reference3Ideal.main_arg4) = m ((c.tc : Thread nD τ).loc main_arg4))
    (f1 : ∀ i, IsR ((m ((c.tc : Thread nD τ).loc main_arg1) : FVec Ideal S1024 .f32) i))
    (f2 : ∀ i, IsR ((m ((c.tc : Thread nD τ).loc main_arg2) : FVec Ideal S1024x5572 .f32) i)) :
    (dats m 0 c).arrAt 6 cfg0.N = r87 V0 := by
  refine (dats m 0 c).arrAt_eq_of_covers 6 _ (by decide +kernel) fun t hf y => ?_
  obtain ⟨e6, e7, e8, e9, e10, e11⟩ := index_rows t
  blk_simp
  rw [after0_6]
  unfold outsAt0
  frame_out
  have ht : t.val < 64 := t.isLt
  obtain ⟨r, i, rfl⟩ : ∃ (r : Fin 512) (i : Fin 512), y = ix2 r i := ⟨y 0, y 1, eq_ix2 (n0 := 512) (n1 := 512) y⟩
  have hr : r.val < 512 := r.isLt
  have ey : ((View.whole main_v37_0).slice (win0_6.rect t)).emb (ix2 r i)
      = (ix2 (⟨t.val * 512 + r.val, by omega⟩ : Fin 32768) i : S32768x512.Idx) := by
    blk_ext [e6]
  rw [ey, p87, h0, h1, h2, h4]
  canon_tiles x u
  · obtain ⟨r', q, rfl⟩ : ∃ (r' : Fin 512) (q : Fin 256), x = ix2 r' q := ⟨x 0, x 1, eq_ix2 (n0 := 512) (n1 := 256) x⟩
    have g0 : r.val = r'.val := u0
    have g1 : i.val = 256 + q.val := u1
    refine (pay_6_0 ..).trans ?_
    have ka := ka_eq m c t r' ⟨(t.val * 512 + r.val) / 4096, by omega⟩ ⟨(t.val * 512 + r.val) % 4096, by omega⟩ f1 f2 (by show _ / 4096 = _; rw [g0]) (by show _ % 4096 = _; rw [g0]) 256 (by omega) q _ rfl i (by omega) ⟨i.val % 64, by omega⟩ rfl
    rw [← ka, blk_gn m c t]
  · obtain ⟨r', q, rfl⟩ : ∃ (r' : Fin 512) (q : Fin 256), x = ix2 r' q := ⟨x 0, x 1, eq_ix2 (n0 := 512) (n1 := 256) x⟩
    have g0 : r.val = r'.val := u0
    have g1 : i.val = q.val := u1
    refine (pay_6_1 ..).trans ?_
    have ka := ka_eq m c t r' ⟨(t.val * 512 + r.val) / 4096, by omega⟩ ⟨(t.val * 512 + r.val) % 4096, by omega⟩ f1 f2 (by show _ / 4096 = _; rw [g0]) (by show _ % 4096 = _; rw [g0]) 0 (by omega) q _ rfl i (by omega) ⟨i.val % 64, by omega⟩ rfl
    simp only [zero_add] at ka
    rw [← ka, blk_gn m c t]

set_option maxHeartbeats 2000000 in
/-- Output 7 is result 90 of the reference. -/
theorem res_7 (c : Dev nD) (V0 : Valuation Cert.Reference3Ideal.τ Cert.Reference3Ideal.sig (Elt Ideal))
    (h0 : V0 (Proc.devRef .tc Cert.Reference3Ideal.main_arg0) = m ((c.tc : Thread nD τ).loc main_arg0))
    (h1 : V0 (Proc.devRef .tc Cert.Reference3Ideal.main_arg1) = m ((c.tc : Thread nD τ).loc main_arg1))
    (h2 : V0 (Proc.devRef .tc Cert.Reference3Ideal.main_arg2) = m ((c.tc : Thread nD τ).loc main_arg2))
    (h6 : V0 (Proc.devRef .tc Cert.Reference3Ideal.main_arg6) = m ((c.tc : Thread nD τ).loc main_arg6))
    (f1 : ∀ i, IsR ((m ((c.tc : Thread nD τ).loc main_arg1) : FVec Ideal S1024 .f32) i))
    (f2 : ∀ i, IsR ((m ((c.tc : Thread nD τ).loc main_arg2) : FVec Ideal S1024x5572 .f32) i)) :
    (dats m 0 c).arrAt 7 cfg0.N = r90 V0 := by
  refine (dats m 0 c).arrAt_eq_of_covers 7 _ (by decide +kernel) fun t hf y => ?_
  obtain ⟨e6, e7, e8, e9, e10, e11⟩ := index_rows t
  blk_simp
  rw [after0_7]
  unfold outsAt0
  frame_out
  have ht : t.val < 64 := t.isLt
  obtain ⟨r, i, rfl⟩ : ∃ (r : Fin 512) (i : Fin 384), y = ix2 r i := ⟨y 0, y 1, eq_ix2 (n0 := 512) (n1 := 384) y⟩
  have hr : r.val < 512 := r.isLt
  have ey : ((View.whole main_v37_1).slice (win0_7.rect t)).emb (ix2 r i)
      = (ix2 (⟨t.val * 512 + r.val, by omega⟩ : Fin 32768) i : S32768x384.Idx) := by
    blk_ext [e7]
  rw [ey, p90, h0, h1, h2, h6]
  canon_tiles x u using View.cover_of_tiledBy _ ![512, 128] (by sl_kernel_rfl) _
  · obtain ⟨r', q, rfl⟩ : ∃ (r' : Fin 512) (q : Fin 256), x = ix2 r' q := ⟨x 0, x 1, eq_ix2 (n0 := 512) (n1 := 256) x⟩
    have g0 : r.val = r'.val := u0
    have g1 : i.val = 128 + q.val := u1
    rw [if_neg (show ¬ (i.val < 128) by omega)]
    exact (pay_7_0 ..).trans (ki_eq m c t r' _ _ (by show (t.val * 512 + r.val) / 4096 = _; rw [g0]) (by show (t.val * 512 + r.val) % 4096 = _; rw [g0]) q _ (by show 3456 + i.val % 64 = _; omega))
  · obtain ⟨r', q, rfl⟩ : ∃ (r' : Fin 512) (q : Fin 128), x = ix2 r' q := ⟨x 0, x 1, eq_ix2 (n0 := 512) (n1 := 128) x⟩
    have g0 : r.val = r'.val := u0
    have g1 : i.val = q.val := u1
    rw [if_pos (show i.val < 128 by omega)]
    exact (pay_7_1 ..).trans (kb_eq m c t r' _ _ f1 f2 (by show (t.val * 512 + r.val) / 4096 = _; rw [g0]) (by show (t.val * 512 + r.val) % 4096 = _; rw [g0]) q _ (blk_gn m c t _) _ (by show i.val % 64 = _; rw [g1]))

set_option maxHeartbeats 2000000 in
/-- Output 12 is result 109 of the reference. -/
theorem res_12 (c : Dev nD) (V0 : Valuation Cert.Reference3Ideal.τ Cert.Reference3Ideal.sig (Elt Ideal))
    (h0 : V0 (Proc.devRef .tc Cert.Reference3Ideal.main_arg0) = m ((c.tc : Thread nD τ).loc main_arg0))
    (h1 : V0 (Proc.devRef .tc Cert.Reference3Ideal.main_arg1) = m ((c.tc : Thread nD τ).loc main_arg1))
    (h2 : V0 (Proc.devRef .tc Cert.Reference3Ideal.main_arg2) = m ((c.tc : Thread nD τ).loc main_arg2))
    (h4 : V0 (Proc.devRef .tc Cert.Reference3Ideal.main_arg4) = m ((c.tc : Thread nD τ).loc main_arg4))
    (f1 : ∀ i, IsR ((m ((c.tc : Thread nD τ).loc main_arg1) : FVec Ideal S1024 .f32) i))
    (f2 : ∀ i, IsR ((m ((c.tc : Thread nD τ).loc main_arg2) : FVec Ideal S1024x5572 .f32) i)) :
    (dats m 0 c).arrAt 12 cfg0.N = r109 V0 := by
  refine (dats m 0 c).arrAt_eq_of_covers 12 _ (by decide +kernel) fun t hf y => ?_
  obtain ⟨e12, e13, e14, e15, e16, e17, e18⟩ := index_tiles t
  blk_simp
  rw [after0_12]
  unfold outsAt0
  frame_out
  have ht : t.val < 64 := t.isLt
  obtain ⟨z, p, i, rfl⟩ : ∃ (z : Fin 2) (p : Fin 1) (i : Fin 512), y = ix3 z p i := ⟨y 0, y 1, y 2, eq_ix3 (n0 := 2) (n1 := 1) (n2 := 512) y⟩
  obtain rfl : p = 0 := Subsingleton.elim _ _
  have hz : z.val < 2 := z.isLt
  have ey : ((View.whole main_v37_6).slice (win0_12.rect t)).emb (ix3 z 0 i)
      = (ix3 (⟨t.val * 2 + z.val, by omega⟩ : Fin 128) 0 i : S128x1x512.Idx) := by
    blk_ext [e12]
  rw [ey, p109, h0, h1, h2, h4]
  canon_tiles x u
  · obtain ⟨z', p, q, rfl⟩ : ∃ (z' : Fin 1) (p : Fin 1) (q : Fin 256), x = ix3 z' p q := ⟨x 0, x 1, x 2, eq_ix3 (n0 := 1) (n1 := 1) (n2 := 256) x⟩
    obtain rfl : z' = 0 := Subsingleton.elim _ _
    obtain rfl : p = 0 := Subsingleton.elim _ _
    have g0 : z.val = 1 := u0
    have g2 : i.val = 256 + q.val := u2
    refine (pay_12_0 ..).trans (congrArg (fun S => Ideal.div S _) (Finset.sum_congr rfl fun j _ => ?_))
    have hj : j.val < 256 := j.isLt
    have ka := ka_eq m c t ⟨256 + j.val, by omega⟩ ⟨(t.val * 2 + z.val) / 16, by omega⟩ ⟨(t.val * 2 + z.val) % 16 * 256 + j.val, by omega⟩ f1 f2 (by show (t.val * 2 + z.val) / 16 = (t.val * 512 + (256 + j.val)) / 4096; omega) (by show (t.val * 2 + z.val) % 16 * 256 + j.val = (t.val * 512 + (256 + j.val)) % 4096; omega) 256 (by omega) q _ rfl i (by omega) ⟨i.val % 64, by omega⟩ rfl
    rw [← ka, blk_gn m c t]
  · obtain ⟨z', p, q, rfl⟩ : ∃ (z' : Fin 1) (p : Fin 1) (q : Fin 256), x = ix3 z' p q := ⟨x 0, x 1, x 2, eq_ix3 (n0 := 1) (n1 := 1) (n2 := 256) x⟩
    obtain rfl : z' = 0 := Subsingleton.elim _ _
    obtain rfl : p = 0 := Subsingleton.elim _ _
    have g0 : z.val = 0 := u0
    have g2 : i.val = 256 + q.val := u2
    refine (pay_12_1 ..).trans (congrArg (fun S => Ideal.div S _) (Finset.sum_congr rfl fun j _ => ?_))
    have hj : j.val < 256 := j.isLt
    have ka := ka_eq m c t ⟨j.val, by omega⟩ ⟨(t.val * 2 + z.val) / 16, by omega⟩ ⟨(t.val * 2 + z.val) % 16 * 256 + j.val, by omega⟩ f1 f2 (by show (t.val * 2 + z.val) / 16 = (t.val * 512 + (j.val)) / 4096; omega) (by show (t.val * 2 + z.val) % 16 * 256 + j.val = (t.val * 512 + (j.val)) % 4096; omega) 256 (by omega) q _ rfl i (by omega) ⟨i.val % 64, by omega⟩ rfl
    rw [← ka, blk_gn m c t]
  · obtain ⟨z', p, q, rfl⟩ : ∃ (z' : Fin 1) (p : Fin 1) (q : Fin 256), x = ix3 z' p q := ⟨x 0, x 1, x 2, eq_ix3 (n0 := 1) (n1 := 1) (n2 := 256) x⟩
    obtain rfl : z' = 0 := Subsingleton.elim _ _
    obtain rfl : p = 0 := Subsingleton.elim _ _
    have g0 : z.val = 1 := u0
    have g2 : i.val = q.val := u2
    refine (pay_12_2 ..).trans (congrArg (fun S => Ideal.div S _) (Finset.sum_congr rfl fun j _ => ?_))
    have hj : j.val < 256 := j.isLt
    have ka := ka_eq m c t ⟨256 + j.val, by omega⟩ ⟨(t.val * 2 + z.val) / 16, by omega⟩ ⟨(t.val * 2 + z.val) % 16 * 256 + j.val, by omega⟩ f1 f2 (by show (t.val * 2 + z.val) / 16 = (t.val * 512 + (256 + j.val)) / 4096; omega) (by show (t.val * 2 + z.val) % 16 * 256 + j.val = (t.val * 512 + (256 + j.val)) % 4096; omega) 0 (by omega) q _ rfl i (by omega) ⟨i.val % 64, by omega⟩ rfl
    simp only [zero_add] at ka
    rw [← ka, blk_gn m c t]
  · obtain ⟨z', p, q, rfl⟩ : ∃ (z' : Fin 1) (p : Fin 1) (q : Fin 256), x = ix3 z' p q := ⟨x 0, x 1, x 2, eq_ix3 (n0 := 1) (n1 := 1) (n2 := 256) x⟩
    obtain rfl : z' = 0 := Subsingleton.elim _ _
    obtain rfl : p = 0 := Subsingleton.elim _ _
    have g0 : z.val = 0 := u0
    have g2 : i.val = q.val := u2
    refine (pay_12_3 ..).trans (congrArg (fun S => Ideal.div S _) (Finset.sum_congr rfl fun j _ => ?_))
    have hj : j.val < 256 := j.isLt
    have ka := ka_eq m c t ⟨j.val, by omega⟩ ⟨(t.val * 2 + z.val) / 16, by omega⟩ ⟨(t.val * 2 + z.val) % 16 * 256 + j.val, by omega⟩ f1 f2 (by show (t.val * 2 + z.val) / 16 = (t.val * 512 + (j.val)) / 4096; omega) (by show (t.val * 2 + z.val) % 16 * 256 + j.val = (t.val * 512 + (j.val)) % 4096; omega) 0 (by omega) q _ rfl i (by omega) ⟨i.val % 64, by omega⟩ rfl
    simp only [zero_add] at ka
    rw [← ka, blk_gn m c t]

end Real

end Cert.Proof.InProj

end
-- ==== Proof.InPre.lean ====
/- What the precondition gives: the input, its gain and the weights are real. -/
module

public import proofs.«01_k».proof.Defs
public import proofs.«01_k».proof.Proof.InKeys
public import proofs.«01_k».proof.Proof.Gen.Kernel3Ideal.Value
public import Idealize.ShloMosaic.Lib.Pipeline.ValueKit
public import Idealize.ShloMosaic.Lib.Tactic.CleanTypes
public import Idealize.ShloMosaic.Lib.StableHlo.ReadAt
public import proofs.«01_k».proof.Proof.InReal

@[expose] public section

set_option maxRecDepth 16384

noncomputable section

namespace Cert.Proof.InProj

open Idealize.ShloMosaic Idealize.ShloMosaic.TcCoe Idealize.SL.Sem

/-- The facts that the precondition's operations take. -/
theorem pre_facts : Cert.Pre_finite3.Facts where
  h_S_ := by decide
  bcast_S_S1024 := by decide
  reducesTo_S1024_S_d0 := by decide
  bcast_S_S1024x5572 := by decide
  reducesTo_S1024x5572_S_d0_1 := by decide

theorem andi_one (a b : BitVec 1) : IntOp.andi a b = 1#1 ↔ a = 1#1 ∧ b = 1#1 := by
  revert a b
  decide

/-- Bits folded by "and" to a one are all ones. -/
theorem foldl_one {ι : Type} (x : ι → BitVec 1) (l : List ι) (r : BitVec 1) (e : l.foldl (fun r i => IntOp.andi r (x i)) r = 1#1) :
    r = 1#1 ∧ ∀ i ∈ l, x i = 1#1 := by
  induction l generalizing r with
  | nil => exact ⟨e, fun _ hi => absurd hi List.not_mem_nil⟩
  | cons a l ih =>
    obtain ⟨h1, h2⟩ := ih _ e
    obtain ⟨h3, h4⟩ := (andi_one _ _).1 h1
    refine ⟨h3, fun i hi => ?_⟩
    rcases List.mem_cons.1 hi with rfl | hi
    · exact h4
    · exact h2 i hi

/-- An array of bits reduced by "and" to a single one holds ones only. -/
theorem all_one {s : Shape} {axes : List (Fin s.rank)} {u t : Shape} (x : s.Idx → BitVec 1) (init : u.Idx → BitVec 1)
    (hr : s.ReducesTo axes t) (hu : 0 < u.numel) (j : t.Idx) (ht : Subsingleton t.Idx)
    (e : Host.reduce IntOp.andi x init hr hu j = 1#1) (i : s.Idx) : x i = 1#1 := by
  rw [Host.reduce_eq_foldl] at e
  refine (foldl_one x _ _ e).2 i (List.mem_filter.2 ⟨List.mem_map.2 ⟨s.rowMajor i, List.mem_finRange _, s.rowMajor.symm_apply_apply i⟩, ?_⟩)
  exact decide_eq_true (Subsingleton.elim _ _)

/-- The word of the comparison's right side stands for infinity. -/
theorem inf_top : Ideal.ofBits .f32 0x7F800000#32 = ⊤ := by
  simp [Ideal.ofBits, Ideal.ieee]

/-- A number below infinity in absolute value is real. -/
theorem real_of_lt {s : Shape} (x : FVec Ideal s .f32) (hb : Cert.Pre_finite3.S_.BroadcastsInDim s (![] : Fin 0 → Fin s.rank)) (i : s.Idx)
    (e : cmpf .olt (Host.absf x) (broadcastInDim s ![] hb (constant Cert.Pre_finite3.S_ .f32 0x7F800000#32)) i = 1#1) : IsR (x i) := by
  pointwise at e
  rw [inf_top] at e
  have hlt : FloatOps.absf (x i) < (⊤ : EReal) := by
    by_contra hn
    rw [decide_eq_false hn] at e
    exact absurd e (by decide)
  generalize x i = z at hlt
  change max z (-z) < ⊤ at hlt
  obtain ⟨h1, h2⟩ := max_lt_iff.1 hlt
  induction z using EReal.rec with
  | bot => exact absurd h2 (by simp)
  | coe r => exact ⟨r, rfl⟩
  | top => exact absurd h1 (lt_irrefl _)

/-- The precondition over any arrays. -/
theorem real_of_fn [Cert.Pre_finite3.Facts] (x : FVec Ideal Cert.Pre_finite3.S8x4096x1024 .f32) (g : FVec Ideal Cert.Pre_finite3.S1024 .f32) (w : FVec Ideal Cert.Pre_finite3.S1024x5572 .f32)
    (a b c d : FVec Ideal Cert.Pre_finite3.S64 .f32) (e : Cert.Pre_finite3.fn (F := Ideal) x g w a b c d = fun _ => 1#1) :
    (∀ i, IsR (g i)) ∧ ∀ i, IsR (w i) := by
  have ht : Subsingleton Cert.Pre_finite3.S_.Idx := ⟨fun p q => funext fun a => a.elim0⟩
  have e0 := congrFun e (fun a => a.elim0)
  obtain ⟨e1, e2⟩ := (andi_one _ _).1 e0
  exact ⟨fun i => real_of_lt g _ i (all_one _ _ _ _ _ ht e1 i), fun i => real_of_lt w _ i (all_one _ _ _ _ _ ht e2 i)⟩

end Cert.Proof.InProj

end
-- ==== Proof.InProj.lean ====
/- The input projection: its frames and the equality of its thirteen results with the reference's. -/
module

public import proofs.«01_k».proof.Defs
public import proofs.«01_k».proof.Proof.Gen.Kernel3Ideal.Value
public import Idealize.ShloMosaic.Lib.Pipeline.ValueKit
public import Idealize.ShloMosaic.Lib.Tactic.CleanTypes
public import Idealize.ShloMosaic.Lib.StableHlo.ReadAt
public import proofs.«01_k».proof.Proof.InRows
public import proofs.«01_k».proof.Proof.InTail
public import proofs.«01_k».proof.Proof.InV
public import proofs.«01_k».proof.Proof.InQa
public import proofs.«01_k».proof.Proof.InQb
public import proofs.«01_k».proof.Proof.InKeys
public import proofs.«01_k».proof.Proof.InPre
public import proofs.«01_k».proof.Proof.Gen.Kernel3.Frame
public import Idealize.ShloMosaic.Lib.Quiescent

@[expose] public section

set_option maxRecDepth 16384

noncomputable section

namespace Cert.Proof.InProj

open Idealize.ShloMosaic Idealize.ShloMosaic.TcCoe Idealize.SL.Sem
open Cert.Kernel3Ideal Cert.Kernel3Ideal.Gen

variable (m : (ℓ : Loc nD τ sig) → Buf (Elt Ideal) ℓ)

/-- The kernel as printed ends with its arguments unchanged and every counter at zero. -/
theorem frame_printed : Cert.quiescent_Kernel3 := fun m ρ _ => Cert.Kernel3.Gen.frame m ρ

/-- So does the kernel over the extended reals. -/
theorem frame_ideal : Cert.quiescent_Kernel3Ideal := fun m ρ _ => Cert.Kernel3Ideal.Gen.frame m ρ

/-- And under the precondition. -/
theorem frame_ideal_finite : Cert.quiescent_Kernel3Ideal_pre_finite3 (hPre_finite3 := pre_facts) := fun m ρ _ => Cert.Kernel3Ideal.Gen.frame m ρ

/-- So does the reference. -/
theorem frame_reference : Cert.quiescent_Reference3Ideal := fun m ρ _ =>
  (θ_run Cert.Reference3Ideal.defs _ _).mono
    (fun r h => ⟨fun c => (h c).2.2.2.2.2.2.2.2.2.2.2.2.2, Idealize.ShloMosaic.sem_eq_zero_of_no_sems (by decide) r.2⟩)
    (Cert.Reference3Ideal.Value.run (F := Ideal) m ρ)

/-- And under the precondition. -/
theorem frame_reference_finite : Cert.quiescent_Reference3Ideal_pre_finite3 (hPre_finite3 := pre_facts) := fun m ρ _ =>
  frame_reference m ρ trivial

set_option maxHeartbeats 4000000 in
/-- From equal arguments, the gain of the norm and the weights real, kernel and reference leave equal results. -/
theorem algebraic : Cert.algebraic_Kernel3Ideal_Reference3Ideal_pre_finite3 (hPre_finite3 := pre_facts) := by
  intro m ρ m' ρ' hpre hagree
  refine ⟨_, _, _, _, _, _, _, _, _, _, _, _, _, Cert.Kernel3Ideal.Value.run_blocks (F := Ideal) m ρ, ?_⟩
  refine (θ_run Cert.Reference3Ideal.defs _ _).mono (fun _ h c => ?_) (Cert.Reference3Ideal.Value.run (F := Ideal) m' ρ')
  obtain ⟨h0, h1, h2, h3, h4, h5, h6⟩ := hagree c
  obtain ⟨f1, f2⟩ := @real_of_fn pre_facts _ _ _ _ _ _ _ (hpre c)
  obtain ⟨k87, k90, k92, k94, k101, k108, k109, k114, k119, k125, k130, k136, k142, hk⟩ := h c
  exact ⟨k87.trans (res_6 m c (StableHlo.launchContents m' c) h0 h1 h2 h4 f1 f2).symm,
    k90.trans (res_7 m c (StableHlo.launchContents m' c) h0 h1 h2 h6 f1 f2).symm,
    k92.trans (res_8 m c (StableHlo.launchContents m' c) h0 h1 h2).symm,
    k94.trans (res_9 m c (StableHlo.launchContents m' c) h0 h1 h2).symm,
    k101.trans (res_10 m c (StableHlo.launchContents m' c) h0 h1 h2).symm,
    k108.trans (res_11 m c (StableHlo.launchContents m' c) h0 h1 h2).symm,
    k109.trans (res_12 m c (StableHlo.launchContents m' c) h0 h1 h2 h4 f1 f2).symm,
    k114.trans (res_13 m c (StableHlo.launchContents m' c) h0 h1 h2 h3).symm,
    k119.trans (res_14 m c (StableHlo.launchContents m' c) h0 h1 h2 h5).symm,
    k125.trans (res_15 m c (StableHlo.launchContents m' c) h0 h1 h2).symm,
    k130.trans (res_16 m c (StableHlo.launchContents m' c) h0 h1 h2).symm,
    k136.trans (res_17 m c (StableHlo.launchContents m' c) h0 h1 h2).symm,
    k142.trans (res_18 m c (StableHlo.launchContents m' c) h0 h1 h2).symm, hk⟩

end Cert.Proof.InProj

end
-- ==== Proof.lean ====
/- The certificate: the attention's frame, and the two projections' frames and their values over the extended reals. -/
module

public import proofs.«01_k».proof.Defs
public import proofs.«01_k».proof.Proof.Gen.Kernel
public import proofs.«01_k».proof.Proof.Gen.Kernel.Frame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.AttnFrame
public import proofs.«01_k».proof.Proof.OutProj
public import proofs.«01_k».proof.Proof.InProj
public import Idealize.ShloMosaic.Adequacy
public import Idealize.ShloMosaic.Init

@[expose] public section

noncomputable section

namespace Cert.Proof

open Idealize.ShloMosaic Idealize.SL.Sem

/-- Every claim: the programs' stated facts, the frames, the printed projections' readings kept, and the values of both. -/
theorem claim : Cert.Claim :=
  ⟨Cert.Kernel.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, InProj.pre_facts,
    AttnFrame.frame_printed, OutProj.frame_printed, OutProj.frame_ideal, OutProj.frame_reference,
    InProj.frame_printed, InProj.frame_ideal, InProj.frame_ideal_finite, InProj.frame_reference,
    InProj.frame_reference_finite, trivial, OutProj.algebraic, trivial, InProj.algebraic⟩

end Cert.Proof

end
